-- ==== Defs.lean ====
def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleIdeal_finite [hPre_finite : Cert.Pre_finite.Facts] (m : (ℓ : Loc Cert.PleIdeal.nD Cert.PleIdeal.τ Cert.PleIdeal.sig) → Buf (Elt Ideal) ℓ) : Prop :=
  ∀ c : Dev Cert.PleIdeal.nD,
    (Cert.Pre_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).1 = (fun _ => 1#1)
    ∧ (Cert.Pre_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).2.1 = (fun _ => 1#1)
    ∧ (Cert.Pre_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).2.2.1 = (fun _ => 1#1)
    ∧ (Cert.Pre_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).2.2.2.1 = (fun _ => 1#1)
    ∧ (Cert.Pre_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).2.2.2.2.1 = (fun _ => 1#1)
    ∧ (Cert.Pre_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).2.2.2.2.2.1 = (fun _ => 1#1)
    ∧ (Cert.Pre_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).2.2.2.2.2.2 = (fun _ => 1#1)

def Pre_PleRefIdeal (m : (ℓ : Loc Cert.PleRefIdeal.nD Cert.PleRefIdeal.τ Cert.PleRefIdeal.sig) → Buf (Elt Ideal) ℓ) : Prop :=
  True

def Pre_PleRefIdeal_finite [hPre_finite : Cert.Pre_finite.Facts] (m : (ℓ : Loc Cert.PleRefIdeal.nD Cert.PleRefIdeal.τ Cert.PleRefIdeal.sig) → Buf (Elt Ideal) ℓ) : Prop :=
  ∀ c : Dev Cert.PleRefIdeal.nD,
    (Cert.Pre_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6))).1 = (fun _ => 1#1)
    ∧ (Cert.Pre_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6))).2.1 = (fun _ => 1#1)
    ∧ (Cert.Pre_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6))).2.2.1 = (fun _ => 1#1)
    ∧ (Cert.Pre_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6))).2.2.2.1 = (fun _ => 1#1)
    ∧ (Cert.Pre_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6))).2.2.2.2.1 = (fun _ => 1#1)
    ∧ (Cert.Pre_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6))).2.2.2.2.2.1 = (fun _ => 1#1)
    ∧ (Cert.Pre_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6))).2.2.2.2.2.2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_finite_mlp [hPre_finite_mlp : Cert.Pre_finite_mlp.Facts] (m : (ℓ : Loc Cert.MlpIdeal.nD Cert.MlpIdeal.τ Cert.MlpIdeal.sig) → Buf (Elt Ideal) ℓ) : Prop :=
  ∀ c : Dev Cert.MlpIdeal.nD,
    (Cert.Pre_finite_mlp.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4))).1 = (fun _ => 1#1)
    ∧ (Cert.Pre_finite_mlp.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4))).2.1 = (fun _ => 1#1)
    ∧ (Cert.Pre_finite_mlp.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4))).2.2.1 = (fun _ => 1#1)
    ∧ (Cert.Pre_finite_mlp.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4))).2.2.2.1 = (fun _ => 1#1)
    ∧ (Cert.Pre_finite_mlp.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4))).2.2.2.2 = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_finite_mlp [hPre_finite_mlp : Cert.Pre_finite_mlp.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4))).1 = (fun _ => 1#1)
    ∧ (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4))).2.1 = (fun _ => 1#1)
    ∧ (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4))).2.2.1 = (fun _ => 1#1)
    ∧ (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4))).2.2.2.1 = (fun _ => 1#1)
    ∧ (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4))).2.2.2.2 = (fun _ => 1#1)

def Pre_Wdown (m : (ℓ : Loc Cert.Wdown.nD Cert.Wdown.τ Cert.Wdown.sig) → Buf (Elt Bits) ℓ) : Prop :=
  True

def Pre_WdownIdeal (m : (ℓ : Loc Cert.WdownIdeal.nD Cert.WdownIdeal.τ Cert.WdownIdeal.sig) → Buf (Elt Ideal) ℓ) : Prop :=
  True

def Pre_WdownRefIdeal (m : (ℓ : Loc Cert.WdownRefIdeal.nD Cert.WdownRefIdeal.τ Cert.WdownRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpIdeal_finite_inp [hPre_finite_inp : Cert.Pre_finite_inp.Facts] (m : (ℓ : Loc Cert.InpIdeal.nD Cert.InpIdeal.τ Cert.InpIdeal.sig) → Buf (Elt Ideal) ℓ) : Prop :=
  ∀ c : Dev Cert.InpIdeal.nD,
    (Cert.Pre_finite_inp.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)) (m ((c.tc : Thread Cert.InpIdeal.nD Cert.InpIdeal.τ).loc Cert.InpIdeal.main_arg4)) (m ((c.tc : Thread Cert.InpIdeal.nD Cert.InpIdeal.τ).loc Cert.InpIdeal.main_arg5)) (m ((c.tc : Thread Cert.InpIdeal.nD Cert.InpIdeal.τ).loc Cert.InpIdeal.main_arg6)) (m ((c.tc : Thread Cert.InpIdeal.nD Cert.InpIdeal.τ).loc Cert.InpIdeal.main_arg7))).1 = (fun _ => 1#1)
    ∧ (Cert.Pre_finite_inp.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)) (m ((c.tc : Thread Cert.InpIdeal.nD Cert.InpIdeal.τ).loc Cert.InpIdeal.main_arg4)) (m ((c.tc : Thread Cert.InpIdeal.nD Cert.InpIdeal.τ).loc Cert.InpIdeal.main_arg5)) (m ((c.tc : Thread Cert.InpIdeal.nD Cert.InpIdeal.τ).loc Cert.InpIdeal.main_arg6)) (m ((c.tc : Thread Cert.InpIdeal.nD Cert.InpIdeal.τ).loc Cert.InpIdeal.main_arg7))).2.1 = (fun _ => 1#1)
    ∧ (Cert.Pre_finite_inp.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)) (m ((c.tc : Thread Cert.InpIdeal.nD Cert.InpIdeal.τ).loc Cert.InpIdeal.main_arg4)) (m ((c.tc : Thread Cert.InpIdeal.nD Cert.InpIdeal.τ).loc Cert.InpIdeal.main_arg5)) (m ((c.tc : Thread Cert.InpIdeal.nD Cert.InpIdeal.τ).loc Cert.InpIdeal.main_arg6)) (m ((c.tc : Thread Cert.InpIdeal.nD Cert.InpIdeal.τ).loc Cert.InpIdeal.main_arg7))).2.2.1 = (fun _ => 1#1)
    ∧ (Cert.Pre_finite_inp.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)) (m ((c.tc : Thread Cert.InpIdeal.nD Cert.InpIdeal.τ).loc Cert.InpIdeal.main_arg4)) (m ((c.tc : Thread Cert.InpIdeal.nD Cert.InpIdeal.τ).loc Cert.InpIdeal.main_arg5)) (m ((c.tc : Thread Cert.InpIdeal.nD Cert.InpIdeal.τ).loc Cert.InpIdeal.main_arg6)) (m ((c.tc : Thread Cert.InpIdeal.nD Cert.InpIdeal.τ).loc Cert.InpIdeal.main_arg7))).2.2.2.1 = (fun _ => 1#1)
    ∧ (Cert.Pre_finite_inp.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)) (m ((c.tc : Thread Cert.InpIdeal.nD Cert.InpIdeal.τ).loc Cert.InpIdeal.main_arg4)) (m ((c.tc : Thread Cert.InpIdeal.nD Cert.InpIdeal.τ).loc Cert.InpIdeal.main_arg5)) (m ((c.tc : Thread Cert.InpIdeal.nD Cert.InpIdeal.τ).loc Cert.InpIdeal.main_arg6)) (m ((c.tc : Thread Cert.InpIdeal.nD Cert.InpIdeal.τ).loc Cert.InpIdeal.main_arg7))).2.2.2.2.1 = (fun _ => 1#1)
    ∧ (Cert.Pre_finite_inp.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)) (m ((c.tc : Thread Cert.InpIdeal.nD Cert.InpIdeal.τ).loc Cert.InpIdeal.main_arg4)) (m ((c.tc : Thread Cert.InpIdeal.nD Cert.InpIdeal.τ).loc Cert.InpIdeal.main_arg5)) (m ((c.tc : Thread Cert.InpIdeal.nD Cert.InpIdeal.τ).loc Cert.InpIdeal.main_arg6)) (m ((c.tc : Thread Cert.InpIdeal.nD Cert.InpIdeal.τ).loc Cert.InpIdeal.main_arg7))).2.2.2.2.2.1 = (fun _ => 1#1)
    ∧ (Cert.Pre_finite_inp.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)) (m ((c.tc : Thread Cert.InpIdeal.nD Cert.InpIdeal.τ).loc Cert.InpIdeal.main_arg4)) (m ((c.tc : Thread Cert.InpIdeal.nD Cert.InpIdeal.τ).loc Cert.InpIdeal.main_arg5)) (m ((c.tc : Thread Cert.InpIdeal.nD Cert.InpIdeal.τ).loc Cert.InpIdeal.main_arg6)) (m ((c.tc : Thread Cert.InpIdeal.nD Cert.InpIdeal.τ).loc Cert.InpIdeal.main_arg7))).2.2.2.2.2.2.1 = (fun _ => 1#1)
    ∧ (Cert.Pre_finite_inp.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)) (m ((c.tc : Thread Cert.InpIdeal.nD Cert.InpIdeal.τ).loc Cert.InpIdeal.main_arg4)) (m ((c.tc : Thread Cert.InpIdeal.nD Cert.InpIdeal.τ).loc Cert.InpIdeal.main_arg5)) (m ((c.tc : Thread Cert.InpIdeal.nD Cert.InpIdeal.τ).loc Cert.InpIdeal.main_arg6)) (m ((c.tc : Thread Cert.InpIdeal.nD Cert.InpIdeal.τ).loc Cert.InpIdeal.main_arg7))).2.2.2.2.2.2.2 = (fun _ => 1#1)

def Pre_InpRefIdeal (m : (ℓ : Loc Cert.InpRefIdeal.nD Cert.InpRefIdeal.τ Cert.InpRefIdeal.sig) → Buf (Elt Ideal) ℓ) : Prop :=
  True

def Pre_InpRefIdeal_finite_inp [hPre_finite_inp : Cert.Pre_finite_inp.Facts] (m : (ℓ : Loc Cert.InpRefIdeal.nD Cert.InpRefIdeal.τ Cert.InpRefIdeal.sig) → Buf (Elt Ideal) ℓ) : Prop :=
  ∀ c : Dev Cert.InpRefIdeal.nD,
    (Cert.Pre_finite_inp.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4)) (m ((c.tc : Thread Cert.InpRefIdeal.nD Cert.InpRefIdeal.τ).loc Cert.InpRefIdeal.main_arg5)) (m ((c.tc : Thread Cert.InpRefIdeal.nD Cert.InpRefIdeal.τ).loc Cert.InpRefIdeal.main_arg6)) (m ((c.tc : Thread Cert.InpRefIdeal.nD Cert.InpRefIdeal.τ).loc Cert.InpRefIdeal.main_arg7))).1 = (fun _ => 1#1)
    ∧ (Cert.Pre_finite_inp.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4)) (m ((c.tc : Thread Cert.InpRefIdeal.nD Cert.InpRefIdeal.τ).loc Cert.InpRefIdeal.main_arg5)) (m ((c.tc : Thread Cert.InpRefIdeal.nD Cert.InpRefIdeal.τ).loc Cert.InpRefIdeal.main_arg6)) (m ((c.tc : Thread Cert.InpRefIdeal.nD Cert.InpRefIdeal.τ).loc Cert.InpRefIdeal.main_arg7))).2.1 = (fun _ => 1#1)
    ∧ (Cert.Pre_finite_inp.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4)) (m ((c.tc : Thread Cert.InpRefIdeal.nD Cert.InpRefIdeal.τ).loc Cert.InpRefIdeal.main_arg5)) (m ((c.tc : Thread Cert.InpRefIdeal.nD Cert.InpRefIdeal.τ).loc Cert.InpRefIdeal.main_arg6)) (m ((c.tc : Thread Cert.InpRefIdeal.nD Cert.InpRefIdeal.τ).loc Cert.InpRefIdeal.main_arg7))).2.2.1 = (fun _ => 1#1)
    ∧ (Cert.Pre_finite_inp.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4)) (m ((c.tc : Thread Cert.InpRefIdeal.nD Cert.InpRefIdeal.τ).loc Cert.InpRefIdeal.main_arg5)) (m ((c.tc : Thread Cert.InpRefIdeal.nD Cert.InpRefIdeal.τ).loc Cert.InpRefIdeal.main_arg6)) (m ((c.tc : Thread Cert.InpRefIdeal.nD Cert.InpRefIdeal.τ).loc Cert.InpRefIdeal.main_arg7))).2.2.2.1 = (fun _ => 1#1)
    ∧ (Cert.Pre_finite_inp.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4)) (m ((c.tc : Thread Cert.InpRefIdeal.nD Cert.InpRefIdeal.τ).loc Cert.InpRefIdeal.main_arg5)) (m ((c.tc : Thread Cert.InpRefIdeal.nD Cert.InpRefIdeal.τ).loc Cert.InpRefIdeal.main_arg6)) (m ((c.tc : Thread Cert.InpRefIdeal.nD Cert.InpRefIdeal.τ).loc Cert.InpRefIdeal.main_arg7))).2.2.2.2.1 = (fun _ => 1#1)
    ∧ (Cert.Pre_finite_inp.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4)) (m ((c.tc : Thread Cert.InpRefIdeal.nD Cert.InpRefIdeal.τ).loc Cert.InpRefIdeal.main_arg5)) (m ((c.tc : Thread Cert.InpRefIdeal.nD Cert.InpRefIdeal.τ).loc Cert.InpRefIdeal.main_arg6)) (m ((c.tc : Thread Cert.InpRefIdeal.nD Cert.InpRefIdeal.τ).loc Cert.InpRefIdeal.main_arg7))).2.2.2.2.2.1 = (fun _ => 1#1)
    ∧ (Cert.Pre_finite_inp.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4)) (m ((c.tc : Thread Cert.InpRefIdeal.nD Cert.InpRefIdeal.τ).loc Cert.InpRefIdeal.main_arg5)) (m ((c.tc : Thread Cert.InpRefIdeal.nD Cert.InpRefIdeal.τ).loc Cert.InpRefIdeal.main_arg6)) (m ((c.tc : Thread Cert.InpRefIdeal.nD Cert.InpRefIdeal.τ).loc Cert.InpRefIdeal.main_arg7))).2.2.2.2.2.2.1 = (fun _ => 1#1)
    ∧ (Cert.Pre_finite_inp.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4)) (m ((c.tc : Thread Cert.InpRefIdeal.nD Cert.InpRefIdeal.τ).loc Cert.InpRefIdeal.main_arg5)) (m ((c.tc : Thread Cert.InpRefIdeal.nD Cert.InpRefIdeal.τ).loc Cert.InpRefIdeal.main_arg6)) (m ((c.tc : Thread Cert.InpRefIdeal.nD Cert.InpRefIdeal.τ).loc Cert.InpRefIdeal.main_arg7))).2.2.2.2.2.2.2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Outp (m : (ℓ : Loc Cert.Outp.nD Cert.Outp.τ Cert.Outp.sig) → Buf (Elt Bits) ℓ) : Prop :=
  True

def Pre_OutpIdeal (m : (ℓ : Loc Cert.OutpIdeal.nD Cert.OutpIdeal.τ Cert.OutpIdeal.sig) → Buf (Elt Ideal) ℓ) : Prop :=
  True

def Pre_OutpRefIdeal (m : (ℓ : Loc Cert.OutpRefIdeal.nD Cert.OutpRefIdeal.τ Cert.OutpRefIdeal.sig) → Buf (Elt Ideal) ℓ) : Prop :=
  True

def Pre_Mlpf (m : (ℓ : Loc Cert.Mlpf.nD Cert.Mlpf.τ Cert.Mlpf.sig) → Buf (Elt Bits) ℓ) : Prop :=
  True

def Pre_MlpfIdeal (m : (ℓ : Loc Cert.MlpfIdeal.nD Cert.MlpfIdeal.τ Cert.MlpfIdeal.sig) → Buf (Elt Ideal) ℓ) : Prop :=
  True

def Pre_MlpfRefIdeal (m : (ℓ : Loc Cert.MlpfRefIdeal.nD Cert.MlpfRefIdeal.τ Cert.MlpfRefIdeal.sig) → Buf (Elt Ideal) ℓ) : Prop :=
  True

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ r.2.sem = fun _ => 0)

def quiescent_PleIdeal_pre_finite [hPleIdeal : Cert.PleIdeal.Facts] [hPre_finite : Cert.Pre_finite.Facts] : Prop :=
  ∀ (m : (ℓ : Loc Cert.PleIdeal.nD Cert.PleIdeal.τ Cert.PleIdeal.sig) → Buf (Elt Ideal) ℓ) (g : Dev Cert.PleIdeal.nD → PrngReg), Pre_PleIdeal_finite m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6))
      ∧ r.2.sem = fun _ => 0)

def quiescent_PleRefIdeal_pre_finite [hPleRefIdeal : Cert.PleRefIdeal.Facts] [hPre_finite : Cert.Pre_finite.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal_finite m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpIdeal_pre_finite_mlp [hMlpIdeal : Cert.MlpIdeal.Facts] [hPre_finite_mlp : Cert.Pre_finite_mlp.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_finite_mlp m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_MlpRefIdeal_pre_finite_mlp [hMlpRefIdeal : Cert.MlpRefIdeal.Facts] [hPre_finite_mlp : Cert.Pre_finite_mlp.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_finite_mlp m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Wdown [hWdown : Cert.Wdown.Facts] : Prop :=
  ∀ (m : (ℓ : Loc Cert.Wdown.nD Cert.Wdown.τ Cert.Wdown.sig) → Buf (Elt Bits) ℓ) (g : Dev Cert.Wdown.nD → PrngReg), Pre_Wdown m →
    θ_run (Cert.Wdown.defs (F := Bits)) (onTc (τ := Cert.Wdown.τ) (Cert.Wdown.main (F := Bits))) ⟨m, fun _ => 0, g⟩ (fun r => (∀ c : Dev Cert.Wdown.nD,
      r.2.mem ((c.tc : Thread Cert.Wdown.nD Cert.Wdown.τ).loc Cert.Wdown.main_arg0) = m ((c.tc : Thread Cert.Wdown.nD Cert.Wdown.τ).loc Cert.Wdown.main_arg0)
      ∧ r.2.mem ((c.tc : Thread Cert.Wdown.nD Cert.Wdown.τ).loc Cert.Wdown.main_arg1) = m ((c.tc : Thread Cert.Wdown.nD Cert.Wdown.τ).loc Cert.Wdown.main_arg1)
      ∧ r.2.mem ((c.tc : Thread Cert.Wdown.nD Cert.Wdown.τ).loc Cert.Wdown.main_arg2) = m ((c.tc : Thread Cert.Wdown.nD Cert.Wdown.τ).loc Cert.Wdown.main_arg2)
      ∧ r.2.mem ((c.tc : Thread Cert.Wdown.nD Cert.Wdown.τ).loc Cert.Wdown.main_arg3) = m ((c.tc : Thread Cert.Wdown.nD Cert.Wdown.τ).loc Cert.Wdown.main_arg3))
      ∧ r.2.sem = fun _ => 0)

def quiescent_WdownIdeal [hWdownIdeal : Cert.WdownIdeal.Facts] : Prop :=
  ∀ (m : (ℓ : Loc Cert.WdownIdeal.nD Cert.WdownIdeal.τ Cert.WdownIdeal.sig) → Buf (Elt Ideal) ℓ) (g : Dev Cert.WdownIdeal.nD → PrngReg), Pre_WdownIdeal m →
    θ_run (Cert.WdownIdeal.defs (F := Ideal)) (onTc (τ := Cert.WdownIdeal.τ) (Cert.WdownIdeal.main (F := Ideal))) ⟨m, fun _ => 0, g⟩ (fun r => (∀ c : Dev Cert.WdownIdeal.nD,
      r.2.mem ((c.tc : Thread Cert.WdownIdeal.nD Cert.WdownIdeal.τ).loc Cert.WdownIdeal.main_arg0) = m ((c.tc : Thread Cert.WdownIdeal.nD Cert.WdownIdeal.τ).loc Cert.WdownIdeal.main_arg0)
      ∧ r.2.mem ((c.tc : Thread Cert.WdownIdeal.nD Cert.WdownIdeal.τ).loc Cert.WdownIdeal.main_arg1) = m ((c.tc : Thread Cert.WdownIdeal.nD Cert.WdownIdeal.τ).loc Cert.WdownIdeal.main_arg1)
      ∧ r.2.mem ((c.tc : Thread Cert.WdownIdeal.nD Cert.WdownIdeal.τ).loc Cert.WdownIdeal.main_arg2) = m ((c.tc : Thread Cert.WdownIdeal.nD Cert.WdownIdeal.τ).loc Cert.WdownIdeal.main_arg2)
      ∧ r.2.mem ((c.tc : Thread Cert.WdownIdeal.nD Cert.WdownIdeal.τ).loc Cert.WdownIdeal.main_arg3) = m ((c.tc : Thread Cert.WdownIdeal.nD Cert.WdownIdeal.τ).loc Cert.WdownIdeal.main_arg3))
      ∧ r.2.sem = fun _ => 0)

def quiescent_WdownRefIdeal [hWdownRefIdeal : Cert.WdownRefIdeal.Facts] : Prop :=
  ∀ (m : (ℓ : Loc Cert.WdownRefIdeal.nD Cert.WdownRefIdeal.τ Cert.WdownRefIdeal.sig) → Buf (Elt Ideal) ℓ) (g : Dev Cert.WdownRefIdeal.nD → PrngReg), Pre_WdownRefIdeal m →
    θ_run (Cert.WdownRefIdeal.defs (F := Ideal)) (onTc (τ := Cert.WdownRefIdeal.τ) (Cert.WdownRefIdeal.main (F := Ideal))) ⟨m, fun _ => 0, g⟩ (fun r => (∀ c : Dev Cert.WdownRefIdeal.nD,
      r.2.mem ((c.tc : Thread Cert.WdownRefIdeal.nD Cert.WdownRefIdeal.τ).loc Cert.WdownRefIdeal.main_arg0) = m ((c.tc : Thread Cert.WdownRefIdeal.nD Cert.WdownRefIdeal.τ).loc Cert.WdownRefIdeal.main_arg0)
      ∧ r.2.mem ((c.tc : Thread Cert.WdownRefIdeal.nD Cert.WdownRefIdeal.τ).loc Cert.WdownRefIdeal.main_arg1) = m ((c.tc : Thread Cert.WdownRefIdeal.nD Cert.WdownRefIdeal.τ).loc Cert.WdownRefIdeal.main_arg1)
      ∧ r.2.mem ((c.tc : Thread Cert.WdownRefIdeal.nD Cert.WdownRefIdeal.τ).loc Cert.WdownRefIdeal.main_arg2) = m ((c.tc : Thread Cert.WdownRefIdeal.nD Cert.WdownRefIdeal.τ).loc Cert.WdownRefIdeal.main_arg2)
      ∧ r.2.mem ((c.tc : Thread Cert.WdownRefIdeal.nD Cert.WdownRefIdeal.τ).loc Cert.WdownRefIdeal.main_arg3) = m ((c.tc : Thread Cert.WdownRefIdeal.nD Cert.WdownRefIdeal.τ).loc Cert.WdownRefIdeal.main_arg3))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2)
      ∧ r.2.mem ((c.tc : Thread Cert.Win.nD Cert.Win.τ).loc Cert.Win.main_arg3) = m ((c.tc : Thread Cert.Win.nD Cert.Win.τ).loc Cert.Win.main_arg3)
      ∧ r.2.mem ((c.tc : Thread Cert.Win.nD Cert.Win.τ).loc Cert.Win.main_arg4) = m ((c.tc : Thread Cert.Win.nD Cert.Win.τ).loc Cert.Win.main_arg4)
      ∧ r.2.mem ((c.tc : Thread Cert.Win.nD Cert.Win.τ).loc Cert.Win.main_arg5) = m ((c.tc : Thread Cert.Win.nD Cert.Win.τ).loc Cert.Win.main_arg5))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
      ∧ r.2.mem ((c.tc : Thread Cert.WinIdeal.nD Cert.WinIdeal.τ).loc Cert.WinIdeal.main_arg3) = m ((c.tc : Thread Cert.WinIdeal.nD Cert.WinIdeal.τ).loc Cert.WinIdeal.main_arg3)
      ∧ r.2.mem ((c.tc : Thread Cert.WinIdeal.nD Cert.WinIdeal.τ).loc Cert.WinIdeal.main_arg4) = m ((c.tc : Thread Cert.WinIdeal.nD Cert.WinIdeal.τ).loc Cert.WinIdeal.main_arg4)
      ∧ r.2.mem ((c.tc : Thread Cert.WinIdeal.nD Cert.WinIdeal.τ).loc Cert.WinIdeal.main_arg5) = m ((c.tc : Thread Cert.WinIdeal.nD Cert.WinIdeal.τ).loc Cert.WinIdeal.main_arg5))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2)
      ∧ r.2.mem ((c.tc : Thread Cert.WinRefIdeal.nD Cert.WinRefIdeal.τ).loc Cert.WinRefIdeal.main_arg3) = m ((c.tc : Thread Cert.WinRefIdeal.nD Cert.WinRefIdeal.τ).loc Cert.WinRefIdeal.main_arg3)
      ∧ r.2.mem ((c.tc : Thread Cert.WinRefIdeal.nD Cert.WinRefIdeal.τ).loc Cert.WinRefIdeal.main_arg4) = m ((c.tc : Thread Cert.WinRefIdeal.nD Cert.WinRefIdeal.τ).loc Cert.WinRefIdeal.main_arg4)
      ∧ r.2.mem ((c.tc : Thread Cert.WinRefIdeal.nD Cert.WinRefIdeal.τ).loc Cert.WinRefIdeal.main_arg5) = m ((c.tc : Thread Cert.WinRefIdeal.nD Cert.WinRefIdeal.τ).loc Cert.WinRefIdeal.main_arg5))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4)
      ∧ r.2.mem ((c.tc : Thread Cert.Inp.nD Cert.Inp.τ).loc Cert.Inp.main_arg5) = m ((c.tc : Thread Cert.Inp.nD Cert.Inp.τ).loc Cert.Inp.main_arg5)
      ∧ r.2.mem ((c.tc : Thread Cert.Inp.nD Cert.Inp.τ).loc Cert.Inp.main_arg6) = m ((c.tc : Thread Cert.Inp.nD Cert.Inp.τ).loc Cert.Inp.main_arg6)
      ∧ r.2.mem ((c.tc : Thread Cert.Inp.nD Cert.Inp.τ).loc Cert.Inp.main_arg7) = m ((c.tc : Thread Cert.Inp.nD Cert.Inp.τ).loc Cert.Inp.main_arg7))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
      ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
      ∧ r.2.mem ((c.tc : Thread Cert.InpIdeal.nD Cert.InpIdeal.τ).loc Cert.InpIdeal.main_arg6) = m ((c.tc : Thread Cert.InpIdeal.nD Cert.InpIdeal.τ).loc Cert.InpIdeal.main_arg6)
      ∧ r.2.mem ((c.tc : Thread Cert.InpIdeal.nD Cert.InpIdeal.τ).loc Cert.InpIdeal.main_arg7) = m ((c.tc : Thread Cert.InpIdeal.nD Cert.InpIdeal.τ).loc Cert.InpIdeal.main_arg7))
      ∧ r.2.sem = fun _ => 0)

def quiescent_InpIdeal_pre_finite_inp [hInpIdeal : Cert.InpIdeal.Facts] [hPre_finite_inp : Cert.Pre_finite_inp.Facts] : Prop :=
  ∀ (m : (ℓ : Loc Cert.InpIdeal.nD Cert.InpIdeal.τ Cert.InpIdeal.sig) → Buf (Elt Ideal) ℓ) (g : Dev Cert.InpIdeal.nD → PrngReg), Pre_InpIdeal_finite_inp m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
      ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
      ∧ r.2.mem ((c.tc : Thread Cert.InpIdeal.nD Cert.InpIdeal.τ).loc Cert.InpIdeal.main_arg6) = m ((c.tc : Thread Cert.InpIdeal.nD Cert.InpIdeal.τ).loc Cert.InpIdeal.main_arg6)
      ∧ r.2.mem ((c.tc : Thread Cert.InpIdeal.nD Cert.InpIdeal.τ).loc Cert.InpIdeal.main_arg7) = m ((c.tc : Thread Cert.InpIdeal.nD Cert.InpIdeal.τ).loc Cert.InpIdeal.main_arg7))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4)
      ∧ r.2.mem ((c.tc : Thread Cert.InpRefIdeal.nD Cert.InpRefIdeal.τ).loc Cert.InpRefIdeal.main_arg5) = m ((c.tc : Thread Cert.InpRefIdeal.nD Cert.InpRefIdeal.τ).loc Cert.InpRefIdeal.main_arg5)
      ∧ r.2.mem ((c.tc : Thread Cert.InpRefIdeal.nD Cert.InpRefIdeal.τ).loc Cert.InpRefIdeal.main_arg6) = m ((c.tc : Thread Cert.InpRefIdeal.nD Cert.InpRefIdeal.τ).loc Cert.InpRefIdeal.main_arg6)
      ∧ r.2.mem ((c.tc : Thread Cert.InpRefIdeal.nD Cert.InpRefIdeal.τ).loc Cert.InpRefIdeal.main_arg7) = m ((c.tc : Thread Cert.InpRefIdeal.nD Cert.InpRefIdeal.τ).loc Cert.InpRefIdeal.main_arg7))
      ∧ r.2.sem = fun _ => 0)

def quiescent_InpRefIdeal_pre_finite_inp [hInpRefIdeal : Cert.InpRefIdeal.Facts] [hPre_finite_inp : Cert.Pre_finite_inp.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal_finite_inp m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4)
      ∧ r.2.mem ((c.tc : Thread Cert.InpRefIdeal.nD Cert.InpRefIdeal.τ).loc Cert.InpRefIdeal.main_arg5) = m ((c.tc : Thread Cert.InpRefIdeal.nD Cert.InpRefIdeal.τ).loc Cert.InpRefIdeal.main_arg5)
      ∧ r.2.mem ((c.tc : Thread Cert.InpRefIdeal.nD Cert.InpRefIdeal.τ).loc Cert.InpRefIdeal.main_arg6) = m ((c.tc : Thread Cert.InpRefIdeal.nD Cert.InpRefIdeal.τ).loc Cert.InpRefIdeal.main_arg6)
      ∧ r.2.mem ((c.tc : Thread Cert.InpRefIdeal.nD Cert.InpRefIdeal.τ).loc Cert.InpRefIdeal.main_arg7) = m ((c.tc : Thread Cert.InpRefIdeal.nD Cert.InpRefIdeal.τ).loc Cert.InpRefIdeal.main_arg7))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Outp [hOutp : Cert.Outp.Facts] : Prop :=
  ∀ (m : (ℓ : Loc Cert.Outp.nD Cert.Outp.τ Cert.Outp.sig) → Buf (Elt Bits) ℓ) (g : Dev Cert.Outp.nD → PrngReg), Pre_Outp m →
    θ_run (Cert.Outp.defs (F := Bits)) (onTc (τ := Cert.Outp.τ) (Cert.Outp.main (F := Bits))) ⟨m, fun _ => 0, g⟩ (fun r => (∀ c : Dev Cert.Outp.nD,
      r.2.mem ((c.tc : Thread Cert.Outp.nD Cert.Outp.τ).loc Cert.Outp.main_arg0) = m ((c.tc : Thread Cert.Outp.nD Cert.Outp.τ).loc Cert.Outp.main_arg0)
      ∧ r.2.mem ((c.tc : Thread Cert.Outp.nD Cert.Outp.τ).loc Cert.Outp.main_arg1) = m ((c.tc : Thread Cert.Outp.nD Cert.Outp.τ).loc Cert.Outp.main_arg1)
      ∧ r.2.mem ((c.tc : Thread Cert.Outp.nD Cert.Outp.τ).loc Cert.Outp.main_arg2) = m ((c.tc : Thread Cert.Outp.nD Cert.Outp.τ).loc Cert.Outp.main_arg2)
      ∧ r.2.mem ((c.tc : Thread Cert.Outp.nD Cert.Outp.τ).loc Cert.Outp.main_arg3) = m ((c.tc : Thread Cert.Outp.nD Cert.Outp.τ).loc Cert.Outp.main_arg3)
      ∧ r.2.mem ((c.tc : Thread Cert.Outp.nD Cert.Outp.τ).loc Cert.Outp.main_arg4) = m ((c.tc : Thread Cert.Outp.nD Cert.Outp.τ).loc Cert.Outp.main_arg4))
      ∧ r.2.sem = fun _ => 0)

def quiescent_OutpIdeal [hOutpIdeal : Cert.OutpIdeal.Facts] : Prop :=
  ∀ (m : (ℓ : Loc Cert.OutpIdeal.nD Cert.OutpIdeal.τ Cert.OutpIdeal.sig) → Buf (Elt Ideal) ℓ) (g : Dev Cert.OutpIdeal.nD → PrngReg), Pre_OutpIdeal m →
    θ_run (Cert.OutpIdeal.defs (F := Ideal)) (onTc (τ := Cert.OutpIdeal.τ) (Cert.OutpIdeal.main (F := Ideal))) ⟨m, fun _ => 0, g⟩ (fun r => (∀ c : Dev Cert.OutpIdeal.nD,
      r.2.mem ((c.tc : Thread Cert.OutpIdeal.nD Cert.OutpIdeal.τ).loc Cert.OutpIdeal.main_arg0) = m ((c.tc : Thread Cert.OutpIdeal.nD Cert.OutpIdeal.τ).loc Cert.OutpIdeal.main_arg0)
      ∧ r.2.mem ((c.tc : Thread Cert.OutpIdeal.nD Cert.OutpIdeal.τ).loc Cert.OutpIdeal.main_arg1) = m ((c.tc : Thread Cert.OutpIdeal.nD Cert.OutpIdeal.τ).loc Cert.OutpIdeal.main_arg1)
      ∧ r.2.mem ((c.tc : Thread Cert.OutpIdeal.nD Cert.OutpIdeal.τ).loc Cert.OutpIdeal.main_arg2) = m ((c.tc : Thread Cert.OutpIdeal.nD Cert.OutpIdeal.τ).loc Cert.OutpIdeal.main_arg2)
      ∧ r.2.mem ((c.tc : Thread Cert.OutpIdeal.nD Cert.OutpIdeal.τ).loc Cert.OutpIdeal.main_arg3) = m ((c.tc : Thread Cert.OutpIdeal.nD Cert.OutpIdeal.τ).loc Cert.OutpIdeal.main_arg3)
      ∧ r.2.mem ((c.tc : Thread Cert.OutpIdeal.nD Cert.OutpIdeal.τ).loc Cert.OutpIdeal.main_arg4) = m ((c.tc : Thread Cert.OutpIdeal.nD Cert.OutpIdeal.τ).loc Cert.OutpIdeal.main_arg4))
      ∧ r.2.sem = fun _ => 0)

def quiescent_OutpRefIdeal [hOutpRefIdeal : Cert.OutpRefIdeal.Facts] : Prop :=
  ∀ (m : (ℓ : Loc Cert.OutpRefIdeal.nD Cert.OutpRefIdeal.τ Cert.OutpRefIdeal.sig) → Buf (Elt Ideal) ℓ) (g : Dev Cert.OutpRefIdeal.nD → PrngReg), Pre_OutpRefIdeal m →
    θ_run (Cert.OutpRefIdeal.defs (F := Ideal)) (onTc (τ := Cert.OutpRefIdeal.τ) (Cert.OutpRefIdeal.main (F := Ideal))) ⟨m, fun _ => 0, g⟩ (fun r => (∀ c : Dev Cert.OutpRefIdeal.nD,
      r.2.mem ((c.tc : Thread Cert.OutpRefIdeal.nD Cert.OutpRefIdeal.τ).loc Cert.OutpRefIdeal.main_arg0) = m ((c.tc : Thread Cert.OutpRefIdeal.nD Cert.OutpRefIdeal.τ).loc Cert.OutpRefIdeal.main_arg0)
      ∧ r.2.mem ((c.tc : Thread Cert.OutpRefIdeal.nD Cert.OutpRefIdeal.τ).loc Cert.OutpRefIdeal.main_arg1) = m ((c.tc : Thread Cert.OutpRefIdeal.nD Cert.OutpRefIdeal.τ).loc Cert.OutpRefIdeal.main_arg1)
      ∧ r.2.mem ((c.tc : Thread Cert.OutpRefIdeal.nD Cert.OutpRefIdeal.τ).loc Cert.OutpRefIdeal.main_arg2) = m ((c.tc : Thread Cert.OutpRefIdeal.nD Cert.OutpRefIdeal.τ).loc Cert.OutpRefIdeal.main_arg2)
      ∧ r.2.mem ((c.tc : Thread Cert.OutpRefIdeal.nD Cert.OutpRefIdeal.τ).loc Cert.OutpRefIdeal.main_arg3) = m ((c.tc : Thread Cert.OutpRefIdeal.nD Cert.OutpRefIdeal.τ).loc Cert.OutpRefIdeal.main_arg3)
      ∧ r.2.mem ((c.tc : Thread Cert.OutpRefIdeal.nD Cert.OutpRefIdeal.τ).loc Cert.OutpRefIdeal.main_arg4) = m ((c.tc : Thread Cert.OutpRefIdeal.nD Cert.OutpRefIdeal.τ).loc Cert.OutpRefIdeal.main_arg4))
      ∧ r.2.sem = fun _ => 0)

def quiescent_Mlpf [hMlpf : Cert.Mlpf.Facts] : Prop :=
  ∀ (m : (ℓ : Loc Cert.Mlpf.nD Cert.Mlpf.τ Cert.Mlpf.sig) → Buf (Elt Bits) ℓ) (g : Dev Cert.Mlpf.nD → PrngReg), Pre_Mlpf m →
    θ_run (Cert.Mlpf.defs (F := Bits)) (onTc (τ := Cert.Mlpf.τ) (Cert.Mlpf.main (F := Bits))) ⟨m, fun _ => 0, g⟩ (fun r => (∀ c : Dev Cert.Mlpf.nD,
      r.2.mem ((c.tc : Thread Cert.Mlpf.nD Cert.Mlpf.τ).loc Cert.Mlpf.main_arg0) = m ((c.tc : Thread Cert.Mlpf.nD Cert.Mlpf.τ).loc Cert.Mlpf.main_arg0)
      ∧ r.2.mem ((c.tc : Thread Cert.Mlpf.nD Cert.Mlpf.τ).loc Cert.Mlpf.main_arg1) = m ((c.tc : Thread Cert.Mlpf.nD Cert.Mlpf.τ).loc Cert.Mlpf.main_arg1)
      ∧ r.2.mem ((c.tc : Thread Cert.Mlpf.nD Cert.Mlpf.τ).loc Cert.Mlpf.main_arg2) = m ((c.tc : Thread Cert.Mlpf.nD Cert.Mlpf.τ).loc Cert.Mlpf.main_arg2)
      ∧ r.2.mem ((c.tc : Thread Cert.Mlpf.nD Cert.Mlpf.τ).loc Cert.Mlpf.main_arg3) = m ((c.tc : Thread Cert.Mlpf.nD Cert.Mlpf.τ).loc Cert.Mlpf.main_arg3))
      ∧ r.2.sem = fun _ => 0)

def quiescent_MlpfIdeal [hMlpfIdeal : Cert.MlpfIdeal.Facts] : Prop :=
  ∀ (m : (ℓ : Loc Cert.MlpfIdeal.nD Cert.MlpfIdeal.τ Cert.MlpfIdeal.sig) → Buf (Elt Ideal) ℓ) (g : Dev Cert.MlpfIdeal.nD → PrngReg), Pre_MlpfIdeal m →
    θ_run (Cert.MlpfIdeal.defs (F := Ideal)) (onTc (τ := Cert.MlpfIdeal.τ) (Cert.MlpfIdeal.main (F := Ideal))) ⟨m, fun _ => 0, g⟩ (fun r => (∀ c : Dev Cert.MlpfIdeal.nD,
      r.2.mem ((c.tc : Thread Cert.MlpfIdeal.nD Cert.MlpfIdeal.τ).loc Cert.MlpfIdeal.main_arg0) = m ((c.tc : Thread Cert.MlpfIdeal.nD Cert.MlpfIdeal.τ).loc Cert.MlpfIdeal.main_arg0)
      ∧ r.2.mem ((c.tc : Thread Cert.MlpfIdeal.nD Cert.MlpfIdeal.τ).loc Cert.MlpfIdeal.main_arg1) = m ((c.tc : Thread Cert.MlpfIdeal.nD Cert.MlpfIdeal.τ).loc Cert.MlpfIdeal.main_arg1)
      ∧ r.2.mem ((c.tc : Thread Cert.MlpfIdeal.nD Cert.MlpfIdeal.τ).loc Cert.MlpfIdeal.main_arg2) = m ((c.tc : Thread Cert.MlpfIdeal.nD Cert.MlpfIdeal.τ).loc Cert.MlpfIdeal.main_arg2)
      ∧ r.2.mem ((c.tc : Thread Cert.MlpfIdeal.nD Cert.MlpfIdeal.τ).loc Cert.MlpfIdeal.main_arg3) = m ((c.tc : Thread Cert.MlpfIdeal.nD Cert.MlpfIdeal.τ).loc Cert.MlpfIdeal.main_arg3))
      ∧ r.2.sem = fun _ => 0)

def quiescent_MlpfRefIdeal [hMlpfRefIdeal : Cert.MlpfRefIdeal.Facts] : Prop :=
  ∀ (m : (ℓ : Loc Cert.MlpfRefIdeal.nD Cert.MlpfRefIdeal.τ Cert.MlpfRefIdeal.sig) → Buf (Elt Ideal) ℓ) (g : Dev Cert.MlpfRefIdeal.nD → PrngReg), Pre_MlpfRefIdeal m →
    θ_run (Cert.MlpfRefIdeal.defs (F := Ideal)) (onTc (τ := Cert.MlpfRefIdeal.τ) (Cert.MlpfRefIdeal.main (F := Ideal))) ⟨m, fun _ => 0, g⟩ (fun r => (∀ c : Dev Cert.MlpfRefIdeal.nD,
      r.2.mem ((c.tc : Thread Cert.MlpfRefIdeal.nD Cert.MlpfRefIdeal.τ).loc Cert.MlpfRefIdeal.main_arg0) = m ((c.tc : Thread Cert.MlpfRefIdeal.nD Cert.MlpfRefIdeal.τ).loc Cert.MlpfRefIdeal.main_arg0)
      ∧ r.2.mem ((c.tc : Thread Cert.MlpfRefIdeal.nD Cert.MlpfRefIdeal.τ).loc Cert.MlpfRefIdeal.main_arg1) = m ((c.tc : Thread Cert.MlpfRefIdeal.nD Cert.MlpfRefIdeal.τ).loc Cert.MlpfRefIdeal.main_arg1)
      ∧ r.2.mem ((c.tc : Thread Cert.MlpfRefIdeal.nD Cert.MlpfRefIdeal.τ).loc Cert.MlpfRefIdeal.main_arg2) = m ((c.tc : Thread Cert.MlpfRefIdeal.nD Cert.MlpfRefIdeal.τ).loc Cert.MlpfRefIdeal.main_arg2)
      ∧ r.2.mem ((c.tc : Thread Cert.MlpfRefIdeal.nD Cert.MlpfRefIdeal.τ).loc Cert.MlpfRefIdeal.main_arg3) = m ((c.tc : Thread Cert.MlpfRefIdeal.nD Cert.MlpfRefIdeal.τ).loc Cert.MlpfRefIdeal.main_arg3))
      ∧ r.2.sem = fun _ => 0)

def preserves_Ple_PleIdeal : Prop :=
  True

def algebraic_PleIdeal_PleRefIdeal_pre_finite [hPleIdeal : Cert.PleIdeal.Facts] [hPleRefIdeal : Cert.PleRefIdeal.Facts] [hPre_finite : Cert.Pre_finite.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal_finite m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)
      ∧ m' ((c.tc : Thread Cert.PleRefIdeal.nD Cert.PleRefIdeal.τ).loc Cert.PleRefIdeal.main_arg6) = m ((c.tc : Thread Cert.PleIdeal.nD Cert.PleIdeal.τ).loc Cert.PleIdeal.main_arg6)) →
    ∃ (v0 : (c : Dev Cert.PleIdeal.nD) → Buf (Elt Ideal) ((c.tc : Thread Cert.PleIdeal.nD Cert.PleIdeal.τ).loc Cert.PleIdeal.main_v6_0)) (v1 : (c : Dev Cert.PleIdeal.nD) → Buf (Elt Ideal) ((c.tc : Thread Cert.PleIdeal.nD Cert.PleIdeal.τ).loc Cert.PleIdeal.main_v6_1)) (v2 : (c : Dev Cert.PleIdeal.nD) → Buf (Elt Ideal) ((c.tc : Thread Cert.PleIdeal.nD Cert.PleIdeal.τ).loc Cert.PleIdeal.main_v6_2)) (v3 : (c : Dev Cert.PleIdeal.nD) → Buf (Elt Ideal) ((c.tc : Thread Cert.PleIdeal.nD Cert.PleIdeal.τ).loc Cert.PleIdeal.main_v6_3)) (v4 : (c : Dev Cert.PleIdeal.nD) → Buf (Elt Ideal) ((c.tc : Thread Cert.PleIdeal.nD Cert.PleIdeal.τ).loc Cert.PleIdeal.main_v6_4)) (v5 : (c : Dev Cert.PleIdeal.nD) → Buf (Elt Ideal) ((c.tc : Thread Cert.PleIdeal.nD Cert.PleIdeal.τ).loc Cert.PleIdeal.main_v6_5)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v6_0) = v0 c
          ∧ r.2.mem ((c.tc : Thread Cert.PleIdeal.nD Cert.PleIdeal.τ).loc Cert.PleIdeal.main_v6_1) = v1 c
          ∧ r.2.mem ((c.tc : Thread Cert.PleIdeal.nD Cert.PleIdeal.τ).loc Cert.PleIdeal.main_v6_2) = v2 c
          ∧ r.2.mem ((c.tc : Thread Cert.PleIdeal.nD Cert.PleIdeal.τ).loc Cert.PleIdeal.main_v6_3) = v3 c
          ∧ r.2.mem ((c.tc : Thread Cert.PleIdeal.nD Cert.PleIdeal.τ).loc Cert.PleIdeal.main_v6_4) = v4 c
          ∧ r.2.mem ((c.tc : Thread Cert.PleIdeal.nD Cert.PleIdeal.τ).loc Cert.PleIdeal.main_v6_5) = v5 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v108) = v0 c
          ∧ r.2.mem ((c.tc : Thread Cert.PleRefIdeal.nD Cert.PleRefIdeal.τ).loc Cert.PleRefIdeal.main_v109) = v1 c
          ∧ r.2.mem ((c.tc : Thread Cert.PleRefIdeal.nD Cert.PleRefIdeal.τ).loc Cert.PleRefIdeal.main_v112) = v2 c
          ∧ r.2.mem ((c.tc : Thread Cert.PleRefIdeal.nD Cert.PleRefIdeal.τ).loc Cert.PleRefIdeal.main_v113) = v3 c
          ∧ r.2.mem ((c.tc : Thread Cert.PleRefIdeal.nD Cert.PleRefIdeal.τ).loc Cert.PleRefIdeal.main_v114) = v4 c
          ∧ r.2.mem ((c.tc : Thread Cert.PleRefIdeal.nD Cert.PleRefIdeal.τ).loc Cert.PleRefIdeal.main_v115) = v5 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5)
          ∧ r.2.mem ((c.tc : Thread Cert.PleRefIdeal.nD Cert.PleRefIdeal.τ).loc Cert.PleRefIdeal.main_arg6) = m' ((c.tc : Thread Cert.PleRefIdeal.nD Cert.PleRefIdeal.τ).loc Cert.PleRefIdeal.main_arg6))

def preserves_Mlp_MlpIdeal : Prop :=
  True

def algebraic_MlpIdeal_MlpRefIdeal_pre_finite_mlp [hMlpIdeal : Cert.MlpIdeal.Facts] [hMlpRefIdeal : Cert.MlpRefIdeal.Facts] [hPre_finite_mlp : Cert.Pre_finite_mlp.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal_finite_mlp m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v27_0)) (v1 : (c : Dev Cert.MlpIdeal.nD) → Buf (Elt Ideal) ((c.tc : Thread Cert.MlpIdeal.nD Cert.MlpIdeal.τ).loc Cert.MlpIdeal.main_v27_1)) (v2 : (c : Dev Cert.MlpIdeal.nD) → Buf (Elt Ideal) ((c.tc : Thread Cert.MlpIdeal.nD Cert.MlpIdeal.τ).loc Cert.MlpIdeal.main_v27_2)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v27_0) = v0 c
          ∧ r.2.mem ((c.tc : Thread Cert.MlpIdeal.nD Cert.MlpIdeal.τ).loc Cert.MlpIdeal.main_v27_1) = v1 c
          ∧ r.2.mem ((c.tc : Thread Cert.MlpIdeal.nD Cert.MlpIdeal.τ).loc Cert.MlpIdeal.main_v27_2) = v2 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v55) = v0 c
          ∧ r.2.mem ((c.tc : Thread Cert.MlpRefIdeal.nD Cert.MlpRefIdeal.τ).loc Cert.MlpRefIdeal.main_v54) = v1 c
          ∧ r.2.mem ((c.tc : Thread Cert.MlpRefIdeal.nD Cert.MlpRefIdeal.τ).loc Cert.MlpRefIdeal.main_v56) = v2 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Wdown_WdownIdeal : Prop :=
  True

def algebraic_WdownIdeal_WdownRefIdeal [hWdownIdeal : Cert.WdownIdeal.Facts] [hWdownRefIdeal : Cert.WdownRefIdeal.Facts] : Prop :=
  ∀ (m : (ℓ : Loc Cert.WdownIdeal.nD Cert.WdownIdeal.τ Cert.WdownIdeal.sig) → Buf (Elt Ideal) ℓ) (g : Dev Cert.WdownIdeal.nD → PrngReg)
    (m' : (ℓ : Loc Cert.WdownRefIdeal.nD Cert.WdownRefIdeal.τ Cert.WdownRefIdeal.sig) → Buf (Elt Ideal) ℓ) (g' : Dev Cert.WdownRefIdeal.nD → PrngReg), Pre_WdownIdeal m →
    (∀ c : Dev Cert.WdownIdeal.nD,
      m' ((c.tc : Thread Cert.WdownRefIdeal.nD Cert.WdownRefIdeal.τ).loc Cert.WdownRefIdeal.main_arg0) = m ((c.tc : Thread Cert.WdownIdeal.nD Cert.WdownIdeal.τ).loc Cert.WdownIdeal.main_arg0)
      ∧ m' ((c.tc : Thread Cert.WdownRefIdeal.nD Cert.WdownRefIdeal.τ).loc Cert.WdownRefIdeal.main_arg1) = m ((c.tc : Thread Cert.WdownIdeal.nD Cert.WdownIdeal.τ).loc Cert.WdownIdeal.main_arg1)
      ∧ m' ((c.tc : Thread Cert.WdownRefIdeal.nD Cert.WdownRefIdeal.τ).loc Cert.WdownRefIdeal.main_arg2) = m ((c.tc : Thread Cert.WdownIdeal.nD Cert.WdownIdeal.τ).loc Cert.WdownIdeal.main_arg2)
      ∧ m' ((c.tc : Thread Cert.WdownRefIdeal.nD Cert.WdownRefIdeal.τ).loc Cert.WdownRefIdeal.main_arg3) = m ((c.tc : Thread Cert.WdownIdeal.nD Cert.WdownIdeal.τ).loc Cert.WdownIdeal.main_arg3)) →
    ∃ (v0 : (c : Dev Cert.WdownIdeal.nD) → Buf (Elt Ideal) ((c.tc : Thread Cert.WdownIdeal.nD Cert.WdownIdeal.τ).loc Cert.WdownIdeal.main_v17)),
      θ_run (Cert.WdownIdeal.defs (F := Ideal)) (onTc (τ := Cert.WdownIdeal.τ) (Cert.WdownIdeal.main (F := Ideal))) ⟨m, fun _ => 0, g⟩ (fun r => ∀ c : Dev Cert.WdownIdeal.nD,
          r.2.mem ((c.tc : Thread Cert.WdownIdeal.nD Cert.WdownIdeal.τ).loc Cert.WdownIdeal.main_v17) = v0 c
          ∧ r.2.mem ((c.tc : Thread Cert.WdownIdeal.nD Cert.WdownIdeal.τ).loc Cert.WdownIdeal.main_arg0) = m ((c.tc : Thread Cert.WdownIdeal.nD Cert.WdownIdeal.τ).loc Cert.WdownIdeal.main_arg0)
          ∧ r.2.mem ((c.tc : Thread Cert.WdownIdeal.nD Cert.WdownIdeal.τ).loc Cert.WdownIdeal.main_arg1) = m ((c.tc : Thread Cert.WdownIdeal.nD Cert.WdownIdeal.τ).loc Cert.WdownIdeal.main_arg1)
          ∧ r.2.mem ((c.tc : Thread Cert.WdownIdeal.nD Cert.WdownIdeal.τ).loc Cert.WdownIdeal.main_arg2) = m ((c.tc : Thread Cert.WdownIdeal.nD Cert.WdownIdeal.τ).loc Cert.WdownIdeal.main_arg2)
          ∧ r.2.mem ((c.tc : Thread Cert.WdownIdeal.nD Cert.WdownIdeal.τ).loc Cert.WdownIdeal.main_arg3) = m ((c.tc : Thread Cert.WdownIdeal.nD Cert.WdownIdeal.τ).loc Cert.WdownIdeal.main_arg3))
      ∧ θ_run (Cert.WdownRefIdeal.defs (F := Ideal)) (onTc (τ := Cert.WdownRefIdeal.τ) (Cert.WdownRefIdeal.main (F := Ideal))) ⟨m', fun _ => 0, g'⟩ (fun r => ∀ c : Dev Cert.WdownRefIdeal.nD,
          r.2.mem ((c.tc : Thread Cert.WdownRefIdeal.nD Cert.WdownRefIdeal.τ).loc Cert.WdownRefIdeal.main_v23) = v0 c
          ∧ r.2.mem ((c.tc : Thread Cert.WdownRefIdeal.nD Cert.WdownRefIdeal.τ).loc Cert.WdownRefIdeal.main_arg0) = m' ((c.tc : Thread Cert.WdownRefIdeal.nD Cert.WdownRefIdeal.τ).loc Cert.WdownRefIdeal.main_arg0)
          ∧ r.2.mem ((c.tc : Thread Cert.WdownRefIdeal.nD Cert.WdownRefIdeal.τ).loc Cert.WdownRefIdeal.main_arg1) = m' ((c.tc : Thread Cert.WdownRefIdeal.nD Cert.WdownRefIdeal.τ).loc Cert.WdownRefIdeal.main_arg1)
          ∧ r.2.mem ((c.tc : Thread Cert.WdownRefIdeal.nD Cert.WdownRefIdeal.τ).loc Cert.WdownRefIdeal.main_arg2) = m' ((c.tc : Thread Cert.WdownRefIdeal.nD Cert.WdownRefIdeal.τ).loc Cert.WdownRefIdeal.main_arg2)
          ∧ r.2.mem ((c.tc : Thread Cert.WdownRefIdeal.nD Cert.WdownRefIdeal.τ).loc Cert.WdownRefIdeal.main_arg3) = m' ((c.tc : Thread Cert.WdownRefIdeal.nD Cert.WdownRefIdeal.τ).loc Cert.WdownRefIdeal.main_arg3))

def preserves_Win_WinIdeal : Prop :=
  True

def algebraic_WinIdeal_WinRefIdeal [hWinIdeal : Cert.WinIdeal.Facts] [hWinRefIdeal : Cert.WinRefIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)
      ∧ m' ((c.tc : Thread Cert.WinRefIdeal.nD Cert.WinRefIdeal.τ).loc Cert.WinRefIdeal.main_arg2) = m ((c.tc : Thread Cert.WinIdeal.nD Cert.WinIdeal.τ).loc Cert.WinIdeal.main_arg2)
      ∧ m' ((c.tc : Thread Cert.WinRefIdeal.nD Cert.WinRefIdeal.τ).loc Cert.WinRefIdeal.main_arg3) = m ((c.tc : Thread Cert.WinIdeal.nD Cert.WinIdeal.τ).loc Cert.WinIdeal.main_arg3)
      ∧ m' ((c.tc : Thread Cert.WinRefIdeal.nD Cert.WinRefIdeal.τ).loc Cert.WinRefIdeal.main_arg4) = m ((c.tc : Thread Cert.WinIdeal.nD Cert.WinIdeal.τ).loc Cert.WinIdeal.main_arg4)
      ∧ m' ((c.tc : Thread Cert.WinRefIdeal.nD Cert.WinRefIdeal.τ).loc Cert.WinRefIdeal.main_arg5) = m ((c.tc : Thread Cert.WinIdeal.nD Cert.WinIdeal.τ).loc Cert.WinIdeal.main_arg5)) →
    ∃ (v0 : (c : Dev Cert.WinIdeal.nD) → Buf (Elt Ideal) ((c.tc : Thread Cert.WinIdeal.nD Cert.WinIdeal.τ).loc Cert.WinIdeal.main_v90)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v90) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
          ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
          ∧ r.2.mem ((c.tc : Thread Cert.WinIdeal.nD Cert.WinIdeal.τ).loc Cert.WinIdeal.main_arg3) = m ((c.tc : Thread Cert.WinIdeal.nD Cert.WinIdeal.τ).loc Cert.WinIdeal.main_arg3)
          ∧ r.2.mem ((c.tc : Thread Cert.WinIdeal.nD Cert.WinIdeal.τ).loc Cert.WinIdeal.main_arg4) = m ((c.tc : Thread Cert.WinIdeal.nD Cert.WinIdeal.τ).loc Cert.WinIdeal.main_arg4)
          ∧ r.2.mem ((c.tc : Thread Cert.WinIdeal.nD Cert.WinIdeal.τ).loc Cert.WinIdeal.main_arg5) = m ((c.tc : Thread Cert.WinIdeal.nD Cert.WinIdeal.τ).loc Cert.WinIdeal.main_arg5))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v157) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1)
          ∧ r.2.mem ((c.tc : Thread Cert.WinRefIdeal.nD Cert.WinRefIdeal.τ).loc Cert.WinRefIdeal.main_arg2) = m' ((c.tc : Thread Cert.WinRefIdeal.nD Cert.WinRefIdeal.τ).loc Cert.WinRefIdeal.main_arg2)
          ∧ r.2.mem ((c.tc : Thread Cert.WinRefIdeal.nD Cert.WinRefIdeal.τ).loc Cert.WinRefIdeal.main_arg3) = m' ((c.tc : Thread Cert.WinRefIdeal.nD Cert.WinRefIdeal.τ).loc Cert.WinRefIdeal.main_arg3)
          ∧ r.2.mem ((c.tc : Thread Cert.WinRefIdeal.nD Cert.WinRefIdeal.τ).loc Cert.WinRefIdeal.main_arg4) = m' ((c.tc : Thread Cert.WinRefIdeal.nD Cert.WinRefIdeal.τ).loc Cert.WinRefIdeal.main_arg4)
          ∧ r.2.mem ((c.tc : Thread Cert.WinRefIdeal.nD Cert.WinRefIdeal.τ).loc Cert.WinRefIdeal.main_arg5) = m' ((c.tc : Thread Cert.WinRefIdeal.nD Cert.WinRefIdeal.τ).loc Cert.WinRefIdeal.main_arg5))

def preserves_Inp_InpIdeal : Prop :=
  True

def algebraic_InpIdeal_InpRefIdeal_pre_finite_inp [hInpIdeal : Cert.InpIdeal.Facts] [hInpRefIdeal : Cert.InpRefIdeal.Facts] [hPre_finite_inp : Cert.Pre_finite_inp.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal_finite_inp m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)
      ∧ m' ((c.tc : Thread Cert.InpRefIdeal.nD Cert.InpRefIdeal.τ).loc Cert.InpRefIdeal.main_arg4) = m ((c.tc : Thread Cert.InpIdeal.nD Cert.InpIdeal.τ).loc Cert.InpIdeal.main_arg4)
      ∧ m' ((c.tc : Thread Cert.InpRefIdeal.nD Cert.InpRefIdeal.τ).loc Cert.InpRefIdeal.main_arg5) = m ((c.tc : Thread Cert.InpIdeal.nD Cert.InpIdeal.τ).loc Cert.InpIdeal.main_arg5)
      ∧ m' ((c.tc : Thread Cert.InpRefIdeal.nD Cert.InpRefIdeal.τ).loc Cert.InpRefIdeal.main_arg6) = m ((c.tc : Thread Cert.InpIdeal.nD Cert.InpIdeal.τ).loc Cert.InpIdeal.main_arg6)
      ∧ m' ((c.tc : Thread Cert.InpRefIdeal.nD Cert.InpRefIdeal.τ).loc Cert.InpRefIdeal.main_arg7) = m ((c.tc : Thread Cert.InpIdeal.nD Cert.InpIdeal.τ).loc Cert.InpIdeal.main_arg7)) →
    ∃ (v0 : (c : Dev Cert.InpIdeal.nD) → Buf (Elt Ideal) ((c.tc : Thread Cert.InpIdeal.nD Cert.InpIdeal.τ).loc Cert.InpIdeal.main_v79_0)) (v1 : (c : Dev Cert.InpIdeal.nD) → Buf (Elt Ideal) ((c.tc : Thread Cert.InpIdeal.nD Cert.InpIdeal.τ).loc Cert.InpIdeal.main_v79_1)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v79_0) = v0 c
          ∧ r.2.mem ((c.tc : Thread Cert.InpIdeal.nD Cert.InpIdeal.τ).loc Cert.InpIdeal.main_v79_1) = v1 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
          ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
          ∧ r.2.mem ((c.tc : Thread Cert.InpIdeal.nD Cert.InpIdeal.τ).loc Cert.InpIdeal.main_arg6) = m ((c.tc : Thread Cert.InpIdeal.nD Cert.InpIdeal.τ).loc Cert.InpIdeal.main_arg6)
          ∧ r.2.mem ((c.tc : Thread Cert.InpIdeal.nD Cert.InpIdeal.τ).loc Cert.InpIdeal.main_arg7) = m ((c.tc : Thread Cert.InpIdeal.nD Cert.InpIdeal.τ).loc Cert.InpIdeal.main_arg7))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v176) = v0 c
          ∧ r.2.mem ((c.tc : Thread Cert.InpRefIdeal.nD Cert.InpRefIdeal.τ).loc Cert.InpRefIdeal.main_v177) = v1 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3)
          ∧ r.2.mem ((c.tc : Thread Cert.InpRefIdeal.nD Cert.InpRefIdeal.τ).loc Cert.InpRefIdeal.main_arg4) = m' ((c.tc : Thread Cert.InpRefIdeal.nD Cert.InpRefIdeal.τ).loc Cert.InpRefIdeal.main_arg4)
          ∧ r.2.mem ((c.tc : Thread Cert.InpRefIdeal.nD Cert.InpRefIdeal.τ).loc Cert.InpRefIdeal.main_arg5) = m' ((c.tc : Thread Cert.InpRefIdeal.nD Cert.InpRefIdeal.τ).loc Cert.InpRefIdeal.main_arg5)
          ∧ r.2.mem ((c.tc : Thread Cert.InpRefIdeal.nD Cert.InpRefIdeal.τ).loc Cert.InpRefIdeal.main_arg6) = m' ((c.tc : Thread Cert.InpRefIdeal.nD Cert.InpRefIdeal.τ).loc Cert.InpRefIdeal.main_arg6)
          ∧ r.2.mem ((c.tc : Thread Cert.InpRefIdeal.nD Cert.InpRefIdeal.τ).loc Cert.InpRefIdeal.main_arg7) = m' ((c.tc : Thread Cert.InpRefIdeal.nD Cert.InpRefIdeal.τ).loc Cert.InpRefIdeal.main_arg7))

def preserves_Attn_AttnIdeal : Prop :=
  IdealRules.named_const.Statement Cert.AttnIdeal.κ "mask" .f32 0xF149F2CA#32 ⊥

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v1_0)) (v1 : (c : Dev Cert.AttnIdeal.nD) → Buf (Elt Ideal) ((c.tc : Thread Cert.AttnIdeal.nD Cert.AttnIdeal.τ).loc Cert.AttnIdeal.main_v1_1)) (v2 : (c : Dev Cert.AttnIdeal.nD) → Buf (Elt Ideal) ((c.tc : Thread Cert.AttnIdeal.nD Cert.AttnIdeal.τ).loc Cert.AttnIdeal.main_v1_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v1_0) = v0 c
          ∧ r.2.mem ((c.tc : Thread Cert.AttnIdeal.nD Cert.AttnIdeal.τ).loc Cert.AttnIdeal.main_v1_1) = v1 c
          ∧ r.2.mem ((c.tc : Thread Cert.AttnIdeal.nD Cert.AttnIdeal.τ).loc Cert.AttnIdeal.main_v1_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v265) = v0 c
          ∧ r.2.mem ((c.tc : Thread Cert.AttnRefIdeal.nD Cert.AttnRefIdeal.τ).loc Cert.AttnRefIdeal.main_v269) = v1 c
          ∧ r.2.mem ((c.tc : Thread Cert.AttnRefIdeal.nD Cert.AttnRefIdeal.τ).loc Cert.AttnRefIdeal.main_v273) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Outp_OutpIdeal : Prop :=
  True

def algebraic_OutpIdeal_OutpRefIdeal [hOutpIdeal : Cert.OutpIdeal.Facts] [hOutpRefIdeal : Cert.OutpRefIdeal.Facts] : Prop :=
  ∀ (m : (ℓ : Loc Cert.OutpIdeal.nD Cert.OutpIdeal.τ Cert.OutpIdeal.sig) → Buf (Elt Ideal) ℓ) (g : Dev Cert.OutpIdeal.nD → PrngReg)
    (m' : (ℓ : Loc Cert.OutpRefIdeal.nD Cert.OutpRefIdeal.τ Cert.OutpRefIdeal.sig) → Buf (Elt Ideal) ℓ) (g' : Dev Cert.OutpRefIdeal.nD → PrngReg), Pre_OutpIdeal m →
    (∀ c : Dev Cert.OutpIdeal.nD,
      m' ((c.tc : Thread Cert.OutpRefIdeal.nD Cert.OutpRefIdeal.τ).loc Cert.OutpRefIdeal.main_arg0) = m ((c.tc : Thread Cert.OutpIdeal.nD Cert.OutpIdeal.τ).loc Cert.OutpIdeal.main_arg0)
      ∧ m' ((c.tc : Thread Cert.OutpRefIdeal.nD Cert.OutpRefIdeal.τ).loc Cert.OutpRefIdeal.main_arg1) = m ((c.tc : Thread Cert.OutpIdeal.nD Cert.OutpIdeal.τ).loc Cert.OutpIdeal.main_arg1)
      ∧ m' ((c.tc : Thread Cert.OutpRefIdeal.nD Cert.OutpRefIdeal.τ).loc Cert.OutpRefIdeal.main_arg2) = m ((c.tc : Thread Cert.OutpIdeal.nD Cert.OutpIdeal.τ).loc Cert.OutpIdeal.main_arg2)
      ∧ m' ((c.tc : Thread Cert.OutpRefIdeal.nD Cert.OutpRefIdeal.τ).loc Cert.OutpRefIdeal.main_arg3) = m ((c.tc : Thread Cert.OutpIdeal.nD Cert.OutpIdeal.τ).loc Cert.OutpIdeal.main_arg3)
      ∧ m' ((c.tc : Thread Cert.OutpRefIdeal.nD Cert.OutpRefIdeal.τ).loc Cert.OutpRefIdeal.main_arg4) = m ((c.tc : Thread Cert.OutpIdeal.nD Cert.OutpIdeal.τ).loc Cert.OutpIdeal.main_arg4)) →
    ∃ (v0 : (c : Dev Cert.OutpIdeal.nD) → Buf (Elt Ideal) ((c.tc : Thread Cert.OutpIdeal.nD Cert.OutpIdeal.τ).loc Cert.OutpIdeal.main_v2_0)) (v1 : (c : Dev Cert.OutpIdeal.nD) → Buf (Elt Ideal) ((c.tc : Thread Cert.OutpIdeal.nD Cert.OutpIdeal.τ).loc Cert.OutpIdeal.main_v2_1)),
      θ_run (Cert.OutpIdeal.defs (F := Ideal)) (onTc (τ := Cert.OutpIdeal.τ) (Cert.OutpIdeal.main (F := Ideal))) ⟨m, fun _ => 0, g⟩ (fun r => ∀ c : Dev Cert.OutpIdeal.nD,
          r.2.mem ((c.tc : Thread Cert.OutpIdeal.nD Cert.OutpIdeal.τ).loc Cert.OutpIdeal.main_v2_0) = v0 c
          ∧ r.2.mem ((c.tc : Thread Cert.OutpIdeal.nD Cert.OutpIdeal.τ).loc Cert.OutpIdeal.main_v2_1) = v1 c
          ∧ r.2.mem ((c.tc : Thread Cert.OutpIdeal.nD Cert.OutpIdeal.τ).loc Cert.OutpIdeal.main_arg0) = m ((c.tc : Thread Cert.OutpIdeal.nD Cert.OutpIdeal.τ).loc Cert.OutpIdeal.main_arg0)
          ∧ r.2.mem ((c.tc : Thread Cert.OutpIdeal.nD Cert.OutpIdeal.τ).loc Cert.OutpIdeal.main_arg1) = m ((c.tc : Thread Cert.OutpIdeal.nD Cert.OutpIdeal.τ).loc Cert.OutpIdeal.main_arg1)
          ∧ r.2.mem ((c.tc : Thread Cert.OutpIdeal.nD Cert.OutpIdeal.τ).loc Cert.OutpIdeal.main_arg2) = m ((c.tc : Thread Cert.OutpIdeal.nD Cert.OutpIdeal.τ).loc Cert.OutpIdeal.main_arg2)
          ∧ r.2.mem ((c.tc : Thread Cert.OutpIdeal.nD Cert.OutpIdeal.τ).loc Cert.OutpIdeal.main_arg3) = m ((c.tc : Thread Cert.OutpIdeal.nD Cert.OutpIdeal.τ).loc Cert.OutpIdeal.main_arg3)
          ∧ r.2.mem ((c.tc : Thread Cert.OutpIdeal.nD Cert.OutpIdeal.τ).loc Cert.OutpIdeal.main_arg4) = m ((c.tc : Thread Cert.OutpIdeal.nD Cert.OutpIdeal.τ).loc Cert.OutpIdeal.main_arg4))
      ∧ θ_run (Cert.OutpRefIdeal.defs (F := Ideal)) (onTc (τ := Cert.OutpRefIdeal.τ) (Cert.OutpRefIdeal.main (F := Ideal))) ⟨m', fun _ => 0, g'⟩ (fun r => ∀ c : Dev Cert.OutpRefIdeal.nD,
          r.2.mem ((c.tc : Thread Cert.OutpRefIdeal.nD Cert.OutpRefIdeal.τ).loc Cert.OutpRefIdeal.main_v2) = v0 c
          ∧ r.2.mem ((c.tc : Thread Cert.OutpRefIdeal.nD Cert.OutpRefIdeal.τ).loc Cert.OutpRefIdeal.main_v16) = v1 c
          ∧ r.2.mem ((c.tc : Thread Cert.OutpRefIdeal.nD Cert.OutpRefIdeal.τ).loc Cert.OutpRefIdeal.main_arg0) = m' ((c.tc : Thread Cert.OutpRefIdeal.nD Cert.OutpRefIdeal.τ).loc Cert.OutpRefIdeal.main_arg0)
          ∧ r.2.mem ((c.tc : Thread Cert.OutpRefIdeal.nD Cert.OutpRefIdeal.τ).loc Cert.OutpRefIdeal.main_arg1) = m' ((c.tc : Thread Cert.OutpRefIdeal.nD Cert.OutpRefIdeal.τ).loc Cert.OutpRefIdeal.main_arg1)
          ∧ r.2.mem ((c.tc : Thread Cert.OutpRefIdeal.nD Cert.OutpRefIdeal.τ).loc Cert.OutpRefIdeal.main_arg2) = m' ((c.tc : Thread Cert.OutpRefIdeal.nD Cert.OutpRefIdeal.τ).loc Cert.OutpRefIdeal.main_arg2)
          ∧ r.2.mem ((c.tc : Thread Cert.OutpRefIdeal.nD Cert.OutpRefIdeal.τ).loc Cert.OutpRefIdeal.main_arg3) = m' ((c.tc : Thread Cert.OutpRefIdeal.nD Cert.OutpRefIdeal.τ).loc Cert.OutpRefIdeal.main_arg3)
          ∧ r.2.mem ((c.tc : Thread Cert.OutpRefIdeal.nD Cert.OutpRefIdeal.τ).loc Cert.OutpRefIdeal.main_arg4) = m' ((c.tc : Thread Cert.OutpRefIdeal.nD Cert.OutpRefIdeal.τ).loc Cert.OutpRefIdeal.main_arg4))

def preserves_Mlpf_MlpfIdeal : Prop :=
  True

def algebraic_MlpfIdeal_MlpfRefIdeal [hMlpfIdeal : Cert.MlpfIdeal.Facts] [hMlpfRefIdeal : Cert.MlpfRefIdeal.Facts] : Prop :=
  ∀ (m : (ℓ : Loc Cert.MlpfIdeal.nD Cert.MlpfIdeal.τ Cert.MlpfIdeal.sig) → Buf (Elt Ideal) ℓ) (g : Dev Cert.MlpfIdeal.nD → PrngReg)
    (m' : (ℓ : Loc Cert.MlpfRefIdeal.nD Cert.MlpfRefIdeal.τ Cert.MlpfRefIdeal.sig) → Buf (Elt Ideal) ℓ) (g' : Dev Cert.MlpfRefIdeal.nD → PrngReg), Pre_MlpfIdeal m →
    (∀ c : Dev Cert.MlpfIdeal.nD,
      m' ((c.tc : Thread Cert.MlpfRefIdeal.nD Cert.MlpfRefIdeal.τ).loc Cert.MlpfRefIdeal.main_arg0) = m ((c.tc : Thread Cert.MlpfIdeal.nD Cert.MlpfIdeal.τ).loc Cert.MlpfIdeal.main_arg0)
      ∧ m' ((c.tc : Thread Cert.MlpfRefIdeal.nD Cert.MlpfRefIdeal.τ).loc Cert.MlpfRefIdeal.main_arg1) = m ((c.tc : Thread Cert.MlpfIdeal.nD Cert.MlpfIdeal.τ).loc Cert.MlpfIdeal.main_arg1)
      ∧ m' ((c.tc : Thread Cert.MlpfRefIdeal.nD Cert.MlpfRefIdeal.τ).loc Cert.MlpfRefIdeal.main_arg2) = m ((c.tc : Thread Cert.MlpfIdeal.nD Cert.MlpfIdeal.τ).loc Cert.MlpfIdeal.main_arg2)
      ∧ m' ((c.tc : Thread Cert.MlpfRefIdeal.nD Cert.MlpfRefIdeal.τ).loc Cert.MlpfRefIdeal.main_arg3) = m ((c.tc : Thread Cert.MlpfIdeal.nD Cert.MlpfIdeal.τ).loc Cert.MlpfIdeal.main_arg3)) →
    ∃ (v0 : (c : Dev Cert.MlpfIdeal.nD) → Buf (Elt Ideal) ((c.tc : Thread Cert.MlpfIdeal.nD Cert.MlpfIdeal.τ).loc Cert.MlpfIdeal.main_v23_0)) (v1 : (c : Dev Cert.MlpfIdeal.nD) → Buf (Elt Ideal) ((c.tc : Thread Cert.MlpfIdeal.nD Cert.MlpfIdeal.τ).loc Cert.MlpfIdeal.main_v23_1)),
      θ_run (Cert.MlpfIdeal.defs (F := Ideal)) (onTc (τ := Cert.MlpfIdeal.τ) (Cert.MlpfIdeal.main (F := Ideal))) ⟨m, fun _ => 0, g⟩ (fun r => ∀ c : Dev Cert.MlpfIdeal.nD,
          r.2.mem ((c.tc : Thread Cert.MlpfIdeal.nD Cert.MlpfIdeal.τ).loc Cert.MlpfIdeal.main_v23_0) = v0 c
          ∧ r.2.mem ((c.tc : Thread Cert.MlpfIdeal.nD Cert.MlpfIdeal.τ).loc Cert.MlpfIdeal.main_v23_1) = v1 c
          ∧ r.2.mem ((c.tc : Thread Cert.MlpfIdeal.nD Cert.MlpfIdeal.τ).loc Cert.MlpfIdeal.main_arg0) = m ((c.tc : Thread Cert.MlpfIdeal.nD Cert.MlpfIdeal.τ).loc Cert.MlpfIdeal.main_arg0)
          ∧ r.2.mem ((c.tc : Thread Cert.MlpfIdeal.nD Cert.MlpfIdeal.τ).loc Cert.MlpfIdeal.main_arg1) = m ((c.tc : Thread Cert.MlpfIdeal.nD Cert.MlpfIdeal.τ).loc Cert.MlpfIdeal.main_arg1)
          ∧ r.2.mem ((c.tc : Thread Cert.MlpfIdeal.nD Cert.MlpfIdeal.τ).loc Cert.MlpfIdeal.main_arg2) = m ((c.tc : Thread Cert.MlpfIdeal.nD Cert.MlpfIdeal.τ).loc Cert.MlpfIdeal.main_arg2)
          ∧ r.2.mem ((c.tc : Thread Cert.MlpfIdeal.nD Cert.MlpfIdeal.τ).loc Cert.MlpfIdeal.main_arg3) = m ((c.tc : Thread Cert.MlpfIdeal.nD Cert.MlpfIdeal.τ).loc Cert.MlpfIdeal.main_arg3))
      ∧ θ_run (Cert.MlpfRefIdeal.defs (F := Ideal)) (onTc (τ := Cert.MlpfRefIdeal.τ) (Cert.MlpfRefIdeal.main (F := Ideal))) ⟨m', fun _ => 0, g'⟩ (fun r => ∀ c : Dev Cert.MlpfRefIdeal.nD,
          r.2.mem ((c.tc : Thread Cert.MlpfRefIdeal.nD Cert.MlpfRefIdeal.τ).loc Cert.MlpfRefIdeal.main_v14) = v0 c
          ∧ r.2.mem ((c.tc : Thread Cert.MlpfRefIdeal.nD Cert.MlpfRefIdeal.τ).loc Cert.MlpfRefIdeal.main_v18) = v1 c
          ∧ r.2.mem ((c.tc : Thread Cert.MlpfRefIdeal.nD Cert.MlpfRefIdeal.τ).loc Cert.MlpfRefIdeal.main_arg0) = m' ((c.tc : Thread Cert.MlpfRefIdeal.nD Cert.MlpfRefIdeal.τ).loc Cert.MlpfRefIdeal.main_arg0)
          ∧ r.2.mem ((c.tc : Thread Cert.MlpfRefIdeal.nD Cert.MlpfRefIdeal.τ).loc Cert.MlpfRefIdeal.main_arg1) = m' ((c.tc : Thread Cert.MlpfRefIdeal.nD Cert.MlpfRefIdeal.τ).loc Cert.MlpfRefIdeal.main_arg1)
          ∧ r.2.mem ((c.tc : Thread Cert.MlpfRefIdeal.nD Cert.MlpfRefIdeal.τ).loc Cert.MlpfRefIdeal.main_arg2) = m' ((c.tc : Thread Cert.MlpfRefIdeal.nD Cert.MlpfRefIdeal.τ).loc Cert.MlpfRefIdeal.main_arg2)
          ∧ r.2.mem ((c.tc : Thread Cert.MlpfRefIdeal.nD Cert.MlpfRefIdeal.τ).loc Cert.MlpfRefIdeal.main_arg3) = m' ((c.tc : Thread Cert.MlpfRefIdeal.nD Cert.MlpfRefIdeal.τ).loc Cert.MlpfRefIdeal.main_arg3))

def Claim : Prop :=
  ∃ (hPle : Cert.Ple.Facts) (hPleIdeal : Cert.PleIdeal.Facts) (hPleRefIdeal : Cert.PleRefIdeal.Facts) (hMlp : Cert.Mlp.Facts) (hMlpIdeal : Cert.MlpIdeal.Facts) (hMlpRefIdeal : Cert.MlpRefIdeal.Facts) (hWdown : Cert.Wdown.Facts) (hWdownIdeal : Cert.WdownIdeal.Facts) (hWdownRefIdeal : Cert.WdownRefIdeal.Facts) (hWin : Cert.Win.Facts) (hWinIdeal : Cert.WinIdeal.Facts) (hWinRefIdeal : Cert.WinRefIdeal.Facts) (hInp : Cert.Inp.Facts) (hInpIdeal : Cert.InpIdeal.Facts) (hInpRefIdeal : Cert.InpRefIdeal.Facts) (hAttn : Cert.Attn.Facts) (hAttnIdeal : Cert.AttnIdeal.Facts) (hAttnRefIdeal : Cert.AttnRefIdeal.Facts) (hOutp : Cert.Outp.Facts) (hOutpIdeal : Cert.OutpIdeal.Facts) (hOutpRefIdeal : Cert.OutpRefIdeal.Facts) (hMlpf : Cert.Mlpf.Facts) (hMlpfIdeal : Cert.MlpfIdeal.Facts) (hMlpfRefIdeal : Cert.MlpfRefIdeal.Facts) (hPre_finite : Cert.Pre_finite.Facts) (hPre_finite_mlp : Cert.Pre_finite_mlp.Facts) (hPre_finite_inp : Cert.Pre_finite_inp.Facts),
    quiescent_Ple (hPle := hPle)
    ∧ quiescent_PleIdeal (hPleIdeal := hPleIdeal)
    ∧ quiescent_PleIdeal_pre_finite (hPleIdeal := hPleIdeal) (hPre_finite := hPre_finite)
    ∧ quiescent_PleRefIdeal (hPleRefIdeal := hPleRefIdeal)
    ∧ quiescent_PleRefIdeal_pre_finite (hPleRefIdeal := hPleRefIdeal) (hPre_finite := hPre_finite)
    ∧ quiescent_Mlp (hMlp := hMlp)
    ∧ quiescent_MlpIdeal (hMlpIdeal := hMlpIdeal)
    ∧ quiescent_MlpIdeal_pre_finite_mlp (hMlpIdeal := hMlpIdeal) (hPre_finite_mlp := hPre_finite_mlp)
    ∧ quiescent_MlpRefIdeal (hMlpRefIdeal := hMlpRefIdeal)
    ∧ quiescent_MlpRefIdeal_pre_finite_mlp (hMlpRefIdeal := hMlpRefIdeal) (hPre_finite_mlp := hPre_finite_mlp)
    ∧ quiescent_Wdown (hWdown := hWdown)
    ∧ quiescent_WdownIdeal (hWdownIdeal := hWdownIdeal)
    ∧ quiescent_WdownRefIdeal (hWdownRefIdeal := hWdownRefIdeal)
    ∧ quiescent_Win (hWin := hWin)
    ∧ quiescent_WinIdeal (hWinIdeal := hWinIdeal)
    ∧ quiescent_WinRefIdeal (hWinRefIdeal := hWinRefIdeal)
    ∧ quiescent_Inp (hInp := hInp)
    ∧ quiescent_InpIdeal (hInpIdeal := hInpIdeal)
    ∧ quiescent_InpIdeal_pre_finite_inp (hInpIdeal := hInpIdeal) (hPre_finite_inp := hPre_finite_inp)
    ∧ quiescent_InpRefIdeal (hInpRefIdeal := hInpRefIdeal)
    ∧ quiescent_InpRefIdeal_pre_finite_inp (hInpRefIdeal := hInpRefIdeal) (hPre_finite_inp := hPre_finite_inp)
    ∧ quiescent_Attn (hAttn := hAttn)
    ∧ quiescent_AttnIdeal (hAttnIdeal := hAttnIdeal)
    ∧ quiescent_AttnRefIdeal (hAttnRefIdeal := hAttnRefIdeal)
    ∧ quiescent_Outp (hOutp := hOutp)
    ∧ quiescent_OutpIdeal (hOutpIdeal := hOutpIdeal)
    ∧ quiescent_OutpRefIdeal (hOutpRefIdeal := hOutpRefIdeal)
    ∧ quiescent_Mlpf (hMlpf := hMlpf)
    ∧ quiescent_MlpfIdeal (hMlpfIdeal := hMlpfIdeal)
    ∧ quiescent_MlpfRefIdeal (hMlpfRefIdeal := hMlpfRefIdeal)
    ∧ preserves_Ple_PleIdeal
    ∧ algebraic_PleIdeal_PleRefIdeal_pre_finite (hPleIdeal := hPleIdeal) (hPleRefIdeal := hPleRefIdeal) (hPre_finite := hPre_finite)
    ∧ preserves_Mlp_MlpIdeal
    ∧ algebraic_MlpIdeal_MlpRefIdeal_pre_finite_mlp (hMlpIdeal := hMlpIdeal) (hMlpRefIdeal := hMlpRefIdeal) (hPre_finite_mlp := hPre_finite_mlp)
    ∧ preserves_Wdown_WdownIdeal
    ∧ algebraic_WdownIdeal_WdownRefIdeal (hWdownIdeal := hWdownIdeal) (hWdownRefIdeal := hWdownRefIdeal)
    ∧ preserves_Win_WinIdeal
    ∧ algebraic_WinIdeal_WinRefIdeal (hWinIdeal := hWinIdeal) (hWinRefIdeal := hWinRefIdeal)
    ∧ preserves_Inp_InpIdeal
    ∧ algebraic_InpIdeal_InpRefIdeal_pre_finite_inp (hInpIdeal := hInpIdeal) (hInpRefIdeal := hInpRefIdeal) (hPre_finite_inp := hPre_finite_inp)
    ∧ preserves_Attn_AttnIdeal
    ∧ algebraic_AttnIdeal_AttnRefIdeal (hAttnIdeal := hAttnIdeal) (hAttnRefIdeal := hAttnRefIdeal)
    ∧ preserves_Outp_OutpIdeal
    ∧ algebraic_OutpIdeal_OutpRefIdeal (hOutpIdeal := hOutpIdeal) (hOutpRefIdeal := hOutpRefIdeal)
    ∧ preserves_Mlpf_MlpfIdeal
    ∧ algebraic_MlpfIdeal_MlpfRefIdeal (hMlpfIdeal := hMlpfIdeal) (hMlpfRefIdeal := hMlpfRefIdeal)
-- ==== Pre_finite.lean ====
abbrev S4096x1024 : Shape := ⟨2, ![4096, 1024]⟩
abbrev S4096x256 : Shape := ⟨2, ![4096, 256]⟩
abbrev S1024x1024 : Shape := ⟨2, ![1024, 1024]⟩
abbrev S256x1024 : Shape := ⟨2, ![256, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S4096x256 : S_.BroadcastsInDim S4096x256 (![] : Fin 0 → Fin S4096x256.rank)
  bcast_S_S1024x1024 : S_.BroadcastsInDim S1024x1024 (![] : Fin 0 → Fin S1024x1024.rank)
  bcast_S_S256x1024 : S_.BroadcastsInDim S256x1024 (![] : Fin 0 → Fin S256x1024.rank)
  bcast_S_S1024 : S_.BroadcastsInDim S1024 (![] : Fin 0 → Fin S1024.rank)

variable [Facts]

def fn_part1 {F : FTy → Type} [FloatOps F] (main_arg6 : FVec F S1024 .f32) (main_v2 : IVec S4096x1024 1) (main_v5 : IVec S4096x256 1) (main_v8 : IVec S4096x1024 1) (main_v11 : IVec S1024x1024 1) (main_v14 : IVec S256x1024 1) (main_v17 : IVec S1024 1) : IVec S4096x1024 1 × IVec S4096x256 1 × IVec S4096x1024 1 × IVec S1024x1024 1 × IVec S256x1024 1 × IVec S1024 1 × IVec S1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  (main_v2, main_v5, main_v8, main_v11, main_v14, main_v17, main_v20)

def fn {F : FTy → Type} [FloatOps F] (main_arg0 : FVec F S4096x1024 .f32) (main_arg1 : FVec F S4096x256 .f32) (main_arg2 : FVec F S4096x1024 .f32) (main_arg3 : FVec F S1024x1024 .f32) (main_arg4 : FVec F S256x1024 .f32) (main_arg5 : FVec F S1024 .f32) (main_arg6 : FVec F S1024 .f32) : IVec S4096x1024 1 × IVec S4096x256 1 × IVec S4096x1024 1 × IVec S1024x1024 1 × IVec S256x1024 1 × IVec S1024 1 × IVec S1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x256 .f32 := Host.absf main_arg1
  let main_cst_0 : FVec F S_ .f32 := constant S_ .f32 0x7F800000#32
  let main_v4 : FVec F S4096x256 .f32 := broadcastInDim S4096x256 ![] bcast_S_S4096x256 main_cst_0
  let main_v5 : IVec S4096x256 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S256x1024 .f32 := Host.absf main_arg4
  let main_cst_3 : FVec F S_ .f32 := constant S_ .f32 0x7F800000#32
  let main_v13 : FVec F S256x1024 .f32 := broadcastInDim S256x1024 ![] bcast_S_S256x1024 main_cst_3
  let main_v14 : IVec S256x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_v2 main_v5 main_v8 main_v11 main_v14 main_v17
-- ==== Pre_finite_inp.lean ====
abbrev S4096x1024 : Shape := ⟨2, ![4096, 1024]⟩
abbrev S1024 : Shape := ⟨1, ![1024]⟩
abbrev S1024x3592 : Shape := ⟨2, ![1024, 3592]⟩
abbrev S4096x512 : Shape := ⟨2, ![4096, 512]⟩
abbrev S4096x2056 : Shape := ⟨2, ![4096, 2056]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x3592 : S_.BroadcastsInDim S1024x3592 (![] : Fin 0 → Fin S1024x3592.rank)
  bcast_S_S4096x512 : S_.BroadcastsInDim S4096x512 (![] : Fin 0 → Fin S4096x512.rank)
  bcast_S_S4096x2056 : S_.BroadcastsInDim S4096x2056 (![] : Fin 0 → Fin S4096x2056.rank)

variable [Facts]

def fn_part1 {F : FTy → Type} [FloatOps F] (main_arg6 : FVec F S4096x512 .f32) (main_arg7 : FVec F S4096x2056 .f32) (main_v2 : IVec S4096x1024 1) (main_v5 : IVec S1024 1) (main_v8 : IVec S1024x3592 1) (main_v11 : IVec S4096x1024 1) (main_v14 : IVec S4096x512 1) (main_v17 : IVec S4096x512 1) : IVec S4096x1024 1 × IVec S1024 1 × IVec S1024x3592 1 × IVec S4096x1024 1 × IVec S4096x512 1 × IVec S4096x512 1 × IVec S4096x512 1 × IVec S4096x2056 1 :=
  let main_v18 : FVec F S4096x512 .f32 := Host.absf main_arg6
  let main_cst_5 : FVec F S_ .f32 := constant S_ .f32 0x7F800000#32
  let main_v19 : FVec F S4096x512 .f32 := broadcastInDim S4096x512 ![] bcast_S_S4096x512 main_cst_5
  let main_v20 : IVec S4096x512 1 := cmpf .olt main_v18 main_v19
  let main_v21 : FVec F S4096x2056 .f32 := Host.absf main_arg7
  let main_cst_6 : FVec F S_ .f32 := constant S_ .f32 0x7F800000#32
  let main_v22 : FVec F S4096x2056 .f32 := broadcastInDim S4096x2056 ![] bcast_S_S4096x2056 main_cst_6
  let main_v23 : IVec S4096x2056 1 := cmpf .olt main_v21 main_v22
  (main_v2, main_v5, main_v8, main_v11, main_v14, main_v17, main_v20, main_v23)

def fn {F : FTy → Type} [FloatOps F] (main_arg0 : FVec F S4096x1024 .f32) (main_arg1 : FVec F S1024 .f32) (main_arg2 : FVec F S1024x3592 .f32) (main_arg3 : FVec F S4096x1024 .f32) (main_arg4 : FVec F S4096x512 .f32) (main_arg5 : FVec F S4096x512 .f32) (main_arg6 : FVec F S4096x512 .f32) (main_arg7 : FVec F S4096x2056 .f32) : IVec S4096x1024 1 × IVec S1024 1 × IVec S1024x3592 1 × IVec S4096x1024 1 × IVec S4096x512 1 × IVec S4096x512 1 × IVec S4096x512 1 × IVec S4096x2056 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x3592 .f32 := Host.absf main_arg2
  let main_cst_1 : FVec F S_ .f32 := constant S_ .f32 0x7F800000#32
  let main_v7 : FVec F S1024x3592 .f32 := broadcastInDim S1024x3592 ![] bcast_S_S1024x3592 main_cst_1
  let main_v8 : IVec S1024x3592 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S4096x512 .f32 := Host.absf main_arg4
  let main_cst_3 : FVec F S_ .f32 := constant S_ .f32 0x7F800000#32
  let main_v13 : FVec F S4096x512 .f32 := broadcastInDim S4096x512 ![] bcast_S_S4096x512 main_cst_3
  let main_v14 : IVec S4096x512 1 := cmpf .olt main_v12 main_v13
  let main_v15 : FVec F S4096x512 .f32 := Host.absf main_arg5
  let main_cst_4 : FVec F S_ .f32 := constant S_ .f32 0x7F800000#32
  let main_v16 : FVec F S4096x512 .f32 := broadcastInDim S4096x512 ![] bcast_S_S4096x512 main_cst_4
  let main_v17 : IVec S4096x512 1 := cmpf .olt main_v15 main_v16
  fn_part1 (F := F) main_arg6 main_arg7 main_v2 main_v5 main_v8 main_v11 main_v14 main_v17
-- ==== Pre_finite_mlp.lean ====
abbrev S4096x1024 : Shape := ⟨2, ![4096, 1024]⟩
abbrev S1024x4096 : Shape := ⟨2, ![1024, 4096]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024x4096 : S_.BroadcastsInDim S1024x4096 (![] : Fin 0 → Fin S1024x4096.rank)
  bcast_S_S1024 : S_.BroadcastsInDim S1024 (![] : Fin 0 → Fin S1024.rank)

variable [Facts]

def fn {F : FTy → Type} [FloatOps F] (main_arg0 : FVec F S4096x1024 .f32) (main_arg1 : FVec F S1024x4096 .f32) (main_arg2 : FVec F S4096x1024 .f32) (main_arg3 : FVec F S1024 .f32) (main_arg4 : FVec F S4096x1024 .f32) : IVec S4096x1024 1 × IVec S1024x4096 1 × IVec S4096x1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x4096 .f32 := Host.absf main_arg1
  let main_cst_0 : FVec F S_ .f32 := constant S_ .f32 0x7F800000#32
  let main_v4 : FVec F S1024x4096 .f32 := broadcastInDim S1024x4096 ![] bcast_S_S1024x4096 main_cst_0
  let main_v5 : IVec S1024x4096 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Ple.lean ====
abbrev S4096x1024 : Shape := ⟨2, ![4096, 1024]⟩
abbrev S4096x256 : Shape := ⟨2, ![4096, 256]⟩
abbrev S1024x1024 : Shape := ⟨2, ![1024, 1024]⟩
abbrev S256x1024 : Shape := ⟨2, ![256, 1024]⟩
abbrev S1024 : Shape := ⟨1, ![1024]⟩
abbrev S256x8x128 : Shape := ⟨3, ![256, 8, 128]⟩
abbrev S8x256x128 : Shape := ⟨3, ![8, 256, 128]⟩
abbrev S1x1024 : Shape := ⟨2, ![1, 1024]⟩
abbrev S1x1 : Shape := ⟨2, ![1, 1]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x256x128 : Shape := ⟨3, ![1, 256, 128]⟩
abbrev S256x128 : Shape := ⟨2, ![256, 128]⟩
abbrev S512x128 : Shape := ⟨2, ![512, 128]⟩
abbrev S1 : Shape := ⟨1, ![1]⟩

abbrev nBuf : Space → Nat
  | .hbm => 19
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S1024, .f32⟩
  | .hbm, ⟨7, _⟩ => ⟨S256x8x128, .f32⟩
  | .hbm, ⟨8, _⟩ => ⟨S8x256x128, .f32⟩
  | .hbm, ⟨9, _⟩ => ⟨S8x256x128, .bf16⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S4096x1024, .f32⟩
  | .hbm, ⟨14, _⟩ => ⟨S1024x1024, .bf16⟩
  | .hbm, ⟨15, _⟩ => ⟨S8x256x128, .bf16⟩
  | .hbm, ⟨16, _⟩ => ⟨S1x1024, .f32⟩
  | .hbm, ⟨17, _⟩ => ⟨S1x1024, .f32⟩
  | .hbm, ⟨18, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S8x256x128, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1024x1024, .bf16⟩
  | .local _ .vmem, ⟨13, _⟩ => ⟨S8x256x128, .bf16⟩
  | .local _ .vmem, ⟨14, _⟩ => ⟨S1x1024, .f32⟩
  | .local _ .vmem, ⟨15, _⟩ => ⟨S1x1024, .f32⟩
  | .local _ .vmem, ⟨16, _⟩ => ⟨S1x1, .f32⟩
  | .local _ .vmem, ⟨17, _⟩ => ⟨S1024x1024, .f32⟩
  | .local _ .vmem, ⟨18, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev main_v6_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v154 : BitVec 1 := Scalar.cmpi .eq arg0 c7_i32
  let v155 : BitVec 32 := Scalar.extui v154
  let c0_i32_88 : BitVec 32 := 0#32
  let v156 : BitVec 1 := Scalar.cmpi .ne v155 c0_i32_88
  v156

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x256x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== PleRefIdeal.lean ====
abbrev S4096x1024 : Shape := ⟨2, ![4096, 1024]⟩
abbrev S4096x256 : Shape := ⟨2, ![4096, 256]⟩
abbrev S1024x1024 : Shape := ⟨2, ![1024, 1024]⟩
abbrev S256x1024 : Shape := ⟨2, ![256, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x256 : Shape := ⟨2, ![1024, 256]⟩
abbrev S256x8x128 : Shape := ⟨3, ![256, 8, 128]⟩
abbrev S8x256x128 : Shape := ⟨3, ![8, 256, 128]⟩
abbrev S1x1 : Shape := ⟨2, ![1, 1]⟩

abbrev nBuf : Space → Nat
  | .hbm => 152
  | .vmem => 0
  | .smem => 0
  | _ => 0

abbrev hbmTy0_0 (i : Nat) : BufTy := match i % 128 with
  | 0 => ⟨S4096x1024, .f32⟩
  | 1 => ⟨S4096x256, .f32⟩
  | 2 => ⟨S4096x1024, .f32⟩
  | 3 => ⟨S1024x1024, .f32⟩
  | 4 => ⟨S256x1024, .f32⟩
  | 5 => ⟨S1024, .f32⟩
  | 6 => ⟨S1024, .f32⟩
  | 7 => ⟨S4096x1024, .f32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S_, .f32⟩
  | 15 => ⟨S4096x1, .f32⟩
  | 16 => ⟨S4096x1, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x1024, .f32⟩
  | 23 => ⟨S4096x1024, .f32⟩
  | 24 => ⟨S1x1024, .f32⟩
  | 25 => ⟨S4096x1024, .f32⟩
  | 26 => ⟨S4096x1024, .f32⟩
  | 27 => ⟨S4096x1024, .f32⟩
  | 28 => ⟨S4096x1024, .f32⟩
  | 29 => ⟨S4096x1024, .f32⟩
  | 30 => ⟨S_, .f32⟩
  | 31 => ⟨S4096x1024, .f32⟩
  | 32 => ⟨S4096x1024, .f32⟩
  | 33 => ⟨S_, .f32⟩
  | 34 => ⟨S4096x1024, .f32⟩
  | 35 => ⟨S4096x1024, .f32⟩
  | 36 => ⟨S_, .f32⟩
  | 37 => ⟨S4096x1024, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S4096x1024, .f32⟩
  | 44 => ⟨S_, .f32⟩
  | 45 => ⟨S4096, .f32⟩
  | 46 => ⟨S4096x1, .f32⟩
  | 47 => ⟨S_, .f32⟩
  | 48 => ⟨S4096x1, .f32⟩
  | 49 => ⟨S4096x1, .f32⟩
  | 50 => ⟨S_, .f32⟩
  | 51 => ⟨S4096x1, .f32⟩
  | 52 => ⟨S4096x1, .f32⟩
  | 53 => ⟨S4096x1, .f32⟩
  | 54 => ⟨S4096x1, .f32⟩
  | 55 => ⟨S_, .f32⟩
  | 56 => ⟨S4096x1, .f32⟩
  | 57 => ⟨S4096x1, .f32⟩
  | 58 => ⟨S4096x1024, .f32⟩
  | 59 => ⟨S4096x1024, .f32⟩
  | 60 => ⟨S1x1024, .f32⟩
  | 61 => ⟨S4096x1024, .f32⟩
  | 62 => ⟨S4096x1024, .f32⟩
  | 63 => ⟨S4096x1024, .f32⟩
  | 64 => ⟨S4096x1024, .f32⟩
  | 65 => ⟨S_, .f32⟩
  | 66 => ⟨S4096x1024, .f32⟩
  | 67 => ⟨S4096x1024, .f32⟩
  | 68 => ⟨S_, .f32⟩
  | 69 => ⟨S4096, .f32⟩
  | 70 => ⟨S_, .f32⟩
  | 71 => ⟨S4096, .f32⟩
  | 72 => ⟨S4096, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S4096, .f32⟩
  | 81 => ⟨S_, .f32⟩
  | 82 => ⟨S4096, .f32⟩
  | 83 => ⟨S4096, .f32⟩
  | 84 => ⟨S4096x1024, .f32⟩
  | 85 => ⟨S4096x1024, .f32⟩
  | 86 => ⟨S4096x1024, .f32⟩
  | 87 => ⟨S_, .f32⟩
  | 88 => ⟨S1024, .f32⟩
  | 89 => ⟨S1x1024, .f32⟩
  | 90 => ⟨S4096x1024, .f32⟩
  | 91 => ⟨S4096x1024, .f32⟩
  | 92 => ⟨S_, .f32⟩
  | 93 => ⟨S1024, .f32⟩
  | 94 => ⟨S4096x1024, .f32⟩
  | 95 => ⟨S_, .f32⟩
  | 96 => ⟨S4096, .f32⟩
  | 97 => ⟨S4096x1, .f32⟩
  | 98 => ⟨S4096x1024, .f32⟩
  | 99 => ⟨S4096x1024, .f32⟩
  | 100 => ⟨S4096x1, .f32⟩
  | 101 => ⟨S_, .f32⟩
  | 102 => ⟨S4096x1, .f32⟩
  | 103 => ⟨S4096x1, .f32⟩
  | 104 => ⟨S_, .f32⟩
  | 105 => ⟨S4096, .f32⟩
  | 106 => ⟨S4096x1024, .f32⟩
  | 107 => ⟨S4096x1024, .f32⟩
  | 108 => ⟨S4096x1024, .f32⟩
  | 109 => ⟨S4096x1024, .f32⟩
  | 110 => ⟨S4096x1024, .f32⟩
  | 111 => ⟨S4096x1024, .f32⟩
  | 112 => ⟨S4096x1024, .f32⟩
  | 113 => ⟨S1024x256, .f32⟩
  | 114 => ⟨S256x1024, .f32⟩
  | 115 => ⟨S4096x1024, .f32⟩
  | 116 => ⟨S1024x1024, .f32⟩
  | 117 => ⟨S1024x1024, .f32⟩
  | 118 => ⟨S4096x1024, .f32⟩
  | 119 => ⟨S4096x1024, .f32⟩
  | 120 => ⟨S_, .f32⟩
  | 121 => ⟨S1024, .f32⟩
  | 122 => ⟨S1x1024, .f32⟩
  | 123 => ⟨S4096x1024, .f32⟩
  | 124 => ⟨S4096x1024, .f32⟩
  | 125 => ⟨S_, .f32⟩
  | 126 => ⟨S1024, .f32⟩
  | 127 => ⟨S4096x1024, .f32⟩
  | _ => ⟨S4096x1024, .f32⟩

abbrev hbmTy0_1 (i : Nat) : BufTy := match i % 128 with
  | 0 => ⟨S_, .f32⟩
  | 1 => ⟨S4096, .f32⟩
  | 2 => ⟨S4096x1, .f32⟩
  | 3 => ⟨S4096x1024, .f32⟩
  | 4 => ⟨S4096x1024, .f32⟩
  | 5 => ⟨S4096x1024, .f32⟩
  | 6 => ⟨S4096x1, .f32⟩
  | 7 => ⟨S_, .f32⟩
  | 8 => ⟨S4096x1, .f32⟩
  | 9 => ⟨S4096x1, .f32⟩
  | 10 => ⟨S_, .f32⟩
  | 11 => ⟨S4096, .f32⟩
  | 12 => ⟨S4096x1024, .f32⟩
  | 13 => ⟨S4096x1024, .f32⟩
  | 14 => ⟨S4096x1024, .f32⟩
  | 15 => ⟨S4096x1024, .f32⟩
  | 16 => ⟨S4096x1024, .f32⟩
  | 17 => ⟨S1024x1024, .bf16⟩
  | 18 => ⟨S256x1024, .bf16⟩
  | 19 => ⟨S256x8x128, .bf16⟩
  | 20 => ⟨S8x256x128, .bf16⟩
  | 21 => ⟨S1x1024, .f32⟩
  | 22 => ⟨S1x1024, .f32⟩
  | 23 => ⟨S1x1, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_cst_12 : Ref sig .tc := ⟨.hbm, 70, rfl⟩
abbrev main_v50 : Ref sig .tc := ⟨.hbm, 71, rfl⟩
abbrev main_v51 : Ref sig .tc := ⟨.hbm, 72, rfl⟩
abbrev main_cst_13 : Ref sig .tc := ⟨.hbm, 73, rfl⟩
abbrev main_v52 : Ref sig .tc := ⟨.hbm, 74, rfl⟩
abbrev main_cst_14 : Ref sig .tc := ⟨.hbm, 75, rfl⟩
abbrev main_v53 : Ref sig .tc := ⟨.hbm, 76, rfl⟩
abbrev main_cst_15 : Ref sig .tc := ⟨.hbm, 77, rfl⟩
abbrev main_cst_16 : Ref sig .tc := ⟨.hbm, 78, rfl⟩
abbrev main_v54 : Ref sig .tc := ⟨.hbm, 79, rfl⟩
abbrev main_v55 : Ref sig .tc := ⟨.hbm, 80, rfl⟩
abbrev main_cst_17 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_18 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_19 : Ref sig .tc := ⟨.hbm, 92, rfl⟩
abbrev main_v65 : Ref sig .tc := ⟨.hbm, 93, rfl⟩
abbrev main_v66 : Ref sig .tc := ⟨.hbm, 94, rfl⟩
abbrev main_cst_20 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_21 : Ref sig .tc := ⟨.hbm, 101, rfl⟩
abbrev main_v72 : Ref sig .tc := ⟨.hbm, 102, rfl⟩
abbrev main_v73 : Ref sig .tc := ⟨.hbm, 103, rfl⟩
abbrev main_cst_22 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_23 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_24 : Ref sig .tc := ⟨.hbm, 125, rfl⟩
abbrev main_v93 : Ref sig .tc := ⟨.hbm, 126, rfl⟩
abbrev main_v94 : Ref sig .tc := ⟨.hbm, 127, rfl⟩
abbrev main_cst_25 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_26 : Ref sig .tc := ⟨.hbm, 135, rfl⟩
abbrev main_v101 : Ref sig .tc := ⟨.hbm, 136, rfl⟩
abbrev main_v102 : Ref sig .tc := ⟨.hbm, 137, rfl⟩
abbrev main_cst_27 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩

abbrev nD : Nat := 1
abbrev τ : Topo := Topo.v7x

variable {F : FTy → Type} [FloatOps F]
-- ==== Mlp.lean ====
abbrev S4096x1024 : Shape := ⟨2, ![4096, 1024]⟩
abbrev S1024x4096 : Shape := ⟨2, ![1024, 4096]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S1024x8x512 : Shape := ⟨3, ![1024, 8, 512]⟩
abbrev S8x1024x512 : Shape := ⟨3, ![8, 1024, 512]⟩
abbrev S8x2x256x1024 : Shape := ⟨4, ![8, 2, 256, 1024]⟩
abbrev S8x1x256x1024 : Shape := ⟨4, ![8, 1, 256, 1024]⟩
abbrev S8x256x1024 : Shape := ⟨3, ![8, 256, 1024]⟩
abbrev S512x1024 : Shape := ⟨2, ![512, 1024]⟩
abbrev S512x4096 : Shape := ⟨2, ![512, 4096]⟩
abbrev S1x256x1024 : Shape := ⟨3, ![1, 256, 1024]⟩
abbrev S256x1024 : Shape := ⟨2, ![256, 1024]⟩
abbrev S512x256 : Shape := ⟨2, ![512, 256]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩

abbrev nBuf : Space → Nat
  | .hbm => 38
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S1024x4096, .bf16⟩
  | .hbm, ⟨23, _⟩ => ⟨S4096x4096, .f32⟩
  | .hbm, ⟨24, _⟩ => ⟨S4096x4096, .bf16⟩
  | .hbm, ⟨25, _⟩ => ⟨S1024x8x512, .f32⟩
  | .hbm, ⟨26, _⟩ => ⟨S8x1024x512, .f32⟩
  | .hbm, ⟨27, _⟩ => ⟨S8x1024x512, .bf16⟩
  | .hbm, ⟨28, _⟩ => ⟨S8x2x256x1024, .f32⟩
  | .hbm, ⟨29, _⟩ => ⟨S8x2x256x1024, .bf16⟩
  | .hbm, ⟨30, _⟩ => ⟨S1x1024, .f32⟩
  | .hbm, ⟨31, _⟩ => ⟨S8x1x256x1024, .bf16⟩
  | .hbm, ⟨32, _⟩ => ⟨S8x256x1024, .bf16⟩
  | .hbm, ⟨33, _⟩ => ⟨S8x1x256x1024, .bf16⟩
  | .hbm, ⟨34, _⟩ => ⟨S8x256x1024, .bf16⟩
  | .hbm, ⟨35, _⟩ => ⟨S4096x4096, .bf16⟩
  | .hbm, ⟨36, _⟩ => ⟨S4096x1024, .f32⟩
  | .hbm, ⟨37, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S8x1024x512, .bf16⟩
  | .local _ .vmem, ⟨8, _⟩ => ⟨S8x256x1024, .bf16⟩
  | .local _ .vmem, ⟨9, _⟩ => ⟨S8x256x1024, .bf16⟩
  | .local _ .vmem, ⟨10, _⟩ => ⟨S512x4096, .bf16⟩
  | .local _ .vmem, ⟨11, _⟩ => ⟨S512x4096, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27_0 : Ref sig .tc := ⟨.hbm, 35, rfl⟩
abbrev main_v27_1 : Ref sig .tc := ⟨.hbm, 36, rfl⟩
abbrev main_v27_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MlpRefIdeal.lean ====
abbrev S4096x1024 : Shape := ⟨2, ![4096, 1024]⟩
abbrev S1024x4096 : Shape := ⟨2, ![1024, 4096]⟩
abbrev S1024 : Shape := ⟨1, ![1024]⟩
abbrev S_ : Shape := ⟨0, ![]⟩
abbrev S4096x4096 : Shape := ⟨2, ![4096, 4096]⟩
abbrev S4096 : Shape := ⟨1, ![4096]⟩
abbrev S4096x1 : Shape := ⟨2, ![4096, 1]⟩
abbrev S1x1024 : Shape := ⟨2, ![1, 1024]⟩

abbrev nBuf : Space → Nat
  | .hbm => 78
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096x4096, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .i1⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096x4096, .f32⟩
  | .hbm, ⟨48, _⟩ => ⟨S4096x4096, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x4096, .bf16⟩
  | .hbm, ⟨77, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_cst_12 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== Wdown.lean ====
abbrev S4096x1024 : Shape := ⟨2, ![4096, 1024]⟩
abbrev S1024x4096 : Shape := ⟨2, ![1024, 4096]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S512x4096 : Shape := ⟨2, ![512, 4096]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 25
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S1024x4096, .bf16⟩
  | .hbm, ⟨22, _⟩ => ⟨S4096x4096, .f32⟩
  | .hbm, ⟨23, _⟩ => ⟨S4096x4096, .bf16⟩
  | .hbm, ⟨24, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S4096x1024, .bf16⟩
  | .local _ .vmem, ⟨5, _⟩ => ⟨S4096x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v61 : BitVec 1 := Scalar.cmpi .eq arg0 c7_i32
  let v62 : BitVec 32 := Scalar.extui v61
  let c0_i32_30 : BitVec 32 := 0#32
  let v63 : BitVec 1 := Scalar.cmpi .ne v62 c0_i32_30
  v63

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== WdownRefIdeal.lean ====
abbrev S4096x1024 : Shape := ⟨2, ![4096, 1024]⟩
abbrev S1024x4096 : Shape := ⟨2, ![1024, 4096]⟩
abbrev S1024 : Shape := ⟨1, ![1024]⟩
abbrev S_ : Shape := ⟨0, ![]⟩
abbrev S4096x4096 : Shape := ⟨2, ![4096, 4096]⟩
abbrev S4096 : Shape := ⟨1, ![4096]⟩
abbrev S4096x1 : Shape := ⟨2, ![4096, 1]⟩
abbrev S1x1024 : Shape := ⟨2, ![1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x1024, .f32⟩
  | .hbm, ⟨31, _⟩ => ⟨S4096x1024, .f32⟩
  | .hbm, ⟨32, _⟩ => ⟨S1024x4096, .f32⟩
  | .hbm, ⟨33, _⟩ => ⟨S4096x1024, .f32⟩
  | .hbm, ⟨34, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Win.lean ====
abbrev S4096x1024 : Shape := ⟨2, ![4096, 1024]⟩
abbrev S1024 : Shape := ⟨1, ![1024]⟩
abbrev S4096x512 : Shape := ⟨2, ![4096, 512]⟩
abbrev S4096x2056 : Shape := ⟨2, ![4096, 2056]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2304 : Shape := ⟨2, ![4096, 2304]⟩
abbrev S512x128 : Shape := ⟨2, ![512, 128]⟩
abbrev S8x128 : Shape := ⟨2, ![8, 128]⟩
abbrev S4096x128 : Shape := ⟨2, ![4096, 128]⟩
abbrev S8x1x128 : Shape := ⟨3, ![8, 1, 128]⟩
abbrev S1x512x128 : Shape := ⟨3, ![1, 512, 128]⟩
abbrev S8x512x128 : Shape := ⟨3, ![8, 512, 128]⟩
abbrev S8x1024x449 : Shape := ⟨3, ![8, 1024, 449]⟩
abbrev S512x1024 : Shape := ⟨2, ![512, 1024]⟩
abbrev S512x512 : Shape := ⟨2, ![512, 512]⟩
abbrev S512x2304 : Shape := ⟨2, ![512, 2304]⟩
abbrev S1024x3840 : Shape := ⟨2, ![1024, 3840]⟩
abbrev S512x768 : Shape := ⟨2, ![512, 768]⟩
abbrev S1024x512 : Shape := ⟨2, ![1024, 512]⟩
abbrev S1024x768 : Shape := ⟨2, ![1024, 768]⟩
abbrev S1024x449 : Shape := ⟨2, ![1024, 449]⟩
abbrev S1x1024x449 : Shape := ⟨3, ![1, 1024, 449]⟩

abbrev nBuf : Space → Nat
  | .hbm => 226
  | .vmem => 18
  | .smem => 0
  | _ => 0

abbrev hbmTy0_0 (i : Nat) : BufTy := match i % 128 with
  | 0 => ⟨S4096x1024, .f32⟩
  | 1 => ⟨S1024, .f32⟩
  | 2 => ⟨S4096x512, .f32⟩
  | 3 => ⟨S4096x512, .f32⟩
  | 4 => ⟨S4096x512, .f32⟩
  | 5 => ⟨S4096x2056, .f32⟩
  | 6 => ⟨S4096x1024, .f32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096x1, .f32⟩
  | 15 => ⟨S4096x1, .f32⟩
  | 16 => ⟨S4096x1, .f32⟩
  | 17 => ⟨S4096x1024, .f32⟩
  | 18 => ⟨S4096x1024, .f32⟩
  | 19 => ⟨S1x1024, .f32⟩
  | 20 => ⟨S4096x1024, .f32⟩
  | 21 => ⟨S4096x1024, .f32⟩
  | 22 => ⟨S4096x1024, .bf16⟩
  | 23 => ⟨S4096x512, .bf16⟩
  | 24 => ⟨S4096x512, .bf16⟩
  | 25 => ⟨S4096x512, .bf16⟩
  | 26 => ⟨S4096x2056, .bf16⟩
  | 27 => ⟨S_, .i32⟩
  | 28 => ⟨S_, .bf16⟩
  | 29 => ⟨S4096x2304, .bf16⟩
  | 30 => ⟨S512x128, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S512x128, .i32⟩
  | 38 => ⟨S512x128, .i32⟩
  | 39 => ⟨S_, .i32⟩
  | 40 => ⟨S512x128, .i32⟩
  | 41 => ⟨S512x128, .i1⟩
  | 42 => ⟨S_, .i32⟩
  | 43 => ⟨S512x128, .i32⟩
  | 44 => ⟨S512x128, .i1⟩
  | 45 => ⟨S_, .i32⟩
  | 46 => ⟨S_, .i1⟩
  | 47 => ⟨S512x128, .i1⟩
  | 48 => ⟨S512x128, .i1⟩
  | 49 => ⟨S512x128, .i1⟩
  | 50 => ⟨S512x128, .i32⟩
  | 51 => ⟨S512x128, .i32⟩
  | 52 => ⟨S512x128, .i32⟩
  | 53 => ⟨S512x128, .i32⟩
  | 54 => ⟨S_, .i32⟩
  | 55 => ⟨S512x128, .i32⟩
  | 56 => ⟨S512x128, .i32⟩
  | 57 => ⟨S512x128, .f32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S512x128, .i32⟩
  | 65 => ⟨S512x128, .i32⟩
  | 66 => ⟨S_, .i32⟩
  | 67 => ⟨S512x128, .i32⟩
  | 68 => ⟨S512x128, .i1⟩
  | 69 => ⟨S_, .i32⟩
  | 70 => ⟨S512x128, .i32⟩
  | 71 => ⟨S512x128, .i1⟩
  | 72 => ⟨S_, .i32⟩
  | 73 => ⟨S_, .i1⟩
  | 74 => ⟨S512x128, .i1⟩
  | 75 => ⟨S512x128, .i1⟩
  | 76 => ⟨S512x128, .i1⟩
  | 77 => ⟨S512x128, .i32⟩
  | 78 => ⟨S512x128, .i32⟩
  | 79 => ⟨S512x128, .i32⟩
  | 80 => ⟨S512x128, .f32⟩
  | 81 => ⟨S512x128, .f32⟩
  | 82 => ⟨S_, .f32⟩
  | 83 => ⟨S512x128, .f32⟩
  | 84 => ⟨S512x128, .f32⟩
  | 85 => ⟨S_, .f32⟩
  | 86 => ⟨S512x128, .f32⟩
  | 87 => ⟨S512x128, .f32⟩
  | 88 => ⟨S512x128, .f32⟩
  | 89 => ⟨S512x128, .f32⟩
  | 90 => ⟨S512x128, .f32⟩
  | 91 => ⟨S8x128, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S8x128, .i32⟩
  | 99 => ⟨S8x128, .i32⟩
  | 100 => ⟨S_, .i32⟩
  | 101 => ⟨S8x128, .i32⟩
  | 102 => ⟨S8x128, .i1⟩
  | 103 => ⟨S_, .i32⟩
  | 104 => ⟨S8x128, .i32⟩
  | 105 => ⟨S8x128, .i1⟩
  | 106 => ⟨S_, .i32⟩
  | 107 => ⟨S_, .i1⟩
  | 108 => ⟨S8x128, .i1⟩
  | 109 => ⟨S8x128, .i1⟩
  | 110 => ⟨S8x128, .i1⟩
  | 111 => ⟨S8x128, .i32⟩
  | 112 => ⟨S8x128, .i32⟩
  | 113 => ⟨S8x128, .i32⟩
  | 114 => ⟨S8x128, .i32⟩
  | 115 => ⟨S_, .i32⟩
  | 116 => ⟨S8x128, .i32⟩
  | 117 => ⟨S8x128, .i32⟩
  | 118 => ⟨S8x128, .f32⟩
  | 119 => ⟨S_, .i32⟩
  | 120 => ⟨S_, .i32⟩
  | 121 => ⟨S_, .i32⟩
  | 122 => ⟨S_, .i1⟩
  | 123 => ⟨S_, .i32⟩
  | 124 => ⟨S_, .i32⟩
  | 125 => ⟨S8x128, .i32⟩
  | 126 => ⟨S8x128, .i32⟩
  | 127 => ⟨S_, .i32⟩
  | _ => ⟨S4096x1024, .f32⟩

abbrev hbmTy0_1 (i : Nat) : BufTy := match i % 128 with
  | 0 => ⟨S8x128, .i32⟩
  | 1 => ⟨S8x128, .i1⟩
  | 2 => ⟨S_, .i32⟩
  | 3 => ⟨S8x128, .i32⟩
  | 4 => ⟨S8x128, .i1⟩
  | 5 => ⟨S_, .i32⟩
  | 6 => ⟨S_, .i1⟩
  | 7 => ⟨S8x128, .i1⟩
  | 8 => ⟨S8x128, .i1⟩
  | 9 => ⟨S8x128, .i1⟩
  | 10 => ⟨S8x128, .i32⟩
  | 11 => ⟨S8x128, .i32⟩
  | 12 => ⟨S8x128, .i32⟩
  | 13 => ⟨S8x128, .f32⟩
  | 14 => ⟨S8x128, .f32⟩
  | 15 => ⟨S_, .f32⟩
  | 16 => ⟨S8x128, .f32⟩
  | 17 => ⟨S8x128, .f32⟩
  | 18 => ⟨S_, .f32⟩
  | 19 => ⟨S8x128, .f32⟩
  | 20 => ⟨S8x128, .f32⟩
  | 21 => ⟨S8x128, .f32⟩
  | 22 => ⟨S8x128, .f32⟩
  | 23 => ⟨S8x128, .f32⟩
  | 24 => ⟨S4096x128, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S4096x128, .i32⟩
  | 32 => ⟨S4096x128, .i32⟩
  | 33 => ⟨S_, .i32⟩
  | 34 => ⟨S4096x128, .i32⟩
  | 35 => ⟨S4096x128, .i1⟩
  | 36 => ⟨S_, .i32⟩
  | 37 => ⟨S4096x128, .i32⟩
  | 38 => ⟨S4096x128, .i1⟩
  | 39 => ⟨S_, .i32⟩
  | 40 => ⟨S_, .i1⟩
  | 41 => ⟨S4096x128, .i1⟩
  | 42 => ⟨S4096x128, .i1⟩
  | 43 => ⟨S4096x128, .i1⟩
  | 44 => ⟨S4096x128, .i32⟩
  | 45 => ⟨S4096x128, .i32⟩
  | 46 => ⟨S4096x128, .i32⟩
  | 47 => ⟨S8x1x128, .f32⟩
  | 48 => ⟨S1x512x128, .f32⟩
  | 49 => ⟨S8x512x128, .f32⟩
  | 50 => ⟨S8x512x128, .f32⟩
  | 51 => ⟨S8x512x128, .f32⟩
  | 52 => ⟨S8x1x128, .f32⟩
  | 53 => ⟨S1x512x128, .f32⟩
  | 54 => ⟨S8x512x128, .f32⟩
  | 55 => ⟨S8x512x128, .f32⟩
  | 56 => ⟨S8x512x128, .f32⟩
  | 57 => ⟨S8x512x128, .f32⟩
  | 58 => ⟨S4096x128, .f32⟩
  | 59 => ⟨S8x1x128, .f32⟩
  | 60 => ⟨S1x512x128, .f32⟩
  | 61 => ⟨S8x512x128, .f32⟩
  | 62 => ⟨S8x512x128, .f32⟩
  | 63 => ⟨S8x512x128, .f32⟩
  | 64 => ⟨S8x1x128, .f32⟩
  | 65 => ⟨S1x512x128, .f32⟩
  | 66 => ⟨S8x512x128, .f32⟩
  | 67 => ⟨S8x512x128, .f32⟩
  | 68 => ⟨S8x512x128, .f32⟩
  | 69 => ⟨S8x512x128, .f32⟩
  | 70 => ⟨S4096x128, .f32⟩
  | 71 => ⟨S_, .i32⟩
  | 72 => ⟨S4096x128, .i32⟩
  | 73 => ⟨S4096x128, .i1⟩
  | 74 => ⟨S_, .f32⟩
  | 75 => ⟨S_, .f32⟩
  | 76 => ⟨S4096x128, .f32⟩
  | 77 => ⟨S4096x128, .f32⟩
  | 78 => ⟨S_, .i32⟩
  | 79 => ⟨S4096x128, .i32⟩
  | 80 => ⟨S4096x128, .i1⟩
  | 81 => ⟨S4096x128, .f32⟩
  | 82 => ⟨S_, .f32⟩
  | 83 => ⟨S_, .f32⟩
  | 84 => ⟨S4096x128, .f32⟩
  | 85 => ⟨S4096x128, .f32⟩
  | 86 => ⟨S_, .i32⟩
  | 87 => ⟨S4096x128, .i32⟩
  | 88 => ⟨S4096x128, .i1⟩
  | 89 => ⟨S_, .i32⟩
  | 90 => ⟨S4096x128, .i32⟩
  | 91 => ⟨S4096x128, .i1⟩
  | 92 => ⟨S4096x128, .i1⟩
  | 93 => ⟨S_, .f32⟩
  | 94 => ⟨S_, .f32⟩
  | 95 => ⟨S4096x128, .f32⟩
  | 96 => ⟨S4096x128, .f32⟩
  | 97 => ⟨S8x1024x449, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x2304, .bf16⟩
  | .local _ .vmem, ⟨9, _⟩ => ⟨S512x2304, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S8x1024x449, .bf16⟩
  | .local _ .vmem, ⟨17, _⟩ => ⟨S1024x3840, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_call1_v0 : Ref sig .tc := ⟨.hbm, 32, rfl⟩
abbrev main_call1_c : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_c_1 : Ref sig .tc := ⟨.hbm, 39, rfl⟩
abbrev main_call1_v5 : Ref sig .tc := ⟨.hbm, 40, rfl⟩
abbrev main_call1_v6 : Ref sig .tc := ⟨.hbm, 41, rfl⟩
abbrev main_call1_c_2 : Ref sig .tc := ⟨.hbm, 42, rfl⟩
abbrev main_call1_v7 : Ref sig .tc := ⟨.hbm, 43, rfl⟩
abbrev main_call1_v8 : Ref sig .tc := ⟨.hbm, 44, rfl⟩
abbrev main_call1_c_3 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_v20 : Ref sig .tc := ⟨.hbm, 52, rfl⟩
abbrev main_v21 : Ref sig .tc := ⟨.hbm, 53, rfl⟩
abbrev main_c_3 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_c_4 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_cst_5 : Ref sig .tc := ⟨.hbm, 82, rfl⟩
abbrev main_v28 : Ref sig .tc := ⟨.hbm, 83, rfl⟩
abbrev main_v29 : Ref sig .tc := ⟨.hbm, 84, rfl⟩
abbrev main_cst_6 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_c_7 : Ref sig .tc := ⟨.hbm, 92, rfl⟩
abbrev main_call3_v0 : Ref sig .tc := ⟨.hbm, 93, rfl⟩
abbrev main_call3_c : Ref sig .tc := ⟨.hbm, 94, rfl⟩
abbrev main_call3_v1 : Ref sig .tc := ⟨.hbm, 95, rfl⟩
abbrev main_call3_c_0 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_c_1 : Ref sig .tc := ⟨.hbm, 100, rfl⟩
abbrev main_call3_v5 : Ref sig .tc := ⟨.hbm, 101, rfl⟩
abbrev main_call3_v6 : Ref sig .tc := ⟨.hbm, 102, rfl⟩
abbrev main_call3_c_2 : Ref sig .tc := ⟨.hbm, 103, rfl⟩
abbrev main_call3_v7 : Ref sig .tc := ⟨.hbm, 104, rfl⟩
abbrev main_call3_v8 : Ref sig .tc := ⟨.hbm, 105, rfl⟩
abbrev main_call3_c_3 : Ref sig .tc := ⟨.hbm, 106, rfl⟩
abbrev main_call3_v9 : Ref sig .tc := ⟨.hbm, 107, rfl⟩
abbrev main_call3_v10 : Ref sig .tc := ⟨.hbm, 108, rfl⟩
abbrev main_call3_v11 : Ref sig .tc := ⟨.hbm, 109, rfl⟩
abbrev main_call3_v12 : Ref sig .tc := ⟨.hbm, 110, rfl⟩
abbrev main_call3_v13 : Ref sig .tc := ⟨.hbm, 111, rfl⟩
abbrev main_call3_v14 : Ref sig .tc := ⟨.hbm, 112, rfl⟩
abbrev main_v36 : Ref sig .tc := ⟨.hbm, 113, rfl⟩
abbrev main_v37 : Ref sig .tc := ⟨.hbm, 114, rfl⟩
abbrev main_c_8 : Ref sig .tc := ⟨.hbm, 115, rfl⟩
abbrev main_v38 : Ref sig .tc := ⟨.hbm, 116, rfl⟩
abbrev main_v39 : Ref sig .tc := ⟨.hbm, 117, rfl⟩
abbrev main_v40 : Ref sig .tc := ⟨.hbm, 118, rfl⟩
abbrev main_c_9 : Ref sig .tc := ⟨.hbm, 119, rfl⟩
abbrev main_call4_v0 : Ref sig .tc := ⟨.hbm, 120, rfl⟩
abbrev main_call4_c : Ref sig .tc := ⟨.hbm, 121, rfl⟩
abbrev main_call4_v1 : Ref sig .tc := ⟨.hbm, 122, rfl⟩
abbrev main_call4_c_0 : Ref sig .tc := ⟨.hbm, 123, rfl⟩
abbrev main_call4_v2 : Ref sig .tc := ⟨.hbm, 124, rfl⟩
abbrev main_call4_v3 : Ref sig .tc := ⟨.hbm, 125, rfl⟩
abbrev main_call4_v4 : Ref sig .tc := ⟨.hbm, 126, rfl⟩
abbrev main_call4_c_1 : Ref sig .tc := ⟨.hbm, 127, rfl⟩
abbrev main_call4_v5 : Ref sig .tc := ⟨.hbm, 128, rfl⟩
abbrev main_call4_v6 : Ref sig .tc := ⟨.hbm, 129, rfl⟩
abbrev main_call4_c_2 : Ref sig .tc := ⟨.hbm, 130, rfl⟩
abbrev main_call4_v7 : Ref sig .tc := ⟨.hbm, 131, rfl⟩
abbrev main_call4_v8 : Ref sig .tc := ⟨.hbm, 132, rfl⟩
abbrev main_call4_c_3 : Ref sig .tc := ⟨.hbm, 133, rfl⟩
abbrev main_call4_v9 : Ref sig .tc := ⟨.hbm, 134, rfl⟩
abbrev main_call4_v10 : Ref sig .tc := ⟨.hbm, 135, rfl⟩
abbrev main_call4_v11 : Ref sig .tc := ⟨.hbm, 136, rfl⟩
abbrev main_call4_v12 : Ref sig .tc := ⟨.hbm, 137, rfl⟩
abbrev main_call4_v13 : Ref sig .tc := ⟨.hbm, 138, rfl⟩
abbrev main_call4_v14 : Ref sig .tc := ⟨.hbm, 139, rfl⟩
abbrev main_v41 : Ref sig .tc := ⟨.hbm, 140, rfl⟩
abbrev main_v42 : Ref sig .tc := ⟨.hbm, 141, rfl⟩
abbrev main_v43 : Ref sig .tc := ⟨.hbm, 142, rfl⟩
abbrev main_cst_10 : Ref sig .tc := ⟨.hbm, 143, rfl⟩
abbrev main_v44 : Ref sig .tc := ⟨.hbm, 144, rfl⟩
abbrev main_v45 : Ref sig .tc := ⟨.hbm, 145, rfl⟩
abbrev main_cst_11 : Ref sig .tc := ⟨.hbm, 146, rfl⟩
abbrev main_v46 : Ref sig .tc := ⟨.hbm, 147, rfl⟩
abbrev main_v47 : Ref sig .tc := ⟨.hbm, 148, rfl⟩
abbrev main_v48 : Ref sig .tc := ⟨.hbm, 149, rfl⟩
abbrev main_v49 : Ref sig .tc := ⟨.hbm, 150, rfl⟩
abbrev main_v50 : Ref sig .tc := ⟨.hbm, 151, rfl⟩
abbrev main_v51 : Ref sig .tc := ⟨.hbm, 152, rfl⟩
abbrev main_c_12 : Ref sig .tc := ⟨.hbm, 153, rfl⟩
abbrev main_call5_v0 : Ref sig .tc := ⟨.hbm, 154, rfl⟩
abbrev main_call5_c : Ref sig .tc := ⟨.hbm, 155, rfl⟩
abbrev main_call5_v1 : Ref sig .tc := ⟨.hbm, 156, rfl⟩
abbrev main_call5_c_0 : Ref sig .tc := ⟨.hbm, 157, rfl⟩
abbrev main_call5_v2 : Ref sig .tc := ⟨.hbm, 158, rfl⟩
abbrev main_call5_v3 : Ref sig .tc := ⟨.hbm, 159, rfl⟩
abbrev main_call5_v4 : Ref sig .tc := ⟨.hbm, 160, rfl⟩
abbrev main_call5_c_1 : Ref sig .tc := ⟨.hbm, 161, rfl⟩
abbrev main_call5_v5 : Ref sig .tc := ⟨.hbm, 162, rfl⟩
abbrev main_call5_v6 : Ref sig .tc := ⟨.hbm, 163, rfl⟩
abbrev main_call5_c_2 : Ref sig .tc := ⟨.hbm, 164, rfl⟩
abbrev main_call5_v7 : Ref sig .tc := ⟨.hbm, 165, rfl⟩
abbrev main_call5_v8 : Ref sig .tc := ⟨.hbm, 166, rfl⟩
abbrev main_call5_c_3 : Ref sig .tc := ⟨.hbm, 167, rfl⟩
abbrev main_call5_v9 : Ref sig .tc := ⟨.hbm, 168, rfl⟩
abbrev main_call5_v10 : Ref sig .tc := ⟨.hbm, 169, rfl⟩
abbrev main_call5_v11 : Ref sig .tc := ⟨.hbm, 170, rfl⟩
abbrev main_call5_v12 : Ref sig .tc := ⟨.hbm, 171, rfl⟩
abbrev main_call5_v13 : Ref sig .tc := ⟨.hbm, 172, rfl⟩
abbrev main_call5_v14 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩
abbrev main_v60 : Ref sig .tc := ⟨.hbm, 182, rfl⟩
abbrev main_v61 : Ref sig .tc := ⟨.hbm, 183, rfl⟩
abbrev main_v62 : Ref sig .tc := ⟨.hbm, 184, rfl⟩
abbrev main_v63 : Ref sig .tc := ⟨.hbm, 185, rfl⟩
abbrev main_v64 : Ref sig .tc := ⟨.hbm, 186, rfl⟩
abbrev main_v65 : Ref sig .tc := ⟨.hbm, 187, rfl⟩
abbrev main_v66 : Ref sig .tc := ⟨.hbm, 188, rfl⟩
abbrev main_v67 : Ref sig .tc := ⟨.hbm, 189, rfl⟩
abbrev main_v68 : Ref sig .tc := ⟨.hbm, 190, rfl⟩
abbrev main_v69 : Ref sig .tc := ⟨.hbm, 191, rfl⟩
abbrev main_v70 : Ref sig .tc := ⟨.hbm, 192, rfl⟩
abbrev main_v71 : Ref sig .tc := ⟨.hbm, 193, rfl⟩
abbrev main_v72 : Ref sig .tc := ⟨.hbm, 194, rfl⟩
abbrev main_v73 : Ref sig .tc := ⟨.hbm, 195, rfl⟩
abbrev main_v74 : Ref sig .tc := ⟨.hbm, 196, rfl⟩
abbrev main_v75 : Ref sig .tc := ⟨.hbm, 197, rfl⟩
abbrev main_v76 : Ref sig .tc := ⟨.hbm, 198, rfl⟩
abbrev main_c_13 : Ref sig .tc := ⟨.hbm, 199, rfl⟩
abbrev main_v77 : Ref sig .tc := ⟨.hbm, 200, rfl⟩
abbrev main_v78 : Ref sig .tc := ⟨.hbm, 201, rfl⟩
abbrev main_cst_14 : Ref sig .tc := ⟨.hbm, 202, rfl⟩
abbrev main_call6_v0 : Ref sig .tc := ⟨.hbm, 203, rfl⟩
abbrev main_call6_v1 : Ref sig .tc := ⟨.hbm, 204, rfl⟩
abbrev main_v79 : Ref sig .tc := ⟨.hbm, 205, rfl⟩
abbrev main_c_15 : Ref sig .tc := ⟨.hbm, 206, rfl⟩
abbrev main_v80 : Ref sig .tc := ⟨.hbm, 207, rfl⟩
abbrev main_v81 : Ref sig .tc := ⟨.hbm, 208, rfl⟩
abbrev main_v82 : Ref sig .tc := ⟨.hbm, 209, rfl⟩
abbrev main_cst_16 : Ref sig .tc := ⟨.hbm, 210, rfl⟩
abbrev main_call7_v0 : Ref sig .tc := ⟨.hbm, 211, rfl⟩
abbrev main_call7_v1 : Ref sig .tc := ⟨.hbm, 212, rfl⟩
abbrev main_v83 : Ref sig .tc := ⟨.hbm, 213, rfl⟩
abbrev main_c_17 : Ref sig .tc := ⟨.hbm, 214, rfl⟩
abbrev main_v84 : Ref sig .tc := ⟨.hbm, 215, rfl⟩
abbrev main_v85 : Ref sig .tc := ⟨.hbm, 216, rfl⟩
abbrev main_c_18 : Ref sig .tc := ⟨.hbm, 217, rfl⟩
abbrev main_v86 : Ref sig .tc := ⟨.hbm, 218, rfl⟩
abbrev main_v87 : Ref sig .tc := ⟨.hbm, 219, rfl⟩
abbrev main_v88 : Ref sig .tc := ⟨.hbm, 220, rfl⟩
abbrev main_cst_19 : Ref sig .tc := ⟨.hbm, 221, rfl⟩
abbrev main_call8_v0 : Ref sig .tc := ⟨.hbm, 222, rfl⟩
abbrev main_call8_v1 : Ref sig .tc := ⟨.hbm, 223, rfl⟩
abbrev main_v89 : Ref sig .tc := ⟨.hbm, 224, rfl⟩
abbrev main_v90 : Ref sig .tc := ⟨.hbm, 225, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v142 : BitVec 1 := Scalar.cmpi .eq arg0 c7_i32
  let v143 : BitVec 32 := Scalar.extui v142
  let c0_i32_57 : BitVec 32 := 0#32
  let v144 : BitVec 1 := Scalar.cmpi .ne v143 c0_i32_57
  v144

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2304 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024x449 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== WinRefIdeal.lean ====
abbrev S4096x1024 : Shape := ⟨2, ![4096, 1024]⟩
abbrev S1024 : Shape := ⟨1, ![1024]⟩
abbrev S4096x512 : Shape := ⟨2, ![4096, 512]⟩
abbrev S4096x2056 : Shape := ⟨2, ![4096, 2056]⟩
abbrev S_ : Shape := ⟨0, ![]⟩
abbrev S1024x3592 : Shape := ⟨2, ![1024, 3592]⟩
abbrev S4096 : Shape := ⟨1, ![4096]⟩
abbrev S4096x1 : Shape := ⟨2, ![4096, 1]⟩
abbrev S1x1024 : Shape := ⟨2, ![1, 1024]⟩
abbrev S4096x3592 : Shape := ⟨2, ![4096, 3592]⟩
abbrev S4096x8x64 : Shape := ⟨3, ![4096, 8, 64]⟩
abbrev S8x4096x64 : Shape := ⟨3, ![8, 4096, 64]⟩
abbrev S8 : Shape := ⟨1, ![8]⟩
abbrev S1x8 : Shape := ⟨2, ![1, 8]⟩
abbrev S4096x8 : Shape := ⟨2, ![4096, 8]⟩
abbrev S8x4096x16 : Shape := ⟨3, ![8, 4096, 16]⟩
abbrev S8x4096x8 : Shape := ⟨3, ![8, 4096, 8]⟩
abbrev S1x4096x8 : Shape := ⟨3, ![1, 4096, 8]⟩
abbrev S8x4096x48 : Shape := ⟨3, ![8, 4096, 48]⟩
abbrev S3592x1024 : Shape := ⟨2, ![3592, 1024]⟩
abbrev S1024x8x449 : Shape := ⟨3, ![1024, 8, 449]⟩
abbrev S8x1024x449 : Shape := ⟨3, ![8, 1024, 449]⟩

abbrev nBuf : Space → Nat
  | .hbm => 184
  | .vmem => 0
  | .smem => 0
  | _ => 0

abbrev hbmTy0_0 (i : Nat) : BufTy := match i % 128 with
  | 0 => ⟨S4096x1024, .f32⟩
  | 1 => ⟨S1024, .f32⟩
  | 2 => ⟨S4096x512, .f32⟩
  | 3 => ⟨S4096x512, .f32⟩
  | 4 => ⟨S4096x512, .f32⟩
  | 5 => ⟨S4096x2056, .f32⟩
  | 6 => ⟨S_, .f32⟩
  | 7 => ⟨S1024x3592, .f32⟩
  | 8 => ⟨S4096, .i32⟩
  | 9 => ⟨S4096x1024, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x1, .f32⟩
  | 20 => ⟨S4096x1024, .f32⟩
  | 21 => ⟨S4096x1024, .f32⟩
  | 22 => ⟨S1x1024, .f32⟩
  | 23 => ⟨S4096x1024, .f32⟩
  | 24 => ⟨S4096x1024, .f32⟩
  | 25 => ⟨S4096x3592, .f32⟩
  | 26 => ⟨S4096x512, .f32⟩
  | 27 => ⟨S4096x8x64, .f32⟩
  | 28 => ⟨S8x4096x64, .f32⟩
  | 29 => ⟨S8, .f32⟩
  | 30 => ⟨S8, .f32⟩
  | 31 => ⟨S_, .f32⟩
  | 32 => ⟨S8, .f32⟩
  | 33 => ⟨S8, .f32⟩
  | 34 => ⟨S_, .f32⟩
  | 35 => ⟨S8, .f32⟩
  | 36 => ⟨S8, .f32⟩
  | 37 => ⟨S4096, .f32⟩
  | 38 => ⟨S4096x1, .f32⟩
  | 39 => ⟨S1x8, .f32⟩
  | 40 => ⟨S4096x8, .f32⟩
  | 41 => ⟨S4096x8, .f32⟩
  | 42 => ⟨S4096x8, .f32⟩
  | 43 => ⟨S4096x8, .f32⟩
  | 44 => ⟨S4096x8, .f32⟩
  | 45 => ⟨S8x4096x16, .f32⟩
  | 46 => ⟨S8x4096x8, .f32⟩
  | 47 => ⟨S8x4096x8, .f32⟩
  | 48 => ⟨S1x4096x8, .f32⟩
  | 49 => ⟨S8x4096x8, .f32⟩
  | 50 => ⟨S8x4096x8, .f32⟩
  | 51 => ⟨S1x4096x8, .f32⟩
  | 52 => ⟨S8x4096x8, .f32⟩
  | 53 => ⟨S8x4096x8, .f32⟩
  | 54 => ⟨S8x4096x8, .f32⟩
  | 55 => ⟨S1x4096x8, .f32⟩
  | 56 => ⟨S8x4096x8, .f32⟩
  | 57 => ⟨S8x4096x8, .f32⟩
  | 58 => ⟨S1x4096x8, .f32⟩
  | 59 => ⟨S8x4096x8, .f32⟩
  | 60 => ⟨S8x4096x8, .f32⟩
  | 61 => ⟨S8x4096x8, .f32⟩
  | 62 => ⟨S8x4096x16, .f32⟩
  | 63 => ⟨S8x4096x48, .f32⟩
  | 64 => ⟨S8x4096x64, .f32⟩
  | 65 => ⟨S4096x512, .f32⟩
  | 66 => ⟨S4096x8x64, .f32⟩
  | 67 => ⟨S8x4096x64, .f32⟩
  | 68 => ⟨S8, .f32⟩
  | 69 => ⟨S8, .f32⟩
  | 70 => ⟨S_, .f32⟩
  | 71 => ⟨S8, .f32⟩
  | 72 => ⟨S8, .f32⟩
  | 73 => ⟨S_, .f32⟩
  | 74 => ⟨S8, .f32⟩
  | 75 => ⟨S8, .f32⟩
  | 76 => ⟨S4096, .f32⟩
  | 77 => ⟨S4096x1, .f32⟩
  | 78 => ⟨S1x8, .f32⟩
  | 79 => ⟨S4096x8, .f32⟩
  | 80 => ⟨S4096x8, .f32⟩
  | 81 => ⟨S4096x8, .f32⟩
  | 82 => ⟨S4096x8, .f32⟩
  | 83 => ⟨S4096x8, .f32⟩
  | 84 => ⟨S8x4096x16, .f32⟩
  | 85 => ⟨S8x4096x8, .f32⟩
  | 86 => ⟨S8x4096x8, .f32⟩
  | 87 => ⟨S1x4096x8, .f32⟩
  | 88 => ⟨S8x4096x8, .f32⟩
  | 89 => ⟨S8x4096x8, .f32⟩
  | 90 => ⟨S1x4096x8, .f32⟩
  | 91 => ⟨S8x4096x8, .f32⟩
  | 92 => ⟨S8x4096x8, .f32⟩
  | 93 => ⟨S8x4096x8, .f32⟩
  | 94 => ⟨S1x4096x8, .f32⟩
  | 95 => ⟨S8x4096x8, .f32⟩
  | 96 => ⟨S8x4096x8, .f32⟩
  | 97 => ⟨S1x4096x8, .f32⟩
  | 98 => ⟨S8x4096x8, .f32⟩
  | 99 => ⟨S8x4096x8, .f32⟩
  | 100 => ⟨S8x4096x8, .f32⟩
  | 101 => ⟨S8x4096x16, .f32⟩
  | 102 => ⟨S8x4096x48, .f32⟩
  | 103 => ⟨S8x4096x64, .f32⟩
  | 104 => ⟨S4096x8x64, .f32⟩
  | 105 => ⟨S4096x512, .f32⟩
  | 106 => ⟨S4096x8x64, .f32⟩
  | 107 => ⟨S4096x512, .f32⟩
  | 108 => ⟨S4096x512, .f32⟩
  | 109 => ⟨S4096x2056, .f32⟩
  | 110 => ⟨S_, .f32⟩
  | 111 => ⟨S4096x3592, .f32⟩
  | 112 => ⟨S_, .f32⟩
  | 113 => ⟨S4096x3592, .f32⟩
  | 114 => ⟨S4096x3592, .f32⟩
  | 115 => ⟨S4096x8x64, .f32⟩
  | 116 => ⟨S8x4096x64, .f32⟩
  | 117 => ⟨S4096x8x64, .f32⟩
  | 118 => ⟨S8x4096x64, .f32⟩
  | 119 => ⟨S8x4096x16, .f32⟩
  | 120 => ⟨S8x4096x48, .f32⟩
  | 121 => ⟨S_, .f32⟩
  | 122 => ⟨S8x4096x64, .f32⟩
  | 123 => ⟨S8x4096x8, .f32⟩
  | 124 => ⟨S8x4096x8, .f32⟩
  | 125 => ⟨S8x4096x8, .f32⟩
  | 126 => ⟨S8x4096x8, .f32⟩
  | 127 => ⟨S8x4096x8, .f32⟩
  | _ => ⟨S4096x1024, .f32⟩

abbrev hbmTy0_1 (i : Nat) : BufTy := match i % 128 with
  | 0 => ⟨S8x4096x8, .f32⟩
  | 1 => ⟨S8x4096x8, .f32⟩
  | 2 => ⟨S8x4096x8, .f32⟩
  | 3 => ⟨S8x4096x8, .f32⟩
  | 4 => ⟨S8x4096x8, .f32⟩
  | 5 => ⟨S8x4096x8, .f32⟩
  | 6 => ⟨S8x4096x8, .f32⟩
  | 7 => ⟨S8x4096x8, .f32⟩
  | 8 => ⟨S_, .f32⟩
  | 9 => ⟨S8x4096x16, .f32⟩
  | 10 => ⟨S_, .f32⟩
  | 11 => ⟨S8x4096x16, .f32⟩
  | 12 => ⟨S8x4096x16, .f32⟩
  | 13 => ⟨S_, .f32⟩
  | 14 => ⟨S8x4096x64, .f32⟩
  | 15 => ⟨S8x4096x64, .f32⟩
  | 16 => ⟨S4096x8x64, .f32⟩
  | 17 => ⟨S4096x512, .f32⟩
  | 18 => ⟨S_, .f32⟩
  | 19 => ⟨S4096x3592, .f32⟩
  | 20 => ⟨S4096x3592, .f32⟩
  | 21 => ⟨S8x4096x16, .f32⟩
  | 22 => ⟨S8x4096x48, .f32⟩
  | 23 => ⟨S_, .f32⟩
  | 24 => ⟨S8x4096x64, .f32⟩
  | 25 => ⟨S8x4096x8, .f32⟩
  | 26 => ⟨S8x4096x8, .f32⟩
  | 27 => ⟨S8x4096x8, .f32⟩
  | 28 => ⟨S8x4096x8, .f32⟩
  | 29 => ⟨S8x4096x8, .f32⟩
  | 30 => ⟨S8x4096x8, .f32⟩
  | 31 => ⟨S8x4096x8, .f32⟩
  | 32 => ⟨S8x4096x8, .f32⟩
  | 33 => ⟨S8x4096x8, .f32⟩
  | 34 => ⟨S8x4096x8, .f32⟩
  | 35 => ⟨S8x4096x8, .f32⟩
  | 36 => ⟨S8x4096x8, .f32⟩
  | 37 => ⟨S8x4096x8, .f32⟩
  | 38 => ⟨S_, .f32⟩
  | 39 => ⟨S8x4096x16, .f32⟩
  | 40 => ⟨S_, .f32⟩
  | 41 => ⟨S8x4096x16, .f32⟩
  | 42 => ⟨S8x4096x16, .f32⟩
  | 43 => ⟨S_, .f32⟩
  | 44 => ⟨S8x4096x64, .f32⟩
  | 45 => ⟨S8x4096x64, .f32⟩
  | 46 => ⟨S4096x8x64, .f32⟩
  | 47 => ⟨S4096x512, .f32⟩
  | 48 => ⟨S_, .f32⟩
  | 49 => ⟨S4096x3592, .f32⟩
  | 50 => ⟨S4096x3592, .f32⟩
  | 51 => ⟨S3592x1024, .f32⟩
  | 52 => ⟨S1024x3592, .f32⟩
  | 53 => ⟨S1024x3592, .bf16⟩
  | 54 => ⟨S1024x8x449, .bf16⟩
  | 55 => ⟨S8x1024x449, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_5 : Ref sig .tc := ⟨.hbm, 70, rfl⟩
abbrev main_v58 : Ref sig .tc := ⟨.hbm, 71, rfl⟩
abbrev main_v59 : Ref sig .tc := ⟨.hbm, 72, rfl⟩
abbrev main_cst_6 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_cst_7 : Ref sig .tc := ⟨.hbm, 110, rfl⟩
abbrev main_v96 : Ref sig .tc := ⟨.hbm, 111, rfl⟩
abbrev main_cst_8 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_cst_9 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_cst_10 : Ref sig .tc := ⟨.hbm, 136, rfl⟩
abbrev main_v119 : Ref sig .tc := ⟨.hbm, 137, rfl⟩
abbrev main_cst_11 : Ref sig .tc := ⟨.hbm, 138, rfl⟩
abbrev main_v120 : Ref sig .tc := ⟨.hbm, 139, rfl⟩
abbrev main_v121 : Ref sig .tc := ⟨.hbm, 140, rfl⟩
abbrev main_cst_12 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_cst_13 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_cst_14 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_cst_15 : Ref sig .tc := ⟨.hbm, 166, rfl⟩
abbrev main_v144 : Ref sig .tc := ⟨.hbm, 167, rfl⟩
abbrev main_cst_16 : Ref sig .tc := ⟨.hbm, 168, rfl⟩
abbrev main_v145 : Ref sig .tc := ⟨.hbm, 169, rfl⟩
abbrev main_v146 : Ref sig .tc := ⟨.hbm, 170, rfl⟩
abbrev main_cst_17 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_cst_18 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩

abbrev nD : Nat := 1
abbrev τ : Topo := Topo.v7x

variable {F : FTy → Type} [FloatOps F]
-- ==== Inp.lean ====
abbrev S4096x1024 : Shape := ⟨2, ![4096, 1024]⟩
abbrev S1024 : Shape := ⟨1, ![1024]⟩
abbrev S1024x3592 : Shape := ⟨2, ![1024, 3592]⟩
abbrev S4096x512 : Shape := ⟨2, ![4096, 512]⟩
abbrev S4096x2056 : Shape := ⟨2, ![4096, 2056]⟩
abbrev S_ : Shape := ⟨0, ![]⟩
abbrev S4096x2304 : Shape := ⟨2, ![4096, 2304]⟩
abbrev S1024x3840 : Shape := ⟨2, ![1024, 3840]⟩
abbrev S512x128 : Shape := ⟨2, ![512, 128]⟩
abbrev S8x128 : Shape := ⟨2, ![8, 128]⟩
abbrev S4096x128 : Shape := ⟨2, ![4096, 128]⟩
abbrev S8x1x128 : Shape := ⟨3, ![8, 1, 128]⟩
abbrev S1x512x128 : Shape := ⟨3, ![1, 512, 128]⟩
abbrev S8x512x128 : Shape := ⟨3, ![8, 512, 128]⟩
abbrev S1x1024 : Shape := ⟨2, ![1, 1024]⟩
abbrev S512x512 : Shape := ⟨2, ![512, 512]⟩
abbrev S512x2304 : Shape := ⟨2, ![512, 2304]⟩
abbrev S512x1024 : Shape := ⟨2, ![512, 1024]⟩
abbrev S1024x512 : Shape := ⟨2, ![1024, 512]⟩
abbrev S512x768 : Shape := ⟨2, ![512, 768]⟩
abbrev S1024x768 : Shape := ⟨2, ![1024, 768]⟩
abbrev S512 : Shape := ⟨1, ![512]⟩
abbrev S512x1 : Shape := ⟨2, ![512, 1]⟩

abbrev nBuf : Space → Nat
  | .hbm => 217
  | .vmem => 23
  | .smem => 0
  | _ => 0

abbrev hbmTy0_0 (i : Nat) : BufTy := match i % 128 with
  | 0 => ⟨S4096x1024, .f32⟩
  | 1 => ⟨S1024, .f32⟩
  | 2 => ⟨S1024x3592, .f32⟩
  | 3 => ⟨S4096x1024, .f32⟩
  | 4 => ⟨S4096x512, .f32⟩
  | 5 => ⟨S4096x512, .f32⟩
  | 6 => ⟨S4096x512, .f32⟩
  | 7 => ⟨S4096x2056, .f32⟩
  | 8 => ⟨S4096x512, .bf16⟩
  | 9 => ⟨S4096x512, .bf16⟩
  | 10 => ⟨S4096x512, .bf16⟩
  | 11 => ⟨S4096x2056, .bf16⟩
  | 12 => ⟨S_, .i32⟩
  | 13 => ⟨S_, .bf16⟩
  | 14 => ⟨S4096x2304, .bf16⟩
  | 15 => ⟨S1024x3592, .bf16⟩
  | 16 => ⟨S_, .i32⟩
  | 17 => ⟨S_, .bf16⟩
  | 18 => ⟨S1024x3840, .bf16⟩
  | 19 => ⟨S512x128, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S512x128, .i32⟩
  | 27 => ⟨S512x128, .i32⟩
  | 28 => ⟨S_, .i32⟩
  | 29 => ⟨S512x128, .i32⟩
  | 30 => ⟨S512x128, .i1⟩
  | 31 => ⟨S_, .i32⟩
  | 32 => ⟨S512x128, .i32⟩
  | 33 => ⟨S512x128, .i1⟩
  | 34 => ⟨S_, .i32⟩
  | 35 => ⟨S_, .i1⟩
  | 36 => ⟨S512x128, .i1⟩
  | 37 => ⟨S512x128, .i1⟩
  | 38 => ⟨S512x128, .i1⟩
  | 39 => ⟨S512x128, .i32⟩
  | 40 => ⟨S512x128, .i32⟩
  | 41 => ⟨S512x128, .i32⟩
  | 42 => ⟨S512x128, .i32⟩
  | 43 => ⟨S_, .i32⟩
  | 44 => ⟨S512x128, .i32⟩
  | 45 => ⟨S512x128, .i32⟩
  | 46 => ⟨S512x128, .f32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S512x128, .i32⟩
  | 54 => ⟨S512x128, .i32⟩
  | 55 => ⟨S_, .i32⟩
  | 56 => ⟨S512x128, .i32⟩
  | 57 => ⟨S512x128, .i1⟩
  | 58 => ⟨S_, .i32⟩
  | 59 => ⟨S512x128, .i32⟩
  | 60 => ⟨S512x128, .i1⟩
  | 61 => ⟨S_, .i32⟩
  | 62 => ⟨S_, .i1⟩
  | 63 => ⟨S512x128, .i1⟩
  | 64 => ⟨S512x128, .i1⟩
  | 65 => ⟨S512x128, .i1⟩
  | 66 => ⟨S512x128, .i32⟩
  | 67 => ⟨S512x128, .i32⟩
  | 68 => ⟨S512x128, .i32⟩
  | 69 => ⟨S512x128, .f32⟩
  | 70 => ⟨S512x128, .f32⟩
  | 71 => ⟨S_, .f32⟩
  | 72 => ⟨S512x128, .f32⟩
  | 73 => ⟨S512x128, .f32⟩
  | 74 => ⟨S_, .f32⟩
  | 75 => ⟨S512x128, .f32⟩
  | 76 => ⟨S512x128, .f32⟩
  | 77 => ⟨S512x128, .f32⟩
  | 78 => ⟨S512x128, .f32⟩
  | 79 => ⟨S512x128, .f32⟩
  | 80 => ⟨S8x128, .i32⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S8x128, .i32⟩
  | 88 => ⟨S8x128, .i32⟩
  | 89 => ⟨S_, .i32⟩
  | 90 => ⟨S8x128, .i32⟩
  | 91 => ⟨S8x128, .i1⟩
  | 92 => ⟨S_, .i32⟩
  | 93 => ⟨S8x128, .i32⟩
  | 94 => ⟨S8x128, .i1⟩
  | 95 => ⟨S_, .i32⟩
  | 96 => ⟨S_, .i1⟩
  | 97 => ⟨S8x128, .i1⟩
  | 98 => ⟨S8x128, .i1⟩
  | 99 => ⟨S8x128, .i1⟩
  | 100 => ⟨S8x128, .i32⟩
  | 101 => ⟨S8x128, .i32⟩
  | 102 => ⟨S8x128, .i32⟩
  | 103 => ⟨S8x128, .i32⟩
  | 104 => ⟨S_, .i32⟩
  | 105 => ⟨S8x128, .i32⟩
  | 106 => ⟨S8x128, .i32⟩
  | 107 => ⟨S8x128, .f32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S8x128, .i32⟩
  | 115 => ⟨S8x128, .i32⟩
  | 116 => ⟨S_, .i32⟩
  | 117 => ⟨S8x128, .i32⟩
  | 118 => ⟨S8x128, .i1⟩
  | 119 => ⟨S_, .i32⟩
  | 120 => ⟨S8x128, .i32⟩
  | 121 => ⟨S8x128, .i1⟩
  | 122 => ⟨S_, .i32⟩
  | 123 => ⟨S_, .i1⟩
  | 124 => ⟨S8x128, .i1⟩
  | 125 => ⟨S8x128, .i1⟩
  | 126 => ⟨S8x128, .i1⟩
  | 127 => ⟨S8x128, .i32⟩
  | _ => ⟨S4096x1024, .f32⟩

abbrev hbmTy0_1 (i : Nat) : BufTy := match i % 128 with
  | 0 => ⟨S8x128, .i32⟩
  | 1 => ⟨S8x128, .i32⟩
  | 2 => ⟨S8x128, .f32⟩
  | 3 => ⟨S8x128, .f32⟩
  | 4 => ⟨S_, .f32⟩
  | 5 => ⟨S8x128, .f32⟩
  | 6 => ⟨S8x128, .f32⟩
  | 7 => ⟨S_, .f32⟩
  | 8 => ⟨S8x128, .f32⟩
  | 9 => ⟨S8x128, .f32⟩
  | 10 => ⟨S8x128, .f32⟩
  | 11 => ⟨S8x128, .f32⟩
  | 12 => ⟨S8x128, .f32⟩
  | 13 => ⟨S4096x128, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S4096x128, .i32⟩
  | 21 => ⟨S4096x128, .i32⟩
  | 22 => ⟨S_, .i32⟩
  | 23 => ⟨S4096x128, .i32⟩
  | 24 => ⟨S4096x128, .i1⟩
  | 25 => ⟨S_, .i32⟩
  | 26 => ⟨S4096x128, .i32⟩
  | 27 => ⟨S4096x128, .i1⟩
  | 28 => ⟨S_, .i32⟩
  | 29 => ⟨S_, .i1⟩
  | 30 => ⟨S4096x128, .i1⟩
  | 31 => ⟨S4096x128, .i1⟩
  | 32 => ⟨S4096x128, .i1⟩
  | 33 => ⟨S4096x128, .i32⟩
  | 34 => ⟨S4096x128, .i32⟩
  | 35 => ⟨S4096x128, .i32⟩
  | 36 => ⟨S8x1x128, .f32⟩
  | 37 => ⟨S1x512x128, .f32⟩
  | 38 => ⟨S8x512x128, .f32⟩
  | 39 => ⟨S8x512x128, .f32⟩
  | 40 => ⟨S8x512x128, .f32⟩
  | 41 => ⟨S8x1x128, .f32⟩
  | 42 => ⟨S1x512x128, .f32⟩
  | 43 => ⟨S8x512x128, .f32⟩
  | 44 => ⟨S8x512x128, .f32⟩
  | 45 => ⟨S8x512x128, .f32⟩
  | 46 => ⟨S8x512x128, .f32⟩
  | 47 => ⟨S4096x128, .f32⟩
  | 48 => ⟨S8x1x128, .f32⟩
  | 49 => ⟨S1x512x128, .f32⟩
  | 50 => ⟨S8x512x128, .f32⟩
  | 51 => ⟨S8x512x128, .f32⟩
  | 52 => ⟨S8x512x128, .f32⟩
  | 53 => ⟨S8x1x128, .f32⟩
  | 54 => ⟨S1x512x128, .f32⟩
  | 55 => ⟨S8x512x128, .f32⟩
  | 56 => ⟨S8x512x128, .f32⟩
  | 57 => ⟨S8x512x128, .f32⟩
  | 58 => ⟨S8x512x128, .f32⟩
  | 59 => ⟨S4096x128, .f32⟩
  | 60 => ⟨S_, .i32⟩
  | 61 => ⟨S4096x128, .i32⟩
  | 62 => ⟨S4096x128, .i1⟩
  | 63 => ⟨S_, .f32⟩
  | 64 => ⟨S_, .f32⟩
  | 65 => ⟨S4096x128, .f32⟩
  | 66 => ⟨S4096x128, .f32⟩
  | 67 => ⟨S_, .i32⟩
  | 68 => ⟨S4096x128, .i32⟩
  | 69 => ⟨S4096x128, .i1⟩
  | 70 => ⟨S4096x128, .f32⟩
  | 71 => ⟨S_, .f32⟩
  | 72 => ⟨S_, .f32⟩
  | 73 => ⟨S4096x128, .f32⟩
  | 74 => ⟨S4096x128, .f32⟩
  | 75 => ⟨S_, .i32⟩
  | 76 => ⟨S4096x128, .i32⟩
  | 77 => ⟨S4096x128, .i1⟩
  | 78 => ⟨S_, .i32⟩
  | 79 => ⟨S4096x128, .i32⟩
  | 80 => ⟨S4096x128, .i1⟩
  | 81 => ⟨S4096x128, .i1⟩
  | 82 => ⟨S_, .f32⟩
  | 83 => ⟨S_, .f32⟩
  | 84 => ⟨S4096x128, .f32⟩
  | 85 => ⟨S4096x128, .f32⟩
  | 86 => ⟨S1x1024, .f32⟩
  | 87 => ⟨S4096x1024, .f32⟩
  | 88 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2304, .bf16⟩
  | .local _ .vmem, ⟨7, _⟩ => ⟨S512x2304, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1024x3840, .bf16⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_call1_v0 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_call2_v0 : Ref sig .tc := ⟨.hbm, 21, rfl⟩
abbrev main_call2_c : Ref sig .tc := ⟨.hbm, 22, rfl⟩
abbrev main_call2_v1 : Ref sig .tc := ⟨.hbm, 23, rfl⟩
abbrev main_call2_c_0 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_call2_c_1 : Ref sig .tc := ⟨.hbm, 28, rfl⟩
abbrev main_call2_v5 : Ref sig .tc := ⟨.hbm, 29, rfl⟩
abbrev main_call2_v6 : Ref sig .tc := ⟨.hbm, 30, rfl⟩
abbrev main_call2_c_2 : Ref sig .tc := ⟨.hbm, 31, rfl⟩
abbrev main_call2_v7 : Ref sig .tc := ⟨.hbm, 32, rfl⟩
abbrev main_call2_v8 : Ref sig .tc := ⟨.hbm, 33, rfl⟩
abbrev main_call2_c_3 : Ref sig .tc := ⟨.hbm, 34, rfl⟩
abbrev main_call2_v9 : Ref sig .tc := ⟨.hbm, 35, rfl⟩
abbrev main_call2_v10 : Ref sig .tc := ⟨.hbm, 36, rfl⟩
abbrev main_call2_v11 : Ref sig .tc := ⟨.hbm, 37, rfl⟩
abbrev main_call2_v12 : Ref sig .tc := ⟨.hbm, 38, rfl⟩
abbrev main_call2_v13 : Ref sig .tc := ⟨.hbm, 39, rfl⟩
abbrev main_call2_v14 : Ref sig .tc := ⟨.hbm, 40, rfl⟩
abbrev main_v8 : Ref sig .tc := ⟨.hbm, 41, rfl⟩
abbrev main_v9 : Ref sig .tc := ⟨.hbm, 42, rfl⟩
abbrev main_c_2 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_c_3 : Ref sig .tc := ⟨.hbm, 47, rfl⟩
abbrev main_call3_v0 : Ref sig .tc := ⟨.hbm, 48, rfl⟩
abbrev main_call3_c : Ref sig .tc := ⟨.hbm, 49, rfl⟩
abbrev main_call3_v1 : Ref sig .tc := ⟨.hbm, 50, rfl⟩
abbrev main_call3_c_0 : Ref sig .tc := ⟨.hbm, 51, rfl⟩
abbrev main_call3_v2 : Ref sig .tc := ⟨.hbm, 52, rfl⟩
abbrev main_call3_v3 : Ref sig .tc := ⟨.hbm, 53, rfl⟩
abbrev main_call3_v4 : Ref sig .tc := ⟨.hbm, 54, rfl⟩
abbrev main_call3_c_1 : Ref sig .tc := ⟨.hbm, 55, rfl⟩
abbrev main_call3_v5 : Ref sig .tc := ⟨.hbm, 56, rfl⟩
abbrev main_call3_v6 : Ref sig .tc := ⟨.hbm, 57, rfl⟩
abbrev main_call3_c_2 : Ref sig .tc := ⟨.hbm, 58, rfl⟩
abbrev main_call3_v7 : Ref sig .tc := ⟨.hbm, 59, rfl⟩
abbrev main_call3_v8 : Ref sig .tc := ⟨.hbm, 60, rfl⟩
abbrev main_call3_c_3 : Ref sig .tc := ⟨.hbm, 61, rfl⟩
abbrev main_call3_v9 : Ref sig .tc := ⟨.hbm, 62, rfl⟩
abbrev main_call3_v10 : Ref sig .tc := ⟨.hbm, 63, rfl⟩
abbrev main_call3_v11 : Ref sig .tc := ⟨.hbm, 64, rfl⟩
abbrev main_call3_v12 : Ref sig .tc := ⟨.hbm, 65, rfl⟩
abbrev main_call3_v13 : Ref sig .tc := ⟨.hbm, 66, rfl⟩
abbrev main_call3_v14 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_cst : Ref sig .tc := ⟨.hbm, 71, rfl⟩
abbrev main_v16 : Ref sig .tc := ⟨.hbm, 72, rfl⟩
abbrev main_v17 : Ref sig .tc := ⟨.hbm, 73, rfl⟩
abbrev main_cst_4 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_c_5 : Ref sig .tc := ⟨.hbm, 81, rfl⟩
abbrev main_call4_v0 : Ref sig .tc := ⟨.hbm, 82, rfl⟩
abbrev main_call4_c : Ref sig .tc := ⟨.hbm, 83, rfl⟩
abbrev main_call4_v1 : Ref sig .tc := ⟨.hbm, 84, rfl⟩
abbrev main_call4_c_0 : Ref sig .tc := ⟨.hbm, 85, rfl⟩
abbrev main_call4_v2 : Ref sig .tc := ⟨.hbm, 86, rfl⟩
abbrev main_call4_v3 : Ref sig .tc := ⟨.hbm, 87, rfl⟩
abbrev main_call4_v4 : Ref sig .tc := ⟨.hbm, 88, rfl⟩
abbrev main_call4_c_1 : Ref sig .tc := ⟨.hbm, 89, rfl⟩
abbrev main_call4_v5 : Ref sig .tc := ⟨.hbm, 90, rfl⟩
abbrev main_call4_v6 : Ref sig .tc := ⟨.hbm, 91, rfl⟩
abbrev main_call4_c_2 : Ref sig .tc := ⟨.hbm, 92, rfl⟩
abbrev main_call4_v7 : Ref sig .tc := ⟨.hbm, 93, rfl⟩
abbrev main_call4_v8 : Ref sig .tc := ⟨.hbm, 94, rfl⟩
abbrev main_call4_c_3 : Ref sig .tc := ⟨.hbm, 95, rfl⟩
abbrev main_call4_v9 : Ref sig .tc := ⟨.hbm, 96, rfl⟩
abbrev main_call4_v10 : Ref sig .tc := ⟨.hbm, 97, rfl⟩
abbrev main_call4_v11 : Ref sig .tc := ⟨.hbm, 98, rfl⟩
abbrev main_call4_v12 : Ref sig .tc := ⟨.hbm, 99, rfl⟩
abbrev main_call4_v13 : Ref sig .tc := ⟨.hbm, 100, rfl⟩
abbrev main_call4_v14 : Ref sig .tc := ⟨.hbm, 101, rfl⟩
abbrev main_v24 : Ref sig .tc := ⟨.hbm, 102, rfl⟩
abbrev main_v25 : Ref sig .tc := ⟨.hbm, 103, rfl⟩
abbrev main_c_6 : Ref sig .tc := ⟨.hbm, 104, rfl⟩
abbrev main_v26 : Ref sig .tc := ⟨.hbm, 105, rfl⟩
abbrev main_v27 : Ref sig .tc := ⟨.hbm, 106, rfl⟩
abbrev main_v28 : Ref sig .tc := ⟨.hbm, 107, rfl⟩
abbrev main_c_7 : Ref sig .tc := ⟨.hbm, 108, rfl⟩
abbrev main_call5_v0 : Ref sig .tc := ⟨.hbm, 109, rfl⟩
abbrev main_call5_c : Ref sig .tc := ⟨.hbm, 110, rfl⟩
abbrev main_call5_v1 : Ref sig .tc := ⟨.hbm, 111, rfl⟩
abbrev main_call5_c_0 : Ref sig .tc := ⟨.hbm, 112, rfl⟩
abbrev main_call5_v2 : Ref sig .tc := ⟨.hbm, 113, rfl⟩
abbrev main_call5_v3 : Ref sig .tc := ⟨.hbm, 114, rfl⟩
abbrev main_call5_v4 : Ref sig .tc := ⟨.hbm, 115, rfl⟩
abbrev main_call5_c_1 : Ref sig .tc := ⟨.hbm, 116, rfl⟩
abbrev main_call5_v5 : Ref sig .tc := ⟨.hbm, 117, rfl⟩
abbrev main_call5_v6 : Ref sig .tc := ⟨.hbm, 118, rfl⟩
abbrev main_call5_c_2 : Ref sig .tc := ⟨.hbm, 119, rfl⟩
abbrev main_call5_v7 : Ref sig .tc := ⟨.hbm, 120, rfl⟩
abbrev main_call5_v8 : Ref sig .tc := ⟨.hbm, 121, rfl⟩
abbrev main_call5_c_3 : Ref sig .tc := ⟨.hbm, 122, rfl⟩
abbrev main_call5_v9 : Ref sig .tc := ⟨.hbm, 123, rfl⟩
abbrev main_call5_v10 : Ref sig .tc := ⟨.hbm, 124, rfl⟩
abbrev main_call5_v11 : Ref sig .tc := ⟨.hbm, 125, rfl⟩
abbrev main_call5_v12 : Ref sig .tc := ⟨.hbm, 126, rfl⟩
abbrev main_call5_v13 : Ref sig .tc := ⟨.hbm, 127, rfl⟩
abbrev main_call5_v14 : Ref sig .tc := ⟨.hbm, 128, rfl⟩
abbrev main_v29 : Ref sig .tc := ⟨.hbm, 129, rfl⟩
abbrev main_v30 : Ref sig .tc := ⟨.hbm, 130, rfl⟩
abbrev main_v31 : Ref sig .tc := ⟨.hbm, 131, rfl⟩
abbrev main_cst_8 : Ref sig .tc := ⟨.hbm, 132, rfl⟩
abbrev main_v32 : Ref sig .tc := ⟨.hbm, 133, rfl⟩
abbrev main_v33 : Ref sig .tc := ⟨.hbm, 134, rfl⟩
abbrev main_cst_9 : Ref sig .tc := ⟨.hbm, 135, rfl⟩
abbrev main_v34 : Ref sig .tc := ⟨.hbm, 136, rfl⟩
abbrev main_v35 : Ref sig .tc := ⟨.hbm, 137, rfl⟩
abbrev main_v36 : Ref sig .tc := ⟨.hbm, 138, rfl⟩
abbrev main_v37 : Ref sig .tc := ⟨.hbm, 139, rfl⟩
abbrev main_v38 : Ref sig .tc := ⟨.hbm, 140, rfl⟩
abbrev main_v39 : Ref sig .tc := ⟨.hbm, 141, rfl⟩
abbrev main_c_10 : Ref sig .tc := ⟨.hbm, 142, rfl⟩
abbrev main_call6_v0 : Ref sig .tc := ⟨.hbm, 143, rfl⟩
abbrev main_call6_c : Ref sig .tc := ⟨.hbm, 144, rfl⟩
abbrev main_call6_v1 : Ref sig .tc := ⟨.hbm, 145, rfl⟩
abbrev main_call6_c_0 : Ref sig .tc := ⟨.hbm, 146, rfl⟩
abbrev main_call6_v2 : Ref sig .tc := ⟨.hbm, 147, rfl⟩
abbrev main_call6_v3 : Ref sig .tc := ⟨.hbm, 148, rfl⟩
abbrev main_call6_v4 : Ref sig .tc := ⟨.hbm, 149, rfl⟩
abbrev main_call6_c_1 : Ref sig .tc := ⟨.hbm, 150, rfl⟩
abbrev main_call6_v5 : Ref sig .tc := ⟨.hbm, 151, rfl⟩
abbrev main_call6_v6 : Ref sig .tc := ⟨.hbm, 152, rfl⟩
abbrev main_call6_c_2 : Ref sig .tc := ⟨.hbm, 153, rfl⟩
abbrev main_call6_v7 : Ref sig .tc := ⟨.hbm, 154, rfl⟩
abbrev main_call6_v8 : Ref sig .tc := ⟨.hbm, 155, rfl⟩
abbrev main_call6_c_3 : Ref sig .tc := ⟨.hbm, 156, rfl⟩
abbrev main_call6_v9 : Ref sig .tc := ⟨.hbm, 157, rfl⟩
abbrev main_call6_v10 : Ref sig .tc := ⟨.hbm, 158, rfl⟩
abbrev main_call6_v11 : Ref sig .tc := ⟨.hbm, 159, rfl⟩
abbrev main_call6_v12 : Ref sig .tc := ⟨.hbm, 160, rfl⟩
abbrev main_call6_v13 : Ref sig .tc := ⟨.hbm, 161, rfl⟩
abbrev main_call6_v14 : Ref sig .tc := ⟨.hbm, 162, rfl⟩
abbrev main_v40 : Ref sig .tc := ⟨.hbm, 163, rfl⟩
abbrev main_v41 : Ref sig .tc := ⟨.hbm, 164, rfl⟩
abbrev main_v42 : Ref sig .tc := ⟨.hbm, 165, rfl⟩
abbrev main_v43 : Ref sig .tc := ⟨.hbm, 166, rfl⟩
abbrev main_v44 : Ref sig .tc := ⟨.hbm, 167, rfl⟩
abbrev main_v45 : Ref sig .tc := ⟨.hbm, 168, rfl⟩
abbrev main_v46 : Ref sig .tc := ⟨.hbm, 169, rfl⟩
abbrev main_v47 : Ref sig .tc := ⟨.hbm, 170, rfl⟩
abbrev main_v48 : Ref sig .tc := ⟨.hbm, 171, rfl⟩
abbrev main_v49 : Ref sig .tc := ⟨.hbm, 172, rfl⟩
abbrev main_v50 : Ref sig .tc := ⟨.hbm, 173, rfl⟩
abbrev main_v51 : Ref sig .tc := ⟨.hbm, 174, rfl⟩
abbrev main_v52 : Ref sig .tc := ⟨.hbm, 175, rfl⟩
abbrev main_v53 : Ref sig .tc := ⟨.hbm, 176, rfl⟩
abbrev main_v54 : Ref sig .tc := ⟨.hbm, 177, rfl⟩
abbrev main_v55 : Ref sig .tc := ⟨.hbm, 178, rfl⟩
abbrev main_v56 : Ref sig .tc := ⟨.hbm, 179, rfl⟩
abbrev main_v57 : Ref sig .tc := ⟨.hbm, 180, rfl⟩
abbrev main_v58 : Ref sig .tc := ⟨.hbm, 181, rfl⟩
abbrev main_v59 : Ref sig .tc := ⟨.hbm, 182, rfl⟩
abbrev main_v60 : Ref sig .tc := ⟨.hbm, 183, rfl⟩
abbrev main_v61 : Ref sig .tc := ⟨.hbm, 184, rfl⟩
abbrev main_v62 : Ref sig .tc := ⟨.hbm, 185, rfl⟩
abbrev main_v63 : Ref sig .tc := ⟨.hbm, 186, rfl⟩
abbrev main_v64 : Ref sig .tc := ⟨.hbm, 187, rfl⟩
abbrev main_c_11 : Ref sig .tc := ⟨.hbm, 188, rfl⟩
abbrev main_v65 : Ref sig .tc := ⟨.hbm, 189, rfl⟩
abbrev main_v66 : Ref sig .tc := ⟨.hbm, 190, rfl⟩
abbrev main_cst_12 : Ref sig .tc := ⟨.hbm, 191, rfl⟩
abbrev main_call7_v0 : Ref sig .tc := ⟨.hbm, 192, rfl⟩
abbrev main_call7_v1 : Ref sig .tc := ⟨.hbm, 193, rfl⟩
abbrev main_v67 : Ref sig .tc := ⟨.hbm, 194, rfl⟩
abbrev main_c_13 : Ref sig .tc := ⟨.hbm, 195, rfl⟩
abbrev main_v68 : Ref sig .tc := ⟨.hbm, 196, rfl⟩
abbrev main_v69 : Ref sig .tc := ⟨.hbm, 197, rfl⟩
abbrev main_v70 : Ref sig .tc := ⟨.hbm, 198, rfl⟩
abbrev main_cst_14 : Ref sig .tc := ⟨.hbm, 199, rfl⟩
abbrev main_call8_v0 : Ref sig .tc := ⟨.hbm, 200, rfl⟩
abbrev main_call8_v1 : Ref sig .tc := ⟨.hbm, 201, rfl⟩
abbrev main_v71 : Ref sig .tc := ⟨.hbm, 202, rfl⟩
abbrev main_c_15 : Ref sig .tc := ⟨.hbm, 203, rfl⟩
abbrev main_v72 : Ref sig .tc := ⟨.hbm, 204, rfl⟩
abbrev main_v73 : Ref sig .tc := ⟨.hbm, 205, rfl⟩
abbrev main_c_16 : Ref sig .tc := ⟨.hbm, 206, rfl⟩
abbrev main_v74 : Ref sig .tc := ⟨.hbm, 207, rfl⟩
abbrev main_v75 : Ref sig .tc := ⟨.hbm, 208, rfl⟩
abbrev main_v76 : Ref sig .tc := ⟨.hbm, 209, rfl⟩
abbrev main_cst_17 : Ref sig .tc := ⟨.hbm, 210, rfl⟩
abbrev main_call9_v0 : Ref sig .tc := ⟨.hbm, 211, rfl⟩
abbrev main_call9_v1 : Ref sig .tc := ⟨.hbm, 212, rfl⟩
abbrev main_v77 : Ref sig .tc := ⟨.hbm, 213, rfl⟩
abbrev main_v78 : Ref sig .tc := ⟨.hbm, 214, rfl⟩
abbrev main_v79_0 : Ref sig .tc := ⟨.hbm, 215, rfl⟩
abbrev main_v79_1 : Ref sig .tc := ⟨.hbm, 216, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x3840 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== InpRefIdeal.lean ====
abbrev S4096x1024 : Shape := ⟨2, ![4096, 1024]⟩
abbrev S1024 : Shape := ⟨1, ![1024]⟩
abbrev S1024x3592 : Shape := ⟨2, ![1024, 3592]⟩
abbrev S4096x512 : Shape := ⟨2, ![4096, 512]⟩
abbrev S4096x2056 : Shape := ⟨2, ![4096, 2056]⟩
abbrev S4096 : Shape := ⟨1, ![4096]⟩
abbrev S_ : Shape := ⟨0, ![]⟩
abbrev S4096x1 : Shape := ⟨2, ![4096, 1]⟩
abbrev S1x1024 : Shape := ⟨2, ![1, 1024]⟩
abbrev S4096x3592 : Shape := ⟨2, ![4096, 3592]⟩
abbrev S4096x8x64 : Shape := ⟨3, ![4096, 8, 64]⟩
abbrev S8x4096x64 : Shape := ⟨3, ![8, 4096, 64]⟩
abbrev S8 : Shape := ⟨1, ![8]⟩
abbrev S1x8 : Shape := ⟨2, ![1, 8]⟩
abbrev S4096x8 : Shape := ⟨2, ![4096, 8]⟩
abbrev S8x4096x16 : Shape := ⟨3, ![8, 4096, 16]⟩
abbrev S8x4096x8 : Shape := ⟨3, ![8, 4096, 8]⟩
abbrev S1x4096x8 : Shape := ⟨3, ![1, 4096, 8]⟩
abbrev S8x4096x48 : Shape := ⟨3, ![8, 4096, 48]⟩

abbrev nBuf : Space → Nat
  | .hbm => 211
  | .vmem => 0
  | .smem => 0
  | _ => 0

abbrev hbmTy0_0 (i : Nat) : BufTy := match i % 128 with
  | 0 => ⟨S4096x1024, .f32⟩
  | 1 => ⟨S1024, .f32⟩
  | 2 => ⟨S1024x3592, .f32⟩
  | 3 => ⟨S4096x1024, .f32⟩
  | 4 => ⟨S4096x512, .f32⟩
  | 5 => ⟨S4096x512, .f32⟩
  | 6 => ⟨S4096x512, .f32⟩
  | 7 => ⟨S4096x2056, .f32⟩
  | 8 => ⟨S4096, .i32⟩
  | 9 => ⟨S4096x1024, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x1, .f32⟩
  | 20 => ⟨S4096x1, .f32⟩
  | 21 => ⟨S_, .f32⟩
  | 22 => ⟨S4096x1, .f32⟩
  | 23 => ⟨S4096x1, .f32⟩
  | 24 => ⟨S4096x1024, .f32⟩
  | 25 => ⟨S4096x1024, .f32⟩
  | 26 => ⟨S1x1024, .f32⟩
  | 27 => ⟨S4096x1024, .f32⟩
  | 28 => ⟨S4096x1024, .f32⟩
  | 29 => ⟨S4096x3592, .f32⟩
  | 30 => ⟨S4096x512, .f32⟩
  | 31 => ⟨S4096x8x64, .f32⟩
  | 32 => ⟨S8x4096x64, .f32⟩
  | 33 => ⟨S8, .f32⟩
  | 34 => ⟨S8, .f32⟩
  | 35 => ⟨S_, .f32⟩
  | 36 => ⟨S8, .f32⟩
  | 37 => ⟨S8, .f32⟩
  | 38 => ⟨S_, .f32⟩
  | 39 => ⟨S8, .f32⟩
  | 40 => ⟨S8, .f32⟩
  | 41 => ⟨S4096, .f32⟩
  | 42 => ⟨S4096x1, .f32⟩
  | 43 => ⟨S1x8, .f32⟩
  | 44 => ⟨S4096x8, .f32⟩
  | 45 => ⟨S4096x8, .f32⟩
  | 46 => ⟨S4096x8, .f32⟩
  | 47 => ⟨S4096x8, .f32⟩
  | 48 => ⟨S4096x8, .f32⟩
  | 49 => ⟨S8x4096x16, .f32⟩
  | 50 => ⟨S8x4096x8, .f32⟩
  | 51 => ⟨S8x4096x8, .f32⟩
  | 52 => ⟨S1x4096x8, .f32⟩
  | 53 => ⟨S8x4096x8, .f32⟩
  | 54 => ⟨S8x4096x8, .f32⟩
  | 55 => ⟨S1x4096x8, .f32⟩
  | 56 => ⟨S8x4096x8, .f32⟩
  | 57 => ⟨S8x4096x8, .f32⟩
  | 58 => ⟨S8x4096x8, .f32⟩
  | 59 => ⟨S1x4096x8, .f32⟩
  | 60 => ⟨S8x4096x8, .f32⟩
  | 61 => ⟨S8x4096x8, .f32⟩
  | 62 => ⟨S1x4096x8, .f32⟩
  | 63 => ⟨S8x4096x8, .f32⟩
  | 64 => ⟨S8x4096x8, .f32⟩
  | 65 => ⟨S8x4096x8, .f32⟩
  | 66 => ⟨S8x4096x16, .f32⟩
  | 67 => ⟨S8x4096x48, .f32⟩
  | 68 => ⟨S8x4096x64, .f32⟩
  | 69 => ⟨S4096x512, .f32⟩
  | 70 => ⟨S4096x8x64, .f32⟩
  | 71 => ⟨S8x4096x64, .f32⟩
  | 72 => ⟨S8, .f32⟩
  | 73 => ⟨S8, .f32⟩
  | 74 => ⟨S_, .f32⟩
  | 75 => ⟨S8, .f32⟩
  | 76 => ⟨S8, .f32⟩
  | 77 => ⟨S_, .f32⟩
  | 78 => ⟨S8, .f32⟩
  | 79 => ⟨S8, .f32⟩
  | 80 => ⟨S4096, .f32⟩
  | 81 => ⟨S4096x1, .f32⟩
  | 82 => ⟨S1x8, .f32⟩
  | 83 => ⟨S4096x8, .f32⟩
  | 84 => ⟨S4096x8, .f32⟩
  | 85 => ⟨S4096x8, .f32⟩
  | 86 => ⟨S4096x8, .f32⟩
  | 87 => ⟨S4096x8, .f32⟩
  | 88 => ⟨S8x4096x16, .f32⟩
  | 89 => ⟨S8x4096x8, .f32⟩
  | 90 => ⟨S8x4096x8, .f32⟩
  | 91 => ⟨S1x4096x8, .f32⟩
  | 92 => ⟨S8x4096x8, .f32⟩
  | 93 => ⟨S8x4096x8, .f32⟩
  | 94 => ⟨S1x4096x8, .f32⟩
  | 95 => ⟨S8x4096x8, .f32⟩
  | 96 => ⟨S8x4096x8, .f32⟩
  | 97 => ⟨S8x4096x8, .f32⟩
  | 98 => ⟨S1x4096x8, .f32⟩
  | 99 => ⟨S8x4096x8, .f32⟩
  | 100 => ⟨S8x4096x8, .f32⟩
  | 101 => ⟨S1x4096x8, .f32⟩
  | 102 => ⟨S8x4096x8, .f32⟩
  | 103 => ⟨S8x4096x8, .f32⟩
  | 104 => ⟨S8x4096x8, .f32⟩
  | 105 => ⟨S8x4096x16, .f32⟩
  | 106 => ⟨S8x4096x48, .f32⟩
  | 107 => ⟨S8x4096x64, .f32⟩
  | 108 => ⟨S4096x8x64, .f32⟩
  | 109 => ⟨S4096x512, .f32⟩
  | 110 => ⟨S4096x8x64, .f32⟩
  | 111 => ⟨S4096x512, .f32⟩
  | 112 => ⟨S4096x512, .f32⟩
  | 113 => ⟨S4096x2056, .f32⟩
  | 114 => ⟨S_, .f32⟩
  | 115 => ⟨S4096x3592, .f32⟩
  | 116 => ⟨S_, .f32⟩
  | 117 => ⟨S4096x3592, .f32⟩
  | 118 => ⟨S4096x3592, .f32⟩
  | 119 => ⟨S4096x8x64, .f32⟩
  | 120 => ⟨S8x4096x64, .f32⟩
  | 121 => ⟨S4096x8x64, .f32⟩
  | 122 => ⟨S8x4096x64, .f32⟩
  | 123 => ⟨S8x4096x16, .f32⟩
  | 124 => ⟨S8x4096x48, .f32⟩
  | 125 => ⟨S_, .f32⟩
  | 126 => ⟨S8x4096x64, .f32⟩
  | 127 => ⟨S8x4096x8, .f32⟩
  | _ => ⟨S4096x1024, .f32⟩

abbrev hbmTy0_1 (i : Nat) : BufTy := match i % 128 with
  | 0 => ⟨S8x4096x8, .f32⟩
  | 1 => ⟨S8x4096x8, .f32⟩
  | 2 => ⟨S8x4096x8, .f32⟩
  | 3 => ⟨S8x4096x8, .f32⟩
  | 4 => ⟨S8x4096x8, .f32⟩
  | 5 => ⟨S8x4096x8, .f32⟩
  | 6 => ⟨S8x4096x8, .f32⟩
  | 7 => ⟨S8x4096x8, .f32⟩
  | 8 => ⟨S8x4096x8, .f32⟩
  | 9 => ⟨S8x4096x8, .f32⟩
  | 10 => ⟨S8x4096x8, .f32⟩
  | 11 => ⟨S8x4096x8, .f32⟩
  | 12 => ⟨S_, .f32⟩
  | 13 => ⟨S8x4096x16, .f32⟩
  | 14 => ⟨S_, .f32⟩
  | 15 => ⟨S8x4096x16, .f32⟩
  | 16 => ⟨S8x4096x16, .f32⟩
  | 17 => ⟨S_, .f32⟩
  | 18 => ⟨S8x4096x64, .f32⟩
  | 19 => ⟨S8x4096x64, .f32⟩
  | 20 => ⟨S4096x8x64, .f32⟩
  | 21 => ⟨S4096x512, .f32⟩
  | 22 => ⟨S_, .f32⟩
  | 23 => ⟨S4096x3592, .f32⟩
  | 24 => ⟨S4096x3592, .f32⟩
  | 25 => ⟨S8x4096x16, .f32⟩
  | 26 => ⟨S8x4096x48, .f32⟩
  | 27 => ⟨S_, .f32⟩
  | 28 => ⟨S8x4096x64, .f32⟩
  | 29 => ⟨S8x4096x8, .f32⟩
  | 30 => ⟨S8x4096x8, .f32⟩
  | 31 => ⟨S8x4096x8, .f32⟩
  | 32 => ⟨S8x4096x8, .f32⟩
  | 33 => ⟨S8x4096x8, .f32⟩
  | 34 => ⟨S8x4096x8, .f32⟩
  | 35 => ⟨S8x4096x8, .f32⟩
  | 36 => ⟨S8x4096x8, .f32⟩
  | 37 => ⟨S8x4096x8, .f32⟩
  | 38 => ⟨S8x4096x8, .f32⟩
  | 39 => ⟨S8x4096x8, .f32⟩
  | 40 => ⟨S8x4096x8, .f32⟩
  | 41 => ⟨S8x4096x8, .f32⟩
  | 42 => ⟨S_, .f32⟩
  | 43 => ⟨S8x4096x16, .f32⟩
  | 44 => ⟨S_, .f32⟩
  | 45 => ⟨S8x4096x16, .f32⟩
  | 46 => ⟨S8x4096x16, .f32⟩
  | 47 => ⟨S_, .f32⟩
  | 48 => ⟨S8x4096x64, .f32⟩
  | 49 => ⟨S8x4096x64, .f32⟩
  | 50 => ⟨S4096x8x64, .f32⟩
  | 51 => ⟨S4096x512, .f32⟩
  | 52 => ⟨S_, .f32⟩
  | 53 => ⟨S4096x3592, .f32⟩
  | 54 => ⟨S4096x3592, .f32⟩
  | 55 => ⟨S4096x1024, .f32⟩
  | 56 => ⟨S4096x1024, .f32⟩
  | 57 => ⟨S_, .f32⟩
  | 58 => ⟨S1024, .f32⟩
  | 59 => ⟨S1x1024, .f32⟩
  | 60 => ⟨S4096x1024, .f32⟩
  | 61 => ⟨S4096x1024, .f32⟩
  | 62 => ⟨S_, .f32⟩
  | 63 => ⟨S1024, .f32⟩
  | 64 => ⟨S4096x1024, .f32⟩
  | 65 => ⟨S_, .f32⟩
  | 66 => ⟨S4096, .f32⟩
  | 67 => ⟨S4096x1, .f32⟩
  | 68 => ⟨S4096x1024, .f32⟩
  | 69 => ⟨S4096x1024, .f32⟩
  | 70 => ⟨S4096x1024, .f32⟩
  | 71 => ⟨S4096x1, .f32⟩
  | 72 => ⟨S_, .f32⟩
  | 73 => ⟨S4096x1, .f32⟩
  | 74 => ⟨S4096x1, .f32⟩
  | 75 => ⟨S_, .f32⟩
  | 76 => ⟨S4096, .f32⟩
  | 77 => ⟨S4096x1024, .f32⟩
  | 78 => ⟨S4096x1024, .f32⟩
  | 79 => ⟨S4096x1024, .f32⟩
  | 80 => ⟨S4096x1024, .f32⟩
  | 81 => ⟨S4096x1024, .f32⟩
  | 82 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_5 : Ref sig .tc := ⟨.hbm, 74, rfl⟩
abbrev main_v60 : Ref sig .tc := ⟨.hbm, 75, rfl⟩
abbrev main_v61 : Ref sig .tc := ⟨.hbm, 76, rfl⟩
abbrev main_cst_6 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_cst_7 : Ref sig .tc := ⟨.hbm, 114, rfl⟩
abbrev main_v98 : Ref sig .tc := ⟨.hbm, 115, rfl⟩
abbrev main_cst_8 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_cst_9 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_cst_10 : Ref sig .tc := ⟨.hbm, 140, rfl⟩
abbrev main_v121 : Ref sig .tc := ⟨.hbm, 141, rfl⟩
abbrev main_cst_11 : Ref sig .tc := ⟨.hbm, 142, rfl⟩
abbrev main_v122 : Ref sig .tc := ⟨.hbm, 143, rfl⟩
abbrev main_v123 : Ref sig .tc := ⟨.hbm, 144, rfl⟩
abbrev main_cst_12 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_cst_13 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_cst_14 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_cst_15 : Ref sig .tc := ⟨.hbm, 170, rfl⟩
abbrev main_v146 : Ref sig .tc := ⟨.hbm, 171, rfl⟩
abbrev main_cst_16 : Ref sig .tc := ⟨.hbm, 172, rfl⟩
abbrev main_v147 : Ref sig .tc := ⟨.hbm, 173, rfl⟩
abbrev main_v148 : Ref sig .tc := ⟨.hbm, 174, rfl⟩
abbrev main_cst_17 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_cst_18 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_cst_19 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_cst_20 : Ref sig .tc := ⟨.hbm, 190, rfl⟩
abbrev main_v161 : Ref sig .tc := ⟨.hbm, 191, rfl⟩
abbrev main_v162 : Ref sig .tc := ⟨.hbm, 192, rfl⟩
abbrev main_cst_21 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_cst_22 : Ref sig .tc := ⟨.hbm, 200, rfl⟩
abbrev main_v169 : Ref sig .tc := ⟨.hbm, 201, rfl⟩
abbrev main_v170 : Ref sig .tc := ⟨.hbm, 202, rfl⟩
abbrev main_cst_23 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩

abbrev nD : Nat := 1
abbrev τ : Topo := Topo.v7x

variable {F : FTy → Type} [FloatOps F]
-- ==== Attn.lean ====
abbrev S4096x512 : Shape := ⟨2, ![4096, 512]⟩
abbrev S4096x1536 : Shape := ⟨2, ![4096, 1536]⟩
abbrev S4096x128 : Shape := ⟨2, ![4096, 128]⟩
abbrev S256x256 : Shape := ⟨2, ![256, 256]⟩
abbrev S256x128 : Shape := ⟨2, ![256, 128]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S128x256 : Shape := ⟨2, ![128, 256]⟩
abbrev S128x128 : Shape := ⟨2, ![128, 128]⟩
abbrev S256 : Shape := ⟨1, ![256]⟩
abbrev S256x1 : Shape := ⟨2, ![256, 1]⟩

abbrev nBuf : Space → Nat
  | .hbm => 7
  | .vmem => 17
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x1536, .f32⟩
  | .hbm, ⟨4, _⟩ => ⟨S4096x512, .f32⟩
  | .hbm, ⟨5, _⟩ => ⟨S4096x512, .f32⟩
  | .hbm, ⟨6, _⟩ => ⟨S4096x512, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_off1 (k0_t1 : Fin k0_t1_loop.trips) (c0_i32_12 : BitVec 32) : Fin 2 → Nat :=
  let c2_i32 : BitVec 32 := 2#32
  let c0_i32 : BitVec 32 := 0#32
  let c1_i32 : BitVec 32 := 1#32
  let arg12 : BitVec 32 := Scf.iv c0_i32 c1_i32 k0_t1
  let v7 : BitVec 32 := Scalar.muli c2_i32 arg12
  let v8 : BitVec 32 := Scalar.addi v7 c0_i32_12
  let v21 : Index := Scalar.indexCast v8
  let c0 : Index := 0#32
  ![v21.toNat, 0]
@[reducible] def k0_t2_loop : Scf.Loop 32 :=
  let c0_i32_1 : BitVec 32 := 0#32
  let c8_i32_2 : BitVec 32 := 8#32
  let v1 : BitVec 32 := Scalar.addi c0_i32_1 c8_i32_2
  let c1_i32_3 : BitVec 32 := 1#32
  ⟨c0_i32_1, v1, c1_i32_3⟩
def k0_off2 (k0_t2 : Fin k0_t2_loop.trips) (c0_i32_19 : BitVec 32) : Fin 2 → Nat :=
  let c0_i32_1 : BitVec 32 := 0#32
  let c1_i32_3 : BitVec 32 := 1#32
  let arg12 : BitVec 32 := Scf.iv c0_i32_1 c1_i32_3 k0_t2
  let c0_i32_13 : BitVec 32 := 0#32
  let v5 : BitVec 1 := Scalar.cmpi .sgt arg12 c0_i32_13
  let v6 : BitVec 32 := Scalar.extui v5
  let c0_i32_14 : BitVec 32 := 0#32
  let v7 : BitVec 1 := Scalar.cmpi .slt arg12 c0_i32_14
  let v8 : BitVec 32 := Scalar.extui v7
  let v9 : BitVec 32 := Scalar.subi v6 v8
  let c8_i32_12 : BitVec 32 := 8#32
  let c0_i32_15 : BitVec 32 := 0#32
  let v10 : BitVec 1 := Scalar.cmpi .sgt c8_i32_12 c0_i32_15
  let v11 : BitVec 32 := Scalar.extui v10
  let c0_i32_16 : BitVec 32 := 0#32
  let v12 : BitVec 1 := Scalar.cmpi .slt c8_i32_12 c0_i32_16
  let v13 : BitVec 32 := Scalar.extui v12
  let v14 : BitVec 32 := Scalar.subi v11 v13
  let v15 : BitVec 1 := Scalar.cmpi .ne v9 v14
  let v16 : BitVec 32 := Scalar.remsi arg12 c8_i32_12
  let c0_i32_17 : BitVec 32 := 0#32
  let v17 : BitVec 1 := Scalar.cmpi .ne v16 c0_i32_17
  let v18 : BitVec 1 := Scalar.andi v15 v17
  let v4 : BitVec 32 := Scalar.divsi arg12 c8_i32_12
  let c1_i32_18 : BitVec 32 := 1#32
  let v19 : BitVec 32 := Scalar.subi v4 c1_i32_18
  let v20 : BitVec 32 := Scalar.select v18 v19 v4
  let c4_i32 : BitVec 32 := 4#32
  let v21 : BitVec 32 := Scalar.muli v20 c4_i32
  let v22 : BitVec 32 := Scalar.addi v21 c0_i32_19
  let c8_i32_20 : BitVec 32 := 8#32
  let c0_i32_21 : BitVec 32 := 0#32
  let v23 : BitVec 1 := Scalar.cmpi .eq c8_i32_20 c0_i32_21
  let c1_i32_22 : BitVec 32 := 1#32
  let v24 : BitVec 32 := Scalar.select v23 c1_i32_22 c8_i32_20
  let v25 : BitVec 32 := Scalar.remsi arg12 v24
  let c0_i32_24 : BitVec 32 := 0#32
  let v27 : BitVec 1 := Scalar.cmpi .slt v25 c0_i32_24
  let c0_i32_25 : BitVec 32 := 0#32
  let v28 : BitVec 1 := Scalar.cmpi .slt v24 c0_i32_25
  let v29 : BitVec 1 := Scalar.xori v27 v28
  let c0_i32_23 : BitVec 32 := 0#32
  let v26 : BitVec 1 := Scalar.cmpi .ne v25 c0_i32_23
  let v30 : BitVec 1 := Scalar.andi v29 v26
  let v31 : BitVec 32 := Scalar.addi v25 v24
  let v32 : BitVec 32 := Scalar.select v30 v31 v25
  let c128_i32 : BitVec 32 := 128#32
  let v33 : BitVec 32 := Scalar.muli v32 c128_i32
  let c4_i32_26 : BitVec 32 := 4#32
  let v34 : BitVec 32 := Scalar.muli v33 c4_i32_26
  let v35 : BitVec 32 := Scalar.addi v22 v34
  let v196 : Index := Scalar.indexCast v35
  let c0 : Index := 0#32
  ![v196.toNat, 0]
def k0_off3 (k0_t2 : Fin k0_t2_loop.trips) (c0_i32_19 : BitVec 32) : Fin 2 → Nat :=
  let c0_i32_1 : BitVec 32 := 0#32
  let c1_i32_3 : BitVec 32 := 1#32
  let arg12 : BitVec 32 := Scf.iv c0_i32_1 c1_i32_3 k0_t2
  let c0_i32_13 : BitVec 32 := 0#32
  let v5 : BitVec 1 := Scalar.cmpi .sgt arg12 c0_i32_13
  let v6 : BitVec 32 := Scalar.extui v5
  let c0_i32_14 : BitVec 32 := 0#32
  let v7 : BitVec 1 := Scalar.cmpi .slt arg12 c0_i32_14
  let v8 : BitVec 32 := Scalar.extui v7
  let v9 : BitVec 32 := Scalar.subi v6 v8
  let c8_i32_12 : BitVec 32 := 8#32
  let c0_i32_15 : BitVec 32 := 0#32
  let v10 : BitVec 1 := Scalar.cmpi .sgt c8_i32_12 c0_i32_15
  let v11 : BitVec 32 := Scalar.extui v10
  let c0_i32_16 : BitVec 32 := 0#32
  let v12 : BitVec 1 := Scalar.cmpi .slt c8_i32_12 c0_i32_16
  let v13 : BitVec 32 := Scalar.extui v12
  let v14 : BitVec 32 := Scalar.subi v11 v13
  let v15 : BitVec 1 := Scalar.cmpi .ne v9 v14
  let v16 : BitVec 32 := Scalar.remsi arg12 c8_i32_12
  let c0_i32_17 : BitVec 32 := 0#32
  let v17 : BitVec 1 := Scalar.cmpi .ne v16 c0_i32_17
  let v18 : BitVec 1 := Scalar.andi v15 v17
  let v4 : BitVec 32 := Scalar.divsi arg12 c8_i32_12
  let c1_i32_18 : BitVec 32 := 1#32
  let v19 : BitVec 32 := Scalar.subi v4 c1_i32_18
  let v20 : BitVec 32 := Scalar.select v18 v19 v4
  let c4_i32 : BitVec 32 := 4#32
  let v21 : BitVec 32 := Scalar.muli v20 c4_i32
  let v22 : BitVec 32 := Scalar.addi v21 c0_i32_19
  let c8_i32_20 : BitVec 32 := 8#32
  let c0_i32_21 : BitVec 32 := 0#32
  let v23 : BitVec 1 := Scalar.cmpi .eq c8_i32_20 c0_i32_21
  let c1_i32_22 : BitVec 32 := 1#32
  let v24 : BitVec 32 := Scalar.select v23 c1_i32_22 c8_i32_20
  let v25 : BitVec 32 := Scalar.remsi arg12 v24
  let c0_i32_24 : BitVec 32 := 0#32
  let v27 : BitVec 1 := Scalar.cmpi .slt v25 c0_i32_24
  let c0_i32_25 : BitVec 32 := 0#32
  let v28 : BitVec 1 := Scalar.cmpi .slt v24 c0_i32_25
  let v29 : BitVec 1 := Scalar.xori v27 v28
  let c0_i32_23 : BitVec 32 := 0#32
  let v26 : BitVec 1 := Scalar.cmpi .ne v25 c0_i32_23
  let v30 : BitVec 1 := Scalar.andi v29 v26
  let v31 : BitVec 32 := Scalar.addi v25 v24
  let v32 : BitVec 32 := Scalar.select v30 v31 v25
  let c1_i32_27 : BitVec 32 := 1#32
  let v36 : BitVec 32 := Scalar.subi v32 c1_i32_27
  let c0_i32_28 : BitVec 32 := 0#32
  let v37 : BitVec 32 := Scalar.maxsi v36 c0_i32_28
  let c128_i32_29 : BitVec 32 := 128#32
  let v38 : BitVec 32 := Scalar.muli v37 c128_i32_29
  let c4_i32_30 : BitVec 32 := 4#32
  let v39 : BitVec 32 := Scalar.muli v38 c4_i32_30
  let v40 : BitVec 32 := Scalar.addi v22 v39
  let v199 : Index := Scalar.indexCast v40
  let c0_108 : Index := 0#32
  ![v199.toNat, 0]
@[reducible] def k0_t3_loop : Scf.Loop 32 :=
  let c0_i32_5 : BitVec 32 := 0#32
  let c8_i32_6 : BitVec 32 := 8#32
  let v2 : BitVec 32 := Scalar.addi c0_i32_5 c8_i32_6
  let c1_i32_7 : BitVec 32 := 1#32
  ⟨c0_i32_5, v2, c1_i32_7⟩
def k0_mult1 (k0_t3 : Fin k0_t3_loop.trips) : BitVec 32 :=
  let c0_i32_5 : BitVec 32 := 0#32
  let c1_i32_7 : BitVec 32 := 1#32
  let arg12 : BitVec 32 := Scf.iv c0_i32_5 c1_i32_7 k0_t3
  let c0_i32_12 : BitVec 32 := 0#32
  let v4 : BitVec 32 := Scalar.addi arg12 c0_i32_12
  let c128_i32 : BitVec 32 := 128#32
  let v5 : BitVec 32 := Scalar.muli v4 c128_i32
  v5
def k0_mult2 (k0_t3 : Fin k0_t3_loop.trips) : BitVec 32 :=
  let c0_i32_5 : BitVec 32 := 0#32
  let c1_i32_7 : BitVec 32 := 1#32
  let arg12 : BitVec 32 := Scf.iv c0_i32_5 c1_i32_7 k0_t3
  let c0_i32_12 : BitVec 32 := 0#32
  let v4 : BitVec 32 := Scalar.addi arg12 c0_i32_12
  let c1_i32_13 : BitVec 32 := 1#32
  let v7 : BitVec 32 := Scalar.subi v4 c1_i32_13
  let c0_i32_14 : BitVec 32 := 0#32
  let v8 : BitVec 32 := Scalar.maxsi v7 c0_i32_14
  let c128_i32_15 : BitVec 32 := 128#32
  let v9 : BitVec 32 := Scalar.muli v8 c128_i32_15
  v9
def k0_mult3 (k0_t3 : Fin k0_t3_loop.trips) : BitVec 32 :=
  let c0_i32_5 : BitVec 32 := 0#32
  let c1_i32_7 : BitVec 32 := 1#32
  let arg12 : BitVec 32 := Scf.iv c0_i32_5 c1_i32_7 k0_t3
  let c8_i32_20 : BitVec 32 := 8#32
  let v22 : BitVec 32 := Scalar.addi arg12 c8_i32_20
  let c128_i32_21 : BitVec 32 := 128#32
  let v23 : BitVec 32 := Scalar.muli v22 c128_i32_21
  v23
def k0_mult4 (k0_t3 : Fin k0_t3_loop.trips) : BitVec 32 :=
  let c0_i32_5 : BitVec 32 := 0#32
  let c1_i32_7 : BitVec 32 := 1#32
  let arg12 : BitVec 32 := Scf.iv c0_i32_5 c1_i32_7 k0_t3
  let c8_i32_20 : BitVec 32 := 8#32
  let v22 : BitVec 32 := Scalar.addi arg12 c8_i32_20
  let c1_i32_22 : BitVec 32 := 1#32
  let v25 : BitVec 32 := Scalar.subi v22 c1_i32_22
  let c0_i32_23 : BitVec 32 := 0#32
  let v26 : BitVec 32 := Scalar.maxsi v25 c0_i32_23
  let c128_i32_24 : BitVec 32 := 128#32
  let v27 : BitVec 32 := Scalar.muli v26 c128_i32_24
  v27
def k0_mult5 (k0_t3 : Fin k0_t3_loop.trips) : BitVec 32 :=
  let c0_i32_5 : BitVec 32 := 0#32
  let c1_i32_7 : BitVec 32 := 1#32
  let arg12 : BitVec 32 := Scf.iv c0_i32_5 c1_i32_7 k0_t3
  let c16_i32_29 : BitVec 32 := 16#32
  let v40 : BitVec 32 := Scalar.addi arg12 c16_i32_29
  let c128_i32_30 : BitVec 32 := 128#32
  let v41 : BitVec 32 := Scalar.muli v40 c128_i32_30
  v41
def k0_mult6 (k0_t3 : Fin k0_t3_loop.trips) : BitVec 32 :=
  let c0_i32_5 : BitVec 32 := 0#32
  let c1_i32_7 : BitVec 32 := 1#32
  let arg12 : BitVec 32 := Scf.iv c0_i32_5 c1_i32_7 k0_t3
  let c16_i32_29 : BitVec 32 := 16#32
  let v40 : BitVec 32 := Scalar.addi arg12 c16_i32_29
  let c1_i32_31 : BitVec 32 := 1#32
  let v43 : BitVec 32 := Scalar.subi v40 c1_i32_31
  let c0_i32_32 : BitVec 32 := 0#32
  let v44 : BitVec 32 := Scalar.maxsi v43 c0_i32_32
  let c128_i32_33 : BitVec 32 := 128#32
  let v45 : BitVec 32 := Scalar.muli v44 c128_i32_33
  v45
def k0_mult7 (k0_t3 : Fin k0_t3_loop.trips) : BitVec 32 :=
  let c0_i32_5 : BitVec 32 := 0#32
  let c1_i32_7 : BitVec 32 := 1#32
  let arg12 : BitVec 32 := Scf.iv c0_i32_5 c1_i32_7 k0_t3
  let c24_i32 : BitVec 32 := 24#32
  let v58 : BitVec 32 := Scalar.addi arg12 c24_i32
  let c128_i32_38 : BitVec 32 := 128#32
  let v59 : BitVec 32 := Scalar.muli v58 c128_i32_38
  v59
def k0_mult8 (k0_t3 : Fin k0_t3_loop.trips) : BitVec 32 :=
  let c0_i32_5 : BitVec 32 := 0#32
  let c1_i32_7 : BitVec 32 := 1#32
  let arg12 : BitVec 32 := Scf.iv c0_i32_5 c1_i32_7 k0_t3
  let c24_i32 : BitVec 32 := 24#32
  let v58 : BitVec 32 := Scalar.addi arg12 c24_i32
  let c1_i32_39 : BitVec 32 := 1#32
  let v61 : BitVec 32 := Scalar.subi v58 c1_i32_39
  let c0_i32_40 : BitVec 32 := 0#32
  let v62 : BitVec 32 := Scalar.maxsi v61 c0_i32_40
  let c128_i32_41 : BitVec 32 := 128#32
  let v63 : BitVec 32 := Scalar.muli v62 c128_i32_41
  v63
def k0_off4 (k0_t3 : Fin k0_t3_loop.trips) (c0_i32_12 : BitVec 32) : Fin 2 → Nat :=
  let c0_i32_5 : BitVec 32 := 0#32
  let c1_i32_7 : BitVec 32 := 1#32
  let arg12 : BitVec 32 := Scf.iv c0_i32_5 c1_i32_7 k0_t3
  let v4 : BitVec 32 := Scalar.addi arg12 c0_i32_12
  let c128_i32 : BitVec 32 := 128#32
  let v5 : BitVec 32 := Scalar.muli v4 c128_i32
  let v6 : BitVec 32 := v5
  let v76 : Index := Scalar.indexCast v6
  let c0 : Index := 0#32
  ![v76.toNat, 0]
def k0_off5 (k0_t3 : Fin k0_t3_loop.trips) (c0_i32_12 : BitVec 32) : Fin 2 → Nat :=
  let c0_i32_5 : BitVec 32 := 0#32
  let c1_i32_7 : BitVec 32 := 1#32
  let arg12 : BitVec 32 := Scf.iv c0_i32_5 c1_i32_7 k0_t3
  let v4 : BitVec 32 := Scalar.addi arg12 c0_i32_12
  let c1_i32_13 : BitVec 32 := 1#32
  let v7 : BitVec 32 := Scalar.subi v4 c1_i32_13
  let c0_i32_14 : BitVec 32 := 0#32
  let v8 : BitVec 32 := Scalar.maxsi v7 c0_i32_14
  let c128_i32_15 : BitVec 32 := 128#32
  let v9 : BitVec 32 := Scalar.muli v8 c128_i32_15
  let v10 : BitVec 32 := v9
  let v79 : Index := Scalar.indexCast v10
  let c0_46 : Index := 0#32
  ![v79.toNat, 0]
@[reducible] def k0_t4_loop : Scf.Loop 32 :=
  let c0_i32_9 : BitVec 32 := 0#32
  let c16_i32 : BitVec 32 := 16#32
  let v3 : BitVec 32 := Scalar.addi c0_i32_9 c16_i32
  let c1_i32_10 : BitVec 32 := 1#32
  ⟨c0_i32_9, v3, c1_i32_10⟩
def k0_mult9 (k0_t4 : Fin k0_t4_loop.trips) : BitVec 32 :=
  let c0_i32_9 : BitVec 32 := 0#32
  let c1_i32_10 : BitVec 32 := 1#32
  let arg12 : BitVec 32 := Scf.iv c0_i32_9 c1_i32_10 k0_t4
  let c256_i32 : BitVec 32 := 256#32
  let v4 : BitVec 32 := Scalar.muli arg12 c256_i32
  v4
def k0_off6 (k0_t4 : Fin k0_t4_loop.trips) : Fin 2 → Nat :=
  let c0_i32_9 : BitVec 32 := 0#32
  let c1_i32_10 : BitVec 32 := 1#32
  let arg12 : BitVec 32 := Scf.iv c0_i32_9 c1_i32_10 k0_t4
  let c256_i32 : BitVec 32 := 256#32
  let v4 : BitVec 32 := Scalar.muli arg12 c256_i32
  let v5 : BitVec 32 := v4
  let v9 : Index := Scalar.indexCast v5
  let c0 : Index := 0#32
  ![v9.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AttnIdeal.lean ====
variable {F : FTy → Type} [FloatOps F] [Named F]
def κ : String → Option EReal := fun
  | "mask" => some ⊥
  | _ => none
-- ==== AttnRefIdeal.lean ====
abbrev S4096x512 : Shape := ⟨2, ![4096, 512]⟩
abbrev S4096x8x64 : Shape := ⟨3, ![4096, 8, 64]⟩
abbrev S8x4096x64 : Shape := ⟨3, ![8, 4096, 64]⟩
abbrev S8x4096x1x64 : Shape := ⟨4, ![8, 4096, 1, 64]⟩
abbrev S8x1x4096x64 : Shape := ⟨4, ![8, 1, 4096, 64]⟩
abbrev S_ : Shape := ⟨0, ![]⟩
abbrev S8x1x32x128x64 : Shape := ⟨5, ![8, 1, 32, 128, 64]⟩
abbrev S8x1x1x128x64 : Shape := ⟨5, ![8, 1, 1, 128, 64]⟩
abbrev S8x1x31x128x64 : Shape := ⟨5, ![8, 1, 31, 128, 64]⟩
abbrev S8x1x32x256x64 : Shape := ⟨5, ![8, 1, 32, 256, 64]⟩
abbrev S8x1x32x128x256 : Shape := ⟨5, ![8, 1, 32, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S8x1x32x128 : Shape := ⟨4, ![8, 1, 32, 128]⟩
abbrev S8x1x32x128x1 : Shape := ⟨5, ![8, 1, 32, 128, 1]⟩
abbrev S8x1x4096 : Shape := ⟨3, ![8, 1, 4096]⟩
abbrev S8x4096x1 : Shape := ⟨3, ![8, 4096, 1]⟩
abbrev S8x4096 : Shape := ⟨2, ![8, 4096]⟩
abbrev S8x1024x4x64 : Shape := ⟨4, ![8, 1024, 4, 64]⟩
abbrev S8x4x1024x64 : Shape := ⟨4, ![8, 4, 1024, 64]⟩
abbrev S8x4x8x128x64 : Shape := ⟨5, ![8, 4, 8, 128, 64]⟩
abbrev S8x4x1x128x64 : Shape := ⟨5, ![8, 4, 1, 128, 64]⟩
abbrev S8x4x7x128x64 : Shape := ⟨5, ![8, 4, 7, 128, 64]⟩
abbrev S8x4x8x256x64 : Shape := ⟨5, ![8, 4, 8, 256, 64]⟩
abbrev S8x4x8x128x256 : Shape := ⟨5, ![8, 4, 8, 128, 256]⟩
abbrev S8 : Shape := ⟨1, ![8]⟩
abbrev S8x1x1 : Shape := ⟨3, ![8, 1, 1]⟩
abbrev S8x1x256 : Shape := ⟨3, ![8, 1, 256]⟩
abbrev S8x128x256 : Shape := ⟨3, ![8, 128, 256]⟩
abbrev S8x4x8x128 : Shape := ⟨4, ![8, 4, 8, 128]⟩
abbrev S8x4x8x128x1 : Shape := ⟨5, ![8, 4, 8, 128, 1]⟩
abbrev S8x4x1024 : Shape := ⟨3, ![8, 4, 1024]⟩
abbrev S8x1024x4 : Shape := ⟨3, ![8, 1024, 4]⟩
abbrev S8x256x16x64 : Shape := ⟨4, ![8, 256, 16, 64]⟩
abbrev S8x16x256x64 : Shape := ⟨4, ![8, 16, 256, 64]⟩
abbrev S8x16x2x128x64 : Shape := ⟨5, ![8, 16, 2, 128, 64]⟩
abbrev S8x16x1x128x64 : Shape := ⟨5, ![8, 16, 1, 128, 64]⟩
abbrev S8x16x2x256x64 : Shape := ⟨5, ![8, 16, 2, 256, 64]⟩
abbrev S8x16x2x128x256 : Shape := ⟨5, ![8, 16, 2, 128, 256]⟩
abbrev S2 : Shape := ⟨1, ![2]⟩
abbrev S2x1x1 : Shape := ⟨3, ![2, 1, 1]⟩
abbrev S2x1x256 : Shape := ⟨3, ![2, 1, 256]⟩
abbrev S2x128x256 : Shape := ⟨3, ![2, 128, 256]⟩
abbrev S8x16x2x128 : Shape := ⟨4, ![8, 16, 2, 128]⟩
abbrev S8x16x2x128x1 : Shape := ⟨5, ![8, 16, 2, 128, 1]⟩
abbrev S8x16x256 : Shape := ⟨3, ![8, 16, 256]⟩
abbrev S8x256x16 : Shape := ⟨3, ![8, 256, 16]⟩
abbrev S1x8x4096 : Shape := ⟨3, ![1, 8, 4096]⟩
abbrev S3x8x4096 : Shape := ⟨3, ![3, 8, 4096]⟩
abbrev S4x4096 : Shape := ⟨2, ![4, 4096]⟩
abbrev S4096x4 : Shape := ⟨2, ![4096, 4]⟩
abbrev S4096x4x128 : Shape := ⟨3, ![4096, 4, 128]⟩

abbrev nBuf : Space → Nat
  | .hbm => 334
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x8x64, .f32⟩
  | 4 => ⟨S8x4096x64, .f32⟩
  | 5 => ⟨S4096x8x64, .f32⟩
  | 6 => ⟨S8x4096x64, .f32⟩
  | 7 => ⟨S4096x8x64, .f32⟩
  | 8 => ⟨S8x4096x64, .f32⟩
  | 9 => ⟨S8x4096x1x64, .f32⟩
  | 10 => ⟨S8x1x4096x64, .f32⟩
  | 11 => ⟨S_, .f32⟩
  | 12 => ⟨S8x1x4096x64, .f32⟩
  | 13 => ⟨S8x1x32x128x64, .f32⟩
  | 14 => ⟨S8x4096x1x64, .f32⟩
  | 15 => ⟨S8x1x4096x64, .f32⟩
  | 16 => ⟨S_, .f32⟩
  | 17 => ⟨S8x1x4096x64, .f32⟩
  | 18 => ⟨S8x1x32x128x64, .f32⟩
  | 19 => ⟨S8x1x1x128x64, .f32⟩
  | 20 => ⟨S_, .f32⟩
  | 21 => ⟨S8x1x1x128x64, .f32⟩
  | 22 => ⟨S8x1x31x128x64, .f32⟩
  | 23 => ⟨S8x1x32x128x64, .f32⟩
  | 24 => ⟨S8x1x32x256x64, .f32⟩
  | 25 => ⟨S8x4096x1x64, .f32⟩
  | 26 => ⟨S8x1x4096x64, .f32⟩
  | 27 => ⟨S_, .f32⟩
  | 28 => ⟨S8x1x4096x64, .f32⟩
  | 29 => ⟨S8x1x32x128x64, .f32⟩
  | 30 => ⟨S8x1x1x128x64, .f32⟩
  | 31 => ⟨S_, .f32⟩
  | 32 => ⟨S8x1x1x128x64, .f32⟩
  | 33 => ⟨S8x1x31x128x64, .f32⟩
  | 34 => ⟨S8x1x32x128x64, .f32⟩
  | 35 => ⟨S8x1x32x256x64, .f32⟩
  | 36 => ⟨S8x1x32x128x256, .f32⟩
  | 37 => ⟨S_, .f32⟩
  | 38 => ⟨S8x1x32x128x256, .f32⟩
  | 39 => ⟨S8x1x32x128x256, .f32⟩
  | 40 => ⟨S128, .i32⟩
  | 41 => ⟨S128x1, .i32⟩
  | 42 => ⟨S256, .i32⟩
  | 43 => ⟨S1x256, .i32⟩
  | 44 => ⟨S_, .i32⟩
  | 45 => ⟨S128x1, .i32⟩
  | 46 => ⟨S128x1, .i32⟩
  | 47 => ⟨S128x256, .i32⟩
  | 48 => ⟨S128x256, .i32⟩
  | 49 => ⟨S128x256, .i32⟩
  | 50 => ⟨S32, .i32⟩
  | 51 => ⟨S32x1x1, .i32⟩
  | 52 => ⟨S_, .i32⟩
  | 53 => ⟨S32x1x1, .i32⟩
  | 54 => ⟨S32x1x1, .i32⟩
  | 55 => ⟨S1x1x256, .i32⟩
  | 56 => ⟨S32x1x256, .i32⟩
  | 57 => ⟨S32x1x256, .i32⟩
  | 58 => ⟨S32x1x256, .i32⟩
  | 59 => ⟨S_, .i32⟩
  | 60 => ⟨S32x1x256, .i32⟩
  | 61 => ⟨S32x1x256, .i32⟩
  | 62 => ⟨S_, .i32⟩
  | 63 => ⟨S128x256, .i32⟩
  | 64 => ⟨S128x256, .i1⟩
  | 65 => ⟨S_, .i32⟩
  | 66 => ⟨S128x256, .i32⟩
  | 67 => ⟨S128x256, .i1⟩
  | 68 => ⟨S128x256, .i1⟩
  | 69 => ⟨S_, .i32⟩
  | 70 => ⟨S32x1x256, .i32⟩
  | 71 => ⟨S32x1x256, .i1⟩
  | 72 => ⟨S1x128x256, .i1⟩
  | 73 => ⟨S32x128x256, .i1⟩
  | 74 => ⟨S32x128x256, .i1⟩
  | 75 => ⟨S32x128x256, .i1⟩
  | 76 => ⟨S_, .f32⟩
  | 77 => ⟨S_, .f32⟩
  | 78 => ⟨S8x1x32x128x256, .i1⟩
  | 79 => ⟨S8x1x32x128x256, .f32⟩
  | 80 => ⟨S8x1x32x128x256, .f32⟩
  | 81 => ⟨S_, .f32⟩
  | 82 => ⟨S8x1x32x128, .f32⟩
  | 83 => ⟨S8x1x32x128x1, .f32⟩
  | 84 => ⟨S8x1x32x128x256, .f32⟩
  | 85 => ⟨S8x1x32x128x256, .f32⟩
  | 86 => ⟨S8x1x32x128x256, .f32⟩
  | 87 => ⟨S_, .f32⟩
  | 88 => ⟨S8x1x32x128, .f32⟩
  | 89 => ⟨S8x1x32x128x64, .f32⟩
  | 90 => ⟨S8x1x4096x64, .f32⟩
  | 91 => ⟨S8x4096x1x64, .f32⟩
  | 92 => ⟨S8x4096x64, .f32⟩
  | 93 => ⟨S8x1x4096, .f32⟩
  | 94 => ⟨S8x4096x1, .f32⟩
  | 95 => ⟨S8x4096, .f32⟩
  | 96 => ⟨S8x1x4096, .f32⟩
  | 97 => ⟨S8x4096x1, .f32⟩
  | 98 => ⟨S8x4096, .f32⟩
  | 99 => ⟨S8x1024x4x64, .f32⟩
  | 100 => ⟨S8x4x1024x64, .f32⟩
  | 101 => ⟨S_, .f32⟩
  | 102 => ⟨S8x4x1024x64, .f32⟩
  | 103 => ⟨S8x4x8x128x64, .f32⟩
  | 104 => ⟨S8x1024x4x64, .f32⟩
  | 105 => ⟨S8x4x1024x64, .f32⟩
  | 106 => ⟨S_, .f32⟩
  | 107 => ⟨S8x4x1024x64, .f32⟩
  | 108 => ⟨S8x4x8x128x64, .f32⟩
  | 109 => ⟨S8x4x1x128x64, .f32⟩
  | 110 => ⟨S_, .f32⟩
  | 111 => ⟨S8x4x1x128x64, .f32⟩
  | 112 => ⟨S8x4x7x128x64, .f32⟩
  | 113 => ⟨S8x4x8x128x64, .f32⟩
  | 114 => ⟨S8x4x8x256x64, .f32⟩
  | 115 => ⟨S8x1024x4x64, .f32⟩
  | 116 => ⟨S8x4x1024x64, .f32⟩
  | 117 => ⟨S_, .f32⟩
  | 118 => ⟨S8x4x1024x64, .f32⟩
  | 119 => ⟨S8x4x8x128x64, .f32⟩
  | 120 => ⟨S8x4x1x128x64, .f32⟩
  | 121 => ⟨S_, .f32⟩
  | 122 => ⟨S8x4x1x128x64, .f32⟩
  | 123 => ⟨S8x4x7x128x64, .f32⟩
  | 124 => ⟨S8x4x8x128x64, .f32⟩
  | 125 => ⟨S8x4x8x256x64, .f32⟩
  | 126 => ⟨S8x4x8x128x256, .f32⟩
  | 127 => ⟨S_, .f32⟩
  | _ => ⟨S4096x512, .f32⟩

abbrev hbmTy0_1 (i : Nat) : BufTy := match i % 128 with
  | 0 => ⟨S8x4x8x128x256, .f32⟩
  | 1 => ⟨S8x4x8x128x256, .f32⟩
  | 2 => ⟨S128, .i32⟩
  | 3 => ⟨S128x1, .i32⟩
  | 4 => ⟨S256, .i32⟩
  | 5 => ⟨S1x256, .i32⟩
  | 6 => ⟨S_, .i32⟩
  | 7 => ⟨S128x1, .i32⟩
  | 8 => ⟨S128x1, .i32⟩
  | 9 => ⟨S128x256, .i32⟩
  | 10 => ⟨S128x256, .i32⟩
  | 11 => ⟨S128x256, .i32⟩
  | 12 => ⟨S8, .i32⟩
  | 13 => ⟨S8x1x1, .i32⟩
  | 14 => ⟨S_, .i32⟩
  | 15 => ⟨S8x1x1, .i32⟩
  | 16 => ⟨S8x1x1, .i32⟩
  | 17 => ⟨S1x1x256, .i32⟩
  | 18 => ⟨S8x1x256, .i32⟩
  | 19 => ⟨S8x1x256, .i32⟩
  | 20 => ⟨S8x1x256, .i32⟩
  | 21 => ⟨S_, .i32⟩
  | 22 => ⟨S8x1x256, .i32⟩
  | 23 => ⟨S8x1x256, .i32⟩
  | 24 => ⟨S_, .i32⟩
  | 25 => ⟨S128x256, .i32⟩
  | 26 => ⟨S128x256, .i1⟩
  | 27 => ⟨S_, .i32⟩
  | 28 => ⟨S128x256, .i32⟩
  | 29 => ⟨S128x256, .i1⟩
  | 30 => ⟨S128x256, .i1⟩
  | 31 => ⟨S_, .i32⟩
  | 32 => ⟨S8x1x256, .i32⟩
  | 33 => ⟨S8x1x256, .i1⟩
  | 34 => ⟨S1x128x256, .i1⟩
  | 35 => ⟨S8x128x256, .i1⟩
  | 36 => ⟨S8x128x256, .i1⟩
  | 37 => ⟨S8x128x256, .i1⟩
  | 38 => ⟨S_, .f32⟩
  | 39 => ⟨S_, .f32⟩
  | 40 => ⟨S8x4x8x128x256, .i1⟩
  | 41 => ⟨S8x4x8x128x256, .f32⟩
  | 42 => ⟨S8x4x8x128x256, .f32⟩
  | 43 => ⟨S_, .f32⟩
  | 44 => ⟨S8x4x8x128, .f32⟩
  | 45 => ⟨S8x4x8x128x1, .f32⟩
  | 46 => ⟨S8x4x8x128x256, .f32⟩
  | 47 => ⟨S8x4x8x128x256, .f32⟩
  | 48 => ⟨S8x4x8x128x256, .f32⟩
  | 49 => ⟨S_, .f32⟩
  | 50 => ⟨S8x4x8x128, .f32⟩
  | 51 => ⟨S8x4x8x128x64, .f32⟩
  | 52 => ⟨S8x4x1024x64, .f32⟩
  | 53 => ⟨S8x1024x4x64, .f32⟩
  | 54 => ⟨S8x4096x64, .f32⟩
  | 55 => ⟨S8x4x1024, .f32⟩
  | 56 => ⟨S8x1024x4, .f32⟩
  | 57 => ⟨S8x4096, .f32⟩
  | 58 => ⟨S8x4x1024, .f32⟩
  | 59 => ⟨S8x1024x4, .f32⟩
  | 60 => ⟨S8x4096, .f32⟩
  | 61 => ⟨S8x256x16x64, .f32⟩
  | 62 => ⟨S8x16x256x64, .f32⟩
  | 63 => ⟨S_, .f32⟩
  | 64 => ⟨S8x16x256x64, .f32⟩
  | 65 => ⟨S8x16x2x128x64, .f32⟩
  | 66 => ⟨S8x256x16x64, .f32⟩
  | 67 => ⟨S8x16x256x64, .f32⟩
  | 68 => ⟨S_, .f32⟩
  | 69 => ⟨S8x16x256x64, .f32⟩
  | 70 => ⟨S8x16x2x128x64, .f32⟩
  | 71 => ⟨S8x16x1x128x64, .f32⟩
  | 72 => ⟨S_, .f32⟩
  | 73 => ⟨S8x16x1x128x64, .f32⟩
  | 74 => ⟨S8x16x1x128x64, .f32⟩
  | 75 => ⟨S8x16x2x128x64, .f32⟩
  | 76 => ⟨S8x16x2x256x64, .f32⟩
  | 77 => ⟨S8x256x16x64, .f32⟩
  | 78 => ⟨S8x16x256x64, .f32⟩
  | 79 => ⟨S_, .f32⟩
  | 80 => ⟨S8x16x256x64, .f32⟩
  | 81 => ⟨S8x16x2x128x64, .f32⟩
  | 82 => ⟨S8x16x1x128x64, .f32⟩
  | 83 => ⟨S_, .f32⟩
  | 84 => ⟨S8x16x1x128x64, .f32⟩
  | 85 => ⟨S8x16x1x128x64, .f32⟩
  | 86 => ⟨S8x16x2x128x64, .f32⟩
  | 87 => ⟨S8x16x2x256x64, .f32⟩
  | 88 => ⟨S8x16x2x128x256, .f32⟩
  | 89 => ⟨S_, .f32⟩
  | 90 => ⟨S8x16x2x128x256, .f32⟩
  | 91 => ⟨S8x16x2x128x256, .f32⟩
  | 92 => ⟨S128, .i32⟩
  | 93 => ⟨S128x1, .i32⟩
  | 94 => ⟨S256, .i32⟩
  | 95 => ⟨S1x256, .i32⟩
  | 96 => ⟨S_, .i32⟩
  | 97 => ⟨S128x1, .i32⟩
  | 98 => ⟨S128x1, .i32⟩
  | 99 => ⟨S128x256, .i32⟩
  | 100 => ⟨S128x256, .i32⟩
  | 101 => ⟨S128x256, .i32⟩
  | 102 => ⟨S2, .i32⟩
  | 103 => ⟨S2x1x1, .i32⟩
  | 104 => ⟨S_, .i32⟩
  | 105 => ⟨S2x1x1, .i32⟩
  | 106 => ⟨S2x1x1, .i32⟩
  | 107 => ⟨S1x1x256, .i32⟩
  | 108 => ⟨S2x1x256, .i32⟩
  | 109 => ⟨S2x1x256, .i32⟩
  | 110 => ⟨S2x1x256, .i32⟩
  | 111 => ⟨S_, .i32⟩
  | 112 => ⟨S2x1x256, .i32⟩
  | 113 => ⟨S2x1x256, .i32⟩
  | 114 => ⟨S_, .i32⟩
  | 115 => ⟨S128x256, .i32⟩
  | 116 => ⟨S128x256, .i1⟩
  | 117 => ⟨S_, .i32⟩
  | 118 => ⟨S128x256, .i32⟩
  | 119 => ⟨S128x256, .i1⟩
  | 120 => ⟨S128x256, .i1⟩
  | 121 => ⟨S_, .i32⟩
  | 122 => ⟨S2x1x256, .i32⟩
  | 123 => ⟨S2x1x256, .i1⟩
  | 124 => ⟨S1x128x256, .i1⟩
  | 125 => ⟨S2x128x256, .i1⟩
  | 126 => ⟨S2x128x256, .i1⟩
  | 127 => ⟨S2x128x256, .i1⟩
  | _ => ⟨S4096x512, .f32⟩

abbrev hbmTy0_2 (i : Nat) : BufTy := match i % 128 with
  | 0 => ⟨S_, .f32⟩
  | 1 => ⟨S_, .f32⟩
  | 2 => ⟨S8x16x2x128x256, .i1⟩
  | 3 => ⟨S8x16x2x128x256, .f32⟩
  | 4 => ⟨S8x16x2x128x256, .f32⟩
  | 5 => ⟨S_, .f32⟩
  | 6 => ⟨S8x16x2x128, .f32⟩
  | 7 => ⟨S8x16x2x128x1, .f32⟩
  | 8 => ⟨S8x16x2x128x256, .f32⟩
  | 9 => ⟨S8x16x2x128x256, .f32⟩
  | 10 => ⟨S8x16x2x128x256, .f32⟩
  | 11 => ⟨S_, .f32⟩
  | 12 => ⟨S8x16x2x128, .f32⟩
  | 13 => ⟨S8x16x2x128x64, .f32⟩
  | 14 => ⟨S8x16x256x64, .f32⟩
  | 15 => ⟨S8x256x16x64, .f32⟩
  | 16 => ⟨S8x4096x64, .f32⟩
  | 17 => ⟨S8x16x256, .f32⟩
  | 18 => ⟨S8x256x16, .f32⟩
  | 19 => ⟨S8x4096, .f32⟩
  | 20 => ⟨S8x16x256, .f32⟩
  | 21 => ⟨S8x256x16, .f32⟩
  | 22 => ⟨S8x4096, .f32⟩
  | 23 => ⟨S1x8x4096, .f32⟩
  | 24 => ⟨S1x8x4096, .f32⟩
  | 25 => ⟨S1x8x4096, .f32⟩
  | 26 => ⟨S3x8x4096, .f32⟩
  | 27 => ⟨S_, .f32⟩
  | 28 => ⟨S8x4096, .f32⟩
  | 29 => ⟨S8x4096, .f32⟩
  | 30 => ⟨S8x4096, .f32⟩
  | 31 => ⟨S8x4096x1, .f32⟩
  | 32 => ⟨S8x4096x64, .f32⟩
  | 33 => ⟨S8x4096x64, .f32⟩
  | 34 => ⟨S_, .f32⟩
  | 35 => ⟨S8x4096x64, .f32⟩
  | 36 => ⟨S8x4096x64, .f32⟩
  | 37 => ⟨S8x4096, .f32⟩
  | 38 => ⟨S8x4096, .f32⟩
  | 39 => ⟨S8x4096x1, .f32⟩
  | 40 => ⟨S8x4096x64, .f32⟩
  | 41 => ⟨S8x4096x64, .f32⟩
  | 42 => ⟨S8x4096x64, .f32⟩
  | 43 => ⟨S8x4096, .f32⟩
  | 44 => ⟨S8x4096, .f32⟩
  | 45 => ⟨S8x4096x1, .f32⟩
  | 46 => ⟨S8x4096x64, .f32⟩
  | 47 => ⟨S8x4096x64, .f32⟩
  | 48 => ⟨S8x4096x64, .f32⟩
  | 49 => ⟨S8x4096, .f32⟩
  | 50 => ⟨S8x4096, .f32⟩
  | 51 => ⟨S8x4096, .f32⟩
  | 52 => ⟨S_, .f32⟩
  | 53 => ⟨S8x4096, .f32⟩
  | 54 => ⟨S8x4096, .f32⟩
  | 55 => ⟨S8x4096, .f32⟩
  | 56 => ⟨S8x4096, .f32⟩
  | 57 => ⟨S8x4096, .f32⟩
  | 58 => ⟨S8x4096, .f32⟩
  | 59 => ⟨S8x4096, .f32⟩
  | 60 => ⟨S8x4096, .f32⟩
  | 61 => ⟨S8x4096, .f32⟩
  | 62 => ⟨S8x4096, .f32⟩
  | 63 => ⟨S8x4096x1, .f32⟩
  | 64 => ⟨S8x4096x64, .f32⟩
  | 65 => ⟨S8x4096x64, .f32⟩
  | 66 => ⟨S8x4096, .f32⟩
  | 67 => ⟨S8x4096, .f32⟩
  | 68 => ⟨S4096x8x64, .f32⟩
  | 69 => ⟨S4096x512, .f32⟩
  | 70 => ⟨S4x4096, .f32⟩
  | 71 => ⟨S4096x4, .f32⟩
  | 72 => ⟨S4096x4x128, .f32⟩
  | 73 => ⟨S4096x512, .f32⟩
  | 74 => ⟨S4x4096, .f32⟩
  | 75 => ⟨S4096x4, .f32⟩
  | 76 => ⟨S4096x4x128, .f32⟩
  | 77 => ⟨S4096x512, .f32⟩
  | _ => ⟨S4096x512, .f32⟩

abbrev hbmTy (i : Nat) : BufTy := match i / 128 with
  | 0 => hbmTy0_0 i
  | 1 => hbmTy0_1 i
  | 2 => hbmTy0_2 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_c_5 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_c_6 : Ref sig .tc := ⟨.hbm, 59, rfl⟩
abbrev main_v48 : Ref sig .tc := ⟨.hbm, 60, rfl⟩
abbrev main_v49 : Ref sig .tc := ⟨.hbm, 61, rfl⟩
abbrev main_c_7 : Ref sig .tc := ⟨.hbm, 62, rfl⟩
abbrev main_v50 : Ref sig .tc := ⟨.hbm, 63, rfl⟩
abbrev main_v51 : Ref sig .tc := ⟨.hbm, 64, rfl⟩
abbrev main_c_8 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_c_9 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_10 : Ref sig .tc := ⟨.hbm, 76, rfl⟩
abbrev main_call0_v0 : Ref sig .tc := ⟨.hbm, 77, rfl⟩
abbrev main_call0_v1 : Ref sig .tc := ⟨.hbm, 78, rfl⟩
abbrev main_call0_v2 : Ref sig .tc := ⟨.hbm, 79, rfl⟩
abbrev main_v61 : Ref sig .tc := ⟨.hbm, 80, rfl⟩
abbrev main_cst_11 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_12 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_13 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_cst_14 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_15 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_cst_16 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_cst_17 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_cst_18 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_c_19 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_c_20 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_c_21 : Ref sig .tc := ⟨.hbm, 149, rfl⟩
abbrev main_v120 : Ref sig .tc := ⟨.hbm, 150, rfl⟩
abbrev main_v121 : Ref sig .tc := ⟨.hbm, 151, rfl⟩
abbrev main_c_22 : Ref sig .tc := ⟨.hbm, 152, rfl⟩
abbrev main_v122 : Ref sig .tc := ⟨.hbm, 153, rfl⟩
abbrev main_v123 : Ref sig .tc := ⟨.hbm, 154, rfl⟩
abbrev main_c_23 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_c_24 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_cst_25 : Ref sig .tc := ⟨.hbm, 166, rfl⟩
abbrev main_call1_v0 : Ref sig .tc := ⟨.hbm, 167, rfl⟩
abbrev main_call1_v1 : Ref sig .tc := ⟨.hbm, 168, rfl⟩
abbrev main_call1_v2 : Ref sig .tc := ⟨.hbm, 169, rfl⟩
abbrev main_v133 : Ref sig .tc := ⟨.hbm, 170, rfl⟩
abbrev main_cst_26 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_cst_27 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_cst_28 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_cst_29 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_cst_30 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_cst_31 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_cst_32 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_cst_33 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_c_34 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_c_35 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_c_36 : Ref sig .tc := ⟨.hbm, 239, rfl⟩
abbrev main_v192 : Ref sig .tc := ⟨.hbm, 240, rfl⟩
abbrev main_v193 : Ref sig .tc := ⟨.hbm, 241, rfl⟩
abbrev main_c_37 : Ref sig .tc := ⟨.hbm, 242, rfl⟩
abbrev main_v194 : Ref sig .tc := ⟨.hbm, 243, rfl⟩
abbrev main_v195 : Ref sig .tc := ⟨.hbm, 244, rfl⟩
abbrev main_c_38 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_c_39 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_cst_40 : Ref sig .tc := ⟨.hbm, 256, rfl⟩
abbrev main_call2_v0 : Ref sig .tc := ⟨.hbm, 257, rfl⟩
abbrev main_call2_v1 : Ref sig .tc := ⟨.hbm, 258, rfl⟩
abbrev main_call2_v2 : Ref sig .tc := ⟨.hbm, 259, rfl⟩
abbrev main_v205 : Ref sig .tc := ⟨.hbm, 260, rfl⟩
abbrev main_cst_41 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_cst_42 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_cst_43 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_cst_44 : Ref sig .tc := ⟨.hbm, 290, rfl⟩
abbrev main_v232 : Ref sig .tc := ⟨.hbm, 291, rfl⟩
abbrev main_v233 : Ref sig .tc := ⟨.hbm, 292, rfl⟩
abbrev main_v234 : Ref sig .tc := ⟨.hbm, 293, rfl⟩
abbrev main_v235 : Ref sig .tc := ⟨.hbm, 294, rfl⟩
abbrev main_v236 : Ref sig .tc := ⟨.hbm, 295, rfl⟩
abbrev main_v237 : Ref sig .tc := ⟨.hbm, 296, rfl⟩
abbrev main_v238 : Ref sig .tc := ⟨.hbm, 297, rfl⟩
abbrev main_v239 : Ref sig .tc := ⟨.hbm, 298, rfl⟩
abbrev main_v240 : Ref sig .tc := ⟨.hbm, 299, rfl⟩
abbrev main_v241 : Ref sig .tc := ⟨.hbm, 300, rfl⟩
abbrev main_v242 : Ref sig .tc := ⟨.hbm, 301, rfl⟩
abbrev main_v243 : Ref sig .tc := ⟨.hbm, 302, rfl⟩
abbrev main_v244 : Ref sig .tc := ⟨.hbm, 303, rfl⟩
abbrev main_v245 : Ref sig .tc := ⟨.hbm, 304, rfl⟩
abbrev main_v246 : Ref sig .tc := ⟨.hbm, 305, rfl⟩
abbrev main_v247 : Ref sig .tc := ⟨.hbm, 306, rfl⟩
abbrev main_v248 : Ref sig .tc := ⟨.hbm, 307, rfl⟩
abbrev main_cst_45 : Ref sig .tc := ⟨.hbm, 308, rfl⟩
abbrev main_v249 : Ref sig .tc := ⟨.hbm, 309, rfl⟩
abbrev main_v250 : Ref sig .tc := ⟨.hbm, 310, rfl⟩
abbrev main_v251 : Ref sig .tc := ⟨.hbm, 311, rfl⟩
abbrev main_v252 : Ref sig .tc := ⟨.hbm, 312, rfl⟩
abbrev main_v253 : Ref sig .tc := ⟨.hbm, 313, rfl⟩
abbrev main_v254 : Ref sig .tc := ⟨.hbm, 314, rfl⟩
abbrev main_v255 : Ref sig .tc := ⟨.hbm, 315, rfl⟩
abbrev main_v256 : Ref sig .tc := ⟨.hbm, 316, rfl⟩
abbrev main_v257 : Ref sig .tc := ⟨.hbm, 317, rfl⟩
abbrev main_v258 : Ref sig .tc := ⟨.hbm, 318, rfl⟩
abbrev main_v259 : Ref sig .tc := ⟨.hbm, 319, rfl⟩
abbrev main_v260 : Ref sig .tc := ⟨.hbm, 320, rfl⟩
abbrev main_v261 : Ref sig .tc := ⟨.hbm, 321, rfl⟩
abbrev main_v262 : Ref sig .tc := ⟨.hbm, 322, rfl⟩
abbrev main_v263 : Ref sig .tc := ⟨.hbm, 323, rfl⟩
abbrev main_v264 : Ref sig .tc := ⟨.hbm, 324, rfl⟩
abbrev main_v265 : Ref sig .tc := ⟨.hbm, 325, rfl⟩
abbrev main_v266 : Ref sig .tc := ⟨.hbm, 326, rfl⟩
abbrev main_v267 : Ref sig .tc := ⟨.hbm, 327, rfl⟩
abbrev main_v268 : Ref sig .tc := ⟨.hbm, 328, rfl⟩
abbrev main_v269 : Ref sig .tc := ⟨.hbm, 329, rfl⟩
abbrev main_v270 : Ref sig .tc := ⟨.hbm, 330, rfl⟩
abbrev main_v271 : Ref sig .tc := ⟨.hbm, 331, rfl⟩
abbrev main_v272 : Ref sig .tc := ⟨.hbm, 332, rfl⟩
abbrev main_v273 : Ref sig .tc := ⟨.hbm, 333, rfl⟩

abbrev nD : Nat := 1
abbrev τ : Topo := Topo.v7x

variable {F : FTy → Type} [FloatOps F]
-- ==== Outp.lean ====
abbrev S4096x1024 : Shape := ⟨2, ![4096, 1024]⟩
abbrev S4096x512 : Shape := ⟨2, ![4096, 512]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S1024x1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S4096x1024, .f32⟩
  | .hbm, ⟨8, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1024x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutpRefIdeal.lean ====
abbrev S4096x1024 : Shape := ⟨2, ![4096, 1024]⟩
abbrev S4096x512 : Shape := ⟨2, ![4096, 512]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S1024x1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Mlpf.lean ====
abbrev S4096x1024 : Shape := ⟨2, ![4096, 1024]⟩
abbrev S1024 : Shape := ⟨1, ![1024]⟩
abbrev S1024x4096 : Shape := ⟨2, ![1024, 4096]⟩
abbrev S1024x8x512 : Shape := ⟨3, ![1024, 8, 512]⟩
abbrev S8x1024x512 : Shape := ⟨3, ![8, 1024, 512]⟩
abbrev S8x2x256x1024 : Shape := ⟨4, ![8, 2, 256, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x1x256x1024 : Shape := ⟨4, ![8, 1, 256, 1024]⟩
abbrev S8x256x1024 : Shape := ⟨3, ![8, 256, 1024]⟩
abbrev S4096x4096 : Shape := ⟨2, ![4096, 4096]⟩
abbrev S512x1024 : Shape := ⟨2, ![512, 1024]⟩
abbrev S512x4096 : Shape := ⟨2, ![512, 4096]⟩
abbrev S1x1024x512 : Shape := ⟨3, ![1, 1024, 512]⟩
abbrev S1024x512 : Shape := ⟨2, ![1024, 512]⟩
abbrev S512x512 : Shape := ⟨2, ![512, 512]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 32
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024x8x512, .f32⟩
  | .hbm, ⟨5, _⟩ => ⟨S8x1024x512, .f32⟩
  | .hbm, ⟨6, _⟩ => ⟨S8x1024x512, .bf16⟩
  | .hbm, ⟨7, _⟩ => ⟨S8x2x256x1024, .f32⟩
  | .hbm, ⟨8, _⟩ => ⟨S8x2x256x1024, .bf16⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | .hbm, ⟨26, _⟩ => ⟨S8x1x256x1024, .bf16⟩
  | .hbm, ⟨27, _⟩ => ⟨S8x256x1024, .bf16⟩
  | .hbm, ⟨28, _⟩ => ⟨S8x1x256x1024, .bf16⟩
  | .hbm, ⟨29, _⟩ => ⟨S8x256x1024, .bf16⟩
  | .hbm, ⟨30, _⟩ => ⟨S4096x4096, .bf16⟩
  | .hbm, ⟨31, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S8x1024x512, .bf16⟩
  | .local _ .vmem, ⟨5, _⟩ => ⟨S8x256x1024, .bf16⟩
  | .local _ .vmem, ⟨6, _⟩ => ⟨S8x256x1024, .bf16⟩
  | .local _ .vmem, ⟨7, _⟩ => ⟨S512x4096, .bf16⟩
  | .local _ .vmem, ⟨8, _⟩ => ⟨S512x4096, .bf16⟩
  | .local _ .vmem, ⟨9, _⟩ => ⟨S512x1024, .f32⟩
  | .local _ .vmem, ⟨10, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23_0 : Ref sig .tc := ⟨.hbm, 30, rfl⟩
abbrev main_v23_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MlpfRefIdeal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x4096, .f32⟩
  | .hbm, ⟨21, _⟩ => ⟨S4096x4096, .bf16⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x1024, .f32⟩
  | .hbm, ⟨27, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Proof.Real.lean ====
/- Arrays of real numbers as arrays of extended reals, and how the scalar operations of an idealized
   program act on real arguments. -/
module

public import Idealize.ShloMosaic.Lib.Pointwise

@[expose] public section

set_option maxRecDepth 16384

noncomputable section

namespace Step

open Idealize.ShloMosaic

/-- A vector of reals, as a vector of extended reals. -/
def up1 {a : Nat} (f : Fin a → ℝ) : (⟨1, ![a]⟩ : Shape).Idx → EReal := fun j => ((f (j 0) : ℝ) : EReal)
/-- A matrix of reals, as a matrix of extended reals. -/
def up2 {a b : Nat} (f : Fin a → Fin b → ℝ) : (⟨2, ![a, b]⟩ : Shape).Idx → EReal := fun j => ((f (j 0) (j 1) : ℝ) : EReal)
/-- A box of reals, as a box of extended reals. -/
def up3 {a b c : Nat} (f : Fin a → Fin b → Fin c → ℝ) : (⟨3, ![a, b, c]⟩ : Shape).Idx → EReal :=
  fun j => ((f (j 0) (j 1) (j 2) : ℝ) : EReal)

theorem up1_ix {a : Nat} (f : Fin a → ℝ) (i : Fin a) : up1 f (ix1 i) = ((f i : ℝ) : EReal) := rfl
theorem up2_ix {a b : Nat} (f : Fin a → Fin b → ℝ) (i : Fin a) (j : Fin b) : up2 f (ix2 i j) = ((f i j : ℝ) : EReal) := rfl
theorem up3_ix {a b c : Nat} (f : Fin a → Fin b → Fin c → ℝ) (i : Fin a) (j : Fin b) (k : Fin c) :
    up3 f (ix3 i j k) = ((f i j k : ℝ) : EReal) := rfl

/-- A matrix all of whose entries are real is `up2` of its real parts. -/
theorem exists_up1 {a : Nat} (x : (⟨1, ![a]⟩ : Shape).Idx → EReal) (h : ∀ j, ∃ r : ℝ, x j = r) : ∃ f, x = up1 f := by
  choose f hf using h
  exact ⟨fun i => f (ix1 i), funext fun j => by rw [hf, eq_ix1 j]; rfl⟩
theorem exists_up2 {a b : Nat} (x : (⟨2, ![a, b]⟩ : Shape).Idx → EReal) (h : ∀ j, ∃ r : ℝ, x j = r) : ∃ f, x = up2 f := by
  choose f hf using h
  exact ⟨fun i k => f (ix2 i k), funext fun j => by rw [hf, eq_ix2 j]; rfl⟩

/-- A sum of reals is real. -/
theorem coe_sum {ι : Type} [Fintype ι] (f : ι → ℝ) : (∑ k, ((f k : ℝ) : EReal)) = ((∑ k, f k : ℝ) : EReal) := by
  classical
  induction (Finset.univ : Finset ι) using Finset.induction_on with
  | empty => simp
  | insert a s ha ih => rw [Finset.sum_insert ha, Finset.sum_insert ha, ih, EReal.coe_add]

/-- A quotient of reals by a real that is not zero. -/
theorem div_real (x : ℝ) {y : ℝ} (hy : y ≠ 0) : Ideal.div (x : EReal) (y : EReal) = ((x / y : ℝ) : EReal) := by
  rw [Ideal.div_coe hy, ← EReal.coe_mul, mul_one_div]
/-- A quotient of reals by a positive real. -/
theorem div_pos_real (x : ℝ) {y : ℝ} (hy : 0 < y) : Ideal.div (x : EReal) (y : EReal) = ((x / y : ℝ) : EReal) :=
  div_real x hy.ne'
/-- The reciprocal square root of a positive real. -/
theorem rsqrt_real {x : ℝ} (hx : 0 < x) : Ideal.rsqrt (x : EReal) = (((Real.sqrt x)⁻¹ : ℝ) : EReal) := by
  rw [Ideal.rsqrt_coe, if_neg (not_lt.2 hx.le), if_neg hx.ne']

/-- The small number under a root mean square. -/
def eps : ℝ := 8796093 / 8796093022208

theorem eps_pos : 0 < eps := by unfold eps; norm_num

theorem lit_eps : Ideal.ofBits .f32 0x358637BD#32 = ((eps : ℝ) : EReal) := by
  unfold eps
  simp [Ideal.ofBits, Ideal.ieee, -EReal.coe_mul]; norm_num

theorem lit_zero : Ideal.ofBits .f32 0x00000000#32 = 0 := by simp [Ideal.ofBits, Ideal.ieee]

theorem lit_1024 : Ideal.ofBits .f32 0x44800000#32 = ((1024 : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_inv1024 : Ideal.ofBits .f32 0x3A800000#32 = ((1 / 1024 : ℝ) : EReal) := by
  simp [Ideal.ofBits, Ideal.ieee, -EReal.coe_mul]; norm_num
theorem lit_inv2048 : Ideal.ofBits .f32 0x3A000000#32 = ((1 / 2048 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num

end Step

end
-- ==== Proof.Norm.lean ====
/- The root-mean-square norm of a row of 1024 reals and its derivative. -/
module

public import proofs.«01_k».proof.Proof.Real

@[expose] public section

set_option maxRecDepth 16384

noncomputable section

namespace Step

open Idealize.ShloMosaic

/-- The mean square of a row, with the small number added: what stands under the root. -/
def msq (x : Fin 1024 → ℝ) : ℝ := (∑ k, x k * x k) / 1024 + eps
/-- The reciprocal root mean square of a row. -/
def rsr (x : Fin 1024 → ℝ) : ℝ := (Real.sqrt (msq x))⁻¹
/-- The normalised row. -/
def nrm (x : Fin 1024 → ℝ) (k : Fin 1024) : ℝ := x k * rsr x
/-- The mean of a product of two rows. -/
def mean2 (x y : Fin 1024 → ℝ) : ℝ := (∑ k, x k * y k) / 1024
/-- The derivative of the norm at `x` applied to the cotangent `d`, as the kernels write it. -/
def nrmBwd (x d : Fin 1024 → ℝ) (k : Fin 1024) : ℝ := rsr x * (d k - nrm x k * mean2 d (nrm x))

theorem msq_pos (x : Fin 1024 → ℝ) : 0 < msq x :=
  add_pos_of_nonneg_of_pos (div_nonneg (Finset.sum_nonneg fun k _ => mul_self_nonneg _) (by norm_num)) eps_pos

theorem rsr_sq (x : Fin 1024 → ℝ) : rsr x * rsr x = 1 / msq x := by
  unfold rsr
  rw [← mul_inv, Real.mul_self_sqrt (msq_pos x).le, one_div]

/-- The derivative of the norm as differentiation of its formula writes it: the cotangent times the reciprocal root, and
    the row times the derivative of that root, whose square the row enters twice. -/
theorem nrmBwd_eq (x d : Fin 1024 → ℝ) (k : Fin 1024) :
    nrmBwd x d k = d k * rsr x + ((∑ j, x j * d j) * (-(1 / 2) * (rsr x / msq x)) / 1024 * x k
      + x k * ((∑ j, x j * d j) * (-(1 / 2) * (rsr x / msq x)) / 1024)) := by
  have hs : ∑ j, d j * nrm x j = (∑ j, x j * d j) * rsr x := by
    rw [Finset.sum_mul]; exact Finset.sum_congr rfl fun j _ => by unfold nrm; ring
  unfold nrmBwd mean2
  rw [hs]
  unfold nrm
  have h := rsr_sq x
  have h3 : rsr x / msq x = rsr x * (rsr x * rsr x) := by rw [h]; ring
  rw [h3]
  ring

end Step

end
-- ==== Proof.PleSpec.lean ====
/- The gated embedding, the last norm and the squared-error loss on one row of 1024 reals, and their derivative. -/
module

public import proofs.«01_k».proof.Proof.Norm

@[expose] public section

set_option maxRecDepth 16384

noncomputable section

namespace Step.PleRow

open Idealize.ShloMosaic Step

/-- What one row of the step's last part reads: the residual row, the embedding row, the target row, and the weights. -/
structure Args where
  h : Fin 4096 → Fin 1024 → ℝ
  p : Fin 4096 → Fin 256 → ℝ
  t : Fin 4096 → Fin 1024 → ℝ
  wg : Fin 1024 → Fin 1024 → ℝ
  wp : Fin 256 → Fin 1024 → ℝ
  gp : Fin 1024 → ℝ
  gf : Fin 1024 → ℝ

variable (A : Args) (r : Fin 4096)

/-- The gate's input. -/
def u (k : Fin 1024) : ℝ := nrm (A.h r) k * A.gp k
/-- The gate before its sigmoid. -/
def z (c : Fin 1024) : ℝ := ∑ k, u A r k * A.wg k c
/-- The gate. -/
def gate (c : Fin 1024) : ℝ := 1 / (1 + Real.exp (0 - z A r c))
/-- The embedding's projection. -/
def e (c : Fin 1024) : ℝ := ∑ k, A.p r k * A.wp k c
/-- The residual row with the gated projection added. -/
def h3 (c : Fin 1024) : ℝ := A.h r c + gate A r c * e A r c
/-- The error of the output. -/
def err (c : Fin 1024) : ℝ := nrm (h3 A r) c * A.gf c - A.t r c
/-- The cotangent of the output. -/
def dy (c : Fin 1024) : ℝ := err A r c * (1 / 1024)
/-- The cotangent of the last normalised row. -/
def dn (c : Fin 1024) : ℝ := dy A r c * A.gf c
/-- The cotangent of the row before the last norm. -/
def dh3 : Fin 1024 → ℝ := nrmBwd (h3 A r) (dn A r)
/-- The cotangent of the embedding's projection. -/
def de (c : Fin 1024) : ℝ := dh3 A r c * gate A r c
/-- The cotangent of the gate before its sigmoid. -/
def dz (c : Fin 1024) : ℝ := dh3 A r c * e A r c * gate A r c * (1 - gate A r c)
/-- The cotangent of the gate's input. -/
def du (k : Fin 1024) : ℝ := ∑ c, dz A r c * A.wg k c
/-- The cotangent of the residual row. -/
def dh (k : Fin 1024) : ℝ := dh3 A r k + nrmBwd (A.h r) (fun j => du A r j * A.gp j) k

theorem gate_pos (c : Fin 1024) : 0 < 1 + Real.exp (0 - z A r c) := add_pos one_pos (Real.exp_pos _)

end Step.PleRow

end
-- ==== Proof.PleKernel.lean ====
/- What the kernel's body computes at one block of rows, over the reals. -/
module

public import proofs.«01_k».proof.Proof.PleSpec
public import proofs.«01_k».proof.Proof.Gen.PleIdeal.Value
public import Idealize.ShloMosaic.Lib.Pipeline.ValueKit

@[expose] public section

set_option maxRecDepth 16384

noncomputable section

namespace Step.PleRow

open Idealize.ShloMosaic Step Cert.PleIdeal Cert.PleIdeal.Gen

variable (A : Args) (row : Fin 512 → Fin 4096)

/-- Column `c` of the weight's block `j`. -/
def col (j : Fin 8) (c : Fin 128) : Fin 1024 := ⟨128 * j.val + c.val, by omega⟩

theorem pay17_up : k0_pay17 (F := Ideal) (up2 fun r => A.h (row r)) = up2 fun r _ => rsr (A.h (row r)) := by
  funext j
  idx_vars j
  pointwise [k0_pay17]
  simp only [up2_ix, ← EReal.coe_mul, coe_sum, lit_1024, lit_eps]
  rw [div_pos_real _ (by norm_num), ← EReal.coe_add]
  exact rsqrt_real (msq_pos _)

theorem pay18_up : k0_pay18 (F := Ideal) (up2 fun r => A.h (row r)) = up2 fun r => nrm (A.h (row r)) := by
  funext j
  idx_vars j
  pointwise [k0_pay18]
  rw [pay17_up]
  rfl

theorem pay19_up : k0_pay19 (F := Ideal) (up2 fun r => A.h (row r)) (up2 fun _ => A.gp) = up2 fun r => u A (row r) := by
  funext j
  idx_vars j
  pointwise [k0_pay19]
  rw [pay18_up]
  rfl

theorem pay20_up : k0_pay20 (F := Ideal) (up2 fun r => A.h (row r)) (up2 fun _ => A.gp) (up2 A.wg) = up2 fun r => gate A (row r) := by
  funext j
  idx_vars j
  pointwise [k0_pay20]
  simp only [pay19_up, up2_ix, ← EReal.coe_mul, coe_sum]
  rw [show (1 : EReal) = ((1 : ℝ) : EReal) from rfl, show (0 : EReal) = ((0 : ℝ) : EReal) from rfl, ← EReal.coe_sub, Ideal.exp_coe, ← EReal.coe_add]
  exact div_pos_real _ (gate_pos A _ _)

theorem pay21_up : k0_pay21 (F := Ideal) (up2 fun r => A.p (row r)) = up2 fun r => A.p (row r) := rfl

/-- Block `j` of the embedding's weight. -/
def blk (j : Fin 8) : (⟨3, ![1, 256, 128]⟩ : Shape).Idx → EReal := up3 fun _ k c => A.wp k (col j c)

theorem pay22_up : k0_pay22 (F := Ideal) (up2 fun r => A.p (row r)) (blk A 0) = up2 fun r c => e A (row r) (col 0 c) := by
  funext j
  idx_vars j
  pointwise [k0_pay22]
  simp only [blk, pay21_up, up2_ix, up3_ix, ← EReal.coe_mul, coe_sum]
  rfl

theorem pay23_up : k0_pay23 (F := Ideal) (up2 fun r => A.p (row r)) (up2 fun r c => e A (row r) (col 0 c)) (blk A 1) (blk A 2) (blk A 3)
    (blk A 4) (blk A 5) (blk A 6) (blk A 7) = up2 fun r => e A (row r) := by
  funext j
  idx_vars j
  pointwise [k0_pay23]
  simp only [blk, up2_ix, up3_ix, ← EReal.coe_mul, coe_sum]
  have hj := j1.isLt
  have key : ∀ (c : Fin 1024), c = j1 → ((∑ k, A.p (row j0) k * A.wp k c : ℝ) : EReal) = ((e A (row j0) j1 : ℝ) : EReal) := fun c hc => by rw [hc]; rfl
  repeat' split
  all_goals exact key _ (Fin.ext (by simp only [col]; first | omega | (simp; omega)))

theorem pay24_up : k0_pay24 (F := Ideal) (up2 fun r => A.h (row r)) (up2 fun r => gate A (row r)) (up2 fun r => A.p (row r)) (up2 fun r c => e A (row r) (col 0 c)) (blk A 1) (blk A 2) (blk A 3)
    (blk A 4) (blk A 5) (blk A 6) (blk A 7) = up2 fun r => h3 A (row r) := by
  funext j
  idx_vars j
  pointwise [k0_pay24]
  rw [pay23_up]
  rfl

theorem pay25_up : k0_pay25 (F := Ideal) (up2 fun r => A.h (row r)) (up2 fun r => gate A (row r)) (up2 fun r => A.p (row r)) (up2 fun r c => e A (row r) (col 0 c)) (blk A 1) (blk A 2) (blk A 3)
    (blk A 4) (blk A 5) (blk A 6) (blk A 7) = up2 fun r _ => rsr (h3 A (row r)) := by
  funext j
  idx_vars j
  pointwise [k0_pay25]
  simp only [pay24_up, up2_ix, ← EReal.coe_mul, coe_sum, lit_1024, lit_eps]
  rw [div_pos_real _ (by norm_num), ← EReal.coe_add]
  exact rsqrt_real (msq_pos _)

theorem pay26_up : k0_pay26 (F := Ideal) (up2 fun r => h3 A (row r)) (up2 fun r _ => rsr (h3 A (row r))) = up2 fun r => nrm (h3 A (row r)) := by
  funext j
  idx_vars j
  pointwise [k0_pay26]
  rfl

theorem pay27_up : k0_pay27 (F := Ideal) (up2 fun r => h3 A (row r)) (up2 fun r _ => rsr (h3 A (row r))) (up2 fun _ => A.gf) (up2 fun r => A.t (row r)) = up2 fun r => err A (row r) := by
  funext j
  idx_vars j
  pointwise [k0_pay27]
  rw [pay26_up]
  rfl

theorem pay28_up (v : FVec Ideal S1x1 .f32) : k0_pay28 (F := Ideal) (up2 fun r => h3 A (row r)) (up2 fun r _ => rsr (h3 A (row r))) (up2 fun _ => A.gf) (up2 fun r => A.t (row r)) v
    = fun j => v j + up2 (fun (_ _ : Fin 1) => ∑ r, 1 / 2048 * ∑ c, err A (row r) c * err A (row r) c) j := by
  funext j
  idx_vars j
  pointwise [k0_pay28]
  simp only [pay27_up, up2_ix, ← EReal.coe_mul, coe_sum, lit_inv2048]
  rw [Finset.mul_sum]

theorem pay29_up : k0_pay29 (F := Ideal) (up2 fun r => h3 A (row r)) (up2 fun r _ => rsr (h3 A (row r))) (up2 fun _ => A.gf) (up2 fun r => A.t (row r)) = up2 fun r => dy A (row r) := by
  funext j
  idx_vars j
  pointwise [k0_pay29]
  rw [pay27_up, lit_inv1024]
  rfl

theorem pay30_up (v : FVec Ideal S1x1024 .f32) : k0_pay30 (F := Ideal) (up2 fun r => h3 A (row r)) (up2 fun r _ => rsr (h3 A (row r))) (up2 fun _ => A.gf) (up2 fun r => A.t (row r)) v
    = fun j => v j + up2 (fun (_ : Fin 1) c => ∑ r, dy A (row r) c * nrm (h3 A (row r)) c) j := by
  funext j
  idx_vars j
  pointwise [k0_pay30]
  simp only [pay29_up, pay26_up, up2_ix, ← EReal.coe_mul, coe_sum]

theorem pay31_up : k0_pay31 (F := Ideal) (up2 fun r => h3 A (row r)) (up2 fun r _ => rsr (h3 A (row r))) (up2 fun _ => A.gf) (up2 fun r => A.t (row r)) (up2 fun _ => A.gf)
    = up2 fun r => dn A (row r) := by
  funext j
  idx_vars j
  pointwise [k0_pay31]
  rw [pay29_up]
  rfl

theorem pay32_up : k0_pay32 (F := Ideal) (up2 fun r => h3 A (row r)) (up2 fun r _ => rsr (h3 A (row r))) (up2 fun _ => A.gf) (up2 fun r => A.t (row r)) (up2 fun _ => A.gf)
    = up2 fun r _ => mean2 (dn A (row r)) (nrm (h3 A (row r))) := by
  funext j
  idx_vars j
  pointwise [k0_pay32]
  simp only [pay31_up, pay26_up, up2_ix, ← EReal.coe_mul, coe_sum, lit_1024]
  exact div_pos_real _ (by norm_num)

theorem pay33_up : k0_pay33 (F := Ideal) (up2 fun r _ => rsr (h3 A (row r))) (up2 fun r => nrm (h3 A (row r))) (up2 fun r => dn A (row r))
    (up2 fun r _ => mean2 (dn A (row r)) (nrm (h3 A (row r)))) = up2 fun r => dh3 A (row r) := by
  funext j
  idx_vars j
  pointwise [k0_pay33]
  rfl

theorem pay34_up : k0_pay34 (F := Ideal) (up2 fun r => gate A (row r)) (up2 fun r => e A (row r)) (up2 fun r _ => rsr (h3 A (row r))) (up2 fun r => nrm (h3 A (row r))) (up2 fun r => dn A (row r))
    (up2 fun r _ => mean2 (dn A (row r)) (nrm (h3 A (row r)))) = up2 fun r => dz A (row r) := by
  funext j
  idx_vars j
  pointwise [k0_pay34]
  rw [pay33_up]
  rfl

theorem pay35_up (v : FVec Ideal S256x1024 .f32) : k0_pay35 (F := Ideal) (up2 fun r => gate A (row r)) (up2 fun r => A.p (row r)) (up2 fun r _ => rsr (h3 A (row r))) (up2 fun r => nrm (h3 A (row r))) (up2 fun r => dn A (row r))
    (up2 fun r _ => mean2 (dn A (row r)) (nrm (h3 A (row r)))) v = fun j => v j + up2 (fun k c => ∑ r, A.p (row r) k * de A (row r) c) j := by
  funext j
  idx_vars j
  pointwise [k0_pay35]
  simp only [pay33_up, up2_ix, ← EReal.coe_mul, coe_sum]
  rfl

theorem pay36_up (v : FVec Ideal S1024x1024 .f32) : k0_pay36 (F := Ideal) (up2 fun r => u A (row r)) (up2 fun r => gate A (row r)) (up2 fun r => e A (row r)) (up2 fun r _ => rsr (h3 A (row r))) (up2 fun r => nrm (h3 A (row r))) (up2 fun r => dn A (row r))
    (up2 fun r _ => mean2 (dn A (row r)) (nrm (h3 A (row r)))) v = fun j => v j + up2 (fun k c => ∑ r, u A (row r) k * dz A (row r) c) j := by
  funext j
  idx_vars j
  pointwise [k0_pay36]
  simp only [pay34_up, up2_ix, ← EReal.coe_mul, coe_sum]

theorem pay37_up : k0_pay37 (F := Ideal) (up2 fun r => gate A (row r)) (up2 fun r => e A (row r)) (up2 fun r _ => rsr (h3 A (row r))) (up2 fun r => nrm (h3 A (row r))) (up2 fun r => dn A (row r))
    (up2 fun r _ => mean2 (dn A (row r)) (nrm (h3 A (row r)))) (up2 A.wg) = up2 fun r => du A (row r) := by
  funext j
  idx_vars j
  pointwise [k0_pay37]
  simp only [pay34_up, up2_ix, ← EReal.coe_mul, coe_sum]
  rfl

theorem pay38_up (v : FVec Ideal S1x1024 .f32) : k0_pay38 (F := Ideal) (up2 fun r => nrm (A.h (row r))) (up2 fun r => gate A (row r)) (up2 fun r => e A (row r)) (up2 fun r _ => rsr (h3 A (row r))) (up2 fun r => nrm (h3 A (row r))) (up2 fun r => dn A (row r))
    (up2 fun r _ => mean2 (dn A (row r)) (nrm (h3 A (row r)))) (up2 A.wg) v = fun j => v j + up2 (fun (_ : Fin 1) k => ∑ r, du A (row r) k * nrm (A.h (row r)) k) j := by
  funext j
  idx_vars j
  pointwise [k0_pay38]
  simp only [pay37_up, up2_ix, ← EReal.coe_mul, coe_sum]

theorem pay1_up : k0_pay1 (F := Ideal) (up2 fun r _ => rsr (A.h (row r))) (up2 fun r => nrm (A.h (row r))) (up2 fun r => dh3 A (row r)) (up2 fun r => du A (row r)) (up2 fun _ => A.gp)
    = up2 fun r => dh A (row r) := by
  funext j
  idx_vars j
  pointwise [k0_pay1]
  simp only [up2_ix, ← EReal.coe_mul, coe_sum, lit_1024]
  rw [div_pos_real _ (by norm_num)]
  rfl

end Step.PleRow

end
-- ==== Proof.PleStep.lean ====
/- What the kernel leaves at each grid point, over the reals. -/
module

public import proofs.«01_k».proof.Proof.PleKernel
public import Idealize.ShloMosaic.Lib.Pipeline.ReadBack

@[expose] public section

set_option maxRecDepth 16384

noncomputable section

namespace Step.PleRow

open Idealize.ShloMosaic Step Cert.PleIdeal Cert.PleIdeal.Gen Cert.PleIdeal.Value

variable (A : Args) (row : Fin 512 → Fin 4096) (m : (ℓ : Loc nD τ sig) → Buf (Elt Ideal) ℓ) (c : Dev nD)

/-- The blocks that the body reads at a grid point are the rows `row` of `A`'s arrays, and `A`'s weights. -/
structure Reads (t : Fin cfg0.N) : Prop where
  h : (iblk m c 0 t : Vec Ideal S512x1024 .f32) = up2 fun r => A.h (row r)
  p : (iblk m c 1 t : Vec Ideal S512x256 .f32) = up2 fun r => A.p (row r)
  tg : (iblk m c 2 t : Vec Ideal S512x1024 .f32) = up2 fun r => A.t (row r)
  wg : (iblk m c 3 t : Vec Ideal S1024x1024 .bf16) = up2 A.wg
  wp : (iblk m c 4 t : Vec Ideal S8x256x128 .bf16) = up3 fun j k b => A.wp k (col j b)
  gp : (iblk m c 5 t : Vec Ideal S1x1024 .f32) = up2 fun _ => A.gp
  gf : (iblk m c 6 t : Vec Ideal S1x1024 .f32) = up2 fun _ => A.gf

/-- A load of one block of the embedding's weight. -/
theorem ld_blk (j : Fin 8) (off : Fin 3 → Nat) (inb) (hoff : off = ![j.val, 0, 0]) :
    View.ld (Val := Elt Ideal) (S := S8x256x128) (e' := .bf16) (up3 fun j k b => A.wp k (col j b)) (Rect.unit (s := S8x256x128) off ![1, 256, 128] inb) = blk A j := by
  subst hoff
  funext x
  idx_vars x
  pointwise [blk]
  simp only [up3_ix]

/-- What a row adds to each of the five sums over rows. -/
def addG (r : Fin 4096) (k : Fin 1024) (c : Fin 1024) : ℝ := u A r k * dz A r c
def addP (r : Fin 4096) (k : Fin 256) (c : Fin 1024) : ℝ := A.p r k * de A r c
def addGp (r : Fin 4096) (k : Fin 1024) : ℝ := du A r k * nrm (A.h r) k
def addGf (r : Fin 4096) (k : Fin 1024) : ℝ := dy A r k * nrm (h3 A r) k
def addL (r : Fin 4096) : ℝ := 1 / 2048 * ∑ c, err A r c * err A r c

theorem stepB (t : Fin cfg0.N) (h0 : ¬t.val % 8 = 0) (h1 : ¬t.val % 8 = 7) (H : Reads A row m c t) acc :
    (stAt0 m c t.val t.isLt acc).1 = up2 (fun r => dh A (row r))
    ∧ (stAt0 m c t.val t.isLt acc).2.2.2.1 = (fun j => acc.2.2.2.1 j + up2 (fun (_ : Fin 1) k => ∑ r, addGp A (row r) k) j)
    ∧ (stAt0 m c t.val t.isLt acc).2.2.2.2.1 = (fun j => acc.2.2.2.2.1 j + up2 (fun (_ : Fin 1) k => ∑ r, addGf A (row r) k) j)
    ∧ (stAt0 m c t.val t.isLt acc).2.2.2.2.2.1 = (fun j => acc.2.2.2.2.2.1 j + up2 (fun (_ _ : Fin 1) => ∑ r, addL A (row r)) j)
    ∧ (stAt0 m c t.val t.isLt acc).2.2.2.2.2.2.1 = (fun j => acc.2.2.2.2.2.2.1 j + up2 (fun k b => ∑ r, addG A (row r) k b) j)
    ∧ (stAt0 m c t.val t.isLt acc).2.2.2.2.2.2.2 = (fun j => acc.2.2.2.2.2.2.2 j + up2 (fun k b => ∑ r, addP A (row r) k b) j) := by
  rw [stAt0_B m c t _ h0 h1]
  dsimp only
  refine ⟨?_, ?_, ?_, ?_, ?_, ?_⟩ <;> frame_out
  all_goals
    rw [H.h, H.p, H.wg, H.wp, H.gp]
    try rw [H.tg]
    try rw [H.gf]
    rw [ld_blk A 0 ![0, 0, 0] _ rfl, ld_blk A 1 ![1, 0, 0] _ rfl, ld_blk A 2 ![2, 0, 0] _ rfl, ld_blk A 3 ![3, 0, 0] _ rfl, ld_blk A 4 ![4, 0, 0] _ rfl, ld_blk A 5 ![5, 0, 0] _ rfl, ld_blk A 6 ![6, 0, 0] _ rfl, ld_blk A 7 ![7, 0, 0] _ rfl]
    simp only [pay17_up, pay18_up, pay19_up, pay20_up, pay21_up, pay22_up, pay23_up, pay24_up, pay25_up, pay26_up, pay31_up, pay32_up]
  · rw [pay33_up, pay37_up]; exact pay1_up A row
  · exact pay38_up A row _
  · exact pay30_up A row _
  · exact pay28_up A row _
  · rw [read_unread_whole]; exact pay36_up A row _
  · rw [read_unread_whole]; exact pay35_up A row _

theorem stepA (t : Fin cfg0.N) (h0 : t.val % 8 = 0) (h1 : ¬t.val % 8 = 7) (H : Reads A row m c t) acc :
    (stAt0 m c t.val t.isLt acc).1 = up2 (fun r => dh A (row r))
    ∧ (stAt0 m c t.val t.isLt acc).2.2.2.1 = up2 (fun (_ : Fin 1) k => ∑ r, addGp A (row r) k)
    ∧ (stAt0 m c t.val t.isLt acc).2.2.2.2.1 = up2 (fun (_ : Fin 1) k => ∑ r, addGf A (row r) k)
    ∧ (stAt0 m c t.val t.isLt acc).2.2.2.2.2.1 = up2 (fun (_ _ : Fin 1) => ∑ r, addL A (row r))
    ∧ (stAt0 m c t.val t.isLt acc).2.2.2.2.2.2.1 = up2 (fun k b => ∑ r, addG A (row r) k b)
    ∧ (stAt0 m c t.val t.isLt acc).2.2.2.2.2.2.2 = up2 (fun k b => ∑ r, addP A (row r) k b) := by
  rw [stAt0_A m c t _ h0 h1]
  dsimp only
  refine ⟨?_, ?_, ?_, ?_, ?_, ?_⟩ <;> frame_out
  all_goals
    rw [H.h, H.p, H.wg, H.wp, H.gp]
    try rw [H.tg]
    try rw [H.gf]
    rw [ld_blk A 0 ![0, 0, 0] _ rfl, ld_blk A 1 ![1, 0, 0] _ rfl, ld_blk A 2 ![2, 0, 0] _ rfl, ld_blk A 3 ![3, 0, 0] _ rfl, ld_blk A 4 ![4, 0, 0] _ rfl, ld_blk A 5 ![5, 0, 0] _ rfl, ld_blk A 6 ![6, 0, 0] _ rfl, ld_blk A 7 ![7, 0, 0] _ rfl]
    simp only [pay17_up, pay18_up, pay19_up, pay20_up, pay21_up, pay22_up, pay23_up, pay24_up, pay25_up, pay26_up, pay31_up, pay32_up]
  · rw [pay33_up, pay37_up]; exact pay1_up A row
  · exact (pay38_up A row _).trans (funext fun j => by pointwise [k0_pay14]; rfl)
  · exact (pay30_up A row _).trans (funext fun j => by pointwise [k0_pay15]; rfl)
  · exact (pay28_up A row _).trans (funext fun j => by pointwise [k0_pay16]; rfl)
  · exact (pay36_up A row _).trans (funext fun j => by pointwise [k0_pay12]; rfl)
  · exact (pay35_up A row _).trans (funext fun j => by pointwise [k0_pay13]; rfl)

theorem stepC (t : Fin cfg0.N) (h0 : ¬t.val % 8 = 0) (h1 : t.val % 8 = 7) (H : Reads A row m c t) acc :
    (stAt0 m c t.val t.isLt acc).1 = up2 (fun r => dh A (row r))
    ∧ (stAt0 m c t.val t.isLt acc).2.2.2.1 = (fun j => acc.2.2.2.1 j + up2 (fun (_ : Fin 1) k => ∑ r, addGp A (row r) k) j)
    ∧ (stAt0 m c t.val t.isLt acc).2.2.2.2.1 = (fun j => acc.2.2.2.2.1 j + up2 (fun (_ : Fin 1) k => ∑ r, addGf A (row r) k) j)
    ∧ (stAt0 m c t.val t.isLt acc).2.2.2.2.2.1 = (fun j => acc.2.2.2.2.2.1 j + up2 (fun (_ _ : Fin 1) => ∑ r, addL A (row r)) j)
    ∧ (stAt0 m c t.val t.isLt acc).2.2.2.2.2.2.1 = (fun j => acc.2.2.2.2.2.2.1 j + up2 (fun k b => ∑ r, addG A (row r) k b) j)
    ∧ (stAt0 m c t.val t.isLt acc).2.2.2.2.2.2.2 = (fun j => acc.2.2.2.2.2.2.2 j + up2 (fun k b => ∑ r, addP A (row r) k b) j)
    ∧ (stAt0 m c t.val t.isLt acc).2.1 = (fun j => acc.2.2.2.2.2.2.1 j + up2 (fun k b => ∑ r, addG A (row r) k b) j)
    ∧ (stAt0 m c t.val t.isLt acc).2.2.1 = (fun i => acc.2.2.2.2.2.2.2 (ix2 (i 1) (col (i 0) (i 2))) + up2 (fun k b => ∑ r, addP A (row r) k b) (ix2 (i 1) (col (i 0) (i 2)))) := by
  rw [stAt0_C m c t _ h0 h1]
  dsimp only
  refine ⟨?_, ?_, ?_, ?_, ?_, ?_, ?_, ?_⟩ <;> frame_out
  all_goals
    rw [H.h, H.p, H.wg, H.wp, H.gp]
    try rw [H.tg]
    try rw [H.gf]
    rw [ld_blk A 0 ![0, 0, 0] _ rfl, ld_blk A 1 ![1, 0, 0] _ rfl, ld_blk A 2 ![2, 0, 0] _ rfl, ld_blk A 3 ![3, 0, 0] _ rfl, ld_blk A 4 ![4, 0, 0] _ rfl, ld_blk A 5 ![5, 0, 0] _ rfl, ld_blk A 6 ![6, 0, 0] _ rfl, ld_blk A 7 ![7, 0, 0] _ rfl]
    simp only [pay17_up, pay18_up, pay19_up, pay20_up, pay21_up, pay22_up, pay23_up, pay24_up, pay25_up, pay26_up, pay31_up, pay32_up]
  · rw [pay33_up, pay37_up]; exact pay1_up A row
  · exact pay38_up A row _
  · exact pay30_up A row _
  · exact pay28_up A row _
  · rw [read_unread_whole]; exact pay36_up A row _
  · rw [read_unread_whole]; exact pay35_up A row _
  · rw [read_unread_whole, pay36_up]; rfl
  · rw [read_unread_whole, pay35_up]
    simp (disch := decide) only [View.readCov_fill]
    generalize hG : (fun j => acc.2.2.2.2.2.2.2 j + up2 (fun k c => ∑ r, A.p (row r) k * de A (row r) c) j) = G
    funext y
    have key : ∀ a b, a = y 1 → b = col (y 0) (y 2) → G (ix2 a b) = acc.2.2.2.2.2.2.2 (ix2 (y 1) (col (y 0) (y 2)))
        + up2 (fun k b => ∑ r, addP A (row r) k b) (ix2 (y 1) (col (y 0) (y 2))) := by
      rintro _ _ rfl rfl; rw [← hG]; rfl
    clear hG
    canon_tiles y h
    all_goals
      unfold_payloads
      pointwise
      exact key _ _ (Fin.ext (by simp only [*])) (Fin.ext (by simp only [*, col]; omega))

end Step.PleRow

end
-- ==== Proof.Blocks.lean ====
/- An axis of 4096 in blocks of 512, and sums over its first blocks. -/
module

public import proofs.«01_k».proof.Proof.Real
public import Idealize.ShloMosaic.Lib.Pipeline.ValueKit.Acc

@[expose] public section

set_option maxRecDepth 16384

noncomputable section

namespace Step

open Idealize.ShloMosaic

/-- Position `r` of block `n`. -/
def rowAt (n : ℕ) (r : Fin 512) : Fin 4096 := ⟨(512 * n + r.val) % 4096, Nat.mod_lt _ (by norm_num)⟩

/-- The sum of `f` over blocks `0 … n`. -/
def total {M : Type} [AddCommMonoid M] (f : Fin 4096 → M) (n : ℕ) : M := ∑ t ∈ Finset.range (n + 1), ∑ r, f (rowAt t r)

theorem total_zero {M : Type} [AddCommMonoid M] (f : Fin 4096 → M) : total f 0 = ∑ r, f (rowAt 0 r) := by
  simp only [total, zero_add, Finset.sum_range_one]

theorem total_succ {M : Type} [AddCommMonoid M] (f : Fin 4096 → M) (n : ℕ) : total f (n + 1) = total f n + ∑ r, f (rowAt (n + 1) r) := by
  unfold total; rw [Finset.sum_range_succ]

theorem total_last {M : Type} [AddCommMonoid M] (f : Fin 4096 → M) : total f 7 = ∑ r, f r := by
  unfold total
  rw [Finset.sum_range (n := 8)]
  rw [← Fin.sum_mul_add_fin 8 512 f (by decide)]
  exact Finset.sum_congr rfl fun t _ => Finset.sum_congr rfl fun r _ =>
    congrArg f (Fin.ext (by show (512 * t.val + r.val) % 4096 = t.val * 512 + r.val; have := t.isLt; have := r.isLt; omega))

/-- A row of sums with one block's sums added. -/
theorem up2_succ {a b : ℕ} (f : Fin a → Fin b → Fin 4096 → ℝ) (n : ℕ) :
    (fun j => up2 (fun i k => total (f i k) n) j + up2 (fun i k => ∑ r, f i k (rowAt (n + 1) r)) j) = up2 fun i k => total (f i k) (n + 1) := by
  funext j
  rw [eq_ix2 j]
  simp only [total_succ]
  exact (EReal.coe_add _ _).symm

end Step

end
-- ==== Proof.PleRead.lean ====
/- The blocks that the kernel's body reads at a grid point, as rows of the arguments. -/
module

public import proofs.«01_k».proof.Proof.PleStep
public import proofs.«01_k».proof.Proof.Blocks

@[expose] public section

set_option maxRecDepth 16384

noncomputable section

namespace Step.PleRow

open Idealize.ShloMosaic Idealize.ShloMosaic.TcCoe Idealize.SL.Sem Step Cert.PleIdeal Cert.PleIdeal.Gen Cert.PleIdeal.Value

variable (A : Args) (m : (ℓ : Loc nD τ sig) → Buf (Elt Ideal) ℓ) (c : Dev nD)

/-- The program's arguments hold `A`'s arrays. -/
structure Holds : Prop where
  h : (m ((c : Thread nD τ).loc main_arg0) : S4096x1024.Idx → EReal) = up2 A.h
  p : (m ((c : Thread nD τ).loc main_arg1) : S4096x256.Idx → EReal) = up2 A.p
  tg : (m ((c : Thread nD τ).loc main_arg2) : S4096x1024.Idx → EReal) = up2 A.t
  wg : (m ((c : Thread nD τ).loc main_arg3) : S1024x1024.Idx → EReal) = up2 A.wg
  wp : (m ((c : Thread nD τ).loc main_arg4) : S256x1024.Idx → EReal) = up2 A.wp
  gp : (m ((c : Thread nD τ).loc main_arg5) : S1024.Idx → EReal) = up1 A.gp
  gf : (m ((c : Thread nD τ).loc main_arg6) : S1024.Idx → EReal) = up1 A.gf

theorem idx_rows : ∀ t : Fin grid0.N, win0_0.index t = ![t.val, 0] ∧ win0_1.index t = ![t.val, 0] ∧ win0_2.index t = ![t.val, 0]
    ∧ win0_3.index t = ![0, 0] ∧ win0_4.index t = ![0, 0, 0] ∧ win0_5.index t = ![0, 0] ∧ win0_6.index t = ![0, 0] := by decide +kernel

variable {A m c} in
theorem reads (H : Holds A m c) (t : Fin cfg0.N) : Reads A (rowAt t.val) m c t := by
  have ht : t.val < 8 := t.isLt
  constructor
  · funext x
    idx_vars x
    refine Eq.trans (b := (m ((c : Thread nD τ).loc main_arg0) : S4096x1024.Idx → EReal) (ix2 (rowAt t.val x0) x1)) ?_ (by rw [H.h]; rfl)
    blk_ext [iblk, V, (idx_rows t).1]
    show _ = (512 * t.val + x0.val) % 4096
    omega
  · funext x
    idx_vars x
    refine Eq.trans (b := (m ((c : Thread nD τ).loc main_arg1) : S4096x256.Idx → EReal) (ix2 (rowAt t.val x0) x1)) ?_ (by rw [H.p]; rfl)
    blk_ext [iblk, V, (idx_rows t).2.1]
    show _ = (512 * t.val + x0.val) % 4096
    omega
  · funext x
    idx_vars x
    refine Eq.trans (b := (m ((c : Thread nD τ).loc main_arg2) : S4096x1024.Idx → EReal) (ix2 (rowAt t.val x0) x1)) ?_ (by rw [H.tg]; rfl)
    blk_ext [iblk, V, (idx_rows t).2.2.1]
    show _ = (512 * t.val + x0.val) % 4096
    omega
  · funext x
    idx_vars x
    refine Eq.trans (b := (m ((c : Thread nD τ).loc main_arg3) : S1024x1024.Idx → EReal) (ix2 x0 x1)) ?_ (by rw [H.wg])
    blk_ext! [iblk, V, (idx_rows t).2.2.2.1]
  · funext x
    idx_vars x
    refine Eq.trans (b := (m ((c : Thread nD τ).loc main_arg4) : S256x1024.Idx → EReal) (ix2 x1 (col x0 x2))) ?_ (by rw [H.wp]; rfl)
    blk_ext! [iblk, V, (idx_rows t).2.2.2.2.1]
    show x0.val * 128 + x2.val = 128 * x0.val + x2.val
    omega
  · funext x
    idx_vars x
    refine Eq.trans (b := (m ((c : Thread nD τ).loc main_arg5) : S1024.Idx → EReal) (ix1 x1)) ?_ (by rw [H.gp]; rfl)
    blk_ext! [iblk, V, (idx_rows t).2.2.2.2.2.1]
  · funext x
    idx_vars x
    refine Eq.trans (b := (m ((c : Thread nD τ).loc main_arg6) : S1024.Idx → EReal) (ix1 x1)) ?_ (by rw [H.gf]; rfl)
    blk_ext! [iblk, V, (idx_rows t).2.2.2.2.2.2]

end Step.PleRow

end
-- ==== Proof.PleValue.lean ====
/- What the kernel's six results hold after its run, over the reals. -/
module

public import proofs.«01_k».proof.Proof.PleRead

@[expose] public section

set_option maxRecDepth 16384

noncomputable section

namespace Step.PleRow

open Idealize.ShloMosaic Idealize.ShloMosaic.TcCoe Idealize.SL.Sem Step Cert.PleIdeal Cert.PleIdeal.Gen Cert.PleIdeal.Value

variable {A : Args} {m : (ℓ : Loc nD τ sig) → Buf (Elt Ideal) ℓ} {c : Dev nD}

/-- The state after point `n`: the block of rows it has just written, and the five sums over all rows so far. -/
theorem fold_eq (H : Holds A m c) : ∀ (n : ℕ) (h : 0 + n < cfg0.N) S,
    S = Pipeline.accAt (fun n h => stAt0 m c n h junk0) (stAt0 m c) 0 n h →
    S.1 = up2 (fun r => dh A (rowAt n r))
    ∧ S.2.2.2.1 = up2 (fun (_ : Fin 1) k => total (fun r => addGp A r k) n)
    ∧ S.2.2.2.2.1 = up2 (fun (_ : Fin 1) k => total (fun r => addGf A r k) n)
    ∧ S.2.2.2.2.2.1 = up2 (fun (_ _ : Fin 1) => total (fun r => addL A r) n)
    ∧ S.2.2.2.2.2.2.1 = up2 (fun k b => total (fun r => addG A r k b) n)
    ∧ S.2.2.2.2.2.2.2 = up2 (fun k b => total (fun r => addP A r k b) n)
  | 0, h, S, hS => by
    rw [Pipeline.accAt_zero] at hS
    subst hS
    simp only [total_zero]
    exact stepA A (rowAt 0) m c ⟨0, h⟩ rfl (show ¬0 % 8 = 7 by decide) (reads H ⟨0, h⟩) _
  | n + 1, h, S, hS => by
    have hN : n + 1 < cfg0.N := by rw [zero_add] at h; exact h
    have hn : n + 1 < 8 := lt_of_lt_of_eq hN N_0
    obtain ⟨-, i1, i2, i3, i4, i5⟩ := fold_eq H n (by omega) _ rfl
    rw [Pipeline.accAt_succ] at hS
    generalize Pipeline.accAt (fun n h => stAt0 m c n h junk0) (stAt0 m c) 0 n _ = X at *
    have e : 0 + (n + 1) = n + 1 := zero_add _
    simp only [e] at hS
    subst hS
    have h0 : ¬(n + 1) % 8 = 0 := by omega
    have key : (stAt0 m c (n + 1) hN X).1 = up2 (fun r => dh A (rowAt (n + 1) r))
        ∧ (stAt0 m c (n + 1) hN X).2.2.2.1 = (fun j => X.2.2.2.1 j + up2 (fun (_ : Fin 1) k => ∑ r, addGp A (rowAt (n + 1) r) k) j)
        ∧ (stAt0 m c (n + 1) hN X).2.2.2.2.1 = (fun j => X.2.2.2.2.1 j + up2 (fun (_ : Fin 1) k => ∑ r, addGf A (rowAt (n + 1) r) k) j)
        ∧ (stAt0 m c (n + 1) hN X).2.2.2.2.2.1 = (fun j => X.2.2.2.2.2.1 j + up2 (fun (_ _ : Fin 1) => ∑ r, addL A (rowAt (n + 1) r)) j)
        ∧ (stAt0 m c (n + 1) hN X).2.2.2.2.2.2.1 = (fun j => X.2.2.2.2.2.2.1 j + up2 (fun k b => ∑ r, addG A (rowAt (n + 1) r) k b) j)
        ∧ (stAt0 m c (n + 1) hN X).2.2.2.2.2.2.2 = (fun j => X.2.2.2.2.2.2.2 j + up2 (fun k b => ∑ r, addP A (rowAt (n + 1) r) k b) j) := by
      by_cases h1 : (n + 1) % 8 = 7
      · obtain ⟨s0, s1, s2, s3, s4, s5, -, -⟩ := stepC A (rowAt (n + 1)) m c ⟨n + 1, hN⟩ h0 h1 (reads H ⟨n + 1, hN⟩) X
        exact ⟨s0, s1, s2, s3, s4, s5⟩
      · exact stepB A (rowAt (n + 1)) m c ⟨n + 1, hN⟩ h0 h1 (reads H ⟨n + 1, hN⟩) X
    obtain ⟨s0, s1, s2, s3, s4, s5⟩ := key
    rw [i1] at s1
    rw [i2] at s2
    rw [i3] at s3
    rw [i4] at s4
    rw [i5] at s5
    exact ⟨s0, s1.trans (up2_succ (fun (_ : Fin 1) k r => addGp A r k) n), s2.trans (up2_succ (fun (_ : Fin 1) k r => addGf A r k) n),
      s3.trans (up2_succ (fun (_ _ : Fin 1) r => addL A r) n), s4.trans (up2_succ (fun k b r => addG A r k b) n),
      s5.trans (up2_succ (fun k b r => addP A r k b) n)⟩

/-- The gradient of the residual rows. -/
theorem G7_eq (H : Holds A m c) : (G7 m c : S4096x1024.Idx → EReal) = up2 fun r k => dh A r k := by
  funext i
  idx_vars i
  unfold G7
  have hp : pt7Of (ix2 i0 i1) = i0.val / 512 := by
    show 1 * (i0.val / 512 - 0) + 1 * (i1.val / 1024 - 0) = _
    have := i1.isLt
    omega
  have hb : i0.val / 512 < cfg0.N := lt_of_lt_of_eq (by have := i0.isLt; omega) N_0.symm
  rw [dif_pos (by rw [hp]; exact hb)]
  rw [(fold_eq H _ _ _ rfl).1]
  rw [hp]
  show ((dh A (rowAt (i0.val / 512) ⟨i0.val % 512, _⟩) ⟨i1.val % 1024, _⟩ : ℝ) : EReal) = ((dh A i0 i1 : ℝ) : EReal)
  congr 2
  · congr 1
    exact Fin.ext (by show (512 * (i0.val / 512) + i0.val % 512) % 4096 = i0.val; have := i0.isLt; omega)
  · exact Fin.ext (Nat.mod_eq_of_lt i1.isLt)

theorem last_eq (H : Holds A m c) : ∀ S, S = Pipeline.accAt (fun n h => stAt0 m c n h junk0) (stAt0 m c) 0 7 (lt_of_lt_of_eq (by decide) N_0.symm) →
    S.2.1 = up2 (fun k b => ∑ r, addG A r k b) ∧ S.2.2.1 = up3 (fun j k b => ∑ r, addP A r k (col j b)) := by
  intro S hS
  obtain ⟨-, -, -, -, i4, i5⟩ := fold_eq H 6 (lt_of_lt_of_eq (by decide) N_0.symm) _ rfl
  rw [Pipeline.accAt_succ] at hS
  generalize Pipeline.accAt (fun n h => stAt0 m c n h junk0) (stAt0 m c) 0 6 _ = X at *
  have s := stepC A (rowAt 7) m c ⟨7, lt_of_lt_of_eq (by decide) N_0.symm⟩ (show ¬7 % 8 = 0 by decide) rfl (reads H ⟨7, lt_of_lt_of_eq (by decide) N_0.symm⟩) X
  subst hS
  obtain ⟨-, -, -, -, -, -, s6, s7⟩ := s
  rw [i4] at s6
  rw [i5] at s7
  constructor
  · refine s6.trans ((up2_succ (fun k b r => addG A r k b) 6).trans ?_)
    exact congrArg up2 (funext₂ fun k b => total_last fun r => addG A r k b)
  · refine s7.trans ?_
    funext i
    exact (congrFun (up2_succ (fun k b r => addP A r k b) 6) (ix2 (i 1) (col (i 0) (i 2)))).trans
      (congrArg (fun x : ℝ => (x : EReal)) (total_last fun r => addP A r (i 1) (col (i 0) (i 2))))

theorem G8_eq (H : Holds A m c) : (G8 m c : S1024x1024.Idx → EReal) = up2 fun k b => ∑ r, addG A r k b :=
  (G8_last m c).trans (last_eq H _ rfl).1
theorem G9_eq (H : Holds A m c) : (G9 m c : S8x256x128.Idx → EReal) = up3 fun j k b => ∑ r, addP A r k (col j b) :=
  (G9_last m c).trans (last_eq H _ rfl).2
theorem G10_eq (H : Holds A m c) : (G10 m c : S1x1024.Idx → EReal) = up2 fun _ k => ∑ r, addGp A r k :=
  (G10_last m c).trans ((fold_eq H 7 _ _ rfl).2.1.trans (by simp only [total_last]))
theorem G11_eq (H : Holds A m c) : (G11 m c : S1x1024.Idx → EReal) = up2 fun _ k => ∑ r, addGf A r k :=
  (G11_last m c).trans ((fold_eq H 7 _ _ rfl).2.2.1.trans (by simp only [total_last]))
theorem G12_eq (H : Holds A m c) : (G12 m c : S1x1.Idx → EReal) = up2 fun _ _ => ∑ r, addL A r :=
  (G12_last m c).trans ((fold_eq H 7 _ _ rfl).2.2.2.1.trans (by simp only [total_last]))

end Step.PleRow

end
-- ==== Proof.PleRef.lean ====
/- What the reference's lines compute, over the reals. -/
module

public import proofs.«01_k».proof.Proof.PleStep
public import proofs.«01_k».proof.Proof.Gen.PleRefIdeal.Read

@[expose] public section

set_option maxRecDepth 16384

noncomputable section

namespace Step.PleRow

open Idealize.ShloMosaic Step Cert.PleRefIdeal Cert.PleRefIdeal.Gen Cert.PleRefIdeal.Read

variable (A : Args)

theorem v6_up : val_main_v6 (F := Ideal) (up2 A.h) = up2 fun r _ => msq (A.h r) := by
  funext j
  idx_vars j
  pointwise [val_main_v6, val_main_v0, val_main_v1, val_main_v2, val_main_v3, val_main_v4, val_main_v5, val_main_cst, val_main_cst_0, val_main_cst_1]
  simp only [up1_ix, up2_ix, ← EReal.coe_mul, ← EReal.coe_add, ← EReal.coe_sub, coe_sum, lit_1024, lit_eps, zero_add]
  rw [div_pos_real _ (by norm_num), ← EReal.coe_add]
  rfl

theorem v7_up : val_main_v7 (F := Ideal) (up2 A.h) = up2 fun r _ => rsr (A.h r) := by
  funext j
  idx_vars j
  pointwise [val_main_v7]
  rw [v6_up]
  exact rsqrt_real (msq_pos _)

theorem v10_up : val_main_v10 (F := Ideal) (up2 A.h) = up2 fun r _ => -(1 / 2) * (rsr (A.h r) / msq (A.h r)) := by
  funext j
  idx_vars j
  pointwise [val_main_v10, val_main_v8, val_main_v9, val_main_cst_2]
  rw [v6_up, v7_up, up2_ix, up2_ix, lit_neg_half, div_pos_real _ (msq_pos _), ← EReal.coe_mul]
  rfl

theorem v12_up : val_main_v12 (F := Ideal) (up2 A.h) = up2 fun r => nrm (A.h r) := by
  funext j
  idx_vars j
  pointwise [val_main_v12, val_main_v11]
  rw [v7_up]
  rfl

theorem v15_up : val_main_v15 (F := Ideal) (up2 A.h) (up1 A.gp) = up2 fun r => u A r := by
  funext j
  idx_vars j
  pointwise [val_main_v15, val_main_v13, val_main_v14]
  rw [v12_up]
  rfl

theorem v16_up : val_main_v16 (F := Ideal) (up2 A.h) (up2 A.wg) (up1 A.gp) = up2 fun r => z A r := by
  funext j
  idx_vars j
  pointwise [val_main_v16]
  simp only [v15_up, up1_ix, up2_ix, ← EReal.coe_mul, ← EReal.coe_add, ← EReal.coe_sub, coe_sum]
  rfl

theorem v22_up : val_main_v22 (F := Ideal) (up2 A.h) (up2 A.wg) (up1 A.gp) = up2 fun r => gate A r := by
  funext j
  idx_vars j
  pointwise [val_main_v22, val_main_v17, val_main_v18, val_main_v19, val_main_v20, val_main_v21, val_main_cst_3, val_main_cst_4]
  rw [v16_up, up2_ix, show (1 : EReal) = ((1 : ℝ) : EReal) from rfl, ← EReal.coe_neg, Ideal.exp_coe, ← EReal.coe_add, ← zero_sub]
  exact div_pos_real _ (gate_pos A _ _)

theorem v25_up : val_main_v25 (F := Ideal) (up2 A.h) (up2 A.wg) (up1 A.gp) = up2 fun r c => gate A r c * (1 - gate A r c) := by
  funext j
  idx_vars j
  pointwise [val_main_v25, val_main_v23, val_main_v24, val_main_cst_5]
  rw [v22_up, up2_ix, show (1 : EReal) = ((1 : ℝ) : EReal) from rfl, ← EReal.coe_sub, ← EReal.coe_mul]
  rfl

theorem v26_up : val_main_v26 (F := Ideal) (up2 A.p) (up2 A.wp) = up2 fun r => e A r := by
  funext j
  idx_vars j
  pointwise [val_main_v26]
  simp only [up1_ix, up2_ix, ← EReal.coe_mul, ← EReal.coe_add, ← EReal.coe_sub, coe_sum]
  rfl

theorem v28_up : val_main_v28 (F := Ideal) (up2 A.h) (up2 A.p) (up2 A.wg) (up2 A.wp) (up1 A.gp) = up2 fun r => h3 A r := by
  funext j
  idx_vars j
  pointwise [val_main_v28, val_main_v27]
  rw [v22_up, v26_up]
  simp only [up1_ix, up2_ix, ← EReal.coe_mul, ← EReal.coe_add, ← EReal.coe_sub, coe_sum]
  rfl

theorem v35_up : val_main_v35 (F := Ideal) (up2 A.h) (up2 A.p) (up2 A.wg) (up2 A.wp) (up1 A.gp) = up2 fun r _ => msq (h3 A r) := by
  funext j
  idx_vars j
  pointwise [val_main_v35, val_main_v29, val_main_v30, val_main_v31, val_main_v32, val_main_v33, val_main_v34, val_main_cst_6, val_main_cst_7, val_main_cst_8]
  simp only [v28_up, up1_ix, up2_ix, ← EReal.coe_mul, ← EReal.coe_add, ← EReal.coe_sub, coe_sum, lit_1024, lit_eps, zero_add]
  rw [div_pos_real _ (by norm_num), ← EReal.coe_add]
  rfl

theorem v36_up : val_main_v36 (F := Ideal) (up2 A.h) (up2 A.p) (up2 A.wg) (up2 A.wp) (up1 A.gp) = up2 fun r _ => rsr (h3 A r) := by
  funext j
  idx_vars j
  pointwise [val_main_v36]
  rw [v35_up]
  exact rsqrt_real (msq_pos _)

theorem v39_up : val_main_v39 (F := Ideal) (up2 A.h) (up2 A.p) (up2 A.wg) (up2 A.wp) (up1 A.gp) = up2 fun r _ => -(1 / 2) * (rsr (h3 A r) / msq (h3 A r)) := by
  funext j
  idx_vars j
  pointwise [val_main_v39, val_main_v37, val_main_v38, val_main_cst_9]
  rw [v35_up, v36_up, up2_ix, up2_ix, lit_neg_half, div_pos_real _ (msq_pos _), ← EReal.coe_mul]
  rfl

theorem v41_up : val_main_v41 (F := Ideal) (up2 A.h) (up2 A.p) (up2 A.wg) (up2 A.wp) (up1 A.gp) = up2 fun r => nrm (h3 A r) := by
  funext j
  idx_vars j
  pointwise [val_main_v41, val_main_v40]
  rw [v28_up, v36_up]
  rfl

theorem v45_up : val_main_v45 (F := Ideal) (up2 A.h) (up2 A.p) (up2 A.t) (up2 A.wg) (up2 A.wp) (up1 A.gp) (up1 A.gf) = up2 fun r => err A r := by
  funext j
  idx_vars j
  pointwise [val_main_v45, val_main_v42, val_main_v43, val_main_v44]
  rw [v41_up]
  simp only [up1_ix, up2_ix, ← EReal.coe_mul, ← EReal.coe_add, ← EReal.coe_sub, coe_sum]
  rfl

theorem v59_up : val_main_v59 (F := Ideal) (up2 A.h) (up2 A.p) (up2 A.t) (up2 A.wg) (up2 A.wp) (up1 A.gp) (up1 A.gf) = up2 fun r => dy A r := by
  funext j
  idx_vars j
  pointwise [val_main_v59, val_main_v47, val_main_v48, val_main_v54, val_main_v55, val_main_v56, val_main_v57, val_main_v58, val_main_cst_10, val_main_cst_15, val_main_cst_16, val_main_cst_17]
  rw [v45_up, lit_1024, lit_half, lit_two, div_pos_real _ (by norm_num)]
  simp only [up1_ix, up2_ix, ← EReal.coe_mul, ← EReal.coe_add, ← EReal.coe_sub, coe_sum]
  exact congrArg (fun x : ℝ => (x : EReal)) (by unfold dy; ring)

theorem v64_up : val_main_v64 (F := Ideal) (up2 A.h) (up2 A.p) (up2 A.t) (up2 A.wg) (up2 A.wp) (up1 A.gp) (up1 A.gf) = up2 fun r => dn A r := by
  funext j
  idx_vars j
  pointwise [val_main_v64, val_main_v42, val_main_v63]
  rw [v59_up]
  rfl

theorem v73_up : val_main_v73 (F := Ideal) (up2 A.h) (up2 A.p) (up2 A.t) (up2 A.wg) (up2 A.wp) (up1 A.gp) (up1 A.gf) = up2 fun r _ => (∑ j, h3 A r j * dn A r j) * (-(1 / 2) * (rsr (h3 A r) / msq (h3 A r))) / 1024 := by
  funext j
  idx_vars j
  pointwise [val_main_v73, val_main_v66, val_main_v67, val_main_v68, val_main_v71, val_main_v72, val_main_cst_20, val_main_cst_21]
  simp only [v28_up, v64_up, v39_up, up1_ix, up2_ix, ← EReal.coe_mul, ← EReal.coe_add, ← EReal.coe_sub, coe_sum, lit_1024, zero_add]
  exact div_pos_real _ (by norm_num)

theorem v79_up : val_main_v79 (F := Ideal) (up2 A.h) (up2 A.p) (up2 A.t) (up2 A.wg) (up2 A.wp) (up1 A.gp) (up1 A.gf) = up2 fun r => dh3 A r := by
  funext j
  idx_vars j
  pointwise [val_main_v79, val_main_v69, val_main_v70, val_main_v74, val_main_v75, val_main_v76, val_main_v77, val_main_v78, val_main_cst_22]
  rw [v28_up, v36_up, v64_up, v73_up]
  simp only [up1_ix, up2_ix, ← EReal.coe_mul, ← EReal.coe_add, ← EReal.coe_sub, coe_sum, zero_add, Fin.sum_univ_one]
  exact congrArg (fun x : ℝ => (x : EReal)) (by unfold dh3; rw [nrmBwd_eq]; ring)

theorem v80_up : val_main_v80 (F := Ideal) (up2 A.h) (up2 A.p) (up2 A.t) (up2 A.wg) (up2 A.wp) (up1 A.gp) (up1 A.gf) = up2 fun r => de A r := by
  funext j
  idx_vars j
  pointwise [val_main_v80]
  rw [v22_up, v79_up]
  simp only [up1_ix, up2_ix, ← EReal.coe_mul, ← EReal.coe_add, ← EReal.coe_sub, coe_sum]
  exact congrArg (fun x : ℝ => (x : EReal)) (mul_comm _ _)

theorem v84_up : val_main_v84 (F := Ideal) (up2 A.h) (up2 A.p) (up2 A.t) (up2 A.wg) (up2 A.wp) (up1 A.gp) (up1 A.gf) = up2 fun r => dz A r := by
  funext j
  idx_vars j
  pointwise [val_main_v84, val_main_v81]
  rw [v25_up, v26_up, v79_up]
  simp only [up1_ix, up2_ix, ← EReal.coe_mul, ← EReal.coe_add, ← EReal.coe_sub, coe_sum]
  exact congrArg (fun x : ℝ => (x : EReal)) (by unfold dz; ring)

theorem v87_up : val_main_v87 (F := Ideal) (up2 A.h) (up2 A.p) (up2 A.t) (up2 A.wg) (up2 A.wp) (up1 A.gp) (up1 A.gf) = up2 fun r => du A r := by
  funext j
  idx_vars j
  pointwise [val_main_v87]
  simp only [v84_up, up1_ix, up2_ix, ← EReal.coe_mul, ← EReal.coe_add, ← EReal.coe_sub, coe_sum]
  rfl

theorem v92_up : val_main_v92 (F := Ideal) (up2 A.h) (up2 A.p) (up2 A.t) (up2 A.wg) (up2 A.wp) (up1 A.gp) (up1 A.gf) = up2 fun r k => du A r k * A.gp k := by
  funext j
  idx_vars j
  pointwise [val_main_v92, val_main_v13, val_main_v91]
  rw [v87_up]
  rfl

theorem v102_up : val_main_v102 (F := Ideal) (up2 A.h) (up2 A.p) (up2 A.t) (up2 A.wg) (up2 A.wp) (up1 A.gp) (up1 A.gf) = up2 fun r _ => (∑ j, A.h r j * (du A r j * A.gp j)) * (-(1 / 2) * (rsr (A.h r) / msq (A.h r))) / 1024 := by
  funext j
  idx_vars j
  pointwise [val_main_v102, val_main_v94, val_main_v95, val_main_v96, val_main_v100, val_main_v101, val_main_cst_25, val_main_cst_26]
  simp only [v92_up, v10_up, up1_ix, up2_ix, ← EReal.coe_mul, ← EReal.coe_add, ← EReal.coe_sub, coe_sum, lit_1024, zero_add]
  exact div_pos_real _ (by norm_num)

theorem v108_up : val_main_v108 (F := Ideal) (up2 A.h) (up2 A.p) (up2 A.t) (up2 A.wg) (up2 A.wp) (up1 A.gp) (up1 A.gf) = up2 fun r => dh A r := by
  funext j
  idx_vars j
  pointwise [val_main_v108, val_main_v97, val_main_v98, val_main_v99, val_main_v103, val_main_v104, val_main_v105, val_main_v106, val_main_v107, val_main_cst_27]
  rw [v7_up, v79_up, v92_up, v102_up]
  simp only [up1_ix, up2_ix, ← EReal.coe_mul, ← EReal.coe_add, ← EReal.coe_sub, coe_sum, zero_add, Fin.sum_univ_one]
  exact congrArg (fun x : ℝ => (x : EReal)) (by unfold dh; rw [nrmBwd_eq (A.h _)]; ring)

theorem v109_up : val_main_v109 (F := Ideal) (up2 A.h) (up2 A.p) (up2 A.t) (up2 A.wg) (up2 A.wp) (up1 A.gp) (up1 A.gf) = up2 fun k b => ∑ r, addG A r k b := by
  funext j
  idx_vars j
  pointwise [val_main_v109, val_main_v86, val_main_v85]
  simp only [v84_up, v15_up, up1_ix, up2_ix, ← EReal.coe_mul, ← EReal.coe_add, ← EReal.coe_sub, coe_sum]
  exact congrArg (fun x : ℝ => (x : EReal)) (Finset.sum_congr rfl fun r _ => mul_comm _ _)

theorem v112_up : val_main_v112 (F := Ideal) (up2 A.h) (up2 A.p) (up2 A.t) (up2 A.wg) (up2 A.wp) (up1 A.gp) (up1 A.gf) = up3 fun j k b => ∑ r, addP A r k (col j b) := by
  funext j
  idx_vars j
  pointwise [val_main_v112, val_main_v111, val_main_v110, val_main_v83, val_main_v82]
  simp only [v80_up, up1_ix, up2_ix, ← EReal.coe_mul, ← EReal.coe_add, ← EReal.coe_sub, coe_sum]
  exact congrArg (fun x : ℝ => (x : EReal)) (Finset.sum_congr rfl fun r _ => (mul_comm _ _).trans (congrArg (addP A r j1)
    (Fin.ext (by show j0.val * 128 + j2.val = 128 * j0.val + j2.val; omega))))

theorem v113_up : val_main_v113 (F := Ideal) (up2 A.h) (up2 A.p) (up2 A.t) (up2 A.wg) (up2 A.wp) (up1 A.gp) (up1 A.gf) = up2 fun _ k => ∑ r, addGp A r k := by
  funext j
  idx_vars j
  pointwise [val_main_v113, val_main_v93, val_main_v90, val_main_v89, val_main_v88, val_main_cst_23, val_main_cst_24]
  simp only [v12_up, v87_up, up1_ix, up2_ix, ← EReal.coe_mul, ← EReal.coe_add, ← EReal.coe_sub, coe_sum, zero_add, Fin.sum_univ_one]
  exact congrArg (fun x : ℝ => (x : EReal)) (Finset.sum_congr rfl fun r _ => mul_comm _ _)

theorem v114_up : val_main_v114 (F := Ideal) (up2 A.h) (up2 A.p) (up2 A.t) (up2 A.wg) (up2 A.wp) (up1 A.gp) (up1 A.gf) = up2 fun _ k => ∑ r, addGf A r k := by
  funext j
  idx_vars j
  pointwise [val_main_v114, val_main_v65, val_main_v62, val_main_v61, val_main_v60, val_main_cst_18, val_main_cst_19]
  simp only [v41_up, v59_up, up1_ix, up2_ix, ← EReal.coe_mul, ← EReal.coe_add, ← EReal.coe_sub, coe_sum, zero_add, Fin.sum_univ_one]
  exact congrArg (fun x : ℝ => (x : EReal)) (Finset.sum_congr rfl fun r _ => mul_comm _ _)

theorem v115_up : val_main_v115 (F := Ideal) (up2 A.h) (up2 A.p) (up2 A.t) (up2 A.wg) (up2 A.wp) (up1 A.gp) (up1 A.gf) = up2 fun _ _ => ∑ r, addL A r := by
  funext j
  idx_vars j
  pointwise [val_main_v115, val_main_v53, val_main_v52, val_main_v51, val_main_v50, val_main_v49, val_main_v46, val_main_cst_11, val_main_cst_12, val_main_cst_13, val_main_cst_14]
  simp only [v45_up, up1_ix, up2_ix, ← EReal.coe_mul, ← EReal.coe_add, ← EReal.coe_sub, coe_sum, lit_1024, lit_half, zero_add]
  rw [Finset.sum_congr rfl fun r _ => div_pos_real (∑ k, err A r k * err A r k) (show (0 : ℝ) < 1024 by norm_num), coe_sum, ← EReal.coe_mul]
  exact congrArg (fun x : ℝ => (x : EReal)) ((Finset.mul_sum _ _ _).trans (Finset.sum_congr rfl fun r _ => by unfold addL; ring))

end Step.PleRow

end
-- ==== Proof.Finite.lean ====
/- Reading a precondition: an array all of whose entries lie below infinity in absolute value is an array of reals. -/
module

public import proofs.«01_k».proof.Proof.Real

@[expose] public section

noncomputable section

namespace Step

open Idealize.ShloMosaic

theorem lit_inf : Ideal.ofBits .f32 0x7F800000#32 = (⊤ : EReal) := by
  simp [Ideal.ofBits, Ideal.ieee]

/-- An extended real that lies below infinity in absolute value is real. -/
theorem real_of_abs {x : EReal} (h : Ideal.cmp .olt (max x (-x)) (Ideal.ofBits .f32 0x7F800000#32) = 1#1) : ∃ r : ℝ, x = r := by
  rw [lit_inf] at h
  induction x with
  | bot => exact absurd h (by simp [Ideal.cmp])
  | coe r => exact ⟨r, rfl⟩
  | top => exact absurd h (by simp [Ideal.cmp])

end Step

end
-- ==== Proof.PleClaim.lean ====
/- The claims about the step's last part: the gated embedding, the last norm, the loss, and their gradient. -/
module

public import proofs.«01_k».proof.Proof.PleValue
public import proofs.«01_k».proof.Proof.PleRef
public import proofs.«01_k».proof.Proof.Finite
public import proofs.«01_k».proof.Proof.Gen.Pre_finite
public import proofs.«01_k».proof.Proof.Gen.PleRefIdeal.Run
public import proofs.«01_k».proof.Defs

@[expose] public section

noncomputable section

namespace Step.PleRow

open Idealize.ShloMosaic Idealize.ShloMosaic.TcCoe Idealize.SL.Sem Step

/-- Arguments that are finite are arrays of reals. -/
theorem holds_of_finite (m : (ℓ : Loc Cert.PleIdeal.nD Cert.PleIdeal.τ Cert.PleIdeal.sig) → Buf (Elt Ideal) ℓ)
    (h : Cert.Pre_PleIdeal_finite (hPre_finite := Cert.Pre_finite.Gen.facts) m) (c : Dev Cert.PleIdeal.nD) : ∃ A : Args, Holds A m c := by
  obtain ⟨h0, h1, h2, h3, h4, h5, h6⟩ := h c
  obtain ⟨f0, e0⟩ := exists_up2 _ fun j => real_of_abs (congrFun h0 j)
  obtain ⟨f1, e1⟩ := exists_up2 _ fun j => real_of_abs (congrFun h1 j)
  obtain ⟨f2, e2⟩ := exists_up2 _ fun j => real_of_abs (congrFun h2 j)
  obtain ⟨f3, e3⟩ := exists_up2 _ fun j => real_of_abs (congrFun h3 j)
  obtain ⟨f4, e4⟩ := exists_up2 _ fun j => real_of_abs (congrFun h4 j)
  obtain ⟨f5, e5⟩ := exists_up1 _ fun j => real_of_abs (congrFun h5 j)
  obtain ⟨f6, e6⟩ := exists_up1 _ fun j => real_of_abs (congrFun h6 j)
  exact ⟨⟨f0, f1, f2, f3, f4, f5, f6⟩, ⟨e0, e1, e2, e3, e4, e5, e6⟩⟩

theorem frame_ref : Cert.quiescent_PleRefIdeal (hPleRefIdeal := Cert.PleRefIdeal.Gen.facts) := fun m ρ _ =>
  (θ_run (Cert.PleRefIdeal.defs (F := Ideal)) _ _).mono
    (fun r h => ⟨fun c => (h c).2.2.2.2.2.2, sem_eq_zero_of_no_sems (by decide) r.2⟩) (Cert.PleRefIdeal.Value.run m ρ)

theorem algebraic : Cert.algebraic_PleIdeal_PleRefIdeal_pre_finite (hPleIdeal := Cert.PleIdeal.Gen.facts)
    (hPleRefIdeal := Cert.PleRefIdeal.Gen.facts) (hPre_finite := Cert.Pre_finite.Gen.facts) := by
  intro m ρ m' ρ' hpre hag
  refine ⟨fun c => Cert.PleIdeal.Value.G7 m c, fun c => Cert.PleIdeal.Value.G8 m c, fun c => Cert.PleIdeal.Value.G9 m c,
    fun c => Cert.PleIdeal.Value.G10 m c, fun c => Cert.PleIdeal.Value.G11 m c, fun c => Cert.PleIdeal.Value.G12 m c,
    Cert.PleIdeal.Value.run m ρ, (θ_run _ _ _).mono (fun r h c => ?_) (Cert.PleRefIdeal.Value.run m' ρ')⟩
  obtain ⟨A, H⟩ := holds_of_finite m hpre c
  obtain ⟨a0, a1, a2, a3, a4, a5, a6⟩ := hag c
  obtain ⟨r0, r1, r2, r3, r4, r5, kept⟩ := h c
  have b0 := a0.trans H.h
  have b1 := a1.trans H.p
  have b2 := a2.trans H.tg
  have b3 := a3.trans H.wg
  have b4 := a4.trans H.wp
  have b5 := a5.trans H.gp
  have b6 := a6.trans H.gf
  refine ⟨(r0.trans (Cert.PleRefIdeal.Read.val_main_v108_eq _)).trans ?_, (r1.trans (Cert.PleRefIdeal.Read.val_main_v109_eq _)).trans ?_,
    (r2.trans (Cert.PleRefIdeal.Read.val_main_v112_eq _)).trans ?_, (r3.trans (Cert.PleRefIdeal.Read.val_main_v113_eq _)).trans ?_,
    (r4.trans (Cert.PleRefIdeal.Read.val_main_v114_eq _)).trans ?_, (r5.trans (Cert.PleRefIdeal.Read.val_main_v115_eq _)).trans ?_, kept⟩
  all_goals
    first
      | refine Eq.trans ?_ ((v108_up A).trans (G7_eq H).symm)
      | refine Eq.trans ?_ ((v109_up A).trans (G8_eq H).symm)
      | refine Eq.trans ?_ ((v112_up A).trans (G9_eq H).symm)
      | refine Eq.trans ?_ ((v113_up A).trans (G10_eq H).symm)
      | refine Eq.trans ?_ ((v114_up A).trans (G11_eq H).symm)
      | refine Eq.trans ?_ ((v115_up A).trans (G12_eq H).symm)
    exact congr (congr (congr (congr (congr (congr (congrArg _ b0) b1) b2) b3) b4) b5) b6

end Step.PleRow

end
-- ==== Proof.MlpSpec.lean ====
/- The squared-relu layer on one row of 1024 reals, and its derivative. -/
module

public import proofs.«01_k».proof.Proof.Norm
public import proofs.«01_k».proof.Proof.Blocks

@[expose] public section

set_option maxRecDepth 16384

noncomputable section

namespace Step.MlpRow

open Idealize.ShloMosaic Step

/-- What the layer reads: the residual rows, the two weights, the norm's weight, and the cotangent of the output rows. -/
structure Args where
  h : Fin 4096 → Fin 1024 → ℝ
  wu : Fin 1024 → Fin 4096 → ℝ
  wd : Fin 4096 → Fin 1024 → ℝ
  g : Fin 1024 → ℝ
  d : Fin 4096 → Fin 1024 → ℝ

variable (A : Args) (r : Fin 4096)

/-- The layer's input. -/
def u (k : Fin 1024) : ℝ := nrm (A.h r) k * A.g k
/-- The row before the squared relu. -/
def a (f : Fin 4096) : ℝ := ∑ k, u A r k * A.wu k f
/-- The cotangent of the row after the squared relu. -/
def db (f : Fin 4096) : ℝ := ∑ c, A.d r c * A.wd f c
/-- The cotangent of the row before the squared relu. -/
def da (f : Fin 4096) : ℝ := db A r f * (2 * max (a A r f) 0)
/-- What position `f` of that row adds to the cotangent of the layer's input. -/
def addU (k : Fin 1024) (f : Fin 4096) : ℝ := da A r f * A.wu k f
/-- The cotangent of the layer's input. -/
def du (k : Fin 1024) : ℝ := ∑ f, addU A r k f
/-- The cotangent of the residual row. -/
def dh (k : Fin 1024) : ℝ := A.d r k + nrmBwd (A.h r) (fun j => du A r j * A.g j) k
/-- What row `r` adds to the cotangent of the norm's weight. -/
def addG (k : Fin 1024) (r : Fin 4096) : ℝ := du A r k * nrm (A.h r) k

end Step.MlpRow

end
-- ==== Proof.MlpKernel.lean ====
/- What the squared-relu layer's kernel computes at one block of rows, over the reals. -/
module

public import proofs.«01_k».proof.Proof.MlpSpec
public import proofs.«01_k».proof.Proof.Gen.MlpIdeal.Value
public import Idealize.ShloMosaic.Lib.Pipeline.ValueKit

@[expose] public section

set_option maxRecDepth 16384

noncomputable section

namespace Step.MlpRow

open Idealize.ShloMosaic Step Cert.MlpIdeal Cert.MlpIdeal.Gen

variable (A : Args) (row : Fin 512 → Fin 4096)

/-- Position `i` of the first, and of the second, half of block `n`. -/
def lo (n : ℕ) (i : Fin 256) : Fin 4096 := rowAt n ⟨i.val, by omega⟩
def hi (n : ℕ) (i : Fin 256) : Fin 4096 := rowAt n ⟨256 + i.val, by omega⟩

/-- The halves of block `n` of the second weight, and block `n` of the first. -/
def wdLo (n : ℕ) : (⟨3, ![1, 256, 1024]⟩ : Shape).Idx → EReal := up3 fun _ i c => A.wd (lo n i) c
def wdHi (n : ℕ) : (⟨3, ![1, 256, 1024]⟩ : Shape).Idx → EReal := up3 fun _ i c => A.wd (hi n i) c
def wuBlk (n : ℕ) : (⟨3, ![1, 1024, 512]⟩ : Shape).Idx → EReal := up3 fun _ k f => A.wu k (rowAt n f)
/-- The rows' columns of block `n` before the squared relu. -/
def aBlk (n : ℕ) : (⟨2, ![512, 512]⟩ : Shape).Idx → EReal := up2 fun r f => a A (row r) (rowAt n f)
/-- The cotangent of those. -/
def daBlk (n : ℕ) : (⟨2, ![512, 512]⟩ : Shape).Idx → EReal := up2 fun r f => da A (row r) (rowAt n f)
/-- The rows of the cotangent of the output. -/
def dRow : (⟨2, ![512, 1024]⟩ : Shape).Idx → EReal := up2 fun r => A.d (row r)
/-- The cotangent of the layer's input, summed over blocks `0 … n`. -/
def duTo (n : ℕ) : (⟨2, ![512, 1024]⟩ : Shape).Idx → EReal := up2 fun r k => total (addU A (row r) k) n
def duRow : (⟨2, ![512, 1024]⟩ : Shape).Idx → EReal := up2 fun r k => du A (row r) k

theorem lit_two_bf : Ideal.ofBits .bf16 0x4000#16 = ((2 : ℝ) : EReal) := by
  simp [Ideal.ofBits, Ideal.ieee, -EReal.coe_mul]; norm_num

/-- One block of the cotangent before the squared relu. -/
theorem pay11_up (n : ℕ) : k0_pay11 (F := Ideal) (dRow A row) (wdLo A n) (wdHi A n) (aBlk A row n) = daBlk A row n := by
  funext j
  idx_vars j
  pointwise [k0_pay11]
  simp only [dRow, wdLo, wdHi, aBlk, up2_ix, up3_ix, ← EReal.coe_mul, coe_sum, lit_two_bf]
  have key : ∀ f : Fin 4096, f = rowAt n j1 → ((∑ c, A.d (row j0) c * A.wd f c : ℝ) : EReal) * (((2 : ℝ) : EReal) * max ((a A (row j0) (rowAt n j1) : ℝ) : EReal) 0)
      = daBlk A row n (ix2 j0 j1) := fun f hf => by
    rw [hf, show (0 : EReal) = ((0 : ℝ) : EReal) from rfl, ← EReal.coe_strictMono.monotone.map_max, ← EReal.coe_mul, ← EReal.coe_mul]; rfl
  repeat' split
  all_goals exact key _ (congrArg (rowAt n) (Fin.ext (by first | rfl | (simp; omega))))

/-- One block of columns added to the cotangent of the layer's input. -/
def duStep (acc : FVec Ideal S512x1024 .f32) (d : FVec Ideal S512x512 .bf16) (w : FVec Ideal S1x1024x512 .bf16) : FVec Ideal S512x1024 .f32 :=
  addf acc (matmul dot_S512x512_S1024x512_S512x1024_1_1_0_0_n_n none d (shapeCast S1024x512 w shapeCasts_S1x1024x512_S1024x512) (constant S512x1024 .f32 0x00000000#32))

theorem duStep_apply (acc : FVec Ideal S512x1024 .f32) (n : ℕ) : duStep acc (daBlk A row n) (wuBlk A n)
    = fun j => acc j + up2 (fun r k => ∑ f, addU A (row r) k (rowAt n f)) j := by
  funext j
  idx_vars j
  pointwise [duStep]
  simp only [daBlk, wuBlk, up2_ix, up3_ix, ← EReal.coe_mul, coe_sum]
  rfl

theorem duStep_up (n : ℕ) : duStep (duTo A row n) (daBlk A row (n + 1)) (wuBlk A (n + 1)) = duTo A row (n + 1) :=
  (duStep_apply A row _ _).trans (up2_succ (fun r k => addU A (row r) k) n)

/-- The first half of a block's product, which enters on its own in some blocks. -/
def half (v : FVec Ideal S512x1024 .bf16) (w : FVec Ideal S1x256x1024 .bf16) : FVec Ideal S512x256 .f32 :=
  matmul dot_S512x1024_S256x1024_S512x256_1_1_0_0_n_n none v (shapeCast S256x1024 w shapeCasts_S1x256x1024_S256x1024) (constant S512x256 .f32 0x00000000#32)

section Same

/-! The kernel writes its eight blocks out one by one; each is the fourth block's formula, and each sum one `duStep`. -/

variable (v : FVec Ideal S512x1024 .bf16) (v3 acc : FVec Ideal S512x1024 .f32) (l h l' h' : FVec Ideal S1x256x1024 .bf16) (x x' : FVec Ideal S512x512 .bf16)
  (d : FVec Ideal S512x512 .f32) (w w' : FVec Ideal S1x1024x512 .bf16)

theorem pay3_eq : k0_pay3 (F := Ideal) v3 = v3 := rfl
theorem pay4_eq : k0_pay4 (F := Ideal) v3 l h x = k0_pay11 v3 l h x := rfl
theorem pay5_eq : k0_pay5 (F := Ideal) v3 l h x w = duStep (broadcast S512x1024 (Scalar.ofBits .f32 0x00000000#32)) (k0_pay11 v3 l h x) w := rfl
theorem pay6_eq : k0_pay6 (F := Ideal) v3 l = half v3 l := rfl
theorem pay7_eq : k0_pay7 (F := Ideal) v (half v l) h x = k0_pay11 v l h x := rfl
theorem pay8_eq : k0_pay8 (F := Ideal) v acc (half v l) h x w = duStep acc (k0_pay11 v l h x) w := rfl
theorem pay9_eq : k0_pay9 (F := Ideal) v l h x = k0_pay11 v l h x := rfl
theorem pay10_eq : k0_pay10 (F := Ideal) d = d := rfl
theorem pay12_eq : k0_pay12 (F := Ideal) v acc d w l h x w' = duStep (duStep acc d w) (k0_pay11 v l h x) w' := rfl
theorem pay13_eq : k0_pay13 (F := Ideal) v l = half v l := rfl
theorem pay14_eq : k0_pay14 (F := Ideal) v (half v l) h x = k0_pay11 v l h x := rfl
theorem pay15_eq : k0_pay15 (F := Ideal) v acc (half v l) h x w = duStep acc (k0_pay11 v l h x) w := rfl
theorem pay16_eq : k0_pay16 (F := Ideal) v l h x = k0_pay11 v l h x := rfl
theorem pay17_eq : k0_pay17 (F := Ideal) d = d := rfl
theorem pay18_eq : k0_pay18 (F := Ideal) v l h x = k0_pay11 v l h x := rfl
theorem pay19_eq : k0_pay19 (F := Ideal) v acc d w l h x w' = duStep (duStep acc d w) (k0_pay11 v l h x) w' := rfl
theorem pay20_eq : k0_pay20 (F := Ideal) v l = half v l := rfl
theorem pay21_eq : k0_pay21 (F := Ideal) v (half v l) h x = k0_pay11 v l h x := rfl
theorem pay22_eq : k0_pay22 (F := Ideal) v acc (half v l) h x w = duStep acc (k0_pay11 v l h x) w := rfl

end Same

theorem duStep_zero : duStep (broadcast S512x1024 (Scalar.ofBits .f32 0x00000000#32)) (daBlk A row 0) (wuBlk A 0) = duTo A row 0 := by
  rw [duStep_apply]
  simp only [duTo, total_zero]
  funext j
  have h : Ideal.ofBits .f32 0x00000000#32 = 0 := by simp [Ideal.ofBits, Ideal.ieee]
  exact (congrArg (· + _) h).trans (zero_add _)

theorem duTo_last : duTo A row 7 = duRow A row := congrArg up2 (funext₂ fun _ _ => total_last _)

theorem pay23_up : k0_pay23 (F := Ideal) (up2 fun r => A.h (row r)) = up2 fun r _ => rsr (A.h (row r)) := by
  funext j
  idx_vars j
  pointwise [k0_pay23]
  simp only [up2_ix, ← EReal.coe_mul, coe_sum, lit_1024, lit_eps]
  rw [div_pos_real _ (by norm_num), ← EReal.coe_add]
  exact rsqrt_real (msq_pos _)

theorem pay24_up : k0_pay24 (F := Ideal) (up2 fun r => A.h (row r)) = up2 fun r => nrm (A.h (row r)) := by
  funext j
  idx_vars j
  pointwise [k0_pay24]
  rw [pay23_up]
  rfl

/-- One block of rows added to the cotangent of the norm's weight. -/
def gStep (acc : FVec Ideal S1x1024 .f32) (du n : FVec Ideal S512x1024 .f32) : FVec Ideal S1x1024 .f32 :=
  addf (shapeCast S1x1024 acc shapeCasts_S1x1024_S1x1024)
    (shapeCast S1x1024 (multiReduction .add [0] S1024 (mulf du n) 0x00000000#32 reduces_S512x1024_S1024 (.inl rfl) rfl) shapeCasts_S1024_S1x1024)

theorem pay25_eq (v : FVec Ideal S512x1024 .bf16) (acc : FVec Ideal S512x1024 .f32) (l h : FVec Ideal S1x256x1024 .bf16) (x : FVec Ideal S512x512 .bf16)
    (w : FVec Ideal S1x1024x512 .bf16) (y : FVec Ideal S512x1024 .f32) (v0 : FVec Ideal S1x1024 .f32) :
    k0_pay25 (F := Ideal) v acc (half v l) h x w y v0 = gStep v0 (duStep acc (k0_pay11 v l h x) w) (k0_pay24 y) := rfl

theorem gStep_up (v : FVec Ideal S1x1024 .f32) : gStep v (duRow A row) (up2 fun r => nrm (A.h (row r)))
    = fun j => v j + up2 (fun (_ : Fin 1) k => ∑ r, addG A k (row r)) j := by
  funext j
  idx_vars j
  pointwise [gStep]
  simp only [duRow, up2_ix, ← EReal.coe_mul, coe_sum]
  rfl

theorem pay1_up : k0_pay1 (F := Ideal) (dRow A row) (duRow A row) (up2 fun r _ => rsr (A.h (row r))) (up2 fun r => nrm (A.h (row r))) (up2 fun _ => A.g)
    = up2 fun r => dh A (row r) := by
  funext j
  idx_vars j
  pointwise [k0_pay1]
  simp only [dRow, duRow, up2_ix, ← EReal.coe_mul, coe_sum, lit_1024]
  rw [div_pos_real _ (by norm_num)]
  rfl

end Step.MlpRow

end
-- ==== Proof.MlpStep.lean ====
/- What the squared-relu layer's kernel leaves at each grid point, over the reals. -/
module

public import proofs.«01_k».proof.Proof.MlpKernel
public import Idealize.ShloMosaic.Lib.Pipeline.ReadBack

@[expose] public section

set_option maxRecDepth 16384

noncomputable section

namespace Step.MlpRow

open Idealize.ShloMosaic Step Cert.MlpIdeal Cert.MlpIdeal.Gen Cert.MlpIdeal.Value

variable (A : Args) (row : Fin 512 → Fin 4096) (m : (ℓ : Loc nD τ sig) → Buf (Elt Ideal) ℓ) (c : Dev nD)

/-- The blocks that the body reads at a grid point are the rows `row` of `A`'s arrays, and `A`'s weights. -/
structure Reads (t : Fin cfg0.N) : Prop where
  d : (iblk m c 0 t : Vec Ideal S512x1024 .f32) = dRow A row
  a : (iblk m c 1 t : Vec Ideal S512x4096 .bf16) = up2 fun r => a A (row r)
  h : (iblk m c 2 t : Vec Ideal S512x1024 .f32) = up2 fun r => A.h (row r)
  g : (iblk m c 3 t : Vec Ideal S1x1024 .f32) = up2 fun _ => A.g
  wu : (iblk m c 4 t : Vec Ideal S8x1024x512 .bf16) = up3 fun n k f => A.wu k (rowAt n.val f)
  lo : (iblk m c 5 t : Vec Ideal S8x256x1024 .bf16) = up3 fun n i k => A.wd (lo n.val i) k
  hi : (iblk m c 6 t : Vec Ideal S8x256x1024 .bf16) = up3 fun n i k => A.wd (hi n.val i) k

/-- A load of one block of a weight, and of one block of columns. -/
theorem ld_wu (n : ℕ) (inb) :
    View.ld (Val := Elt Ideal) (S := S8x1024x512) (e' := .bf16) (up3 fun n k f => A.wu k (rowAt n.val f)) (Rect.unit (s := S8x1024x512) ![n, 0, 0] ![1, 1024, 512] inb) = wuBlk A n := by
  funext x
  idx_vars x
  pointwise [wuBlk]
  simp only [up3_ix]
theorem ld_lo (n : ℕ) (inb) :
    View.ld (Val := Elt Ideal) (S := S8x256x1024) (e' := .bf16) (up3 fun n i k => A.wd (lo n.val i) k) (Rect.unit (s := S8x256x1024) ![n, 0, 0] ![1, 256, 1024] inb) = wdLo A n := by
  funext x
  idx_vars x
  pointwise [wdLo]
  simp only [up3_ix]
theorem ld_hi (n : ℕ) (inb) :
    View.ld (Val := Elt Ideal) (S := S8x256x1024) (e' := .bf16) (up3 fun n i k => A.wd (hi n.val i) k) (Rect.unit (s := S8x256x1024) ![n, 0, 0] ![1, 256, 1024] inb) = wdHi A n := by
  funext x
  idx_vars x
  pointwise [wdHi]
  simp only [up3_ix]
theorem ld_a (n : ℕ) (off : Fin 2 → Nat) (inb) (hoff : off = ![0, 512 * n]) :
    View.ld (Val := Elt Ideal) (S := S512x4096) (e' := .bf16) (up2 fun r => a A (row r)) (Rect.unit (s := S512x4096) off ![512, 512] inb) = aBlk A row n := by
  subst hoff
  funext x
  idx_vars x
  have h : 512 * n + 512 ≤ 4096 := inb 1
  pointwise [aBlk]
  simp only [up2_ix]
  exact congrArg (fun f => ((a A (row x0) f : ℝ) : EReal)) (Fin.ext (by show 512 * n + x1.val = (512 * n + x1.val) % 4096; omega))

/-- The eight blocks of columns, one after the other, are the rows. -/
theorem canon_da (y : S512x4096.Idx) : View.canon (Val := Elt Ideal) (s := S512x4096) (e := .bf16)
      [⟨Rect.unit ![0, 3584] ![512, 512] inb_S512x4096_S512x512_0_3584, daBlk A row 7⟩,
        ⟨Rect.unit ![0, 3072] ![512, 512] inb_S512x4096_S512x512_0_3072, daBlk A row 6⟩,
        ⟨Rect.unit ![0, 2560] ![512, 512] inb_S512x4096_S512x512_0_2560, daBlk A row 5⟩,
        ⟨Rect.unit ![0, 2048] ![512, 512] inb_S512x4096_S512x512_0_2048, daBlk A row 4⟩,
        ⟨Rect.unit ![0, 1536] ![512, 512] inb_S512x4096_S512x512_0_1536, daBlk A row 3⟩,
        ⟨Rect.unit ![0, 1024] ![512, 512] inb_S512x4096_S512x512_0_1024, daBlk A row 2⟩,
        ⟨Rect.unit ![0, 512] ![512, 512] inb_S512x4096_S512x512_0_512, daBlk A row 1⟩,
        ⟨Rect.unit ![0, 0] ![512, 512] inb_S512x4096_S512x512_0_0, daBlk A row 0⟩] y = up2 (fun r => da A (row r)) y := by
  have key : ∀ (r : Fin 512) (f : Fin 4096), r = y 0 → f = y 1 → ((da A (row r) f : ℝ) : EReal) = up2 (fun r => da A (row r)) y := by
    rintro _ _ rfl rfl; rfl
  canon_tiles y h
  all_goals exact key _ _ (Fin.ext (by simp only [*])) (Fin.ext (by simp only [*, rowAt]; omega))

/-- What point `t` leaves: its rows of the two row results, and its rows' sum added to what the point before left. -/
theorem step (t : Fin cfg0.N) (H : Reads A row m c t) :
    (outsAt0 m c t.val t.isLt).1 = up2 (fun r => da A (row r))
    ∧ (outsAt0 m c t.val t.isLt).2.1 = up2 (fun r => dh A (row r))
    ∧ (outsAt0 m c t.val t.isLt).2.2 = fun j => (show EReal from (if t.val % 8 = 0 then k0_pay2 (F := Ideal) else (outsAt0 m c (t.val - 1) (Nat.lt_of_le_of_lt (Nat.sub_le _ _) t.isLt)).2.2) j)
      + up2 (fun (_ : Fin 1) k => ∑ r, addG A k (row r)) j := by
  by_cases h0 : t.val % 8 = 0
  all_goals
    first
      | rw [outsAt0_A m c t h0, if_pos h0]
      | rw [outsAt0_B m c t h0, if_neg h0]
    dsimp only
    refine ⟨?_, ?_, ?_⟩ <;> frame_out
  all_goals
    simp only [H.d, H.a, H.h, H.g, H.wu, H.lo, H.hi, ld_wu, ld_lo, ld_hi]
    rw [ld_a A row 0 ![0, 0] _ rfl, ld_a A row 1 ![0, 512] _ rfl, ld_a A row 2 ![0, 1024] _ rfl, ld_a A row 3 ![0, 1536] _ rfl,
      ld_a A row 4 ![0, 2048] _ rfl, ld_a A row 5 ![0, 2560] _ rfl, ld_a A row 6 ![0, 3072] _ rfl, ld_a A row 7 ![0, 3584] _ rfl]
    simp only [pay3_eq, pay4_eq, pay5_eq, pay6_eq, pay7_eq, pay8_eq, pay9_eq, pay10_eq, pay12_eq, pay13_eq, pay14_eq, pay15_eq, pay16_eq, pay17_eq,
      pay18_eq, pay19_eq, pay20_eq, pay21_eq, pay22_eq, pay23_up, pay24_up, pay25_eq, pay11_up, duStep_zero, duStep_up A row 0, duStep_up A row 1, duStep_up A row 2,
      duStep_up A row 3, duStep_up A row 4, duStep_up A row 5, duStep_up A row 6, Nat.reduceAdd, duTo_last, gStep_up]
    first
      | exact funext fun y => canon_da A row y
      | exact pay1_up A row
      | skip

end Step.MlpRow

end
-- ==== Proof.MlpRead.lean ====
/- The blocks that the squared-relu layer's kernel reads at a grid point, as rows of the arguments. -/
module

public import proofs.«01_k».proof.Proof.MlpStep

@[expose] public section

set_option maxRecDepth 16384

noncomputable section

namespace Step.MlpRow

open Idealize.ShloMosaic Idealize.ShloMosaic.TcCoe Idealize.SL.Sem Step Cert.MlpIdeal Cert.MlpIdeal.Gen Cert.MlpIdeal.Value

variable (A : Args) (m : (ℓ : Loc nD τ sig) → Buf (Elt Ideal) ℓ) (c : Dev nD)

/-- The program's arguments hold `A`'s arrays. -/
structure Holds : Prop where
  h : (m ((c : Thread nD τ).loc main_arg0) : S4096x1024.Idx → EReal) = up2 A.h
  wu : (m ((c : Thread nD τ).loc main_arg1) : S1024x4096.Idx → EReal) = up2 A.wu
  wd : (m ((c : Thread nD τ).loc main_arg2) : S4096x1024.Idx → EReal) = up2 A.wd
  g : (m ((c : Thread nD τ).loc main_arg3) : S1024.Idx → EReal) = up1 A.g
  d : (m ((c : Thread nD τ).loc main_arg4) : S4096x1024.Idx → EReal) = up2 A.d

theorem idx_rows : ∀ t : Fin grid0.N, win0_0.index t = ![t.val, 0] ∧ win0_1.index t = ![t.val, 0] ∧ win0_2.index t = ![t.val, 0]
    ∧ win0_3.index t = ![0, 0] ∧ win0_4.index t = ![0, 0, 0] ∧ win0_5.index t = ![0, 0, 0] ∧ win0_6.index t = ![0, 0, 0] := by decide +kernel

section Entry

/-! The arrays that the host's lines hand the kernel. -/

variable {A m c}

set_option maxHeartbeats 4000000

theorem V_a (H : Holds A m c) : (V m c main_v16 : S4096x4096.Idx → EReal) = up2 fun r => a A r := by
  funext x
  idx_vars x
  entry_read
  rw [show (m (c, Proc.tc.devRef main_arg0) : S4096x1024.Idx → EReal) = up2 A.h from H.h, show (m (c, Proc.tc.devRef main_arg3) : S1024.Idx → EReal) = up1 A.g from H.g,
    show (m (c, Proc.tc.devRef main_arg1) : S1024x4096.Idx → EReal) = up2 A.wu from H.wu]
  pointwise
  simp only [up1_ix, up2_ix, ← EReal.coe_mul, coe_sum, lit_1024, lit_eps, zero_add]
  have hr : Ideal.rsqrt (((∑ k, A.h x0 k * A.h x0 k) / 1024 + eps : ℝ) : EReal) = ((rsr (A.h x0) : ℝ) : EReal) := rsqrt_real (msq_pos (A.h x0))
  rw [div_pos_real _ (by norm_num), ← EReal.coe_add, hr]
  simp only [← EReal.coe_mul, coe_sum]
  rfl

theorem V_g (H : Holds A m c) : (V m c main_v22 : S1x1024.Idx → EReal) = up2 fun _ => A.g := by
  funext x
  idx_vars x
  entry_read
  rw [show (m (c, Proc.tc.devRef main_arg3) : S1024.Idx → EReal) = up1 A.g from H.g]
  pointwise
  rfl

theorem V_wu (H : Holds A m c) : (V m c main_v19 : S8x1024x512.Idx → EReal) = up3 fun n k f => A.wu k (rowAt n.val f) := by
  funext x
  idx_vars x
  entry_read
  rw [show (m (c, Proc.tc.devRef main_arg1) : S1024x4096.Idx → EReal) = up2 A.wu from H.wu]
  pointwise
  exact congrArg (fun f => ((A.wu x1 f : ℝ) : EReal)) (Fin.ext (by show x0.val * 512 + x2.val = (512 * x0.val + x2.val) % 4096; omega))

theorem V_lo (H : Holds A m c) : (V m c main_v24 : S8x256x1024.Idx → EReal) = up3 fun n i k => A.wd (lo n.val i) k := by
  funext x
  idx_vars x
  entry_read
  rw [show (m (c, Proc.tc.devRef main_arg2) : S4096x1024.Idx → EReal) = up2 A.wd from H.wd]
  pointwise
  exact congrArg (fun f => ((A.wd f x2 : ℝ) : EReal)) (Fin.ext (by show x0.val * 512 + x1.val = (512 * x0.val + x1.val) % 4096; omega))

theorem V_hi (H : Holds A m c) : (V m c main_v26 : S8x256x1024.Idx → EReal) = up3 fun n i k => A.wd (hi n.val i) k := by
  funext x
  idx_vars x
  entry_read
  rw [show (m (c, Proc.tc.devRef main_arg2) : S4096x1024.Idx → EReal) = up2 A.wd from H.wd]
  pointwise
  exact congrArg (fun f => ((A.wd f x2 : ℝ) : EReal)) (Fin.ext (by show x0.val * 512 + 256 + x1.val = (512 * x0.val + (256 + x1.val)) % 4096; omega))

end Entry

variable {A m c} in
set_option maxHeartbeats 4000000 in
theorem reads (H : Holds A m c) (t : Fin cfg0.N) : Reads A (rowAt t.val) m c t := by
  have ht : t.val < 8 := t.isLt
  have hrow : ∀ x : Fin 512, t.val * 512 + x.val = (512 * t.val + x.val) % 4096 := fun x => by omega
  constructor
  all_goals
    funext x
    idx_vars x
  · refine Eq.trans (b := (V m c main_arg4 : S4096x1024.Idx → EReal) (ix2 (rowAt t.val x0) x1)) ?_ (by rw [V_main_arg4, H.d]; rfl)
    blk_ext [iblk, (idx_rows t).1]
    exact hrow x0
  · refine Eq.trans (b := (V m c main_v16 : S4096x4096.Idx → EReal) (ix2 (rowAt t.val x0) x1)) ?_ (by rw [V_a H]; rfl)
    blk_ext [iblk, (idx_rows t).2.1]
    exact hrow x0
  · refine Eq.trans (b := (V m c main_arg0 : S4096x1024.Idx → EReal) (ix2 (rowAt t.val x0) x1)) ?_ (by rw [V_main_arg0, H.h]; rfl)
    blk_ext [iblk, (idx_rows t).2.2.1]
    exact hrow x0
  · refine Eq.trans (b := (V m c main_v22 : S1x1024.Idx → EReal) (ix2 x0 x1)) ?_ (by rw [V_g H])
    blk_ext [iblk, (idx_rows t).2.2.2.1]
  · refine Eq.trans (b := (V m c main_v19 : S8x1024x512.Idx → EReal) (ix3 x0 x1 x2)) ?_ (by rw [V_wu H])
    blk_ext [iblk, (idx_rows t).2.2.2.2.1]
  · refine Eq.trans (b := (V m c main_v24 : S8x256x1024.Idx → EReal) (ix3 x0 x1 x2)) ?_ (by rw [V_lo H])
    blk_ext [iblk, (idx_rows t).2.2.2.2.2.1]
  · refine Eq.trans (b := (V m c main_v26 : S8x256x1024.Idx → EReal) (ix3 x0 x1 x2)) ?_ (by rw [V_hi H])
    blk_ext [iblk, (idx_rows t).2.2.2.2.2.2]

end Step.MlpRow

end
-- ==== Proof.MlpValue.lean ====
/- What the squared-relu layer's three results hold after the kernel's run, over the reals. -/
module

public import proofs.«01_k».proof.Proof.MlpRead

@[expose] public section

set_option maxRecDepth 16384

noncomputable section

namespace Step.MlpRow

open Idealize.ShloMosaic Idealize.ShloMosaic.TcCoe Idealize.SL.Sem Step Cert.MlpIdeal Cert.MlpIdeal.Gen Cert.MlpIdeal.Value

variable {A : Args} {m : (ℓ : Loc nD τ sig) → Buf (Elt Ideal) ℓ} {c : Dev nD}

/-- After point `n` the last output holds its sum over blocks `0 … n`. -/
theorem fold_eq (H : Holds A m c) : ∀ (n : ℕ) (h : n < cfg0.N), (outsAt0 m c n h).2.2 = up2 fun (_ : Fin 1) k => total (addG A k) n
  | 0, h => by
    refine (step A (rowAt 0) m c ⟨0, h⟩ (reads H ⟨0, h⟩)).2.2.trans ?_
    simp only [total_zero]
    exact funext fun j => (congrArg (· + _) lit_zero).trans (zero_add _)
  | n + 1, h => by
    have h8 : n + 1 < 8 := lt_of_lt_of_eq h N_0
    refine (step A (rowAt (n + 1)) m c ⟨n + 1, h⟩ (reads H ⟨n + 1, h⟩)).2.2.trans ?_
    have hn : ¬(n + 1) % 8 = 0 := by omega
    simp only [hn, if_false, Nat.add_sub_cancel]
    rw [fold_eq H n (by omega)]
    exact up2_succ (fun (_ : Fin 1) k r => addG A k r) n

theorem idx_outs : ∀ t : Fin grid0.N, win0_7.index t = ![t.val, 0] ∧ win0_8.index t = ![t.val, 0] ∧ win0_9.index t = ![0, 0]
    ∧ win0_7.flush t = true ∧ win0_8.flush t = true ∧ (win0_9.flush t = true ↔ t.val = 7) := by decide +kernel

/-- The point whose blocks hold row `r`. -/
def ptOf (r : Fin 4096) : Fin cfg0.N := ⟨r.val / 512, lt_of_lt_of_eq (by omega) N_0.symm⟩

/-- The cotangent of the rows before the squared relu. -/
theorem final7 (H : Holds A m c) : ((dats m 0 c).arrAt 7 cfg0.N : S4096x4096.Idx → EReal) = up2 fun r => da A r := by
  refine (dats m 0 c).arrAt_eq_of_cover 7 _ (fun t hf => ?_) fun i => ⟨ptOf (i 0), (idx_outs _).2.2.2.1, ?_⟩
  · rw [flushed7, (step A (rowAt t.val) m c t (reads H t)).1]
    funext y
    have ht : t.val < 8 := lt_of_lt_of_eq t.isLt N_0
    have hy : (y 0).val < 512 := (y 0).isLt
    refine congrArg₂ (fun r f => ((da A r f : ℝ) : EReal)) (Fin.ext ?_) (Fin.ext ?_)
    · show (512 * t.val + (y 0).val) % 4096 = win0_7.index t 0 * 512 + 1 * (y 0).val
      rw [(idx_outs t).1]; show _ = t.val * 512 + _; omega
    · show (y 1).val = win0_7.index t 1 * 4096 + 1 * (y 1).val
      rw [(idx_outs t).1]; show _ = 0 * 4096 + _; omega
  · show i ∈ ((View.whole main_v27_0).slice (win0_7.rect (ptOf (i 0)))).set
    rw [View.set_slice_whole, Rect.mem_set_unit]
    have h0 : (i 0).val < 4096 := (i 0).isLt
    have h1 : (i 1).val < 4096 := (i 1).isLt
    intro a
    match a with
    | ⟨0, _⟩ => show win0_7.index (ptOf (i 0)) 0 * 512 ≤ (i 0).val ∧ (i 0).val < win0_7.index (ptOf (i 0)) 0 * 512 + 512; rw [(idx_outs _).1]; show (i 0).val / 512 * 512 ≤ _ ∧ _ < (i 0).val / 512 * 512 + 512; omega
    | ⟨1, _⟩ => show win0_7.index (ptOf (i 0)) 1 * 4096 ≤ (i 1).val ∧ (i 1).val < win0_7.index (ptOf (i 0)) 1 * 4096 + 4096; rw [(idx_outs _).1]; show 0 * 4096 ≤ _ ∧ _ < 0 * 4096 + 4096; omega

/-- The cotangent of the rows that enter the layer. -/
theorem final8 (H : Holds A m c) : ((dats m 0 c).arrAt 8 cfg0.N : S4096x1024.Idx → EReal) = up2 fun r => dh A r := by
  refine (dats m 0 c).arrAt_eq_of_cover 8 _ (fun t hf => ?_) fun i => ⟨ptOf (i 0), (idx_outs _).2.2.2.2.1, ?_⟩
  · rw [flushed8, (step A (rowAt t.val) m c t (reads H t)).2.1]
    funext y
    have ht : t.val < 8 := lt_of_lt_of_eq t.isLt N_0
    have hy : (y 0).val < 512 := (y 0).isLt
    refine congrArg₂ (fun r f => ((dh A r f : ℝ) : EReal)) (Fin.ext ?_) (Fin.ext ?_)
    · show (512 * t.val + (y 0).val) % 4096 = win0_8.index t 0 * 512 + 1 * (y 0).val
      rw [(idx_outs t).2.1]; show _ = t.val * 512 + _; omega
    · show (y 1).val = win0_8.index t 1 * 1024 + 1 * (y 1).val
      rw [(idx_outs t).2.1]; show _ = 0 * 1024 + _; omega
  · show i ∈ ((View.whole main_v27_1).slice (win0_8.rect (ptOf (i 0)))).set
    rw [View.set_slice_whole, Rect.mem_set_unit]
    have h0 : (i 0).val < 4096 := (i 0).isLt
    have h1 : (i 1).val < 1024 := (i 1).isLt
    intro a
    match a with
    | ⟨0, _⟩ => show win0_8.index (ptOf (i 0)) 0 * 512 ≤ (i 0).val ∧ (i 0).val < win0_8.index (ptOf (i 0)) 0 * 512 + 512; rw [(idx_outs _).2.1]; show (i 0).val / 512 * 512 ≤ _ ∧ _ < (i 0).val / 512 * 512 + 512; omega
    | ⟨1, _⟩ => show win0_8.index (ptOf (i 0)) 1 * 1024 ≤ (i 1).val ∧ (i 1).val < win0_8.index (ptOf (i 0)) 1 * 1024 + 1024; rw [(idx_outs _).2.1]; show 0 * 1024 ≤ _ ∧ _ < 0 * 1024 + 1024; omega

/-- The gradient of the layer's gain. -/
theorem final9 (H : Holds A m c) : ((dats m 0 c).arrAt 9 cfg0.N : S1x1024.Idx → EReal) = up2 fun _ k => ∑ r, addG A k r := by
  have hl : (7 : ℕ) < cfg0.N := lt_of_lt_of_eq (by omega) N_0.symm
  refine (dats m 0 c).arrAt_eq_of_cover 9 _ (fun t hf => ?_) fun i => ⟨⟨7, hl⟩, (idx_outs _).2.2.2.2.2.2 rfl, ?_⟩
  · have ht : t.val = 7 := (idx_outs t).2.2.2.2.2.1 hf
    obtain rfl : t = ⟨7, hl⟩ := Fin.ext ht
    rw [flushed9, fold_eq H 7 hl]
    funext y
    refine (congrArg (fun x : ℝ => (x : EReal)) (total_last _)).trans (congrArg (fun k => ((∑ r, addG A k r : ℝ) : EReal)) (Fin.ext ?_))
    show (y 1).val = win0_9.index ⟨7, hl⟩ 1 * 1024 + 1 * (y 1).val
    rw [(idx_outs ⟨7, hl⟩).2.2.1]; show _ = 0 * 1024 + _; omega
  · show i ∈ ((View.whole main_v27_2).slice (win0_9.rect ⟨7, hl⟩)).set
    rw [View.set_slice_whole, Rect.mem_set_unit]
    have h0 : (i 0).val < 1 := (i 0).isLt
    have h1 : (i 1).val < 1024 := (i 1).isLt
    intro a
    match a with
    | ⟨0, _⟩ => show win0_9.index ⟨7, hl⟩ 0 * 1 ≤ (i 0).val ∧ (i 0).val < win0_9.index ⟨7, hl⟩ 0 * 1 + 1; rw [(idx_outs ⟨7, hl⟩).2.2.1]; show 0 * 1 ≤ _ ∧ _ < 0 * 1 + 1; omega
    | ⟨1, _⟩ => show win0_9.index ⟨7, hl⟩ 1 * 1024 ≤ (i 1).val ∧ (i 1).val < win0_9.index ⟨7, hl⟩ 1 * 1024 + 1024; rw [(idx_outs ⟨7, hl⟩).2.2.1]; show 0 * 1024 ≤ _ ∧ _ < 0 * 1024 + 1024; omega

end Step.MlpRow

end
-- ==== Proof.MlpRef.lean ====
/- What the lines of the squared-relu layer's reference compute, over the reals. -/
module

public import proofs.«01_k».proof.Proof.MlpSpec
public import proofs.«01_k».proof.Proof.Gen.MlpRefIdeal.Read

@[expose] public section

set_option maxRecDepth 16384

noncomputable section

namespace Step.MlpRow

open Idealize.ShloMosaic Step Cert.MlpRefIdeal Cert.MlpRefIdeal.Gen Cert.MlpRefIdeal.Read

variable (A : Args)

theorem v7_up : val_main_v7 (F := Ideal) (up2 A.h) = up2 fun r _ => msq (A.h r) := by
  funext j
  idx_vars j
  pointwise [val_main_v7, val_main_v1, val_main_v2, val_main_v3, val_main_v4, val_main_v5, val_main_v6, val_main_cst_0, val_main_cst_1, val_main_cst_2]
  simp only [up1_ix, up2_ix, ← EReal.coe_mul, ← EReal.coe_add, ← EReal.coe_sub, coe_sum, lit_1024, lit_eps, zero_add]
  rw [div_pos_real _ (by norm_num), ← EReal.coe_add]
  rfl

theorem v8_up : val_main_v8 (F := Ideal) (up2 A.h) = up2 fun r _ => rsr (A.h r) := by
  funext j
  idx_vars j
  pointwise [val_main_v8]
  rw [v7_up]
  exact rsqrt_real (msq_pos _)

theorem v11_up : val_main_v11 (F := Ideal) (up2 A.h) = up2 fun r _ => -(1 / 2) * (rsr (A.h r) / msq (A.h r)) := by
  funext j
  idx_vars j
  pointwise [val_main_v11, val_main_v9, val_main_v10, val_main_cst_3]
  rw [v7_up, v8_up, up2_ix, up2_ix, lit_neg_half, div_pos_real _ (msq_pos _), ← EReal.coe_mul]
  rfl

theorem v13_up : val_main_v13 (F := Ideal) (up2 A.h) = up2 fun r => nrm (A.h r) := by
  funext j
  idx_vars j
  pointwise [val_main_v13, val_main_v12]
  rw [v8_up]
  rfl

theorem v16_up : val_main_v16 (F := Ideal) (up2 A.h) (up1 A.g) = up2 fun r => u A r := by
  funext j
  idx_vars j
  pointwise [val_main_v16, val_main_v14, val_main_v15]
  rw [v13_up]
  rfl

theorem v18_up : val_main_v18 (F := Ideal) (up2 A.h) (up2 A.wu) (up1 A.g) = up2 fun r => a A r := by
  funext j
  idx_vars j
  pointwise [val_main_v18, val_main_v17, val_main_v0, val_main_cst]
  simp only [v16_up, up1_ix, up2_ix, ← EReal.coe_mul, ← EReal.coe_add, ← EReal.coe_sub, coe_sum, add_zero]
  rfl

theorem v32_up : val_main_v32 (F := Ideal) (up2 A.h) (up2 A.wu) (up2 A.wd) (up1 A.g) (up2 A.d) = up2 fun r => da A r := by
  funext j
  idx_vars j
  pointwise [val_main_v32, val_main_v19, val_main_call0_v0, val_main_call0_cst, val_main_v20, val_main_v21, val_main_cst_4, val_main_v24, val_main_cst_6, val_main_v25, val_main_v28, val_main_v29, val_main_v30, val_main_v31, val_main_cst_7]
  simp only [v18_up, up1_ix, up2_ix, ← EReal.coe_mul, ← EReal.coe_add, ← EReal.coe_sub, coe_sum, lit_two]
  split_ifs with h
  · have h' : 0 < a A j0 j1 := EReal.coe_pos.1 h
    rw [max_eq_left h.le, ← EReal.coe_mul, ← EReal.coe_mul]
    exact congrArg (fun x : ℝ => (x : EReal)) (by unfold da; rw [max_eq_left h'.le]; rfl)
  · have h' : a A j0 j1 ≤ 0 := not_lt.1 fun hc => h (EReal.coe_pos.2 hc)
    exact congrArg (fun x : ℝ => (x : EReal)) (show (0 : ℝ) = _ by unfold da; rw [max_eq_right h']; ring)

theorem v33_up : val_main_v33 (F := Ideal) (up2 A.h) (up2 A.wu) (up2 A.wd) (up1 A.g) (up2 A.d) = up2 fun r => du A r := by
  funext j
  idx_vars j
  pointwise [val_main_v33]
  simp only [v32_up, up1_ix, up2_ix, ← EReal.coe_mul, ← EReal.coe_add, ← EReal.coe_sub, coe_sum]
  rfl

theorem v38_up : val_main_v38 (F := Ideal) (up2 A.h) (up2 A.wu) (up2 A.wd) (up1 A.g) (up2 A.d) = up2 fun r k => du A r k * A.g k := by
  funext j
  idx_vars j
  pointwise [val_main_v38, val_main_v37, val_main_v14]
  rw [v33_up]
  rfl

theorem v48_up : val_main_v48 (F := Ideal) (up2 A.h) (up2 A.wu) (up2 A.wd) (up1 A.g) (up2 A.d) = up2 fun r _ => (∑ j, A.h r j * (du A r j * A.g j)) * (-(1 / 2) * (rsr (A.h r) / msq (A.h r))) / 1024 := by
  funext j
  idx_vars j
  pointwise [val_main_v48, val_main_v40, val_main_v41, val_main_v42, val_main_v46, val_main_v47, val_main_cst_10, val_main_cst_11]
  simp only [v38_up, v11_up, up1_ix, up2_ix, ← EReal.coe_mul, ← EReal.coe_add, ← EReal.coe_sub, coe_sum, lit_1024, zero_add]
  exact div_pos_real _ (by norm_num)

theorem v54_up : val_main_v54 (F := Ideal) (up2 A.h) (up2 A.wu) (up2 A.wd) (up1 A.g) (up2 A.d) = up2 fun r => dh A r := by
  funext j
  idx_vars j
  pointwise [val_main_v54, val_main_v43, val_main_v44, val_main_v45, val_main_v49, val_main_v50, val_main_v51, val_main_v52, val_main_v53, val_main_cst_12]
  rw [v8_up, v38_up, v48_up]
  simp only [up1_ix, up2_ix, ← EReal.coe_mul, ← EReal.coe_add, ← EReal.coe_sub, coe_sum, zero_add, Fin.sum_univ_one]
  exact congrArg (fun x : ℝ => (x : EReal)) (by unfold dh; rw [nrmBwd_eq]; ring)

theorem v55_up : val_main_v55 (F := Ideal) (up2 A.h) (up2 A.wu) (up2 A.wd) (up1 A.g) (up2 A.d) = up2 fun r => da A r := by
  funext j
  idx_vars j
  pointwise [val_main_v55]
  rw [v32_up]

theorem v56_up : val_main_v56 (F := Ideal) (up2 A.h) (up2 A.wu) (up2 A.wd) (up1 A.g) (up2 A.d) = up2 fun _ k => ∑ r, addG A k r := by
  funext j
  idx_vars j
  pointwise [val_main_v56, val_main_v39, val_main_v36, val_main_v35, val_main_v34, val_main_cst_8, val_main_cst_9]
  simp only [v13_up, v33_up, up1_ix, up2_ix, ← EReal.coe_mul, ← EReal.coe_add, ← EReal.coe_sub, coe_sum, zero_add, Fin.sum_univ_one]
  exact congrArg (fun x : ℝ => (x : EReal)) (Finset.sum_congr rfl fun r _ => mul_comm _ _)

end Step.MlpRow

end
-- ==== Proof.MlpClaim.lean ====
/- The claims about the gradient of the squared-relu layer. -/
module

public import proofs.«01_k».proof.Proof.MlpValue
public import proofs.«01_k».proof.Proof.MlpRef
public import proofs.«01_k».proof.Proof.Finite
public import proofs.«01_k».proof.Proof.Gen.Pre_finite_mlp
public import proofs.«01_k».proof.Proof.Gen.MlpRefIdeal.Run
public import proofs.«01_k».proof.Defs

@[expose] public section

noncomputable section

namespace Step.MlpRow

open Idealize.ShloMosaic Idealize.ShloMosaic.TcCoe Idealize.SL.Sem Step

/-- Arguments that are finite are arrays of reals. -/
theorem holds_of_finite (m : (ℓ : Loc Cert.MlpIdeal.nD Cert.MlpIdeal.τ Cert.MlpIdeal.sig) → Buf (Elt Ideal) ℓ)
    (h : Cert.Pre_MlpIdeal_finite_mlp (hPre_finite_mlp := Cert.Pre_finite_mlp.Gen.facts) m) (c : Dev Cert.MlpIdeal.nD) : ∃ A : Args, Holds A m c := by
  obtain ⟨h0, h1, h2, h3, h4⟩ := h c
  obtain ⟨f0, e0⟩ := exists_up2 _ fun j => real_of_abs (congrFun h0 j)
  obtain ⟨f1, e1⟩ := exists_up2 _ fun j => real_of_abs (congrFun h1 j)
  obtain ⟨f2, e2⟩ := exists_up2 _ fun j => real_of_abs (congrFun h2 j)
  obtain ⟨f3, e3⟩ := exists_up1 _ fun j => real_of_abs (congrFun h3 j)
  obtain ⟨f4, e4⟩ := exists_up2 _ fun j => real_of_abs (congrFun h4 j)
  exact ⟨⟨f0, f1, f2, f3, f4⟩, ⟨e0, e1, e2, e3, e4⟩⟩

theorem frame_ref : Cert.quiescent_MlpRefIdeal (hMlpRefIdeal := Cert.MlpRefIdeal.Gen.facts) := fun m ρ _ =>
  (θ_run (Cert.MlpRefIdeal.defs (F := Ideal)) _ _).mono
    (fun r h => ⟨fun c => (h c).2.2.2, sem_eq_zero_of_no_sems (by decide) r.2⟩) (Cert.MlpRefIdeal.Value.run m ρ)

theorem algebraic : Cert.algebraic_MlpIdeal_MlpRefIdeal_pre_finite_mlp (hMlpIdeal := Cert.MlpIdeal.Gen.facts)
    (hMlpRefIdeal := Cert.MlpRefIdeal.Gen.facts) (hPre_finite_mlp := Cert.Pre_finite_mlp.Gen.facts) := by
  intro m ρ m' ρ' hpre hag
  refine ⟨fun c => (Cert.MlpIdeal.Gen.dats m 0 c).arrAt 7 Cert.MlpIdeal.cfg0.N, fun c => (Cert.MlpIdeal.Gen.dats m 0 c).arrAt 8 Cert.MlpIdeal.cfg0.N,
    fun c => (Cert.MlpIdeal.Gen.dats m 0 c).arrAt 9 Cert.MlpIdeal.cfg0.N,
    Cert.MlpIdeal.Value.run_blocks m ρ, (θ_run _ _ _).mono (fun r h c => ?_) (Cert.MlpRefIdeal.Value.run m' ρ')⟩
  obtain ⟨A, H⟩ := holds_of_finite m hpre c
  obtain ⟨a0, a1, a2, a3, a4⟩ := hag c
  obtain ⟨r0, r1, r2, kept⟩ := h c
  have b0 := a0.trans H.h
  have b1 := a1.trans H.wu
  have b2 := a2.trans H.wd
  have b3 := a3.trans H.g
  have b4 := a4.trans H.d
  refine ⟨(r0.trans (Cert.MlpRefIdeal.Read.val_main_v55_eq _ _ _ _ _)).trans ?_, (r1.trans (Cert.MlpRefIdeal.Read.val_main_v54_eq _ _)).trans ?_,
    (r2.trans (Cert.MlpRefIdeal.Read.val_main_v56_eq _ _ _ _ _)).trans ?_, kept⟩
  all_goals
    first
      | refine Eq.trans ?_ ((v55_up A).trans (final7 H).symm)
      | refine Eq.trans ?_ ((v54_up A).trans (final8 H).symm)
      | refine Eq.trans ?_ ((v56_up A).trans (final9 H).symm)
    exact congr (congr (congr (congr (congrArg _ b0) b1) b2) b3) b4

end Step.MlpRow

end
-- ==== Proof.WdownStep.lean ====
/- One grid point of the down projection's weight gradient. -/
module

public import proofs.«01_k».proof.Proof.Blocks
public import Idealize.ShloMosaic.Lib.Pipeline.ReadBack
public import Idealize.ShloMosaic.Lib.Pipeline.ValueKit.Tiles
public import proofs.«01_k».proof.Proof.Gen.WdownIdeal.Value

@[expose] public section

set_option maxRecDepth 16384

noncomputable section

namespace Step.Wdown

open Idealize.ShloMosaic Idealize.ShloMosaic.TcCoe Idealize.SL.Sem Step Cert.WdownIdeal Cert.WdownIdeal.Gen Cert.WdownIdeal.Value

/-- The squared relu. -/
def sq (x : EReal) : EReal := max x 0 * max x 0

/-- What a block of 512 rows adds at row `i` and column `k` of the gradient. -/
def addOf (a : S512x4096.Idx → EReal) (d : S512x1024.Idx → EReal) (i : Fin 4096) (k : Fin 1024) : EReal :=
  ∑ r : Fin 512, sq (a (ix2 r i)) * d (ix2 r k)

/-- One of the kernel's four slices of 1024 rows. -/
def sliceStep (d : S512x1024.Idx → EReal) (a : S512x1024.Idx → EReal) (z : S1024x1024.Idx → EReal) : S1024x1024.Idx → EReal :=
  fun j => z j + ∑ r : Fin 512, sq (a (ix2 r (j 0))) * d (ix2 r (j 1))

theorem pay6_eq (d : FVec Ideal S512x1024 .f32) (a : FVec Ideal S512x1024 .bf16) (z : FVec Ideal S1024x1024 .f32) :
    k0_pay6 (F := Ideal) d a z = sliceStep d a z := by
  funext j
  idx_vars j
  pointwise [k0_pay6, k0_pay5]
  rfl

theorem pay7_eq (d : FVec Ideal S512x1024 .f32) (a : FVec Ideal S512x1024 .bf16) (z : FVec Ideal S1024x1024 .f32) :
    k0_pay7 (F := Ideal) d a z = sliceStep d a z := pay6_eq d a z
theorem pay1_eq (d : FVec Ideal S512x1024 .f32) (a : FVec Ideal S512x1024 .bf16) (z : FVec Ideal S1024x1024 .f32) :
    k0_pay1 (F := Ideal) (k0_pay5 d) a z = sliceStep d a z := pay6_eq d a z
theorem pay2_eq (d : FVec Ideal S512x1024 .f32) (a : FVec Ideal S512x1024 .bf16) (z : FVec Ideal S1024x1024 .f32) :
    k0_pay2 (F := Ideal) (k0_pay5 d) a z = sliceStep d a z := pay6_eq d a z

/-- The slice of 1024 rows from row `o` on, as the kernel computes it. -/
def slice (a : S512x4096.Idx → EReal) (d : S512x1024.Idx → EReal) (z : S4096x1024.Idx → EReal) (o : ℕ) (ho : o + 1024 ≤ 4096) : S1024x1024.Idx → EReal :=
  fun j => z (ix2 (⟨o + (j 0).val, by have : (j 0).val < 1024 := (j 0).isLt; omega⟩ : Fin 4096) (j 1 : Fin 1024))
    + addOf a d (⟨o + (j 0).val, by have : (j 0).val < 1024 := (j 0).isLt; omega⟩ : Fin 4096) (j 1)

theorem slice_eq (a : S512x4096.Idx → EReal) (d : S512x1024.Idx → EReal) (z : S4096x1024.Idx → EReal) (o : ℕ) (ho : o + 1024 ≤ 4096)
    (ia : ∀ x, (![0, o] : Fin 2 → ℕ) x + S512x1024.size x ≤ S512x4096.size x) (iz : ∀ x, (![o, 0] : Fin 2 → ℕ) x + S1024x1024.size x ≤ S4096x1024.size x) :
    sliceStep d (View.ld (Val := Elt Ideal) (e' := .bf16) a (Rect.unit (s := S512x4096) ![0, o] S512x1024.size ia))
      (View.ld (Val := Elt Ideal) (e' := .f32) z (Rect.unit (s := S4096x1024) ![o, 0] S1024x1024.size iz)) = slice a d z o ho := by
  funext j
  unfold sliceStep slice addOf
  refine congr (congrArg _ (congrArg z (funext fun x => Fin.ext ?_))) (Finset.sum_congr rfl fun r _ => congrArg (fun i => sq (a i) * d (ix2 r (j 1))) (funext fun x => Fin.ext ?_))
  · match x with
    | ⟨0, _⟩ => show o + 1 * (j 0).val = o + (j 0).val; omega
    | ⟨1, _⟩ => show 0 + 1 * (j 1).val = (j 1).val; omega
  · match x with
    | ⟨0, _⟩ => show 0 + 1 * r.val = r.val; omega
    | ⟨1, _⟩ => show o + 1 * (j 0).val = o + (j 0).val; omega

theorem slice_at (a : S512x4096.Idx → EReal) (d : S512x1024.Idx → EReal) (z : S4096x1024.Idx → EReal) (y : S4096x1024.Idx) (r : Fin 4096) (k : Fin 1024)
    (hr : r = y 0) (hk : k = y 1) : z (ix2 r k) + addOf a d r k = z y + addOf a d (y 0) (y 1) := by
  subst hr hk
  exact congrArg (z · + _) (eq_ix2 y).symm

theorem mem_slice (y : S4096x1024.Idx) (o : ℕ) (iz : ∀ x, (![o, 0] : Fin 2 → ℕ) x + (![1024, 1024] : Fin 2 → ℕ) x ≤ S4096x1024.size x)
    (h : o ≤ (y 0).val ∧ (y 0).val < o + 1024) : y ∈ (Rect.unit (s := S4096x1024) ![o, 0] ![1024, 1024] iz).set := by
  rw [Rect.mem_set_unit]
  have h1 : (y 1).val < 1024 := (y 1).isLt
  intro x
  match x with
  | ⟨0, _⟩ => exact h
  | ⟨1, _⟩ => show 0 ≤ (y 1).val ∧ (y 1).val < 0 + 1024; omega

/-- The four slices, over whatever was stored before, are the whole. -/
theorem canon_slices (a : S512x4096.Idx → EReal) (d : S512x1024.Idx → EReal) (z : S4096x1024.Idx → EReal) (L : List (View.Piece (Elt Ideal) S4096x1024 .f32)) :
    View.canon (Val := Elt Ideal) (s := S4096x1024) (e := .f32)
      (⟨Rect.unit ![3072, 0] ![1024, 1024] inb_S4096x1024_S1024x1024_3072_0, slice a d z 3072 (by omega)⟩ ::
        ⟨Rect.unit ![2048, 0] ![1024, 1024] inb_S4096x1024_S1024x1024_2048_0, slice a d z 2048 (by omega)⟩ ::
        ⟨Rect.unit ![1024, 0] ![1024, 1024] inb_S4096x1024_S1024x1024_1024_0, slice a d z 1024 (by omega)⟩ ::
        ⟨Rect.unit ![0, 0] ![1024, 1024] inb_S4096x1024_S1024x1024_0_0, slice a d z 0 (by omega)⟩ :: L) = fun y => z y + addOf a d (y 0) (y 1) := by
  funext y
  refine View.canon_append_of_piecesOf (Val := Elt Ideal) (fun y => z y + addOf a d (y 0) (y 1)) L [⟨_, _⟩, ⟨_, _⟩, ⟨_, _⟩, ⟨_, _⟩]
    ⟨fun x => ?_, fun x => ?_, fun x => ?_, fun x => ?_, trivial⟩ y ?_
  · exact slice_at a d z _ _ _ (Fin.ext (by show 3072 + _ = 3072 + 1 * _; omega)) (Fin.ext (by show _ = 0 + 1 * _; omega))
  · exact slice_at a d z _ _ _ (Fin.ext (by show 2048 + _ = 2048 + 1 * _; omega)) (Fin.ext (by show _ = 0 + 1 * _; omega))
  · exact slice_at a d z _ _ _ (Fin.ext (by show 1024 + _ = 1024 + 1 * _; omega)) (Fin.ext (by show _ = 0 + 1 * _; omega))
  · exact slice_at a d z _ _ _ (Fin.ext (by show 0 + _ = 0 + 1 * _; omega)) (Fin.ext (by show _ = 0 + 1 * _; omega))
  · have h0 : (y 0).val < 4096 := (y 0).isLt
    by_cases h3 : 3072 ≤ (y 0).val
    · exact ⟨_, List.mem_cons_self, mem_slice y 3072 inb_S4096x1024_S1024x1024_3072_0 (by omega)⟩
    by_cases h2 : 2048 ≤ (y 0).val
    · exact ⟨_, List.mem_cons_of_mem _ List.mem_cons_self, mem_slice y 2048 inb_S4096x1024_S1024x1024_2048_0 (by omega)⟩
    by_cases h1 : 1024 ≤ (y 0).val
    · exact ⟨_, List.mem_cons_of_mem _ (List.mem_cons_of_mem _ List.mem_cons_self), mem_slice y 1024 inb_S4096x1024_S1024x1024_1024_0 (by omega)⟩
    · exact ⟨_, List.mem_cons_of_mem _ (List.mem_cons_of_mem _ (List.mem_cons_of_mem _ List.mem_cons_self)), mem_slice y 0 inb_S4096x1024_S1024x1024_0_0 (by omega)⟩

variable (m : (ℓ : Loc nD τ sig) → Buf (Elt Ideal) ℓ) (c : Dev nD)

theorem step (t : Fin cfg0.N) (acc : Vec Ideal S4096x1024 .bf16 × Vec Ideal S4096x1024 .f32) :
    (stAt0 m c t.val t.isLt acc).2 = fun j => (show EReal from (if t.val % 8 = 0 then k0_pay4 (F := Ideal) else acc.2) j) + addOf (iblk m c 0 t) (iblk m c 1 t) (j 0) (j 1) := by
  by_cases h0 : t.val % 8 = 0
  · rw [stAt0_A m c t acc h0 (by omega), if_pos h0]
    dsimp only
    frame_out [↓View.readCov_skip, ↓View.readCov_fill]
    simp only [pay6_eq, pay7_eq, pay1_eq, pay2_eq]
    rw [slice_eq _ _ _ 0 (by omega), slice_eq _ _ _ 1024 (by omega), slice_eq _ _ _ 2048 (by omega), slice_eq _ _ _ 3072 (by omega)]
    exact canon_slices _ _ _ _
  · rw [if_neg h0]
    by_cases h1 : t.val % 8 = 7
    all_goals
      first
        | rw [stAt0_C m c t acc h0 h1]
        | rw [stAt0_B m c t acc h0 h1]
      dsimp only
      frame_out
      simp only [pay6_eq, pay7_eq, pay1_eq, pay2_eq, read_unread_whole]
      rw [slice_eq _ _ _ 0 (by omega), slice_eq _ _ _ 1024 (by omega), slice_eq _ _ _ 2048 (by omega), slice_eq _ _ _ 3072 (by omega)]
      exact canon_slices _ _ _ _

/-- The last point casts the sum and leaves it. -/
theorem out_last (t : Fin cfg0.N) (acc : Vec Ideal S4096x1024 .bf16 × Vec Ideal S4096x1024 .f32) (h1 : t.val % 8 = 7) :
    ((stAt0 m c t.val t.isLt acc).1 : S4096x1024.Idx → EReal) = (stAt0 m c t.val t.isLt acc).2 := by
  rw [stAt0_C m c t acc (by omega) h1]
  dsimp only
  frame_out
  rw [show ∀ v : FVec Ideal S4096x1024 .f32, k0_pay3 (F := Ideal) v = v from fun v => rfl, View.readCov_eq_canon']
  exact funext fun y => congrArg _ (funext fun x => Fin.ext (by
    match x with
    | ⟨0, _⟩ => show 0 + 1 * (y 0).val = (y 0).val; omega
    | ⟨1, _⟩ => show 0 + 1 * (y 1).val = (y 1).val; omega))

end Step.Wdown

end
-- ==== Proof.WdownClaim.lean ====
/- The claims about the down projection's weight gradient. -/
module

public import proofs.«01_k».proof.Proof.WdownStep
public import proofs.«01_k».proof.Proof.Gen.WdownRefIdeal.Run
public import proofs.«01_k».proof.Proof.Gen.WdownRefIdeal.Read
public import proofs.«01_k».proof.Defs

@[expose] public section

set_option maxRecDepth 16384

noncomputable section

namespace Step.Wdown

open Idealize.ShloMosaic Idealize.ShloMosaic.TcCoe Idealize.SL.Sem Step Cert.WdownIdeal Cert.WdownIdeal.Gen Cert.WdownIdeal.Value

variable (m : (ℓ : Loc nD τ sig) → Buf (Elt Ideal) ℓ) (c : Dev nD)

/-- The rows before the squared relu, as the reference computes them from the kernel's arguments. -/
abbrev act : S4096x4096.Idx → EReal :=
  Cert.WdownRefIdeal.Read.val_main_v15 (F := Ideal) (m ((c : Thread nD τ).loc main_arg0)) (m ((c : Thread nD τ).loc main_arg1)) (m ((c : Thread nD τ).loc main_arg2))
/-- The cotangent of the layer's output rows. -/
abbrev cot : S4096x1024.Idx → EReal := m ((c : Thread nD τ).loc main_arg3)

set_option maxHeartbeats 4000000 in
theorem V_act : (V m c main_v16 : S4096x4096.Idx → EReal) = act m c := by
  entry_read
  rfl

theorem V_cot : (V m c main_arg3 : S4096x1024.Idx → EReal) = cot m c := by
  entry_read
  rfl

theorem idx_rows : ∀ t : Fin grid0.N, win0_0.index t = ![t.val, 0] ∧ win0_1.index t = ![t.val, 0] := by decide +kernel

/-- What row `r` adds to the gradient at row `i` and column `k`. -/
def add (i : Fin 4096) (k : Fin 1024) (r : Fin 4096) : EReal := sq (act m c (ix2 r i)) * cot m c (ix2 r k)

theorem add_block (t : Fin cfg0.N) (i : Fin 4096) (k : Fin 1024) :
    addOf (iblk m c 0 t) (iblk m c 1 t) i k = ∑ r, add m c i k (rowAt t.val r) := by
  have ht : t.val < 8 := lt_of_lt_of_eq t.isLt N_0
  have e0 : ∀ r : Fin 512, iblk m c 0 t (ix2 r i) = act m c (ix2 (rowAt t.val r) i) := fun r => by
    refine Eq.trans ?_ (congrFun (V_act m c) _)
    refine congrArg (V m c main_v16) (funext fun x => Fin.ext ?_)
    match x with
    | ⟨0, _⟩ => show win0_0.index t 0 * 512 + 1 * r.val = (512 * t.val + r.val) % 4096; rw [(idx_rows t).1]; show t.val * 512 + _ = _; omega
    | ⟨1, _⟩ => show win0_0.index t 1 * 4096 + 1 * i.val = i.val; rw [(idx_rows t).1]; show 0 * 4096 + _ = _; omega
  have e1 : ∀ r : Fin 512, iblk m c 1 t (ix2 r k) = cot m c (ix2 (rowAt t.val r) k) := fun r => by
    refine Eq.trans ?_ (congrFun (V_cot m c) _)
    refine congrArg (V m c main_arg3) (funext fun x => Fin.ext ?_)
    match x with
    | ⟨0, _⟩ => show win0_1.index t 0 * 512 + 1 * r.val = (512 * t.val + r.val) % 4096; rw [(idx_rows t).2]; show t.val * 512 + _ = _; omega
    | ⟨1, _⟩ => show win0_1.index t 1 * 1024 + 1 * k.val = k.val; rw [(idx_rows t).2]; show 0 * 1024 + _ = _; omega
  exact Finset.sum_congr rfl fun r _ => congr (congrArg _ (congrArg sq (e0 r))) (e1 r)

/-- After point `n` the sum runs over blocks `0 … n`. -/
theorem fold_eq : ∀ (n : ℕ) (h : 0 + n < cfg0.N),
    ((Pipeline.accAt (fun n h => stAt0 m c n h junk0) (stAt0 m c) 0 n h).2 : S4096x1024.Idx → EReal) = fun y => total (add m c (y 0) (y 1)) n
  | 0, h => by
    rw [Pipeline.accAt_zero]
    refine (step m c ⟨0, h⟩ junk0).trans (funext fun y => ?_)
    rw [total_zero]
    have e : ∀ y, k0_pay4 (F := Ideal) y = 0 := fun y => lit_zero
    exact (congr (congrArg (fun a b : EReal => a + b) (e y)) (add_block m c ⟨0, h⟩ (y 0) (y 1))).trans (zero_add _)
  | n + 1, h => by
    have h8 : 0 + (n + 1) < 8 := lt_of_lt_of_eq h N_0
    have hn : ¬(0 + (n + 1)) % 8 = 0 := by omega
    rw [Pipeline.accAt_succ]
    refine (step m c ⟨0 + (n + 1), h⟩ _).trans (funext fun y => ?_)
    rw [if_neg hn, fold_eq n]
    rw [total_succ]
    exact (congrArg (fun b : EReal => _ + b) (add_block m c ⟨0 + (n + 1), h⟩ (y 0) (y 1))).trans
      (congrArg (fun b => _ + ∑ r, add m c (y 0) (y 1) (rowAt b r)) (zero_add (n + 1)))

/-- The kernel's result. -/
theorem G2_eq : (G2 m c : S4096x1024.Idx → EReal) = fun y => ∑ r, add m c (y 0) (y 1) r := by
  have h7 : 0 + 7 < cfg0.N := lt_of_lt_of_eq (by decide) N_0.symm
  rw [G2_last, Pipeline.accAt_succ]
  refine (out_last m c ⟨0 + 7, h7⟩ _ rfl).trans ?_
  refine ((congrArg Prod.snd (Pipeline.accAt_succ _ _ 0 6 h7)).symm.trans (fold_eq m c 7 h7)).trans (funext fun y => total_last _)

open Cert.WdownRefIdeal.Read in
/-- The reference's result. -/
theorem ref_eq : (val_main_v23 (F := Ideal) (m ((c : Thread nD τ).loc main_arg0)) (m ((c : Thread nD τ).loc main_arg1)) (m ((c : Thread nD τ).loc main_arg2))
    (m ((c : Thread nD τ).loc main_arg3)) : S4096x1024.Idx → EReal) = fun y => ∑ r, add m c (y 0) (y 1) r := by
  funext j
  idx_vars j
  pointwise [val_main_v23, val_main_v22, val_main_v21, val_main_v18, val_main_v17, val_main_call0_v0, val_main_call0_cst, val_main_v16, val_main_v0, val_main_cst]
  exact Finset.sum_congr rfl fun r _ => mul_comm _ _

theorem frame_ref : Cert.quiescent_WdownRefIdeal (hWdownRefIdeal := Cert.WdownRefIdeal.Gen.facts) := fun m ρ _ =>
  (θ_run (Cert.WdownRefIdeal.defs (F := Ideal)) _ _).mono
    (fun r h => ⟨fun c => (h c).2, sem_eq_zero_of_no_sems (by decide) r.2⟩) (Cert.WdownRefIdeal.Value.run m ρ)

theorem algebraic : Cert.algebraic_WdownIdeal_WdownRefIdeal (hWdownIdeal := Cert.WdownIdeal.Gen.facts)
    (hWdownRefIdeal := Cert.WdownRefIdeal.Gen.facts) := by
  intro m ρ m' ρ' _ hag
  refine ⟨fun c => G2 m c, run m ρ, (θ_run _ _ _).mono (fun r h c => ?_) (Cert.WdownRefIdeal.Value.run m' ρ')⟩
  obtain ⟨a0, a1, a2, a3⟩ := hag c
  obtain ⟨r0, kept⟩ := h c
  refine ⟨(r0.trans (Cert.WdownRefIdeal.Read.val_main_v23_eq _ _ _ _)).trans (Eq.trans ?_ ((ref_eq m c).trans (G2_eq m c).symm)), kept⟩
  exact congr (congr (congr (congrArg _ a0) a1) a2) a3

end Step.Wdown

end
-- ==== Proof.Rope.lean ====
/- The rotary embedding's tables: cosines and sines of a row number times a frequency. -/
module

public import proofs.«01_k».proof.Proof.Real

@[expose] public section

set_option maxRecDepth 16384

noncomputable section

namespace Step.Rope

open Idealize.ShloMosaic Step

/-- The frequency with number `f`. -/
def freq (f : ℕ) : ℝ := Real.rpow 500000 (-(f : ℝ) / 8)
/-- The cosine of row `r`'s angle. -/
def C (r f : ℕ) : EReal := ((Real.cos (r * freq f) : ℝ) : EReal)
/-- The sine of row `r`'s angle. -/
def S (r f : ℕ) : EReal := ((Real.sin (r * freq f) : ℝ) : EReal)

theorem base : Ideal.ofBits .f32 0x48F42400#32 = ((500000 : ℝ) : EReal) := by
  simp [Ideal.ofBits, Ideal.ieee, -EReal.coe_mul]; norm_num
theorem eight : Ideal.ofBits .f32 0x41000000#32 = ((8 : ℝ) : EReal) := by
  simp [Ideal.ofBits, Ideal.ieee, -EReal.coe_mul]; norm_num

/-- A small word, read as a number. -/
theorem word {n : ℕ} (h : n < 65536) : FloatOps.sitofp (F := Ideal) .f32 (BitVec.ofNat 32 n) = ((n : ℝ) : EReal) := by
  have e : (BitVec.ofNat 32 n).toInt = n := by
    rw [BitVec.toInt_eq_toNat_of_lt (by rw [BitVec.toNat_ofNat]; omega), BitVec.toNat_ofNat]; omega
  show (((BitVec.ofNat 32 n).toInt : ℝ) : EReal) = _
  rw [e]; rfl

/-- A frequency as both programs compute it. -/
theorem freq_eq {f : ℕ} (h : f < 65536) : Ideal.pow (Ideal.ofBits .f32 0x48F42400#32)
    (Ideal.div (-(FloatOps.sitofp (F := Ideal) .f32 (BitVec.ofNat 32 f))) (Ideal.ofBits .f32 0x41000000#32)) = ((freq f : ℝ) : EReal) := by
  rw [word h, base, eight, ← EReal.coe_neg, div_pos_real _ (by norm_num)]
  rfl

/-- An angle as both programs compute it. -/
theorem angle_eq {r f : ℕ} (hr : r < 65536) (h : f < 65536) : FloatOps.sitofp (F := Ideal) .f32 (BitVec.ofNat 32 r) * Ideal.pow (Ideal.ofBits .f32 0x48F42400#32)
    (Ideal.div (-(FloatOps.sitofp (F := Ideal) .f32 (BitVec.ofNat 32 f))) (Ideal.ofBits .f32 0x41000000#32)) = ((r * freq f : ℝ) : EReal) := by
  rw [freq_eq h, word hr, ← EReal.coe_mul]

/-- The cosine of a row from those of its block's first row and of its place in the block. -/
theorem cos_add (t o f : ℕ) : C (512 * t) f * C o f - S (512 * t) f * S o f = C (512 * t + o) f := by
  have e : (((512 * t + o : ℕ) : ℝ) * freq f) = (((512 * t : ℕ) : ℝ) * freq f) + (o : ℝ) * freq f := by push_cast; ring
  unfold C S
  rw [← EReal.coe_mul, ← EReal.coe_mul, ← EReal.coe_sub, e, Real.cos_add]
/-- The sine of a row likewise. -/
theorem sin_add (t o f : ℕ) : S (512 * t) f * C o f + C (512 * t) f * S o f = S (512 * t + o) f := by
  have e : (((512 * t + o : ℕ) : ℝ) * freq f) = (((512 * t : ℕ) : ℝ) * freq f) + (o : ℝ) * freq f := by push_cast; ring
  unfold C S
  rw [← EReal.coe_mul, ← EReal.coe_mul, ← EReal.coe_add, e, Real.sin_add]

/-- The remainder with the divisor's sign, as the host code computes it on words. -/
def remW (x k : BitVec 32) : BitVec 32 :=
  Scalar.select (IntOp.andi (IntOp.cmpi .ne (IntOp.cmpi .slt (IntOp.remsi .host x (Scalar.select (IntOp.cmpi .eq k 0#32) 1#32 k)) 0#32)
      (IntOp.cmpi .slt (Scalar.select (IntOp.cmpi .eq k 0#32) 1#32 k) 0#32))
    (IntOp.cmpi .ne (IntOp.remsi .host x (Scalar.select (IntOp.cmpi .eq k 0#32) 1#32 k)) 0#32))
    (IntOp.addi (IntOp.remsi .host x (Scalar.select (IntOp.cmpi .eq k 0#32) 1#32 k)) (Scalar.select (IntOp.cmpi .eq k 0#32) 1#32 k))
    (IntOp.remsi .host x (Scalar.select (IntOp.cmpi .eq k 0#32) 1#32 k))

theorem remW_eq : ∀ j : Fin 128, remW (BitVec.ofNat 32 j.val) 64#32 = BitVec.ofNat 32 (j.val % 64) ∧
    remW (remW (BitVec.ofNat 32 j.val) 64#32) 8#32 = BitVec.ofNat 32 (j.val % 8) := by decide +kernel

/-- The angle of the word `x` at column `j` of a group of 128. -/
def angW (x : BitVec 32) (j : Fin 128) : EReal :=
  FloatOps.sitofp (F := Ideal) .f32 x * Ideal.pow (Ideal.ofBits .f32 0x48F42400#32)
    (Ideal.div (-(FloatOps.sitofp (F := Ideal) .f32 (remW (remW (BitVec.ofNat 32 j.val) 64#32) 8#32))) (Ideal.ofBits .f32 0x41000000#32))

theorem angW_eq {x : BitVec 32} {r : ℕ} (hx : x = BitVec.ofNat 32 r) (hr : r < 65536) (j : Fin 128) : angW x j = ((r * freq (j.val % 8) : ℝ) : EReal) := by
  subst hx
  unfold angW
  rw [(remW_eq j).2]
  exact angle_eq hr (by omega)

theorem cosW {x : BitVec 32} {r : ℕ} (hx : x = BitVec.ofNat 32 r) (hr : r < 65536) (j : Fin 128) : Ideal.cos (angW x j) = C r (j.val % 8) :=
  congrArg Ideal.cos (angW_eq hx hr j)
theorem sinW {x : BitVec 32} {r : ℕ} (hx : x = BitVec.ofNat 32 r) (hr : r < 65536) (j : Fin 128) : Ideal.sin (angW x j) = S r (j.val % 8) :=
  congrArg Ideal.sin (angW_eq hx hr j)

theorem mul_one_word : ∀ o : Fin 512, IntOp.muli (BitVec.ofNat 32 o.val) 1#32 = BitVec.ofNat 32 o.val := by decide +kernel
theorem mul_block_word : ∀ t : Fin 8, IntOp.muli (BitVec.ofNat 32 t.val) 512#32 = BitVec.ofNat 32 (512 * t.val) := by decide +kernel

/-- The tests on a column's place in its head. -/
theorem lt16 {α : Type} (j : Fin 128) (a b : α) : Scalar.select (IntOp.cmpi .slt (remW (BitVec.ofNat 32 j.val) 64#32) 16#32) a b = if j.val % 64 < 16 then a else b := by
  have h : ∀ j : Fin 128, (IntOp.cmpi .slt (remW (BitVec.ofNat 32 j.val) 64#32) 16#32 = 1) ↔ j.val % 64 < 16 := by decide +kernel
  exact if_congr (h j) rfl rfl
theorem lt8 {α : Type} (j : Fin 128) (a b : α) : Scalar.select (IntOp.cmpi .slt (remW (BitVec.ofNat 32 j.val) 64#32) 8#32) a b = if j.val % 64 < 8 then a else b := by
  have h : ∀ j : Fin 128, (IntOp.cmpi .slt (remW (BitVec.ofNat 32 j.val) 64#32) 8#32 = 1) ↔ j.val % 64 < 8 := by decide +kernel
  exact if_congr (h j) rfl rfl
theorem mid {α : Type} (j : Fin 128) (a b : α) : Scalar.select (IntOp.andi (IntOp.cmpi .sge (remW (BitVec.ofNat 32 j.val) 64#32) 8#32)
    (IntOp.cmpi .slt (remW (BitVec.ofNat 32 j.val) 64#32) 16#32)) a b = if 8 ≤ j.val % 64 ∧ j.val % 64 < 16 then a else b := by
  have h : ∀ j : Fin 128, (IntOp.andi (IntOp.cmpi .sge (remW (BitVec.ofNat 32 j.val) 64#32) 8#32)
    (IntOp.cmpi .slt (remW (BitVec.ofNat 32 j.val) 64#32) 16#32) = 1) ↔ (8 ≤ j.val % 64 ∧ j.val % 64 < 16) := by decide +kernel
  exact if_congr (h j) rfl rfl

/-- A row of eight heads of 64 columns turned back by row `r`'s angles: the first eight columns of a head and the next
    eight are the two coordinates, the others stay. -/
def back (d : Fin 512 → EReal) (r : ℕ) (k : Fin 512) : EReal :=
  if k.val % 64 < 8 then d k * C r (k.val % 8) + d ⟨(k.val + 8) % 512, by omega⟩ * S r (k.val % 8)
  else if k.val % 64 < 16 then d k * C r (k.val % 8) + -d ⟨k.val - 8, by omega⟩ * S r (k.val % 8)
  else d k

end Step.Rope

end
-- ==== Proof.WinStep.lean ====
/- One grid point of the input projection's weight gradient. -/
module

public import proofs.«01_k».proof.Proof.Rope
public import proofs.«01_k».proof.Proof.Blocks
public import Idealize.ShloMosaic.Lib.Pipeline.ReadBack
public import Idealize.ShloMosaic.Lib.Pipeline.ValueKit.Tiles
public import proofs.«01_k».proof.Proof.Gen.WinIdeal.Value

@[expose] public section

set_option maxRecDepth 16384

noncomputable section

namespace Step.Win

open Idealize.ShloMosaic Idealize.ShloMosaic.TcCoe Idealize.SL.Sem Step Cert.WinIdeal Cert.WinIdeal.Gen Cert.WinIdeal.Value

/-- A column's place in its group of 128. -/
def grp (k : Fin 512) : Fin 128 := ⟨k.val % 128, by omega⟩
/-- The columns eight before and eight after in the same group, the group read as a circle. -/
def prevG (k : Fin 128) : Fin 128 := ⟨(k.val + 128 - 8) % 128, by omega⟩
def nextG (k : Fin 128) : Fin 128 := ⟨(k.val + 128 - 120) % 128, by omega⟩
def prevC (k : Fin 512) : Fin 512 := ⟨128 * (k.val / 128) + (k.val % 128 + 128 - 8) % 128, by omega⟩
def nextC (k : Fin 512) : Fin 512 := ⟨128 * (k.val / 128) + (k.val % 128 + 128 - 120) % 128, by omega⟩

/-- A block of rows turned back by three tables. -/
def turn (a b c : S512x128.Idx → EReal) (d : S512x512.Idx → EReal) (r k : Fin 512) : EReal :=
  d (ix2 r k) * a (ix2 r (grp k)) + d (ix2 r (prevC k)) * b (ix2 r (prevG (grp k))) + d (ix2 r (nextC k)) * c (ix2 r (nextG (grp k)))

/-- What one group of 128 columns, the one from column `o` on, gives at its column `k`. -/
theorem turn_at (a b c : S512x128.Idx → EReal) (d : S512x512.Idx → EReal) (r k : Fin 512) (o : ℕ) (ho : o + 128 ≤ 512) (n : ℕ) (hn : n < 128)
    (hk : k.val = o + n) (h128 : o % 128 = 0) :
    d (ix2 r ⟨o + n, by omega⟩) * a (ix2 r ⟨n, hn⟩) + d (ix2 r ⟨o + (n + 128 - 8) % 128, by omega⟩) * b (ix2 r ⟨(n + 128 - 8) % 128, by omega⟩)
      + d (ix2 r ⟨o + (n + 128 - 120) % 128, by omega⟩) * c (ix2 r ⟨(n + 128 - 120) % 128, by omega⟩) = turn a b c d r k := by
  have e0 : (⟨o + n, by omega⟩ : Fin 512) = k := Fin.ext hk.symm
  have e1 : (⟨n, hn⟩ : Fin 128) = grp k := Fin.ext (by show n = k.val % 128; omega)
  have e2 : (⟨o + (n + 128 - 8) % 128, by omega⟩ : Fin 512) = prevC k := Fin.ext (by show o + (n + 128 - 8) % 128 = 128 * (k.val / 128) + (k.val % 128 + 128 - 8) % 128; omega)
  have e3 : (⟨(n + 128 - 8) % 128, by omega⟩ : Fin 128) = prevG (grp k) := Fin.ext (by show (n + 128 - 8) % 128 = (k.val % 128 + 128 - 8) % 128; omega)
  have e4 : (⟨o + (n + 128 - 120) % 128, by omega⟩ : Fin 512) = nextC k := Fin.ext (by show o + (n + 128 - 120) % 128 = 128 * (k.val / 128) + (k.val % 128 + 128 - 120) % 128; omega)
  have e5 : (⟨(n + 128 - 120) % 128, by omega⟩ : Fin 128) = nextG (grp k) := Fin.ext (by show (n + 128 - 120) % 128 = (k.val % 128 + 128 - 120) % 128; omega)
  rw [e0, e1, e2, e3, e4, e5]
  rfl

/-- The four groups, joined. -/
theorem joined_eq (a b c : S512x128.Idx → EReal) (d : S512x512.Idx → EReal) :
    k0_pay23 (F := Ideal) (k0_pay14 a) (k0_pay15 b) (k0_pay16 c) (k0_pay19 a b c d) (k0_pay20 a b c d) (k0_pay21 a b c d) (k0_pay22 d)
      = fun j => turn a b c d (j 0) (j 1) := by
  funext j
  idx_vars j
  pointwise [k0_pay23, k0_pay22, k0_pay19, k0_pay20, k0_pay21, k0_pay18, k0_pay14, k0_pay15, k0_pay16]
  by_cases h1 : j1.val < 128
  · rw [dif_pos h1]
    have := turn_at a b c d j0 j1 0 (by omega) j1.val h1 (by omega) (by omega)
    simp only [Nat.zero_add] at this
    exact this
  rw [dif_neg h1]
  by_cases h2 : j1.val - 128 < 128
  · rw [dif_pos h2]
    exact turn_at a b c d j0 j1 128 (by omega) (j1.val - 128) h2 (by omega) (by omega)
  rw [dif_neg h2]
  by_cases h3 : j1.val - 128 - 128 < 128
  · rw [dif_pos h3]
    exact turn_at a b c d j0 j1 256 (by omega) (j1.val - 128 - 128) h3 (by omega) (by omega)
  rw [dif_neg h3]
  exact turn_at a b c d j0 j1 384 (by omega) (j1.val - 128 - 128 - 128) (by omega) (by omega) (by omega)

/-- Columns of a product with the block of rows `u`, added to what was there. -/
def addProd {w : ℕ} (u : S512x1024.Idx → EReal) (x : Fin 512 → Fin w → EReal) (z : (⟨2, ![1024, w]⟩ : Shape).Idx → EReal) :
    (⟨2, ![1024, w]⟩ : Shape).Idx → EReal := fun j => z j + ∑ r : Fin 512, u (ix2 r (j 0)) * x r (j 1)

theorem pay35_eq (u : FVec Ideal S512x1024 .bf16) (x : FVec Ideal S512x512 .bf16) (z : FVec Ideal S1024x512 .f32) :
    k0_pay35 (F := Ideal) x u z = addProd u (fun r k => x (ix2 r k)) z := by
  funext j
  idx_vars j
  pointwise [k0_pay35, k0_pay34]
  rfl

theorem pay37_eq (u : FVec Ideal S512x1024 .bf16) (x : FVec Ideal S512x512 .bf16) (z : FVec Ideal S1024x512 .f32) :
    k0_pay1 (F := Ideal) (k0_pay37 x u z) = addProd u (fun r k => x (ix2 r k)) z := by
  funext j
  idx_vars j
  pointwise [k0_pay1, k0_pay37, k0_pay34]
  rfl

theorem first_eq (a b c : FVec Ideal S512x128 .f32) (u : FVec Ideal S512x1024 .bf16) (d : FVec Ideal S512x512 .bf16) (z : FVec Ideal S1024x512 .f32) :
    k0_pay35 (F := Ideal) (k0_pay23 (F := Ideal) (k0_pay14 a) (k0_pay15 b) (k0_pay16 c) (k0_pay19 a b c d) (k0_pay20 a b c d) (k0_pay21 a b c d) (k0_pay22 d)) u z
      = addProd u (turn a b c d) z := by
  rw [joined_eq, pay35_eq]
  rfl

theorem pay36_eq (a b c : FVec Ideal S512x128 .f32) (u : FVec Ideal S512x1024 .bf16) (d : FVec Ideal S512x512 .bf16) (z : FVec Ideal S1024x512 .f32) :
    k0_pay36 (F := Ideal) (k0_pay25 (k0_pay14 a) (k0_pay15 b) (k0_pay16 c) d) (k0_pay26 (k0_pay14 a) (k0_pay15 b) (k0_pay16 c) d)
      (k0_pay27 (k0_pay14 a) (k0_pay15 b) (k0_pay16 c) d) (k0_pay29 (k0_pay14 a) (k0_pay15 b) d) (k0_pay30 (k0_pay16 c) d) u z
      = addProd u (turn a b c d) z := first_eq a b c u d z

theorem pay2_eq (u : FVec Ideal S512x1024 .bf16) (x : FVec Ideal S512x768 .bf16) (z : FVec Ideal S1024x768 .f32) :
    k0_pay2 (F := Ideal) (k0_pay31 x) (k0_pay34 u) z = addProd u (fun r k => x (ix2 r k)) z := by
  funext j
  idx_vars j
  pointwise [k0_pay2, k0_pay31, k0_pay34]
  rfl
theorem pay3_eq (u : FVec Ideal S512x1024 .bf16) (x : FVec Ideal S512x768 .bf16) (z : FVec Ideal S1024x768 .f32) :
    k0_pay3 (F := Ideal) (k0_pay32 x) (k0_pay34 u) z = addProd u (fun r k => x (ix2 r k)) z := pay2_eq u x z
theorem pay4_eq (u : FVec Ideal S512x1024 .bf16) (x : FVec Ideal S512x768 .bf16) (z : FVec Ideal S1024x768 .f32) :
    k0_pay4 (F := Ideal) (k0_pay33 x) (k0_pay34 u) z = addProd u (fun r k => x (ix2 r k)) z := pay2_eq u x z

variable (a b c : S512x128.Idx → EReal) (u : S512x1024.Idx → EReal) (dq dk dv : S512x512.Idx → EReal) (dm : S512x2304.Idx → EReal)

/-- A block of the projection's cotangent, its columns side by side. -/
def cotOf (r : Fin 512) (k : Fin 3840) : EReal :=
  if h : k.val < 512 then turn a b c dq r ⟨k.val, h⟩
  else if h1 : k.val < 1024 then turn a b c dk r ⟨k.val - 512, by omega⟩
  else if h2 : k.val < 1536 then dv (ix2 r ⟨k.val - 1024, by omega⟩)
  else dm (ix2 r ⟨k.val - 1536, by omega⟩)

/-- What a block of rows adds at row `i` and column `k`. -/
def addOf (i : Fin 1024) (k : Fin 3840) : EReal := ∑ r, u (ix2 r i) * cotOf a b c dq dk dv dm r k

/-- The columns from `o` on, one block of rows added. -/
def cols (z : S1024x3840.Idx → EReal) (o w : ℕ) (ho : o + w ≤ 3840) : (⟨2, ![1024, w]⟩ : Shape).Idx → EReal := fun j =>
  z (ix2 (j 0) (⟨o + (j 1).val, by have : (j 1).val < w := (j 1).isLt; omega⟩ : Fin 3840))
    + addOf a b c u dq dk dv dm (j 0) (⟨o + (j 1).val, by have : (j 1).val < w := (j 1).isLt; omega⟩ : Fin 3840)

theorem cols_eq (z : S1024x3840.Idx → EReal) (o w : ℕ) (ho : o + w ≤ 3840) (x : Fin 512 → Fin w → EReal)
    (hx : ∀ (r : Fin 512) (k : Fin w), x r k = cotOf a b c dq dk dv dm r ⟨o + k.val, by omega⟩)
    (iz : ∀ x, (![0, o] : Fin 2 → ℕ) x + (⟨2, ![1024, w]⟩ : Shape).size x ≤ S1024x3840.size x) :
    addProd u x (View.ld (Val := Elt Ideal) (e' := .f32) z (Rect.unit (s := S1024x3840) ![0, o] (⟨2, ![1024, w]⟩ : Shape).size iz)) = cols a b c u dq dk dv dm z o w ho := by
  funext j
  have e : ∑ r, u (ix2 r (j 0)) * x r (j 1) = addOf a b c u dq dk dv dm (j 0) (⟨o + (j 1).val, by have : (j 1).val < w := (j 1).isLt; omega⟩ : Fin 3840) :=
    Finset.sum_congr rfl fun r _ => congrArg (fun e => u (ix2 r (j 0)) * e) (hx r (j 1))
  refine (congrArg (fun s : EReal => z _ + s) e).trans (congrArg (fun s : EReal => s + _) (congrArg z (funext fun x => Fin.ext ?_)))
  match x with
  | ⟨0, _⟩ => show 0 + 1 * (j 0).val = (j 0).val; omega
  | ⟨1, _⟩ => show o + 1 * (j 1).val = o + (j 1).val; omega

theorem cot_q (r k : Fin 512) : turn a b c dq r k = cotOf a b c dq dk dv dm r ⟨0 + k.val, by omega⟩ := by
  unfold cotOf
  rw [dif_pos (by show 0 + k.val < 512; omega)]
  exact congrArg (turn a b c dq r) (Fin.ext (by show k.val = 0 + k.val; omega))
theorem cot_k (r k : Fin 512) : turn a b c dk r k = cotOf a b c dq dk dv dm r ⟨512 + k.val, by omega⟩ := by
  unfold cotOf
  rw [dif_neg (by show ¬512 + k.val < 512; omega), dif_pos (by show 512 + k.val < 1024; omega)]
  exact congrArg (turn a b c dk r) (Fin.ext (by show k.val = 512 + k.val - 512; omega))
theorem cot_v (r k : Fin 512) : dv (ix2 r k) = cotOf a b c dq dk dv dm r ⟨1024 + k.val, by omega⟩ := by
  unfold cotOf
  rw [dif_neg (by show ¬1024 + k.val < 512; omega), dif_neg (by show ¬1024 + k.val < 1024; omega), dif_pos (by show 1024 + k.val < 1536; omega)]
  exact congrArg (fun k => dv (ix2 r k)) (Fin.ext (by show k.val = 1024 + k.val - 1024; omega))
theorem cot_m (o : ℕ) (ho : o + 768 ≤ 2304) (p : ℕ) (hp : p = 1536 + o) (id : ∀ x, (![0, o] : Fin 2 → ℕ) x + S512x768.size x ≤ S512x2304.size x) (r : Fin 512) (k : Fin 768) :
    View.ld (Val := Elt Ideal) (e' := .bf16) dm (Rect.unit (s := S512x2304) ![0, o] S512x768.size id) (ix2 r k) = cotOf a b c dq dk dv dm r ⟨p + k.val, by omega⟩ := by
  subst hp
  unfold cotOf
  rw [dif_neg (by show ¬1536 + o + k.val < 512; omega), dif_neg (by show ¬1536 + o + k.val < 1024; omega), dif_neg (by show ¬1536 + o + k.val < 1536; omega)]
  refine congrArg dm (funext fun x => Fin.ext ?_)
  match x with
  | ⟨0, _⟩ => show 0 + 1 * r.val = r.val; omega
  | ⟨1, _⟩ => show o + 1 * k.val = 1536 + o + k.val - 1536; omega

theorem cols_at (z : S1024x3840.Idx → EReal) (y : S1024x3840.Idx) (i : Fin 1024) (k : Fin 3840) (hi : i = y 0) (hk : k = y 1) :
    z (ix2 i k) + addOf a b c u dq dk dv dm i k = z y + addOf a b c u dq dk dv dm (y 0) (y 1) := by
  subst hi hk
  exact congrArg (fun e : EReal => e + _) (congrArg z (eq_ix2 y).symm)

theorem mem_cols (y : S1024x3840.Idx) (o w : ℕ) (iz : ∀ x, (![0, o] : Fin 2 → ℕ) x + (![1024, w] : Fin 2 → ℕ) x ≤ S1024x3840.size x)
    (h : o ≤ (y 1).val ∧ (y 1).val < o + w) : y ∈ (Rect.unit (s := S1024x3840) ![0, o] ![1024, w] iz).set := by
  rw [Rect.mem_set_unit]
  have h1 : (y 0).val < 1024 := (y 0).isLt
  intro x
  match x with
  | ⟨0, _⟩ => show 0 ≤ (y 0).val ∧ (y 0).val < 0 + 1024; omega
  | ⟨1, _⟩ => exact h

/-- The six groups of columns, over whatever was stored before, are the whole. -/
theorem canon_cols (z : S1024x3840.Idx → EReal) (L : List (View.Piece (Elt Ideal) S1024x3840 .f32)) :
    View.canon (Val := Elt Ideal) (s := S1024x3840) (e := .f32)
      (⟨Rect.unit ![0, 3072] ![1024, 768] inb_S1024x3840_S1024x768_0_3072, cols a b c u dq dk dv dm z 3072 768 (by omega)⟩ ::
        ⟨Rect.unit ![0, 2304] ![1024, 768] inb_S1024x3840_S1024x768_0_2304, cols a b c u dq dk dv dm z 2304 768 (by omega)⟩ ::
        ⟨Rect.unit ![0, 1536] ![1024, 768] inb_S1024x3840_S1024x768_0_1536, cols a b c u dq dk dv dm z 1536 768 (by omega)⟩ ::
        ⟨Rect.unit ![0, 1024] ![1024, 512] inb_S1024x3840_S1024x512_0_1024, cols a b c u dq dk dv dm z 1024 512 (by omega)⟩ ::
        ⟨Rect.unit ![0, 512] ![1024, 512] inb_S1024x3840_S1024x512_0_512, cols a b c u dq dk dv dm z 512 512 (by omega)⟩ ::
        ⟨Rect.unit ![0, 0] ![1024, 512] inb_S1024x3840_S1024x512_0_0, cols a b c u dq dk dv dm z 0 512 (by omega)⟩ :: L)
      = fun y => z y + addOf a b c u dq dk dv dm (y 0) (y 1) := by
  have at_ : ∀ (o w : ℕ) (ho : o + w ≤ 3840) (iz : ∀ x, (![0, o] : Fin 2 → ℕ) x + (![1024, w] : Fin 2 → ℕ) x ≤ S1024x3840.size x) (x : (⟨2, ![1024, w]⟩ : Shape).Idx),
      cols a b c u dq dk dv dm z o w ho x
        = (fun y => z y + addOf a b c u dq dk dv dm (y 0) (y 1)) ((Rect.unit (s := S1024x3840) ![0, o] ![1024, w] iz).emb x) := fun o w ho iz x =>
    cols_at a b c u dq dk dv dm z _ (x 0) ⟨o + (x 1).val, _⟩ (Fin.ext (by show (x 0).val = 0 + 1 * (x 0).val; omega))
      (Fin.ext (by show o + (x 1).val = o + 1 * (x 1).val; omega))
  funext y
  refine View.canon_append_of_piecesOf (Val := Elt Ideal) (fun y => z y + addOf a b c u dq dk dv dm (y 0) (y 1)) L [⟨_, _⟩, ⟨_, _⟩, ⟨_, _⟩, ⟨_, _⟩, ⟨_, _⟩, ⟨_, _⟩]
    ⟨fun x => ?_, fun x => ?_, fun x => ?_, fun x => ?_, fun x => ?_, fun x => ?_, trivial⟩ y ?_
  · exact at_ 3072 768 (by omega) inb_S1024x3840_S1024x768_0_3072 x
  · exact at_ 2304 768 (by omega) inb_S1024x3840_S1024x768_0_2304 x
  · exact at_ 1536 768 (by omega) inb_S1024x3840_S1024x768_0_1536 x
  · exact at_ 1024 512 (by omega) inb_S1024x3840_S1024x512_0_1024 x
  · exact at_ 512 512 (by omega) inb_S1024x3840_S1024x512_0_512 x
  · exact at_ 0 512 (by omega) inb_S1024x3840_S1024x512_0_0 x
  have h0 : (y 1).val < 3840 := (y 1).isLt
  by_cases h3 : 3072 ≤ (y 1).val
  · exact ⟨_, .head _, mem_cols y 3072 768 inb_S1024x3840_S1024x768_0_3072 (by omega)⟩
  by_cases h2 : 2304 ≤ (y 1).val
  · exact ⟨_, .tail _ (.head _), mem_cols y 2304 768 inb_S1024x3840_S1024x768_0_2304 (by omega)⟩
  by_cases h1 : 1536 ≤ (y 1).val
  · exact ⟨_, .tail _ (.tail _ (.head _)), mem_cols y 1536 768 inb_S1024x3840_S1024x768_0_1536 (by omega)⟩
  by_cases h4 : 1024 ≤ (y 1).val
  · exact ⟨_, .tail _ (.tail _ (.tail _ (.head _))), mem_cols y 1024 512 inb_S1024x3840_S1024x512_0_1024 (by omega)⟩
  by_cases h5 : 512 ≤ (y 1).val
  · exact ⟨_, .tail _ (.tail _ (.tail _ (.tail _ (.head _)))), mem_cols y 512 512 inb_S1024x3840_S1024x512_0_512 (by omega)⟩
  · exact ⟨_, .tail _ (.tail _ (.tail _ (.tail _ (.tail _ (.head _))))), mem_cols y 0 512 inb_S1024x3840_S1024x512_0_0 (by omega)⟩

variable (m : (ℓ : Loc nD τ sig) → Buf (Elt Ideal) ℓ) (c' : Dev nD)

theorem step (t : Fin cfg0.N) (acc : Vec Ideal S8x1024x449 .bf16 × Vec Ideal S1024x3840 .f32) :
    (stAt0 m c' t.val t.isLt acc).2 = fun j => (show EReal from (if t.val % 8 = 0 then k0_pay17 (F := Ideal) else acc.2) j)
      + addOf (iblk m c' 5 t) (iblk m c' 6 t) (iblk m c' 7 t) (iblk m c' 0 t) (iblk m c' 1 t) (iblk m c' 2 t) (iblk m c' 3 t) (iblk m c' 4 t) (j 0) (j 1) := by
  have kq := cot_q (iblk m c' 5 t) (iblk m c' 6 t) (iblk m c' 7 t) (iblk m c' 1 t) (iblk m c' 2 t) (iblk m c' 3 t) (iblk m c' 4 t)
  have kk := cot_k (iblk m c' 5 t) (iblk m c' 6 t) (iblk m c' 7 t) (iblk m c' 1 t) (iblk m c' 2 t) (iblk m c' 3 t) (iblk m c' 4 t)
  have kv := cot_v (iblk m c' 5 t) (iblk m c' 6 t) (iblk m c' 7 t) (iblk m c' 1 t) (iblk m c' 2 t) (iblk m c' 3 t) (iblk m c' 4 t)
  have km := cot_m (iblk m c' 5 t) (iblk m c' 6 t) (iblk m c' 7 t) (iblk m c' 1 t) (iblk m c' 2 t) (iblk m c' 3 t) (iblk m c' 4 t)
  by_cases h0 : t.val % 8 = 0
  · rw [stAt0_A m c' t acc h0 (by omega), if_pos h0]
    dsimp only
    frame_out [↓View.readCov_skip, ↓View.readCov_fill]
    simp only [first_eq, pay36_eq, pay37_eq, pay2_eq, pay3_eq, pay4_eq]
    rw [cols_eq _ _ _ _ _ _ _ _ _ 0 512 (by omega) _ kq, cols_eq _ _ _ _ _ _ _ _ _ 512 512 (by omega) _ kk, cols_eq _ _ _ _ _ _ _ _ _ 1024 512 (by omega) _ kv,
      cols_eq _ _ _ _ _ _ _ _ _ 1536 768 (by omega) _ (km 0 (by omega) 1536 rfl _), cols_eq _ _ _ _ _ _ _ _ _ 2304 768 (by omega) _ (km 768 (by omega) 2304 rfl _),
      cols_eq _ _ _ _ _ _ _ _ _ 3072 768 (by omega) _ (km 1536 (by omega) 3072 rfl _)]
    exact canon_cols _ _ _ _ _ _ _ _ _ _
  · rw [if_neg h0]
    by_cases h1 : t.val % 8 = 7
    all_goals
      first
        | rw [stAt0_C m c' t acc h0 h1]
        | rw [stAt0_B m c' t acc h0 h1]
      dsimp only
      frame_out
      simp only [first_eq, pay36_eq, pay37_eq, pay2_eq, pay3_eq, pay4_eq, read_unread_whole]
      rw [cols_eq _ _ _ _ _ _ _ _ _ 0 512 (by omega) _ kq, cols_eq _ _ _ _ _ _ _ _ _ 512 512 (by omega) _ kk, cols_eq _ _ _ _ _ _ _ _ _ 1024 512 (by omega) _ kv,
        cols_eq _ _ _ _ _ _ _ _ _ 1536 768 (by omega) _ (km 0 (by omega) 1536 rfl _), cols_eq _ _ _ _ _ _ _ _ _ 2304 768 (by omega) _ (km 768 (by omega) 2304 rfl _),
        cols_eq _ _ _ _ _ _ _ _ _ 3072 768 (by omega) _ (km 1536 (by omega) 3072 rfl _)]
      exact canon_cols _ _ _ _ _ _ _ _ _ _

/-- A slice of 449 columns as the kernel casts and stores it. -/
theorem cast_eq (v : FVec Ideal S1024x449 .f32) : (k0_pay8 (F := Ideal) v : S1x1024x449.Idx → EReal) = fun j => v (ix2 (j 1) (j 2)) := by
  funext j
  idx_vars j
  pointwise [k0_pay8]

/-- The column of the eight slices joined. -/
def colAt (q : Fin 8) (k : Fin 449) : Fin 3840 := ⟨449 * q.val + k.val, by omega⟩

theorem mem_slab (y : S8x1024x449.Idx) (q : ℕ) (iz : ∀ x, (![q, 0, 0] : Fin 3 → ℕ) x + (![1, 1024, 449] : Fin 3 → ℕ) x ≤ S8x1024x449.size x)
    (h : (y 0).val = q) : y ∈ (Rect.unit (s := S8x1024x449) ![q, 0, 0] ![1, 1024, 449] iz).set := by
  rw [Rect.mem_set_unit]
  have h1 : (y 1).val < 1024 := (y 1).isLt
  have h2 : (y 2).val < 449 := (y 2).isLt
  intro x
  match x with
  | ⟨0, _⟩ => show q ≤ (y 0).val ∧ (y 0).val < q + 1; omega
  | ⟨1, _⟩ => show 0 ≤ (y 1).val ∧ (y 1).val < 0 + 1024; omega
  | ⟨2, _⟩ => show 0 ≤ (y 2).val ∧ (y 2).val < 0 + 449; omega

/-- The last point casts the sum and leaves it, in eight slices of columns. -/
theorem out_last (t : Fin cfg0.N) (acc : Vec Ideal S8x1024x449 .bf16 × Vec Ideal S1024x3840 .f32) (h1 : t.val % 8 = 7) :
    ((stAt0 m c' t.val t.isLt acc).1 : S8x1024x449.Idx → EReal) = fun y => (stAt0 m c' t.val t.isLt acc).2 (ix2 (y 1) (colAt (y 0) (y 2))) := by
  rw [stAt0_C m c' t acc (by omega) h1]
  dsimp only
  frame_out
  simp only [View.readCov_eq_canon']
  generalize View.canon (Val := Elt Ideal) (s := S1024x3840) (e := .f32) _ = z
  have at_ : ∀ (q o : ℕ) (ho : o = 449 * q) (iz : ∀ x, (![0, o] : Fin 2 → ℕ) x + (![1024, 449] : Fin 2 → ℕ) x ≤ S1024x3840.size x)
      (iy : ∀ x, (![q, 0, 0] : Fin 3 → ℕ) x + (![1, 1024, 449] : Fin 3 → ℕ) x ≤ S8x1024x449.size x) (x : S1x1024x449.Idx),
      k0_pay8 (F := Ideal) (fun j => z ((Rect.unit (s := S1024x3840) ![0, o] ![1024, 449] iz).idx j)) x
        = (fun y : S8x1024x449.Idx => z (ix2 (y 1) (colAt (y 0) (y 2)))) ((Rect.unit (s := S8x1024x449) ![q, 0, 0] ![1, 1024, 449] iy).emb x) := by
    intro q o ho iz iy x
    have : (x 0).val < 1 := (x 0).isLt
    rw [cast_eq]
    refine congrArg z (funext fun d => Fin.ext ?_)
    match d with
    | ⟨0, _⟩ => show 0 + 1 * (x 1).val = 0 + 1 * (x 1).val; omega
    | ⟨1, _⟩ => show o + 1 * (x 2).val = 449 * (q + 1 * (x 0).val) + (0 + 1 * (x 2).val); omega
  funext y
  refine View.canon_append_of_piecesOf (Val := Elt Ideal) (fun y => z (ix2 (y 1) (colAt (y 0) (y 2)))) [] [⟨_, _⟩, ⟨_, _⟩, ⟨_, _⟩, ⟨_, _⟩, ⟨_, _⟩, ⟨_, _⟩, ⟨_, _⟩, ⟨_, _⟩]
    ⟨fun x => ?_, fun x => ?_, fun x => ?_, fun x => ?_, fun x => ?_, fun x => ?_, fun x => ?_, fun x => ?_, trivial⟩ y ?_
  · exact at_ 7 3143 rfl inb_S1024x3840_S1024x449_0_3143 inb_S8x1024x449_S1x1024x449_7_0_0 x
  · exact at_ 6 2694 rfl inb_S1024x3840_S1024x449_0_2694 inb_S8x1024x449_S1x1024x449_6_0_0 x
  · exact at_ 5 2245 rfl inb_S1024x3840_S1024x449_0_2245 inb_S8x1024x449_S1x1024x449_5_0_0 x
  · exact at_ 4 1796 rfl inb_S1024x3840_S1024x449_0_1796 inb_S8x1024x449_S1x1024x449_4_0_0 x
  · exact at_ 3 1347 rfl inb_S1024x3840_S1024x449_0_1347 inb_S8x1024x449_S1x1024x449_3_0_0 x
  · exact at_ 2 898 rfl inb_S1024x3840_S1024x449_0_898 inb_S8x1024x449_S1x1024x449_2_0_0 x
  · exact at_ 1 449 rfl inb_S1024x3840_S1024x449_0_449 inb_S8x1024x449_S1x1024x449_1_0_0 x
  · exact at_ 0 0 rfl inb_S1024x3840_S1024x449_0_0 inb_S8x1024x449_S1x1024x449_0_0_0 x
  have h0 : (y 0).val < 8 := (y 0).isLt
  have h : (y 0).val = 7 ∨ (y 0).val = 6 ∨ (y 0).val = 5 ∨ (y 0).val = 4 ∨ (y 0).val = 3 ∨ (y 0).val = 2 ∨ (y 0).val = 1 ∨ (y 0).val = 0 := by omega
  rcases h with h | h | h | h | h | h | h | h
  · exact ⟨_, .head _, mem_slab y 7 inb_S8x1024x449_S1x1024x449_7_0_0 h⟩
  · exact ⟨_, .tail _ (.head _), mem_slab y 6 inb_S8x1024x449_S1x1024x449_6_0_0 h⟩
  · exact ⟨_, .tail _ (.tail _ (.head _)), mem_slab y 5 inb_S8x1024x449_S1x1024x449_5_0_0 h⟩
  · exact ⟨_, .tail _ (.tail _ (.tail _ (.head _))), mem_slab y 4 inb_S8x1024x449_S1x1024x449_4_0_0 h⟩
  · exact ⟨_, .tail _ (.tail _ (.tail _ (.tail _ (.head _)))), mem_slab y 3 inb_S8x1024x449_S1x1024x449_3_0_0 h⟩
  · exact ⟨_, .tail _ (.tail _ (.tail _ (.tail _ (.tail _ (.head _))))), mem_slab y 2 inb_S8x1024x449_S1x1024x449_2_0_0 h⟩
  · exact ⟨_, .tail _ (.tail _ (.tail _ (.tail _ (.tail _ (.tail _ (.head _)))))), mem_slab y 1 inb_S8x1024x449_S1x1024x449_1_0_0 h⟩
  · exact ⟨_, .tail _ (.tail _ (.tail _ (.tail _ (.tail _ (.tail _ (.tail _ (.head _))))))), mem_slab y 0 inb_S8x1024x449_S1x1024x449_0_0_0 h⟩

end Step.Win

end
-- ==== Proof.WinRead.lean ====
/- The arrays the input projection's weight gradient reads: the normalised rows, the cotangents and
   the rotary tables. -/
module

public import proofs.«01_k».proof.Proof.WinStep
public import proofs.«01_k».proof.Proof.Gen.WinRefIdeal.Run
public import proofs.«01_k».proof.Proof.Gen.WinRefIdeal.Read

@[expose] public section

set_option maxRecDepth 16384

noncomputable section

namespace Step.Win

open Idealize.ShloMosaic Idealize.ShloMosaic.TcCoe Idealize.SL.Sem Step Cert.WinIdeal Cert.WinIdeal.Gen Cert.WinIdeal.Value

variable (m : (ℓ : Loc nD τ sig) → Buf (Elt Ideal) ℓ) (c : Dev nD)

/-- The normalised rows, as the reference computes them from the kernel's arguments. -/
abbrev act : S4096x1024.Idx → EReal :=
  Cert.WinRefIdeal.Read.val_main_v14 (F := Ideal) (m ((c : Thread nD τ).loc main_arg0)) (m ((c : Thread nD τ).loc main_arg1))
/-- The cotangents of the queries, the keys, the values and the other columns. -/
abbrev cq : S4096x512.Idx → EReal := m ((c : Thread nD τ).loc main_arg2)
abbrev ck : S4096x512.Idx → EReal := m ((c : Thread nD τ).loc main_arg3)
abbrev cv : S4096x512.Idx → EReal := m ((c : Thread nD τ).loc main_arg4)
abbrev cm : S4096x2056.Idx → EReal := m ((c : Thread nD τ).loc main_arg5)

/-- The last of them with columns of zeros after it. -/
def cmPad : S4096x2304.Idx → EReal := fun y => if h : (y 1).val < 2056 then cm m c (ix2 (y 0) ⟨(y 1).val, h⟩) else 0

/-- The rotary tables: what a column is multiplied by where it stands, and before it moves on and back by eight. -/
def tabC (r : ℕ) (k : Fin 128) : EReal := if k.val % 64 < 16 then Rope.C r (k.val % 8) else 1
def tabA (r : ℕ) (k : Fin 128) : EReal := if k.val % 64 < 8 then -Rope.S r (k.val % 8) else 0
def tabB (r : ℕ) (k : Fin 128) : EReal := if 8 ≤ k.val % 64 ∧ k.val % 64 < 16 then Rope.S r (k.val % 8) else 0

set_option maxHeartbeats 4000000 in
theorem V_act : (V m c main_v13 : S4096x1024.Idx → EReal) = act m c := by
  simp only [V, hostOps0, hostOps0_1, hostOps0_2, hostOps0_3, hostOps0_4, hostOps0_5, hostOps0_6, hostOps0_7, hostOps0_8, hostOps0_9, hostOps0_10, hostOps0_11,
    hostOps0_12, hostOps0_13, hostOps0_14, hostOps0_15, hostOps0_16, hostOps0_17, List.flatten_cons, List.flatten_nil, List.append_nil, List.cons_append, List.nil_append]
  entry_read
  rfl

set_option maxHeartbeats 4000000 in
theorem V_cot : (V m c main_v14 : S4096x512.Idx → EReal) = cq m c ∧ (V m c main_v15 : S4096x512.Idx → EReal) = ck m c ∧ (V m c main_v16 : S4096x512.Idx → EReal) = cv m c := by
  simp only [V, hostOps0, hostOps0_1, hostOps0_2, hostOps0_3, hostOps0_4, hostOps0_5, hostOps0_6, hostOps0_7, hostOps0_8, hostOps0_9, hostOps0_10, hostOps0_11,
    hostOps0_12, hostOps0_13, hostOps0_14, hostOps0_15, hostOps0_16, hostOps0_17, List.flatten_cons, List.flatten_nil, List.append_nil, List.cons_append, List.nil_append]
  refine ⟨?_, ?_, ?_⟩
  all_goals
    entry_read
    rfl

theorem pad_eq (e : S4096x2056.Idx → EReal) :
    (pad S4096x2304 ![0, 0] ![0, 248] ![0, 0] (e : FVec Ideal S4096x2056 .bf16) (sitofp (F := Ideal) .bf16 (constantI S_ 32 0#32)) pads_S4096x2056_S4096x2304_000_02480 h_S_ : S4096x2304.Idx → EReal)
      = fun y => if h : (y 1).val < 2056 then e (ix2 (y 0) ⟨(y 1).val, h⟩) else 0 := by
  have z : FloatOps.sitofp (F := Ideal) .bf16 0#32 = 0 := by
    show (((0#32 : BitVec 32).toInt : ℝ) : EReal) = 0
    simp
  funext j
  idx_vars j
  pointwise
  rw [z]

set_option maxHeartbeats 1000000 in
theorem V_pad : (V m c main_v18 : S4096x2304.Idx → EReal) = cmPad m c := by
  refine Eq.trans (b := pad S4096x2304 ![0, 0] ![0, 248] ![0, 0] (m ((c : Thread nD τ).loc main_arg5) : S4096x2056.Idx → EReal) (sitofp (F := Ideal) .bf16 (constantI S_ 32 0#32)) pads_S4096x2056_S4096x2304_000_02480 h_S_) ?_ ?_
  · simp only [V, hostOps0, hostOps0_1, hostOps0_2, hostOps0_3, hostOps0_4, hostOps0_5, hostOps0_6, hostOps0_7, hostOps0_8, hostOps0_9, hostOps0_10, hostOps0_11,
      hostOps0_12, hostOps0_13, hostOps0_14, hostOps0_15, hostOps0_16, hostOps0_17, List.flatten_cons, List.flatten_nil, List.append_nil, List.cons_append, List.nil_append]
    entry_read
    rfl
  · exact pad_eq _

set_option maxHeartbeats 1000000 in
/-- The remainders the tables are built from, one after another. -/
theorem V_rem : (V m c main_v20 : S512x128.Idx → BitVec 32) = (fun y => Rope.remW (BitVec.ofNat 32 (y 1).val) 64#32)
    ∧ (V m c main_v25 : S512x128.Idx → BitVec 32) = (fun y => Rope.remW ((V m c main_v20 : S512x128.Idx → BitVec 32) y) 8#32)
    ∧ (V m c main_v36 : S8x128.Idx → BitVec 32) = (fun y => Rope.remW (BitVec.ofNat 32 (y 1).val) 64#32)
    ∧ (V m c main_v41 : S8x128.Idx → BitVec 32) = (fun y => Rope.remW ((V m c main_v36 : S8x128.Idx → BitVec 32) y) 8#32)
    ∧ (V m c main_v52 : S4096x128.Idx → BitVec 32) = (fun y => Rope.remW (BitVec.ofNat 32 (y 1).val) 64#32) := by
  simp only [V, hostOps0, hostOps0_1, hostOps0_2, hostOps0_3, hostOps0_4, hostOps0_5, hostOps0_6, hostOps0_7, hostOps0_8, hostOps0_9, hostOps0_10, hostOps0_11,
    hostOps0_12, hostOps0_13, hostOps0_14, hostOps0_15, hostOps0_16, hostOps0_17, List.flatten_cons, List.flatten_nil, List.append_nil, List.cons_append, List.nil_append]
  refine ⟨?_, ?_, ?_, ?_, ?_⟩
  all_goals
    entry_read
    rfl

set_option maxHeartbeats 1000000 in
/-- The angles. -/
theorem V_ang : (V m c main_v32 : S512x128.Idx → EReal) = (fun y => FloatOps.sitofp (F := Ideal) .f32 (IntOp.muli (BitVec.ofNat 32 (y 0).val) 1#32) * Ideal.pow (Ideal.ofBits .f32 0x48F42400#32)
    (Ideal.div (-(FloatOps.sitofp (F := Ideal) .f32 ((V m c main_v25 : S512x128.Idx → BitVec 32) y))) (Ideal.ofBits .f32 0x41000000#32)))
    ∧ (V m c main_v48 : S8x128.Idx → EReal) = (fun y => FloatOps.sitofp (F := Ideal) .f32 (IntOp.muli (BitVec.ofNat 32 (y 0).val) 512#32) * Ideal.pow (Ideal.ofBits .f32 0x48F42400#32)
    (Ideal.div (-(FloatOps.sitofp (F := Ideal) .f32 ((V m c main_v41 : S8x128.Idx → BitVec 32) y))) (Ideal.ofBits .f32 0x41000000#32))) := by
  simp only [V, hostOps0, hostOps0_1, hostOps0_2, hostOps0_3, hostOps0_4, hostOps0_5, hostOps0_6, hostOps0_7, hostOps0_8, hostOps0_9, hostOps0_10, hostOps0_11,
    hostOps0_12, hostOps0_13, hostOps0_14, hostOps0_15, hostOps0_16, hostOps0_17, List.flatten_cons, List.flatten_nil, List.append_nil, List.cons_append, List.nil_append]
  refine ⟨?_, ?_⟩
  all_goals
    entry_read
    rfl

/-- A row's place in its block, and its block. -/
def inB (r : Fin 4096) : Fin 512 := ⟨r.val % 512, by omega⟩
def blk (r : Fin 4096) : Fin 8 := ⟨r.val / 512, by omega⟩

/-- The cosines and sines of a block's rows and of the blocks' first rows. -/
abbrev ci : S512x128.Idx → EReal := V m c main_v33
abbrev si : S512x128.Idx → EReal := V m c main_v34
abbrev cb : S8x128.Idx → EReal := V m c main_v49
abbrev sb : S8x128.Idx → EReal := V m c main_v50

set_option maxHeartbeats 1000000 in
/-- Their cosines and sines. -/
theorem V_trig : ci m c = (fun y => Ideal.cos ((V m c main_v32 : S512x128.Idx → EReal) y))
    ∧ si m c = (fun y => Ideal.sin ((V m c main_v32 : S512x128.Idx → EReal) y))
    ∧ cb m c = (fun y => Ideal.cos ((V m c main_v48 : S8x128.Idx → EReal) y))
    ∧ sb m c = (fun y => Ideal.sin ((V m c main_v48 : S8x128.Idx → EReal) y)) := by
  simp only [ci, si, cb, sb, V, hostOps0, hostOps0_1, hostOps0_2, hostOps0_3, hostOps0_4, hostOps0_5, hostOps0_6, hostOps0_7, hostOps0_8, hostOps0_9, hostOps0_10, hostOps0_11,
    hostOps0_12, hostOps0_13, hostOps0_14, hostOps0_15, hostOps0_16, hostOps0_17, List.flatten_cons, List.flatten_nil, List.append_nil, List.cons_append, List.nil_append]
  refine ⟨?_, ?_, ?_, ?_⟩
  all_goals
    entry_read
    rfl

theorem V_angles : ci m c = (fun y => Ideal.cos (Rope.angW (IntOp.muli (BitVec.ofNat 32 (y 0).val) 1#32) (y 1)))
    ∧ si m c = (fun y => Ideal.sin (Rope.angW (IntOp.muli (BitVec.ofNat 32 (y 0).val) 1#32) (y 1)))
    ∧ cb m c = (fun y => Ideal.cos (Rope.angW (IntOp.muli (BitVec.ofNat 32 (y 0).val) 512#32) (y 1)))
    ∧ sb m c = (fun y => Ideal.sin (Rope.angW (IntOp.muli (BitVec.ofNat 32 (y 0).val) 512#32) (y 1))) := by
  obtain ⟨h1, h2, h3, h4⟩ := V_trig m c
  obtain ⟨a1, a2⟩ := V_ang m c
  obtain ⟨r1, r2, r3, r4, -⟩ := V_rem m c
  rw [a1, r2, r1] at h1 h2
  rw [a2, r4, r3] at h3 h4
  exact ⟨h1, h2, h3, h4⟩

theorem angles_eq (r : Fin 4096) (k : Fin 128) : ci m c (ix2 (inB r) k) = Rope.C (r.val % 512) (k.val % 8) ∧ si m c (ix2 (inB r) k) = Rope.S (r.val % 512) (k.val % 8)
    ∧ cb m c (ix2 (blk r) k) = Rope.C (512 * (r.val / 512)) (k.val % 8) ∧ sb m c (ix2 (blk r) k) = Rope.S (512 * (r.val / 512)) (k.val % 8) := by
  obtain ⟨h1, h2, h3, h4⟩ := V_angles m c
  rw [h1, h2, h3, h4]
  have hr : r.val < 4096 := r.isLt
  exact ⟨Rope.cosW (Rope.mul_one_word (inB r)) (by show r.val % 512 < _; omega) k, Rope.sinW (Rope.mul_one_word (inB r)) (by show r.val % 512 < _; omega) k,
    Rope.cosW (Rope.mul_block_word (blk r)) (by show 512 * (r.val / 512) < _; omega) k, Rope.sinW (Rope.mul_block_word (blk r)) (by show 512 * (r.val / 512) < _; omega) k⟩

set_option maxHeartbeats 4000000 in
theorem V_joined : (V m c main_v64 : S4096x128.Idx → EReal) = (fun y => cb m c (ix2 (blk (y 0)) (y 1)) * ci m c (ix2 (inB (y 0)) (y 1)) - sb m c (ix2 (blk (y 0)) (y 1)) * si m c (ix2 (inB (y 0)) (y 1)))
    ∧ (V m c main_v76 : S4096x128.Idx → EReal) = (fun y => sb m c (ix2 (blk (y 0)) (y 1)) * ci m c (ix2 (inB (y 0)) (y 1)) + cb m c (ix2 (blk (y 0)) (y 1)) * si m c (ix2 (inB (y 0)) (y 1))) := by
  simp only [ci, si, cb, sb, V, hostOps0, hostOps0_1, hostOps0_2, hostOps0_3, hostOps0_4, hostOps0_5, hostOps0_6, hostOps0_7, hostOps0_8, hostOps0_9, hostOps0_10, hostOps0_11,
    hostOps0_12, hostOps0_13, hostOps0_14, hostOps0_15, hostOps0_16, hostOps0_17, List.flatten_cons, List.flatten_nil, List.append_nil, List.cons_append, List.nil_append]
  refine ⟨?_, ?_⟩
  all_goals
    entry_read
    generalize Host.cos (F := Ideal) (s := S8x128) _ = a
    generalize Host.cos (F := Ideal) (s := S512x128) _ = b
    generalize Host.sin (F := Ideal) (s := S8x128) _ = a'
    generalize Host.sin (F := Ideal) (s := S512x128) _ = b'
    funext j
    idx_vars j
    pointwise
    rfl

theorem V_cos : (V m c main_v64 : S4096x128.Idx → EReal) = fun y => Rope.C (y 0).val ((y 1).val % 8) := by
  refine (V_joined m c).1.trans (funext fun y => ?_)
  obtain ⟨h1, h2, h3, h4⟩ := angles_eq m c (y 0) (y 1)
  rw [h1, h2, h3, h4]
  exact (Rope.cos_add _ _ _).trans (congrArg (fun r => Rope.C r _) (by have : (y 0).val = 512 * ((y 0).val / 512) + (y 0).val % 512 := (Nat.div_add_mod _ _).symm; exact this.symm))
theorem V_sin : (V m c main_v76 : S4096x128.Idx → EReal) = fun y => Rope.S (y 0).val ((y 1).val % 8) := by
  refine (V_joined m c).2.trans (funext fun y => ?_)
  obtain ⟨h1, h2, h3, h4⟩ := angles_eq m c (y 0) (y 1)
  rw [h1, h2, h3, h4]
  exact (Rope.sin_add _ _ _).trans (congrArg (fun r => Rope.S r _) (by have : (y 0).val = 512 * ((y 0).val / 512) + (y 0).val % 512 := (Nat.div_add_mod _ _).symm; exact this.symm))

set_option maxHeartbeats 1000000 in
/-- The three choices by a column's place in its head. -/
theorem V_tabs : (V m c main_v79 : S4096x128.Idx → EReal) = (fun y => Scalar.select (IntOp.cmpi .slt ((V m c main_v52 : S4096x128.Idx → BitVec 32) y) 16#32) ((V m c main_v64 : S4096x128.Idx → EReal) y) (Ideal.ofBits .f32 0x3F800000#32))
    ∧ (V m c main_v83 : S4096x128.Idx → EReal) = (fun y => Scalar.select (IntOp.cmpi .slt ((V m c main_v52 : S4096x128.Idx → BitVec 32) y) 8#32) (-(show EReal from (V m c main_v76 : S4096x128.Idx → EReal) y)) (Ideal.ofBits .f32 0x00000000#32))
    ∧ (V m c main_v89 : S4096x128.Idx → EReal) = (fun y => Scalar.select (IntOp.andi (IntOp.cmpi .sge ((V m c main_v52 : S4096x128.Idx → BitVec 32) y) 8#32) (IntOp.cmpi .slt ((V m c main_v52 : S4096x128.Idx → BitVec 32) y) 16#32))
      ((V m c main_v76 : S4096x128.Idx → EReal) y) (Ideal.ofBits .f32 0x00000000#32)) := by
  simp only [V, hostOps0, hostOps0_1, hostOps0_2, hostOps0_3, hostOps0_4, hostOps0_5, hostOps0_6, hostOps0_7, hostOps0_8, hostOps0_9, hostOps0_10, hostOps0_11,
    hostOps0_12, hostOps0_13, hostOps0_14, hostOps0_15, hostOps0_16, hostOps0_17, List.flatten_cons, List.flatten_nil, List.append_nil, List.cons_append, List.nil_append]
  refine ⟨?_, ?_, ?_⟩
  all_goals
    entry_read
    rfl

theorem V_c : (V m c main_v79 : S4096x128.Idx → EReal) = fun y => tabC (y 0).val (y 1) := by
  refine (V_tabs m c).1.trans (funext fun y => ?_)
  rw [V_cos, lit_one, (V_rem m c).2.2.2.2]
  exact Rope.lt16 (y 1) _ _
theorem V_a : (V m c main_v83 : S4096x128.Idx → EReal) = fun y => tabA (y 0).val (y 1) := by
  refine (V_tabs m c).2.1.trans (funext fun y => ?_)
  rw [V_sin, lit_zero, (V_rem m c).2.2.2.2]
  exact Rope.lt8 (y 1) _ _
theorem V_b : (V m c main_v89 : S4096x128.Idx → EReal) = fun y => tabB (y 0).val (y 1) := by
  refine (V_tabs m c).2.2.trans (funext fun y => ?_)
  rw [V_sin, lit_zero, (V_rem m c).2.2.2.2]
  exact Rope.mid (y 1) _ _

end Step.Win

end
-- ==== Proof.WinRef.lean ====
/- The reference of the input projection's weight gradient: its cotangent array by columns. -/
module

public import proofs.«01_k».proof.Proof.Rope
public import proofs.«01_k».proof.Proof.Gen.WinRefIdeal.Read

@[expose] public section

set_option maxRecDepth 16384

noncomputable section

namespace Step.WinRef

open Idealize.ShloMosaic Step Cert.WinRefIdeal Cert.WinRefIdeal.Read

theorem ref_cos : val_main_v31 (F := Ideal) = (fun y => Rope.C (y 0).val (y 1).val) := by
  funext j
  idx_vars j
  pointwise [val_main_v31, val_main_v30, val_main_v29, val_main_v28, val_main_v27, val_main_v26, val_main_v25, val_main_v1, val_main_v24, val_main_v23, val_main_v22,
    val_main_v21, val_main_v20, val_main_v19, val_main_cst_3, val_main_cst_4]
  exact congrArg Ideal.cos (Rope.angle_eq (by omega) (by omega))
theorem ref_sin : val_main_v32 (F := Ideal) = (fun y => Rope.S (y 0).val (y 1).val) := by
  funext j
  idx_vars j
  pointwise [val_main_v32, val_main_v30, val_main_v29, val_main_v28, val_main_v27, val_main_v26, val_main_v25, val_main_v1, val_main_v24, val_main_v23, val_main_v22,
    val_main_v21, val_main_v20, val_main_v19, val_main_cst_3, val_main_cst_4]
  exact congrArg Ideal.sin (Rope.angle_eq (by omega) (by omega))

theorem zero14 : val_main_cst_14 (F := Ideal) = fun _ => 0 := funext fun _ => lit_zero
theorem zero15 : val_main_cst_15 (F := Ideal) = fun _ => 0 := funext fun _ => lit_zero
theorem zero16 : val_main_cst_16 (F := Ideal) = fun _ => 0 := funext fun _ => lit_zero
theorem zero17 : val_main_cst_17 (F := Ideal) = fun _ => 0 := funext fun _ => lit_zero

theorem same_fwd (f : Fin 512 → EReal) (r p p' : ℕ) (a k k' : Fin 512) (hp : p = p') (hk : k = k') :
    f a * Rope.C r p + f k * Rope.S r p = f a * Rope.C r p' + f k' * Rope.S r p' := by rw [hp, hk]

theorem same_bwd (f : Fin 512 → EReal) (r p p' : ℕ) (a a' k k' : Fin 512) (hp : p = p') (ha : a = a') (hk : k = k') :
    f a * Rope.C r p + -f k * Rope.S r p = f a' * Rope.C r p' + -f k' * Rope.S r p' := by rw [hp, ha, hk]

/-- The cotangent of the embedded queries, taken back through the embedding. -/
theorem ref_back (d : S4096x512.Idx → EReal) : val_main_v150 (F := Ideal) d = fun y => Rope.back (fun k => d (ix2 (y 0) k)) (y 0).val (y 1) := by
  funext j
  idx_vars j
  pointwise [val_main_v150, val_main_v149, val_main_v148, val_main_v147, val_main_v146, val_main_v145, val_main_v144, val_main_v143, val_main_v142, val_main_v141,
    val_main_v140, val_main_v139, val_main_v138, val_main_v137, val_main_v136, val_main_v135, val_main_v134, val_main_v133, val_main_v132, val_main_v131, val_main_v130,
    val_main_v129, val_main_v128, val_main_v102, val_main_v101, val_main_v46, val_main_v43, val_main_v39, val_main_v36]
  simp only [zero14, zero15, zero16, zero17, ref_cos, ref_sin]
  have hj := j1.isLt
  unfold Rope.back
  by_cases h8 : j1.val % 64 < 8
  · have n1 : ¬ (j1.val / 64 < 8 ∧ 16 ≤ j1.val % 64 ∧ j1.val % 64 - 16 < 48) := by omega
    have n2 : j1.val / 64 < 8 ∧ j1.val % 64 < 16 := by omega
    have n3 : ¬ (j1.val / 64 < 8 ∧ 8 ≤ j1.val % 64 ∧ j1.val % 64 - 8 < 8) := by omega
    have n4 : j1.val / 64 < 8 ∧ j1.val % 64 < 8 := by omega
    simp only [dif_neg n1, dif_pos n2, dif_neg n3, dif_pos n4, zero_add]
    refine (add_comm _ _).trans (Eq.trans ?_ (if_pos h8).symm)
    have e1 : j1.val % 64 = j1.val % 8 := by omega
    have e2 : j1.val / 64 * 64 + (8 + j1.val % 64) = (j1.val + 8) % 512 := by omega
    exact same_fwd (fun k => d (ix2 j0 k)) j0.val _ _ j1 _ _ e1 (Fin.ext e2)
  · by_cases h16 : j1.val % 64 < 16
    · have n1 : ¬ (j1.val / 64 < 8 ∧ 16 ≤ j1.val % 64 ∧ j1.val % 64 - 16 < 48) := by omega
      have n2 : j1.val / 64 < 8 ∧ j1.val % 64 < 16 := by omega
      have n3 : (j1.val / 64 < 8 ∧ 8 ≤ j1.val % 64 ∧ j1.val % 64 - 8 < 8) := by omega
      have n4 : ¬ (j1.val / 64 < 8 ∧ j1.val % 64 < 8) := by omega
      simp only [dif_neg n1, dif_pos n2, dif_pos n3, dif_neg n4, zero_add, add_zero]
      refine Eq.trans ?_ ((if_neg h8).trans (if_pos h16)).symm
      have e1 : j1.val % 64 - 8 = j1.val % 8 := by omega
      have e2 : j1.val / 64 * 64 + (8 + (j1.val % 64 - 8)) = j1.val := by omega
      have e3 : j1.val / 64 * 64 + (j1.val % 64 - 8) = j1.val - 8 := by omega
      exact same_bwd (fun k => d (ix2 j0 k)) j0.val _ _ _ _ _ _ e1 (Fin.ext e2) (Fin.ext e3)
    · have n1 : (j1.val / 64 < 8 ∧ 16 ≤ j1.val % 64 ∧ j1.val % 64 - 16 < 48) := by omega
      have n2 : ¬ (j1.val / 64 < 8 ∧ j1.val % 64 < 16) := by omega
      simp only [dif_pos n1, dif_neg n2, add_zero]
      refine Eq.trans ?_ ((if_neg h8).trans (if_neg h16)).symm
      exact congrArg (fun k => d (ix2 j0 k)) (Fin.ext (show j1.val / 64 * 64 + (16 + (j1.val % 64 - 16)) = j1.val by omega))

theorem back_same (d : S4096x512.Idx → EReal) : val_main_v125 (F := Ideal) d = val_main_v150 (F := Ideal) d := rfl

theorem zero7 : val_main_cst_7 (F := Ideal) = fun _ => 0 := funext fun _ => lit_zero
theorem zero8 : val_main_cst_8 (F := Ideal) = fun _ => 0 := funext fun _ => lit_zero
theorem zero13 : val_main_cst_13 (F := Ideal) = fun _ => 0 := funext fun _ => lit_zero
theorem zero18 : val_main_cst_18 (F := Ideal) = fun _ => 0 := funext fun _ => lit_zero

/-- The cotangent of the joined projection by columns. -/
def cot (x2 x3 x4 : S4096x512.Idx → EReal) (x5 : S4096x2056.Idx → EReal) (r : Fin 4096) (k : Fin 3592) : EReal :=
  if h : k.val < 512 then Rope.back (fun k => x2 (ix2 r k)) r.val ⟨k.val, h⟩
  else if h : k.val < 1024 then Rope.back (fun k => x3 (ix2 r k)) r.val ⟨k.val - 512, by omega⟩
  else if h : k.val < 1536 then x4 (ix2 r ⟨k.val - 1024, by omega⟩)
  else x5 (ix2 r ⟨k.val - 1536, by omega⟩)

theorem ref_cot (x2 x3 x4 : S4096x512.Idx → EReal) (x5 : S4096x2056.Idx → EReal) :
    val_main_v152 (F := Ideal) x2 x3 x4 x5 = fun y => cot x2 x3 x4 x5 (y 0) (y 1) := by
  funext j
  idx_vars j
  pointwise [val_main_v152, val_main_v151, val_main_v127, val_main_v126, val_main_v98, val_main_v97, val_main_v96]
  simp only [zero7, zero8, zero13, zero18, back_same, ref_back]
  have hj := j1.isLt
  unfold cot
  by_cases h1 : j1.val < 512
  · have n1 : ¬ (1536 ≤ j1.val ∧ j1.val - 1536 < 2056) := by omega
    have n2 : ¬ (1024 ≤ j1.val ∧ j1.val - 1024 < 512) := by omega
    have n3 : ¬ (512 ≤ j1.val ∧ j1.val - 512 < 512) := by omega
    simp only [dif_neg n1, dif_neg n2, dif_neg n3, dif_pos h1, zero_add]
    rfl
  · by_cases h2 : j1.val < 1024
    · have n1 : ¬ (1536 ≤ j1.val ∧ j1.val - 1536 < 2056) := by omega
      have n2 : ¬ (1024 ≤ j1.val ∧ j1.val - 1024 < 512) := by omega
      have n3 : (512 ≤ j1.val ∧ j1.val - 512 < 512) := by omega
      simp only [dif_neg n1, dif_neg n2, dif_pos n3, dif_neg h1, dif_pos h2, zero_add, add_zero]
      rfl
    · have n3 : ¬ (512 ≤ j1.val ∧ j1.val - 512 < 512) := by omega
      by_cases h3 : j1.val < 1536
      · have n1 : ¬ (1536 ≤ j1.val ∧ j1.val - 1536 < 2056) := by omega
        have n2 : (1024 ≤ j1.val ∧ j1.val - 1024 < 512) := by omega
        simp only [dif_neg n1, dif_pos n2, dif_neg n3, dif_neg h1, dif_neg h2, dif_pos h3, zero_add, add_zero]
      · have n1 : (1536 ≤ j1.val ∧ j1.val - 1536 < 2056) := by omega
        have n2 : ¬ (1024 ≤ j1.val ∧ j1.val - 1024 < 512) := by omega
        simp only [dif_pos n1, dif_neg n2, dif_neg n3, dif_neg h1, dif_neg h2, dif_neg h3, add_zero]

/-- The reference's result: entry `(i, 449 q + k)` of the product over the rows. -/
theorem ref_sum (x0 : S4096x1024.Idx → EReal) (x1 : S1024.Idx → EReal) (x2 x3 x4 : S4096x512.Idx → EReal) (x5 : S4096x2056.Idx → EReal)
    (q : Fin 8) (i : Fin 1024) (k : Fin 449) :
    val_main_v157 (F := Ideal) x0 x1 x2 x3 x4 x5 (ix3 q i k)
      = ∑ r : Fin 4096, cot x2 x3 x4 x5 r ⟨449 * q.val + k.val, by omega⟩ * val_main_v14 (F := Ideal) x0 x1 (ix2 r i) := by
  pointwise [val_main_v157, val_main_v156, val_main_v155, val_main_v154, val_main_v153]
  simp only [ref_cot]
  have e : q.val * 449 + k.val = 449 * q.val + k.val := by omega
  exact Finset.sum_congr rfl fun r _ => congrArg (fun k => cot x2 x3 x4 x5 r k * val_main_v14 (F := Ideal) x0 x1 (ix2 r i)) (Fin.ext e)

end Step.WinRef

end
-- ==== Proof.WinClaim.lean ====
/- The claims about the input projection's weight gradient. -/
module

public import proofs.«01_k».proof.Proof.WinRead
public import proofs.«01_k».proof.Proof.WinRef
public import proofs.«01_k».proof.Defs

@[expose] public section

set_option maxRecDepth 16384

noncomputable section

namespace Step.Win

open Idealize.ShloMosaic Idealize.ShloMosaic.TcCoe Idealize.SL.Sem Step Cert.WinIdeal Cert.WinIdeal.Gen Cert.WinIdeal.Value

/-- Turning a row back by the tables is turning it back by the angles. -/
theorem turn_eq (a b c : S512x128.Idx → EReal) (d : S512x512.Idx → EReal) (r k : Fin 512) (R : ℕ) (D : Fin 512 → EReal)
    (ha : ∀ g, a (ix2 r g) = tabC R g) (hb : ∀ g, b (ix2 r g) = tabA R g) (hc : ∀ g, c (ix2 r g) = tabB R g) (hd : ∀ k, d (ix2 r k) = D k) :
    turn a b c d r k = Rope.back D R k := by
  unfold turn Rope.back
  rw [ha, hb, hc, hd, hd, hd]
  have hk := k.isLt
  have g0 : (grp k).val = k.val % 128 := rfl
  have g1 : (prevG (grp k)).val = (k.val % 128 + 128 - 8) % 128 := rfl
  have g2 : (nextG (grp k)).val = (k.val % 128 + 128 - 120) % 128 := rfl
  unfold tabC tabA tabB
  rw [g0, g1, g2]
  by_cases h8 : k.val % 64 < 8
  · rw [if_pos (by omega), if_neg (by omega), if_pos (by omega), if_pos h8, mul_zero, add_zero,
      show k.val % 128 % 8 = k.val % 8 by omega, show (k.val % 128 + 128 - 120) % 128 % 8 = k.val % 8 by omega,
      show nextC k = ⟨(k.val + 8) % 512, by omega⟩ from Fin.ext (by show 128 * (k.val / 128) + (k.val % 128 + 128 - 120) % 128 = (k.val + 8) % 512; omega)]
  · by_cases h16 : k.val % 64 < 16
    · rw [if_pos (by omega), if_pos (by omega), if_neg (by omega), if_neg h8, if_pos h16, mul_zero, add_zero,
        show k.val % 128 % 8 = k.val % 8 by omega, show (k.val % 128 + 128 - 8) % 128 % 8 = k.val % 8 by omega,
        show prevC k = ⟨k.val - 8, by omega⟩ from Fin.ext (by show 128 * (k.val / 128) + (k.val % 128 + 128 - 8) % 128 = k.val - 8; omega), EReal.neg_mul, mul_comm (D _) (-_), EReal.neg_mul, mul_comm (Rope.S _ _)]
    · rw [if_neg (by omega), if_neg (by omega), if_neg (by omega), if_neg h8, if_neg h16, mul_zero, mul_zero, add_zero, add_zero, mul_one]

variable (m : (ℓ : Loc nD τ sig) → Buf (Elt Ideal) ℓ) (c : Dev nD)

/-- The projection's cotangent: the queries' and keys' columns turned back, the values', the others'. -/
def cot (r : Fin 4096) (k : Fin 3840) : EReal :=
  if h : k.val < 512 then Rope.back (fun k => cq m c (ix2 r k)) r.val ⟨k.val, h⟩
  else if h1 : k.val < 1024 then Rope.back (fun k => ck m c (ix2 r k)) r.val ⟨k.val - 512, by omega⟩
  else if h2 : k.val < 1536 then cv m c (ix2 r ⟨k.val - 1024, by omega⟩)
  else cmPad m c (ix2 r ⟨k.val - 1536, by omega⟩)

theorem cmPad_at (r : Fin 4096) (k : Fin 2304) (h : k.val < 2056) : cmPad m c (ix2 r k) = cm m c (ix2 r ⟨k.val, h⟩) := dif_pos h

/-- Below its padding the cotangent is the reference's. -/
theorem cot_ref (r : Fin 4096) (k : Fin 3840) (hk : k.val < 3592) : WinRef.cot (cq m c) (ck m c) (cv m c) (cm m c) r ⟨k.val, hk⟩ = cot m c r k := by
  unfold WinRef.cot cot
  by_cases h1 : k.val < 512
  · simp only [dif_pos h1]
  · by_cases h2 : k.val < 1024
    · simp only [dif_neg h1, dif_pos h2]
    · by_cases h3 : k.val < 1536
      · simp only [dif_neg h1, dif_neg h2, dif_pos h3]
      · have h4 : k.val - 1536 < 2056 := by omega
        simp only [dif_neg h1, dif_neg h2, dif_neg h3]
        exact (cmPad_at m c r ⟨k.val - 1536, by omega⟩ h4).symm

theorem idx_rows : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] := by decide +kernel

/-- What row `r` adds to the gradient at row `i` and column `k`. -/
def add (i : Fin 1024) (k : Fin 3840) (r : Fin 4096) : EReal := act m c (ix2 r i) * cot m c r k

/-- A window's block of 512 rows is those rows of its array. -/
theorem rows_of {w : ℕ} (A : (⟨2, ![4096, w]⟩ : Shape).Idx → EReal) (t : ℕ) (ht : t < 8) (ix : Fin 2 → ℕ) (hix : ix = ![t, 0]) (r : Fin 512) (k : Fin w)
    (y : (⟨2, ![4096, w]⟩ : Shape).Idx) (h0 : (y 0).val = ix 0 * 512 + 1 * r.val) (h1 : (y 1).val = ix 1 * w + 1 * k.val) : A y = A (ix2 (rowAt t r) k) := by
  subst hix
  refine congrArg A (funext fun x => Fin.ext ?_)
  match x with
  | ⟨0, _⟩ => show (y 0).val = (512 * t + r.val) % 4096; rw [h0]; show t * 512 + _ = _; omega
  | ⟨1, _⟩ => show (y 1).val = k.val; rw [h1]; show 0 * w + 1 * k.val = k.val; omega

set_option maxHeartbeats 2000000 in
theorem add_block (t : Fin cfg0.N) (i : Fin 1024) (k : Fin 3840) :
    addOf (iblk m c 5 t) (iblk m c 6 t) (iblk m c 7 t) (iblk m c 0 t) (iblk m c 1 t) (iblk m c 2 t) (iblk m c 3 t) (iblk m c 4 t) i k = ∑ r, add m c i k (rowAt t.val r) := by
  have ht : t.val < 8 := lt_of_lt_of_eq t.isLt N_0
  obtain ⟨i0, i1, i2, i3, i4, i5, i6, i7⟩ := idx_rows t
  have e0 : ∀ r k, iblk m c 0 t (ix2 r k) = act m c (ix2 (rowAt t.val r) k) := fun r k => (rows_of (V m c main_v13) t.val ht _ i0 r k _ rfl rfl).trans (congrFun (V_act m c) _)
  have e1 : ∀ r k, iblk m c 1 t (ix2 r k) = cq m c (ix2 (rowAt t.val r) k) := fun r k => (rows_of (V m c main_v14) t.val ht _ i1 r k _ rfl rfl).trans (congrFun (V_cot m c).1 _)
  have e2 : ∀ r k, iblk m c 2 t (ix2 r k) = ck m c (ix2 (rowAt t.val r) k) := fun r k => (rows_of (V m c main_v15) t.val ht _ i2 r k _ rfl rfl).trans (congrFun (V_cot m c).2.1 _)
  have e3 : ∀ r k, iblk m c 3 t (ix2 r k) = cv m c (ix2 (rowAt t.val r) k) := fun r k => (rows_of (V m c main_v16) t.val ht _ i3 r k _ rfl rfl).trans (congrFun (V_cot m c).2.2 _)
  have e4 : ∀ r k, iblk m c 4 t (ix2 r k) = cmPad m c (ix2 (rowAt t.val r) k) := fun r k => (rows_of (V m c main_v18) t.val ht _ i4 r k _ rfl rfl).trans (congrFun (V_pad m c) _)
  have e5 : ∀ r k, iblk m c 5 t (ix2 r k) = tabC (rowAt t.val r).val k := fun r k => (rows_of (V m c main_v79) t.val ht _ i5 r k _ rfl rfl).trans (congrFun (V_c m c) _)
  have e6 : ∀ r k, iblk m c 6 t (ix2 r k) = tabA (rowAt t.val r).val k := fun r k => (rows_of (V m c main_v83) t.val ht _ i6 r k _ rfl rfl).trans (congrFun (V_a m c) _)
  have e7 : ∀ r k, iblk m c 7 t (ix2 r k) = tabB (rowAt t.val r).val k := fun r k => (rows_of (V m c main_v89) t.val ht _ i7 r k _ rfl rfl).trans (congrFun (V_b m c) _)
  refine Finset.sum_congr rfl fun r _ => congr (congrArg (fun a b : EReal => a * b) (e0 r i)) ?_
  unfold cotOf cot
  by_cases h : k.val < 512
  · rw [dif_pos h, dif_pos h]
    exact turn_eq _ _ _ _ _ _ _ _ (e5 r) (e6 r) (e7 r) (e1 r)
  rw [dif_neg h, dif_neg h]
  by_cases h1 : k.val < 1024
  · rw [dif_pos h1, dif_pos h1]
    exact turn_eq _ _ _ _ _ _ _ _ (e5 r) (e6 r) (e7 r) (e2 r)
  rw [dif_neg h1, dif_neg h1]
  by_cases h2 : k.val < 1536
  · rw [dif_pos h2, dif_pos h2]
    exact e3 r _
  rw [dif_neg h2, dif_neg h2]
  exact e4 r _

/-- After point `n` the sum runs over blocks `0 … n`. -/
theorem fold_eq : ∀ (n : ℕ) (h : 0 + n < cfg0.N),
    ((Pipeline.accAt (fun n h => stAt0 m c n h junk0) (stAt0 m c) 0 n h).2 : S1024x3840.Idx → EReal) = fun y => total (add m c (y 0) (y 1)) n
  | 0, h => by
    rw [Pipeline.accAt_zero]
    refine (step m c ⟨0, h⟩ junk0).trans (funext fun y => ?_)
    rw [total_zero]
    have e : ∀ y, k0_pay17 (F := Ideal) y = 0 := fun y => lit_zero
    exact (congr (congrArg (fun a b : EReal => a + b) (e y)) (add_block m c ⟨0, h⟩ (y 0) (y 1))).trans (zero_add _)
  | n + 1, h => by
    have h8 : 0 + (n + 1) < 8 := lt_of_lt_of_eq h N_0
    have hn : ¬(0 + (n + 1)) % 8 = 0 := by omega
    rw [Pipeline.accAt_succ]
    refine (step m c ⟨0 + (n + 1), h⟩ _).trans (funext fun y => ?_)
    rw [if_neg hn, fold_eq n]
    rw [total_succ]
    exact (congrArg (fun b : EReal => _ + b) (add_block m c ⟨0 + (n + 1), h⟩ (y 0) (y 1))).trans
      (congrArg (fun b => _ + ∑ r, add m c (y 0) (y 1) (rowAt b r)) (zero_add (n + 1)))

/-- The kernel's result. -/
theorem G8_eq : (G8 m c : S8x1024x449.Idx → EReal) = fun y => ∑ r, add m c (y 1) (colAt (y 0) (y 2)) r := by
  have h7 : 0 + 7 < cfg0.N := lt_of_lt_of_eq (by decide) N_0.symm
  rw [G8_last, Pipeline.accAt_succ]
  refine (out_last m c ⟨0 + 7, h7⟩ _ rfl).trans (funext fun y => ?_)
  have e := (congrArg Prod.snd (Pipeline.accAt_succ (fun n h => stAt0 m c n h junk0) (stAt0 m c) 0 6 h7)).symm.trans (fold_eq m c 7 h7)
  exact (congrFun e (ix2 (y 1) (colAt (y 0) (y 2)))).trans (total_last _)

/-- The reference's result. -/
theorem ref_eq : (Cert.WinRefIdeal.Read.val_main_v157 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) : S8x1024x449.Idx → EReal)
    = fun y => ∑ r, add m c (y 1) (colAt (y 0) (y 2)) r := by
  funext j
  idx_vars j
  refine (WinRef.ref_sum (m ((c : Thread nD τ).loc main_arg0)) (m ((c : Thread nD τ).loc main_arg1)) (cq m c) (ck m c) (cv m c) (cm m c) j0 j1 j2).trans (Finset.sum_congr rfl fun r _ => (mul_comm _ _).trans (congrArg _ ?_))
  exact cot_ref m c r (colAt j0 j2) (by have h0 := j0.isLt; have h2 := j2.isLt; show 449 * j0.val + j2.val < 3592; omega)

theorem frame_ref : Cert.quiescent_WinRefIdeal (hWinRefIdeal := Cert.WinRefIdeal.Gen.facts) := fun m ρ _ =>
  (θ_run (Cert.WinRefIdeal.defs (F := Ideal)) _ _).mono
    (fun r h => ⟨fun c => (h c).2, sem_eq_zero_of_no_sems (by decide) r.2⟩) (Cert.WinRefIdeal.Value.run m ρ)

theorem algebraic : Cert.algebraic_WinIdeal_WinRefIdeal (hWinIdeal := Cert.WinIdeal.Gen.facts)
    (hWinRefIdeal := Cert.WinRefIdeal.Gen.facts) := by
  intro m ρ m' ρ' _ hag
  refine ⟨fun c => G8 m c, run m ρ, (θ_run _ _ _).mono (fun r h c => ?_) (Cert.WinRefIdeal.Value.run m' ρ')⟩
  obtain ⟨a0, a1, a2, a3, a4, a5⟩ := hag c
  obtain ⟨r0, kept⟩ := h c
  refine ⟨(r0.trans (Cert.WinRefIdeal.Read.val_main_v157_eq _ _)).trans (Eq.trans ?_ ((ref_eq m c).trans (G8_eq m c).symm)), kept⟩
  exact congr (congr (congr (congr (congr (congrArg _ a0) a1) a2) a3) a4) a5

end Step.Win

end
-- ==== Proof.InpSpec.lean ====
/- The input projection's backward pass on one row of 1024 reals. -/
module

public import proofs.«01_k».proof.Proof.Norm
public import proofs.«01_k».proof.Proof.Blocks

@[expose] public section

set_option maxRecDepth 16384

noncomputable section

namespace Step.Inp

open Idealize.ShloMosaic Step

/-- The residual rows, the norm's gain, the weight, the cotangent that passes the layer by, and the cotangent of the projection with
    its queries and keys already turned back. -/
structure Args where
  x : Fin 4096 → Fin 1024 → ℝ
  g : Fin 1024 → ℝ
  w : Fin 1024 → Fin 3592 → ℝ
  d : Fin 4096 → Fin 1024 → ℝ
  t : Fin 4096 → Fin 3592 → ℝ

variable (A : Args)

/-- The cotangent and the weight with zeros after their last column. -/
def tN (r : Fin 4096) (k : ℕ) : ℝ := if h : k < 3592 then A.t r ⟨k, h⟩ else 0
def wN (i : Fin 1024) (k : ℕ) : ℝ := if h : k < 3592 then A.w i ⟨k, h⟩ else 0

variable {A} in
theorem tN_lt {r : Fin 4096} {k : ℕ} (h : k < 3592) : tN A r k = A.t r ⟨k, h⟩ := dif_pos h
variable {A} in
theorem tN_ge {r : Fin 4096} {k : ℕ} (h : ¬k < 3592) : tN A r k = 0 := dif_neg h
variable {A} in
theorem wN_lt {i : Fin 1024} {k : ℕ} (h : k < 3592) : wN A i k = A.w i ⟨k, h⟩ := dif_pos h
variable {A} in
theorem wN_ge {i : Fin 1024} {k : ℕ} (h : ¬k < 3592) : wN A i k = 0 := dif_neg h

/-- The cotangent of the normed row. -/
def du (r : Fin 4096) (i : Fin 1024) : ℝ := ∑ k, A.t r k * A.w i k
/-- The part of it that comes from the first `n` columns. -/
def duTo (n : ℕ) (r : Fin 4096) (i : Fin 1024) : ℝ := ∑ k ∈ Finset.range n, tN A r k * wN A i k
/-- The cotangent of the residual row. -/
def dx (r : Fin 4096) (i : Fin 1024) : ℝ := A.d r i + nrmBwd (A.x r) (fun j => du A r j * A.g j) i
/-- What row `r` adds to the cotangent of the gain. -/
def addG (i : Fin 1024) (r : Fin 4096) : ℝ := du A r i * nrm (A.x r) i

theorem duTo_add (o n : ℕ) (r : Fin 4096) (i : Fin 1024) :
    duTo A o r i + ∑ k : Fin n, tN A r (o + k.val) * wN A i (o + k.val) = duTo A (o + n) r i := by
  unfold duTo
  rw [Finset.sum_range_add, Finset.sum_range (fun x => tN A r (o + x) * wN A i (o + x))]

theorem duTo_last (r : Fin 4096) (i : Fin 1024) : duTo A 3840 r i = du A r i := by
  rw [show (3840 : ℕ) = 3592 + 248 from rfl, ← duTo_add]
  have z : ∑ k : Fin 248, tN A r (3592 + k.val) * wN A i (3592 + k.val) = 0 :=
    Finset.sum_eq_zero fun k _ => by rw [show tN A r (3592 + k.val) = 0 from dif_neg (by omega), zero_mul]
  rw [z, add_zero]
  unfold duTo
  rw [Finset.sum_range]
  exact Finset.sum_congr rfl fun k _ => congrArg₂ (· * ·) (dif_pos k.isLt) (dif_pos k.isLt)

end Step.Inp

end
-- ==== Proof.InpStep.lean ====
/- One grid point of the input projection's backward pass, over the reals. -/
module

public import proofs.«01_k».proof.Proof.InpSpec
public import proofs.«01_k».proof.Proof.WinStep
public import Idealize.ShloMosaic.Lib.Pipeline.ReadBack
public import Idealize.ShloMosaic.Lib.Pipeline.ValueKit
public import proofs.«01_k».proof.Proof.Gen.InpIdeal.Value

@[expose] public section

set_option maxRecDepth 16384

noncomputable section

namespace Step.Inp

open Idealize.ShloMosaic Step Cert.InpIdeal Cert.InpIdeal.Gen Cert.InpIdeal.Value

/-! ## What the kernel's lines compute -/

/-- A block of columns times the weight's, added to what was there. -/
def dot512 (acc : FVec Ideal S512x1024 .f32) (x : FVec Ideal S512x512 .bf16) (w : FVec Ideal S1024x512 .bf16) : FVec Ideal S512x1024 .f32 :=
  addf acc (matmul dot_S512x512_S1024x512_S512x1024_1_1_0_0_n_n none x (shapeCast S1024x512 w shapeCasts_S1024x512_S1024x512) (constant S512x1024 .f32 0x00000000#32))
def dot768 (acc : FVec Ideal S512x1024 .f32) (x : FVec Ideal S512x768 .bf16) (w : FVec Ideal S1024x768 .bf16) : FVec Ideal S512x1024 .f32 :=
  addf acc (matmul dot_S512x768_S1024x768_S512x1024_1_1_0_0_n_n none (shapeCast S512x768 x shapeCasts_S512x768_S512x768) (shapeCast S1024x768 w shapeCasts_S1024x768_S1024x768) (constant S512x1024 .f32 0x00000000#32))

/-- A block of rows turned back. -/
def turned (a b c : FVec Ideal S512x128 .f32) (d : FVec Ideal S512x512 .bf16) : FVec Ideal S512x512 .bf16 := fun j => Win.turn a b c d (j 0) (j 1)

section Same

variable (a b c : FVec Ideal S512x128 .f32) (d e v : FVec Ideal S512x512 .bf16) (z : FVec Ideal S512x1024 .f32) (w w' w'' : FVec Ideal S1024x512 .bf16)
  (x y : FVec Ideal S512x768 .bf16) (u u' : FVec Ideal S1024x768 .bf16)

theorem pay10_eq : k0_pay10 (F := Ideal) (k0_pay1 a) (k0_pay2 b) (k0_pay3 c) z (k0_pay6 d) (k0_pay7 a b c d) (k0_pay8 a b c d) (k0_pay9 a b c d) w
    = dot512 z (turned a b c d) w :=
  congrArg (fun t => dot512 z t w) (Win.joined_eq a b c d)

theorem same_shape : shapeCast S512x512 v shapeCasts_S512x512_S512x512 = v := by
  funext j
  idx_vars j
  pointwise

theorem pay15_eq : k0_pay15 (F := Ideal) (k0_pay1 a) (k0_pay2 b) (k0_pay3 c) z (k0_pay11 e) (k0_pay12 (k0_pay1 a) (k0_pay2 b) (k0_pay3 c) e)
      (k0_pay13 (k0_pay1 a) (k0_pay2 b) (k0_pay3 c) e) (k0_pay14 (k0_pay1 a) (k0_pay2 b) (k0_pay3 c) e) w v w' x u y u'
    = dot768 (dot768 (dot512 (dot512 z (turned a b c e) w) v w') x u) y u' :=
  (congrArg (fun t => dot768 (dot768 (dot512 (dot512 z t w) (shapeCast S512x512 v shapeCasts_S512x512_S512x512) w') x u) y u') (Win.joined_eq a b c e)).trans
    (congrArg (fun v => dot768 (dot768 (dot512 (dot512 z (turned a b c e) w) v w') x u) y u') (same_shape v))

theorem pay17_eq : k0_pay17 (F := Ideal) z (k0_pay16 x) u = dot768 z x u := rfl

end Same

variable (A : Args) (row : Fin 512 → Fin 4096)

/-- The columns of the cotangent and of the weight from column `o` on. -/
def tCols (n o : ℕ) : (⟨2, ![512, n]⟩ : Shape).Idx → EReal := up2 fun r (k : Fin n) => tN A (row r) (o + k.val)
def wCols (n o : ℕ) : (⟨2, ![1024, n]⟩ : Shape).Idx → EReal := up2 fun i (k : Fin n) => wN A i (o + k.val)
/-- The cotangent of the normed rows from the first `n` columns, and from all. -/
def duRows (n : ℕ) : (⟨2, ![512, 1024]⟩ : Shape).Idx → EReal := up2 fun r i => duTo A n (row r) i
def duRow : (⟨2, ![512, 1024]⟩ : Shape).Idx → EReal := up2 fun r i => du A (row r) i

theorem dot512_up (o e : ℕ) (he : o + 512 = e) : dot512 (duRows A row o) (tCols A row 512 o) (wCols A 512 o) = duRows A row e := by
  subst he
  funext j
  idx_vars j
  pointwise [dot512]
  simp only [duRows, tCols, wCols, up2_ix, ← EReal.coe_mul, coe_sum, ← EReal.coe_add, duTo_add]
theorem dot768_up (o e : ℕ) (he : o + 768 = e) : dot768 (duRows A row o) (tCols A row 768 o) (wCols A 768 o) = duRows A row e := by
  subst he
  funext j
  idx_vars j
  pointwise [dot768]
  simp only [duRows, tCols, wCols, up2_ix, ← EReal.coe_mul, coe_sum, ← EReal.coe_add, duTo_add]

theorem duRows_zero : k0_pay5 (F := Ideal) = duRows A row 0 := by
  funext j
  idx_vars j
  exact lit_zero.trans (by rfl)

theorem duRows_last : duRows A row 3840 = duRow A row := congrArg up2 (funext₂ fun _ _ => duTo_last A _ _)

theorem pay18_up : k0_pay18 (F := Ideal) (up2 fun r => A.x (row r)) = up2 fun r _ => rsr (A.x (row r)) := by
  funext j
  idx_vars j
  pointwise [k0_pay18]
  simp only [up2_ix, ← EReal.coe_mul, coe_sum, lit_1024, lit_eps]
  rw [div_pos_real _ (by norm_num), ← EReal.coe_add]
  exact rsqrt_real (msq_pos _)

theorem pay19_up : k0_pay19 (F := Ideal) (up2 fun r => A.x (row r)) = up2 fun r => nrm (A.x (row r)) := by
  funext j
  idx_vars j
  pointwise [k0_pay19]
  rw [pay18_up]
  rfl

/-- The last product done, a block of rows added to the cotangent of the gain. -/
theorem pay20_up (z : FVec Ideal S512x1024 .f32) (x : FVec Ideal S512x768 .bf16) (u : FVec Ideal S1024x768 .bf16) (v : FVec Ideal S1x1024 .f32)
    (h : dot768 z x u = duRow A row) : k0_pay20 (F := Ideal) z (k0_pay16 x) u (up2 fun r => A.x (row r)) v
      = fun j => v j + up2 (fun (_ : Fin 1) k => ∑ r, addG A k (row r)) j := by
  funext j
  idx_vars j
  pointwise [k0_pay20]
  rw [pay17_eq, h, pay19_up]
  simp only [duRow, up2_ix, ← EReal.coe_mul, coe_sum]
  rfl

/-- The last product done, the cotangent of a block of residual rows. -/
theorem pay21_up (z : FVec Ideal S512x1024 .f32) (x : FVec Ideal S512x768 .bf16) (u : FVec Ideal S1024x768 .bf16)
    (h : dot768 z x u = duRow A row) : k0_pay21 (F := Ideal) z (k0_pay16 x) u (up2 fun r => A.x (row r)) (up2 fun r => A.d (row r)) (up2 fun _ => A.g)
      = up2 fun r => dx A (row r) := by
  funext j
  idx_vars j
  pointwise [k0_pay21]
  rw [pay17_eq, h, pay18_up, pay19_up]
  simp only [duRow, up2_ix, ← EReal.coe_mul, coe_sum, lit_1024]
  rw [div_pos_real _ (by norm_num)]
  rfl

/-! ## One grid point -/

variable (m : (ℓ : Loc nD τ sig) → Buf (Elt Ideal) ℓ) (c : Dev nD)

/-- The blocks that the body reads at a grid point are the rows `row` of `A`'s arrays, and `A`'s gain and weight. -/
structure Reads (t : Fin cfg0.N) : Prop where
  q : turned (iblk m c 4 t) (iblk m c 5 t) (iblk m c 6 t) (iblk m c 0 t) = tCols A row 512 0
  k : turned (iblk m c 4 t) (iblk m c 5 t) (iblk m c 6 t) (iblk m c 1 t) = tCols A row 512 512
  v : (iblk m c 2 t : Vec Ideal S512x512 .bf16) = tCols A row 512 1024
  o : (iblk m c 3 t : Vec Ideal S512x2304 .bf16) = tCols A row 2304 1536
  d : (iblk m c 7 t : Vec Ideal S512x1024 .f32) = up2 fun r => A.d (row r)
  x : (iblk m c 8 t : Vec Ideal S512x1024 .f32) = up2 fun r => A.x (row r)
  g : (iblk m c 9 t : Vec Ideal S1x1024 .f32) = up2 fun _ => A.g
  w : (iblk m c 10 t : Vec Ideal S1024x3840 .bf16) = wCols A 3840 0

theorem ld_t (o e : ℕ) (he : 1536 + o = e) (inb) :
    View.ld (Val := Elt Ideal) (S := S512x2304) (e' := .bf16) (tCols A row 2304 1536) (Rect.unit (s := S512x2304) ![0, o] ![512, 768] inb) = tCols A row 768 e := by
  subst he
  funext x
  idx_vars x
  pointwise [tCols]
  simp only [up2_ix]
  exact congrArg (fun k => ((tN A (row x0) k : ℝ) : EReal)) (by show 1536 + (o + x1.val) = 1536 + o + x1.val; omega)
theorem ld_w (n o : ℕ) (inb) :
    View.ld (Val := Elt Ideal) (S := S1024x3840) (e' := .bf16) (wCols A 3840 0) (Rect.unit (s := S1024x3840) ![0, o] ![1024, n] inb) = wCols A n o := by
  funext x
  rw [eq_ix2 x]
  refine congrArg₂ (fun i k => ((wN A i k : ℝ) : EReal)) (Fin.ext ?_) ?_
  · show 0 + 1 * (x 0).val = (x 0).val; omega
  · show 0 + (o + 1 * (x 1).val) = o + (x 1).val; omega

/-- What point `t` leaves: its rows of the residual's cotangent, and its rows' sum added to what the point before left. -/
theorem step (t : Fin cfg0.N) (H : Reads A row m c t) :
    (outsAt0 m c t.val t.isLt).1 = up2 (fun r => dx A (row r))
    ∧ (outsAt0 m c t.val t.isLt).2 = fun j => (show EReal from (if t.val % 8 = 0 then k0_pay4 (F := Ideal) else (outsAt0 m c (t.val - 1) (Nat.lt_of_le_of_lt (Nat.sub_le _ _) t.isLt)).2) j)
      + up2 (fun (_ : Fin 1) k => ∑ r, addG A k (row r)) j := by
  by_cases h0 : t.val % 8 = 0
  all_goals
    first
      | rw [outsAt0_A m c t h0, if_pos h0]
      | rw [outsAt0_B m c t h0, if_neg h0]
    dsimp only
    refine ⟨?_, ?_⟩ <;> frame_out
  all_goals
    simp only [pay10_eq, pay15_eq, H.q, H.k, H.v, H.o, H.d, H.x, H.g, H.w, ld_w, ld_t A row 0 1536 rfl, ld_t A row 768 2304 rfl, ld_t A row 1536 3072 rfl,
      duRows_zero A row, dot512_up A row 0 512 rfl, dot512_up A row 512 1024 rfl, dot512_up A row 1024 1536 rfl, dot768_up A row 1536 2304 rfl, dot768_up A row 2304 3072 rfl]
    first
      | exact pay21_up A row _ _ _ ((dot768_up A row 3072 3840 rfl).trans (duRows_last A row))
      | exact pay20_up A row _ _ _ _ ((dot768_up A row 3072 3840 rfl).trans (duRows_last A row))

end Step.Inp

end
-- ==== Proof.InpRead.lean ====
/- The arrays the input projection's backward call reads: the cotangents, the rotary tables and the weight. -/
module

public import proofs.«01_k».proof.Proof.WinRead
public import proofs.«01_k».proof.Proof.Gen.InpIdeal.Value

@[expose] public section

set_option maxRecDepth 16384

noncomputable section

namespace Step.Inp

open Idealize.ShloMosaic Idealize.ShloMosaic.TcCoe Idealize.SL.Sem Step Cert.InpIdeal Cert.InpIdeal.Gen Cert.InpIdeal.Value

variable (m : (ℓ : Loc nD τ sig) → Buf (Elt Ideal) ℓ) (c : Dev nD) (m' : (ℓ : Loc Cert.WinIdeal.nD Cert.WinIdeal.τ Cert.WinIdeal.sig) → Buf (Elt Ideal) ℓ)

set_option maxHeartbeats 4000000 in
/-- The rotary tables are those of the weight's gradient: neither depends on an argument. -/
theorem tabs_same : (V m c main_v67 : S4096x128.Idx → EReal) = Cert.WinIdeal.Gen.V m' c Cert.WinIdeal.main_v79
    ∧ (V m c main_v71 : S4096x128.Idx → EReal) = Cert.WinIdeal.Gen.V m' c Cert.WinIdeal.main_v83
    ∧ (V m c main_v77 : S4096x128.Idx → EReal) = Cert.WinIdeal.Gen.V m' c Cert.WinIdeal.main_v89 := by
  simp only [V, hostOps0, hostOps0_1, hostOps0_2, hostOps0_3, hostOps0_4, hostOps0_5, hostOps0_6, hostOps0_7, hostOps0_8, hostOps0_9, hostOps0_10, hostOps0_11,
      hostOps0_12, hostOps0_13, hostOps0_14, hostOps0_15, hostOps0_16, hostOps0_17, hostOps0_18, hostOps0_19, hostOps0_20, Cert.WinIdeal.Gen.V,
      Cert.WinIdeal.Gen.hostOps0, Cert.WinIdeal.Gen.hostOps0_1, Cert.WinIdeal.Gen.hostOps0_2, Cert.WinIdeal.Gen.hostOps0_3, Cert.WinIdeal.Gen.hostOps0_4,
      Cert.WinIdeal.Gen.hostOps0_5, Cert.WinIdeal.Gen.hostOps0_6, Cert.WinIdeal.Gen.hostOps0_7, Cert.WinIdeal.Gen.hostOps0_8, Cert.WinIdeal.Gen.hostOps0_9,
      Cert.WinIdeal.Gen.hostOps0_10, Cert.WinIdeal.Gen.hostOps0_11, Cert.WinIdeal.Gen.hostOps0_12, Cert.WinIdeal.Gen.hostOps0_13,
      Cert.WinIdeal.Gen.hostOps0_14, Cert.WinIdeal.Gen.hostOps0_15, Cert.WinIdeal.Gen.hostOps0_16, Cert.WinIdeal.Gen.hostOps0_17, List.flatten_cons,
      List.flatten_nil, List.append_nil, List.cons_append, List.nil_append]
  refine ⟨?_, ?_, ?_⟩
  all_goals
    entry_read
    rfl

/-- Any memory of that program. -/
def anyMem : (ℓ : Loc Cert.WinIdeal.nD Cert.WinIdeal.τ Cert.WinIdeal.sig) → Buf (Elt Ideal) ℓ := fun _ _ => default

theorem V_c : (V m c main_v67 : S4096x128.Idx → EReal) = fun y => Win.tabC (y 0).val (y 1) := (tabs_same m c anyMem).1.trans (Win.V_c anyMem c)
theorem V_a : (V m c main_v71 : S4096x128.Idx → EReal) = fun y => Win.tabA (y 0).val (y 1) := (tabs_same m c anyMem).2.1.trans (Win.V_a anyMem c)
theorem V_b : (V m c main_v77 : S4096x128.Idx → EReal) = fun y => Win.tabB (y 0).val (y 1) := (tabs_same m c anyMem).2.2.trans (Win.V_b anyMem c)

set_option maxHeartbeats 4000000 in
/-- The casts, the reshaped gain, and the two arrays with columns of zeros after them. -/
theorem V_args : (V m c main_v0 : S4096x512.Idx → EReal) = m ((c : Thread nD τ).loc main_arg4) ∧ (V m c main_v1 : S4096x512.Idx → EReal) = m ((c : Thread nD τ).loc main_arg5)
    ∧ (V m c main_v2 : S4096x512.Idx → EReal) = m ((c : Thread nD τ).loc main_arg6)
    ∧ (V m c main_v4 : S4096x2304.Idx → EReal) = pad S4096x2304 ![0, 0] ![0, 248] ![0, 0] (m ((c : Thread nD τ).loc main_arg7) : FVec Ideal S4096x2056 .bf16) (sitofp (F := Ideal) .bf16 (constantI S_ 32 0#32)) pads_S4096x2056_S4096x2304_000_02480 h_S_
    ∧ (V m c main_v6 : S1024x3840.Idx → EReal) = pad S1024x3840 ![0, 0] ![0, 248] ![0, 0] (m ((c : Thread nD τ).loc main_arg2) : FVec Ideal S1024x3592 .bf16) (sitofp (F := Ideal) .bf16 (constantI S_ 32 0#32)) pads_S1024x3592_S1024x3840_000_02480 h_S_
    ∧ (V m c main_v78 : S1x1024.Idx → EReal) = shapeCast S1x1024 (m ((c : Thread nD τ).loc main_arg1) : S1024.Idx → EReal) shapeCasts_S1024_S1x1024 := by
  simp only [V, hostOps0, hostOps0_1, hostOps0_2, hostOps0_3, hostOps0_4, hostOps0_5, hostOps0_6, hostOps0_7, hostOps0_8, hostOps0_9, hostOps0_10, hostOps0_11,
      hostOps0_12, hostOps0_13, hostOps0_14, hostOps0_15, hostOps0_16, hostOps0_17, hostOps0_18, hostOps0_19, hostOps0_20, List.flatten_cons,
      List.flatten_nil, List.append_nil, List.cons_append, List.nil_append]
  refine ⟨?_, ?_, ?_, ?_, ?_, ?_⟩
  all_goals
    entry_read
    rfl

/-- A weight with columns of zeros after it. -/
theorem padW_eq (e : S1024x3592.Idx → EReal) :
    (pad S1024x3840 ![0, 0] ![0, 248] ![0, 0] (e : FVec Ideal S1024x3592 .bf16) (sitofp (F := Ideal) .bf16 (constantI S_ 32 0#32)) pads_S1024x3592_S1024x3840_000_02480 h_S_ : S1024x3840.Idx → EReal)
      = fun y => if h : (y 1).val < 3592 then e (ix2 (y 0) ⟨(y 1).val, h⟩) else 0 := by
  have z : FloatOps.sitofp (F := Ideal) .bf16 0#32 = 0 := by
    show (((0#32 : BitVec 32).toInt : ℝ) : EReal) = 0
    simp
  funext j
  idx_vars j
  pointwise
  rw [z]

theorem V_pad : (V m c main_v4 : S4096x2304.Idx → EReal) = fun y => if h : (y 1).val < 2056 then (show EReal from m ((c : Thread nD τ).loc main_arg7) (ix2 (y 0) ⟨(y 1).val, h⟩)) else 0 :=
  (V_args m c).2.2.2.1.trans (Win.pad_eq _)
theorem V_w : (V m c main_v6 : S1024x3840.Idx → EReal) = fun y => if h : (y 1).val < 3592 then (show EReal from m ((c : Thread nD τ).loc main_arg2) (ix2 (y 0) ⟨(y 1).val, h⟩)) else 0 :=
  (V_args m c).2.2.2.2.1.trans (padW_eq _)
theorem V_g : (V m c main_v78 : S1x1024.Idx → EReal) = fun y => (m ((c : Thread nD τ).loc main_arg1) : S1024.Idx → EReal) (ix1 (y 1)) := by
  refine (V_args m c).2.2.2.2.2.trans ?_
  generalize (m ((c : Thread nD τ).loc main_arg1) : S1024.Idx → EReal) = e
  funext j
  idx_vars j
  pointwise

end Step.Inp

end
-- ==== Proof.InpValue.lean ====
/- What the input projection's backward pass leaves in its two results, over the reals. -/
module

public import proofs.«01_k».proof.Proof.InpStep
public import proofs.«01_k».proof.Proof.InpRead
public import proofs.«01_k».proof.Proof.WinClaim

@[expose] public section

set_option maxRecDepth 16384

noncomputable section

namespace Step.Inp

open Idealize.ShloMosaic Idealize.ShloMosaic.TcCoe Idealize.SL.Sem Step Cert.InpIdeal Cert.InpIdeal.Gen Cert.InpIdeal.Value

/-- The program's arguments hold `A`'s arrays, the four parts of the projection's cotangent among them. -/
structure Holds (A : Args) (m : (ℓ : Loc nD τ sig) → Buf (Elt Ideal) ℓ) (c : Dev nD) : Prop where
  x : (m ((c : Thread nD τ).loc main_arg0) : S4096x1024.Idx → EReal) = up2 A.x
  g : (m ((c : Thread nD τ).loc main_arg1) : S1024.Idx → EReal) = up1 A.g
  w : (m ((c : Thread nD τ).loc main_arg2) : S1024x3592.Idx → EReal) = up2 A.w
  d : (m ((c : Thread nD τ).loc main_arg3) : S4096x1024.Idx → EReal) = up2 A.d
  t : ∀ r k, WinRef.cot (m ((c : Thread nD τ).loc main_arg4)) (m ((c : Thread nD τ).loc main_arg5)) (m ((c : Thread nD τ).loc main_arg6))
    (m ((c : Thread nD τ).loc main_arg7)) r k = ((A.t r k : ℝ) : EReal)

variable {A : Args} {m : (ℓ : Loc nD τ sig) → Buf (Elt Ideal) ℓ} {c : Dev nD}

/-! The four parts of the cotangent by columns. -/

theorem part_q (H : Holds A m c) (r : Fin 4096) (k : Fin 512) :
    Rope.back (fun k => (show EReal from m ((c : Thread nD τ).loc main_arg4) (ix2 r k))) r.val k = ((tN A r (0 + k.val) : ℝ) : EReal) := by
  have h : 0 + k.val < 3592 := by omega
  refine Eq.trans ?_ ((H.t r ⟨0 + k.val, h⟩).trans (congrArg (fun x : ℝ => (x : EReal)) (tN_lt h).symm))
  unfold WinRef.cot
  rw [dif_pos (by show 0 + k.val < 512; omega)]
  exact congrArg (Rope.back _ _) (Fin.ext (by show k.val = 0 + k.val; omega))
theorem part_k (H : Holds A m c) (r : Fin 4096) (k : Fin 512) :
    Rope.back (fun k => (show EReal from m ((c : Thread nD τ).loc main_arg5) (ix2 r k))) r.val k = ((tN A r (512 + k.val) : ℝ) : EReal) := by
  have h : 512 + k.val < 3592 := by omega
  refine Eq.trans ?_ ((H.t r ⟨512 + k.val, h⟩).trans (congrArg (fun x : ℝ => (x : EReal)) (tN_lt h).symm))
  unfold WinRef.cot
  rw [dif_neg (by show ¬512 + k.val < 512; omega), dif_pos (by show 512 + k.val < 1024; omega)]
  exact congrArg (Rope.back _ _) (Fin.ext (by show k.val = 512 + k.val - 512; omega))
theorem part_v (H : Holds A m c) (r : Fin 4096) (k : Fin 512) :
    (show EReal from m ((c : Thread nD τ).loc main_arg6) (ix2 r k)) = ((tN A r (1024 + k.val) : ℝ) : EReal) := by
  have h : 1024 + k.val < 3592 := by omega
  refine Eq.trans ?_ ((H.t r ⟨1024 + k.val, h⟩).trans (congrArg (fun x : ℝ => (x : EReal)) (tN_lt h).symm))
  unfold WinRef.cot
  rw [dif_neg (by show ¬1024 + k.val < 512; omega), dif_neg (by show ¬1024 + k.val < 1024; omega), dif_pos (by show 1024 + k.val < 1536; omega)]
  exact congrArg (fun k => (show EReal from m ((c : Thread nD τ).loc main_arg6) (ix2 r k))) (Fin.ext (by show k.val = 1024 + k.val - 1024; omega))
theorem part_o (H : Holds A m c) (r : Fin 4096) (k : Fin 2304) :
    (if h : k.val < 2056 then (show EReal from m ((c : Thread nD τ).loc main_arg7) (ix2 r ⟨k.val, h⟩)) else 0) = ((tN A r (1536 + k.val) : ℝ) : EReal) := by
  by_cases hk : k.val < 2056
  · have h : 1536 + k.val < 3592 := by omega
    refine (dif_pos hk).trans (Eq.trans ?_ ((H.t r ⟨1536 + k.val, h⟩).trans (congrArg (fun x : ℝ => (x : EReal)) (tN_lt h).symm)))
    unfold WinRef.cot
    rw [dif_neg (by show ¬1536 + k.val < 512; omega), dif_neg (by show ¬1536 + k.val < 1024; omega), dif_neg (by show ¬1536 + k.val < 1536; omega)]
    exact congrArg (fun k => (show EReal from m ((c : Thread nD τ).loc main_arg7) (ix2 r k))) (Fin.ext (by show k.val = 1536 + k.val - 1536; omega))
  · exact (dif_neg hk).trans (congrArg (fun x : ℝ => (x : EReal)) (tN_ge (by omega : ¬1536 + k.val < 3592)).symm)

theorem idx_rows : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0]
    ∧ win0_9.index t = ![0, 0] ∧ win0_10.index t = ![0, 0] := by decide +kernel

set_option maxHeartbeats 2000000 in
theorem reads (H : Holds A m c) (t : Fin cfg0.N) : Reads A (rowAt t.val) m c t := by
  have ht : t.val < 8 := lt_of_lt_of_eq t.isLt N_0
  obtain ⟨i0, i1, i2, i3, i4, i5, i6, i7, i8, i9, i10⟩ := idx_rows t
  have e0 : ∀ r k, iblk m c 0 t (ix2 r k) = m ((c : Thread nD τ).loc main_arg4) (ix2 (rowAt t.val r) k) := fun r k => (Win.rows_of (V m c main_v0) t.val ht _ i0 r k _ rfl rfl).trans (congrFun (V_args m c).1 _)
  have e1 : ∀ r k, iblk m c 1 t (ix2 r k) = m ((c : Thread nD τ).loc main_arg5) (ix2 (rowAt t.val r) k) := fun r k => (Win.rows_of (V m c main_v1) t.val ht _ i1 r k _ rfl rfl).trans (congrFun (V_args m c).2.1 _)
  have e2 : ∀ r k, iblk m c 2 t (ix2 r k) = m ((c : Thread nD τ).loc main_arg6) (ix2 (rowAt t.val r) k) := fun r k => (Win.rows_of (V m c main_v2) t.val ht _ i2 r k _ rfl rfl).trans (congrFun (V_args m c).2.2.1 _)
  have e4 : ∀ r k, iblk m c 4 t (ix2 r k) = Win.tabC (rowAt t.val r).val k := fun r k => (Win.rows_of (V m c main_v67) t.val ht _ i4 r k _ rfl rfl).trans (congrFun (V_c m c) _)
  have e5 : ∀ r k, iblk m c 5 t (ix2 r k) = Win.tabA (rowAt t.val r).val k := fun r k => (Win.rows_of (V m c main_v71) t.val ht _ i5 r k _ rfl rfl).trans (congrFun (V_a m c) _)
  have e6 : ∀ r k, iblk m c 6 t (ix2 r k) = Win.tabB (rowAt t.val r).val k := fun r k => (Win.rows_of (V m c main_v77) t.val ht _ i6 r k _ rfl rfl).trans (congrFun (V_b m c) _)
  constructor
  all_goals
    funext y
    idx_vars y
  · exact (Win.turn_eq _ _ _ _ y0 y1 _ _ (e4 y0) (e5 y0) (e6 y0) (e0 y0)).trans (part_q H _ y1)
  · exact (Win.turn_eq _ _ _ _ y0 y1 _ _ (e4 y0) (e5 y0) (e6 y0) (e1 y0)).trans (part_k H _ y1)
  · exact (e2 y0 y1).trans (part_v H _ y1)
  · exact ((Win.rows_of (V m c main_v4) t.val ht _ i3 y0 y1 _ rfl rfl).trans (congrFun (V_pad m c) _)).trans (part_o H _ y1)
  · exact (Win.rows_of (V m c main_arg3) t.val ht _ i7 y0 y1 _ rfl rfl).trans ((congrFun (V_main_arg3 m c) _).trans (congrFun H.d _))
  · exact (Win.rows_of (V m c main_arg0) t.val ht _ i8 y0 y1 _ rfl rfl).trans ((congrFun (V_main_arg0 m c) _).trans (congrFun H.x _))
  · refine Eq.trans (b := (V m c main_v78 : S1x1024.Idx → EReal) (ix2 y0 y1)) ?_ ((congrFun (V_g m c) _).trans (congrFun H.g _))
    blk_ext [iblk, i9]
  · refine Eq.trans (b := (V m c main_v6 : S1024x3840.Idx → EReal) (ix2 y0 y1)) ?_ ((congrFun (V_w m c) _).trans ?_)
    · blk_ext [iblk, i10]
    · show _ = ((wN A y0 (0 + y1.val) : ℝ) : EReal)
      rw [Nat.zero_add]
      by_cases h : y1.val < 3592
      · exact (dif_pos h).trans ((congrFun H.w _).trans (congrArg (fun x : ℝ => (x : EReal)) (wN_lt h).symm))
      · exact (dif_neg h).trans (congrArg (fun x : ℝ => (x : EReal)) (wN_ge h).symm)

/-- After point `n` the gain's gradient is summed over blocks `0 … n`. -/
theorem fold_eq (H : Holds A m c) : ∀ (n : ℕ) (h : n < cfg0.N), (outsAt0 m c n h).2 = up2 fun (_ : Fin 1) k => total (addG A k) n
  | 0, h => by
    refine (step A (rowAt 0) m c ⟨0, h⟩ (reads H ⟨0, h⟩)).2.trans ?_
    simp only [total_zero]
    exact funext fun j => (congrArg (· + _) lit_zero).trans (zero_add _)
  | n + 1, h => by
    have h8 : n + 1 < 8 := lt_of_lt_of_eq h N_0
    refine (step A (rowAt (n + 1)) m c ⟨n + 1, h⟩ (reads H ⟨n + 1, h⟩)).2.trans ?_
    have hn : ¬(n + 1) % 8 = 0 := by omega
    simp only [hn, if_false, Nat.add_sub_cancel]
    rw [fold_eq H n (by omega)]
    exact up2_succ (fun (_ : Fin 1) k r => addG A k r) n

theorem idx_outs : ∀ t : Fin grid0.N, win0_11.index t = ![t.val, 0] ∧ win0_12.index t = ![0, 0]
    ∧ win0_11.flush t = true ∧ (win0_12.flush t = true ↔ t.val = 7) := by decide +kernel

/-- The point whose blocks hold row `r`. -/
def ptOf (r : Fin 4096) : Fin cfg0.N := ⟨r.val / 512, lt_of_lt_of_eq (by omega) N_0.symm⟩

/-- The cotangent of the residual rows. -/
theorem final11 (H : Holds A m c) : ((dats m 0 c).arrAt 11 cfg0.N : S4096x1024.Idx → EReal) = up2 fun r => dx A r := by
  refine (dats m 0 c).arrAt_eq_of_cover 11 _ (fun t hf => ?_) fun i => ⟨ptOf (i 0), (idx_outs _).2.2.1, ?_⟩
  · rw [flushed11, (step A (rowAt t.val) m c t (reads H t)).1]
    funext y
    have ht : t.val < 8 := lt_of_lt_of_eq t.isLt N_0
    have hy : (y 0).val < 512 := (y 0).isLt
    refine congrArg₂ (fun r f => ((dx A r f : ℝ) : EReal)) (Fin.ext ?_) (Fin.ext ?_)
    · show (512 * t.val + (y 0).val) % 4096 = win0_11.index t 0 * 512 + 1 * (y 0).val
      rw [(idx_outs t).1]; show _ = t.val * 512 + _; omega
    · show (y 1).val = win0_11.index t 1 * 1024 + 1 * (y 1).val
      rw [(idx_outs t).1]; show _ = 0 * 1024 + _; omega
  · show i ∈ ((View.whole main_v79_0).slice (win0_11.rect (ptOf (i 0)))).set
    rw [View.set_slice_whole, Rect.mem_set_unit]
    have h0 : (i 0).val < 4096 := (i 0).isLt
    have h1 : (i 1).val < 1024 := (i 1).isLt
    intro a
    match a with
    | ⟨0, _⟩ => show win0_11.index (ptOf (i 0)) 0 * 512 ≤ (i 0).val ∧ (i 0).val < win0_11.index (ptOf (i 0)) 0 * 512 + 512; rw [(idx_outs _).1]; show (i 0).val / 512 * 512 ≤ _ ∧ _ < (i 0).val / 512 * 512 + 512; omega
    | ⟨1, _⟩ => show win0_11.index (ptOf (i 0)) 1 * 1024 ≤ (i 1).val ∧ (i 1).val < win0_11.index (ptOf (i 0)) 1 * 1024 + 1024; rw [(idx_outs _).1]; show 0 * 1024 ≤ _ ∧ _ < 0 * 1024 + 1024; omega

/-- The gradient of the norm's gain. -/
theorem final12 (H : Holds A m c) : ((dats m 0 c).arrAt 12 cfg0.N : S1x1024.Idx → EReal) = up2 fun _ k => ∑ r, addG A k r := by
  have hl : (7 : ℕ) < cfg0.N := lt_of_lt_of_eq (by omega) N_0.symm
  refine (dats m 0 c).arrAt_eq_of_cover 12 _ (fun t hf => ?_) fun i => ⟨⟨7, hl⟩, (idx_outs _).2.2.2.2 rfl, ?_⟩
  · have ht : t.val = 7 := (idx_outs t).2.2.2.1 hf
    obtain rfl : t = ⟨7, hl⟩ := Fin.ext ht
    rw [flushed12, fold_eq H 7 hl]
    funext y
    refine (congrArg (fun x : ℝ => (x : EReal)) (total_last _)).trans (congrArg (fun k => ((∑ r, addG A k r : ℝ) : EReal)) (Fin.ext ?_))
    show (y 1).val = win0_12.index ⟨7, hl⟩ 1 * 1024 + 1 * (y 1).val
    rw [(idx_outs ⟨7, hl⟩).2.1]; show _ = 0 * 1024 + _; omega
  · show i ∈ ((View.whole main_v79_1).slice (win0_12.rect ⟨7, hl⟩)).set
    rw [View.set_slice_whole, Rect.mem_set_unit]
    have h0 : (i 0).val < 1 := (i 0).isLt
    have h1 : (i 1).val < 1024 := (i 1).isLt
    intro a
    match a with
    | ⟨0, _⟩ => show win0_12.index ⟨7, hl⟩ 0 * 1 ≤ (i 0).val ∧ (i 0).val < win0_12.index ⟨7, hl⟩ 0 * 1 + 1; rw [(idx_outs ⟨7, hl⟩).2.1]; show 0 * 1 ≤ _ ∧ _ < 0 * 1 + 1; omega
    | ⟨1, _⟩ => show win0_12.index ⟨7, hl⟩ 1 * 1024 ≤ (i 1).val ∧ (i 1).val < win0_12.index ⟨7, hl⟩ 1 * 1024 + 1024; rw [(idx_outs ⟨7, hl⟩).2.1]; show 0 * 1024 ≤ _ ∧ _ < 0 * 1024 + 1024; omega

end Step.Inp

end
-- ==== Proof.InpRef.lean ====
/- What the lines of the input projection's reference compute, over the reals. -/
module

public import proofs.«01_k».proof.Proof.InpSpec
public import proofs.«01_k».proof.Proof.WinRef
public import proofs.«01_k».proof.Proof.Gen.InpRefIdeal.Read

@[expose] public section

set_option maxRecDepth 16384

noncomputable section

namespace Step.Inp

open Idealize.ShloMosaic Step Cert.InpRefIdeal Cert.InpRefIdeal.Gen Cert.InpRefIdeal.Read

variable (A : Args) {x4 x5 x6 : S4096x512.Idx → EReal} {x7 : S4096x2056.Idx → EReal} (ht : ∀ r k, WinRef.cot x4 x5 x6 x7 r k = ((A.t r k : ℝ) : EReal))

theorem v7_up : val_main_v7 (F := Ideal) (up2 A.x) = up2 fun r _ => msq (A.x r) := by
  funext j
  idx_vars j
  pointwise [val_main_v7, val_main_v1, val_main_v2, val_main_v3, val_main_v4, val_main_v5, val_main_v6, val_main_cst, val_main_cst_0, val_main_cst_1]
  simp only [up1_ix, up2_ix, ← EReal.coe_mul, ← EReal.coe_add, ← EReal.coe_sub, coe_sum, lit_1024, lit_eps, zero_add]
  rw [div_pos_real _ (by norm_num), ← EReal.coe_add]
  rfl

theorem v8_up : val_main_v8 (F := Ideal) (up2 A.x) = up2 fun r _ => rsr (A.x r) := by
  funext j
  idx_vars j
  pointwise [val_main_v8]
  rw [v7_up]
  exact rsqrt_real (msq_pos _)

theorem v11_up : val_main_v11 (F := Ideal) (up2 A.x) = up2 fun r _ => -(1 / 2) * (rsr (A.x r) / msq (A.x r)) := by
  funext j
  idx_vars j
  pointwise [val_main_v11, val_main_v9, val_main_v10, val_main_cst_2]
  rw [v7_up, v8_up, up2_ix, up2_ix, lit_neg_half, div_pos_real _ (msq_pos _), ← EReal.coe_mul]
  rfl

theorem v13_up : val_main_v13 (F := Ideal) (up2 A.x) = up2 fun r => nrm (A.x r) := by
  funext j
  idx_vars j
  pointwise [val_main_v13, val_main_v12]
  rw [v8_up]
  rfl

include ht

/-- The projection's cotangent is that of the weight's gradient. -/
theorem v154_up : val_main_v154 (F := Ideal) x4 x5 x6 x7 = up2 A.t :=
  (show val_main_v154 (F := Ideal) x4 x5 x6 x7 = Cert.WinRefIdeal.Read.val_main_v152 (F := Ideal) x4 x5 x6 x7 from rfl).trans
    ((WinRef.ref_cot x4 x5 x6 x7).trans (funext fun y => ht (y 0) (y 1)))

theorem v155_up : val_main_v155 (F := Ideal) (up2 A.w) x4 x5 x6 x7 = up2 fun r => du A r := by
  funext j
  idx_vars j
  pointwise [val_main_v155]
  simp only [v154_up A ht, up2_ix, ← EReal.coe_mul, coe_sum]
  rfl

theorem v160_up : val_main_v160 (F := Ideal) (up1 A.g) (up2 A.w) x4 x5 x6 x7 = up2 fun r k => du A r k * A.g k := by
  funext j
  idx_vars j
  pointwise [val_main_v160, val_main_v159, val_main_v14]
  rw [v155_up A ht]
  rfl

theorem v170_up : val_main_v170 (F := Ideal) (up2 A.x) (up1 A.g) (up2 A.w) x4 x5 x6 x7
    = up2 fun r _ => (∑ j, A.x r j * (du A r j * A.g j)) * (-(1 / 2) * (rsr (A.x r) / msq (A.x r))) / 1024 := by
  funext j
  idx_vars j
  pointwise [val_main_v170, val_main_v162, val_main_v163, val_main_v164, val_main_v168, val_main_v169, val_main_cst_21, val_main_cst_22]
  simp only [v160_up A ht, v11_up, up1_ix, up2_ix, ← EReal.coe_mul, ← EReal.coe_add, ← EReal.coe_sub, coe_sum, lit_1024, zero_add]
  exact div_pos_real _ (by norm_num)

theorem v176_up : val_main_v176 (F := Ideal) (up2 A.x) (up1 A.g) (up2 A.w) (up2 A.d) x4 x5 x6 x7 = up2 fun r => dx A r := by
  funext j
  idx_vars j
  pointwise [val_main_v176, val_main_v165, val_main_v166, val_main_v167, val_main_v171, val_main_v172, val_main_v173, val_main_v174, val_main_v175, val_main_cst_23]
  rw [v8_up, v160_up A ht, v170_up A ht]
  simp only [up1_ix, up2_ix, ← EReal.coe_mul, ← EReal.coe_add, ← EReal.coe_sub, coe_sum, zero_add, Fin.sum_univ_one]
  exact congrArg (fun x : ℝ => (x : EReal)) (by unfold dx; rw [nrmBwd_eq]; ring)

theorem v177_up : val_main_v177 (F := Ideal) (up2 A.x) (up2 A.w) x4 x5 x6 x7 = up2 fun _ k => ∑ r, addG A k r := by
  funext j
  idx_vars j
  pointwise [val_main_v177, val_main_v161, val_main_v158, val_main_v157, val_main_v156, val_main_cst_19, val_main_cst_20]
  simp only [v13_up, v155_up A ht, up1_ix, up2_ix, ← EReal.coe_mul, ← EReal.coe_add, ← EReal.coe_sub, coe_sum, zero_add, Fin.sum_univ_one]
  exact congrArg (fun x : ℝ => (x : EReal)) (Finset.sum_congr rfl fun r _ => mul_comm _ _)

end Step.Inp

end
-- ==== Proof.InpClaim.lean ====
/- The claims about the input projection's backward pass. -/
module

public import proofs.«01_k».proof.Proof.InpValue
public import proofs.«01_k».proof.Proof.InpRef
public import proofs.«01_k».proof.Proof.Finite
public import proofs.«01_k».proof.Proof.Gen.Pre_finite_inp
public import proofs.«01_k».proof.Proof.Gen.InpRefIdeal.Run
public import proofs.«01_k».proof.Defs

@[expose] public section

noncomputable section

namespace Step.Inp

open Idealize.ShloMosaic Idealize.ShloMosaic.TcCoe Idealize.SL.Sem Step

/-- A row of reals turned back is a row of reals. -/
theorem back_real (D : Fin 512 → ℝ) (r : ℕ) (k : Fin 512) : ∃ x : ℝ, Rope.back (fun k => ((D k : ℝ) : EReal)) r k = x := by
  unfold Rope.back Rope.C Rope.S
  split_ifs
  · exact ⟨_, by rw [← EReal.coe_mul, ← EReal.coe_mul, ← EReal.coe_add]⟩
  · exact ⟨_, by rw [← EReal.coe_neg, ← EReal.coe_mul, ← EReal.coe_mul, ← EReal.coe_add]⟩
  · exact ⟨_, rfl⟩

/-- The projection's cotangent is real where its parts are. -/
theorem cot_real (q k v : Fin 4096 → Fin 512 → ℝ) (o : Fin 4096 → Fin 2056 → ℝ) (r : Fin 4096) (i : Fin 3592) :
    ∃ x : ℝ, WinRef.cot (up2 q) (up2 k) (up2 v) (up2 o) r i = x := by
  unfold WinRef.cot
  split_ifs
  · exact back_real (q r) _ _
  · exact back_real (k r) _ _
  · exact ⟨_, rfl⟩
  · exact ⟨_, rfl⟩

/-- Arguments that are finite are arrays of reals. -/
theorem holds_of_finite (m : (ℓ : Loc Cert.InpIdeal.nD Cert.InpIdeal.τ Cert.InpIdeal.sig) → Buf (Elt Ideal) ℓ)
    (h : Cert.Pre_InpIdeal_finite_inp (hPre_finite_inp := Cert.Pre_finite_inp.Gen.facts) m) (c : Dev Cert.InpIdeal.nD) : ∃ A : Args, Holds A m c := by
  obtain ⟨h0, h1, h2, h3, h4, h5, h6, h7⟩ := h c
  obtain ⟨f0, e0⟩ := exists_up2 _ fun j => real_of_abs (congrFun h0 j)
  obtain ⟨f1, e1⟩ := exists_up1 _ fun j => real_of_abs (congrFun h1 j)
  obtain ⟨f2, e2⟩ := exists_up2 _ fun j => real_of_abs (congrFun h2 j)
  obtain ⟨f3, e3⟩ := exists_up2 _ fun j => real_of_abs (congrFun h3 j)
  obtain ⟨f4, e4⟩ := exists_up2 _ fun j => real_of_abs (congrFun h4 j)
  obtain ⟨f5, e5⟩ := exists_up2 _ fun j => real_of_abs (congrFun h5 j)
  obtain ⟨f6, e6⟩ := exists_up2 _ fun j => real_of_abs (congrFun h6 j)
  obtain ⟨f7, e7⟩ := exists_up2 _ fun j => real_of_abs (congrFun h7 j)
  choose t ht using fun r i => cot_real f4 f5 f6 f7 r i
  refine ⟨⟨f0, f1, f2, f3, t⟩, ⟨e0, e1, e2, e3, fun r k => Eq.trans ?_ (ht r k)⟩⟩
  exact congrFun (congrFun (congr (congr (congr (congrArg WinRef.cot e4) e5) e6) e7) r) k

theorem frame_ref : Cert.quiescent_InpRefIdeal (hInpRefIdeal := Cert.InpRefIdeal.Gen.facts) := fun m ρ _ =>
  (θ_run (Cert.InpRefIdeal.defs (F := Ideal)) _ _).mono
    (fun r h => ⟨fun c => (h c).2.2, sem_eq_zero_of_no_sems (by decide) r.2⟩) (Cert.InpRefIdeal.Value.run m ρ)

theorem algebraic : Cert.algebraic_InpIdeal_InpRefIdeal_pre_finite_inp (hInpIdeal := Cert.InpIdeal.Gen.facts)
    (hInpRefIdeal := Cert.InpRefIdeal.Gen.facts) (hPre_finite_inp := Cert.Pre_finite_inp.Gen.facts) := by
  intro m ρ m' ρ' hpre hag
  refine ⟨fun c => (Cert.InpIdeal.Gen.dats m 0 c).arrAt 11 Cert.InpIdeal.cfg0.N, fun c => (Cert.InpIdeal.Gen.dats m 0 c).arrAt 12 Cert.InpIdeal.cfg0.N,
    Cert.InpIdeal.Value.run_blocks m ρ, (θ_run _ _ _).mono (fun r h c => ?_) (Cert.InpRefIdeal.Value.run m' ρ')⟩
  obtain ⟨A, H⟩ := holds_of_finite m hpre c
  obtain ⟨a0, a1, a2, a3, a4, a5, a6, a7⟩ := hag c
  obtain ⟨r0, r1, kept⟩ := h c
  have b0 := a0.trans H.x
  have b1 := a1.trans H.g
  have b2 := a2.trans H.w
  have b3 := a3.trans H.d
  refine ⟨(r0.trans (Cert.InpRefIdeal.Read.val_main_v176_eq _)).trans (Eq.trans ?_ ((v176_up A H.t).trans (final11 H).symm)),
    (r1.trans (Cert.InpRefIdeal.Read.val_main_v177_eq _)).trans (Eq.trans ?_ ((v177_up A H.t).trans (final12 H).symm)), kept⟩
  · exact congr (congr (congr (congr (congr (congr (congr (congrArg _ b0) b1) b2) b3) a4) a5) a6) a7
  · exact congr (congr (congr (congr (congr (congrArg _ b0) b2) a4) a5) a6) a7

end Step.Inp

end
-- ==== Proof.Whole.lean ====
/- A block of 512 rows of 1024 that is stored whole. -/
module

public import proofs.«01_k».proof.Proof.Blocks
public import Idealize.ShloMosaic.Lib.Pipeline.ReadBack
public import Idealize.ShloMosaic.Lib.Pipeline.ValueKit.Tiles

@[expose] public section

noncomputable section

namespace Step

open Idealize.ShloMosaic

/-- A block stored whole is what was stored. -/
theorem canon_block {e : EltTy} (ib : ∀ x, (![0, 0] : Fin 2 → ℕ) x + (⟨2, ![512, 1024]⟩ : Shape).size x ≤ (⟨2, ![512, 1024]⟩ : Shape).size x)
    (f : (⟨2, ![512, 1024]⟩ : Shape).Idx → Elt Ideal e) :
    View.canon (Val := Elt Ideal) (s := ⟨2, ![512, 1024]⟩) (e := e) [⟨Rect.unit (s := ⟨2, ![512, 1024]⟩) ![0, 0] (⟨2, ![512, 1024]⟩ : Shape).size ib, f⟩] = f := by
  funext y
  have h0 : (y 0).val < 512 := (y 0).isLt
  have h1 : (y 1).val < 1024 := (y 1).isLt
  refine View.canon_apply_of_pieces f _ ?_ y ⟨_, List.mem_singleton.mpr rfl, ?_⟩
  · intro pc hpc
    obtain rfl := List.mem_singleton.mp hpc
    exact fun x => congrArg f (funext fun a => Fin.ext (by
      match a with
      | ⟨0, _⟩ => show (x 0).val = 0 + 1 * (x 0).val; omega
      | ⟨1, _⟩ => show (x 1).val = 0 + 1 * (x 1).val; omega))
  · show y ∈ (Rect.unit (s := ⟨2, ![512, 1024]⟩) ![0, 0] (⟨2, ![512, 1024]⟩ : Shape).size ib).set
    rw [Rect.mem_set_unit]
    intro x
    match x with
    | ⟨0, _⟩ => show 0 ≤ (y 0).val ∧ (y 0).val < 0 + 512; omega
    | ⟨1, _⟩ => show 0 ≤ (y 1).val ∧ (y 1).val < 0 + 1024; omega

end Step

end
-- ==== Proof.OutpStep.lean ====
/- One grid point of the output projection and the norm behind it. -/
module

public import proofs.«01_k».proof.Proof.Whole
public import proofs.«01_k».proof.Proof.Gen.OutpIdeal.Value

@[expose] public section

set_option maxRecDepth 16384

noncomputable section

namespace Step.Outp

open Idealize.ShloMosaic Idealize.ShloMosaic.TcCoe Idealize.SL.Sem Step Cert.OutpIdeal Cert.OutpIdeal.Gen Cert.OutpIdeal.Value

/-- A row divided by its root mean square, times the gain. -/
def normed (g h : Fin 1024 → EReal) (k : Fin 1024) : EReal :=
  h k * Ideal.rsqrt (Ideal.div (∑ i, h i * h i) (Ideal.ofBits FTy.f32 0x44800000#32) + Ideal.ofBits FTy.f32 0x358637BD#32) * g k

/-- A row plus the product of two rows of 512, one behind the other, with the weight's columns. -/
def added (x : Fin 1024 → EReal) (a l : Fin 512 → EReal) (w : S1024x1024.Idx → EReal) (k : Fin 1024) : EReal :=
  x k + (∑ i : Fin 512, a i * w (ix2 (⟨i.val, by omega⟩ : Fin 1024) k) + ∑ i : Fin 512, l i * w (ix2 (⟨512 + i.val, by omega⟩ : Fin 1024) k))

theorem pay1_eq (x : FVec Ideal S512x1024 .f32) (a : FVec Ideal S512x512 .f32) (u : FVec Ideal S512x1024 .bf16) (l : FVec Ideal S512x512 .f32) (v : FVec Ideal S512x1024 .bf16)
    (r : Fin 512) (k : Fin 1024) : (k0_pay1 (F := Ideal) x a u l v (ix2 r k) : EReal)
      = x (ix2 r k) + (∑ i : Fin 512, (a (ix2 r i) : EReal) * u (ix2 i k) + ∑ i : Fin 512, (l (ix2 r i) : EReal) * v (ix2 i k)) := by
  refine Eq.trans ?_ (add_assoc _ _ _)
  pointwise [k0_pay1]

theorem pay2_eq (x : FVec Ideal S512x1024 .f32) (a : FVec Ideal S512x512 .f32) (u : FVec Ideal S512x1024 .bf16) (l : FVec Ideal S512x512 .f32) (v : FVec Ideal S512x1024 .bf16) (g : FVec Ideal S1x1024 .f32)
    (r : Fin 512) (k : Fin 1024) : (k0_pay2 (F := Ideal) x a u l v g (ix2 r k) : EReal)
      = normed (fun k => g (ix2 (0 : Fin 1) k)) (fun k => k0_pay1 (F := Ideal) x a u l v (ix2 r k)) k := by
  unfold k0_pay2
  generalize k0_pay1 (F := Ideal) x a u l v = h
  pointwise []
  rfl

variable (m : (ℓ : Loc nD τ sig) → Buf (Elt Ideal) ℓ) (c : Dev nD)

theorem V_w : (V m c main_v0 : S1024x1024.Idx → EReal) = m ((c : Thread nD τ).loc main_arg3) := by
  entry_read
  rfl

theorem V_g (k : Fin 1024) : (V m c main_v1 (ix2 (0 : Fin 1) k) : EReal) = m ((c : Thread nD τ).loc main_arg4) (ix1 k) := by
  entry_read
  pointwise []

/-- A row of the first result. -/
def row (r : Fin 4096) (k : Fin 1024) : EReal :=
  added (fun k => m ((c : Thread nD τ).loc main_arg0) (ix2 r k)) (fun i => m ((c : Thread nD τ).loc main_arg1) (ix2 r i)) (fun i => m ((c : Thread nD τ).loc main_arg2) (ix2 r i))
    (m ((c : Thread nD τ).loc main_arg3)) k

/-- A row of the second result. -/
def rowN (r : Fin 4096) (k : Fin 1024) : EReal := normed (fun k => m ((c : Thread nD τ).loc main_arg4) (ix1 k)) (row m c r) k

theorem idx_in : ∀ t : Fin grid0.N, win0_0.index t = ![t.val, 0] ∧ win0_1.index t = ![t.val, 0] ∧ win0_2.index t = ![t.val, 0] ∧ win0_3.index t = ![0, 0] ∧ win0_4.index t = ![0, 0] := by decide +kernel

theorem idx_out : ∀ t : Fin grid0.N, win0_5.index t = ![t.val, 0] ∧ win0_6.index t = ![t.val, 0] ∧ win0_5.flush t = true ∧ win0_6.flush t = true := by decide +kernel

theorem read_x (t : Fin cfg0.N) (r : Fin 512) (k : Fin 1024) : (View.ld (iblk m c 0 t) r0_0 (ix2 r k) : EReal) = m ((c : Thread nD τ).loc main_arg0) (ix2 (rowAt t.val r) k) := by
  have ht : t.val < 8 := lt_of_lt_of_eq t.isLt N_0
  refine Eq.trans ?_ (congrFun (V_main_arg0 m c) _)
  refine congrArg (V m c main_arg0) (funext fun x => Fin.ext ?_)
  match x with
  | ⟨0, _⟩ => show win0_0.index t 0 * 512 + 1 * (0 + 1 * r.val) = (512 * t.val + r.val) % 4096; rw [(idx_in t).1]; show t.val * 512 + _ = _; omega
  | ⟨1, _⟩ => show win0_0.index t 1 * 1024 + 1 * (0 + 1 * k.val) = k.val; rw [(idx_in t).1]; show 0 * 1024 + _ = _; omega

theorem read_a (t : Fin cfg0.N) (r i : Fin 512) : (View.ld (iblk m c 1 t) r0_1 (ix2 r i) : EReal) = m ((c : Thread nD τ).loc main_arg1) (ix2 (rowAt t.val r) i) := by
  have ht : t.val < 8 := lt_of_lt_of_eq t.isLt N_0
  refine Eq.trans ?_ (congrFun (V_main_arg1 m c) _)
  refine congrArg (V m c main_arg1) (funext fun x => Fin.ext ?_)
  match x with
  | ⟨0, _⟩ => show win0_1.index t 0 * 512 + 1 * (0 + 1 * r.val) = (512 * t.val + r.val) % 4096; rw [(idx_in t).2.1]; show t.val * 512 + _ = _; omega
  | ⟨1, _⟩ => show win0_1.index t 1 * 512 + 1 * (0 + 1 * i.val) = i.val; rw [(idx_in t).2.1]; show 0 * 512 + _ = _; omega

theorem read_l (t : Fin cfg0.N) (r i : Fin 512) : (View.ld (iblk m c 2 t) r0_1 (ix2 r i) : EReal) = m ((c : Thread nD τ).loc main_arg2) (ix2 (rowAt t.val r) i) := by
  have ht : t.val < 8 := lt_of_lt_of_eq t.isLt N_0
  refine Eq.trans ?_ (congrFun (V_main_arg2 m c) _)
  refine congrArg (V m c main_arg2) (funext fun x => Fin.ext ?_)
  match x with
  | ⟨0, _⟩ => show win0_2.index t 0 * 512 + 1 * (0 + 1 * r.val) = (512 * t.val + r.val) % 4096; rw [(idx_in t).2.2.1]; show t.val * 512 + _ = _; omega
  | ⟨1, _⟩ => show win0_2.index t 1 * 512 + 1 * (0 + 1 * i.val) = i.val; rw [(idx_in t).2.2.1]; show 0 * 512 + _ = _; omega

theorem read_u (t : Fin cfg0.N) (i : Fin 512) (k : Fin 1024) :
    (View.ld (iblk m c 3 t) r0_2 (ix2 i k) : EReal) = m ((c : Thread nD τ).loc main_arg3) (ix2 (⟨i.val, by omega⟩ : Fin 1024) k) := by
  refine Eq.trans ?_ (congrFun (V_w m c) _)
  refine congrArg (V m c main_v0) (funext fun x => Fin.ext ?_)
  match x with
  | ⟨0, _⟩ => show win0_3.index t 0 * 1024 + 1 * (0 + 1 * i.val) = i.val; rw [(idx_in t).2.2.2.1]; show 0 * 1024 + _ = _; omega
  | ⟨1, _⟩ => show win0_3.index t 1 * 1024 + 1 * (0 + 1 * k.val) = k.val; rw [(idx_in t).2.2.2.1]; show 0 * 1024 + _ = _; omega

theorem read_v (t : Fin cfg0.N) (i : Fin 512) (k : Fin 1024) :
    (View.ld (iblk m c 3 t) r0_3 (ix2 i k) : EReal) = m ((c : Thread nD τ).loc main_arg3) (ix2 (⟨512 + i.val, by omega⟩ : Fin 1024) k) := by
  refine Eq.trans ?_ (congrFun (V_w m c) _)
  refine congrArg (V m c main_v0) (funext fun x => Fin.ext ?_)
  match x with
  | ⟨0, _⟩ => show win0_3.index t 0 * 1024 + 1 * (512 + 1 * i.val) = 512 + i.val; rw [(idx_in t).2.2.2.1]; show 0 * 1024 + _ = _; omega
  | ⟨1, _⟩ => show win0_3.index t 1 * 1024 + 1 * (0 + 1 * k.val) = k.val; rw [(idx_in t).2.2.2.1]; show 0 * 1024 + _ = _; omega

theorem read_g (t : Fin cfg0.N) (k : Fin 1024) : (View.ld (iblk m c 4 t) r0_4 (ix2 (0 : Fin 1) k) : EReal) = m ((c : Thread nD τ).loc main_arg4) (ix1 k) := by
  refine Eq.trans ?_ (V_g m c k)
  refine congrArg (V m c main_v1) (funext fun x => Fin.ext ?_)
  match x with
  | ⟨0, _⟩ => show win0_4.index t 0 * 1 + 1 * (0 + 1 * 0) = 0; rw [(idx_in t).2.2.2.2]; rfl
  | ⟨1, _⟩ => show win0_4.index t 1 * 1024 + 1 * (0 + 1 * k.val) = k.val; rw [(idx_in t).2.2.2.2]; show 0 * 1024 + _ = _; omega

/-- The rows a point computes. -/
theorem step1 (t : Fin cfg0.N) (r : Fin 512) (k : Fin 1024) :
    (k0_pay1 (F := Ideal) (View.ld (iblk m c 0 t) r0_0) (View.ld (iblk m c 1 t) r0_1) (View.ld (iblk m c 3 t) r0_2) (View.ld (iblk m c 2 t) r0_1) (View.ld (iblk m c 3 t) r0_3) (ix2 r k) : EReal)
      = row m c (rowAt t.val r) k := by
  rw [pay1_eq]
  refine congr (congrArg _ (read_x m c t r k)) (congr (congrArg _ (Finset.sum_congr rfl fun i _ => ?_)) (Finset.sum_congr rfl fun i _ => ?_))
  · exact congr (congrArg _ (read_a m c t r i)) (read_u m c t i k)
  · exact congr (congrArg _ (read_l m c t r i)) (read_v m c t i k)

theorem step2 (t : Fin cfg0.N) (r : Fin 512) (k : Fin 1024) :
    (k0_pay2 (F := Ideal) (View.ld (iblk m c 0 t) r0_0) (View.ld (iblk m c 1 t) r0_1) (View.ld (iblk m c 3 t) r0_2) (View.ld (iblk m c 2 t) r0_1) (View.ld (iblk m c 3 t) r0_3) (View.ld (iblk m c 4 t) r0_4) (ix2 r k) : EReal)
      = rowN m c (rowAt t.val r) k := by
  rw [pay2_eq]
  exact congr (congr (congrArg normed (funext fun k => read_g m c t k)) (funext fun k => step1 m c t r k)) rfl

/-- The point whose blocks hold row `r`. -/
def ptOf (r : Fin 4096) : Fin cfg0.N := ⟨r.val / 512, lt_of_lt_of_eq (by omega) N_0.symm⟩

/-- The first result. -/
theorem final5 : ((dats m 0 c).arrAt 5 cfg0.N : S4096x1024.Idx → EReal) = fun y => row m c (y 0) (y 1) := by
  refine (dats m 0 c).arrAt_eq_of_cover 5 _ (fun t hf => ?_) fun i => ⟨ptOf (i 0), (idx_out _).2.2.1, ?_⟩
  · rw [flushed5]
    unfold out0_5
    rw [canon_block]
    funext y
    have ht : t.val < 8 := lt_of_lt_of_eq t.isLt N_0
    have hy : (y 0).val < 512 := (y 0).isLt
    refine ((congrArg _ (eq_ix2 _)).trans (step1 m c t (y 0) (y 1))).trans (congrArg₂ (row m c) (Fin.ext ?_) (Fin.ext ?_))
    · show (512 * t.val + (y 0).val) % 4096 = win0_5.index t 0 * 512 + 1 * (y 0).val
      rw [(idx_out t).1]; show _ = t.val * 512 + _; omega
    · show (y 1).val = win0_5.index t 1 * 1024 + 1 * (y 1).val
      rw [(idx_out t).1]; show _ = 0 * 1024 + _; omega
  · show i ∈ ((View.whole main_v2_0).slice (win0_5.rect (ptOf (i 0)))).set
    rw [View.set_slice_whole, Rect.mem_set_unit]
    have h0 : (i 0).val < 4096 := (i 0).isLt
    have h1 : (i 1).val < 1024 := (i 1).isLt
    intro a
    match a with
    | ⟨0, _⟩ => show win0_5.index (ptOf (i 0)) 0 * 512 ≤ (i 0).val ∧ (i 0).val < win0_5.index (ptOf (i 0)) 0 * 512 + 512; rw [(idx_out _).1]; show (i 0).val / 512 * 512 ≤ _ ∧ _ < (i 0).val / 512 * 512 + 512; omega
    | ⟨1, _⟩ => show win0_5.index (ptOf (i 0)) 1 * 1024 ≤ (i 1).val ∧ (i 1).val < win0_5.index (ptOf (i 0)) 1 * 1024 + 1024; rw [(idx_out _).1]; show 0 * 1024 ≤ _ ∧ _ < 0 * 1024 + 1024; omega

/-- The second result. -/
theorem final6 : ((dats m 0 c).arrAt 6 cfg0.N : S4096x1024.Idx → EReal) = fun y => rowN m c (y 0) (y 1) := by
  refine (dats m 0 c).arrAt_eq_of_cover 6 _ (fun t hf => ?_) fun i => ⟨ptOf (i 0), (idx_out _).2.2.2, ?_⟩
  · rw [flushed6]
    unfold out0_6
    rw [canon_block]
    funext y
    have ht : t.val < 8 := lt_of_lt_of_eq t.isLt N_0
    have hy : (y 0).val < 512 := (y 0).isLt
    refine ((congrArg _ (eq_ix2 _)).trans (step2 m c t (y 0) (y 1))).trans (congrArg₂ (rowN m c) (Fin.ext ?_) (Fin.ext ?_))
    · show (512 * t.val + (y 0).val) % 4096 = win0_6.index t 0 * 512 + 1 * (y 0).val
      rw [(idx_out t).2.1]; show _ = t.val * 512 + _; omega
    · show (y 1).val = win0_6.index t 1 * 1024 + 1 * (y 1).val
      rw [(idx_out t).2.1]; show _ = 0 * 1024 + _; omega
  · show i ∈ ((View.whole main_v2_1).slice (win0_6.rect (ptOf (i 0)))).set
    rw [View.set_slice_whole, Rect.mem_set_unit]
    have h0 : (i 0).val < 4096 := (i 0).isLt
    have h1 : (i 1).val < 1024 := (i 1).isLt
    intro a
    match a with
    | ⟨0, _⟩ => show win0_6.index (ptOf (i 0)) 0 * 512 ≤ (i 0).val ∧ (i 0).val < win0_6.index (ptOf (i 0)) 0 * 512 + 512; rw [(idx_out _).2.1]; show (i 0).val / 512 * 512 ≤ _ ∧ _ < (i 0).val / 512 * 512 + 512; omega
    | ⟨1, _⟩ => show win0_6.index (ptOf (i 0)) 1 * 1024 ≤ (i 1).val ∧ (i 1).val < win0_6.index (ptOf (i 0)) 1 * 1024 + 1024; rw [(idx_out _).2.1]; show 0 * 1024 ≤ _ ∧ _ < 0 * 1024 + 1024; omega

end Step.Outp

end
-- ==== Proof.OutpClaim.lean ====
/- The claims about the output projection and the norm behind it. -/
module

public import proofs.«01_k».proof.Proof.OutpStep
public import proofs.«01_k».proof.Proof.Gen.OutpRefIdeal.Run
public import proofs.«01_k».proof.Proof.Gen.OutpRefIdeal.Read
public import proofs.«01_k».proof.Defs

@[expose] public section

set_option maxRecDepth 16384

noncomputable section

namespace Step.Outp

open Idealize.ShloMosaic Idealize.ShloMosaic.TcCoe Idealize.SL.Sem Step

section Reference

open Cert.OutpRefIdeal Cert.OutpRefIdeal.Read

variable (x : FVec Ideal S4096x1024 .f32) (a l : FVec Ideal S4096x512 .f32) (w : FVec Ideal S1024x1024 .f32) (g : FVec Ideal S1024 .f32)

/-- The reference's first result, row by row. -/
theorem ref_h (r : Fin 4096) (k : Fin 1024) : (val_main_v2 (F := Ideal) x a l w (ix2 r k) : EReal)
    = added (fun k => x (ix2 r k)) (fun i => a (ix2 r i)) (fun i => l (ix2 r i)) w k := by
  pointwise [val_main_v2, val_main_v1, val_main_v0]
  rfl

/-- The reference's second result is the norm of the first. -/
theorem ref_u (r : Fin 4096) (k : Fin 1024) : (val_main_v16 (F := Ideal) x a l w g (ix2 r k) : EReal)
    = normed (fun k => g (ix1 k)) (fun k => val_main_v2 (F := Ideal) x a l w (ix2 r k)) k := by
  pointwise [val_main_v16, val_main_v15, val_main_v14, val_main_v13, val_main_v12, val_main_v11, val_main_v10, val_main_v9, val_main_v8, val_main_v7, val_main_v6, val_main_v5, val_main_v4, val_main_v3, val_main_cst, val_main_cst_0, val_main_cst_1]
  rfl

end Reference

theorem frame_ref : Cert.quiescent_OutpRefIdeal (hOutpRefIdeal := Cert.OutpRefIdeal.Gen.facts) := fun m ρ _ =>
  (θ_run (Cert.OutpRefIdeal.defs (F := Ideal)) _ _).mono
    (fun r h => ⟨fun c => (h c).2.2, sem_eq_zero_of_no_sems (by decide) r.2⟩) (Cert.OutpRefIdeal.Value.run m ρ)

theorem algebraic : Cert.algebraic_OutpIdeal_OutpRefIdeal (hOutpIdeal := Cert.OutpIdeal.Gen.facts)
    (hOutpRefIdeal := Cert.OutpRefIdeal.Gen.facts) := by
  intro m ρ m' ρ' _ hag
  refine ⟨fun c => (Cert.OutpIdeal.Gen.dats m 0 c).arrAt 5 Cert.OutpIdeal.cfg0.N, fun c => (Cert.OutpIdeal.Gen.dats m 0 c).arrAt 6 Cert.OutpIdeal.cfg0.N,
    Cert.OutpIdeal.Value.run_blocks m ρ, (θ_run _ _ _).mono (fun r h c => ?_) (Cert.OutpRefIdeal.Value.run m' ρ')⟩
  obtain ⟨a0, a1, a2, a3, a4⟩ := hag c
  obtain ⟨r0, r1, kept⟩ := h c
  refine ⟨(r0.trans (Cert.OutpRefIdeal.Read.val_main_v2_eq _ _ _ _)).trans ?_, (r1.trans (Cert.OutpRefIdeal.Read.val_main_v16_eq _ _ _ _ _)).trans ?_, kept⟩
  · refine Eq.trans (congr (congr (congr (congrArg _ a0) a1) a2) a3) (Eq.trans (funext fun y => ?_) (final5 m c).symm)
    exact (congrArg _ (eq_ix2 y)).trans (ref_h _ _ _ _ (y 0) (y 1))
  · refine Eq.trans (congr (congr (congr (congr (congrArg _ a0) a1) a2) a3) a4) (Eq.trans (funext fun y => ?_) (final6 m c).symm)
    refine ((congrArg _ (eq_ix2 y)).trans (ref_u _ _ _ _ _ (y 0) (y 1))).trans ?_
    exact congrArg (fun h => normed _ h (y 1)) (funext fun k => ref_h _ _ _ _ (y 0) k)

end Step.Outp

end
-- ==== Proof.MlpfStep.lean ====
/- One grid point of the squared-relu layer's forward pass. -/
module

public import proofs.«01_k».proof.Proof.Whole
public import proofs.«01_k».proof.Proof.Gen.MlpfIdeal.Value
public import proofs.«01_k».proof.Proof.Gen.MlpfRefIdeal.Read

@[expose] public section

set_option maxRecDepth 16384

noncomputable section

namespace Step.Mlpf

open Idealize.ShloMosaic Idealize.ShloMosaic.TcCoe Idealize.SL.Sem Step Cert.MlpfIdeal Cert.MlpfIdeal.Gen Cert.MlpfIdeal.Value

/-- The squared relu. -/
def sq (x : EReal) : EReal := max x 0 * max x 0

/-- One block of columns of the first product. -/
def prod (u : FVec Ideal S512x1024 .bf16) (w : FVec Ideal S1x1024x512 .bf16) : FVec Ideal S512x512 .f32 := k0_pay5 (F := Ideal) u w

theorem prod_apply (u : FVec Ideal S512x1024 .bf16) (w : FVec Ideal S1x1024x512 .bf16) (r f : Fin 512) :
    (prod u w (ix2 r f) : EReal) = ∑ k : Fin 1024, (u (ix2 r k) : EReal) * w (ix3 (0 : Fin 1) k f) := by
  unfold prod
  pointwise [k0_pay5, k0_pay4]

/-- One block of columns of the first product, squared through the relu and multiplied by the two halves of its block of the second weight. -/
def add (acc : FVec Ideal S512x1024 .f32) (a : FVec Ideal S512x512 .f32) (lo hi : FVec Ideal S1x256x1024 .bf16) : FVec Ideal S512x1024 .f32 :=
  have r : FVec Ideal S512x512 .f32 := maximumf a (broadcast S512x512 (Scalar.ofBits .f32 0x00000000#32))
  have s : FVec Ideal S512x512 .bf16 := truncf .bf16 (mulf r r) bitsLt_bf16_f32
  addf (addf acc (matmul dot_S512x256_S256x1024_S512x1024_1_0_0_1_n_n none (extractStridedSlice S512x256 ![0, 0] s slices_S512x512_o0_0_S512x256)
      (shapeCast S256x1024 lo shapeCasts_S1x256x1024_S256x1024) (constant S512x1024 .f32 0x00000000#32)))
    (matmul dot_S512x256_S256x1024_S512x1024_1_0_0_1_n_n none (extractStridedSlice S512x256 ![0, 256] s slices_S512x512_o0_256_S512x256)
      (shapeCast S256x1024 hi shapeCasts_S1x256x1024_S256x1024) (constant S512x1024 .f32 0x00000000#32))

theorem add_apply (acc : FVec Ideal S512x1024 .f32) (a : FVec Ideal S512x512 .f32) (lo hi : FVec Ideal S1x256x1024 .bf16) (r : Fin 512) (k : Fin 1024) :
    (add acc a lo hi (ix2 r k) : EReal) = acc (ix2 r k) + (∑ i : Fin 256, sq (a (ix2 r (⟨i.val, by omega⟩ : Fin 512))) * lo (ix3 (0 : Fin 1) i k)
      + ∑ i : Fin 256, sq (a (ix2 r (⟨256 + i.val, by omega⟩ : Fin 512))) * hi (ix3 (0 : Fin 1) i k)) := by
  refine Eq.trans ?_ (add_assoc _ _ _)
  pointwise [add]
  rfl

/-- The kernel writes its eight blocks out one by one; each is one `add`. -/
theorem chain (x : FVec Ideal S512x1024 .f32) (u : FVec Ideal S512x1024 .bf16) (w0 w1 w2 w3 w4 w5 w6 w7 : FVec Ideal S1x1024x512 .bf16)
    (l0 l1 l2 l3 l4 l5 l6 l7 h0 h1 h2 h3 h4 h5 h6 h7 : FVec Ideal S1x256x1024 .bf16) :
    k0_pay3 (F := Ideal) (k0_pay4 u) (k0_pay24 (k0_pay4 u) (k0_pay19 (k0_pay4 u) (k0_pay13 (k0_pay4 u) (k0_pay7 u x w0 l0 h0) (k0_pay10 u w1) l1 h1 w2 l2 h2)
      (k0_pay14 (k0_pay4 u) w3) l3 h3 w4 l4) (k0_pay20 (k0_pay4 u) w4) (k0_pay21 h4) w5 l5 h5) (k0_pay27 (k0_pay4 u) w6) (k0_pay28 (k0_pay4 u) w6) l6 h6 w7 l7 h7
    = add (add (add (add (add (add (add (add x (prod u w0) l0 h0) (prod u w1) l1 h1) (prod u w2) l2 h2) (prod u w3) l3 h3) (prod u w4) l4 h4) (prod u w5) l5 h5)
        (prod u w6) l6 h6) (prod u w7) l7 h7 := rfl

variable (m : (ℓ : Loc nD τ sig) → Buf (Elt Ideal) ℓ) (c : Dev nD)

/-- The arguments, and the normed rows as the reference computes them. -/
abbrev hArr : S4096x1024.Idx → EReal := m ((c : Thread nD τ).loc main_arg0)
abbrev upArr : S1024x4096.Idx → EReal := m ((c : Thread nD τ).loc main_arg2)
abbrev downArr : S4096x1024.Idx → EReal := m ((c : Thread nD τ).loc main_arg3)
abbrev uArr : S4096x1024.Idx → EReal := Cert.MlpfRefIdeal.Read.val_main_v12 (F := Ideal) (m ((c : Thread nD τ).loc main_arg0)) (m ((c : Thread nD τ).loc main_arg1))

/-- The first product. -/
def act (r f : Fin 4096) : EReal := ∑ k : Fin 1024, uArr m c (ix2 r k) * upArr m c (ix2 k f)
/-- What column `f` of it adds to the layer's output. -/
def term (r : Fin 4096) (k : Fin 1024) (f : Fin 4096) : EReal := sq (act m c r f) * downArr m c (ix2 f k)

set_option maxHeartbeats 4000000 in
theorem V_u : (V m c main_v18 : S4096x1024.Idx → EReal) = uArr m c := by
  entry_read
  rfl

set_option maxHeartbeats 4000000 in
theorem V_w (n : Fin 8) (k : Fin 1024) (f : Fin 512) : (V m c main_v2 (ix3 n k f) : EReal) = upArr m c (ix2 k (rowAt n.val f)) := by
  entry_read
  pointwise []
  exact congrArg (fun f => upArr m c (ix2 k f)) (Fin.ext (by show n.val * 512 + f.val = (512 * n.val + f.val) % 4096; omega))

set_option maxHeartbeats 4000000 in
theorem V_lo (n : Fin 8) (i : Fin 256) (k : Fin 1024) : (V m c main_v20 (ix3 n i k) : EReal) = downArr m c (ix2 (rowAt n.val (⟨i.val, by omega⟩ : Fin 512)) k) := by
  entry_read
  pointwise []
  exact congrArg (fun f => downArr m c (ix2 f k)) (Fin.ext (by show n.val * 512 + i.val = (512 * n.val + i.val) % 4096; omega))

set_option maxHeartbeats 4000000 in
theorem V_hi (n : Fin 8) (i : Fin 256) (k : Fin 1024) : (V m c main_v22 (ix3 n i k) : EReal) = downArr m c (ix2 (rowAt n.val (⟨256 + i.val, by omega⟩ : Fin 512)) k) := by
  entry_read
  pointwise []
  exact congrArg (fun f => downArr m c (ix2 f k)) (Fin.ext (by show n.val * 512 + 256 + i.val = (512 * n.val + (256 + i.val)) % 4096; omega))

theorem idx_in : ∀ t : Fin grid0.N, win0_0.index t = ![t.val, 0] ∧ win0_1.index t = ![t.val, 0] ∧ win0_2.index t = ![0, 0, 0] ∧ win0_3.index t = ![0, 0, 0] ∧ win0_4.index t = ![0, 0, 0] := by decide +kernel

theorem idx_out : ∀ t : Fin grid0.N, win0_5.index t = ![t.val, 0] ∧ win0_6.index t = ![t.val, 0] ∧ win0_5.flush t = true ∧ win0_6.flush t = true := by decide +kernel

theorem read_h (t : Fin cfg0.N) (r : Fin 512) (k : Fin 1024) : (View.ld (iblk m c 0 t) r0_0 (ix2 r k) : EReal) = hArr m c (ix2 (rowAt t.val r) k) := by
  have ht : t.val < 8 := lt_of_lt_of_eq t.isLt N_0
  refine Eq.trans ?_ (congrFun (V_main_arg0 m c) _)
  refine congrArg (V m c main_arg0) (funext fun x => Fin.ext ?_)
  match x with
  | ⟨0, _⟩ => show win0_0.index t 0 * 512 + 1 * (0 + 1 * r.val) = (512 * t.val + r.val) % 4096; rw [(idx_in t).1]; show t.val * 512 + _ = _; omega
  | ⟨1, _⟩ => show win0_0.index t 1 * 1024 + 1 * (0 + 1 * k.val) = k.val; rw [(idx_in t).1]; show 0 * 1024 + _ = _; omega

theorem read_u (t : Fin cfg0.N) (r : Fin 512) (k : Fin 1024) : (View.ld (iblk m c 1 t) r0_0 (ix2 r k) : EReal) = uArr m c (ix2 (rowAt t.val r) k) := by
  have ht : t.val < 8 := lt_of_lt_of_eq t.isLt N_0
  refine Eq.trans ?_ (congrFun (V_u m c) _)
  refine congrArg (V m c main_v18) (funext fun x => Fin.ext ?_)
  match x with
  | ⟨0, _⟩ => show win0_1.index t 0 * 512 + 1 * (0 + 1 * r.val) = (512 * t.val + r.val) % 4096; rw [(idx_in t).2.1]; show t.val * 512 + _ = _; omega
  | ⟨1, _⟩ => show win0_1.index t 1 * 1024 + 1 * (0 + 1 * k.val) = k.val; rw [(idx_in t).2.1]; show 0 * 1024 + _ = _; omega

theorem read_w (t : Fin cfg0.N) (n : Fin 8) (ib : ∀ x, (![n.val, 0, 0] : Fin 3 → ℕ) x + S1x1024x512.size x ≤ S8x1024x512.size x) (k : Fin 1024) (f : Fin 512) :
    (View.ld (iblk m c 2 t) (Rect.unit (s := S8x1024x512) ![n.val, 0, 0] S1x1024x512.size ib) (ix3 (0 : Fin 1) k f) : EReal) = upArr m c (ix2 k (rowAt n.val f)) := by
  refine Eq.trans ?_ (V_w m c n k f)
  refine congrArg (V m c main_v2) (funext fun x => Fin.ext ?_)
  match x with
  | ⟨0, _⟩ => show win0_2.index t 0 * 8 + 1 * (n.val + 1 * 0) = n.val; rw [(idx_in t).2.2.1]; show 0 * 8 + _ = _; omega
  | ⟨1, _⟩ => show win0_2.index t 1 * 1024 + 1 * (0 + 1 * k.val) = k.val; rw [(idx_in t).2.2.1]; show 0 * 1024 + _ = _; omega
  | ⟨2, _⟩ => show win0_2.index t 2 * 512 + 1 * (0 + 1 * f.val) = f.val; rw [(idx_in t).2.2.1]; show 0 * 512 + _ = _; omega

theorem read_lo (t : Fin cfg0.N) (n : Fin 8) (ib : ∀ x, (![n.val, 0, 0] : Fin 3 → ℕ) x + S1x256x1024.size x ≤ S8x256x1024.size x) (i : Fin 256) (k : Fin 1024) :
    (View.ld (iblk m c 3 t) (Rect.unit (s := S8x256x1024) ![n.val, 0, 0] S1x256x1024.size ib) (ix3 (0 : Fin 1) i k) : EReal)
      = downArr m c (ix2 (rowAt n.val (⟨i.val, by omega⟩ : Fin 512)) k) := by
  refine Eq.trans ?_ (V_lo m c n i k)
  refine congrArg (V m c main_v20) (funext fun x => Fin.ext ?_)
  match x with
  | ⟨0, _⟩ => show win0_3.index t 0 * 8 + 1 * (n.val + 1 * 0) = n.val; rw [(idx_in t).2.2.2.1]; show 0 * 8 + _ = _; omega
  | ⟨1, _⟩ => show win0_3.index t 1 * 256 + 1 * (0 + 1 * i.val) = i.val; rw [(idx_in t).2.2.2.1]; show 0 * 256 + _ = _; omega
  | ⟨2, _⟩ => show win0_3.index t 2 * 1024 + 1 * (0 + 1 * k.val) = k.val; rw [(idx_in t).2.2.2.1]; show 0 * 1024 + _ = _; omega

theorem read_hi (t : Fin cfg0.N) (n : Fin 8) (ib : ∀ x, (![n.val, 0, 0] : Fin 3 → ℕ) x + S1x256x1024.size x ≤ S8x256x1024.size x) (i : Fin 256) (k : Fin 1024) :
    (View.ld (iblk m c 4 t) (Rect.unit (s := S8x256x1024) ![n.val, 0, 0] S1x256x1024.size ib) (ix3 (0 : Fin 1) i k) : EReal)
      = downArr m c (ix2 (rowAt n.val (⟨256 + i.val, by omega⟩ : Fin 512)) k) := by
  refine Eq.trans ?_ (V_hi m c n i k)
  refine congrArg (V m c main_v22) (funext fun x => Fin.ext ?_)
  match x with
  | ⟨0, _⟩ => show win0_4.index t 0 * 8 + 1 * (n.val + 1 * 0) = n.val; rw [(idx_in t).2.2.2.2]; show 0 * 8 + _ = _; omega
  | ⟨1, _⟩ => show win0_4.index t 1 * 256 + 1 * (0 + 1 * i.val) = i.val; rw [(idx_in t).2.2.2.2]; show 0 * 256 + _ = _; omega
  | ⟨2, _⟩ => show win0_4.index t 2 * 1024 + 1 * (0 + 1 * k.val) = k.val; rw [(idx_in t).2.2.2.2]; show 0 * 1024 + _ = _; omega

/-- Block `n` of the first product's columns. -/
theorem prod_at (t : Fin cfg0.N) (n : Fin 8) (ib : ∀ x, (![n.val, 0, 0] : Fin 3 → ℕ) x + S1x1024x512.size x ≤ S8x1024x512.size x) (r f : Fin 512) :
    (prod (View.ld (iblk m c 1 t) r0_0) (View.ld (iblk m c 2 t) (Rect.unit (s := S8x1024x512) ![n.val, 0, 0] S1x1024x512.size ib)) (ix2 r f) : EReal)
      = act m c (rowAt t.val r) (rowAt n.val f) := by
  rw [prod_apply]
  exact Finset.sum_congr rfl fun k _ => congr (congrArg _ (read_u m c t r k)) (read_w m c t n ib k f)

/-- A sum over 512 in halves. -/
theorem halves (g : Fin 512 → EReal) : ∑ i : Fin 256, g ⟨i.val, by omega⟩ + ∑ i : Fin 256, g ⟨256 + i.val, by omega⟩ = ∑ i, g i :=
  (Fin.sum_univ_add (a := 256) (b := 256) g).symm

/-- Block `n` adds its columns' terms. -/
theorem add_at (t : Fin cfg0.N) (n : Fin 8) (ib : ∀ x, (![n.val, 0, 0] : Fin 3 → ℕ) x + S1x1024x512.size x ≤ S8x1024x512.size x)
    (ib' : ∀ x, (![n.val, 0, 0] : Fin 3 → ℕ) x + S1x256x1024.size x ≤ S8x256x1024.size x) (acc : FVec Ideal S512x1024 .f32) (r : Fin 512) (k : Fin 1024) :
    (add acc (prod (View.ld (iblk m c 1 t) r0_0) (View.ld (iblk m c 2 t) (Rect.unit (s := S8x1024x512) ![n.val, 0, 0] S1x1024x512.size ib)))
      (View.ld (iblk m c 3 t) (Rect.unit (s := S8x256x1024) ![n.val, 0, 0] S1x256x1024.size ib')) (View.ld (iblk m c 4 t) (Rect.unit (s := S8x256x1024) ![n.val, 0, 0] S1x256x1024.size ib')) (ix2 r k) : EReal)
      = acc (ix2 r k) + ∑ f, term m c (rowAt t.val r) k (rowAt n.val f) := by
  rw [add_apply]
  refine congrArg (fun b : EReal => _ + b) (Eq.trans ?_ (halves _))
  refine congr (congrArg _ (Finset.sum_congr rfl fun i _ => ?_)) (Finset.sum_congr rfl fun i _ => ?_)
  · exact congr (congrArg _ (congrArg sq (prod_at m c t n ib r _))) (read_lo m c t n ib' i k)
  · exact congr (congrArg _ (congrArg sq (prod_at m c t n ib r _))) (read_hi m c t n ib' i k)

end Step.Mlpf

end
-- ==== Proof.MlpfClaim.lean ====
/- The claims about the squared-relu layer's forward pass. -/
module

public import proofs.«01_k».proof.Proof.MlpfStep
public import proofs.«01_k».proof.Proof.Gen.MlpfRefIdeal.Run
public import proofs.«01_k».proof.Defs

@[expose] public section

set_option maxRecDepth 16384

noncomputable section

namespace Step.Mlpf

open Idealize.ShloMosaic Idealize.ShloMosaic.TcCoe Idealize.SL.Sem Step

section Kernel

open Cert.MlpfIdeal Cert.MlpfIdeal.Gen Cert.MlpfIdeal.Value

variable (m : (ℓ : Loc nD τ sig) → Buf (Elt Ideal) ℓ) (c : Dev nD)

/-- A row of the layer's output. -/
def row (r : Fin 4096) (k : Fin 1024) : EReal := hArr m c (ix2 r k) + ∑ f, term m c r k f

/-- A block of rows of the first result. -/
theorem out5 (t : Fin cfg0.N) (y : S512x4096.Idx) :
    (out0_5 (iblk m c 0 t) (iblk m c 1 t) (iblk m c 2 t) (iblk m c 3 t) (iblk m c 4 t) y : EReal) = act m c (rowAt t.val (y 0)) (y 1) := by
  unfold_out out0_5
  refine View.canon_apply_of_pieces (Val := Elt Ideal) (S := S512x4096) (e := .bf16) (fun y => act m c (rowAt t.val (y 0)) (y 1)) _ ?_ y (cover0_5 _ _ _ _ _ _ _ _ y)
  have at_block : ∀ (n : Fin 8) (ib : ∀ x, (![n.val, 0, 0] : Fin 3 → ℕ) x + S1x1024x512.size x ≤ S8x1024x512.size x) (x : S512x512.Idx) (r : Fin 512) (f : Fin 4096),
      r.val = 0 + 1 * (x 0).val → f.val = 512 * n.val + 1 * (x 1).val →
      (prod (View.ld (iblk m c 1 t) r0_0) (View.ld (iblk m c 2 t) (Rect.unit (s := S8x1024x512) ![n.val, 0, 0] S1x1024x512.size ib)) x : EReal) = act m c (rowAt t.val r) f :=
    fun n ib x r f hr hf => by
      have h1 : (x 1).val < 512 := (x 1).isLt
      refine ((congrArg _ (eq_ix2 x)).trans (prod_at m c t n ib (x 0) (x 1))).trans (congrArg₂ (act m c) (congrArg (rowAt t.val) (Fin.ext ?_)) (Fin.ext ?_))
      · show (x 0).val = r.val; omega
      · show (512 * n.val + (x 1).val) % 4096 = f.val; have := n.isLt; omega
  intro pc hpc
  simp only [List.mem_cons, List.not_mem_nil, or_false] at hpc
  rcases hpc with rfl | rfl | rfl | rfl | rfl | rfl | rfl | rfl
  · exact fun x => at_block 7 inb_S8x1024x512_S1x1024x512_7_0_0 x _ _ rfl rfl
  · exact fun x => at_block 6 inb_S8x1024x512_S1x1024x512_6_0_0 x _ _ rfl rfl
  · exact fun x => at_block 5 inb_S8x1024x512_S1x1024x512_5_0_0 x _ _ rfl rfl
  · exact fun x => at_block 4 inb_S8x1024x512_S1x1024x512_4_0_0 x _ _ rfl rfl
  · exact fun x => at_block 3 inb_S8x1024x512_S1x1024x512_3_0_0 x _ _ rfl rfl
  · exact fun x => at_block 2 inb_S8x1024x512_S1x1024x512_2_0_0 x _ _ rfl rfl
  · exact fun x => at_block 1 inb_S8x1024x512_S1x1024x512_1_0_0 x _ _ rfl rfl
  · exact fun x => at_block 0 inb_S8x1024x512_S1x1024x512_0_0_0 x _ _ rfl rfl

/-- A block of rows of the second result. -/
theorem out6 (t : Fin cfg0.N) (y : S512x1024.Idx) :
    (out0_6 (iblk m c 0 t) (iblk m c 1 t) (iblk m c 2 t) (iblk m c 3 t) (iblk m c 4 t) y : EReal) = row m c (rowAt t.val (y 0)) (y 1) := by
  unfold_out out0_6
  rw [chain, canon_block]
  refine (congrArg _ (eq_ix2 y)).trans ?_
  refine (add_at m c t 7 inb_S8x1024x512_S1x1024x512_7_0_0 inb_S8x256x1024_S1x256x1024_7_0_0 _ (y 0) (y 1)).trans ?_
  rw [show row m c (rowAt t.val (y 0)) (y 1) = _ from congrArg (fun b : EReal => hArr m c (ix2 (rowAt t.val (y 0)) (y 1)) + b) (total_last (term m c (rowAt t.val (y 0)) (y 1))).symm,
    total_succ, ← add_assoc]
  refine congrArg (· + _) ((add_at m c t 6 inb_S8x1024x512_S1x1024x512_6_0_0 inb_S8x256x1024_S1x256x1024_6_0_0 _ (y 0) (y 1)).trans ?_)
  rw [total_succ, ← add_assoc]
  refine congrArg (· + _) ((add_at m c t 5 inb_S8x1024x512_S1x1024x512_5_0_0 inb_S8x256x1024_S1x256x1024_5_0_0 _ (y 0) (y 1)).trans ?_)
  rw [total_succ, ← add_assoc]
  refine congrArg (· + _) ((add_at m c t 4 inb_S8x1024x512_S1x1024x512_4_0_0 inb_S8x256x1024_S1x256x1024_4_0_0 _ (y 0) (y 1)).trans ?_)
  rw [total_succ, ← add_assoc]
  refine congrArg (· + _) ((add_at m c t 3 inb_S8x1024x512_S1x1024x512_3_0_0 inb_S8x256x1024_S1x256x1024_3_0_0 _ (y 0) (y 1)).trans ?_)
  rw [total_succ, ← add_assoc]
  refine congrArg (· + _) ((add_at m c t 2 inb_S8x1024x512_S1x1024x512_2_0_0 inb_S8x256x1024_S1x256x1024_2_0_0 _ (y 0) (y 1)).trans ?_)
  rw [total_succ, ← add_assoc]
  refine congrArg (· + _) ((add_at m c t 1 inb_S8x1024x512_S1x1024x512_1_0_0 inb_S8x256x1024_S1x256x1024_1_0_0 _ (y 0) (y 1)).trans ?_)
  rw [total_succ, ← add_assoc, total_zero]
  refine congrArg (· + _) ((add_at m c t 0 inb_S8x1024x512_S1x1024x512_0_0_0 inb_S8x256x1024_S1x256x1024_0_0_0 _ (y 0) (y 1)).trans ?_)
  exact congrArg (· + _) (read_h m c t (y 0) (y 1))

/-- The point whose blocks hold row `r`. -/
def ptOf (r : Fin 4096) : Fin cfg0.N := ⟨r.val / 512, lt_of_lt_of_eq (by omega) N_0.symm⟩

/-- The first result. -/
theorem final5 : ((dats m 0 c).arrAt 5 cfg0.N : S4096x4096.Idx → EReal) = fun y => act m c (y 0) (y 1) := by
  refine (dats m 0 c).arrAt_eq_of_cover 5 _ (fun t hf => ?_) fun i => ⟨ptOf (i 0), (idx_out _).2.2.1, ?_⟩
  · rw [flushed5]
    funext y
    have ht : t.val < 8 := lt_of_lt_of_eq t.isLt N_0
    have hy : (y 0).val < 512 := (y 0).isLt
    refine (out5 m c t y).trans (congrArg₂ (act m c) (Fin.ext ?_) (Fin.ext ?_))
    · show (512 * t.val + (y 0).val) % 4096 = win0_5.index t 0 * 512 + 1 * (y 0).val
      rw [(idx_out t).1]; show _ = t.val * 512 + _; omega
    · show (y 1).val = win0_5.index t 1 * 4096 + 1 * (y 1).val
      rw [(idx_out t).1]; show _ = 0 * 4096 + _; omega
  · show i ∈ ((View.whole main_v23_0).slice (win0_5.rect (ptOf (i 0)))).set
    rw [View.set_slice_whole, Rect.mem_set_unit]
    have h0 : (i 0).val < 4096 := (i 0).isLt
    have h1 : (i 1).val < 4096 := (i 1).isLt
    intro a
    match a with
    | ⟨0, _⟩ => show win0_5.index (ptOf (i 0)) 0 * 512 ≤ (i 0).val ∧ (i 0).val < win0_5.index (ptOf (i 0)) 0 * 512 + 512; rw [(idx_out _).1]; show (i 0).val / 512 * 512 ≤ _ ∧ _ < (i 0).val / 512 * 512 + 512; omega
    | ⟨1, _⟩ => show win0_5.index (ptOf (i 0)) 1 * 4096 ≤ (i 1).val ∧ (i 1).val < win0_5.index (ptOf (i 0)) 1 * 4096 + 4096; rw [(idx_out _).1]; show 0 * 4096 ≤ _ ∧ _ < 0 * 4096 + 4096; omega

/-- The second result. -/
theorem final6 : ((dats m 0 c).arrAt 6 cfg0.N : S4096x1024.Idx → EReal) = fun y => row m c (y 0) (y 1) := by
  refine (dats m 0 c).arrAt_eq_of_cover 6 _ (fun t hf => ?_) fun i => ⟨ptOf (i 0), (idx_out _).2.2.2, ?_⟩
  · rw [flushed6]
    funext y
    have ht : t.val < 8 := lt_of_lt_of_eq t.isLt N_0
    have hy : (y 0).val < 512 := (y 0).isLt
    refine (out6 m c t y).trans (congrArg₂ (row m c) (Fin.ext ?_) (Fin.ext ?_))
    · show (512 * t.val + (y 0).val) % 4096 = win0_6.index t 0 * 512 + 1 * (y 0).val
      rw [(idx_out t).2.1]; show _ = t.val * 512 + _; omega
    · show (y 1).val = win0_6.index t 1 * 1024 + 1 * (y 1).val
      rw [(idx_out t).2.1]; show _ = 0 * 1024 + _; omega
  · show i ∈ ((View.whole main_v23_1).slice (win0_6.rect (ptOf (i 0)))).set
    rw [View.set_slice_whole, Rect.mem_set_unit]
    have h0 : (i 0).val < 4096 := (i 0).isLt
    have h1 : (i 1).val < 1024 := (i 1).isLt
    intro a
    match a with
    | ⟨0, _⟩ => show win0_6.index (ptOf (i 0)) 0 * 512 ≤ (i 0).val ∧ (i 0).val < win0_6.index (ptOf (i 0)) 0 * 512 + 512; rw [(idx_out _).2.1]; show (i 0).val / 512 * 512 ≤ _ ∧ _ < (i 0).val / 512 * 512 + 512; omega
    | ⟨1, _⟩ => show win0_6.index (ptOf (i 0)) 1 * 1024 ≤ (i 1).val ∧ (i 1).val < win0_6.index (ptOf (i 0)) 1 * 1024 + 1024; rw [(idx_out _).2.1]; show 0 * 1024 ≤ _ ∧ _ < 0 * 1024 + 1024; omega

end Kernel

section Reference

open Cert.MlpfRefIdeal Cert.MlpfRefIdeal.Read

variable (h : FVec Ideal S4096x1024 .f32) (g : FVec Ideal S1024 .f32) (wu : FVec Ideal S1024x4096 .f32) (wd : FVec Ideal S4096x1024 .f32)

/-- The reference's first result. -/
theorem ref_act (r f : Fin 4096) : (val_main_v14 (F := Ideal) h g wu (ix2 r f) : EReal) = ∑ k : Fin 1024, (val_main_v12 (F := Ideal) h g (ix2 r k) : EReal) * wu (ix2 k f) := by
  pointwise [val_main_v14, val_main_v13]

/-- The reference's second result, from the first. -/
theorem ref_row (r : Fin 4096) (k : Fin 1024) : (val_main_v18 (F := Ideal) h g wu wd (ix2 r k) : EReal)
    = h (ix2 r k) + ∑ f : Fin 4096, sq (∑ k : Fin 1024, (val_main_v12 (F := Ideal) h g (ix2 r k) : EReal) * wu (ix2 k f)) * wd (ix2 f k) := by
  pointwise [val_main_v18, val_main_v17, val_main_v16, val_main_v15, val_main_call0_v0, val_main_call0_cst, val_main_v13]
  rfl

end Reference

theorem frame_ref : Cert.quiescent_MlpfRefIdeal (hMlpfRefIdeal := Cert.MlpfRefIdeal.Gen.facts) := fun m ρ _ =>
  (θ_run (Cert.MlpfRefIdeal.defs (F := Ideal)) _ _).mono
    (fun r h => ⟨fun c => (h c).2.2, sem_eq_zero_of_no_sems (by decide) r.2⟩) (Cert.MlpfRefIdeal.Value.run m ρ)

theorem algebraic : Cert.algebraic_MlpfIdeal_MlpfRefIdeal (hMlpfIdeal := Cert.MlpfIdeal.Gen.facts)
    (hMlpfRefIdeal := Cert.MlpfRefIdeal.Gen.facts) := by
  intro m ρ m' ρ' _ hag
  refine ⟨fun c => (Cert.MlpfIdeal.Gen.dats m 0 c).arrAt 5 Cert.MlpfIdeal.cfg0.N, fun c => (Cert.MlpfIdeal.Gen.dats m 0 c).arrAt 6 Cert.MlpfIdeal.cfg0.N,
    Cert.MlpfIdeal.Value.run_blocks m ρ, (θ_run _ _ _).mono (fun r h c => ?_) (Cert.MlpfRefIdeal.Value.run m' ρ')⟩
  obtain ⟨a0, a1, a2, a3⟩ := hag c
  obtain ⟨r0, r1, kept⟩ := h c
  refine ⟨(r0.trans (Cert.MlpfRefIdeal.Read.val_main_v14_eq _ _ _)).trans ?_, (r1.trans (Cert.MlpfRefIdeal.Read.val_main_v18_eq _ _ _ _)).trans ?_, kept⟩
  · refine Eq.trans (congr (congr (congrArg _ a0) a1) a2) (Eq.trans (funext fun y => ?_) (final5 m c).symm)
    exact (congrArg _ (eq_ix2 y)).trans (ref_act _ _ _ (y 0) (y 1))
  · refine Eq.trans (congr (congr (congr (congrArg _ a0) a1) a2) a3) (Eq.trans (funext fun y => ?_) (final6 m c).symm)
    exact (congrArg _ (eq_ix2 y)).trans (ref_row _ _ _ _ (y 0) (y 1))

end Step.Mlpf

end
-- ==== Proof.AttnMath.lean ====
/- Dilated sliding-window attention over one sequence: the sums and the maximum over a window and over several
   windows, and how the sums change when the maximum they are taken against grows. The numbers are the extended
   reals, so that infinite scores and values are included. -/
module

public import proofs.«01_k».proof.Proof.Real

@[expose] public section

noncomputable section

namespace Step.Att

open Idealize.ShloMosaic Step

/-- The head, of the two in a group of 128 lanes, that a lane belongs to. -/
def hd (e : Fin 128) : Fin 2 := if e.val < 64 then 0 else 1

/-- The factor of the scores. -/
abbrev eighth : EReal := ((1 / 8 : ℝ) : EReal)

theorem eighth_nonneg : 0 ≤ eighth := EReal.coe_nonneg.2 (by norm_num)

/-- The score of query row `t` against key row `t'` for one head. -/
def sc (q k : ℕ → Fin 128 → EReal) (h : Fin 2) (t t' : ℕ) : EReal := ∑ e, if hd e = h then q t e * eighth * k t' e else 0

/-- The sum of `f` over the rows `t, t - d, …, t - 128 d` that there are. -/
def wsum (d t : ℕ) (f : ℕ → EReal) : EReal := ∑ j ∈ Finset.range 129, if j * d ≤ t then f (t - j * d) else 0

/-- The sums over the windows of several dilations, added. -/
def tot (ds : List ℕ) (t : ℕ) (f : ℕ → EReal) : EReal := (ds.map fun d => wsum d t f).sum

/-- The maximum of `s` over the same rows, and over the windows of several dilations. -/
def wtop (d t : ℕ) (s : ℕ → EReal) : EReal := Finset.fold max ⊥ (fun j => if j * d ≤ t then s (t - j * d) else ⊥) (Finset.range 129)
def peak (ds : List ℕ) (t : ℕ) (s : ℕ → EReal) : EReal := (ds.map fun d => wtop d t s).foldr (fun x y => max y x) ⊥

theorem tot_cons (d : ℕ) (ds : List ℕ) (t : ℕ) (f : ℕ → EReal) : tot (d :: ds) t f = wsum d t f + tot ds t f := rfl
theorem peak_cons (d : ℕ) (ds : List ℕ) (t : ℕ) (s : ℕ → EReal) : peak (d :: ds) t s = max (peak ds t s) (wtop d t s) := rfl

theorem wtop_le (d t : ℕ) (s : ℕ → EReal) (c : EReal) : wtop d t s ≤ c ↔ ∀ j, j ≤ 128 → j * d ≤ t → s (t - j * d) ≤ c := by
  unfold wtop
  rw [Finset.fold_max_le]
  constructor
  · rintro ⟨-, h⟩ j hj hjt
    have := h j (Finset.mem_range.2 (by omega))
    rwa [if_pos hjt] at this
  · refine fun h => ⟨bot_le, fun j hj => ?_⟩
    split
    · exact h j (by have := Finset.mem_range.1 hj; omega) ‹_›
    · exact bot_le

/-- Factors that are not negative and not infinite go into a sum. -/
theorem mul_sum_nn {ι : Type} (c : EReal) (h0 : 0 ≤ c) (h1 : c ≠ ⊤) (s : Finset ι) (f : ι → EReal) : c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 h1, ih]

theorem exp_nonneg (x : EReal) : 0 ≤ Ideal.exp x := by
  induction x using EReal.rec with
  | bot => rw [Ideal.exp_bot]
  | coe x => rw [Ideal.exp_coe]; exact EReal.coe_nonneg.2 (Real.exp_pos x).le
  | top => exact le_top

theorem sub_top' (x : EReal) : x - ⊤ = ⊥ := by rw [sub_eq_add_neg, EReal.neg_top, EReal.add_bot]

theorem exp_ne_top (μ μ' : EReal) (h : μ ≤ μ') : Ideal.exp (μ - μ') ≠ ⊤ := by
  induction μ' using EReal.rec with
  | bot => obtain rfl := le_bot_iff.1 h; rw [EReal.bot_sub, Ideal.exp_bot]; exact EReal.zero_ne_top
  | top => rw [sub_top', Ideal.exp_bot]; exact EReal.zero_ne_top
  | coe y =>
    induction μ using EReal.rec with
    | bot => rw [EReal.bot_sub, Ideal.exp_bot]; exact EReal.zero_ne_top
    | coe x => rw [← EReal.coe_sub, Ideal.exp_coe]; exact EReal.coe_ne_top _
    | top => exact absurd h (by simp)

/-- A weight moved from the maximum `μ` to a maximum `μ'` that is no smaller. Where a maximum is infinite both
    sides are `0`. -/
theorem exp_shift (s μ μ' : EReal) (h : s ≤ μ) (h' : μ ≤ μ') : Ideal.exp (μ - μ') * Ideal.exp (s - μ) = Ideal.exp (s - μ') := by
  induction μ' using EReal.rec with
  | top => rw [sub_top', sub_top', Ideal.exp_bot, zero_mul]
  | bot =>
    obtain rfl := le_bot_iff.1 h'
    obtain rfl := le_bot_iff.1 h
    rw [EReal.bot_sub, Ideal.exp_bot, zero_mul]
  | coe z =>
    induction μ using EReal.rec with
    | top => exact absurd h' (by simp)
    | bot =>
      obtain rfl := le_bot_iff.1 h
      rw [EReal.bot_sub, EReal.bot_sub, Ideal.exp_bot, zero_mul]
    | coe y =>
      induction s using EReal.rec with
      | top => exact absurd h (by simp)
      | bot => rw [EReal.bot_sub, EReal.bot_sub, Ideal.exp_bot, mul_zero]
      | coe x =>
        rw [← EReal.coe_sub, ← EReal.coe_sub, ← EReal.coe_sub, Ideal.exp_coe, Ideal.exp_coe, Ideal.exp_coe, ← EReal.coe_mul, ← Real.exp_add]
        congr 2
        ring

/-- The sum over a window against its own maximum, or one no smaller, moved to a larger one. -/
theorem moved (μ μ' : EReal) (d t : ℕ) (s g : ℕ → EReal) (h : wtop d t s ≤ μ) (h' : μ ≤ μ') :
    Ideal.exp (μ - μ') * wsum d t (fun t' => Ideal.exp (s t' - μ) * g t') = wsum d t fun t' => Ideal.exp (s t' - μ') * g t' := by
  unfold wsum
  rw [mul_sum_nn _ (exp_nonneg _) (exp_ne_top μ μ' h')]
  refine Finset.sum_congr rfl fun j hj => ?_
  split
  · rw [← mul_assoc, exp_shift _ μ μ' ((wtop_le d t s μ).1 h j (by have := Finset.mem_range.1 hj; omega) ‹_›) h']
  · exact mul_zero _

theorem moved' (μ μ' : EReal) (d t : ℕ) (s : ℕ → EReal) (h : wtop d t s ≤ μ) (h' : μ ≤ μ') :
    Ideal.exp (μ - μ') * wsum d t (fun t' => Ideal.exp (s t' - μ)) = wsum d t fun t' => Ideal.exp (s t' - μ') := by
  simpa using moved μ μ' d t s (fun _ => 1) h h'

/-- The same for several windows. -/
theorem reshift (μ μ' : EReal) (ds : List ℕ) (t : ℕ) (s g : ℕ → EReal) (h : peak ds t s ≤ μ) (h' : μ ≤ μ') :
    Ideal.exp (μ - μ') * tot ds t (fun t' => Ideal.exp (s t' - μ) * g t') = tot ds t fun t' => Ideal.exp (s t' - μ') * g t' := by
  induction ds with
  | nil => exact mul_zero _
  | cons d ds ih =>
    rw [peak_cons, max_le_iff] at h
    rw [tot_cons, tot_cons, EReal.left_distrib_of_nonneg_of_ne_top (exp_nonneg _) (exp_ne_top μ μ' h'), moved μ μ' d t s g h.2 h', ih h.1]

theorem reshift' (μ μ' : EReal) (ds : List ℕ) (t : ℕ) (s : ℕ → EReal) (h : peak ds t s ≤ μ) (h' : μ ≤ μ') :
    Ideal.exp (μ - μ') * tot ds t (fun t' => Ideal.exp (s t' - μ)) = tot ds t fun t' => Ideal.exp (s t' - μ') := by
  simpa using reshift μ μ' ds t s (fun _ => 1) h h'

/-- When the window of row `b + a d` reaches the row `j d` before it. -/
theorem reach (d b a : ℕ) (h : b < d ∨ 128 ≤ a) (j : ℕ) (hj : j ≤ 128) : j * d ≤ b + a * d ↔ j ≤ a := by
  constructor
  · intro hle
    rcases h with h | h
    · by_contra hc
      have : (a + 1) * d ≤ j * d := Nat.mul_le_mul_right d (by omega)
      rw [Nat.add_mul, Nat.one_mul] at this
      omega
    · omega
  · intro hle
    have : j * d ≤ a * d := Nat.mul_le_mul_right d hle
    omega

/-- A block of 256 keys, one row in `d` from row `b` on, seen by the row at place `a`: those at most 128 places
    back are the window, if the block starts at the sequence's start or reaches far enough back. -/
theorem window (d b a : ℕ) (ha : a < 256) (h : b < d ∨ 128 ≤ a) (f : ℕ → EReal) :
    (∑ i : Fin 256, if i.val ≤ a ∧ a ≤ i.val + 128 then f (b + i.val * d) else 0) = wsum d (b + a * d) f := by
  rw [← Finset.sum_range (fun i => if i ≤ a ∧ a ≤ i + 128 then f (b + i * d) else 0)]
  unfold wsum
  rw [← Finset.sum_filter, ← Finset.sum_filter]
  have key := reach d b a h
  refine Finset.sum_nbij' (fun i => a - i) (fun j => a - j) ?_ ?_ ?_ ?_ ?_
  · intro i hi
    simp only [Finset.mem_filter, Finset.mem_range] at hi ⊢
    exact ⟨by omega, (key _ (by omega)).2 (by omega)⟩
  · intro j hj
    simp only [Finset.mem_filter, Finset.mem_range] at hj ⊢
    have := (key j (by omega)).1 hj.2
    omega
  · intro i hi
    simp only [Finset.mem_filter, Finset.mem_range] at hi
    omega
  · intro j hj
    simp only [Finset.mem_filter, Finset.mem_range] at hj
    have := (key j (by omega)).1 hj.2
    omega
  · intro i hi
    simp only [Finset.mem_filter, Finset.mem_range] at hi
    congr 1
    rw [Nat.sub_mul]
    have : i * d ≤ a * d := Nat.mul_le_mul_right d hi.2.1
    omega

/-- The maximum over the block is the maximum over the window. -/
theorem window_top (d b a : ℕ) (ha : a < 256) (h : b < d ∨ 128 ≤ a) (s : ℕ → EReal) :
    Finset.fold max (⊥ : EReal) (fun i : Fin 256 => if i.val ≤ a ∧ a ≤ i.val + 128 then s (b + i.val * d) else ⊥) Finset.univ
      = wtop d (b + a * d) s := by
  have back : ∀ i, i ≤ a → b + a * d - (a - i) * d = b + i * d := fun i hi => by
    have : i * d ≤ a * d := Nat.mul_le_mul_right d hi
    rw [Nat.sub_mul]
    omega
  refine eq_of_forall_ge_iff fun c => ?_
  rw [wtop_le, Finset.fold_max_le]
  constructor
  · rintro ⟨-, hc⟩ j hj hjt
    have hja := (reach d b a h j hj).1 hjt
    have := hc ⟨a - j, by omega⟩ (Finset.mem_univ _)
    rw [if_pos (by dsimp only; omega)] at this
    have e := back (a - j) (by omega)
    rw [show a - (a - j) = j by omega] at e
    rw [e]
    exact this
  · refine fun hc => ⟨bot_le, fun i _ => ?_⟩
    split
    · rename_i hi
      have := hc (a - i.val) (by omega) ((reach d b a h _ (by omega)).2 (by omega))
      rwa [back i.val hi.1] at this
    · exact bot_le

/-- One row's running state after the windows `ds`: the maximum for each head, and the two sums against it. -/
def RowOK (q k v : ℕ → Fin 128 → EReal) (ds : List ℕ) (t : ℕ) (a7 a8 a9 a10 a11 : Fin 128 → EReal) : Prop :=
  ∃ μ : Fin 2 → EReal, (∀ h, μ h = peak ds t (sc q k h t)) ∧ ∀ e : Fin 128, a7 e = μ 0 ∧ a8 e = μ 1
    ∧ a9 e = (tot ds t fun t' => Ideal.exp (sc q k 0 t t' - μ 0))
    ∧ a10 e = (tot ds t fun t' => Ideal.exp (sc q k 1 t t' - μ 1))
    ∧ a11 e = (tot ds t fun t' => Ideal.exp (sc q k (hd e) t t' - μ (hd e)) * v t' e)

/-- The weight of one score against a maximum. -/
theorem weight_at (V : Prop) [Decidable V] (σ μ : EReal) :
    Ideal.exp ((if V then σ else ⊥) - μ) = if V then Ideal.exp (σ - μ) else 0 := by
  split
  · rfl
  · rw [EReal.bot_sub, Ideal.exp_bot]

/-- A weighted sum over the keys, the weight `0` where `V` fails. -/
theorem weighted {n : ℕ} (V : Fin n → Prop) [DecidablePred V] (w v : Fin n → EReal) :
    (∑ i, (if V i then w i else 0) * v i) = ∑ i, if V i then w i * v i else 0 := by
  refine Finset.sum_congr rfl fun i _ => ?_
  split
  · rfl
  · exact zero_mul _

/-- The logarithm of a row's sum, and its mean of the values. -/
def lse (q k : ℕ → Fin 128 → EReal) (h : Fin 2) (t : ℕ) : EReal :=
  peak [16, 4, 1] t (sc q k h t) + Ideal.log (tot [16, 4, 1] t fun t' => Ideal.exp (sc q k h t t' - peak [16, 4, 1] t (sc q k h t)))
def out (q k v : ℕ → Fin 128 → EReal) (t : ℕ) (e : Fin 128) : EReal :=
  Ideal.div (tot [16, 4, 1] t (fun t' => Ideal.exp (sc q k (hd e) t t' - peak [16, 4, 1] t (sc q k (hd e) t)) * v t' e))
    (tot [16, 4, 1] t fun t' => Ideal.exp (sc q k (hd e) t t' - peak [16, 4, 1] t (sc q k (hd e) t)))

/-- The sums and the maxima of any order of the three dilations agree. -/
theorem tot_rev (t : ℕ) (f : ℕ → EReal) : tot [1, 4, 16] t f = tot [16, 4, 1] t f := by
  simp only [tot, List.map_cons, List.map_nil, List.sum_cons, List.sum_nil, add_zero]
  rw [add_comm, add_comm (wsum 4 t f), add_assoc]

theorem peak_rev (t : ℕ) (s : ℕ → EReal) : peak [1, 4, 16] t s = peak [16, 4, 1] t s := by
  refine eq_of_forall_ge_iff fun c => ?_
  simp only [peak_cons, max_le_iff]
  tauto

end Step.Att
-- ==== Proof.AttnLoops.lean ====
/-
  The counted loops of the attention kernel over strided rows: one trip of each run once at a symbolic
  trip, and the loop's invariant made from it. Both strided loops read the query, key and value windows
  and update the same five scratch arrays, so one construction (`loopOf`) serves both: the state of the
  five arrays before trip `k` is the `k`-fold iterate of what one trip writes.
-/
module

public import proofs.«01_k».proof.Proof.Gen.AttnIdeal.Loops
public import proofs.«01_k».proof.Proof.Gen.AttnIdeal.Frame
public import Idealize.ShloMosaic.Lib.Tactic

@[expose] public section

set_option maxRecDepth 8192
set_option maxHeartbeats 4000000

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the runs. -/
local notation "𝕄G" => MT nD τ sig Unit (Elt F) ℕ (UR sig nD τ) ℕ

variable (𝒱 : Variants) (c : Dev nD) (bd : Option 𝒱.V) (arg1 : Memref sig .tc .vmem S4096x128 .f32) (arg2 : Memref sig .tc .vmem S4096x128 .f32) (arg3 : Memref sig .tc .vmem S4096x128 .f32) (arg7 : Memref sig .tc .vmem S4096x128 .f32) (arg8 : Memref sig .tc .vmem S4096x128 .f32) (arg9 : Memref sig .tc .vmem S4096x128 .f32) (arg10 : Memref sig .tc .vmem S4096x128 .f32) (arg11 : Memref sig .tc .vmem S4096x128 .f32)

/-- The contents of the five scratch arrays. -/
abbrev St : Type := BufTy.Contents (Elt F) arg7.view.ty × BufTy.Contents (Elt F) arg8.view.ty × BufTy.Contents (Elt F) arg9.view.ty × BufTy.Contents (Elt F) arg10.view.ty × BufTy.Contents (Elt F) arg11.view.ty

/-- What running a region once does to the five arrays: the pieces it writes into each, as functions of
    the contents it finds, with the triple of the region. -/
abbrev RunOf (x1 : BufTy.Contents (Elt F) arg1.view.ty) (x2 : BufTy.Contents (Elt F) arg2.view.ty) (x3 : BufTy.Contents (Elt F) arg3.view.ty) (body : Prog (TpuEff nD τ sig (Elt F) Λ₀ .tc) Unit) : Type :=
  Σ' (L7 : BufTy.Contents (Elt F) arg7.view.ty → BufTy.Contents (Elt F) arg8.view.ty → BufTy.Contents (Elt F) arg9.view.ty → BufTy.Contents (Elt F) arg10.view.ty → BufTy.Contents (Elt F) arg11.view.ty → List (View.Piece (Elt F) S4096x128 .f32)) (L8 : BufTy.Contents (Elt F) arg7.view.ty → BufTy.Contents (Elt F) arg8.view.ty → BufTy.Contents (Elt F) arg9.view.ty → BufTy.Contents (Elt F) arg10.view.ty → BufTy.Contents (Elt F) arg11.view.ty → List (View.Piece (Elt F) S4096x128 .f32)) (L9 : BufTy.Contents (Elt F) arg7.view.ty → BufTy.Contents (Elt F) arg8.view.ty → BufTy.Contents (Elt F) arg9.view.ty → BufTy.Contents (Elt F) arg10.view.ty → BufTy.Contents (Elt F) arg11.view.ty → List (View.Piece (Elt F) S4096x128 .f32)) (L10 : BufTy.Contents (Elt F) arg7.view.ty → BufTy.Contents (Elt F) arg8.view.ty → BufTy.Contents (Elt F) arg9.view.ty → BufTy.Contents (Elt F) arg10.view.ty → BufTy.Contents (Elt F) arg11.view.ty → List (View.Piece (Elt F) S4096x128 .f32)), { L11 : BufTy.Contents (Elt F) arg7.view.ty → BufTy.Contents (Elt F) arg8.view.ty → BufTy.Contents (Elt F) arg9.view.ty → BufTy.Contents (Elt F) arg10.view.ty → BufTy.Contents (Elt F) arg11.view.ty → List (View.Piece (Elt F) S4096x128 .f32) //
    ∀ (E : Set ℕ) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty), Trip_k0_t3 (F := F) c arg1 arg2 arg3 arg7 arg8 arg9 arg10 arg11 x1 x2 x3 f7 f8 f9 f10 f11
      ⊢ wp frame (wpE (defs₀ (F := F)) 𝒱 (c : Thread nD τ) bd) E body
          (fun _ => Trip_k0_t3 (F := F) c arg1 arg2 arg3 arg7 arg8 arg9 arg10 arg11 x1 x2 x3 (arg7.view.writes (Elt F) f7 (L7 f7 f8 f9 f10 f11)) (arg8.view.writes (Elt F) f8 (L8 f7 f8 f9 f10 f11)) (arg9.view.writes (Elt F) f9 (L9 f7 f8 f9 f10 f11)) (arg10.view.writes (Elt F) f10 (L10 f7 f8 f9 f10 f11)) (arg11.view.writes (Elt F) f11 (L11 f7 f8 f9 f10 f11))) }

/-- The arrays after one run of a region that found them at `s`. -/
def RunOf.next {x1 : BufTy.Contents (Elt F) arg1.view.ty} {x2 : BufTy.Contents (Elt F) arg2.view.ty} {x3 : BufTy.Contents (Elt F) arg3.view.ty} {body : Prog (TpuEff nD τ sig (Elt F) Λ₀ .tc) Unit}
    (T : RunOf 𝒱 c bd arg1 arg2 arg3 arg7 arg8 arg9 arg10 arg11 x1 x2 x3 body) (s : St (F := F) arg7 arg8 arg9 arg10 arg11) : St (F := F) arg7 arg8 arg9 arg10 arg11 :=
  (arg7.view.writes (Elt F) s.1 (T.1 s.1 s.2.1 s.2.2.1 s.2.2.2.1 s.2.2.2.2),
   arg8.view.writes (Elt F) s.2.1 (T.2.1 s.1 s.2.1 s.2.2.1 s.2.2.2.1 s.2.2.2.2),
   arg9.view.writes (Elt F) s.2.2.1 (T.2.2.1 s.1 s.2.1 s.2.2.1 s.2.2.2.1 s.2.2.2.2),
   arg10.view.writes (Elt F) s.2.2.2.1 (T.2.2.2.1 s.1 s.2.1 s.2.2.1 s.2.2.2.1 s.2.2.2.2),
   arg11.view.writes (Elt F) s.2.2.2.2 (T.2.2.2.2.1 s.1 s.2.1 s.2.2.1 s.2.2.2.1 s.2.2.2.2))

/-- The arrays before trip `k`, from `G` at the loop's entry; past the last trip they stay. -/
def iter {n : ℕ} (f : Fin n → St (F := F) arg7 arg8 arg9 arg10 arg11 → St (F := F) arg7 arg8 arg9 arg10 arg11)
    (G : St (F := F) arg7 arg8 arg9 arg10 arg11) : ℕ → St (F := F) arg7 arg8 arg9 arg10 arg11
  | 0 => G
  | k + 1 => if h : k < n then f ⟨k, h⟩ (iter f G k) else iter f G k

theorem iter_succ {n : ℕ} (f : Fin n → St (F := F) arg7 arg8 arg9 arg10 arg11 → St (F := F) arg7 arg8 arg9 arg10 arg11)
    (G : St (F := F) arg7 arg8 arg9 arg10 arg11) (k : Fin n) :
    iter arg7 arg8 arg9 arg10 arg11 f G (k.val + 1) = f k (iter arg7 arg8 arg9 arg10 arg11 f G k.val) :=
  dif_pos k.isLt

/-- The invariant before trip `k`: the three windows as they were, each array at its iterate. -/
abbrev invOf (x1 : BufTy.Contents (Elt F) arg1.view.ty) (x2 : BufTy.Contents (Elt F) arg2.view.ty) (x3 : BufTy.Contents (Elt F) arg3.view.ty) (s : ℕ → St (F := F) arg7 arg8 arg9 arg10 arg11) (k : ℕ) (_ : Unit) : sProp 𝕄G :=
  iprop((arg1.view.loc (c : Thread nD τ) ↦[arg1.view.set]{fullShare} x1) ∗ (arg2.view.loc (c : Thread nD τ) ↦[arg2.view.set]{fullShare} x2) ∗ (arg3.view.loc (c : Thread nD τ) ↦[arg3.view.set]{fullShare} x3)
    ∗ (∃ f, (arg7.view.loc (c : Thread nD τ) ↦[arg7.view.set]{fullShare} f) ∗ ⌜f = (s k).1⌝) ∗ (∃ f, (arg8.view.loc (c : Thread nD τ) ↦[arg8.view.set]{fullShare} f) ∗ ⌜f = (s k).2.1⌝) ∗ (∃ f, (arg9.view.loc (c : Thread nD τ) ↦[arg9.view.set]{fullShare} f) ∗ ⌜f = (s k).2.2.1⌝) ∗ (∃ f, (arg10.view.loc (c : Thread nD τ) ↦[arg10.view.set]{fullShare} f) ∗ ⌜f = (s k).2.2.2.1⌝) ∗ (∃ f, (arg11.view.loc (c : Thread nD τ) ↦[arg11.view.set]{fullShare} f) ∗ ⌜f = (s k).2.2.2.2⌝))

/-- A region taking the invariant at `s` to the invariant at the next iterate. -/
theorem step_of (x1 : BufTy.Contents (Elt F) arg1.view.ty) (x2 : BufTy.Contents (Elt F) arg2.view.ty) (x3 : BufTy.Contents (Elt F) arg3.view.ty) {body : Prog (TpuEff nD τ sig (Elt F) Λ₀ .tc) Unit} (T : RunOf 𝒱 c bd arg1 arg2 arg3 arg7 arg8 arg9 arg10 arg11 x1 x2 x3 body)
    (E : Set ℕ) (s : ℕ → St (F := F) arg7 arg8 arg9 arg10 arg11) (k : ℕ) (hs : s (k + 1) = T.next 𝒱 c bd arg1 arg2 arg3 arg7 arg8 arg9 arg10 arg11 (s k)) :
    invOf (F := F) c arg1 arg2 arg3 arg7 arg8 arg9 arg10 arg11 x1 x2 x3 s k () ⊢ wp frame (wpE (defs₀ (F := F)) 𝒱 (c : Thread nD τ) bd) E body
      (invOf (F := F) c arg1 arg2 arg3 arg7 arg8 arg9 arg10 arg11 x1 x2 x3 s (k + 1)) := by
  iintro ⟨H1, H2, H3, ⟨%f7, H7, %h7⟩, ⟨%f8, H8, %h8⟩, ⟨%f9, H9, %h9⟩, ⟨%f10, H10, %h10⟩, ⟨%f11, H11, %h11⟩⟩
  iapply (wp_wand_r Idealize.ShloMosaic.frame (wpE (defs₀ (F := F)) 𝒱 (c : Thread nD τ) bd) E)
  isplitl [H1 H2 H3 H7 H8 H9 H10 H11]
  · iapply (T.2.2.2.2.2 E f7 f8 f9 f10 f11)
    isplitl [H1]; · iexact H1
    isplitl [H2]; · iexact H2
    isplitl [H3]; · iexact H3
    isplitl [H7]; · iexact H7
    isplitl [H8]; · iexact H8
    isplitl [H9]; · iexact H9
    isplitl [H10]; · iexact H10
    iexact H11
  · iintro %_ ⟨H1, H2, H3, H7, H8, H9, H10, H11⟩
    isplitl [H1]; · iexact H1
    isplitl [H2]; · iexact H2
    isplitl [H3]; · iexact H3
    rw [hs]; subst h7 h8 h9 h10 h11
    isplitl [H7]
    · iexists _; isplitl [H7]; · iexact H7
      ipureintro; rfl
    isplitl [H8]
    · iexists _; isplitl [H8]; · iexact H8
      ipureintro; rfl
    isplitl [H9]
    · iexists _; isplitl [H9]; · iexact H9
      ipureintro; rfl
    isplitl [H10]
    · iexists _; isplitl [H10]; · iexact H10
      ipureintro; rfl
    iexists _; isplitl [H11]; · iexact H11
    ipureintro; rfl

end Cert.AttnIdeal.Hand

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable (𝒱 : Variants) (c : Dev nD) (bd : Option 𝒱.V) (i : grid0.Coords)
  (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole)
  (x1 : BufTy.Contents (Elt F) arg1.view.ty) (x2 : BufTy.Contents (Elt F) arg2.view.ty) (x3 : BufTy.Contents (Elt F) arg3.view.ty)

theorem off2_closed : ∀ t : Fin k0_t2_loop.trips, ∀ r : Fin 4,
    k0_off2 t (BitVec.ofNat 32 r.val) = ![512 * t.val + r.val, 0] := by decide +kernel

instance closedOff_k0_off2_0 (t : Fin k0_t2_loop.trips) : ClosedOff (k0_off2 t (BitVec.ofNat 32 0)) :=
  ⟨![512 * t.val + 0, 0], off2_closed t ⟨0, by decide⟩⟩
instance closedOff_k0_off2_1 (t : Fin k0_t2_loop.trips) : ClosedOff (k0_off2 t (BitVec.ofNat 32 1)) :=
  ⟨![512 * t.val + 1, 0], off2_closed t ⟨1, by decide⟩⟩
instance closedOff_k0_off2_2 (t : Fin k0_t2_loop.trips) : ClosedOff (k0_off2 t (BitVec.ofNat 32 2)) :=
  ⟨![512 * t.val + 2, 0], off2_closed t ⟨2, by decide⟩⟩
instance closedOff_k0_off2_3 (t : Fin k0_t2_loop.trips) : ClosedOff (k0_off2 t (BitVec.ofNat 32 3)) :=
  ⟨![512 * t.val + 3, 0], off2_closed t ⟨3, by decide⟩⟩

/-- One trip of the loop over the rows of dilation 16: two strided blocks, started afresh. -/
@[irreducible] def trip1 (k : Fin k0_t1_loop.trips) :
    RunOf (F := F) 𝒱 c bd arg1 arg2 arg3 arg7 arg8 arg9 arg10 arg11 x1 x2 x3 (k0_t1_body (F := F) i arg1 harg1 arg2 harg2 arg3 harg3 arg4 harg4 arg5 harg5 arg6 harg6 arg7 harg7 arg8 harg8 arg9 harg9 arg10 harg10 arg11 harg11 k ()) := by
  refine ⟨?_, ?_, ?_, ?_, ?_, fun E f7 f8 f9 f10 f11 => ?run⟩
  case run =>
    unfold k0_t1_body
    iintro ⟨H1, H2, H3, H7, H8, H9, H10, H11⟩
    sl_exec
    sl_step
    sl_close

/-- One trip of the loop over the rows of dilation 4: four strided blocks, accumulated. -/
@[irreducible] def trip2 (k : Fin k0_t2_loop.trips) :
    RunOf (F := F) 𝒱 c bd arg1 arg2 arg3 arg7 arg8 arg9 arg10 arg11 x1 x2 x3 (k0_t2_body (F := F) i arg1 harg1 arg2 harg2 arg3 harg3 arg4 harg4 arg5 harg5 arg6 harg6 arg7 harg7 arg8 harg8 arg9 harg9 arg10 harg10 arg11 harg11 k ()) := by
  refine ⟨?_, ?_, ?_, ?_, ?_, fun E f7 f8 f9 f10 f11 => ?run⟩
  case run =>
    unfold k0_t2_body
    iintro ⟨H1, H2, H3, H7, H8, H9, H10, H11⟩
    sl_exec
    sl_step
    sl_close

/-- The five arrays before trip `k` of the first loop. -/
abbrev st1 (G : St (F := F) arg7 arg8 arg9 arg10 arg11) : ℕ → St (F := F) arg7 arg8 arg9 arg10 arg11 :=
  iter arg7 arg8 arg9 arg10 arg11 (fun k s => (trip1 (F := F) 𝒱 c bd i arg1 harg1 arg2 harg2 arg3 harg3 arg4 harg4 arg5 harg5 arg6 harg6 arg7 harg7 arg8 harg8 arg9 harg9 arg10 harg10 arg11 harg11 x1 x2 x3 k).next 𝒱 c bd arg1 arg2 arg3 arg7 arg8 arg9 arg10 arg11 s) G

/-- The five arrays before trip `k` of the second loop. -/
abbrev st2 (G : St (F := F) arg7 arg8 arg9 arg10 arg11) : ℕ → St (F := F) arg7 arg8 arg9 arg10 arg11 :=
  iter arg7 arg8 arg9 arg10 arg11 (fun k s => (trip2 (F := F) 𝒱 c bd i arg1 harg1 arg2 harg2 arg3 harg3 arg4 harg4 arg5 harg5 arg6 harg6 arg7 harg7 arg8 harg8 arg9 harg9 arg10 harg10 arg11 harg11 x1 x2 x3 k).next 𝒱 c bd arg1 arg2 arg3 arg7 arg8 arg9 arg10 arg11 s) G

variable (E : Set ℕ) (g7 : BufTy.Contents (Elt F) arg7.view.ty) (g8 : BufTy.Contents (Elt F) arg8.view.ty) (g9 : BufTy.Contents (Elt F) arg9.view.ty) (g10 : BufTy.Contents (Elt F) arg10.view.ty) (g11 : BufTy.Contents (Elt F) arg11.view.ty)

set_option warn.classDefReducibility false in
/-- The first loop by its invariant. -/
@[sl_loop] def loopInv_k0_t1 : LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 where
  inv := invOf (F := F) c arg1 arg2 arg3 arg7 arg8 arg9 arg10 arg11 x1 x2 x3 (st1 (F := F) 𝒱 c bd i arg1 harg1 arg2 harg2 arg3 harg3 arg4 harg4 arg5 harg5 arg6 harg6 arg7 harg7 arg8 harg8 arg9 harg9 arg10 harg10 arg11 harg11 x1 x2 x3 (g7, g8, g9, g10, g11))
  step k acc := step_of 𝒱 c bd arg1 arg2 arg3 arg7 arg8 arg9 arg10 arg11 x1 x2 x3 (trip1 (F := F) 𝒱 c bd i arg1 harg1 arg2 harg2 arg3 harg3 arg4 harg4 arg5 harg5 arg6 harg6 arg7 harg7 arg8 harg8 arg9 harg9 arg10 harg10 arg11 harg11 x1 x2 x3 k) E _ k.val (iter_succ _ _ _ _ _ _ _ k)

set_option warn.classDefReducibility false in
/-- The second loop by its invariant. -/
@[sl_loop] def loopInv_k0_t2 : LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 where
  inv := invOf (F := F) c arg1 arg2 arg3 arg7 arg8 arg9 arg10 arg11 x1 x2 x3 (st2 (F := F) 𝒱 c bd i arg1 harg1 arg2 harg2 arg3 harg3 arg4 harg4 arg5 harg5 arg6 harg6 arg7 harg7 arg8 harg8 arg9 harg9 arg10 harg10 arg11 harg11 x1 x2 x3 (g7, g8, g9, g10, g11))
  step k acc := step_of 𝒱 c bd arg1 arg2 arg3 arg7 arg8 arg9 arg10 arg11 x1 x2 x3 (trip2 (F := F) 𝒱 c bd i arg1 harg1 arg2 harg2 arg3 harg3 arg4 harg4 arg5 harg5 arg6 harg6 arg7 harg7 arg8 harg8 arg9 harg9 arg10 harg10 arg11 harg11 x1 x2 x3 k) E _ k.val (iter_succ _ _ _ _ _ _ _ k)

end Cert.AttnIdeal.Hand
-- ==== Proof.AttnBlk.lean ====
/- One block of 128 query rows against 256 key rows, on the accumulated state: what the attention kernel's
   vector operations make of rows with given scores, maxima and values. -/
module

public import proofs.«01_k».proof.Proof.AttnMath
public import proofs.«01_k».proof.Proof.AttnLoops

@[expose] public section

set_option maxRecDepth 16384

noncomputable section

namespace Step.Att

open Idealize.ShloMosaic Idealize.ShloMosaic.TcCoe Step Cert.AttnIdeal Cert.AttnIdeal.Gen

/-- A vector of 128 rows, of 256 rows. -/
abbrev V128 := Vec Ideal S128x128 .f32
abbrev V256 := Vec Ideal S256x128 .f32

/-- The masked scores of the two heads, one under the other. -/
def bS (vld : IVec S128x256 1) (Q : V128) (K : V256) : FVec Ideal S256x256 .f32 :=
  k0_pay69 (k0_pay66 vld) (k0_pay67 (k0_pay54 Q) (k0_pay55 K)) k0_pay68

theorem lane_lt : ∀ x : Fin 128, IntOp.cmpi CmpIPredicate.slt (BitVec.ofNat 32 x.val) 64#32 = if hd x = 0 then 1#1 else 0#1 := by
  decide +kernel

theorem select_lane {α : Type} (x : Fin 128) (a b : α) :
    Scalar.select (IntOp.cmpi CmpIPredicate.slt (BitVec.ofNat 32 x.val) 64#32) a b = if hd x = 0 then a else b := by
  rw [lane_lt]
  by_cases h : hd x = 0
  · rw [if_pos h, if_pos h]; rfl
  · rw [if_neg h, if_neg h]; rfl

theorem lit_eighth : Ideal.ofBits .f32 1040187392#32 = ((1 / 8 : ℝ) : EReal) := by
  simp [Ideal.ofBits, Ideal.ieee, -EReal.coe_mul]; norm_num
theorem lit_ninf : Ideal.ofBits .f32 4286578688#32 = ⊥ := by
  simp [Ideal.ofBits, Ideal.ieee]

/-- The place, in a stack of the two heads' rows, of one head's row. -/
abbrev row (h : Fin 2) (a : Fin 128) : Fin 256 := ⟨128 * h.val + a.val, by omega⟩

theorem pay69_at (a : IVec S256x256 1) (b : FVec Ideal S256x256 .f32) (r i : Fin 256) :
    k0_pay69 (F := Ideal) a b k0_pay68 (ix2 r i) = if a (ix2 r i) = 1#1 then b (ix2 r i) else ⊥ := by
  pointwise [k0_pay69, k0_pay68]
  rfl

theorem pay66_at (vld : IVec S128x256 1) (h : Fin 2) (a : Fin 128) (i : Fin 256)  :
    k0_pay66 vld (ix2 (row h a) i) = vld (ix2 a i) := by
  pointwise [k0_pay66]
  match h with
  | 0 => rw [dif_pos (by simp)]; congr 2; simp
  | 1 => rw [dif_neg (by simp)]; congr 2; simp

/-- The scores of one head before the mask: rows of the first head above, of the second below. -/
theorem scores_at (Q : V128) (K : V256) (q k : Fin 128 → EReal) (a : Fin 128) (i : Fin 256) (h : Fin 2)
    (hQ : ∀ e, Q (ix2 a e) = (q e)) (hK : ∀ e, K (ix2 i e) = (k e)) :
    k0_pay67 (F := Ideal) (k0_pay54 Q) (k0_pay55 K) (ix2 (row h a) i)
      = (∑ e, if hd e = h then q e * eighth * k e else 0) := by
  pointwise [k0_pay67, k0_pay54, k0_pay55]
  simp only [select_lane, lit_eighth, hK]
  refine Finset.sum_congr rfl fun e _ => ?_
  match h with
  | 0 =>
    rw [dif_pos (by simp)]
    have : (⟨128 * (0 : Fin 2).val + a.val, by simp⟩ : Fin 128) = a := Fin.ext (by simp)
    simp only [this, hQ]
    by_cases he : hd e = 0
    · rw [if_pos he, if_pos he]
    · rw [if_neg he, if_neg he, zero_mul]
  | 1 =>
    rw [dif_neg (by simp)]
    have : (⟨128 * (1 : Fin 2).val + a.val - 128, by simp⟩ : Fin 128) = a := Fin.ext (by simp)
    simp only [this, hQ]
    by_cases he : hd e = 0
    · rw [if_pos he, if_neg (by rw [he]; decide), zero_mul]
    · rw [if_neg he, if_pos (by omega)]

section rowstep

variable (M0 M1 L0 L1 A : V128) (S : FVec Ideal S256x256 .f32) (W : V256) (h : Fin 2) (a : Fin 128)
  (V : Fin 256 → Prop) [DecidablePred V] (σ : Fin 256 → EReal) (v : Fin 256 → EReal) (μ μ' : EReal)

/-- The statistic of one head's row. -/
abbrev pick (h : Fin 2) (A B : V128) : V128 := if h = 0 then A else B

theorem dif_row {α : Type} (h : Fin 2) (a : Fin 128) (f g : Fin 128 → α) :
    (if hh : (row h a).val < 128 then f ⟨(row h a).val, hh⟩ else g ⟨(row h a).val - 128, by omega⟩) = if h = 0 then f a else g a := by
  match h with
  | 0 =>
    rw [dif_pos (by simp), if_pos rfl]
    congr 1; exact Fin.ext (by simp)
  | 1 =>
    rw [dif_neg (by simp), if_neg (by decide)]
    congr 1; exact Fin.ext (by simp)

theorem m2_at (hS : ∀ i, S (ix2 (row h a) i) = if V i then σ i else ⊥) (hM : ∀ e, pick h M0 M1 (ix2 a e) = μ) (e : Fin 128) :
    k0_pay76 M0 M1 S (ix2 (row h a) e) = max μ (Finset.fold max (⊥ : EReal) (fun i => if V i then σ i else ⊥) Finset.univ) := by
  pointwise [k0_pay76]
  simp only [hS, lit_ninf]
  refine congrArg (max · _) ?_
  refine (dif_row h a (fun x => M0 (ix2 x e)) (fun x => M1 (ix2 x e))).trans ?_
  rw [← hM e]
  unfold pick
  split <;> rfl

variable (hS : ∀ i, S (ix2 (row h a) i) = if V i then (σ i) else ⊥)
  (hM2 : ∀ e, k0_pay76 M0 M1 S (ix2 (row h a) e) = (μ'))
include hS hM2

theorem p_at (i : Fin 256) : k0_pay80 M0 M1 S (ix2 (row h a) i) = (if V i then Ideal.exp (σ i - μ') else 0) := by
  rw [← weight_at, ← hS]
  pointwise [k0_pay80]
  refine congrArg (fun t => Ideal.exp (S (ix2 (row h a) i) - t)) ?_
  split <;> exact hM2 _

theorem l2_at : k0_pay84 M0 M1 S (ix2 (row h a) 0) = (∑ i, if V i then Ideal.exp (σ i - μ') else 0) := by
  pointwise [k0_pay84]
  exact Finset.sum_congr rfl fun i _ => p_at M0 M1 S h a V σ μ' hS hM2 i

theorem acc2_at (e : Fin 128) (hW : ∀ i, W (ix2 i e) = (v i)) :
    k0_pay88 W M0 M1 S (ix2 (row h a) e) = (∑ i, if V i then Ideal.exp (σ i - μ') * v i else 0) := by
  rw [← weighted]
  pointwise [k0_pay88]
  refine Finset.sum_congr rfl fun i _ => ?_
  rw [hW]
  exact congrArg (· * _) (p_at M0 M1 S h a V σ μ' hS hM2 i)

omit hS
theorem alpha_at (e : Fin 128) (hM : ∀ e, pick h M0 M1 (ix2 a e) = (μ)) :
    k0_pay93 M0 M1 (k0_pay76 M0 M1 S) (ix2 (row h a) e) = (Ideal.exp (μ - μ')) := by
  pointwise [k0_pay93]
  rw [hM2, ← hM e]
  refine congrArg (fun t => Ideal.exp (t - _)) ?_
  refine (dif_row h a (fun x => M0 (ix2 x e)) (fun x => M1 (ix2 x e))).trans ?_
  unfold pick
  split <;> rfl

end rowstep

/-- The block's new state: the two statistics of the two heads, and the values' sum. -/
abbrev bM (vld : IVec S128x256 1) (Q : V128) (K : V256) (M0 M1 : V128) : FVec Ideal S256x128 .f32 := k0_pay76 M0 M1 (bS vld Q K)
def o7 (vld : IVec S128x256 1) (Q : V128) (K : V256) (M0 M1 : V128) : V128 :=
  shapeCast S128x128 (k0_pay95 (bM vld Q K M0 M1)) shapeCasts_S128x128_S128x128
def o8 (vld : IVec S128x256 1) (Q : V128) (K : V256) (M0 M1 : V128) : V128 :=
  shapeCast S128x128 (k0_pay96 (bM vld Q K M0 M1)) shapeCasts_S128x128_S128x128
def o9 (vld : IVec S128x256 1) (Q : V128) (K : V256) (M0 M1 L0 L1 : V128) : V128 :=
  shapeCast S128x128 (k0_pay97 M0 M1 L0 L1 (bM vld Q K M0 M1) (k0_pay84 M0 M1 (bS vld Q K))) shapeCasts_S128x128_S128x128
def o10 (vld : IVec S128x256 1) (Q : V128) (K : V256) (M0 M1 L0 L1 : V128) : V128 :=
  shapeCast S128x128 (k0_pay98 M0 M1 L0 L1 (bM vld Q K M0 M1) (k0_pay84 M0 M1 (bS vld Q K))) shapeCasts_S128x128_S128x128
def o11 (vld : IVec S128x256 1) (Q : V128) (K W : V256) (M0 M1 A : V128) : V128 :=
  shapeCast S128x128 (k0_pay99 M0 M1 A (bM vld Q K M0 M1) (k0_pay88 (k0_pay56 W) M0 M1 (bS vld Q K))) shapeCasts_S128x128_S128x128

theorem row_zero (a : Fin 128) (h : a.val < 256) : (⟨a.val, h⟩ : Fin 256) = row 0 a := Fin.ext (by simp)
theorem row_one (a : Fin 128) (h : 128 + a.val < 256) : (⟨128 + a.val, h⟩ : Fin 256) = row 1 a := Fin.ext (by simp)

/-- A row of the block that held the running state after the windows `ds` holds it after one more. -/
theorem block_ok (q k v : ℕ → Fin 128 → EReal) (ds : List ℕ) (d t kb a' : ℕ) (vld : IVec S128x256 1) (Q : V128) (K W : V256)
    (M0 M1 L0 L1 A : V128) (a : Fin 128) (hQ : ∀ e, Q (ix2 a e) = (q t e))
    (hK : ∀ i e, K (ix2 i e) = (k (kb + i.val * d) e)) (hW : ∀ i e, W (ix2 i e) = (v (kb + i.val * d) e))
    (hvld : ∀ i, vld (ix2 a i) = if i.val ≤ a' ∧ a' ≤ i.val + 128 then 1#1 else 0#1) (ha : a' < 256) (hd' : kb < d ∨ 128 ≤ a')
    (ht : t = kb + a' * d)
    (hrow : RowOK q k v ds t (fun e => M0 (ix2 a e)) (fun e => M1 (ix2 a e)) (fun e => L0 (ix2 a e)) (fun e => L1 (ix2 a e)) fun e => A (ix2 a e)) :
    RowOK q k v (d :: ds) t (fun e => o7 vld Q K M0 M1 (ix2 a e)) (fun e => o8 vld Q K M0 M1 (ix2 a e))
      (fun e => o9 vld Q K M0 M1 L0 L1 (ix2 a e)) (fun e => o10 vld Q K M0 M1 L0 L1 (ix2 a e)) fun e => o11 vld Q K W M0 M1 A (ix2 a e) := by
  obtain ⟨μ, hp, hμ⟩ := hrow
  have hS : ∀ h : Fin 2, ∀ i, bS vld Q K (ix2 (row h a) i)
      = if i.val ≤ a' ∧ a' ≤ i.val + 128 then (sc q k h t (kb + i.val * d)) else ⊥ := fun h i => by
    unfold bS
    rw [pay69_at, pay66_at, hvld, scores_at Q K (q t) (k (kb + i.val * d)) a i h hQ (hK i)]
    by_cases hi : i.val ≤ a' ∧ a' ≤ i.val + 128
    · rw [if_pos hi, if_pos rfl, if_pos hi]; rfl
    · rw [if_neg hi, if_neg (by decide), if_neg hi]
  have hM : ∀ h : Fin 2, ∀ e, pick h M0 M1 (ix2 a e) = (μ h) := fun h e => by
    match h with
    | 0 => exact (hμ e).1
    | 1 => exact (hμ e).2.1
  have hμ' : ∀ h : Fin 2, ∀ e, k0_pay76 M0 M1 (bS vld Q K) (ix2 (row h a) e) = peak (d :: ds) t (sc q k h t) := fun h e => by
    have w := window_top d kb a' ha hd' (sc q k h t)
    rw [← ht] at w
    rw [m2_at M0 M1 (bS vld Q K) h a _ _ (μ h) (hS h) (hM h) e, w, hp, peak_cons]
  obtain ⟨μ', hp'⟩ : ∃ μ' : Fin 2 → EReal, ∀ h, μ' h = peak (d :: ds) t (sc q k h t) := ⟨_, fun _ => rfl⟩
  simp only [← hp'] at hμ'
  have grow : ∀ h, μ h ≤ μ' h := fun h => by rw [hp, hp', peak_cons]; exact le_max_left _ _
  have hα := fun h e => alpha_at M0 M1 (bS vld Q K) h a (μ h) (μ' h) (hμ' h) e (hM h)
  have hl := fun h => l2_at M0 M1 (bS vld Q K) h a _ _ (μ' h) (hS h) (hμ' h)
  have hc := fun h e => acc2_at M0 M1 (bS vld Q K) W h a _ _ (fun i => v (kb + i.val * d) e) (μ' h) (hS h) (hμ' h) e fun i => hW i e
  have hl' : ∀ h : Fin 2, ((Ideal.exp (μ h - μ' h))) * (tot ds t fun t' => Ideal.exp (sc q k h t t' - μ h))
      + k0_pay84 M0 M1 (bS vld Q K) (ix2 (row h a) 0) = (tot (d :: ds) t fun t' => Ideal.exp (sc q k h t t' - μ' h)) := fun h => by
    rw [hl, reshift' _ _ _ _ _ (hp h).ge (grow h), tot_cons, add_comm]
    congr 1
    have := window d kb a' ha hd' fun t' => Ideal.exp (sc q k h t t' - μ' h)
    rw [← ht] at this
    exact this
  have hc' : ∀ h : Fin 2, ∀ e, ((Ideal.exp (μ h - μ' h))) * (tot ds t fun t' => Ideal.exp (sc q k h t t' - μ h) * v t' e)
      + k0_pay88 W M0 M1 (bS vld Q K) (ix2 (row h a) e) = (tot (d :: ds) t fun t' => Ideal.exp (sc q k h t t' - μ' h) * v t' e) := fun h e => by
    rw [hc, reshift _ _ _ _ _ (fun t' => v t' e) (hp h).ge (grow h), tot_cons, add_comm]
    congr 1
    have := window d kb a' ha hd' fun t' => Ideal.exp (sc q k h t t' - μ' h) * v t' e
    rw [← ht] at this
    exact this
  refine ⟨μ', hp', fun e => ⟨?_, ?_, ?_, ?_, ?_⟩⟩
  · pointwise [o7, k0_pay95]
    rw [row_zero]; exact hμ' 0 e
  · pointwise [o8, k0_pay96]
    rw [row_one]; exact hμ' 1 e
  · rw [← hl' 0, ← (hμ e).2.2.1, ← hα 0 e]
    pointwise [o9, k0_pay97, k0_pay94]
    simp only [row_zero]
  · rw [← hl' 1, ← (hμ e).2.2.2.1, ← hα 1 e]
    pointwise [o10, k0_pay98, k0_pay94]
    simp only [row_one]
  · rw [← hc' (hd e) e, ← (hμ e).2.2.2.2, ← hα (hd e) e]
    pointwise [o11, k0_pay99, k0_pay56]
    rw [select_lane]
    simp only [row_zero, row_one]
    by_cases he : hd e = 0
    · rw [if_pos he, he]
    · have h1 : hd e = 1 := by omega
      rw [if_neg he, h1]

end Step.Att
-- ==== Proof.AttnBlk1.lean ====
/- The first block of a row's attention, 256 query rows against the same 256 rows as keys, with no state before it. -/
module

public import proofs.«01_k».proof.Proof.AttnBlk

@[expose] public section

set_option maxRecDepth 16384

noncomputable section

namespace Step.Att

open Idealize.ShloMosaic Idealize.ShloMosaic.TcCoe Step Cert.AttnIdeal Cert.AttnIdeal.Gen

/-- The difference of two small numbers, as a word. -/
theorem sub_word (a b : ℕ) : IntOp.subi (BitVec.ofNat 32 a) (BitVec.ofNat 32 b) = BitVec.ofInt 32 ((a : ℤ) - b) := by
  rw [sub_eq_add_neg, BitVec.ofInt_add, BitVec.ofInt_neg, BitVec.ofInt_natCast, BitVec.ofInt_natCast, ← BitVec.sub_eq_add_neg]
  rfl

theorem near_word : ∀ n : Fin 511,
    IntOp.andi (IntOp.cmpi CmpIPredicate.sge (BitVec.ofInt 32 ((n.val : ℤ) - 255)) 0#32)
      (IntOp.cmpi CmpIPredicate.sle (BitVec.ofInt 32 ((n.val : ℤ) - 255)) 128#32)
    = if 255 ≤ n.val ∧ n.val ≤ 383 then 1#1 else 0#1 := by
  decide +kernel

/-- Whether a row is at most 128 places after another. -/
theorem near (a i : Fin 256) :
    IntOp.andi (IntOp.cmpi CmpIPredicate.sge (IntOp.subi (BitVec.ofNat 32 a.val) (BitVec.ofNat 32 i.val)) 0#32)
      (IntOp.cmpi CmpIPredicate.sle (IntOp.subi (BitVec.ofNat 32 a.val) (BitVec.ofNat 32 i.val)) 128#32)
    = if i.val ≤ a.val ∧ a.val ≤ i.val + 128 then 1#1 else 0#1 := by
  have h := near_word ⟨a.val + 255 - i.val, by omega⟩
  have e : (((a.val + 255 - i.val : ℕ) : ℤ) - 255) = (a.val : ℤ) - i.val := by omega
  simp only [e] at h
  rw [sub_word, h]
  refine if_congr ?_ rfl rfl
  constructor <;> intro h <;> omega

theorem pay19_at (a i : Fin 256) : k0_pay19 (ix2 a i) = if i.val ≤ a.val ∧ a.val ≤ i.val + 128 then 1#1 else 0#1 := by
  rw [← near]
  pointwise [k0_pay19, k0_pay18]

/-- The place, in a stack of the two heads' rows, of one head's row. -/
abbrev row1 (h : Fin 2) (a : Fin 256) : Fin 512 := ⟨256 * h.val + a.val, by omega⟩

theorem row1_zero (a : Fin 256) (h : a.val < 512) : (⟨a.val, h⟩ : Fin 512) = row1 0 a := Fin.ext (by simp)
theorem row1_one (a : Fin 256) (h : 256 + a.val < 512) : (⟨256 + a.val, h⟩ : Fin 512) = row1 1 a := Fin.ext (by simp)

/-- The masked scores of one head. -/
theorem fS_at (vld : IVec S256x256 1) (Q K : V256) (q k : Fin 128 → EReal) (a i : Fin 256) (h : Fin 2)
    (hQ : ∀ e, Q (ix2 a e) = (q e)) (hK : ∀ e, K (ix2 i e) = (k e)) :
    k0_pay29 (F := Ideal) vld (k0_pay22 Q) (k0_pay23 K) (ix2 (row1 h a) i)
      = if vld (ix2 a i) = 1#1 then (∑ e, if hd e = h then q e * eighth * k e else 0) else ⊥ := by
  pointwise [k0_pay29, k0_pay22, k0_pay23]
  simp only [select_lane, lit_eighth, hK]
  match h with
  | 0 =>
    simp only [show (256 * (0 : Fin 2).val + a.val < 256) = True from eq_true (by simp), dif_pos]
    have : (⟨256 * (0 : Fin 2).val + a.val, by simp⟩ : Fin 256) = a := Fin.ext (by simp)
    simp only [this, hQ]
    refine congrArg₂ (fun x y => if vld (ix2 a i) = 1#1 then x else y) (Finset.sum_congr rfl fun e _ => ?_) rfl
    by_cases he : hd e = 0
    · rw [if_pos he, if_pos he]
    · rw [if_neg he, if_neg he, zero_mul]
  | 1 =>
    simp only [show (256 * (1 : Fin 2).val + a.val < 256) = False from eq_false (by simp), dif_neg, not_false_eq_true]
    have : (⟨256 * (1 : Fin 2).val + a.val - 256, by simp⟩ : Fin 256) = a := Fin.ext (by simp)
    simp only [this, hQ]
    refine congrArg₂ (fun x y => if vld (ix2 a i) = 1#1 then x else y) (Finset.sum_congr rfl fun e _ => ?_) rfl
    by_cases he : hd e = 0
    · rw [if_pos he, if_neg (by rw [he]; decide), zero_mul]
    · rw [if_neg he, if_pos (by omega)]

/-- What the block leaves. -/
def i7 (vld : IVec S256x256 1) (Q K : V256) : V256 := k0_pay1 (k0_pay40 (k0_pay31 vld (k0_pay22 Q) (k0_pay23 K)))
def i8 (vld : IVec S256x256 1) (Q K : V256) : V256 := k0_pay2 (k0_pay41 (k0_pay31 vld (k0_pay22 Q) (k0_pay23 K)))
def i9 (vld : IVec S256x256 1) (Q K : V256) : V256 := k0_pay3 (k0_pay42 (k0_pay35 vld (k0_pay22 Q) (k0_pay23 K)))
def i10 (vld : IVec S256x256 1) (Q K : V256) : V256 := k0_pay4 (k0_pay43 (k0_pay35 vld (k0_pay22 Q) (k0_pay23 K)))
def i11 (vld : IVec S256x256 1) (Q K W : V256) : V256 := k0_pay5 (k0_pay44 (k0_pay37 vld (k0_pay22 Q) (k0_pay23 K) (k0_pay24 W)))

section rowstep

variable (vld : IVec S256x256 1) (Q K W : V256) (h : Fin 2) (a : Fin 256)
  (V : Fin 256 → Prop) [DecidablePred V] (σ : Fin 256 → EReal) (v : Fin 256 → EReal) (μ' : EReal)
  (hS : ∀ i, k0_pay29 (F := Ideal) vld Q K (ix2 (row1 h a) i) = if V i then (σ i) else ⊥)
include hS

theorem fm_at (e : Fin 128) : k0_pay31 (F := Ideal) vld Q K (ix2 (row1 h a) e) = Finset.fold max (⊥ : EReal) (fun i => if V i then σ i else ⊥) Finset.univ := by
  pointwise [k0_pay31]
  simp only [hS, lit_ninf]

variable (hM2 : ∀ e, k0_pay31 (F := Ideal) vld Q K (ix2 (row1 h a) e) = (μ'))
include hM2

theorem fp_at (i : Fin 256) : k0_pay33 (F := Ideal) vld Q K (ix2 (row1 h a) i) = (if V i then Ideal.exp (σ i - μ') else 0) := by
  rw [← weight_at, ← hS]
  pointwise [k0_pay33]
  refine congrArg (fun t => Ideal.exp (k0_pay29 (F := Ideal) vld Q K (ix2 (row1 h a) i) - t)) ?_
  split <;> exact hM2 _

theorem fl_at : k0_pay35 (F := Ideal) vld Q K (ix2 (row1 h a) 0) = (∑ i, if V i then Ideal.exp (σ i - μ') else 0) := by
  pointwise [k0_pay35]
  exact Finset.sum_congr rfl fun i _ => fp_at vld Q K h a V σ μ' hS hM2 i

theorem fc_at (e : Fin 128) (hW : ∀ i, W (ix2 i e) = (v i)) :
    k0_pay37 (F := Ideal) vld Q K W (ix2 (row1 h a) e) = (∑ i, if V i then Ideal.exp (σ i - μ') * v i else 0) := by
  rw [← weighted]
  pointwise [k0_pay37]
  refine Finset.sum_congr rfl fun i _ => ?_
  rw [hW]
  exact congrArg (· * _) (fp_at vld Q K h a V σ μ' hS hM2 i)

end rowstep

/-- A row of the block holds the running state of its first window. -/
theorem first_ok (q k v : ℕ → Fin 128 → EReal) (d t kb : ℕ) (Q K W : V256) (a : Fin 256) (hQ : ∀ e, Q (ix2 a e) = (q t e))
    (hK : ∀ i e, K (ix2 i e) = (k (kb + i.val * d) e)) (hW : ∀ i e, W (ix2 i e) = (v (kb + i.val * d) e))
    (hd' : kb < d) (ht : t = kb + a.val * d) :
    RowOK q k v [d] t (fun e => i7 k0_pay19 Q K (ix2 a e)) (fun e => i8 k0_pay19 Q K (ix2 a e)) (fun e => i9 k0_pay19 Q K (ix2 a e))
      (fun e => i10 k0_pay19 Q K (ix2 a e)) fun e => i11 k0_pay19 Q K W (ix2 a e) := by
  have hS : ∀ h : Fin 2, ∀ i, k0_pay29 (F := Ideal) k0_pay19 (k0_pay22 Q) (k0_pay23 K) (ix2 (row1 h a) i)
      = if i.val ≤ a.val ∧ a.val ≤ i.val + 128 then (sc q k h t (kb + i.val * d)) else ⊥ := fun h i => by
    rw [fS_at k0_pay19 Q K (q t) (k (kb + i.val * d)) a i h hQ (hK i), pay19_at]
    by_cases hi : i.val ≤ a.val ∧ a.val ≤ i.val + 128
    · rw [if_pos hi, if_pos rfl, if_pos hi]; rfl
    · rw [if_neg hi, if_neg (by decide), if_neg hi]
  have hμ' : ∀ h : Fin 2, ∀ e, k0_pay31 (F := Ideal) k0_pay19 (k0_pay22 Q) (k0_pay23 K) (ix2 (row1 h a) e) = peak [d] t (sc q k h t) := fun h e => by
    have w := window_top d kb a.val a.isLt (Or.inl hd') (sc q k h t)
    rw [← ht] at w
    rw [fm_at k0_pay19 (k0_pay22 Q) (k0_pay23 K) h a _ _ (hS h) e, w, peak_cons]
    exact (max_eq_right bot_le).symm
  obtain ⟨μ', hp'⟩ : ∃ μ' : Fin 2 → EReal, ∀ h, μ' h = peak [d] t (sc q k h t) := ⟨_, fun _ => rfl⟩
  simp only [← hp'] at hμ'
  have hW' : ∀ i e, k0_pay24 W (ix2 i e) = (v (kb + i.val * d) e) := fun i e => by
    rw [← hW]
    pointwise [k0_pay24]
  have hl := fun h => fl_at k0_pay19 (k0_pay22 Q) (k0_pay23 K) h a _ _ (μ' h) (hS h) (hμ' h)
  have hc := fun h e => fc_at k0_pay19 (k0_pay22 Q) (k0_pay23 K) (k0_pay24 W) h a _ _ (fun i => v (kb + i.val * d) e) (μ' h) (hS h) (hμ' h) e fun i => hW' i e
  have hl' : ∀ h : Fin 2, k0_pay35 (F := Ideal) k0_pay19 (k0_pay22 Q) (k0_pay23 K) (ix2 (row1 h a) 0)
      = (tot [d] t fun t' => Ideal.exp (sc q k h t t' - μ' h)) := fun h => by
    have := window d kb a.val a.isLt (Or.inl hd') fun t' => Ideal.exp (sc q k h t t' - μ' h)
    rw [← ht] at this
    rw [hl, this, tot_cons]
    simp [tot]
  have hc' : ∀ h : Fin 2, ∀ e, k0_pay37 (F := Ideal) k0_pay19 (k0_pay22 Q) (k0_pay23 K) (k0_pay24 W) (ix2 (row1 h a) e)
      = (tot [d] t fun t' => Ideal.exp (sc q k h t t' - μ' h) * v t' e) := fun h e => by
    have := window d kb a.val a.isLt (Or.inl hd') fun t' => Ideal.exp (sc q k h t t' - μ' h) * v t' e
    rw [← ht] at this
    rw [hc, this, tot_cons]
    simp [tot]
  refine ⟨μ', hp', fun e => ⟨?_, ?_, ?_, ?_, ?_⟩⟩
  · rw [← hμ' 0 e]
    pointwise [i7, k0_pay1, k0_pay40]
    simp only [row1_zero]
  · rw [← hμ' 1 e]
    pointwise [i8, k0_pay2, k0_pay41]
    simp only [row1_one]
  · rw [← hl' 0]
    pointwise [i9, k0_pay3, k0_pay42, k0_pay39]
    simp only [row1_zero]
  · rw [← hl' 1]
    pointwise [i10, k0_pay4, k0_pay43, k0_pay39]
    simp only [row1_one]
  · rw [← hc' (hd e) e]
    pointwise [i11, k0_pay5, k0_pay44]
    rw [select_lane]
    simp only [row1_zero, row1_one]
    by_cases he : hd e = 0
    · rw [if_pos he, he]
    · have h1 : hd e = 1 := by omega
      rw [if_neg he, h1]

end Step.Att
-- ==== Proof.AttnTrip.lean ====
/- What one trip of each loop of the attention kernel writes, block by block. -/
module

public import proofs.«01_k».proof.Proof.AttnBlk1

@[expose] public section

set_option maxRecDepth 16384

noncomputable section

namespace Step.Att

open Idealize.ShloMosaic Idealize.ShloMosaic.TcCoe Step Cert.AttnIdeal Cert.AttnIdeal.Gen Cert.AttnIdeal.Hand

/-- The rows of a block of dilation 16, of dilation 4 and of its keys, of dilation 1 and of its keys. -/
abbrev q1 (k : Fin k0_t1_loop.trips) (u : Fin 2) : LoadRect S4096x128 := ⟨k0_off1 k (BitVec.ofNat 32 u.val), S256x128.size, ![16, 1], k0_off1_inb k u⟩
abbrev q2 (k : Fin k0_t2_loop.trips) (u : Fin 4) : LoadRect S4096x128 := ⟨k0_off2 k (BitVec.ofNat 32 u.val), S128x128.size, ![4, 1], k0_off2_inb k u⟩
abbrev k2 (k : Fin k0_t2_loop.trips) (u : Fin 4) : LoadRect S4096x128 := ⟨k0_off3 k (BitVec.ofNat 32 u.val), S256x128.size, ![4, 1], k0_off3_inb k u⟩
abbrev q3 (k : Fin k0_t3_loop.trips) (u : Fin 4) : Rect S4096x128 := Rect.unit (s := S4096x128) (k0_off4 k (BitVec.ofNat 32 (8 * u.val))) S128x128.size (k0_off4_inb k u)
abbrev k3 (k : Fin k0_t3_loop.trips) (u : Fin 4) : Rect S4096x128 := Rect.unit (s := S4096x128) (k0_off5 k (BitVec.ofNat 32 (8 * u.val))) S256x128.size (k0_off5_inb k u)
abbrev w1 (k : Fin k0_t1_loop.trips) (u : Fin 2) : Rect S4096x128 := ⟨q1 k u, spos_16_1⟩
abbrev w2 (k : Fin k0_t2_loop.trips) (u : Fin 4) : Rect S4096x128 := ⟨q2 k u, spos_4_1⟩

/-- The blocks a trip writes into one array, the last first. -/
def pieces2 (r : Fin 2 → Rect S4096x128) (P : ∀ u, (r u).shape.Idx → EReal) : List (View.Piece (Elt Ideal) S4096x128 .f32) :=
  [⟨r 1, P 1⟩, ⟨r 0, P 0⟩]
def pieces4 (r : Fin 4 → Rect S4096x128) (P : ∀ u, (r u).shape.Idx → EReal) : List (View.Piece (Elt Ideal) S4096x128 .f32) :=
  [⟨r 3, P 3⟩, ⟨r 2, P 2⟩, ⟨r 1, P 1⟩, ⟨r 0, P 0⟩]

variable (𝒱 : Variants) (c : Dev nD) (bd : Option 𝒱.V) (i : grid0.Coords)
  (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole)
  (x1 : BufTy.Contents (Elt Ideal) arg1.view.ty) (x2 : BufTy.Contents (Elt Ideal) arg2.view.ty) (x3 : BufTy.Contents (Elt Ideal) arg3.view.ty)

variable (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty)

/-- One trip of the loop of dilation 16 writes two blocks into each array. -/
theorem trip1_7 (k : Fin k0_t1_loop.trips) : (trip1 (F := Ideal) 𝒱 c bd i arg1 harg1 arg2 harg2 arg3 harg3 arg4 harg4 arg5 harg5 arg6 harg6 arg7 harg7 arg8 harg8 arg9 harg9 arg10 harg10 arg11 harg11 x1 x2 x3 k).1 f7 f8 f9 f10 f11
    = pieces2 (w1 k) fun u => i7 k0_pay19 (arg1.view.readAt (Elt Ideal) (q1 k u) x1) (arg2.view.readAt (Elt Ideal) (q1 k u) x2) := by
  unfold trip1
  rfl
theorem trip1_8 (k : Fin k0_t1_loop.trips) : (trip1 (F := Ideal) 𝒱 c bd i arg1 harg1 arg2 harg2 arg3 harg3 arg4 harg4 arg5 harg5 arg6 harg6 arg7 harg7 arg8 harg8 arg9 harg9 arg10 harg10 arg11 harg11 x1 x2 x3 k).2.1 f7 f8 f9 f10 f11
    = pieces2 (w1 k) fun u => i8 k0_pay19 (arg1.view.readAt (Elt Ideal) (q1 k u) x1) (arg2.view.readAt (Elt Ideal) (q1 k u) x2) := by
  unfold trip1
  rfl
theorem trip1_9 (k : Fin k0_t1_loop.trips) : (trip1 (F := Ideal) 𝒱 c bd i arg1 harg1 arg2 harg2 arg3 harg3 arg4 harg4 arg5 harg5 arg6 harg6 arg7 harg7 arg8 harg8 arg9 harg9 arg10 harg10 arg11 harg11 x1 x2 x3 k).2.2.1 f7 f8 f9 f10 f11
    = pieces2 (w1 k) fun u => i9 k0_pay19 (arg1.view.readAt (Elt Ideal) (q1 k u) x1) (arg2.view.readAt (Elt Ideal) (q1 k u) x2) := by
  unfold trip1
  rfl
theorem trip1_10 (k : Fin k0_t1_loop.trips) : (trip1 (F := Ideal) 𝒱 c bd i arg1 harg1 arg2 harg2 arg3 harg3 arg4 harg4 arg5 harg5 arg6 harg6 arg7 harg7 arg8 harg8 arg9 harg9 arg10 harg10 arg11 harg11 x1 x2 x3 k).2.2.2.1 f7 f8 f9 f10 f11
    = pieces2 (w1 k) fun u => i10 k0_pay19 (arg1.view.readAt (Elt Ideal) (q1 k u) x1) (arg2.view.readAt (Elt Ideal) (q1 k u) x2) := by
  unfold trip1
  rfl
theorem trip1_11 (k : Fin k0_t1_loop.trips) : (trip1 (F := Ideal) 𝒱 c bd i arg1 harg1 arg2 harg2 arg3 harg3 arg4 harg4 arg5 harg5 arg6 harg6 arg7 harg7 arg8 harg8 arg9 harg9 arg10 harg10 arg11 harg11 x1 x2 x3 k).2.2.2.2.1 f7 f8 f9 f10 f11
    = pieces2 (w1 k) fun u => i11 k0_pay19 (arg1.view.readAt (Elt Ideal) (q1 k u) x1) (arg2.view.readAt (Elt Ideal) (q1 k u) x2) (arg3.view.readAt (Elt Ideal) (q1 k u) x3) := by
  unfold trip1
  rfl
/-- One trip of the loop of dilation 4 writes four blocks into each array. -/
theorem trip2_7 (k : Fin k0_t2_loop.trips) : (trip2 (F := Ideal) 𝒱 c bd i arg1 harg1 arg2 harg2 arg3 harg3 arg4 harg4 arg5 harg5 arg6 harg6 arg7 harg7 arg8 harg8 arg9 harg9 arg10 harg10 arg11 harg11 x1 x2 x3 k).1 f7 f8 f9 f10 f11
    = pieces4 (w2 k) fun u => o7 (trip2.sl.v51 k) (arg1.view.readAt (Elt Ideal) (q2 k u) x1) (arg2.view.readAt (Elt Ideal) (k2 k u) x2) (arg7.view.readAt (Elt Ideal) (q2 k u) f7) (arg8.view.readAt (Elt Ideal) (q2 k u) f8) := by
  unfold trip2
  rfl
theorem trip2_8 (k : Fin k0_t2_loop.trips) : (trip2 (F := Ideal) 𝒱 c bd i arg1 harg1 arg2 harg2 arg3 harg3 arg4 harg4 arg5 harg5 arg6 harg6 arg7 harg7 arg8 harg8 arg9 harg9 arg10 harg10 arg11 harg11 x1 x2 x3 k).2.1 f7 f8 f9 f10 f11
    = pieces4 (w2 k) fun u => o8 (trip2.sl.v51 k) (arg1.view.readAt (Elt Ideal) (q2 k u) x1) (arg2.view.readAt (Elt Ideal) (k2 k u) x2) (arg7.view.readAt (Elt Ideal) (q2 k u) f7) (arg8.view.readAt (Elt Ideal) (q2 k u) f8) := by
  unfold trip2
  rfl
theorem trip2_9 (k : Fin k0_t2_loop.trips) : (trip2 (F := Ideal) 𝒱 c bd i arg1 harg1 arg2 harg2 arg3 harg3 arg4 harg4 arg5 harg5 arg6 harg6 arg7 harg7 arg8 harg8 arg9 harg9 arg10 harg10 arg11 harg11 x1 x2 x3 k).2.2.1 f7 f8 f9 f10 f11
    = pieces4 (w2 k) fun u => o9 (trip2.sl.v51 k) (arg1.view.readAt (Elt Ideal) (q2 k u) x1) (arg2.view.readAt (Elt Ideal) (k2 k u) x2) (arg7.view.readAt (Elt Ideal) (q2 k u) f7) (arg8.view.readAt (Elt Ideal) (q2 k u) f8) (arg9.view.readAt (Elt Ideal) (q2 k u) f9) (arg10.view.readAt (Elt Ideal) (q2 k u) f10) := by
  unfold trip2
  rfl
theorem trip2_10 (k : Fin k0_t2_loop.trips) : (trip2 (F := Ideal) 𝒱 c bd i arg1 harg1 arg2 harg2 arg3 harg3 arg4 harg4 arg5 harg5 arg6 harg6 arg7 harg7 arg8 harg8 arg9 harg9 arg10 harg10 arg11 harg11 x1 x2 x3 k).2.2.2.1 f7 f8 f9 f10 f11
    = pieces4 (w2 k) fun u => o10 (trip2.sl.v51 k) (arg1.view.readAt (Elt Ideal) (q2 k u) x1) (arg2.view.readAt (Elt Ideal) (k2 k u) x2) (arg7.view.readAt (Elt Ideal) (q2 k u) f7) (arg8.view.readAt (Elt Ideal) (q2 k u) f8) (arg9.view.readAt (Elt Ideal) (q2 k u) f9) (arg10.view.readAt (Elt Ideal) (q2 k u) f10) := by
  unfold trip2
  rfl
theorem trip2_11 (k : Fin k0_t2_loop.trips) : (trip2 (F := Ideal) 𝒱 c bd i arg1 harg1 arg2 harg2 arg3 harg3 arg4 harg4 arg5 harg5 arg6 harg6 arg7 harg7 arg8 harg8 arg9 harg9 arg10 harg10 arg11 harg11 x1 x2 x3 k).2.2.2.2.1 f7 f8 f9 f10 f11
    = pieces4 (w2 k) fun u => o11 (trip2.sl.v51 k) (arg1.view.readAt (Elt Ideal) (q2 k u) x1) (arg2.view.readAt (Elt Ideal) (k2 k u) x2) (arg3.view.readAt (Elt Ideal) (k2 k u) x3) (arg7.view.readAt (Elt Ideal) (q2 k u) f7) (arg8.view.readAt (Elt Ideal) (q2 k u) f8) (arg11.view.readAt (Elt Ideal) (q2 k u) f11) := by
  unfold trip2
  rfl
/-- Which keys of a block of dilation 1 its rows see. -/
def v3 (k : Fin k0_t3_loop.trips) (u : Fin 4) : IVec S128x256 1 :=
  if u = 0 then trip_k0_t3.sl.v21 k else andi trip_k0_t3.sl.v35 trip_k0_t3.sl.v38

/-- One trip of the loop of dilation 1 writes four blocks into each array. -/
theorem trip3_7 (k : Fin k0_t3_loop.trips) : (trip_k0_t3 (F := Ideal) 𝒱 c bd i arg1 harg1 arg2 harg2 arg3 harg3 arg4 harg4 arg5 harg5 arg6 harg6 arg7 harg7 arg8 harg8 arg9 harg9 arg10 harg10 arg11 harg11 x1 x2 x3 k).1 f7 f8 f9 f10 f11
    = pieces4 (q3 k) fun u => o7 (v3 k u) (arg1.view.readAt (Elt Ideal) (q3 k u).toLoadRect x1) (arg2.view.readAt (Elt Ideal) (k3 k u).toLoadRect x2) (arg7.view.readAt (Elt Ideal) (q3 k u).toLoadRect f7) (arg8.view.readAt (Elt Ideal) (q3 k u).toLoadRect f8) := by
  unfold trip_k0_t3
  rfl
theorem trip3_8 (k : Fin k0_t3_loop.trips) : (trip_k0_t3 (F := Ideal) 𝒱 c bd i arg1 harg1 arg2 harg2 arg3 harg3 arg4 harg4 arg5 harg5 arg6 harg6 arg7 harg7 arg8 harg8 arg9 harg9 arg10 harg10 arg11 harg11 x1 x2 x3 k).2.1 f7 f8 f9 f10 f11
    = pieces4 (q3 k) fun u => o8 (v3 k u) (arg1.view.readAt (Elt Ideal) (q3 k u).toLoadRect x1) (arg2.view.readAt (Elt Ideal) (k3 k u).toLoadRect x2) (arg7.view.readAt (Elt Ideal) (q3 k u).toLoadRect f7) (arg8.view.readAt (Elt Ideal) (q3 k u).toLoadRect f8) := by
  unfold trip_k0_t3
  rfl
theorem trip3_9 (k : Fin k0_t3_loop.trips) : (trip_k0_t3 (F := Ideal) 𝒱 c bd i arg1 harg1 arg2 harg2 arg3 harg3 arg4 harg4 arg5 harg5 arg6 harg6 arg7 harg7 arg8 harg8 arg9 harg9 arg10 harg10 arg11 harg11 x1 x2 x3 k).2.2.1 f7 f8 f9 f10 f11
    = pieces4 (q3 k) fun u => o9 (v3 k u) (arg1.view.readAt (Elt Ideal) (q3 k u).toLoadRect x1) (arg2.view.readAt (Elt Ideal) (k3 k u).toLoadRect x2) (arg7.view.readAt (Elt Ideal) (q3 k u).toLoadRect f7) (arg8.view.readAt (Elt Ideal) (q3 k u).toLoadRect f8) (arg9.view.readAt (Elt Ideal) (q3 k u).toLoadRect f9) (arg10.view.readAt (Elt Ideal) (q3 k u).toLoadRect f10) := by
  unfold trip_k0_t3
  rfl
theorem trip3_10 (k : Fin k0_t3_loop.trips) : (trip_k0_t3 (F := Ideal) 𝒱 c bd i arg1 harg1 arg2 harg2 arg3 harg3 arg4 harg4 arg5 harg5 arg6 harg6 arg7 harg7 arg8 harg8 arg9 harg9 arg10 harg10 arg11 harg11 x1 x2 x3 k).2.2.2.1 f7 f8 f9 f10 f11
    = pieces4 (q3 k) fun u => o10 (v3 k u) (arg1.view.readAt (Elt Ideal) (q3 k u).toLoadRect x1) (arg2.view.readAt (Elt Ideal) (k3 k u).toLoadRect x2) (arg7.view.readAt (Elt Ideal) (q3 k u).toLoadRect f7) (arg8.view.readAt (Elt Ideal) (q3 k u).toLoadRect f8) (arg9.view.readAt (Elt Ideal) (q3 k u).toLoadRect f9) (arg10.view.readAt (Elt Ideal) (q3 k u).toLoadRect f10) := by
  unfold trip_k0_t3
  rfl
theorem trip3_11 (k : Fin k0_t3_loop.trips) : (trip_k0_t3 (F := Ideal) 𝒱 c bd i arg1 harg1 arg2 harg2 arg3 harg3 arg4 harg4 arg5 harg5 arg6 harg6 arg7 harg7 arg8 harg8 arg9 harg9 arg10 harg10 arg11 harg11 x1 x2 x3 k).2.2.2.2.1 f7 f8 f9 f10 f11
    = pieces4 (q3 k) fun u => o11 (v3 k u) (arg1.view.readAt (Elt Ideal) (q3 k u).toLoadRect x1) (arg2.view.readAt (Elt Ideal) (k3 k u).toLoadRect x2) (arg3.view.readAt (Elt Ideal) (k3 k u).toLoadRect x3) (arg7.view.readAt (Elt Ideal) (q3 k u).toLoadRect f7) (arg8.view.readAt (Elt Ideal) (q3 k u).toLoadRect f8) (arg11.view.readAt (Elt Ideal) (q3 k u).toLoadRect f11) := by
  unfold trip_k0_t3
  rfl

end Step.Att
-- ==== Proof.AttnRows.lean ====
/- What a trip's blocks leave in the rows of the five arrays: the rows of a block hold one more window, every other
   row is as it was. -/
module

public import proofs.«01_k».proof.Proof.AttnTrip

@[expose] public section

set_option maxRecDepth 16384

noncomputable section

namespace Step.Att

open Idealize.ShloMosaic Idealize.ShloMosaic.TcCoe Step Cert.AttnIdeal Cert.AttnIdeal.Gen Cert.AttnIdeal.Hand

section pieces

variable (v : View sig .tc .vmem S4096x128 .f32) (f : v.ty.Contents (Elt Ideal))

theorem read_hit (r : Rect S4096x128) (w : r.shape.Idx → EReal) (L : List (View.Piece (Elt Ideal) S4096x128 .f32)) (x : r.shape.Idx) :
    v.read (Elt Ideal) (v.writes (Elt Ideal) f (⟨r, w⟩ :: L)) (r.emb x) = w x := View.read_writes_cons_emb ..

theorem read_miss (r : Rect S4096x128) (w : r.shape.Idx → EReal) (L : List (View.Piece (Elt Ideal) S4096x128 .f32)) (y : S4096x128.Idx) (h : y ∉ r.set) :
    v.read (Elt Ideal) (v.writes (Elt Ideal) f (⟨r, w⟩ :: L)) y = v.read (Elt Ideal) (v.writes (Elt Ideal) f L) y := View.read_writes_cons_miss _ _ _ _ _ h

theorem pieces2_hit (r : Fin 2 → Rect S4096x128) (P : ∀ u, (r u).shape.Idx → EReal) (hdis : ∀ u u' x, u ≠ u' → (r u).emb x ∉ (r u').set) :
    ∀ (u : Fin 2) (x : (r u).shape.Idx), v.read (Elt Ideal) (v.writes (Elt Ideal) f (pieces2 r P)) ((r u).emb x) = P u x :=
  Fin.forall_fin_two.2 ⟨fun x => (read_miss v f _ _ _ _ (hdis 0 1 x (by decide))).trans (read_hit ..), fun x => read_hit ..⟩

theorem pieces2_miss (r : Fin 2 → Rect S4096x128) (P : ∀ u, (r u).shape.Idx → EReal) (y : S4096x128.Idx) (hy : ∀ u, y ∉ (r u).set) :
    v.read (Elt Ideal) (v.writes (Elt Ideal) f (pieces2 r P)) y = v.read (Elt Ideal) f y :=
  (read_miss v f _ _ _ _ (hy 1)).trans (read_miss v f _ _ _ _ (hy 0))

theorem pieces4_hit (r : Fin 4 → Rect S4096x128) (P : ∀ u, (r u).shape.Idx → EReal) (hdis : ∀ u u' x, u ≠ u' → (r u).emb x ∉ (r u').set) :
    ∀ (u : Fin 4) (x : (r u).shape.Idx), v.read (Elt Ideal) (v.writes (Elt Ideal) f (pieces4 r P)) ((r u).emb x) = P u x := by
  have h3 : ∀ x, v.read (Elt Ideal) (v.writes (Elt Ideal) f (pieces4 r P)) ((r 3).emb x) = P 3 x := fun x => read_hit ..
  have h2 : ∀ x, v.read (Elt Ideal) (v.writes (Elt Ideal) f (pieces4 r P)) ((r 2).emb x) = P 2 x := fun x =>
    (read_miss v f _ _ _ _ (hdis 2 3 x (by decide))).trans (read_hit ..)
  have h1 : ∀ x, v.read (Elt Ideal) (v.writes (Elt Ideal) f (pieces4 r P)) ((r 1).emb x) = P 1 x := fun x =>
    (read_miss v f _ _ _ _ (hdis 1 3 x (by decide))).trans ((read_miss v f _ _ _ _ (hdis 1 2 x (by decide))).trans (read_hit ..))
  have h0 : ∀ x, v.read (Elt Ideal) (v.writes (Elt Ideal) f (pieces4 r P)) ((r 0).emb x) = P 0 x := fun x =>
    (read_miss v f _ _ _ _ (hdis 0 3 x (by decide))).trans ((read_miss v f _ _ _ _ (hdis 0 2 x (by decide))).trans
      ((read_miss v f _ _ _ _ (hdis 0 1 x (by decide))).trans (read_hit ..)))
  intro u
  match u with
  | 0 => exact h0
  | 1 => exact h1
  | 2 => exact h2
  | 3 => exact h3

theorem pieces4_miss (r : Fin 4 → Rect S4096x128) (P : ∀ u, (r u).shape.Idx → EReal) (y : S4096x128.Idx) (hy : ∀ u, y ∉ (r u).set) :
    v.read (Elt Ideal) (v.writes (Elt Ideal) f (pieces4 r P)) y = v.read (Elt Ideal) f y :=
  (read_miss v f _ _ _ _ (hy 3)).trans ((read_miss v f _ _ _ _ (hy 2)).trans ((read_miss v f _ _ _ _ (hy 1)).trans (read_miss v f _ _ _ _ (hy 0))))

end pieces

/-- A row of the five arrays as they stand. -/
def Row (q k v : ℕ → Fin 128 → EReal) (v7 v8 v9 v10 v11 : View sig .tc .vmem S4096x128 .f32) (f7 : v7.ty.Contents (Elt Ideal)) (f8 : v8.ty.Contents (Elt Ideal))
    (f9 : v9.ty.Contents (Elt Ideal)) (f10 : v10.ty.Contents (Elt Ideal)) (f11 : v11.ty.Contents (Elt Ideal)) (ds : List ℕ) (t : Fin 4096) : Prop :=
  RowOK q k v ds t.val (fun e => v7.read (Elt Ideal) f7 (ix2 t e)) (fun e => v8.read (Elt Ideal) f8 (ix2 t e)) (fun e => v9.read (Elt Ideal) f9 (ix2 t e))
    (fun e => v10.read (Elt Ideal) f10 (ix2 t e)) fun e => v11.read (Elt Ideal) f11 (ix2 t e)

section rows

variable (q k v : ℕ → Fin 128 → EReal) (v7 v8 v9 v10 v11 : View sig .tc .vmem S4096x128 .f32)(f7 : v7.ty.Contents (Elt Ideal)) (f8 : v8.ty.Contents (Elt Ideal)) (f9 : v9.ty.Contents (Elt Ideal)) (f10 : v10.ty.Contents (Elt Ideal)) (f11 : v11.ty.Contents (Elt Ideal))

theorem row4_hit (r : Fin 4 → Rect S4096x128) (P7 : ∀ u, (r u).shape.Idx → EReal) (P8 : ∀ u, (r u).shape.Idx → EReal) (P9 : ∀ u, (r u).shape.Idx → EReal) (P10 : ∀ u, (r u).shape.Idx → EReal) (P11 : ∀ u, (r u).shape.Idx → EReal) (ds : List ℕ) (t : Fin 4096) (u : Fin 4) (x : Fin 128 → (r u).shape.Idx)
    (hdis : ∀ u u' x, u ≠ u' → (r u).emb x ∉ (r u').set) (hx : ∀ e, (r u).emb (x e) = ix2 t e)
    (h : RowOK q k v ds t.val (fun e => P7 u (x e)) (fun e => P8 u (x e)) (fun e => P9 u (x e)) (fun e => P10 u (x e)) fun e => P11 u (x e)) :
    Row q k v v7 v8 v9 v10 v11 (v7.writes (Elt Ideal) f7 (pieces4 r P7)) (v8.writes (Elt Ideal) f8 (pieces4 r P8)) (v9.writes (Elt Ideal) f9 (pieces4 r P9)) (v10.writes (Elt Ideal) f10 (pieces4 r P10)) (v11.writes (Elt Ideal) f11 (pieces4 r P11)) ds t := by
  unfold Row
  simp only [← hx, pieces4_hit _ _ _ _ hdis]
  exact h

theorem row4_miss (r : Fin 4 → Rect S4096x128) (P7 : ∀ u, (r u).shape.Idx → EReal) (P8 : ∀ u, (r u).shape.Idx → EReal) (P9 : ∀ u, (r u).shape.Idx → EReal) (P10 : ∀ u, (r u).shape.Idx → EReal) (P11 : ∀ u, (r u).shape.Idx → EReal) (ds : List ℕ) (t : Fin 4096)
    (hy : ∀ e u, (ix2 t e : S4096x128.Idx) ∉ (r u).set) (h : Row q k v v7 v8 v9 v10 v11 f7 f8 f9 f10 f11 ds t) :
    Row q k v v7 v8 v9 v10 v11 (v7.writes (Elt Ideal) f7 (pieces4 r P7)) (v8.writes (Elt Ideal) f8 (pieces4 r P8)) (v9.writes (Elt Ideal) f9 (pieces4 r P9)) (v10.writes (Elt Ideal) f10 (pieces4 r P10)) (v11.writes (Elt Ideal) f11 (pieces4 r P11)) ds t := by
  unfold Row at h ⊢
  simp only [pieces4_miss _ _ _ _ _ (hy _)]
  exact h

theorem row2_hit (r : Fin 2 → Rect S4096x128) (P7 : ∀ u, (r u).shape.Idx → EReal) (P8 : ∀ u, (r u).shape.Idx → EReal) (P9 : ∀ u, (r u).shape.Idx → EReal) (P10 : ∀ u, (r u).shape.Idx → EReal) (P11 : ∀ u, (r u).shape.Idx → EReal) (ds : List ℕ) (t : Fin 4096) (u : Fin 2) (x : Fin 128 → (r u).shape.Idx)
    (hdis : ∀ u u' x, u ≠ u' → (r u).emb x ∉ (r u').set) (hx : ∀ e, (r u).emb (x e) = ix2 t e)
    (h : RowOK q k v ds t.val (fun e => P7 u (x e)) (fun e => P8 u (x e)) (fun e => P9 u (x e)) (fun e => P10 u (x e)) fun e => P11 u (x e)) :
    Row q k v v7 v8 v9 v10 v11 (v7.writes (Elt Ideal) f7 (pieces2 r P7)) (v8.writes (Elt Ideal) f8 (pieces2 r P8)) (v9.writes (Elt Ideal) f9 (pieces2 r P9)) (v10.writes (Elt Ideal) f10 (pieces2 r P10)) (v11.writes (Elt Ideal) f11 (pieces2 r P11)) ds t := by
  unfold Row
  simp only [← hx, pieces2_hit _ _ _ _ hdis]
  exact h

theorem row2_miss (r : Fin 2 → Rect S4096x128) (P7 : ∀ u, (r u).shape.Idx → EReal) (P8 : ∀ u, (r u).shape.Idx → EReal) (P9 : ∀ u, (r u).shape.Idx → EReal) (P10 : ∀ u, (r u).shape.Idx → EReal) (P11 : ∀ u, (r u).shape.Idx → EReal) (ds : List ℕ) (t : Fin 4096)
    (hy : ∀ e u, (ix2 t e : S4096x128.Idx) ∉ (r u).set) (h : Row q k v v7 v8 v9 v10 v11 f7 f8 f9 f10 f11 ds t) :
    Row q k v v7 v8 v9 v10 v11 (v7.writes (Elt Ideal) f7 (pieces2 r P7)) (v8.writes (Elt Ideal) f8 (pieces2 r P8)) (v9.writes (Elt Ideal) f9 (pieces2 r P9)) (v10.writes (Elt Ideal) f10 (pieces2 r P10)) (v11.writes (Elt Ideal) f11 (pieces2 r P11)) ds t := by
  unfold Row at h ⊢
  simp only [pieces2_miss _ _ _ _ _ (hy _)]
  exact h

end rows

/-- Whole rows, at a stride. -/
abbrev qr {n : ℕ} (off : Fin n → Fin 2 → ℕ) (st : Fin 2 → ℕ) (inb : ∀ u, ∀ a, S128x128.size a = 0 ∨ off u a + st a * (S128x128.size a - 1) < S4096x128.size a)
    (pos : ∀ a, 0 < st a) (u : Fin n) : Rect S4096x128 := ⟨⟨off u, S128x128.size, st, inb u⟩, pos⟩
abbrev qr1 {n : ℕ} (off : Fin n → Fin 2 → ℕ) (st : Fin 2 → ℕ) (inb : ∀ u, ∀ a, S256x128.size a = 0 ∨ off u a + st a * (S256x128.size a - 1) < S4096x128.size a)
    (pos : ∀ a, 0 < st a) (u : Fin n) : Rect S4096x128 := ⟨⟨off u, S256x128.size, st, inb u⟩, pos⟩

section step

variable (v1 v2 v3 v7 v8 v9 v10 v11 : View sig .tc .vmem S4096x128 .f32) (x1 : v1.ty.Contents (Elt Ideal)) (x2 : v2.ty.Contents (Elt Ideal)) (x3 : v3.ty.Contents (Elt Ideal))
  (f7 : v7.ty.Contents (Elt Ideal)) (f8 : v8.ty.Contents (Elt Ideal)) (f9 : v9.ty.Contents (Elt Ideal)) (f10 : v10.ty.Contents (Elt Ideal)) (f11 : v11.ty.Contents (Elt Ideal))
  (q k v : ℕ → Fin 128 → EReal) (hq : ∀ t e, v1.read (Elt Ideal) x1 (ix2 t e) = q t.val e)
  (hk : ∀ t e, v2.read (Elt Ideal) x2 (ix2 t e) = k t.val e) (hv : ∀ t e, v3.read (Elt Ideal) x3 (ix2 t e) = v t.val e)

include hq hk hv

/-- Four accumulated blocks of dilation `d`. -/
theorem step4 (ds : List ℕ) (d : ℕ) (off : Fin 4 → Fin 2 → ℕ) (st : Fin 2 → ℕ) (inb : ∀ u, ∀ a, S128x128.size a = 0 ∨ off u a + st a * (S128x128.size a - 1) < S4096x128.size a)
    (pos : ∀ a, 0 < st a) (koff : Fin 4 → Fin 2 → ℕ) (kinb : ∀ u, ∀ a, S256x128.size a = 0 ∨ koff u a + st a * (S256x128.size a - 1) < S4096x128.size a)
    (vld : Fin 4 → IVec S128x256 1) (ρ : Fin 4 → Fin 128 → Fin 4096) (kb : Fin 4 → ℕ) (a' : Fin 4 → Fin 128 → ℕ) (hst : st = ![d, 1])
    (hoff : ∀ u a, off u 1 = 0 ∧ (ρ u a).val = off u 0 + d * a.val) (hkoff : ∀ u, koff u = ![kb u, 0])
    (hdis : ∀ u u' a b, (ρ u a).val = (ρ u' b).val → u = u')
    (hvld : ∀ u a i, vld u (ix2 a i) = if i.val ≤ a' u a ∧ a' u a ≤ i.val + 128 then 1#1 else 0#1) (ha : ∀ u a, a' u a < 256)
    (hd' : ∀ u a, kb u < d ∨ 128 ≤ a' u a) (ht : ∀ u a, (ρ u a).val = kb u + a' u a * d)
    (hrow : ∀ u a, Row q k v v7 v8 v9 v10 v11 f7 f8 f9 f10 f11 ds (ρ u a)) :
    let kr : Fin 4 → LoadRect S4096x128 := fun u => ⟨koff u, S256x128.size, st, kinb u⟩
    ∀ t ds', ((∃ u a, t = ρ u a) ∧ ds' = d :: ds) ∨ ((¬ ∃ u a, t = ρ u a) ∧ Row q k v v7 v8 v9 v10 v11 f7 f8 f9 f10 f11 ds' t) →
    Row q k v v7 v8 v9 v10 v11
            (v7.writes (Elt Ideal) f7 (pieces4 (qr off st inb pos) fun u => o7 (vld u) (v1.readAt (Elt Ideal) (qr off st inb pos u).toLoadRect x1) (v2.readAt (Elt Ideal) (kr u) x2) (v7.readAt (Elt Ideal) (qr off st inb pos u).toLoadRect f7) (v8.readAt (Elt Ideal) (qr off st inb pos u).toLoadRect f8)))
      (v8.writes (Elt Ideal) f8 (pieces4 (qr off st inb pos) fun u => o8 (vld u) (v1.readAt (Elt Ideal) (qr off st inb pos u).toLoadRect x1) (v2.readAt (Elt Ideal) (kr u) x2) (v7.readAt (Elt Ideal) (qr off st inb pos u).toLoadRect f7) (v8.readAt (Elt Ideal) (qr off st inb pos u).toLoadRect f8)))
      (v9.writes (Elt Ideal) f9 (pieces4 (qr off st inb pos) fun u => o9 (vld u) (v1.readAt (Elt Ideal) (qr off st inb pos u).toLoadRect x1) (v2.readAt (Elt Ideal) (kr u) x2) (v7.readAt (Elt Ideal) (qr off st inb pos u).toLoadRect f7) (v8.readAt (Elt Ideal) (qr off st inb pos u).toLoadRect f8) (v9.readAt (Elt Ideal) (qr off st inb pos u).toLoadRect f9) (v10.readAt (Elt Ideal) (qr off st inb pos u).toLoadRect f10)))
      (v10.writes (Elt Ideal) f10 (pieces4 (qr off st inb pos) fun u => o10 (vld u) (v1.readAt (Elt Ideal) (qr off st inb pos u).toLoadRect x1) (v2.readAt (Elt Ideal) (kr u) x2) (v7.readAt (Elt Ideal) (qr off st inb pos u).toLoadRect f7) (v8.readAt (Elt Ideal) (qr off st inb pos u).toLoadRect f8) (v9.readAt (Elt Ideal) (qr off st inb pos u).toLoadRect f9) (v10.readAt (Elt Ideal) (qr off st inb pos u).toLoadRect f10)))
      (v11.writes (Elt Ideal) f11 (pieces4 (qr off st inb pos) fun u => o11 (vld u) (v1.readAt (Elt Ideal) (qr off st inb pos u).toLoadRect x1) (v2.readAt (Elt Ideal) (kr u) x2) (v3.readAt (Elt Ideal) (kr u) x3) (v7.readAt (Elt Ideal) (qr off st inb pos u).toLoadRect f7) (v8.readAt (Elt Ideal) (qr off st inb pos u).toLoadRect f8) (v11.readAt (Elt Ideal) (qr off st inb pos u).toLoadRect f11))) ds' t := by
  intro kr t ds' h
  have hemb : ∀ u a e, (qr off st inb pos u).emb (ix2 a e) = ix2 (ρ u a) e := fun u a e => by
    refine Rect.emb_eq_of_coords _ _ _ (Fin.forall_fin_two.2 ⟨?_, ?_⟩)
    · show (ρ u a).val = off u 0 + st 0 * a.val
      rw [hst]; exact (hoff u a).2
    · show e.val = off u 1 + st 1 * e.val
      rw [(hoff u a).1, hst]; simp
  have hkemb : ∀ u i e, ∃ t' : Fin 4096, t'.val = kb u + i.val * d ∧ (kr u).idx (ix2 i e) = ix2 t' e := fun u i e => by
    refine ⟨(kr u).idx (ix2 i e) 0, ?_, ?_⟩
    · show koff u 0 + st 0 * i.val = _
      rw [hkoff, hst, Nat.mul_comm i.val]; rfl
    · refine funext (Fin.forall_fin_two.2 ⟨rfl, Fin.ext ?_⟩)
      show koff u 1 + st 1 * e.val = e.val
      rw [hkoff, hst]; simp
  have hmem : ∀ u y, y ∈ (qr off st inb pos u).set → ∃ b e, y = ix2 (ρ u b) e := fun u y hm => by
    obtain ⟨x, hx⟩ := LoadRect.exists_idx_of_mem _ hm
    exact ⟨x 0, x 1, hx.symm.trans ((congrArg (qr off st inb pos u).emb (eq_ix2 x)).trans (hemb u _ _))⟩
  have hdis' : ∀ u u' x, u ≠ u' → (qr off st inb pos u).emb x ∉ (qr off st inb pos u').set := fun u u' x hne hm => by
    obtain ⟨b, e, hb⟩ := hmem u' _ hm
    have hx : (qr off st inb pos u).emb x = ix2 (ρ u (x 0)) (x 1) := (congrArg (qr off st inb pos u).emb (eq_ix2 x)).trans (hemb u _ _)
    exact hne (hdis u u' (x 0) b (congrArg Fin.val (congrFun (hx.symm.trans hb) 0)))
  rcases h with ⟨⟨u, a, rfl⟩, rfl⟩ | ⟨hn, hr⟩
  · refine row4_hit q k v v7 v8 v9 v10 v11 f7 f8 f9 f10 f11 _ _ _ _ _ _ _ _ u (fun e => ix2 a e) hdis' (hemb u a) ?_
    refine block_ok q k v ds d (ρ u a).val (kb u) (a' u a) _ _ _ _ _ _ _ _ _ a ?_ ?_ ?_ (hvld u a) (ha u a) (hd' u a) (ht u a) ?_
    · intro e
      exact (congrArg (v1.read (Elt Ideal) x1) (hemb u a e)).trans (hq _ _)
    · intro i e
      obtain ⟨t', h1, h2⟩ := hkemb u i e
      rw [← h1]
      exact (congrArg (v2.read (Elt Ideal) x2) h2).trans (hk _ _)
    · intro i e
      obtain ⟨t', h1, h2⟩ := hkemb u i e
      rw [← h1]
      exact (congrArg (v3.read (Elt Ideal) x3) h2).trans (hv _ _)
    · have := hrow u a
      unfold Row at this
      simp only [← hemb u a] at this
      exact this
  · have hy : ∀ e u, (ix2 t e : S4096x128.Idx) ∉ (qr off st inb pos u).set := fun e u hm => by
      obtain ⟨b, e', hb⟩ := hmem u _ hm
      exact hn ⟨u, b, congrFun hb 0⟩
    exact row4_miss q k v v7 v8 v9 v10 v11 f7 f8 f9 f10 f11 _ _ _ _ _ _ _ _ hy hr

/-- Two first blocks of dilation `d`. -/
theorem step2 (d : ℕ) (off : Fin 2 → Fin 2 → ℕ) (st : Fin 2 → ℕ) (inb : ∀ u, ∀ a, S256x128.size a = 0 ∨ off u a + st a * (S256x128.size a - 1) < S4096x128.size a)
    (pos : ∀ a, 0 < st a) (ρ : Fin 2 → Fin 256 → Fin 4096) (kb : Fin 2 → ℕ) (hst : st = ![d, 1])
    (hoff : ∀ u, off u = ![kb u, 0]) (hρ : ∀ u a, (ρ u a).val = kb u + a.val * d)
    (hdis : ∀ u u' a b, (ρ u a).val = (ρ u' b).val → u = u') (hd' : ∀ u, kb u < d) :
    ∀ t ds', ((∃ u a, t = ρ u a) ∧ ds' = [d]) ∨ ((¬ ∃ u a, t = ρ u a) ∧ Row q k v v7 v8 v9 v10 v11 f7 f8 f9 f10 f11 ds' t) →
    Row q k v v7 v8 v9 v10 v11
            (v7.writes (Elt Ideal) f7 (pieces2 (qr1 off st inb pos) fun u => i7 k0_pay19 (v1.readAt (Elt Ideal) (qr1 off st inb pos u).toLoadRect x1) (v2.readAt (Elt Ideal) (qr1 off st inb pos u).toLoadRect x2)))
      (v8.writes (Elt Ideal) f8 (pieces2 (qr1 off st inb pos) fun u => i8 k0_pay19 (v1.readAt (Elt Ideal) (qr1 off st inb pos u).toLoadRect x1) (v2.readAt (Elt Ideal) (qr1 off st inb pos u).toLoadRect x2)))
      (v9.writes (Elt Ideal) f9 (pieces2 (qr1 off st inb pos) fun u => i9 k0_pay19 (v1.readAt (Elt Ideal) (qr1 off st inb pos u).toLoadRect x1) (v2.readAt (Elt Ideal) (qr1 off st inb pos u).toLoadRect x2)))
      (v10.writes (Elt Ideal) f10 (pieces2 (qr1 off st inb pos) fun u => i10 k0_pay19 (v1.readAt (Elt Ideal) (qr1 off st inb pos u).toLoadRect x1) (v2.readAt (Elt Ideal) (qr1 off st inb pos u).toLoadRect x2)))
      (v11.writes (Elt Ideal) f11 (pieces2 (qr1 off st inb pos) fun u => i11 k0_pay19 (v1.readAt (Elt Ideal) (qr1 off st inb pos u).toLoadRect x1) (v2.readAt (Elt Ideal) (qr1 off st inb pos u).toLoadRect x2) (v3.readAt (Elt Ideal) (qr1 off st inb pos u).toLoadRect x3))) ds' t := by
  intro t ds' h
  have hemb : ∀ u a e, (qr1 off st inb pos u).emb (ix2 a e) = ix2 (ρ u a) e := fun u a e => by
    refine Rect.emb_eq_of_coords _ _ _ (Fin.forall_fin_two.2 ⟨?_, ?_⟩)
    · show (ρ u a).val = off u 0 + st 0 * a.val
      rw [hst, hρ, hoff, Nat.mul_comm a.val]; rfl
    · show e.val = off u 1 + st 1 * e.val
      rw [hoff, hst]; simp
  have hmem : ∀ u y, y ∈ (qr1 off st inb pos u).set → ∃ b e, y = ix2 (ρ u b) e := fun u y hm => by
    obtain ⟨x, hx⟩ := LoadRect.exists_idx_of_mem _ hm
    exact ⟨x 0, x 1, hx.symm.trans ((congrArg (qr1 off st inb pos u).emb (eq_ix2 x)).trans (hemb u _ _))⟩
  have hdis' : ∀ u u' x, u ≠ u' → (qr1 off st inb pos u).emb x ∉ (qr1 off st inb pos u').set := fun u u' x hne hm => by
    obtain ⟨b, e, hb⟩ := hmem u' _ hm
    have hx : (qr1 off st inb pos u).emb x = ix2 (ρ u (x 0)) (x 1) := (congrArg (qr1 off st inb pos u).emb (eq_ix2 x)).trans (hemb u _ _)
    exact hne (hdis u u' (x 0) b (congrArg Fin.val (congrFun (hx.symm.trans hb) 0)))
  rcases h with ⟨⟨u, a, rfl⟩, rfl⟩ | ⟨hn, hr⟩
  · refine row2_hit q k v v7 v8 v9 v10 v11 f7 f8 f9 f10 f11 _ _ _ _ _ _ _ _ u (fun e => ix2 a e) hdis' (hemb u a) ?_
    refine first_ok q k v d (ρ u a).val (kb u) _ _ _ a ?_ ?_ ?_ (hd' u) (hρ u a)
    · intro e
      exact (congrArg (v1.read (Elt Ideal) x1) (hemb u a e)).trans (hq _ _)
    · intro i e
      rw [← hρ]
      exact (congrArg (v2.read (Elt Ideal) x2) (hemb u i e)).trans (hk _ _)
    · intro i e
      rw [← hρ]
      exact (congrArg (v3.read (Elt Ideal) x3) (hemb u i e)).trans (hv _ _)
  · have hy : ∀ e u, (ix2 t e : S4096x128.Idx) ∉ (qr1 off st inb pos u).set := fun e u hm => by
      obtain ⟨b, e', hb⟩ := hmem u _ hm
      exact hn ⟨u, b, congrFun hb 0⟩
    exact row2_miss q k v v7 v8 v9 v10 v11 f7 f8 f9 f10 f11 _ _ _ _ _ _ _ _ hy hr

end step

end Step.Att
-- ==== Proof.AttnState.lean ====
/- The rows of the five arrays through the loops of dilation 16, 4 and 1. -/
module

public import proofs.«01_k».proof.Proof.AttnTrip
public import proofs.«01_k».proof.Proof.AttnRows

@[expose] public section

set_option maxRecDepth 4096

noncomputable section

namespace Step.Att

open Idealize.ShloMosaic Idealize.ShloMosaic.TcCoe Step Cert.AttnIdeal Cert.AttnIdeal.Gen Cert.AttnIdeal.Hand

theorem off1_closed : ∀ n : Fin k0_t1_loop.trips, ∀ u : Fin 2, k0_off1 n (BitVec.ofNat 32 u.val) = ![2 * n.val + u.val, 0] := by decide +kernel
theorem off3_closed : ∀ n : Fin k0_t2_loop.trips, ∀ u : Fin 4, k0_off3 n (BitVec.ofNat 32 u.val) = ![u.val + 512 * (n.val - 1), 0] := by decide +kernel
theorem off4_closed : ∀ n : Fin k0_t3_loop.trips, ∀ u : Fin 4, k0_off4 n (BitVec.ofNat 32 (8 * u.val)) = ![128 * n.val + 1024 * u.val, 0] := by decide +kernel
theorem off5_closed : ∀ n : Fin k0_t3_loop.trips, ∀ u : Fin 4, k0_off5 n (BitVec.ofNat 32 (8 * u.val)) = ![128 * (n.val + 8 * u.val - 1), 0] := by decide +kernel
theorem trips1 : k0_t1_loop.trips = 8 := by decide +kernel
theorem lt1 (n : Fin k0_t1_loop.trips) : n.val < 8 := trips1 ▸ n.isLt
theorem trips2 : k0_t2_loop.trips = 8 := by decide +kernel
theorem lt2 (n : Fin k0_t2_loop.trips) : n.val < 8 := trips2 ▸ n.isLt
theorem trips3 : k0_t3_loop.trips = 8 := by decide +kernel
theorem lt3 (n : Fin k0_t3_loop.trips) : n.val < 8 := trips3 ▸ n.isLt

/-- The distance of query row `a` of a block from its first key: a whole block follows the first. -/
def far (b : Bool) (a : Fin 128) : ℕ := if b then a.val else a.val + 128

theorem far_word : ∀ (b : Bool) (n : Fin 384),
    IntOp.andi (IntOp.cmpi CmpIPredicate.sle (BitVec.ofInt 32 ((n.val : ℤ) - 127)) (if b then 0#32 else 128#32))
      (IntOp.cmpi CmpIPredicate.sge (BitVec.ofInt 32 ((n.val : ℤ) - 127)) (if b then IntOp.subi 0#32 128#32 else IntOp.subi 128#32 128#32))
    = if (if b then n.val ≤ 127 else 127 ≤ n.val ∧ n.val ≤ 255) then 1#1 else 0#1 := by
  decide +kernel

theorem far_near (b : Bool) (a : Fin 128) (i : Fin 256) :
    IntOp.andi (IntOp.cmpi CmpIPredicate.sle (IntOp.subi (BitVec.ofNat 32 i.val) (BitVec.ofNat 32 a.val)) (if b then 0#32 else 128#32))
      (IntOp.cmpi CmpIPredicate.sge (IntOp.subi (BitVec.ofNat 32 i.val) (BitVec.ofNat 32 a.val)) (if b then IntOp.subi 0#32 128#32 else IntOp.subi 128#32 128#32))
    = if i.val ≤ far b a ∧ far b a ≤ i.val + 128 then 1#1 else 0#1 := by
  have h := far_word b ⟨i.val + 127 - a.val, by omega⟩
  have e : (((i.val + 127 - a.val : ℕ) : ℤ) - 127) = (i.val : ℤ) - a.val := by omega
  simp only [e] at h
  rw [sub_word, h]
  refine if_congr ?_ rfl rfl
  cases b <;> simp only [far, if_true, Bool.false_eq_true, if_false] <;> constructor <;> intro h <;> omega

theorem mask2 (n : Fin k0_t2_loop.trips) (a : Fin 128) (i : Fin 256) :
    trip2.sl.v51 n (ix2 a i) = if i.val ≤ far (n.val == 0) a ∧ far (n.val == 0) a ≤ i.val + 128 then 1#1 else 0#1 := by
  rw [← far_near]
  have h : ∀ n : Fin k0_t2_loop.trips, trip2.sl.v45 n = if (n.val == 0) then 0#32 else 128#32 := by decide +kernel
  have h' : ∀ n : Fin k0_t2_loop.trips, trip2.sl.v48 n = if (n.val == 0) then IntOp.subi 0#32 128#32 else IntOp.subi 128#32 128#32 := by decide +kernel
  rw [← h, ← h']
  pointwise [trip2.sl.v51, trip2.sl.v50, trip2.sl.v49, trip2.sl.v47, trip2.sl.v46, trip2.sl.v42, trip2.sl.v41]

theorem mask3 (n : Fin k0_t3_loop.trips) (u : Fin 4) (a : Fin 128) (i : Fin 256) :
    v3 n u (ix2 a i) = if i.val ≤ far (n.val + 8 * u.val == 0) a ∧ far (n.val + 8 * u.val == 0) a ≤ i.val + 128 then 1#1 else 0#1 := by
  rw [← far_near]
  have h : ∀ n : Fin k0_t3_loop.trips, trip_k0_t3.sl.v15 n = if (n.val == 0) then 0#32 else 128#32 := by decide +kernel
  have h' : ∀ n : Fin k0_t3_loop.trips, trip_k0_t3.sl.v18 n = if (n.val == 0) then IntOp.subi 0#32 128#32 else IntOp.subi 128#32 128#32 := by decide +kernel
  by_cases hu : u = 0
  · subst hu
    show trip_k0_t3.sl.v21 n (ix2 a i) = _
    simp only [Fin.val_zero, Nat.mul_zero, Nat.add_zero]
    rw [← h, ← h']
    pointwise [trip_k0_t3.sl.v21, trip_k0_t3.sl.v20, trip_k0_t3.sl.v19, trip_k0_t3.sl.v17, trip_k0_t3.sl.v16, trip_k0_t3.sl.v12, trip_k0_t3.sl.v11]
  · have h0 : (n.val + 8 * u.val == 0) = false := by
      have : u.val ≠ 0 := fun h => hu (Fin.ext h)
      simp; omega
    rw [h0, v3, if_neg hu]
    pointwise [trip_k0_t3.sl.v35, trip_k0_t3.sl.v38, trip_k0_t3.sl.v34, trip_k0_t3.sl.v37, trip_k0_t3.sl.v12, trip_k0_t3.sl.v11]
    rfl

/-- The rows a trip writes. -/
def ρ1 (n : Fin k0_t1_loop.trips) (u : Fin 2) (a : Fin 256) : Fin 4096 := ⟨2 * n.val + u.val + a.val * 16, by have := lt1 n; omega⟩
def ρ2 (n : Fin k0_t2_loop.trips) (u : Fin 4) (a : Fin 128) : Fin 4096 := ⟨512 * n.val + u.val + 4 * a.val, by have := lt2 n; omega⟩
def ρ3 (n : Fin k0_t3_loop.trips) (u : Fin 4) (a : Fin 128) : Fin 4096 := ⟨128 * n.val + 1024 * u.val + a.val, by have := lt3 n; omega⟩

variable (𝒱 : Variants) (c : Dev nD) (bd : Option 𝒱.V) (i : grid0.Coords)
  (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole)
  (x1 : BufTy.Contents (Elt Ideal) arg1.view.ty) (x2 : BufTy.Contents (Elt Ideal) arg2.view.ty) (x3 : BufTy.Contents (Elt Ideal) arg3.view.ty)

variable (q key v : ℕ → Fin 128 → EReal) (hq : ∀ t e, arg1.view.read (Elt Ideal) x1 (ix2 t e) = q t.val e)
  (hk : ∀ t e, arg2.view.read (Elt Ideal) x2 (ix2 t e) = key t.val e) (hv : ∀ t e, arg3.view.read (Elt Ideal) x3 (ix2 t e) = v t.val e)

/-- A row of a state of the five arrays. -/
abbrev RowS (s : St (F := Ideal) arg7 arg8 arg9 arg10 arg11) (ds : List ℕ) (t : Fin 4096) : Prop :=
  Row q key v arg7.view arg8.view arg9.view arg10.view arg11.view s.1 s.2.1 s.2.2.1 s.2.2.2.1 s.2.2.2.2 ds t

include hq hk hv

theorem trip1_row (n : Fin k0_t1_loop.trips) (s : St (F := Ideal) arg7 arg8 arg9 arg10 arg11) (t : Fin 4096) (ds' : List ℕ)
    (h : ((∃ u a, t = ρ1 n u a) ∧ ds' = [16]) ∨ ((¬ ∃ u a, t = ρ1 n u a) ∧ RowS arg7 arg8 arg9 arg10 arg11 q key v s ds' t)) :
    RowS arg7 arg8 arg9 arg10 arg11 q key v (RunOf.next 𝒱 c bd arg1 arg2 arg3 arg7 arg8 arg9 arg10 arg11 (trip1 (F := Ideal) 𝒱 c bd i arg1 harg1 arg2 harg2 arg3 harg3 arg4 harg4 arg5 harg5 arg6 harg6 arg7 harg7 arg8 harg8 arg9 harg9 arg10 harg10 arg11 harg11 x1 x2 x3 n) s) ds' t := by
  unfold RunOf.next
  rw [trip1_7, trip1_8, trip1_9, trip1_10, trip1_11]
  dsimp only [RowS]
  refine step2 arg1.view arg2.view arg3.view arg7.view arg8.view arg9.view arg10.view arg11.view x1 x2 x3 s.1 s.2.1 s.2.2.1 s.2.2.2.1 s.2.2.2.2 q key v hq hk hv 16 (fun u => k0_off1 n (BitVec.ofNat 32 u.val)) ![16, 1] (k0_off1_inb n) spos_16_1
    (ρ1 n) (fun u => 2 * n.val + u.val) rfl (off1_closed n) (fun u a => rfl) ?_ ?_ t ds' h
  · intro u u' a b h
    simp only [ρ1] at h
    exact Fin.ext (by omega)
  · intro u
    have := lt1 n
    show 2 * n.val + u.val < 16
    omega

theorem trip2_row (n : Fin k0_t2_loop.trips) (s : St (F := Ideal) arg7 arg8 arg9 arg10 arg11) (ds : List ℕ)
    (hrow : ∀ u a, RowS arg7 arg8 arg9 arg10 arg11 q key v s ds (ρ2 n u a)) (t : Fin 4096) (ds' : List ℕ)
    (h : ((∃ u a, t = ρ2 n u a) ∧ ds' = 4 :: ds) ∨ ((¬ ∃ u a, t = ρ2 n u a) ∧ RowS arg7 arg8 arg9 arg10 arg11 q key v s ds' t)) :
    RowS arg7 arg8 arg9 arg10 arg11 q key v (RunOf.next 𝒱 c bd arg1 arg2 arg3 arg7 arg8 arg9 arg10 arg11 (trip2 (F := Ideal) 𝒱 c bd i arg1 harg1 arg2 harg2 arg3 harg3 arg4 harg4 arg5 harg5 arg6 harg6 arg7 harg7 arg8 harg8 arg9 harg9 arg10 harg10 arg11 harg11 x1 x2 x3 n) s) ds' t := by
  unfold RunOf.next
  rw [trip2_7, trip2_8, trip2_9, trip2_10, trip2_11]
  dsimp only [RowS]
  refine step4 arg1.view arg2.view arg3.view arg7.view arg8.view arg9.view arg10.view arg11.view x1 x2 x3 s.1 s.2.1 s.2.2.1 s.2.2.2.1 s.2.2.2.2 q key v hq hk hv ds 4 (fun u => k0_off2 n (BitVec.ofNat 32 u.val)) ![4, 1] (k0_off2_inb n) spos_4_1
    (fun u => k0_off3 n (BitVec.ofNat 32 u.val)) (k0_off3_inb n) (fun _ => trip2.sl.v51 n)
    (ρ2 n) (fun u => u.val + 512 * (n.val - 1)) (fun _ a => far (n.val == 0) a) rfl ?_ (off3_closed n) ?_ (fun u a i => mask2 n a i) ?_ ?_ ?_ hrow t ds' h
  · intro u a
    simp only [off2_closed n u]
    exact ⟨rfl, rfl⟩
  · intro u u' a b h
    simp only [ρ2] at h
    exact Fin.ext (by omega)
  · intro u a
    unfold far; split <;> omega
  · intro u a
    unfold far
    split
    · next h => simp only [beq_iff_eq] at h; left; omega
    · right; omega
  · intro u a
    unfold far ρ2
    split
    · next h => simp only [beq_iff_eq] at h; simp only [h]; omega
    · next h => simp only [beq_iff_eq] at h; simp only []; omega

theorem trip3_row (n : Fin k0_t3_loop.trips) (s : St (F := Ideal) arg7 arg8 arg9 arg10 arg11) (ds : List ℕ)
    (hrow : ∀ u a, RowS arg7 arg8 arg9 arg10 arg11 q key v s ds (ρ3 n u a)) (t : Fin 4096) (ds' : List ℕ)
    (h : ((∃ u a, t = ρ3 n u a) ∧ ds' = 1 :: ds) ∨ ((¬ ∃ u a, t = ρ3 n u a) ∧ RowS arg7 arg8 arg9 arg10 arg11 q key v s ds' t)) :
    Row q key v arg7.view arg8.view arg9.view arg10.view arg11.view
      (arg7.view.writes (Elt Ideal) s.1 ((trip_k0_t3 (F := Ideal) 𝒱 c bd i arg1 harg1 arg2 harg2 arg3 harg3 arg4 harg4 arg5 harg5 arg6 harg6 arg7 harg7 arg8 harg8 arg9 harg9 arg10 harg10 arg11 harg11 x1 x2 x3 n).1 s.1 s.2.1 s.2.2.1 s.2.2.2.1 s.2.2.2.2))
      (arg8.view.writes (Elt Ideal) s.2.1 ((trip_k0_t3 (F := Ideal) 𝒱 c bd i arg1 harg1 arg2 harg2 arg3 harg3 arg4 harg4 arg5 harg5 arg6 harg6 arg7 harg7 arg8 harg8 arg9 harg9 arg10 harg10 arg11 harg11 x1 x2 x3 n).2.1 s.1 s.2.1 s.2.2.1 s.2.2.2.1 s.2.2.2.2))
      (arg9.view.writes (Elt Ideal) s.2.2.1 ((trip_k0_t3 (F := Ideal) 𝒱 c bd i arg1 harg1 arg2 harg2 arg3 harg3 arg4 harg4 arg5 harg5 arg6 harg6 arg7 harg7 arg8 harg8 arg9 harg9 arg10 harg10 arg11 harg11 x1 x2 x3 n).2.2.1 s.1 s.2.1 s.2.2.1 s.2.2.2.1 s.2.2.2.2))
      (arg10.view.writes (Elt Ideal) s.2.2.2.1 ((trip_k0_t3 (F := Ideal) 𝒱 c bd i arg1 harg1 arg2 harg2 arg3 harg3 arg4 harg4 arg5 harg5 arg6 harg6 arg7 harg7 arg8 harg8 arg9 harg9 arg10 harg10 arg11 harg11 x1 x2 x3 n).2.2.2.1 s.1 s.2.1 s.2.2.1 s.2.2.2.1 s.2.2.2.2))
      (arg11.view.writes (Elt Ideal) s.2.2.2.2 ((trip_k0_t3 (F := Ideal) 𝒱 c bd i arg1 harg1 arg2 harg2 arg3 harg3 arg4 harg4 arg5 harg5 arg6 harg6 arg7 harg7 arg8 harg8 arg9 harg9 arg10 harg10 arg11 harg11 x1 x2 x3 n).2.2.2.2.1 s.1 s.2.1 s.2.2.1 s.2.2.2.1 s.2.2.2.2)) ds' t := by
  rw [trip3_7, trip3_8, trip3_9, trip3_10, trip3_11]
  refine step4 arg1.view arg2.view arg3.view arg7.view arg8.view arg9.view arg10.view arg11.view x1 x2 x3 s.1 s.2.1 s.2.2.1 s.2.2.2.1 s.2.2.2.2 q key v hq hk hv ds 1 (fun u => k0_off4 n (BitVec.ofNat 32 (8 * u.val))) (fun _ => 1) (fun u => (q3 n u).toLoadRect.inb) (fun _ => Nat.one_pos)
    (fun u => k0_off5 n (BitVec.ofNat 32 (8 * u.val))) (fun u => (k3 n u).toLoadRect.inb) (v3 n)
    (ρ3 n) (fun u => 128 * (n.val + 8 * u.val - 1)) (fun u a => far (n.val + 8 * u.val == 0) a) ?_ ?_ (off5_closed n) ?_ (mask3 n) ?_ ?_ ?_ hrow t ds' h
  · exact funext (Fin.forall_fin_two.2 ⟨rfl, rfl⟩)
  · intro u a
    simp only [off4_closed n u]
    exact ⟨rfl, by simp [ρ3]⟩
  · intro u u' a b h
    have := lt3 n
    simp only [ρ3] at h
    exact Fin.ext (by omega)
  · intro u a
    unfold far; split <;> omega
  · intro u a
    unfold far
    split
    · next h => simp only [beq_iff_eq] at h; left; omega
    · right; omega
  · intro u a
    unfold far ρ3
    split
    · next h => simp only [beq_iff_eq] at h; simp only []; omega
    · next h => simp only [beq_iff_eq] at h; simp only []; omega

end Step.Att
-- ==== Proof.AttnRun.lean ====
/-
  The attention kernel's body run once over the invariants of its loops, the proof data that hold each
  output window to the values the body leaves there, and the launch: every run of the program ends, with
  its argument arrays as they were and its three results written block by block with those values.
-/
module

public import proofs.«01_k».proof.Proof.AttnLoops
public import Idealize.ShloMosaic.Lib.Pipeline.Frame
public import Idealize.ShloMosaic.Lib.Pipeline.DatRel

@[expose] public section

set_option maxRecDepth 16384
set_option maxHeartbeats 4000000

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window RDat BodyObligationRel)

variable {F : FTy → Type} [FloatOps F] [Named F]

/-- The resource algebra of the runs. -/
local notation "𝕄" => MT nD τ sig Unit (Elt F) ℕ (UR sig nD τ) ℕ

/-- The pieces the body writes into its three output windows, with its triple: the input windows are at
    `x1`, `x2`, `x3` and the scratch arrays at `g7` … `g11` when it starts. -/
def kernelRun (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole)
    (x1 : BufTy.Contents (Elt F) arg1.view.ty) (x2 : BufTy.Contents (Elt F) arg2.view.ty) (x3 : BufTy.Contents (Elt F) arg3.view.ty) (g7 : BufTy.Contents (Elt F) arg7.view.ty) (g8 : BufTy.Contents (Elt F) arg8.view.ty) (g9 : BufTy.Contents (Elt F) arg9.view.ty) (g10 : BufTy.Contents (Elt F) arg10.view.ty) (g11 : BufTy.Contents (Elt F) arg11.view.ty) :
    Σ' (L4 : List (View.Piece (Elt F) S4096x128 .f32)) (L5 : List (View.Piece (Elt F) S4096x128 .f32)), { L6 : List (View.Piece (Elt F) S4096x128 .f32) // ∀ (E : Set ℕ) (f4 : BufTy.Contents (Elt F) arg4.view.ty) (f5 : BufTy.Contents (Elt F) arg5.view.ty) (f6 : BufTy.Contents (Elt F) arg6.view.ty) (K : PUnit → sProp 𝕄),
      iprop((arg1.view.loc (c : Thread nD τ) ↦[arg1.view.set]{fullShare} x1) ∗ (arg2.view.loc (c : Thread nD τ) ↦[arg2.view.set]{fullShare} x2) ∗ (arg3.view.loc (c : Thread nD τ) ↦[arg3.view.set]{fullShare} x3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6)
          ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11)
          ∗ (iprop((arg1.view.loc (c : Thread nD τ) ↦[arg1.view.set]{fullShare} x1) ∗ (arg2.view.loc (c : Thread nD τ) ↦[arg2.view.set]{fullShare} x2) ∗ (arg3.view.loc (c : Thread nD τ) ↦[arg3.view.set]{fullShare} x3)
                ∗ (arg4.view.loc (c : Thread nD τ) ↦[arg4.view.set]{fullShare} (arg4.view.writes (Elt F) f4 L4)) ∗ (arg5.view.loc (c : Thread nD τ) ↦[arg5.view.set]{fullShare} (arg5.view.writes (Elt F) f5 L5)) ∗ (arg6.view.loc (c : Thread nD τ) ↦[arg6.view.set]{fullShare} (arg6.view.writes (Elt F) f6 L6))
                ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f))) -∗ K ⟨⟩))
        ⊢ wp frame (wpE (defs₀ (F := F)) Variants.none (c : Thread nD τ) none) E (cc0_attn_fwd (F := F) i arg1 harg1 arg2 harg2 arg3 harg3 arg4 harg4 arg5 harg5 arg6 harg6 arg7 harg7 arg8 harg8 arg9 harg9 arg10 harg10 arg11 harg11) K } := by
  refine ⟨?_, ?_, ?_, fun E f4 f5 f6 K => ?run⟩
  case run =>
    simp only [cc0_attn_fwd_eq_skeleton]; unfold cc0_attn_fwd_skel
    iintro ⟨H1, H2, H3, H4, H5, H6, H7, H8, H9, H10, H11, Hk⟩
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    iexists _; iexact H11

variable (m : (ℓ : Loc nD τ sig) → Buf (Elt F) ℓ) (ρ : Dev nD → PrngReg)

/-- The scratch arrays, whole. -/
abbrev sc0 : Memref sig .tc .vmem S4096x128 .f32 := Memref.whole cc0_scratch0
abbrev sc1 : Memref sig .tc .vmem S4096x128 .f32 := Memref.whole cc0_scratch1
abbrev sc2 : Memref sig .tc .vmem S4096x128 .f32 := Memref.whole cc0_scratch2
abbrev sc3 : Memref sig .tc .vmem S4096x128 .f32 := Memref.whole cc0_scratch3
abbrev sc4 : Memref sig .tc .vmem S4096x128 .f32 := Memref.whole cc0_scratch4

/-- Window `w`'s staging memref at point `t`. -/
abbrev sg0 (t : Fin cfg0.N) : Memref sig .tc .vmem S4096x128 .f32 := win0_0.stage (cfg0.slots t 0)
abbrev sg1 (t : Fin cfg0.N) : Memref sig .tc .vmem S4096x128 .f32 := win0_1.stage (cfg0.slots t 1)
abbrev sg2 (t : Fin cfg0.N) : Memref sig .tc .vmem S4096x128 .f32 := win0_2.stage (cfg0.slots t 2)
abbrev sg3 (t : Fin cfg0.N) : Memref sig .tc .vmem S4096x128 .f32 := win0_3.stage (cfg0.slots t 3)
abbrev sg4 (t : Fin cfg0.N) : Memref sig .tc .vmem S4096x128 .f32 := win0_4.stage (cfg0.slots t 4)
abbrev sg5 (t : Fin cfg0.N) : Memref sig .tc .vmem S4096x128 .f32 := win0_5.stage (cfg0.slots t 5)

/-- The body's run at point `t`: the staging memrefs the pipeline hands it, the input windows at their
    blocks, the scratch arrays at `g7` … `g11`. -/
abbrev runAt (c : Dev nD) (t : Fin cfg0.N) (g7 : (sc0).view.ty.Contents (Elt F)) (g8 : (sc1).view.ty.Contents (Elt F))
    (g9 : (sc2).view.ty.Contents (Elt F)) (g10 : (sc3).view.ty.Contents (Elt F)) (g11 : (sc4).view.ty.Contents (Elt F)) :=
  kernelRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4)
    ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) g7 g8 g9 g10 g11

/-- What the body may leave in the output windows at point `t`: its pieces written over anything, from
    scratch arrays that held anything. -/
def Left3 (c : Dev nD) (t : Fin cfg0.N) (X : Vec F S4096x128 .f32) : Prop :=
  ∃ f g7 g8 g9 g10 g11, X = (sg3 t).view.read (Elt F) ((sg3 t).view.writes (Elt F) f (runAt m c t g7 g8 g9 g10 g11).1)
def Left4 (c : Dev nD) (t : Fin cfg0.N) (X : Vec F S4096x128 .f32) : Prop :=
  ∃ f g7 g8 g9 g10 g11, X = (sg4 t).view.read (Elt F) ((sg4 t).view.writes (Elt F) f (runAt m c t g7 g8 g9 g10 g11).2.1)
def Left5 (c : Dev nD) (t : Fin cfg0.N) (X : Vec F S4096x128 .f32) : Prop :=
  ∃ f g7 g8 g9 g10 g11, X = (sg5 t).view.read (Elt F) ((sg5 t).view.writes (Elt F) f (runAt m c t g7 g8 g9 g10 g11).2.2.1)

/-- The output windows, held to a predicate. -/
def marked : Fin 6 → Bool
  | 3 => true
  | 4 => true
  | 5 => true
  | _ => false

/-- The predicate of each output window. -/
def held (c : Dev nD) : (w : Fin cfg0.W) → Fin cfg0.N → ((cfg0.win w).block.Idx → Elt F (cfg0.win w).elt) → Prop
  | 3 => fun t X => Left3 m c t X
  | 4 => fun t X => Left4 m c t X
  | 5 => fun t X => Left5 m c t X
  | _ => fun _ _ => True

/-- The proof data: each array as the region finds it, each input window left at its block, the scratch
    at anything between the points, the inputs' shares of the one array they read. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => Pipeline.Dat.unnamed (cfg := cfg0) 3 t
    | 4 => Pipeline.Dat.unnamed (cfg := cfg0) 4 t
    | 5 => Pipeline.Dat.unnamed (cfg := cfg0) 5 t
  Φ _ := Pipeline.ΦA spec0 c
  q w := Pipeline.shareOf spec0 w
  owed _ := 0

/-- The same read as relational data, the output windows held to `held`. -/
abbrev rdats (c : Dev nD) : RDat τ (Elt F) Unit ℕ (UR sig nD τ) ℕ cfg0 c := (dats m 0 c).toRRel marked (held m c)

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]

/-- What the launch hands the region, scratch array by scratch array. -/
theorem PhiA_eq (c : Dev nD) :
    (Pipeline.ΦA spec0 c : sProp 𝕄)
      = iprop(((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ ∃ r, prngReg c r) := by
  unfold Pipeline.ΦA; rw [scopedRest0_eq]; simp only [owns_whole]; try rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (sg0 t) fullShare ((dats m 0 c).before 0 t d)) ∗ (∃ d, owns (c : Thread nD τ) (sg1 t) fullShare ((dats m 0 c).before 1 t d)) ∗ (∃ d, owns (c : Thread nD τ) (sg2 t) fullShare ((dats m 0 c).before 2 t d))
    ∗ (∃ Y, ⌜(rdats m c).Finds 3 t Y⌝ ∗ owns (c : Thread nD τ) (sg3 t) fullShare Y) ∗ (∃ Y, ⌜(rdats m c).Finds 4 t Y⌝ ∗ owns (c : Thread nD τ) (sg4 t) fullShare Y) ∗ (∃ Y, ⌜(rdats m c).Finds 5 t Y⌝ ∗ owns (c : Thread nD τ) (sg5 t) fullShare Y))
def bodyPost (c : Dev nD) (t : Fin cfg0.N) : sProp 𝕄 :=
  iprop((dats m 0 c).Φ t.succ ∗ (dats m 0 c).owesAt () t.succ
    ∗ owns (c : Thread nD τ) (sg0 t) fullShare ((dats m 0 c).after 0 t) ∗ owns (c : Thread nD τ) (sg1 t) fullShare ((dats m 0 c).after 1 t) ∗ owns (c : Thread nD τ) (sg2 t) fullShare ((dats m 0 c).after 2 t)
    ∗ (∃ X, ⌜Left3 m c t X⌝ ∗ owns (c : Thread nD τ) (sg3 t) fullShare X) ∗ (∃ X, ⌜Left4 m c t X⌝ ∗ owns (c : Thread nD τ) (sg4 t) fullShare X) ∗ (∃ X, ⌜Left5 m c t X⌝ ∗ owns (c : Thread nD τ) (sg5 t) fullShare X))

/-- The body at a point, by its run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq, after0, after1, after2]
  simp only [before0_0_of m (dats m 0 c) (A_eq m c 0) (after0 m c), before0_1_of m (dats m 0 c) (A_eq m c 1) (after1 m c),
    before0_2_of m (dats m 0 c) (A_eq m c 2) (after2 m c)]
  unfold owns
  iintro ⟨⟨⟨⟨%d7, %g7, -, H7⟩, ⟨%d8, %g8, -, H8⟩, ⟨%d9, %g9, -, H9⟩, ⟨%d10, %g10, -, H10⟩, ⟨%d11, %g11, -, H11⟩⟩, Hg⟩, Ho,
    ⟨%e1, %x1, %h1, H1⟩, ⟨%e2, %x2, %h2, H2⟩, ⟨%e3, %x3, %h3, H3⟩,
    ⟨%Y4, -, %f4, -, H4⟩, ⟨%Y5, -, %f5, -, H5⟩, ⟨%Y6, -, %f6, -, H6⟩⟩
  obtain rfl := (hstage0_0 ((cfg0.slots t 0).cast nbuf0_0)).eq_unread h1
  obtain rfl := (hstage0_1 ((cfg0.slots t 1).cast nbuf0_1)).eq_unread h2
  obtain rfl := (hstage0_2 ((cfg0.slots t 2).cast nbuf0_2)).eq_unread h3
  iapply ((runAt m c t g7 g8 g9 g10 g11).2.2.2 Set.univ f4 f5 f6 _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H1, H2, H3, H4, H5, H6, ⟨%k7, H7⟩, ⟨%k8, H8⟩, ⟨%k9, H9⟩, ⟨%k10, H10⟩, ⟨%k11, H11⟩⟩
  isplitl [H7 H8 H9 H10 H11 Hg]
  · isplitl [H7 H8 H9 H10 H11]
    · isplitl [H7]
      · iexists _, _; isplitr; swap; · iexact H7
        ipureintro; rfl
      isplitl [H8]
      · iexists _, _; isplitr; swap; · iexact H8
        ipureintro; rfl
      isplitl [H9]
      · iexists _, _; isplitr; swap; · iexact H9
        ipureintro; rfl
      isplitl [H10]
      · iexists _, _; isplitr; swap; · iexact H10
        ipureintro; rfl
      iexists _, _; isplitr; swap; · iexact H11
      ipureintro; rfl
    iexact Hg
  isplitl [Ho]; · iexact Ho
  isplitl [H1]
  · iexists _; isplitr; swap; · iexact H1
    ipureintro; exact (hstage0_0 _).read_unread _
  isplitl [H2]
  · iexists _; isplitr; swap; · iexact H2
    ipureintro; exact (hstage0_1 _).read_unread _
  isplitl [H3]
  · iexists _; isplitr; swap; · iexact H3
    ipureintro; exact (hstage0_2 _).read_unread _
  isplitl [H4]
  · iexists _; isplitr
    · ipureintro; exact ⟨f4, g7, g8, g9, g10, g11, rfl⟩
    iexists _; isplitr; swap; · iexact H4
    ipureintro; rfl
  isplitl [H5]
  · iexists _; isplitr
    · ipureintro; exact ⟨f5, g7, g8, g9, g10, g11, rfl⟩
    iexists _; isplitr; swap; · iexact H5
    ipureintro; rfl
  iexists _; isplitr
  · ipureintro; exact ⟨f6, g7, g8, g9, g10, g11, rfl⟩
  iexists _; isplitr; swap; · iexact H6
  ipureintro; rfl

/-- The body table's row at point `t` is the body at its slots. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligationRel (dats (F := F) m 0 c) (defs₀ (F := F)) Variants.none () Set.univ marked (held m c) := fun t => by
  rw [bigSep_W0, bigSep_W0, defs₀_row]
  exact triple_restated (sound_body m c t) rfl .rfl fun _ => .rfl

set_option backward.isDefEq.respectTransparency.types false in
/-- The launch. -/
theorem run_main :
    θ_run defs (onTc (τ := τ) (main (F := F))) (s₀ m ρ)
      (fun r => RDat.FramePost (cfgs 0) (rdats m) (V m) r ∧ r.2.sem = fun _ => 0) :=
  RDat.θ_run_frame_track_shared (Q' := _) cfgs (0 : Fin 1) launch₀0 defs₀ Variants.none (rdats m) m ρ main
    (hbody := fun c => (body_obligation m c).toRRel) (hq := fun _ _ _ => rfl)
    (howed := fun _ _ => rfl) (V := V m) (hmain := hmain m Variants.none) (hA := A_eq m)
    (hin := fun _ => .rfl) (hout := fun _ => .rfl)

/-- The arguments are as they were. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩,
    h.2⟩) (run_main m ρ)

end Cert.AttnIdeal.Hand
-- ==== Proof.AttnOut.lean ====
/- The rows of the five arrays after each loop, and what the last loop writes out of them. -/
module

public import proofs.«01_k».proof.Proof.AttnState
public import proofs.«01_k».proof.Proof.AttnRun

@[expose] public section

set_option maxRecDepth 4096

noncomputable section

namespace Step.Att

open Idealize.ShloMosaic Idealize.ShloMosaic.TcCoe Step Cert.AttnIdeal Cert.AttnIdeal.Gen Cert.AttnIdeal.Hand

theorem off6_closed : ∀ n : Fin k0_t4_loop.trips, k0_off6 n = ![256 * n.val, 0] := by decide +kernel
theorem trips4 : k0_t4_loop.trips = 16 := by decide +kernel
theorem lt4 (n : Fin k0_t4_loop.trips) : n.val < 16 := trips4 ▸ n.isLt

variable (𝒱 : Variants) (c : Dev nD) (bd : Option 𝒱.V) (i : grid0.Coords)
  (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole)
  (x1 : BufTy.Contents (Elt Ideal) arg1.view.ty) (x2 : BufTy.Contents (Elt Ideal) arg2.view.ty) (x3 : BufTy.Contents (Elt Ideal) arg3.view.ty)

section loops

variable (q key v : ℕ → Fin 128 → EReal) (hq : ∀ t e, arg1.view.read (Elt Ideal) x1 (ix2 t e) = q t.val e)
  (hk : ∀ t e, arg2.view.read (Elt Ideal) x2 (ix2 t e) = key t.val e) (hv : ∀ t e, arg3.view.read (Elt Ideal) x3 (ix2 t e) = v t.val e)

include hq hk hv

/-- After `n` trips of the first loop the rows they wrote hold the window of dilation 16. -/
theorem loop1 (G : St (F := Ideal) arg7 arg8 arg9 arg10 arg11) (n : ℕ) (hn : n ≤ 8) (t : Fin 4096) (ht : t.val % 16 / 2 < n) :
    RowS arg7 arg8 arg9 arg10 arg11 q key v (st1 (F := Ideal) 𝒱 c bd i arg1 harg1 arg2 harg2 arg3 harg3 arg4 harg4 arg5 harg5 arg6 harg6 arg7 harg7 arg8 harg8 arg9 harg9 arg10 harg10 arg11 harg11 x1 x2 x3 G n) [16] t := by
  induction n with
  | zero => omega
  | succ n ih =>
    have hlt : n < k0_t1_loop.trips := by rw [trips1]; omega
    have e : st1 (F := Ideal) 𝒱 c bd i arg1 harg1 arg2 harg2 arg3 harg3 arg4 harg4 arg5 harg5 arg6 harg6 arg7 harg7 arg8 harg8 arg9 harg9 arg10 harg10 arg11 harg11 x1 x2 x3 G (n + 1) = _ := iter_succ arg7 arg8 arg9 arg10 arg11 _ G ⟨n, hlt⟩
    rw [e]
    refine trip1_row 𝒱 c bd i arg1 harg1 arg2 harg2 arg3 harg3 arg4 harg4 arg5 harg5 arg6 harg6 arg7 harg7 arg8 harg8 arg9 harg9 arg10 harg10 arg11 harg11 x1 x2 x3 q key v hq hk hv ⟨n, hlt⟩ _ t [16] ?_
    by_cases h : t.val % 16 / 2 = n
    · exact .inl ⟨⟨⟨t.val % 2, by omega⟩, ⟨t.val / 16, by omega⟩, Fin.ext (by simp only [ρ1]; omega)⟩, rfl⟩
    · refine .inr ⟨?_, ih (by omega) (by omega)⟩
      rintro ⟨u, a, rfl⟩
      simp only [ρ1] at h
      omega

/-- The second loop adds the window of dilation 4 to the rows its trips wrote. -/
theorem loop2 (G : St (F := Ideal) arg7 arg8 arg9 arg10 arg11) (ds : List ℕ) (hG : ∀ t, RowS arg7 arg8 arg9 arg10 arg11 q key v G ds t) (n : ℕ) (hn : n ≤ 8) (t : Fin 4096) :
    RowS arg7 arg8 arg9 arg10 arg11 q key v (st2 (F := Ideal) 𝒱 c bd i arg1 harg1 arg2 harg2 arg3 harg3 arg4 harg4 arg5 harg5 arg6 harg6 arg7 harg7 arg8 harg8 arg9 harg9 arg10 harg10 arg11 harg11 x1 x2 x3 G n) (if t.val / 512 < n then 4 :: ds else ds) t := by
  induction n generalizing t with
  | zero => exact hG t
  | succ n ih =>
    have hlt : n < k0_t2_loop.trips := by rw [trips2]; omega
    have e : st2 (F := Ideal) 𝒱 c bd i arg1 harg1 arg2 harg2 arg3 harg3 arg4 harg4 arg5 harg5 arg6 harg6 arg7 harg7 arg8 harg8 arg9 harg9 arg10 harg10 arg11 harg11 x1 x2 x3 G (n + 1) = _ := iter_succ arg7 arg8 arg9 arg10 arg11 _ G ⟨n, hlt⟩
    rw [e]
    refine trip2_row 𝒱 c bd i arg1 harg1 arg2 harg2 arg3 harg3 arg4 harg4 arg5 harg5 arg6 harg6 arg7 harg7 arg8 harg8 arg9 harg9 arg10 harg10 arg11 harg11 x1 x2 x3 q key v hq hk hv ⟨n, hlt⟩ _ ds (fun u a => ?_) t _ ?_
    · have := ih (by omega) (ρ2 ⟨n, hlt⟩ u a)
      rwa [if_neg (by simp only [ρ2]; omega)] at this
    by_cases h : t.val / 512 = n
    · exact .inl ⟨⟨⟨t.val % 4, by omega⟩, ⟨t.val % 512 / 4, by omega⟩, Fin.ext (by simp only [ρ2]; omega)⟩, if_pos (by omega)⟩
    · refine .inr ⟨?_, ?_⟩
      · rintro ⟨u, a, rfl⟩
        simp only [ρ2] at h
        omega
      · have := ih (by omega) t
        rwa [if_congr (show t.val / 512 < n + 1 ↔ t.val / 512 < n by omega) rfl rfl]

/-- The arrays before trip `n` of the third loop. -/
def st3 (G : St (F := Ideal) arg7 arg8 arg9 arg10 arg11) (n : ℕ) : St (F := Ideal) arg7 arg8 arg9 arg10 arg11 :=
  (arg7.view.writes (Elt Ideal) G.1 (pb_k0_t3 (F := Ideal) 𝒱 c bd i arg1 harg1 arg2 harg2 arg3 harg3 arg4 harg4 arg5 harg5 arg6 harg6 arg7 harg7 arg8 harg8 arg9 harg9 arg10 harg10 arg11 harg11 x1 x2 x3 G.1 G.2.1 G.2.2.1 G.2.2.2.1 G.2.2.2.2 n).1, arg8.view.writes (Elt Ideal) G.2.1 (pb_k0_t3 (F := Ideal) 𝒱 c bd i arg1 harg1 arg2 harg2 arg3 harg3 arg4 harg4 arg5 harg5 arg6 harg6 arg7 harg7 arg8 harg8 arg9 harg9 arg10 harg10 arg11 harg11 x1 x2 x3 G.1 G.2.1 G.2.2.1 G.2.2.2.1 G.2.2.2.2 n).2.1, arg9.view.writes (Elt Ideal) G.2.2.1 (pb_k0_t3 (F := Ideal) 𝒱 c bd i arg1 harg1 arg2 harg2 arg3 harg3 arg4 harg4 arg5 harg5 arg6 harg6 arg7 harg7 arg8 harg8 arg9 harg9 arg10 harg10 arg11 harg11 x1 x2 x3 G.1 G.2.1 G.2.2.1 G.2.2.2.1 G.2.2.2.2 n).2.2.1, arg10.view.writes (Elt Ideal) G.2.2.2.1 (pb_k0_t3 (F := Ideal) 𝒱 c bd i arg1 harg1 arg2 harg2 arg3 harg3 arg4 harg4 arg5 harg5 arg6 harg6 arg7 harg7 arg8 harg8 arg9 harg9 arg10 harg10 arg11 harg11 x1 x2 x3 G.1 G.2.1 G.2.2.1 G.2.2.2.1 G.2.2.2.2 n).2.2.2.1, arg11.view.writes (Elt Ideal) G.2.2.2.2 (pb_k0_t3 (F := Ideal) 𝒱 c bd i arg1 harg1 arg2 harg2 arg3 harg3 arg4 harg4 arg5 harg5 arg6 harg6 arg7 harg7 arg8 harg8 arg9 harg9 arg10 harg10 arg11 harg11 x1 x2 x3 G.1 G.2.1 G.2.2.1 G.2.2.2.1 G.2.2.2.2 n).2.2.2.2)

omit hq hk hv in
theorem st3_succ (G : St (F := Ideal) arg7 arg8 arg9 arg10 arg11) (n : Fin k0_t3_loop.trips) : st3 𝒱 c bd i arg1 harg1 arg2 harg2 arg3 harg3 arg4 harg4 arg5 harg5 arg6 harg6 arg7 harg7 arg8 harg8 arg9 harg9 arg10 harg10 arg11 harg11 x1 x2 x3 G (n.val + 1) =
    (arg7.view.writes (Elt Ideal) (st3 𝒱 c bd i arg1 harg1 arg2 harg2 arg3 harg3 arg4 harg4 arg5 harg5 arg6 harg6 arg7 harg7 arg8 harg8 arg9 harg9 arg10 harg10 arg11 harg11 x1 x2 x3 G n.val).1 ((trip_k0_t3 (F := Ideal) 𝒱 c bd i arg1 harg1 arg2 harg2 arg3 harg3 arg4 harg4 arg5 harg5 arg6 harg6 arg7 harg7 arg8 harg8 arg9 harg9 arg10 harg10 arg11 harg11 x1 x2 x3 n).1 (st3 𝒱 c bd i arg1 harg1 arg2 harg2 arg3 harg3 arg4 harg4 arg5 harg5 arg6 harg6 arg7 harg7 arg8 harg8 arg9 harg9 arg10 harg10 arg11 harg11 x1 x2 x3 G n.val).1 (st3 𝒱 c bd i arg1 harg1 arg2 harg2 arg3 harg3 arg4 harg4 arg5 harg5 arg6 harg6 arg7 harg7 arg8 harg8 arg9 harg9 arg10 harg10 arg11 harg11 x1 x2 x3 G n.val).2.1 (st3 𝒱 c bd i arg1 harg1 arg2 harg2 arg3 harg3 arg4 harg4 arg5 harg5 arg6 harg6 arg7 harg7 arg8 harg8 arg9 harg9 arg10 harg10 arg11 harg11 x1 x2 x3 G n.val).2.2.1 (st3 𝒱 c bd i arg1 harg1 arg2 harg2 arg3 harg3 arg4 harg4 arg5 harg5 arg6 harg6 arg7 harg7 arg8 harg8 arg9 harg9 arg10 harg10 arg11 harg11 x1 x2 x3 G n.val).2.2.2.1 (st3 𝒱 c bd i arg1 harg1 arg2 harg2 arg3 harg3 arg4 harg4 arg5 harg5 arg6 harg6 arg7 harg7 arg8 harg8 arg9 harg9 arg10 harg10 arg11 harg11 x1 x2 x3 G n.val).2.2.2.2), arg8.view.writes (Elt Ideal) (st3 𝒱 c bd i arg1 harg1 arg2 harg2 arg3 harg3 arg4 harg4 arg5 harg5 arg6 harg6 arg7 harg7 arg8 harg8 arg9 harg9 arg10 harg10 arg11 harg11 x1 x2 x3 G n.val).2.1 ((trip_k0_t3 (F := Ideal) 𝒱 c bd i arg1 harg1 arg2 harg2 arg3 harg3 arg4 harg4 arg5 harg5 arg6 harg6 arg7 harg7 arg8 harg8 arg9 harg9 arg10 harg10 arg11 harg11 x1 x2 x3 n).2.1 (st3 𝒱 c bd i arg1 harg1 arg2 harg2 arg3 harg3 arg4 harg4 arg5 harg5 arg6 harg6 arg7 harg7 arg8 harg8 arg9 harg9 arg10 harg10 arg11 harg11 x1 x2 x3 G n.val).1 (st3 𝒱 c bd i arg1 harg1 arg2 harg2 arg3 harg3 arg4 harg4 arg5 harg5 arg6 harg6 arg7 harg7 arg8 harg8 arg9 harg9 arg10 harg10 arg11 harg11 x1 x2 x3 G n.val).2.1 (st3 𝒱 c bd i arg1 harg1 arg2 harg2 arg3 harg3 arg4 harg4 arg5 harg5 arg6 harg6 arg7 harg7 arg8 harg8 arg9 harg9 arg10 harg10 arg11 harg11 x1 x2 x3 G n.val).2.2.1 (st3 𝒱 c bd i arg1 harg1 arg2 harg2 arg3 harg3 arg4 harg4 arg5 harg5 arg6 harg6 arg7 harg7 arg8 harg8 arg9 harg9 arg10 harg10 arg11 harg11 x1 x2 x3 G n.val).2.2.2.1 (st3 𝒱 c bd i arg1 harg1 arg2 harg2 arg3 harg3 arg4 harg4 arg5 harg5 arg6 harg6 arg7 harg7 arg8 harg8 arg9 harg9 arg10 harg10 arg11 harg11 x1 x2 x3 G n.val).2.2.2.2), arg9.view.writes (Elt Ideal) (st3 𝒱 c bd i arg1 harg1 arg2 harg2 arg3 harg3 arg4 harg4 arg5 harg5 arg6 harg6 arg7 harg7 arg8 harg8 arg9 harg9 arg10 harg10 arg11 harg11 x1 x2 x3 G n.val).2.2.1 ((trip_k0_t3 (F := Ideal) 𝒱 c bd i arg1 harg1 arg2 harg2 arg3 harg3 arg4 harg4 arg5 harg5 arg6 harg6 arg7 harg7 arg8 harg8 arg9 harg9 arg10 harg10 arg11 harg11 x1 x2 x3 n).2.2.1 (st3 𝒱 c bd i arg1 harg1 arg2 harg2 arg3 harg3 arg4 harg4 arg5 harg5 arg6 harg6 arg7 harg7 arg8 harg8 arg9 harg9 arg10 harg10 arg11 harg11 x1 x2 x3 G n.val).1 (st3 𝒱 c bd i arg1 harg1 arg2 harg2 arg3 harg3 arg4 harg4 arg5 harg5 arg6 harg6 arg7 harg7 arg8 harg8 arg9 harg9 arg10 harg10 arg11 harg11 x1 x2 x3 G n.val).2.1 (st3 𝒱 c bd i arg1 harg1 arg2 harg2 arg3 harg3 arg4 harg4 arg5 harg5 arg6 harg6 arg7 harg7 arg8 harg8 arg9 harg9 arg10 harg10 arg11 harg11 x1 x2 x3 G n.val).2.2.1 (st3 𝒱 c bd i arg1 harg1 arg2 harg2 arg3 harg3 arg4 harg4 arg5 harg5 arg6 harg6 arg7 harg7 arg8 harg8 arg9 harg9 arg10 harg10 arg11 harg11 x1 x2 x3 G n.val).2.2.2.1 (st3 𝒱 c bd i arg1 harg1 arg2 harg2 arg3 harg3 arg4 harg4 arg5 harg5 arg6 harg6 arg7 harg7 arg8 harg8 arg9 harg9 arg10 harg10 arg11 harg11 x1 x2 x3 G n.val).2.2.2.2), arg10.view.writes (Elt Ideal) (st3 𝒱 c bd i arg1 harg1 arg2 harg2 arg3 harg3 arg4 harg4 arg5 harg5 arg6 harg6 arg7 harg7 arg8 harg8 arg9 harg9 arg10 harg10 arg11 harg11 x1 x2 x3 G n.val).2.2.2.1 ((trip_k0_t3 (F := Ideal) 𝒱 c bd i arg1 harg1 arg2 harg2 arg3 harg3 arg4 harg4 arg5 harg5 arg6 harg6 arg7 harg7 arg8 harg8 arg9 harg9 arg10 harg10 arg11 harg11 x1 x2 x3 n).2.2.2.1 (st3 𝒱 c bd i arg1 harg1 arg2 harg2 arg3 harg3 arg4 harg4 arg5 harg5 arg6 harg6 arg7 harg7 arg8 harg8 arg9 harg9 arg10 harg10 arg11 harg11 x1 x2 x3 G n.val).1 (st3 𝒱 c bd i arg1 harg1 arg2 harg2 arg3 harg3 arg4 harg4 arg5 harg5 arg6 harg6 arg7 harg7 arg8 harg8 arg9 harg9 arg10 harg10 arg11 harg11 x1 x2 x3 G n.val).2.1 (st3 𝒱 c bd i arg1 harg1 arg2 harg2 arg3 harg3 arg4 harg4 arg5 harg5 arg6 harg6 arg7 harg7 arg8 harg8 arg9 harg9 arg10 harg10 arg11 harg11 x1 x2 x3 G n.val).2.2.1 (st3 𝒱 c bd i arg1 harg1 arg2 harg2 arg3 harg3 arg4 harg4 arg5 harg5 arg6 harg6 arg7 harg7 arg8 harg8 arg9 harg9 arg10 harg10 arg11 harg11 x1 x2 x3 G n.val).2.2.2.1 (st3 𝒱 c bd i arg1 harg1 arg2 harg2 arg3 harg3 arg4 harg4 arg5 harg5 arg6 harg6 arg7 harg7 arg8 harg8 arg9 harg9 arg10 harg10 arg11 harg11 x1 x2 x3 G n.val).2.2.2.2), arg11.view.writes (Elt Ideal) (st3 𝒱 c bd i arg1 harg1 arg2 harg2 arg3 harg3 arg4 harg4 arg5 harg5 arg6 harg6 arg7 harg7 arg8 harg8 arg9 harg9 arg10 harg10 arg11 harg11 x1 x2 x3 G n.val).2.2.2.2 ((trip_k0_t3 (F := Ideal) 𝒱 c bd i arg1 harg1 arg2 harg2 arg3 harg3 arg4 harg4 arg5 harg5 arg6 harg6 arg7 harg7 arg8 harg8 arg9 harg9 arg10 harg10 arg11 harg11 x1 x2 x3 n).2.2.2.2.1 (st3 𝒱 c bd i arg1 harg1 arg2 harg2 arg3 harg3 arg4 harg4 arg5 harg5 arg6 harg6 arg7 harg7 arg8 harg8 arg9 harg9 arg10 harg10 arg11 harg11 x1 x2 x3 G n.val).1 (st3 𝒱 c bd i arg1 harg1 arg2 harg2 arg3 harg3 arg4 harg4 arg5 harg5 arg6 harg6 arg7 harg7 arg8 harg8 arg9 harg9 arg10 harg10 arg11 harg11 x1 x2 x3 G n.val).2.1 (st3 𝒱 c bd i arg1 harg1 arg2 harg2 arg3 harg3 arg4 harg4 arg5 harg5 arg6 harg6 arg7 harg7 arg8 harg8 arg9 harg9 arg10 harg10 arg11 harg11 x1 x2 x3 G n.val).2.2.1 (st3 𝒱 c bd i arg1 harg1 arg2 harg2 arg3 harg3 arg4 harg4 arg5 harg5 arg6 harg6 arg7 harg7 arg8 harg8 arg9 harg9 arg10 harg10 arg11 harg11 x1 x2 x3 G n.val).2.2.2.1 (st3 𝒱 c bd i arg1 harg1 arg2 harg2 arg3 harg3 arg4 harg4 arg5 harg5 arg6 harg6 arg7 harg7 arg8 harg8 arg9 harg9 arg10 harg10 arg11 harg11 x1 x2 x3 G n.val).2.2.2.2)) := by
  unfold st3
  rw [pb_k0_t3_succ]
  dsimp only [tripL_k0_t3]
  simp only [View.writes_append]

/-- The third loop adds the window of dilation 1 to the rows its trips wrote. -/
theorem loop3 (G : St (F := Ideal) arg7 arg8 arg9 arg10 arg11) (ds : List ℕ) (hG : ∀ t, RowS arg7 arg8 arg9 arg10 arg11 q key v G ds t) (n : ℕ) (hn : n ≤ 8) (t : Fin 4096) :
    RowS arg7 arg8 arg9 arg10 arg11 q key v (st3 𝒱 c bd i arg1 harg1 arg2 harg2 arg3 harg3 arg4 harg4 arg5 harg5 arg6 harg6 arg7 harg7 arg8 harg8 arg9 harg9 arg10 harg10 arg11 harg11 x1 x2 x3 G n) (if t.val / 128 % 8 < n then 1 :: ds else ds) t := by
  induction n generalizing t with
  | zero => exact hG t
  | succ n ih =>
    have hlt : n < k0_t3_loop.trips := by rw [trips3]; omega
    have e : st3 𝒱 c bd i arg1 harg1 arg2 harg2 arg3 harg3 arg4 harg4 arg5 harg5 arg6 harg6 arg7 harg7 arg8 harg8 arg9 harg9 arg10 harg10 arg11 harg11 x1 x2 x3 G (n + 1) = _ := st3_succ 𝒱 c bd i arg1 harg1 arg2 harg2 arg3 harg3 arg4 harg4 arg5 harg5 arg6 harg6 arg7 harg7 arg8 harg8 arg9 harg9 arg10 harg10 arg11 harg11 x1 x2 x3 G ⟨n, hlt⟩
    rw [e]
    dsimp only [RowS]
    refine trip3_row 𝒱 c bd i arg1 harg1 arg2 harg2 arg3 harg3 arg4 harg4 arg5 harg5 arg6 harg6 arg7 harg7 arg8 harg8 arg9 harg9 arg10 harg10 arg11 harg11 x1 x2 x3 q key v hq hk hv ⟨n, hlt⟩ (st3 𝒱 c bd i arg1 harg1 arg2 harg2 arg3 harg3 arg4 harg4 arg5 harg5 arg6 harg6 arg7 harg7 arg8 harg8 arg9 harg9 arg10 harg10 arg11 harg11 x1 x2 x3 G n) ds (fun u a => ?_) t _ ?_
    · have := ih (by omega) (ρ3 ⟨n, hlt⟩ u a)
      rwa [if_neg (by simp only [ρ3]; omega)] at this
    by_cases h : t.val / 128 % 8 = n
    · exact .inl ⟨⟨⟨t.val / 1024, by omega⟩, ⟨t.val % 128, by omega⟩, Fin.ext (by simp only [ρ3]; omega)⟩, if_pos (by omega)⟩
    · refine .inr ⟨?_, ?_⟩
      · rintro ⟨u, a, rfl⟩
        simp only [ρ3] at h
        omega
      · have := ih (by omega) t
        rwa [if_congr (show t.val / 128 % 8 < n + 1 ↔ t.val / 128 % 8 < n by omega) rfl rfl]

/-- The arrays when the three loops are done. -/
def fin (G : St (F := Ideal) arg7 arg8 arg9 arg10 arg11) : St (F := Ideal) arg7 arg8 arg9 arg10 arg11 :=
  st3 𝒱 c bd i arg1 harg1 arg2 harg2 arg3 harg3 arg4 harg4 arg5 harg5 arg6 harg6 arg7 harg7 arg8 harg8 arg9 harg9 arg10 harg10 arg11 harg11 x1 x2 x3 (st2 (F := Ideal) 𝒱 c bd i arg1 harg1 arg2 harg2 arg3 harg3 arg4 harg4 arg5 harg5 arg6 harg6 arg7 harg7 arg8 harg8 arg9 harg9 arg10 harg10 arg11 harg11 x1 x2 x3 (st1 (F := Ideal) 𝒱 c bd i arg1 harg1 arg2 harg2 arg3 harg3 arg4 harg4 arg5 harg5 arg6 harg6 arg7 harg7 arg8 harg8 arg9 harg9 arg10 harg10 arg11 harg11 x1 x2 x3 G k0_t1_loop.trips) k0_t2_loop.trips) k0_t3_loop.trips

theorem fin_row (G : St (F := Ideal) arg7 arg8 arg9 arg10 arg11) (t : Fin 4096) : RowS arg7 arg8 arg9 arg10 arg11 q key v (fin 𝒱 c bd i arg1 harg1 arg2 harg2 arg3 harg3 arg4 harg4 arg5 harg5 arg6 harg6 arg7 harg7 arg8 harg8 arg9 harg9 arg10 harg10 arg11 harg11 x1 x2 x3 G) [1, 4, 16] t := by
  have h1 : ∀ t, RowS arg7 arg8 arg9 arg10 arg11 q key v (st1 (F := Ideal) 𝒱 c bd i arg1 harg1 arg2 harg2 arg3 harg3 arg4 harg4 arg5 harg5 arg6 harg6 arg7 harg7 arg8 harg8 arg9 harg9 arg10 harg10 arg11 harg11 x1 x2 x3 G k0_t1_loop.trips) [16] t := fun t => by
    rw [trips1]
    exact loop1 𝒱 c bd i arg1 harg1 arg2 harg2 arg3 harg3 arg4 harg4 arg5 harg5 arg6 harg6 arg7 harg7 arg8 harg8 arg9 harg9 arg10 harg10 arg11 harg11 x1 x2 x3 q key v hq hk hv G 8 le_rfl t (by omega)
  have h2 : ∀ t, RowS arg7 arg8 arg9 arg10 arg11 q key v (st2 (F := Ideal) 𝒱 c bd i arg1 harg1 arg2 harg2 arg3 harg3 arg4 harg4 arg5 harg5 arg6 harg6 arg7 harg7 arg8 harg8 arg9 harg9 arg10 harg10 arg11 harg11 x1 x2 x3 (st1 (F := Ideal) 𝒱 c bd i arg1 harg1 arg2 harg2 arg3 harg3 arg4 harg4 arg5 harg5 arg6 harg6 arg7 harg7 arg8 harg8 arg9 harg9 arg10 harg10 arg11 harg11 x1 x2 x3 G k0_t1_loop.trips) k0_t2_loop.trips) [4, 16] t := fun t => by
    rw [trips2]
    have := loop2 𝒱 c bd i arg1 harg1 arg2 harg2 arg3 harg3 arg4 harg4 arg5 harg5 arg6 harg6 arg7 harg7 arg8 harg8 arg9 harg9 arg10 harg10 arg11 harg11 x1 x2 x3 q key v hq hk hv _ [16] h1 8 le_rfl t
    rwa [if_pos (by omega)] at this
  unfold fin
  rw [trips3]
  have := loop3 𝒱 c bd i arg1 harg1 arg2 harg2 arg3 harg3 arg4 harg4 arg5 harg5 arg6 harg6 arg7 harg7 arg8 harg8 arg9 harg9 arg10 harg10 arg11 harg11 x1 x2 x3 q key v hq hk hv _ [4, 16] h2 8 le_rfl t
  rwa [if_pos (by omega)] at this

end loops

/-- The rows of a block of the last loop. -/
abbrev q4 (n : Fin k0_t4_loop.trips) : Rect S4096x128 := Rect.unit (s := S4096x128) (k0_off6 n) S256x128.size (k0_off6_inb n)

variable (s : St (F := Ideal) arg7 arg8 arg9 arg10 arg11)

theorem trip4_4 (n : Fin k0_t4_loop.trips) : (trip_k0_t4 (F := Ideal) 𝒱 c bd i arg1 harg1 arg2 harg2 arg3 harg3 arg4 harg4 arg5 harg5 arg6 harg6 arg7 harg7 arg8 harg8 arg9 harg9 arg10 harg10 arg11 harg11 s.1 s.2.1 s.2.2.1 s.2.2.2.1 s.2.2.2.2 n).1 = [⟨q4 n, k0_pay15 (arg9.view.readAt (Elt Ideal) (q4 n).toLoadRect s.2.2.1) (arg10.view.readAt (Elt Ideal) (q4 n).toLoadRect s.2.2.2.1) (arg11.view.readAt (Elt Ideal) (q4 n).toLoadRect s.2.2.2.2)⟩] := by
  unfold trip_k0_t4
  rfl
theorem trip4_5 (n : Fin k0_t4_loop.trips) : (trip_k0_t4 (F := Ideal) 𝒱 c bd i arg1 harg1 arg2 harg2 arg3 harg3 arg4 harg4 arg5 harg5 arg6 harg6 arg7 harg7 arg8 harg8 arg9 harg9 arg10 harg10 arg11 harg11 s.1 s.2.1 s.2.2.1 s.2.2.2.1 s.2.2.2.2 n).2.1 = [⟨q4 n, k0_pay16 (arg9.view.readAt (Elt Ideal) (q4 n).toLoadRect s.2.2.1) (arg7.view.readAt (Elt Ideal) (q4 n).toLoadRect s.1)⟩] := by
  unfold trip_k0_t4
  rfl
theorem trip4_6 (n : Fin k0_t4_loop.trips) : (trip_k0_t4 (F := Ideal) 𝒱 c bd i arg1 harg1 arg2 harg2 arg3 harg3 arg4 harg4 arg5 harg5 arg6 harg6 arg7 harg7 arg8 harg8 arg9 harg9 arg10 harg10 arg11 harg11 s.1 s.2.1 s.2.2.1 s.2.2.2.1 s.2.2.2.2 n).2.2.1 = [⟨q4 n, k0_pay17 (arg10.view.readAt (Elt Ideal) (q4 n).toLoadRect s.2.2.2.1) (arg8.view.readAt (Elt Ideal) (q4 n).toLoadRect s.2.1)⟩] := by
  unfold trip_k0_t4
  rfl

theorem q4_emb (n : Fin k0_t4_loop.trips) (a : Fin 256) (e : Fin 128) (t : Fin 4096) (ht : t.val = 256 * n.val + a.val) : (q4 n).emb (ix2 a e) = ix2 t e := by
  refine Rect.emb_eq_of_coords _ _ _ (Fin.forall_fin_two.2 ⟨?_, ?_⟩)
  · show t.val = k0_off6 n 0 + 1 * a.val
    rw [off6_closed, ht]; simp
  · show e.val = k0_off6 n 1 + 1 * e.val
    rw [off6_closed]; simp

theorem q4_miss (n : Fin k0_t4_loop.trips) (e : Fin 128) (t : Fin 4096) (ht : t.val < 256 * n.val) : (ix2 t e : S4096x128.Idx) ∉ (q4 n).set := fun hm => by
  obtain ⟨x, hx⟩ := LoadRect.exists_idx_of_mem _ hm
  have h : (k0_off6 n 0 + 1 * (x 0).val) = t.val := congrArg (fun y : S4096x128.Idx => (y 0).val) hx
  rw [off6_closed] at h
  simp at h
  omega

/-- What a row of the five arrays gives out: the mean of the values and the logarithms of the sums. -/
theorem pay15_row (q k v : ℕ → Fin 128 → EReal) (t : ℕ) (a7 a8 : Fin 128 → EReal) (L0 L1 A : V256) (a : Fin 256) (e : Fin 128)
    (h : RowOK q k v [1, 4, 16] t a7 a8 (fun e => L0 (ix2 a e)) (fun e => L1 (ix2 a e)) fun e => A (ix2 a e)) :
    k0_pay15 (F := Ideal) L0 L1 A (ix2 a e) = out q k v t e := by
  obtain ⟨μ, hp, h⟩ := h
  obtain ⟨-, -, h9, h10, h11⟩ := h e
  dsimp only at h9 h10 h11
  pointwise [k0_pay15]
  rw [select_lane, h9, h10, h11]
  unfold out
  simp only [hp, peak_rev, tot_rev]
  by_cases he : hd e = 0
  · rw [if_pos he, he]
  · have h1 : hd e = 1 := by omega
    rw [if_neg he, h1]

theorem log_row (q k : ℕ → Fin 128 → EReal) (t : ℕ) (μ : EReal) (h : Fin 2) (hp : μ = peak [1, 4, 16] t (sc q k h t)) :
    μ + Ideal.log (tot [1, 4, 16] t fun t' => Ideal.exp (sc q k h t t' - μ)) = lse q k h t := by
  rw [hp, peak_rev, tot_rev]
  rfl

theorem pay16_row (q k v : ℕ → Fin 128 → EReal) (t : ℕ) (a8 a10 a11 : Fin 128 → EReal) (L0 M0 : V256) (a : Fin 256) (e : Fin 128)
    (h : RowOK q k v [1, 4, 16] t (fun e => M0 (ix2 a e)) a8 (fun e => L0 (ix2 a e)) a10 a11) :
    k0_pay16 (F := Ideal) L0 M0 (ix2 a e) = (lse q k 0 t) := by
  obtain ⟨μ, hp, h⟩ := h
  obtain ⟨h7, -, h9, -, -⟩ := h e
  dsimp only at h7 h9
  pointwise [k0_pay16]
  rw [h7, h9]
  exact log_row q k t _ 0 (hp 0)

theorem pay17_row (q k v : ℕ → Fin 128 → EReal) (t : ℕ) (a7 a9 a11 : Fin 128 → EReal) (L1 M1 : V256) (a : Fin 256) (e : Fin 128)
    (h : RowOK q k v [1, 4, 16] t a7 (fun e => M1 (ix2 a e)) a9 (fun e => L1 (ix2 a e)) a11) :
    k0_pay17 (F := Ideal) L1 M1 (ix2 a e) = (lse q k 1 t) := by
  obtain ⟨μ, hp, h⟩ := h
  obtain ⟨-, h8, -, h10, -⟩ := h e
  dsimp only at h8 h10
  pointwise [k0_pay17]
  rw [h8, h10]
  exact log_row q k t _ 1 (hp 1)

theorem loop4_4 (q key v : ℕ → Fin 128 → EReal) (hr : ∀ t, Row q key v arg7.view arg8.view arg9.view arg10.view arg11.view s.1 s.2.1 s.2.2.1 s.2.2.2.1 s.2.2.2.2 [1, 4, 16] t) (f : arg4.view.ty.Contents (Elt Ideal)) (n : ℕ) (hn : n ≤ 16) (t : Fin 4096) (ht : t.val < 256 * n) (e : Fin 128) :
    arg4.view.read (Elt Ideal) (arg4.view.writes (Elt Ideal) f (pb_k0_t4 (F := Ideal) 𝒱 c bd i arg1 harg1 arg2 harg2 arg3 harg3 arg4 harg4 arg5 harg5 arg6 harg6 arg7 harg7 arg8 harg8 arg9 harg9 arg10 harg10 arg11 harg11 s.1 s.2.1 s.2.2.1 s.2.2.2.1 s.2.2.2.2 n).1) (ix2 t e) = (out q key v t.val e) := by
  induction n with
  | zero => omega
  | succ n ih =>
    have hlt : n < k0_t4_loop.trips := by rw [trips4]; omega
    have e1 : pb_k0_t4 (F := Ideal) 𝒱 c bd i arg1 harg1 arg2 harg2 arg3 harg3 arg4 harg4 arg5 harg5 arg6 harg6 arg7 harg7 arg8 harg8 arg9 harg9 arg10 harg10 arg11 harg11 s.1 s.2.1 s.2.2.1 s.2.2.2.1 s.2.2.2.2 (n + 1) = _ := pb_k0_t4_succ 𝒱 c bd i arg1 harg1 arg2 harg2 arg3 harg3 arg4 harg4 arg5 harg5 arg6 harg6 arg7 harg7 arg8 harg8 arg9 harg9 arg10 harg10 arg11 harg11 s.1 s.2.1 s.2.2.1 s.2.2.2.1 s.2.2.2.2 ⟨n, hlt⟩
    rw [e1]
    dsimp only [tripL_k0_t4]
    rw [trip4_4]
    by_cases h : t.val < 256 * n
    · exact (read_miss _ _ _ _ _ _ (q4_miss ⟨n, hlt⟩ e t h)).trans (ih (by omega) h)
    · have he : ∀ e', (q4 ⟨n, hlt⟩).emb (ix2 (⟨t.val - 256 * n, by omega⟩ : Fin 256) e') = ix2 t e' := fun e' => q4_emb ⟨n, hlt⟩ _ _ _ (by show t.val = 256 * n + (t.val - 256 * n); omega)
      rw [← he e]
      have := hr t
      unfold Row at this
      simp only [← he] at this
      exact (read_hit ..).trans (pay15_row q key v t.val _ _ _ _ _ ⟨t.val - 256 * n, by omega⟩ e this)

theorem loop4_5 (q key v : ℕ → Fin 128 → EReal) (hr : ∀ t, Row q key v arg7.view arg8.view arg9.view arg10.view arg11.view s.1 s.2.1 s.2.2.1 s.2.2.2.1 s.2.2.2.2 [1, 4, 16] t) (f : arg5.view.ty.Contents (Elt Ideal)) (n : ℕ) (hn : n ≤ 16) (t : Fin 4096) (ht : t.val < 256 * n) (e : Fin 128) :
    arg5.view.read (Elt Ideal) (arg5.view.writes (Elt Ideal) f (pb_k0_t4 (F := Ideal) 𝒱 c bd i arg1 harg1 arg2 harg2 arg3 harg3 arg4 harg4 arg5 harg5 arg6 harg6 arg7 harg7 arg8 harg8 arg9 harg9 arg10 harg10 arg11 harg11 s.1 s.2.1 s.2.2.1 s.2.2.2.1 s.2.2.2.2 n).2.1) (ix2 t e) = (lse q key 0 t.val) := by
  induction n with
  | zero => omega
  | succ n ih =>
    have hlt : n < k0_t4_loop.trips := by rw [trips4]; omega
    have e1 : pb_k0_t4 (F := Ideal) 𝒱 c bd i arg1 harg1 arg2 harg2 arg3 harg3 arg4 harg4 arg5 harg5 arg6 harg6 arg7 harg7 arg8 harg8 arg9 harg9 arg10 harg10 arg11 harg11 s.1 s.2.1 s.2.2.1 s.2.2.2.1 s.2.2.2.2 (n + 1) = _ := pb_k0_t4_succ 𝒱 c bd i arg1 harg1 arg2 harg2 arg3 harg3 arg4 harg4 arg5 harg5 arg6 harg6 arg7 harg7 arg8 harg8 arg9 harg9 arg10 harg10 arg11 harg11 s.1 s.2.1 s.2.2.1 s.2.2.2.1 s.2.2.2.2 ⟨n, hlt⟩
    rw [e1]
    dsimp only [tripL_k0_t4]
    rw [trip4_5]
    by_cases h : t.val < 256 * n
    · exact (read_miss _ _ _ _ _ _ (q4_miss ⟨n, hlt⟩ e t h)).trans (ih (by omega) h)
    · have he : ∀ e', (q4 ⟨n, hlt⟩).emb (ix2 (⟨t.val - 256 * n, by omega⟩ : Fin 256) e') = ix2 t e' := fun e' => q4_emb ⟨n, hlt⟩ _ _ _ (by show t.val = 256 * n + (t.val - 256 * n); omega)
      rw [← he e]
      have := hr t
      unfold Row at this
      simp only [← he] at this
      exact (read_hit ..).trans (pay16_row q key v t.val _ _ _ _ _ ⟨t.val - 256 * n, by omega⟩ e this)

theorem loop4_6 (q key v : ℕ → Fin 128 → EReal) (hr : ∀ t, Row q key v arg7.view arg8.view arg9.view arg10.view arg11.view s.1 s.2.1 s.2.2.1 s.2.2.2.1 s.2.2.2.2 [1, 4, 16] t) (f : arg6.view.ty.Contents (Elt Ideal)) (n : ℕ) (hn : n ≤ 16) (t : Fin 4096) (ht : t.val < 256 * n) (e : Fin 128) :
    arg6.view.read (Elt Ideal) (arg6.view.writes (Elt Ideal) f (pb_k0_t4 (F := Ideal) 𝒱 c bd i arg1 harg1 arg2 harg2 arg3 harg3 arg4 harg4 arg5 harg5 arg6 harg6 arg7 harg7 arg8 harg8 arg9 harg9 arg10 harg10 arg11 harg11 s.1 s.2.1 s.2.2.1 s.2.2.2.1 s.2.2.2.2 n).2.2) (ix2 t e) = (lse q key 1 t.val) := by
  induction n with
  | zero => omega
  | succ n ih =>
    have hlt : n < k0_t4_loop.trips := by rw [trips4]; omega
    have e1 : pb_k0_t4 (F := Ideal) 𝒱 c bd i arg1 harg1 arg2 harg2 arg3 harg3 arg4 harg4 arg5 harg5 arg6 harg6 arg7 harg7 arg8 harg8 arg9 harg9 arg10 harg10 arg11 harg11 s.1 s.2.1 s.2.2.1 s.2.2.2.1 s.2.2.2.2 (n + 1) = _ := pb_k0_t4_succ 𝒱 c bd i arg1 harg1 arg2 harg2 arg3 harg3 arg4 harg4 arg5 harg5 arg6 harg6 arg7 harg7 arg8 harg8 arg9 harg9 arg10 harg10 arg11 harg11 s.1 s.2.1 s.2.2.1 s.2.2.2.1 s.2.2.2.2 ⟨n, hlt⟩
    rw [e1]
    dsimp only [tripL_k0_t4]
    rw [trip4_6]
    by_cases h : t.val < 256 * n
    · exact (read_miss _ _ _ _ _ _ (q4_miss ⟨n, hlt⟩ e t h)).trans (ih (by omega) h)
    · have he : ∀ e', (q4 ⟨n, hlt⟩).emb (ix2 (⟨t.val - 256 * n, by omega⟩ : Fin 256) e') = ix2 t e' := fun e' => q4_emb ⟨n, hlt⟩ _ _ _ (by show t.val = 256 * n + (t.val - 256 * n); omega)
      rw [← he e]
      have := hr t
      unfold Row at this
      simp only [← he] at this
      exact (read_hit ..).trans (pay17_row q key v t.val _ _ _ _ _ ⟨t.val - 256 * n, by omega⟩ e this)

end Step.Att
-- ==== Proof.AttnValue.lean ====
/- What one run of the attention kernel's body leaves in the blocks it writes. -/
module

public import proofs.«01_k».proof.Proof.AttnOut

@[expose] public section

set_option maxRecDepth 4096

noncomputable section

namespace Step.Att

open Idealize.ShloMosaic Idealize.ShloMosaic.TcCoe Step Cert.AttnIdeal Cert.AttnIdeal.Gen Cert.AttnIdeal.Hand

variable (c : Dev nD) (i : grid0.Coords)
  (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole)
  (x1 : BufTy.Contents (Elt Ideal) arg1.view.ty) (x2 : BufTy.Contents (Elt Ideal) arg2.view.ty) (x3 : BufTy.Contents (Elt Ideal) arg3.view.ty)

variable (g7 : BufTy.Contents (Elt Ideal) arg7.view.ty) (g8 : BufTy.Contents (Elt Ideal) arg8.view.ty) (g9 : BufTy.Contents (Elt Ideal) arg9.view.ty) (g10 : BufTy.Contents (Elt Ideal) arg10.view.ty) (g11 : BufTy.Contents (Elt Ideal) arg11.view.ty)

/-- The pieces the run writes into its first output. -/
theorem run_4 : (kernelRun (F := Ideal) c i arg1 harg1 arg2 harg2 arg3 harg3 arg4 harg4 arg5 harg5 arg6 harg6 arg7 harg7 arg8 harg8 arg9 harg9 arg10 harg10 arg11 harg11 x1 x2 x3 g7 g8 g9 g10 g11).1
    = (pb_k0_t4 (F := Ideal) Variants.none c none i arg1 harg1 arg2 harg2 arg3 harg3 arg4 harg4 arg5 harg5 arg6 harg6 arg7 harg7 arg8 harg8 arg9 harg9 arg10 harg10 arg11 harg11 (fin Variants.none c none i arg1 harg1 arg2 harg2 arg3 harg3 arg4 harg4 arg5 harg5 arg6 harg6 arg7 harg7 arg8 harg8 arg9 harg9 arg10 harg10 arg11 harg11 x1 x2 x3 (g7, g8, g9, g10, g11)).1 (fin Variants.none c none i arg1 harg1 arg2 harg2 arg3 harg3 arg4 harg4 arg5 harg5 arg6 harg6 arg7 harg7 arg8 harg8 arg9 harg9 arg10 harg10 arg11 harg11 x1 x2 x3 (g7, g8, g9, g10, g11)).2.1 (fin Variants.none c none i arg1 harg1 arg2 harg2 arg3 harg3 arg4 harg4 arg5 harg5 arg6 harg6 arg7 harg7 arg8 harg8 arg9 harg9 arg10 harg10 arg11 harg11 x1 x2 x3 (g7, g8, g9, g10, g11)).2.2.1 (fin Variants.none c none i arg1 harg1 arg2 harg2 arg3 harg3 arg4 harg4 arg5 harg5 arg6 harg6 arg7 harg7 arg8 harg8 arg9 harg9 arg10 harg10 arg11 harg11 x1 x2 x3 (g7, g8, g9, g10, g11)).2.2.2.1 (fin Variants.none c none i arg1 harg1 arg2 harg2 arg3 harg3 arg4 harg4 arg5 harg5 arg6 harg6 arg7 harg7 arg8 harg8 arg9 harg9 arg10 harg10 arg11 harg11 x1 x2 x3 (g7, g8, g9, g10, g11)).2.2.2.2 k0_t4_loop.trips).1 := by
  unfold kernelRun
  rfl

/-- The pieces the run writes into its second output. -/
theorem run_5 : (kernelRun (F := Ideal) c i arg1 harg1 arg2 harg2 arg3 harg3 arg4 harg4 arg5 harg5 arg6 harg6 arg7 harg7 arg8 harg8 arg9 harg9 arg10 harg10 arg11 harg11 x1 x2 x3 g7 g8 g9 g10 g11).2.1
    = (pb_k0_t4 (F := Ideal) Variants.none c none i arg1 harg1 arg2 harg2 arg3 harg3 arg4 harg4 arg5 harg5 arg6 harg6 arg7 harg7 arg8 harg8 arg9 harg9 arg10 harg10 arg11 harg11 (fin Variants.none c none i arg1 harg1 arg2 harg2 arg3 harg3 arg4 harg4 arg5 harg5 arg6 harg6 arg7 harg7 arg8 harg8 arg9 harg9 arg10 harg10 arg11 harg11 x1 x2 x3 (g7, g8, g9, g10, g11)).1 (fin Variants.none c none i arg1 harg1 arg2 harg2 arg3 harg3 arg4 harg4 arg5 harg5 arg6 harg6 arg7 harg7 arg8 harg8 arg9 harg9 arg10 harg10 arg11 harg11 x1 x2 x3 (g7, g8, g9, g10, g11)).2.1 (fin Variants.none c none i arg1 harg1 arg2 harg2 arg3 harg3 arg4 harg4 arg5 harg5 arg6 harg6 arg7 harg7 arg8 harg8 arg9 harg9 arg10 harg10 arg11 harg11 x1 x2 x3 (g7, g8, g9, g10, g11)).2.2.1 (fin Variants.none c none i arg1 harg1 arg2 harg2 arg3 harg3 arg4 harg4 arg5 harg5 arg6 harg6 arg7 harg7 arg8 harg8 arg9 harg9 arg10 harg10 arg11 harg11 x1 x2 x3 (g7, g8, g9, g10, g11)).2.2.2.1 (fin Variants.none c none i arg1 harg1 arg2 harg2 arg3 harg3 arg4 harg4 arg5 harg5 arg6 harg6 arg7 harg7 arg8 harg8 arg9 harg9 arg10 harg10 arg11 harg11 x1 x2 x3 (g7, g8, g9, g10, g11)).2.2.2.2 k0_t4_loop.trips).2.1 := by
  unfold kernelRun
  rfl

/-- The pieces the run writes into its third output. -/
theorem run_6 : (kernelRun (F := Ideal) c i arg1 harg1 arg2 harg2 arg3 harg3 arg4 harg4 arg5 harg5 arg6 harg6 arg7 harg7 arg8 harg8 arg9 harg9 arg10 harg10 arg11 harg11 x1 x2 x3 g7 g8 g9 g10 g11).2.2.1
    = (pb_k0_t4 (F := Ideal) Variants.none c none i arg1 harg1 arg2 harg2 arg3 harg3 arg4 harg4 arg5 harg5 arg6 harg6 arg7 harg7 arg8 harg8 arg9 harg9 arg10 harg10 arg11 harg11 (fin Variants.none c none i arg1 harg1 arg2 harg2 arg3 harg3 arg4 harg4 arg5 harg5 arg6 harg6 arg7 harg7 arg8 harg8 arg9 harg9 arg10 harg10 arg11 harg11 x1 x2 x3 (g7, g8, g9, g10, g11)).1 (fin Variants.none c none i arg1 harg1 arg2 harg2 arg3 harg3 arg4 harg4 arg5 harg5 arg6 harg6 arg7 harg7 arg8 harg8 arg9 harg9 arg10 harg10 arg11 harg11 x1 x2 x3 (g7, g8, g9, g10, g11)).2.1 (fin Variants.none c none i arg1 harg1 arg2 harg2 arg3 harg3 arg4 harg4 arg5 harg5 arg6 harg6 arg7 harg7 arg8 harg8 arg9 harg9 arg10 harg10 arg11 harg11 x1 x2 x3 (g7, g8, g9, g10, g11)).2.2.1 (fin Variants.none c none i arg1 harg1 arg2 harg2 arg3 harg3 arg4 harg4 arg5 harg5 arg6 harg6 arg7 harg7 arg8 harg8 arg9 harg9 arg10 harg10 arg11 harg11 x1 x2 x3 (g7, g8, g9, g10, g11)).2.2.2.1 (fin Variants.none c none i arg1 harg1 arg2 harg2 arg3 harg3 arg4 harg4 arg5 harg5 arg6 harg6 arg7 harg7 arg8 harg8 arg9 harg9 arg10 harg10 arg11 harg11 x1 x2 x3 (g7, g8, g9, g10, g11)).2.2.2.2 k0_t4_loop.trips).2.2 := by
  unfold kernelRun
  rfl
variable (q key v : ℕ → Fin 128 → EReal) (hq : ∀ t e, arg1.view.read (Elt Ideal) x1 (ix2 t e) = q t.val e)
  (hk : ∀ t e, arg2.view.read (Elt Ideal) x2 (ix2 t e) = key t.val e) (hv : ∀ t e, arg3.view.read (Elt Ideal) x3 (ix2 t e) = v t.val e)
include hq hk hv

theorem read_4 (f : arg4.view.ty.Contents (Elt Ideal)) (t : Fin 4096) (e : Fin 128) :
    arg4.view.read (Elt Ideal) (arg4.view.writes (Elt Ideal) f (kernelRun (F := Ideal) c i arg1 harg1 arg2 harg2 arg3 harg3 arg4 harg4 arg5 harg5 arg6 harg6 arg7 harg7 arg8 harg8 arg9 harg9 arg10 harg10 arg11 harg11 x1 x2 x3 g7 g8 g9 g10 g11).1) (ix2 t e) = (out q key v t.val e) := by
  rw [run_4, trips4]
  exact loop4_4 Variants.none c none i arg1 harg1 arg2 harg2 arg3 harg3 arg4 harg4 arg5 harg5 arg6 harg6 arg7 harg7 arg8 harg8 arg9 harg9 arg10 harg10 arg11 harg11 (fin Variants.none c none i arg1 harg1 arg2 harg2 arg3 harg3 arg4 harg4 arg5 harg5 arg6 harg6 arg7 harg7 arg8 harg8 arg9 harg9 arg10 harg10 arg11 harg11 x1 x2 x3 (g7, g8, g9, g10, g11)) q key v (fin_row Variants.none c none i arg1 harg1 arg2 harg2 arg3 harg3 arg4 harg4 arg5 harg5 arg6 harg6 arg7 harg7 arg8 harg8 arg9 harg9 arg10 harg10 arg11 harg11 x1 x2 x3 q key v hq hk hv (g7, g8, g9, g10, g11)) f 16 le_rfl t (by omega) e

theorem read_5 (f : arg5.view.ty.Contents (Elt Ideal)) (t : Fin 4096) (e : Fin 128) :
    arg5.view.read (Elt Ideal) (arg5.view.writes (Elt Ideal) f (kernelRun (F := Ideal) c i arg1 harg1 arg2 harg2 arg3 harg3 arg4 harg4 arg5 harg5 arg6 harg6 arg7 harg7 arg8 harg8 arg9 harg9 arg10 harg10 arg11 harg11 x1 x2 x3 g7 g8 g9 g10 g11).2.1) (ix2 t e) = (lse q key 0 t.val) := by
  rw [run_5, trips4]
  exact loop4_5 Variants.none c none i arg1 harg1 arg2 harg2 arg3 harg3 arg4 harg4 arg5 harg5 arg6 harg6 arg7 harg7 arg8 harg8 arg9 harg9 arg10 harg10 arg11 harg11 (fin Variants.none c none i arg1 harg1 arg2 harg2 arg3 harg3 arg4 harg4 arg5 harg5 arg6 harg6 arg7 harg7 arg8 harg8 arg9 harg9 arg10 harg10 arg11 harg11 x1 x2 x3 (g7, g8, g9, g10, g11)) q key v (fin_row Variants.none c none i arg1 harg1 arg2 harg2 arg3 harg3 arg4 harg4 arg5 harg5 arg6 harg6 arg7 harg7 arg8 harg8 arg9 harg9 arg10 harg10 arg11 harg11 x1 x2 x3 q key v hq hk hv (g7, g8, g9, g10, g11)) f 16 le_rfl t (by omega) e

theorem read_6 (f : arg6.view.ty.Contents (Elt Ideal)) (t : Fin 4096) (e : Fin 128) :
    arg6.view.read (Elt Ideal) (arg6.view.writes (Elt Ideal) f (kernelRun (F := Ideal) c i arg1 harg1 arg2 harg2 arg3 harg3 arg4 harg4 arg5 harg5 arg6 harg6 arg7 harg7 arg8 harg8 arg9 harg9 arg10 harg10 arg11 harg11 x1 x2 x3 g7 g8 g9 g10 g11).2.2.1) (ix2 t e) = (lse q key 1 t.val) := by
  rw [run_6, trips4]
  exact loop4_6 Variants.none c none i arg1 harg1 arg2 harg2 arg3 harg3 arg4 harg4 arg5 harg5 arg6 harg6 arg7 harg7 arg8 harg8 arg9 harg9 arg10 harg10 arg11 harg11 (fin Variants.none c none i arg1 harg1 arg2 harg2 arg3 harg3 arg4 harg4 arg5 harg5 arg6 harg6 arg7 harg7 arg8 harg8 arg9 harg9 arg10 harg10 arg11 harg11 x1 x2 x3 (g7, g8, g9, g10, g11)) q key v (fin_row Variants.none c none i arg1 harg1 arg2 harg2 arg3 harg3 arg4 harg4 arg5 harg5 arg6 harg6 arg7 harg7 arg8 harg8 arg9 harg9 arg10 harg10 arg11 harg11 x1 x2 x3 q key v hq hk hv (g7, g8, g9, g10, g11)) f 16 le_rfl t (by omega) e

end Step.Att

end
-- ==== Proof.AttnArr.lean ====
/- The arrays that the attention kernel leaves, as rows of its arguments. -/
module

public import proofs.«01_k».proof.Proof.AttnValue
public import proofs.«01_k».proof.Proof.Blocks
public import Idealize.ShloMosaic.Lib.Pipeline.Value
public import Idealize.ShloMosaic.Lib.Pipeline.ArrRel
public import Idealize.ShloMosaic.Lib.Pipeline.ValueKit.Point

@[expose] public section

set_option maxRecDepth 4096

noncomputable section

namespace Step.Att

open Idealize.ShloMosaic Idealize.ShloMosaic.TcCoe Idealize.ShloMosaic.Pipeline Idealize.SL.Sem Step Cert.AttnIdeal Cert.AttnIdeal.Gen Cert.AttnIdeal.Hand

/-- An array by its rows and columns. -/
def arr (f : Fin 4096 → Fin 512 → EReal) : S4096x512.Idx → EReal := fun j => f (j 0) (j 1)

/-- Columns `128 n` to `128 n + 127`: two heads. -/
def cols (a : Fin 4096 → Fin 512 → EReal) (n : ℕ) (t : ℕ) (e : Fin 128) : EReal :=
  a ⟨t % 4096, Nat.mod_lt _ (by norm_num)⟩ ⟨(128 * n + e.val) % 512, Nat.mod_lt _ (by norm_num)⟩

variable (q k v : Fin 4096 → Fin 512 → EReal) (m : (ℓ : Loc nD τ sig) → Buf (Elt Ideal) ℓ) (c : Dev nD)

/-- The program's arguments hold the arrays. -/
structure Holds : Prop where
  q : (m ((c : Thread nD τ).loc main_arg0) : S4096x512.Idx → EReal) = arr q
  k : (m ((c : Thread nD τ).loc main_arg1) : S4096x512.Idx → EReal) = arr k
  v : (m ((c : Thread nD τ).loc main_arg2) : S4096x512.Idx → EReal) = arr v

theorem idx_ins : ∀ t : Fin grid0.N, win0_0.index t = ![0, t.val] ∧ win0_1.index t = ![0, 4 + t.val] ∧ win0_2.index t = ![0, 8 + t.val] := by decide +kernel

theorem idx_outs : ∀ t : Fin grid0.N, win0_3.index t = ![0, t.val] ∧ win0_4.index t = ![0, t.val] ∧ win0_5.index t = ![0, t.val]
    ∧ win0_3.flush t = true ∧ win0_4.flush t = true ∧ win0_5.flush t = true := by decide +kernel

theorem N_4 : cfg0.N = 4 := by decide +kernel

variable {q k v m c}

/-- The three arguments side by side. -/
theorem host (t : Fin 4096) (x : Fin 1536) : (V m c main_v0 : S4096x1536.Idx → EReal) (ix2 t x)
    = if h : x.val < 512 then (m ((c : Thread nD τ).loc main_arg0) : S4096x512.Idx → EReal) (ix2 t ⟨x.val, h⟩)
      else if h' : x.val < 1024 then (m ((c : Thread nD τ).loc main_arg1) : S4096x512.Idx → EReal) (ix2 t ⟨x.val - 512, by omega⟩)
      else (m ((c : Thread nD τ).loc main_arg2) : S4096x512.Idx → EReal) (ix2 t ⟨x.val - 1024, by omega⟩) := by
  have e : (V m c main_v0 : S4096x1536.Idx → EReal) = concatenate S4096x1536 1 [⟨S4096x512, (m ((c : Thread nD τ).loc main_arg0) : S4096x512.Idx → EReal)⟩, ⟨S4096x512, (m ((c : Thread nD τ).loc main_arg1) : S4096x512.Idx → EReal)⟩, ⟨S4096x512, (m ((c : Thread nD τ).loc main_arg2) : S4096x512.Idx → EReal)⟩] concatenates_S4096x512_S4096x512_S4096x512_S4096x1536_d1 := by
    simp only [V, hostOps0, List.flatten_cons, List.flatten_nil, List.append_nil, List.cons_append, List.nil_append]
    entry_read
    rfl
  rw [e]
  pointwise
  split_ifs <;> first
    | (exfalso; omega)
    | exact absurd rfl ‹¬_›
    | rw [dif_pos (by omega)]
    | (rw [dif_neg (by omega)]; simp only [Nat.sub_sub, Nat.reduceAdd])
    | simp only [Nat.sub_sub, Nat.reduceAdd]
    | rfl

theorem reads_q (H : Holds q k v m c) (t : Fin cfg0.N) (r : Fin 4096) (e : Fin 128) :
    (iblk m c 0 t : S4096x128.Idx → EReal) (ix2 r e) = (cols q t.val r.val e) := by
  have ht : t.val < 4 := lt_of_lt_of_eq t.isLt N_4
  refine Eq.trans (b := (V m c main_v0 : S4096x1536.Idx → EReal) (ix2 r ⟨128 * t.val + e.val, by omega⟩)) ?_ ?_
  · blk_ext [iblk, (idx_ins t).1]
  · rw [host, dif_pos (by show 128 * t.val + e.val < 512; omega), H.q]
    refine congrArg₂ (fun a b => (q a b)) (Fin.ext ?_) (Fin.ext ?_)
    · show r.val = r.val % 4096; omega
    · show 128 * t.val + e.val = (128 * t.val + e.val) % 512; omega

theorem reads_k (H : Holds q k v m c) (t : Fin cfg0.N) (r : Fin 4096) (e : Fin 128) :
    (iblk m c 1 t : S4096x128.Idx → EReal) (ix2 r e) = (cols k t.val r.val e) := by
  have ht : t.val < 4 := lt_of_lt_of_eq t.isLt N_4
  refine Eq.trans (b := (V m c main_v0 : S4096x1536.Idx → EReal) (ix2 r ⟨512 + 128 * t.val + e.val, by omega⟩)) ?_ ?_
  · blk_ext [iblk, (idx_ins t).2.1]
  · rw [host, dif_neg (by show ¬512 + 128 * t.val + e.val < 512; omega), dif_pos (by show 512 + 128 * t.val + e.val < 1024; omega), H.k]
    refine congrArg₂ (fun a b => (k a b)) (Fin.ext ?_) (Fin.ext ?_)
    · show r.val = r.val % 4096; omega
    · show 512 + 128 * t.val + e.val - 512 = (128 * t.val + e.val) % 512; omega

theorem reads_v (H : Holds q k v m c) (t : Fin cfg0.N) (r : Fin 4096) (e : Fin 128) :
    (iblk m c 2 t : S4096x128.Idx → EReal) (ix2 r e) = (cols v t.val r.val e) := by
  have ht : t.val < 4 := lt_of_lt_of_eq t.isLt N_4
  refine Eq.trans (b := (V m c main_v0 : S4096x1536.Idx → EReal) (ix2 r ⟨1024 + 128 * t.val + e.val, by omega⟩)) ?_ ?_
  · blk_ext [iblk, (idx_ins t).2.2]
  · rw [host, dif_neg (by show ¬1024 + 128 * t.val + e.val < 512; omega), dif_neg (by show ¬1024 + 128 * t.val + e.val < 1024; omega), H.v]
    refine congrArg₂ (fun a b => (v a b)) (Fin.ext ?_) (Fin.ext ?_)
    · show r.val = r.val % 4096; omega
    · show 1024 + 128 * t.val + e.val - 1024 = (128 * t.val + e.val) % 512; omega

theorem left3 (H : Holds q k v m c) (t : Fin cfg0.N) (X : Vec Ideal S4096x128 .f32) (hX : Left3 m c t X) (r : Fin 4096) (e : Fin 128) :
    X (ix2 r e) = (out (cols q t.val) (cols k t.val) (cols v t.val) r.val e) := by
  obtain ⟨f, g7, g8, g9, g10, g11, hX⟩ := hX
  refine (congrFun hX _).trans (read_4 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4)
    ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) g7 g8 g9 g10 g11 (cols q t.val) (cols k t.val) (cols v t.val)
    (fun r e => (congrFun ((hstage0_0 ((cfg0.slots t 0).cast nbuf0_0)).read_unread (iblk m c 0 t)) _).trans (reads_q H t r e))
    (fun r e => (congrFun ((hstage0_1 ((cfg0.slots t 1).cast nbuf0_1)).read_unread (iblk m c 1 t)) _).trans (reads_k H t r e))
    (fun r e => (congrFun ((hstage0_2 ((cfg0.slots t 2).cast nbuf0_2)).read_unread (iblk m c 2 t)) _).trans (reads_v H t r e)) f r e)

theorem left4 (H : Holds q k v m c) (t : Fin cfg0.N) (X : Vec Ideal S4096x128 .f32) (hX : Left4 m c t X) (r : Fin 4096) (e : Fin 128) :
    X (ix2 r e) = (lse (cols q t.val) (cols k t.val) 0 r.val) := by
  obtain ⟨f, g7, g8, g9, g10, g11, hX⟩ := hX
  refine (congrFun hX _).trans (read_5 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4)
    ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) g7 g8 g9 g10 g11 (cols q t.val) (cols k t.val) (cols v t.val)
    (fun r e => (congrFun ((hstage0_0 ((cfg0.slots t 0).cast nbuf0_0)).read_unread (iblk m c 0 t)) _).trans (reads_q H t r e))
    (fun r e => (congrFun ((hstage0_1 ((cfg0.slots t 1).cast nbuf0_1)).read_unread (iblk m c 1 t)) _).trans (reads_k H t r e))
    (fun r e => (congrFun ((hstage0_2 ((cfg0.slots t 2).cast nbuf0_2)).read_unread (iblk m c 2 t)) _).trans (reads_v H t r e)) f r e)

theorem left5 (H : Holds q k v m c) (t : Fin cfg0.N) (X : Vec Ideal S4096x128 .f32) (hX : Left5 m c t X) (r : Fin 4096) (e : Fin 128) :
    X (ix2 r e) = (lse (cols q t.val) (cols k t.val) 1 r.val) := by
  obtain ⟨f, g7, g8, g9, g10, g11, hX⟩ := hX
  refine (congrFun hX _).trans (read_6 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4)
    ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) g7 g8 g9 g10 g11 (cols q t.val) (cols k t.val) (cols v t.val)
    (fun r e => (congrFun ((hstage0_0 ((cfg0.slots t 0).cast nbuf0_0)).read_unread (iblk m c 0 t)) _).trans (reads_q H t r e))
    (fun r e => (congrFun ((hstage0_1 ((cfg0.slots t 1).cast nbuf0_1)).read_unread (iblk m c 1 t)) _).trans (reads_k H t r e))
    (fun r e => (congrFun ((hstage0_2 ((cfg0.slots t 2).cast nbuf0_2)).read_unread (iblk m c 2 t)) _).trans (reads_v H t r e)) f r e)

/-- The column's place in its block of 128. -/
def lane (x : Fin 512) : Fin 128 := ⟨x.val % 128, Nat.mod_lt _ (by norm_num)⟩

/-- The point whose blocks hold column `x`. -/
def ptOf (x : Fin 512) : Fin cfg0.N := ⟨x.val / 128, lt_of_lt_of_eq (by omega) N_4.symm⟩

variable (after : (w : Fin cfg0.W) → Fin cfg0.N → (cfg0.win w).block.Idx → Elt Ideal (cfg0.win w).elt)

/-- Result 0 of the kernel. -/
theorem final3 (H : Holds q k v m c) (hl : ∀ u : Fin cfg0.N, (cfg0.win 3).flush u = true → (rdats m c).Leaves 3 u (after 3 u)) :
    (((rdats m c).withAfter after).arrAt 3 cfg0.N : S4096x512.Idx → EReal) = arr fun r x => out (cols q (x.val / 128)) (cols k (x.val / 128)) (cols v (x.val / 128)) r.val (lane x) := by
  refine ((rdats m c).withAfter after).arrAt_eq_of_cover 3 _ (fun t hf => ?_) fun i => ⟨ptOf (i 1), (idx_outs _).2.2.2.1, ?_⟩
  · have h := left3 H t _ (Pipeline.Dat.toRRel_leaves (dats m 0 c) (by rfl) (hl t hf))
    have ht : t.val < 4 := lt_of_lt_of_eq t.isLt N_4
    funext y
    have h0 : (y 0).val < 4096 := (y 0).isLt
    have h1 : (y 1).val < 128 := (y 1).isLt
    have ey : (cfg0.win 3).xinj (cfg0.grid.coords t) y = (ix2 ⟨(y 0).val, h0⟩ ⟨(y 1).val, h1⟩ : S4096x128.Idx) :=
      funext fun a => match a with | ⟨0, _⟩ => rfl | ⟨1, _⟩ => rfl
    refine Eq.trans (b := (after 3 t : S4096x128.Idx → EReal) (ix2 ⟨(y 0).val, h0⟩ ⟨(y 1).val, h1⟩)) (congrArg (after 3 t) ey) ((h ⟨(y 0).val, h0⟩ ⟨(y 1).val, h1⟩).trans ?_)
    have e0 : (((cfg0.win 3).blk t).view.emb y : S4096x512.Idx) = ix2 ⟨(y 0).val, h0⟩ ⟨128 * t.val + (y 1).val, by omega⟩ := by
      refine funext fun a => Fin.ext ?_
      match a with
      | ⟨0, _⟩ => show win0_3.index t 0 * 4096 + 1 * (y 0).val = (y 0).val; rw [(idx_outs t).1]; show 0 * 4096 + 1 * (y 0).val = _; omega
      | ⟨1, _⟩ => show win0_3.index t 1 * 128 + 1 * (y 1).val = 128 * t.val + (y 1).val; rw [(idx_outs t).1]; show t.val * 128 + 1 * (y 1).val = _; omega
    have e1 : (128 * t.val + (y 1).val) / 128 = t.val := by omega
    have e2 : lane ⟨128 * t.val + (y 1).val, by omega⟩ = ⟨(y 1).val, h1⟩ := Fin.ext (by show (128 * t.val + (y 1).val) % 128 = (y 1).val; omega)
    refine Eq.trans ?_ (congrArg (arr fun r x => out (cols q (x.val / 128)) (cols k (x.val / 128)) (cols v (x.val / 128)) r.val (lane x)) e0).symm
    simp only [arr, ix2, e1, e2]
  · show i ∈ ((View.whole main_v1_0).slice (win0_3.rect (ptOf (i 1)))).set
    rw [View.set_slice_whole, Rect.mem_set_unit]
    have h0 : (i 0).val < 4096 := (i 0).isLt
    have h1 : (i 1).val < 512 := (i 1).isLt
    intro a
    match a with
    | ⟨0, _⟩ => show win0_3.index (ptOf (i 1)) 0 * 4096 ≤ (i 0).val ∧ (i 0).val < win0_3.index (ptOf (i 1)) 0 * 4096 + 4096; rw [(idx_outs _).1]; show 0 * 4096 ≤ _ ∧ _ < 0 * 4096 + 4096; omega
    | ⟨1, _⟩ => show win0_3.index (ptOf (i 1)) 1 * 128 ≤ (i 1).val ∧ (i 1).val < win0_3.index (ptOf (i 1)) 1 * 128 + 128; rw [(idx_outs _).1]; show (i 1).val / 128 * 128 ≤ _ ∧ _ < (i 1).val / 128 * 128 + 128; omega

/-- Result 1 of the kernel. -/
theorem final4 (H : Holds q k v m c) (hl : ∀ u : Fin cfg0.N, (cfg0.win 4).flush u = true → (rdats m c).Leaves 4 u (after 4 u)) :
    (((rdats m c).withAfter after).arrAt 4 cfg0.N : S4096x512.Idx → EReal) = arr fun r x => lse (cols q (x.val / 128)) (cols k (x.val / 128)) 0 r.val := by
  refine ((rdats m c).withAfter after).arrAt_eq_of_cover 4 _ (fun t hf => ?_) fun i => ⟨ptOf (i 1), (idx_outs _).2.2.2.2.1, ?_⟩
  · have h := left4 H t _ (Pipeline.Dat.toRRel_leaves (dats m 0 c) (by rfl) (hl t hf))
    have ht : t.val < 4 := lt_of_lt_of_eq t.isLt N_4
    funext y
    have h0 : (y 0).val < 4096 := (y 0).isLt
    have h1 : (y 1).val < 128 := (y 1).isLt
    have ey : (cfg0.win 4).xinj (cfg0.grid.coords t) y = (ix2 ⟨(y 0).val, h0⟩ ⟨(y 1).val, h1⟩ : S4096x128.Idx) :=
      funext fun a => match a with | ⟨0, _⟩ => rfl | ⟨1, _⟩ => rfl
    refine Eq.trans (b := (after 4 t : S4096x128.Idx → EReal) (ix2 ⟨(y 0).val, h0⟩ ⟨(y 1).val, h1⟩)) (congrArg (after 4 t) ey) ((h ⟨(y 0).val, h0⟩ ⟨(y 1).val, h1⟩).trans ?_)
    have e0 : (((cfg0.win 4).blk t).view.emb y : S4096x512.Idx) = ix2 ⟨(y 0).val, h0⟩ ⟨128 * t.val + (y 1).val, by omega⟩ := by
      refine funext fun a => Fin.ext ?_
      match a with
      | ⟨0, _⟩ => show win0_4.index t 0 * 4096 + 1 * (y 0).val = (y 0).val; rw [(idx_outs t).2.1]; show 0 * 4096 + 1 * (y 0).val = _; omega
      | ⟨1, _⟩ => show win0_4.index t 1 * 128 + 1 * (y 1).val = 128 * t.val + (y 1).val; rw [(idx_outs t).2.1]; show t.val * 128 + 1 * (y 1).val = _; omega
    have e1 : (128 * t.val + (y 1).val) / 128 = t.val := by omega
    have e2 : lane ⟨128 * t.val + (y 1).val, by omega⟩ = ⟨(y 1).val, h1⟩ := Fin.ext (by show (128 * t.val + (y 1).val) % 128 = (y 1).val; omega)
    refine Eq.trans ?_ (congrArg (arr fun r x => lse (cols q (x.val / 128)) (cols k (x.val / 128)) 0 r.val) e0).symm
    simp only [arr, ix2, e1, e2]
  · show i ∈ ((View.whole main_v1_1).slice (win0_4.rect (ptOf (i 1)))).set
    rw [View.set_slice_whole, Rect.mem_set_unit]
    have h0 : (i 0).val < 4096 := (i 0).isLt
    have h1 : (i 1).val < 512 := (i 1).isLt
    intro a
    match a with
    | ⟨0, _⟩ => show win0_4.index (ptOf (i 1)) 0 * 4096 ≤ (i 0).val ∧ (i 0).val < win0_4.index (ptOf (i 1)) 0 * 4096 + 4096; rw [(idx_outs _).2.1]; show 0 * 4096 ≤ _ ∧ _ < 0 * 4096 + 4096; omega
    | ⟨1, _⟩ => show win0_4.index (ptOf (i 1)) 1 * 128 ≤ (i 1).val ∧ (i 1).val < win0_4.index (ptOf (i 1)) 1 * 128 + 128; rw [(idx_outs _).2.1]; show (i 1).val / 128 * 128 ≤ _ ∧ _ < (i 1).val / 128 * 128 + 128; omega

/-- Result 2 of the kernel. -/
theorem final5 (H : Holds q k v m c) (hl : ∀ u : Fin cfg0.N, (cfg0.win 5).flush u = true → (rdats m c).Leaves 5 u (after 5 u)) :
    (((rdats m c).withAfter after).arrAt 5 cfg0.N : S4096x512.Idx → EReal) = arr fun r x => lse (cols q (x.val / 128)) (cols k (x.val / 128)) 1 r.val := by
  refine ((rdats m c).withAfter after).arrAt_eq_of_cover 5 _ (fun t hf => ?_) fun i => ⟨ptOf (i 1), (idx_outs _).2.2.2.2.2, ?_⟩
  · have h := left5 H t _ (Pipeline.Dat.toRRel_leaves (dats m 0 c) (by rfl) (hl t hf))
    have ht : t.val < 4 := lt_of_lt_of_eq t.isLt N_4
    funext y
    have h0 : (y 0).val < 4096 := (y 0).isLt
    have h1 : (y 1).val < 128 := (y 1).isLt
    have ey : (cfg0.win 5).xinj (cfg0.grid.coords t) y = (ix2 ⟨(y 0).val, h0⟩ ⟨(y 1).val, h1⟩ : S4096x128.Idx) :=
      funext fun a => match a with | ⟨0, _⟩ => rfl | ⟨1, _⟩ => rfl
    refine Eq.trans (b := (after 5 t : S4096x128.Idx → EReal) (ix2 ⟨(y 0).val, h0⟩ ⟨(y 1).val, h1⟩)) (congrArg (after 5 t) ey) ((h ⟨(y 0).val, h0⟩ ⟨(y 1).val, h1⟩).trans ?_)
    have e0 : (((cfg0.win 5).blk t).view.emb y : S4096x512.Idx) = ix2 ⟨(y 0).val, h0⟩ ⟨128 * t.val + (y 1).val, by omega⟩ := by
      refine funext fun a => Fin.ext ?_
      match a with
      | ⟨0, _⟩ => show win0_5.index t 0 * 4096 + 1 * (y 0).val = (y 0).val; rw [(idx_outs t).2.2.1]; show 0 * 4096 + 1 * (y 0).val = _; omega
      | ⟨1, _⟩ => show win0_5.index t 1 * 128 + 1 * (y 1).val = 128 * t.val + (y 1).val; rw [(idx_outs t).2.2.1]; show t.val * 128 + 1 * (y 1).val = _; omega
    have e1 : (128 * t.val + (y 1).val) / 128 = t.val := by omega
    have e2 : lane ⟨128 * t.val + (y 1).val, by omega⟩ = ⟨(y 1).val, h1⟩ := Fin.ext (by show (128 * t.val + (y 1).val) % 128 = (y 1).val; omega)
    refine Eq.trans ?_ (congrArg (arr fun r x => lse (cols q (x.val / 128)) (cols k (x.val / 128)) 1 r.val) e0).symm
    simp only [arr, ix2, e1, e2]
  · show i ∈ ((View.whole main_v1_2).slice (win0_5.rect (ptOf (i 1)))).set
    rw [View.set_slice_whole, Rect.mem_set_unit]
    have h0 : (i 0).val < 4096 := (i 0).isLt
    have h1 : (i 1).val < 512 := (i 1).isLt
    intro a
    match a with
    | ⟨0, _⟩ => show win0_5.index (ptOf (i 1)) 0 * 4096 ≤ (i 0).val ∧ (i 0).val < win0_5.index (ptOf (i 1)) 0 * 4096 + 4096; rw [(idx_outs _).2.2.1]; show 0 * 4096 ≤ _ ∧ _ < 0 * 4096 + 4096; omega
    | ⟨1, _⟩ => show win0_5.index (ptOf (i 1)) 1 * 128 ≤ (i 1).val ∧ (i 1).val < win0_5.index (ptOf (i 1)) 1 * 128 + 128; rw [(idx_outs _).2.2.1]; show (i 1).val / 128 * 128 ≤ _ ∧ _ < (i 1).val / 128 * 128 + 128; omega

end Step.Att

end
-- ==== Proof.AttnRefMath.lean ====
/- The dilated windows as the reference takes them: one residue class of rows at a time, in blocks of 128
   queries, each against its own 128 keys and the 128 before. -/
module

public import proofs.«01_k».proof.Proof.AttnArr

@[expose] public section

noncomputable section

namespace Step.Att

open Idealize.ShloMosaic Step

/-- Row `t` of one head of an array. -/
def hrow (a : Fin 4096 → Fin 512 → EReal) (h : Fin 8) (t : ℕ) (e : Fin 64) : EReal :=
  a ⟨t % 4096, Nat.mod_lt _ (by norm_num)⟩ ⟨64 * h.val + e.val, by omega⟩

/-- A score, scaled after the sum. -/
def rs (q k : Fin 4096 → Fin 512 → EReal) (h : Fin 8) (t t' : ℕ) : EReal := (∑ e, hrow q h t e * hrow k h t' e) * eighth

theorem cols_hrow (a : Fin 4096 → Fin 512 → EReal) (h : Fin 8) (t : ℕ) (e : Fin 64) (x : Fin 128) (hx : x.val = 64 * (h.val % 2) + e.val) :
    cols a (h.val / 2) t x = hrow a h t e := by
  unfold cols hrow
  congr 1
  refine Fin.ext ?_
  show (128 * (h.val / 2) + x.val) % 512 = 64 * h.val + e.val
  omega

/-- The lanes of one head, summed over all lanes of its group. -/
theorem rs_eq (q k : Fin 4096 → Fin 512 → EReal) (h : Fin 8) (t t' : ℕ) :
    rs q k h t t' = sc (cols q (h.val / 2)) (cols k (h.val / 2)) ⟨h.val % 2, Nat.mod_lt _ (by norm_num)⟩ t t' := by
  unfold rs sc
  rw [mul_comm, mul_sum_nn _ eighth_nonneg (EReal.coe_ne_top _)]
  have term : ∀ (e : Fin 64) (x : Fin 128), x.val = 64 * (h.val % 2) + e.val →
      eighth * (hrow q h t e * hrow k h t' e) = cols q (h.val / 2) t x * eighth * cols k (h.val / 2) t' x := fun e x hx => by
    rw [cols_hrow q h t e x hx, cols_hrow k h t' e x hx, ← mul_assoc, mul_comm eighth]
  rw [Fin.sum_univ_add (a := 64) (b := 64)]
  have h0 : ∀ e : Fin 64, hd (Fin.castAdd 64 e) = 0 := fun e => if_pos e.isLt
  have h1 : ∀ e : Fin 64, hd (Fin.natAdd 64 e) = 1 := fun e => if_neg (by simp)
  simp only [h0, h1]
  rcases Nat.mod_two_eq_zero_or_one h.val with hh | hh
  · have e0 : (⟨h.val % 2, Nat.mod_lt _ (by norm_num)⟩ : Fin 2) = 0 := Fin.ext hh
    rw [e0]
    simp only [if_true, one_ne_zero, if_false, Finset.sum_const_zero, add_zero]
    exact Finset.sum_congr rfl fun e _ => term e _ (by rw [hh]; simp)
  · have e1 : (⟨h.val % 2, Nat.mod_lt _ (by norm_num)⟩ : Fin 2) = 1 := Fin.ext hh
    rw [e1]
    simp only [if_true, zero_ne_one, if_false, Finset.sum_const_zero, zero_add]
    exact Finset.sum_congr rfl fun e _ => term e _ (by rw [hh]; simp [add_comm])

/-- Whether query `i` of block `n` sees the key at place `j` of the block before and its own: at most 128 places
    back, and not before the first. -/
def Sees (n i j : ℕ) : Prop := (j ≤ i + 128 ∧ i ≤ j) ∧ 128 ≤ n * 128 + j

instance (n i j : ℕ) : Decidable (Sees n i j) := by unfold Sees; infer_instance

/-- The row of the key at place `j`. -/
def kpos (d r n j : ℕ) : ℕ := (n * 128 + j - 128) * d + r

theorem sees_window (d r n i : ℕ) (hr : r < d) (hi : i < 128) (f : ℕ → EReal) :
    (∑ j : Fin 256, if Sees n i j.val then f (kpos d r n j.val) else 0) = wsum d ((n * 128 + i) * d + r) f := by
  rw [← Finset.sum_range (fun j => if Sees n i j then f (kpos d r n j) else 0)]
  unfold wsum Sees kpos
  rw [← Finset.sum_filter, ← Finset.sum_filter]
  have key : ∀ j, j * d ≤ (n * 128 + i) * d + r ↔ j ≤ n * 128 + i := fun j => by
    constructor
    · intro hle
      by_contra hc
      have : (n * 128 + i + 1) * d ≤ j * d := Nat.mul_le_mul_right d (by omega)
      rw [Nat.add_mul (n * 128 + i) 1, Nat.one_mul] at this
      omega
    · intro hle
      have : j * d ≤ (n * 128 + i) * d := Nat.mul_le_mul_right d hle
      omega
  refine Finset.sum_nbij' (fun j => i + 128 - j) (fun j => i + 128 - j) ?_ ?_ ?_ ?_ ?_
  · intro j hj
    simp only [Finset.mem_filter, Finset.mem_range] at hj ⊢
    exact ⟨by omega, (key _).2 (by omega)⟩
  · intro j hj
    simp only [Finset.mem_filter, Finset.mem_range] at hj ⊢
    have := (key j).1 hj.2
    omega
  · intro j hj
    simp only [Finset.mem_filter, Finset.mem_range] at hj
    omega
  · intro j hj
    simp only [Finset.mem_filter, Finset.mem_range] at hj
    omega
  · intro j hj
    simp only [Finset.mem_filter, Finset.mem_range] at hj
    congr 1
    have e : n * 128 + j - 128 = n * 128 + i - (i + 128 - j) := by omega
    have : (i + 128 - j) * d ≤ (n * 128 + i) * d := Nat.mul_le_mul_right d (by omega)
    rw [e, Nat.sub_mul]
    omega

theorem sees_top (d r n i : ℕ) (hr : r < d) (hi : i < 128) (s : ℕ → EReal) :
    Finset.fold max (⊥ : EReal) (fun j : Fin 256 => if Sees n i j.val then s (kpos d r n j.val) else ⊥) Finset.univ
      = wtop d ((n * 128 + i) * d + r) s := by
  have key : ∀ j, j * d ≤ (n * 128 + i) * d + r ↔ j ≤ n * 128 + i := fun j => by
    constructor
    · intro hle
      by_contra hc
      have : (n * 128 + i + 1) * d ≤ j * d := Nat.mul_le_mul_right d (by omega)
      rw [Nat.add_mul (n * 128 + i) 1, Nat.one_mul] at this
      omega
    · intro hle
      have : j * d ≤ (n * 128 + i) * d := Nat.mul_le_mul_right d hle
      omega
  have back : ∀ j, j ≤ 128 → j ≤ n * 128 + i → kpos d r n (i + 128 - j) = (n * 128 + i) * d + r - j * d := fun j hj h => by
    unfold kpos
    have e : n * 128 + (i + 128 - j) - 128 = n * 128 + i - j := by omega
    have : j * d ≤ (n * 128 + i) * d := Nat.mul_le_mul_right d h
    rw [e, Nat.sub_mul]
    omega
  refine eq_of_forall_ge_iff fun c => ?_
  rw [wtop_le, Finset.fold_max_le]
  constructor
  · rintro ⟨-, hc⟩ j hj hjt
    have hjn := (key j).1 hjt
    have := hc ⟨i + 128 - j, by omega⟩ (Finset.mem_univ _)
    dsimp only at this
    rwa [if_pos ⟨⟨by omega, by omega⟩, by omega⟩, back j hj hjn] at this
  · refine fun hc => ⟨bot_le, fun j _ => ?_⟩
    split
    · rename_i hs
      obtain ⟨⟨h1, h2⟩, h3⟩ := hs
      have := hc (i + 128 - j.val) (by omega) ((key _).2 (by omega))
      rwa [← back _ (by omega) (by omega), show i + 128 - (i + 128 - j.val) = j.val by omega] at this
    · exact bot_le

/-- One query's row: its maximum, and the two sums, over its window. -/
theorem ref_row (d r n i : ℕ) (hr : r < d) (hi : i < 128) (s : ℕ → EReal) (M : Fin 256 → EReal)
    (hM : ∀ j, M j = if Sees n i j.val then s (kpos d r n j.val) else ⊥) :
    Finset.fold max (⊥ : EReal) M Finset.univ = wtop d ((n * 128 + i) * d + r) s
      ∧ ∀ μ : EReal, (∑ j, Ideal.exp (M j - μ)) = wsum d ((n * 128 + i) * d + r) (fun t' => Ideal.exp (s t' - μ))
      ∧ ∀ (v : ℕ → EReal) (W : Fin 256 → EReal) (_ : ∀ j, Sees n i j.val → W j = v (kpos d r n j.val)),
        (∑ j, Ideal.exp (M j - μ) * W j) = wsum d ((n * 128 + i) * d + r) fun t' => Ideal.exp (s t' - μ) * v t' := by
  obtain rfl : M = _ := funext hM
  refine ⟨sees_top d r n i hr hi s, fun μ => ⟨?_, fun v W hW => ?_⟩⟩
  · rw [← sees_window d r n i hr hi]
    exact Finset.sum_congr rfl fun j _ => weight_at _ _ _
  · rw [← sees_window d r n i hr hi]
    refine Finset.sum_congr rfl fun j _ => ?_
    rw [weight_at]
    by_cases hs : Sees n i j.val
    · rw [if_pos hs, if_pos hs, hW j hs]
    · rw [if_neg hs, if_neg hs, zero_mul]

/-- One masked score: the scaled sum of products where the key is seen. -/
theorem ref_score (d r n i : ℕ) (q k : Fin 4096 → Fin 512 → EReal) (h : Fin 8) (t : ℕ) (Q K : Fin 64 → EReal) (w : BitVec 1) (j : ℕ)
    (hw : w = if Sees n i j then 1#1 else 0#1) (hQ : ∀ e, Q e = (hrow q h t e))
    (hK : Sees n i j → ∀ e, K e = (hrow k h (kpos d r n j) e)) :
    Scalar.select w ((∑ e, Q e * K e) * Ideal.ofBits .f32 1040187392#32) (Ideal.ofBits .f32 4286578688#32)
      = if Sees n i j then (rs q k h t (kpos d r n j)) else ⊥ := by
  by_cases hs : Sees n i j
  · rw [hw, if_pos hs, if_pos hs]
    show (∑ e, Q e * K e) * Ideal.ofBits .f32 1040187392#32 = _
    have e8 : Ideal.ofBits .f32 1040187392#32 = ((1 / 8 : ℝ) : EReal) := by
      simp [Ideal.ofBits, Ideal.ieee, -EReal.coe_mul]
      norm_num
    rw [e8, Finset.sum_congr rfl fun e _ => by rw [hQ e, hK hs e]]
    rfl
  · rw [hw, if_neg hs, if_neg hs]
    show Ideal.ofBits .f32 4286578688#32 = ⊥
    rfl

/-- An entry of an array, as an entry of a head's row. -/
theorem arr_at (a : Fin 4096 → Fin 512 → EReal) (t : Fin 4096) (x : Fin 512) (h : Fin 8) (t' : ℕ) (e : Fin 64)
    (ht : t.val = t' % 4096) (hx : x.val = h.val * 64 + e.val) : arr a (ix2 t x) = (hrow a h t' e) := by
  show (a t x) = (hrow a h t' e)
  unfold hrow
  congr 1
  · exact Fin.ext ht
  · exact Fin.ext (by dsimp only; omega)

/-- The words that say whether a key is seen. -/
theorem add_word (a b : ℕ) : IntOp.addi (BitVec.ofNat 32 a) (BitVec.ofNat 32 b) = BitVec.ofNat 32 (a + b) := (BitVec.ofNat_add a b).symm
theorem mul_word (a b : ℕ) : IntOp.muli (BitVec.ofNat 32 a) (BitVec.ofNat 32 b) = BitVec.ofNat 32 (a * b) := (BitVec.ofNat_mul a b).symm

theorem first_word : ∀ n : Fin 4352, IntOp.cmpi CmpIPredicate.sge (BitVec.ofInt 32 ((n.val : ℤ) - 128)) 0#32
    = if 128 ≤ n.val then 1#1 else 0#1 := by
  decide +kernel

theorem sees_word (n : Fin 32) (i : Fin 128) (j : Fin 256) :
    IntOp.andi
      (IntOp.andi
        (IntOp.cmpi CmpIPredicate.sge (IntOp.subi (IntOp.addi (BitVec.ofNat 32 i.val) 128#32) (BitVec.ofNat 32 j.val)) 0#32)
        (IntOp.cmpi CmpIPredicate.sle (IntOp.subi (IntOp.addi (BitVec.ofNat 32 i.val) 128#32) (BitVec.ofNat 32 j.val)) 128#32))
      (IntOp.cmpi CmpIPredicate.sge
        (IntOp.subi (IntOp.addi (IntOp.muli (BitVec.ofNat 32 n.val) 128#32) (BitVec.ofNat 32 j.val)) 128#32) 0#32)
    = if Sees n.val i.val j.val then 1#1 else 0#1 := by
  have h := near_word ⟨i.val + 128 + 255 - j.val, by omega⟩
  have e : (((i.val + 128 + 255 - j.val : ℕ) : ℤ) - 255) = ((i.val + 128 : ℕ) : ℤ) - j.val := by omega
  simp only [e] at h
  have g := first_word ⟨n.val * 128 + j.val, by omega⟩
  rw [add_word, sub_word, h, mul_word, add_word, sub_word]
  rw [show ((n.val * 128 + j.val : ℕ) : ℤ) - ((128 : ℕ) : ℤ) = ((n.val * 128 + j.val : ℕ) : ℤ) - 128 from rfl, g]
  have tt : ∀ (p q : Prop) [Decidable p] [Decidable q], IntOp.andi (if p then 1#1 else 0#1) (if q then 1#1 else 0#1) = if p ∧ q then 1#1 else 0#1 := by
    intro p q _ _
    by_cases hp : p <;> by_cases hq : q <;> simp [hp, hq, IntOp.andi]
  rw [tt]
  refine if_congr ?_ rfl rfl
  unfold Sees
  dsimp only
  constructor <;> intro h <;> omega

end Step.Att
-- ==== Proof.AttnRef1.lean ====
/- The reference's values at dilation 1: one query's row. -/
module

public import proofs.«01_k».proof.Proof.AttnRefMath
public import proofs.«01_k».proof.Proof.Gen.AttnRefIdeal.Read

@[expose] public section

set_option maxRecDepth 4096

noncomputable section

namespace Step.Att.D1

open Idealize.ShloMosaic Idealize.ShloMosaic.TcCoe Step Cert.AttnRefIdeal Cert.AttnRefIdeal.Read

variable (q k v : Fin 4096 → Fin 512 → EReal) (h : Fin 8) (r : Fin 1) (n : Fin 32) (i : Fin 128) (j : Fin 256)

/-- The queries, 32 blocks of 128 in each of 1 classes. -/
theorem query (e : Fin 64) : (val_main_v9 (F := Ideal) (arr q) : S8x1x32x128x64.Idx → EReal) (ix5 h r n i e)
    = (hrow q h ((n.val * 128 + i.val) * 1 + r.val) e) := by
  pointwise [val_main_v9, val_main_v8, val_main_cst, val_main_v7, val_main_v6, val_main_v1, val_main_v0]
  rw [dif_pos (by omega)]
  exact arr_at q _ _ h _ e (by dsimp only; omega) rfl

/-- The keys a block of queries is given, where they are seen. -/
theorem keys (hs : Sees n.val i.val j.val) (e : Fin 64) : (val_main_v18 (F := Ideal) (arr k) : S8x1x32x256x64.Idx → EReal) (ix5 h r n j e)
    = (hrow k h (kpos 1 r.val n.val j.val) e) := by
  obtain ⟨⟨h1, h2⟩, h3⟩ := hs
  pointwise [val_main_v18, val_main_v13, val_main_v12, val_main_cst_0, val_main_v11, val_main_v10, val_main_v3, val_main_v2, val_main_v17, val_main_v16, val_main_v15, val_main_cst_1]
  split_ifs <;> first
    | (exfalso; omega)
    | exact arr_at k _ _ h _ e (by dsimp only [kpos]; omega) rfl

/-- The values beside those keys. -/
theorem values (hs : Sees n.val i.val j.val) (e : Fin 64) : (val_main_v27 (F := Ideal) (arr v) : S8x1x32x256x64.Idx → EReal) (ix5 h r n j e)
    = (hrow v h (kpos 1 r.val n.val j.val) e) := by
  obtain ⟨⟨h1, h2⟩, h3⟩ := hs
  pointwise [val_main_v27, val_main_v22, val_main_v21, val_main_cst_2, val_main_v20, val_main_v19, val_main_v5, val_main_v4, val_main_v26, val_main_v25, val_main_v24, val_main_cst_3]
  split_ifs <;> first
    | (exfalso; omega)
    | exact arr_at v _ _ h _ e (by dsimp only [kpos]; omega) rfl

theorem mask : (val_main_v60 (F := Ideal) : S32x128x256.Idx → BitVec 1) (ix3 n i j) = if Sees n.val i.val j.val then 1#1 else 0#1 := by
  rw [← sees_word ⟨n.val, by omega⟩]
  pointwise [val_main_v60, val_main_v59, val_main_v56, val_main_v55, val_main_c_9, val_main_v49, val_main_v48, val_main_c_6, val_main_v47, val_main_v46, val_main_v44, val_main_v34, val_main_v33, val_main_v45, val_main_v43, val_main_v42, val_main_c_5, val_main_v41, val_main_v40, val_main_v58, val_main_v57, val_main_v54, val_main_v53, val_main_v52, val_main_c_8, val_main_v39, val_main_v38, val_main_v37, val_main_v36, val_main_v35, val_main_c, val_main_v32, val_main_v31, val_main_v51, val_main_v50, val_main_c_7]

theorem score : (val_main_v61 (F := Ideal) (arr q) (arr k) : S8x1x32x128x256.Idx → EReal) (ix5 h r n i j)
    = if Sees n.val i.val j.val then (rs q k h ((n.val * 128 + i.val) * 1 + r.val) (kpos 1 r.val n.val j.val)) else ⊥ := by
  rw [← ref_score 1 r.val n.val i.val q k h ((n.val * 128 + i.val) * 1 + r.val) _ _ _ j.val (mask n i j) (query q h r n i) fun hs => keys k h r n i j hs]
  pointwise [val_main_v61, val_main_call0_v2, val_main_call0_v0, val_main_cst_10, val_main_v30, val_main_v29, val_main_cst_4, val_main_v28, val_main_call0_v1]
  rfl

theorem weight : (val_main_v66 (F := Ideal) (arr q) (arr k) : S8x1x32x128x256.Idx → EReal) (ix5 h r n i j)
    = Ideal.exp ((val_main_v61 (F := Ideal) (arr q) (arr k) : S8x1x32x128x256.Idx → EReal) (ix5 h r n i j)
      - Finset.fold max (⊥ : EReal) (fun j => (val_main_v61 (F := Ideal) (arr q) (arr k) : S8x1x32x128x256.Idx → EReal) (ix5 h r n i j)) Finset.univ) := by
  obtain rfl : r = 0 := Subsingleton.elim r 0
  pointwise [val_main_v66, val_main_v65, val_main_v64, val_main_v63, val_main_v62, val_main_cst_11]
  rfl

/-- One row of the reference at this dilation: the maximum and the two sums over the row's window. -/
theorem rows (t : Fin 4096) : ∃ μ : EReal, μ = wtop 1 t.val (rs q k h t.val) ∧ (val_main_v74 (F := Ideal) (arr q) (arr k) : S8x4096.Idx → EReal) (ix2 h t) = (μ)
    ∧ (val_main_v77 (F := Ideal) (arr q) (arr k) : S8x4096.Idx → EReal) (ix2 h t)
      = (wsum 1 t.val fun t' => Ideal.exp (rs q k h t.val t' - μ))
    ∧ ∀ e, (val_main_v71 (F := Ideal) (arr q) (arr k) (arr v) : S8x4096x64.Idx → EReal) (ix3 h t e)
      = (wsum 1 t.val fun t' => Ideal.exp (rs q k h t.val t' - μ) * hrow v h t' e) := by
  let r : Fin 1 := 0
  let n : Fin 32 := ⟨t.val / 128, by omega⟩
  let i : Fin 128 := ⟨t.val % 128, Nat.mod_lt _ (by norm_num)⟩
  have ht : (n.val * 128 + i.val) * 1 + r.val = t.val := by
    show (t.val / 128 * 128 + t.val % 128) * 1 + 0 = t.val
    omega
  obtain ⟨hμ, hdn⟩ := ref_row 1 r.val n.val i.val r.isLt i.isLt (rs q k h t.val)
    (fun j => (val_main_v61 (F := Ideal) (arr q) (arr k) : S8x1x32x128x256.Idx → EReal) (ix5 h r n i j)) (fun j => by rw [score, ht])
  rw [ht] at hμ hdn
  obtain ⟨μ, hp⟩ : ∃ μ, μ = wtop 1 t.val (rs q k h t.val) := ⟨_, rfl⟩
  rw [← hp] at hμ
  obtain ⟨hd, hn⟩ := hdn μ
  have hw : ∀ j, (val_main_v66 (F := Ideal) (arr q) (arr k) : S8x1x32x128x256.Idx → EReal) (ix5 h r n i j)
      = Ideal.exp ((val_main_v61 (F := Ideal) (arr q) (arr k) : S8x1x32x128x256.Idx → EReal) (ix5 h r n i j) - (μ)) := fun j => by
    rw [weight, hμ]
  refine ⟨μ, hp, hμ ▸ ?_, hd ▸ ?_, fun e => ?_⟩
  · pointwise [val_main_v74, val_main_v73, val_main_v72, val_main_v62, val_main_cst_11]
    rfl
  · simp only [← hw]
    pointwise [val_main_v77, val_main_v76, val_main_v75, val_main_v67, val_main_cst_12]
    rfl
  · rw [← hn (fun t' => hrow v h t' e) (fun j => (val_main_v27 (F := Ideal) (arr v) : S8x1x32x256x64.Idx → EReal) (ix5 h r n j e)) fun j hs => values v h r n i j hs e]
    simp only [← hw]
    pointwise [val_main_v71, val_main_v70, val_main_v69, val_main_v68]
    rfl

end Step.Att.D1
-- ==== Proof.AttnRef4.lean ====
/- The reference's values at dilation 4: one query's row. -/
module

public import proofs.«01_k».proof.Proof.AttnRefMath
public import proofs.«01_k».proof.Proof.Gen.AttnRefIdeal.Read

@[expose] public section

set_option maxRecDepth 4096

noncomputable section

namespace Step.Att.D4

open Idealize.ShloMosaic Idealize.ShloMosaic.TcCoe Step Cert.AttnRefIdeal Cert.AttnRefIdeal.Read

variable (q k v : Fin 4096 → Fin 512 → EReal) (h : Fin 8) (r : Fin 4) (n : Fin 8) (i : Fin 128) (j : Fin 256)

/-- The queries, 8 blocks of 128 in each of 4 classes. -/
theorem query (e : Fin 64) : (val_main_v81 (F := Ideal) (arr q) : S8x4x8x128x64.Idx → EReal) (ix5 h r n i e)
    = (hrow q h ((n.val * 128 + i.val) * 4 + r.val) e) := by
  pointwise [val_main_v81, val_main_v80, val_main_cst_13, val_main_v79, val_main_v78, val_main_v1, val_main_v0]
  rw [dif_pos (by omega)]
  exact arr_at q _ _ h _ e (by dsimp only; omega) rfl

/-- The keys a block of queries is given, where they are seen. -/
theorem keys (hs : Sees n.val i.val j.val) (e : Fin 64) : (val_main_v90 (F := Ideal) (arr k) : S8x4x8x256x64.Idx → EReal) (ix5 h r n j e)
    = (hrow k h (kpos 4 r.val n.val j.val) e) := by
  obtain ⟨⟨h1, h2⟩, h3⟩ := hs
  pointwise [val_main_v90, val_main_v85, val_main_v84, val_main_cst_14, val_main_v83, val_main_v82, val_main_v3, val_main_v2, val_main_v89, val_main_v88, val_main_v87, val_main_cst_15]
  split_ifs <;> first
    | (exfalso; omega)
    | exact arr_at k _ _ h _ e (by dsimp only [kpos]; omega) rfl

/-- The values beside those keys. -/
theorem values (hs : Sees n.val i.val j.val) (e : Fin 64) : (val_main_v99 (F := Ideal) (arr v) : S8x4x8x256x64.Idx → EReal) (ix5 h r n j e)
    = (hrow v h (kpos 4 r.val n.val j.val) e) := by
  obtain ⟨⟨h1, h2⟩, h3⟩ := hs
  pointwise [val_main_v99, val_main_v94, val_main_v93, val_main_cst_16, val_main_v92, val_main_v91, val_main_v5, val_main_v4, val_main_v98, val_main_v97, val_main_v96, val_main_cst_17]
  split_ifs <;> first
    | (exfalso; omega)
    | exact arr_at v _ _ h _ e (by dsimp only [kpos]; omega) rfl

theorem mask : (val_main_v132 (F := Ideal) : S8x128x256.Idx → BitVec 1) (ix3 n i j) = if Sees n.val i.val j.val then 1#1 else 0#1 := by
  rw [← sees_word ⟨n.val, by omega⟩]
  pointwise [val_main_v132, val_main_v131, val_main_v128, val_main_v127, val_main_c_24, val_main_v121, val_main_v120, val_main_c_21, val_main_v119, val_main_v118, val_main_v116, val_main_v106, val_main_v105, val_main_v117, val_main_v115, val_main_v114, val_main_c_20, val_main_v113, val_main_v112, val_main_v130, val_main_v129, val_main_v126, val_main_v125, val_main_v124, val_main_c_23, val_main_v111, val_main_v110, val_main_v109, val_main_v108, val_main_v107, val_main_c_19, val_main_v104, val_main_v103, val_main_v123, val_main_v122, val_main_c_22]

theorem score : (val_main_v133 (F := Ideal) (arr q) (arr k) : S8x4x8x128x256.Idx → EReal) (ix5 h r n i j)
    = if Sees n.val i.val j.val then (rs q k h ((n.val * 128 + i.val) * 4 + r.val) (kpos 4 r.val n.val j.val)) else ⊥ := by
  rw [← ref_score 4 r.val n.val i.val q k h ((n.val * 128 + i.val) * 4 + r.val) _ _ _ j.val (mask n i j) (query q h r n i) fun hs => keys k h r n i j hs]
  pointwise [val_main_v133, val_main_call1_v2, val_main_call1_v0, val_main_cst_25, val_main_v102, val_main_v101, val_main_cst_18, val_main_v100, val_main_call1_v1]
  rfl

theorem weight : (val_main_v138 (F := Ideal) (arr q) (arr k) : S8x4x8x128x256.Idx → EReal) (ix5 h r n i j)
    = Ideal.exp ((val_main_v133 (F := Ideal) (arr q) (arr k) : S8x4x8x128x256.Idx → EReal) (ix5 h r n i j)
      - Finset.fold max (⊥ : EReal) (fun j => (val_main_v133 (F := Ideal) (arr q) (arr k) : S8x4x8x128x256.Idx → EReal) (ix5 h r n i j)) Finset.univ) := by
  pointwise [val_main_v138, val_main_v137, val_main_v136, val_main_v135, val_main_v134, val_main_cst_26]
  rfl

/-- One row of the reference at this dilation: the maximum and the two sums over the row's window. -/
theorem rows (t : Fin 4096) : ∃ μ : EReal, μ = wtop 4 t.val (rs q k h t.val) ∧ (val_main_v146 (F := Ideal) (arr q) (arr k) : S8x4096.Idx → EReal) (ix2 h t) = (μ)
    ∧ (val_main_v149 (F := Ideal) (arr q) (arr k) : S8x4096.Idx → EReal) (ix2 h t)
      = (wsum 4 t.val fun t' => Ideal.exp (rs q k h t.val t' - μ))
    ∧ ∀ e, (val_main_v143 (F := Ideal) (arr q) (arr k) (arr v) : S8x4096x64.Idx → EReal) (ix3 h t e)
      = (wsum 4 t.val fun t' => Ideal.exp (rs q k h t.val t' - μ) * hrow v h t' e) := by
  let r : Fin 4 := ⟨t.val % 4, Nat.mod_lt _ (by norm_num)⟩
  let n : Fin 8 := ⟨t.val / 4 / 128, by omega⟩
  let i : Fin 128 := ⟨t.val / 4 % 128, Nat.mod_lt _ (by norm_num)⟩
  have ht : (n.val * 128 + i.val) * 4 + r.val = t.val := by
    show (t.val / 4 / 128 * 128 + t.val / 4 % 128) * 4 + t.val % 4 = t.val
    omega
  obtain ⟨hμ, hdn⟩ := ref_row 4 r.val n.val i.val r.isLt i.isLt (rs q k h t.val)
    (fun j => (val_main_v133 (F := Ideal) (arr q) (arr k) : S8x4x8x128x256.Idx → EReal) (ix5 h r n i j)) (fun j => by rw [score, ht])
  rw [ht] at hμ hdn
  obtain ⟨μ, hp⟩ : ∃ μ, μ = wtop 4 t.val (rs q k h t.val) := ⟨_, rfl⟩
  rw [← hp] at hμ
  obtain ⟨hd, hn⟩ := hdn μ
  have hw : ∀ j, (val_main_v138 (F := Ideal) (arr q) (arr k) : S8x4x8x128x256.Idx → EReal) (ix5 h r n i j)
      = Ideal.exp ((val_main_v133 (F := Ideal) (arr q) (arr k) : S8x4x8x128x256.Idx → EReal) (ix5 h r n i j) - (μ)) := fun j => by
    rw [weight, hμ]
  refine ⟨μ, hp, hμ ▸ ?_, hd ▸ ?_, fun e => ?_⟩
  · pointwise [val_main_v146, val_main_v145, val_main_v144, val_main_v134, val_main_cst_26]
    rfl
  · simp only [← hw]
    pointwise [val_main_v149, val_main_v148, val_main_v147, val_main_v139, val_main_cst_27]
    rfl
  · rw [← hn (fun t' => hrow v h t' e) (fun j => (val_main_v99 (F := Ideal) (arr v) : S8x4x8x256x64.Idx → EReal) (ix5 h r n j e)) fun j hs => values v h r n i j hs e]
    simp only [← hw]
    pointwise [val_main_v143, val_main_v142, val_main_v141, val_main_v140]
    rfl

end Step.Att.D4
-- ==== Proof.AttnRef16.lean ====
/- The reference's values at dilation 16: one query's row. -/
module

public import proofs.«01_k».proof.Proof.AttnRefMath
public import proofs.«01_k».proof.Proof.Gen.AttnRefIdeal.Read

@[expose] public section

set_option maxRecDepth 4096

noncomputable section

namespace Step.Att.D16

open Idealize.ShloMosaic Idealize.ShloMosaic.TcCoe Step Cert.AttnRefIdeal Cert.AttnRefIdeal.Read

variable (q k v : Fin 4096 → Fin 512 → EReal) (h : Fin 8) (r : Fin 16) (n : Fin 2) (i : Fin 128) (j : Fin 256)

/-- The queries, 2 blocks of 128 in each of 16 classes. -/
theorem query (e : Fin 64) : (val_main_v153 (F := Ideal) (arr q) : S8x16x2x128x64.Idx → EReal) (ix5 h r n i e)
    = (hrow q h ((n.val * 128 + i.val) * 16 + r.val) e) := by
  pointwise [val_main_v153, val_main_v152, val_main_cst_28, val_main_v151, val_main_v150, val_main_v1, val_main_v0]
  rw [dif_pos (by omega)]
  exact arr_at q _ _ h _ e (by dsimp only; omega) rfl

/-- The keys a block of queries is given, where they are seen. -/
theorem keys (hs : Sees n.val i.val j.val) (e : Fin 64) : (val_main_v162 (F := Ideal) (arr k) : S8x16x2x256x64.Idx → EReal) (ix5 h r n j e)
    = (hrow k h (kpos 16 r.val n.val j.val) e) := by
  obtain ⟨⟨h1, h2⟩, h3⟩ := hs
  pointwise [val_main_v162, val_main_v157, val_main_v156, val_main_cst_29, val_main_v155, val_main_v154, val_main_v3, val_main_v2, val_main_v161, val_main_v160, val_main_v159, val_main_cst_30]
  split_ifs <;> first
    | (exfalso; omega)
    | exact arr_at k _ _ h _ e (by dsimp only [kpos]; omega) rfl

/-- The values beside those keys. -/
theorem values (hs : Sees n.val i.val j.val) (e : Fin 64) : (val_main_v171 (F := Ideal) (arr v) : S8x16x2x256x64.Idx → EReal) (ix5 h r n j e)
    = (hrow v h (kpos 16 r.val n.val j.val) e) := by
  obtain ⟨⟨h1, h2⟩, h3⟩ := hs
  pointwise [val_main_v171, val_main_v166, val_main_v165, val_main_cst_31, val_main_v164, val_main_v163, val_main_v5, val_main_v4, val_main_v170, val_main_v169, val_main_v168, val_main_cst_32]
  split_ifs <;> first
    | (exfalso; omega)
    | exact arr_at v _ _ h _ e (by dsimp only [kpos]; omega) rfl

theorem mask : (val_main_v204 (F := Ideal) : S2x128x256.Idx → BitVec 1) (ix3 n i j) = if Sees n.val i.val j.val then 1#1 else 0#1 := by
  rw [← sees_word ⟨n.val, by omega⟩]
  pointwise [val_main_v204, val_main_v203, val_main_v200, val_main_v199, val_main_c_39, val_main_v193, val_main_v192, val_main_c_36, val_main_v191, val_main_v190, val_main_v188, val_main_v178, val_main_v177, val_main_v189, val_main_v187, val_main_v186, val_main_c_35, val_main_v185, val_main_v184, val_main_v202, val_main_v201, val_main_v198, val_main_v197, val_main_v196, val_main_c_38, val_main_v183, val_main_v182, val_main_v181, val_main_v180, val_main_v179, val_main_c_34, val_main_v176, val_main_v175, val_main_v195, val_main_v194, val_main_c_37]

theorem score : (val_main_v205 (F := Ideal) (arr q) (arr k) : S8x16x2x128x256.Idx → EReal) (ix5 h r n i j)
    = if Sees n.val i.val j.val then (rs q k h ((n.val * 128 + i.val) * 16 + r.val) (kpos 16 r.val n.val j.val)) else ⊥ := by
  rw [← ref_score 16 r.val n.val i.val q k h ((n.val * 128 + i.val) * 16 + r.val) _ _ _ j.val (mask n i j) (query q h r n i) fun hs => keys k h r n i j hs]
  pointwise [val_main_v205, val_main_call2_v2, val_main_call2_v0, val_main_cst_40, val_main_v174, val_main_v173, val_main_cst_33, val_main_v172, val_main_call2_v1]
  rfl

theorem weight : (val_main_v210 (F := Ideal) (arr q) (arr k) : S8x16x2x128x256.Idx → EReal) (ix5 h r n i j)
    = Ideal.exp ((val_main_v205 (F := Ideal) (arr q) (arr k) : S8x16x2x128x256.Idx → EReal) (ix5 h r n i j)
      - Finset.fold max (⊥ : EReal) (fun j => (val_main_v205 (F := Ideal) (arr q) (arr k) : S8x16x2x128x256.Idx → EReal) (ix5 h r n i j)) Finset.univ) := by
  pointwise [val_main_v210, val_main_v209, val_main_v208, val_main_v207, val_main_v206, val_main_cst_41]
  rfl

/-- One row of the reference at this dilation: the maximum and the two sums over the row's window. -/
theorem rows (t : Fin 4096) : ∃ μ : EReal, μ = wtop 16 t.val (rs q k h t.val) ∧ (val_main_v218 (F := Ideal) (arr q) (arr k) : S8x4096.Idx → EReal) (ix2 h t) = (μ)
    ∧ (val_main_v221 (F := Ideal) (arr q) (arr k) : S8x4096.Idx → EReal) (ix2 h t)
      = (wsum 16 t.val fun t' => Ideal.exp (rs q k h t.val t' - μ))
    ∧ ∀ e, (val_main_v215 (F := Ideal) (arr q) (arr k) (arr v) : S8x4096x64.Idx → EReal) (ix3 h t e)
      = (wsum 16 t.val fun t' => Ideal.exp (rs q k h t.val t' - μ) * hrow v h t' e) := by
  let r : Fin 16 := ⟨t.val % 16, Nat.mod_lt _ (by norm_num)⟩
  let n : Fin 2 := ⟨t.val / 16 / 128, by omega⟩
  let i : Fin 128 := ⟨t.val / 16 % 128, Nat.mod_lt _ (by norm_num)⟩
  have ht : (n.val * 128 + i.val) * 16 + r.val = t.val := by
    show (t.val / 16 / 128 * 128 + t.val / 16 % 128) * 16 + t.val % 16 = t.val
    omega
  obtain ⟨hμ, hdn⟩ := ref_row 16 r.val n.val i.val r.isLt i.isLt (rs q k h t.val)
    (fun j => (val_main_v205 (F := Ideal) (arr q) (arr k) : S8x16x2x128x256.Idx → EReal) (ix5 h r n i j)) (fun j => by rw [score, ht])
  rw [ht] at hμ hdn
  obtain ⟨μ, hp⟩ : ∃ μ, μ = wtop 16 t.val (rs q k h t.val) := ⟨_, rfl⟩
  rw [← hp] at hμ
  obtain ⟨hd, hn⟩ := hdn μ
  have hw : ∀ j, (val_main_v210 (F := Ideal) (arr q) (arr k) : S8x16x2x128x256.Idx → EReal) (ix5 h r n i j)
      = Ideal.exp ((val_main_v205 (F := Ideal) (arr q) (arr k) : S8x16x2x128x256.Idx → EReal) (ix5 h r n i j) - (μ)) := fun j => by
    rw [weight, hμ]
  refine ⟨μ, hp, hμ ▸ ?_, hd ▸ ?_, fun e => ?_⟩
  · pointwise [val_main_v218, val_main_v217, val_main_v216, val_main_v206, val_main_cst_41]
    rfl
  · simp only [← hw]
    pointwise [val_main_v221, val_main_v220, val_main_v219, val_main_v211, val_main_cst_42]
    rfl
  · rw [← hn (fun t' => hrow v h t' e) (fun j => (val_main_v171 (F := Ideal) (arr v) : S8x16x2x256x64.Idx → EReal) (ix5 h r n j e)) fun j hs => values v h r n i j hs e]
    simp only [← hw]
    pointwise [val_main_v215, val_main_v214, val_main_v213, val_main_v212]
    rfl

end Step.Att.D16
-- ==== Proof.AttnRefOut.lean ====
/- The reference's three results: the three dilations under one maximum. -/
module

public import proofs.«01_k».proof.Proof.AttnRef1
public import proofs.«01_k».proof.Proof.AttnRef4
public import proofs.«01_k».proof.Proof.AttnRef16

@[expose] public section

set_option maxRecDepth 4096

noncomputable section

namespace Step.Att

open Idealize.ShloMosaic Idealize.ShloMosaic.TcCoe Step Cert.AttnRefIdeal Cert.AttnRefIdeal.Read

theorem tot_three (t : ℕ) (f : ℕ → EReal) : wsum 1 t f + wsum 4 t f + wsum 16 t f = tot [16, 4, 1] t f := by
  rw [← tot_rev]
  simp only [tot, List.map_cons, List.map_nil, List.sum_cons, List.sum_nil, add_zero]
  exact add_assoc _ _ _

variable (q k v : Fin 4096 → Fin 512 → EReal) (h : Fin 8) (t : Fin 4096)

theorem ext_ix {a b : ℕ} {f g : (⟨2, ![a, b]⟩ : Shape).Idx → EReal} (h : ∀ r x, f (ix2 r x) = g (ix2 r x)) : f = g :=
  funext fun j => by rw [eq_ix2 j]; exact h _ _

theorem top_at (x y : S4096x512.Idx → EReal) : (val_main_v226 (F := Ideal) x y : S8x4096.Idx → EReal) (ix2 h t)
    = max ((val_main_v74 (F := Ideal) x y : S8x4096.Idx → EReal) (ix2 h t)) (max ((val_main_v146 (F := Ideal) x y : S8x4096.Idx → EReal) (ix2 h t))
      ((val_main_v218 (F := Ideal) x y : S8x4096.Idx → EReal) (ix2 h t))) := by
  pointwise [val_main_v226, val_main_cst_43, val_main_v225, val_main_v224, val_main_v223, val_main_v222]
  generalize (val_main_v74 (F := Ideal) x y : S8x4096.Idx → EReal) (ix2 h t) = a₁
  generalize (val_main_v146 (F := Ideal) x y : S8x4096.Idx → EReal) (ix2 h t) = a₄
  generalize (val_main_v218 (F := Ideal) x y : S8x4096.Idx → EReal) (ix2 h t) = a₁₆
  refine eq_of_forall_ge_iff fun c => ?_
  refine (Finset.fold_max_le c).trans ?_
  rw [max_le_iff, max_le_iff]
  constructor
  · rintro ⟨-, hc⟩
    exact ⟨hc 0 (Finset.mem_univ _), hc 1 (Finset.mem_univ _), hc 2 (Finset.mem_univ _)⟩
  · rintro ⟨h1, h4, h16⟩
    refine ⟨bot_le, fun j _ => ?_⟩
    fin_cases j
    · exact h1
    · exact h4
    · exact h16

variable (x y z : S4096x512.Idx → EReal) (e : Fin 64)

theorem shift1 : (val_main_v230 (F := Ideal) x y : S8x4096x64.Idx → EReal) (ix3 h t e) = Ideal.exp ((val_main_v74 (F := Ideal) x y : S8x4096.Idx → EReal) (ix2 h t) - (val_main_v226 (F := Ideal) x y : S8x4096.Idx → EReal) (ix2 h t)) := by
  rw [val_main_v230_apply, val_main_v229_apply, val_main_v228_apply, val_main_v227_apply]
  have ej : idx_main_v229 (idx_main_v230 (ix3 h t e)) = ix2 h t := by
    funext a
    fin_cases a <;> rfl
  rw [ej]
  generalize (val_main_v74 (F := Ideal) x y : S8x4096.Idx → EReal) (ix2 h t) = a
  generalize (val_main_v226 (F := Ideal) x y : S8x4096.Idx → EReal) (ix2 h t) = b
  rfl

theorem shift4 : (val_main_v237 (F := Ideal) x y : S8x4096x64.Idx → EReal) (ix3 h t e) = Ideal.exp ((val_main_v146 (F := Ideal) x y : S8x4096.Idx → EReal) (ix2 h t) - (val_main_v226 (F := Ideal) x y : S8x4096.Idx → EReal) (ix2 h t)) := by
  rw [val_main_v237_apply, val_main_v236_apply, val_main_v235_apply, val_main_v234_apply]
  have ej : idx_main_v236 (idx_main_v237 (ix3 h t e)) = ix2 h t := by
    funext a
    fin_cases a <;> rfl
  rw [ej]
  generalize (val_main_v146 (F := Ideal) x y : S8x4096.Idx → EReal) (ix2 h t) = a
  generalize (val_main_v226 (F := Ideal) x y : S8x4096.Idx → EReal) (ix2 h t) = b
  rfl

theorem shift16 : (val_main_v243 (F := Ideal) x y : S8x4096x64.Idx → EReal) (ix3 h t e) = Ideal.exp ((val_main_v218 (F := Ideal) x y : S8x4096.Idx → EReal) (ix2 h t) - (val_main_v226 (F := Ideal) x y : S8x4096.Idx → EReal) (ix2 h t)) := by
  rw [val_main_v243_apply, val_main_v242_apply, val_main_v241_apply, val_main_v240_apply]
  have ej : idx_main_v242 (idx_main_v243 (ix3 h t e)) = ix2 h t := by
    funext a
    fin_cases a <;> rfl
  rw [ej]
  generalize (val_main_v218 (F := Ideal) x y : S8x4096.Idx → EReal) (ix2 h t) = a
  generalize (val_main_v226 (F := Ideal) x y : S8x4096.Idx → EReal) (ix2 h t) = b
  rfl

theorem num_at : (val_main_v245 (F := Ideal) x y z : S8x4096x64.Idx → EReal) (ix3 h t e)
    = (val_main_v71 (F := Ideal) x y z : S8x4096x64.Idx → EReal) (ix3 h t e) * Ideal.exp ((val_main_v74 (F := Ideal) x y : S8x4096.Idx → EReal) (ix2 h t) - (val_main_v226 (F := Ideal) x y : S8x4096.Idx → EReal) (ix2 h t))
      + (val_main_v143 (F := Ideal) x y z : S8x4096x64.Idx → EReal) (ix3 h t e) * Ideal.exp ((val_main_v146 (F := Ideal) x y : S8x4096.Idx → EReal) (ix2 h t) - (val_main_v226 (F := Ideal) x y : S8x4096.Idx → EReal) (ix2 h t))
      + (val_main_v215 (F := Ideal) x y z : S8x4096x64.Idx → EReal) (ix3 h t e) * Ideal.exp ((val_main_v218 (F := Ideal) x y : S8x4096.Idx → EReal) (ix2 h t) - (val_main_v226 (F := Ideal) x y : S8x4096.Idx → EReal) (ix2 h t)) := by
  have z0 : (val_main_v232 (F := Ideal) : S8x4096x64.Idx → EReal) (ix3 h t e) = 0 := by
    pointwise [val_main_v232, val_main_cst_44]
  rw [← shift1 h t x y e, ← shift4 h t x y e, ← shift16 h t x y e]
  rw [val_main_v245_apply, val_main_v239_apply, val_main_v233_apply, val_main_v244_apply, val_main_v238_apply, val_main_v231_apply, z0]
  generalize (val_main_v71 (F := Ideal) x y z : S8x4096x64.Idx → EReal) (ix3 h t e) = a₁
  generalize (val_main_v143 (F := Ideal) x y z : S8x4096x64.Idx → EReal) (ix3 h t e) = a₄
  generalize (val_main_v215 (F := Ideal) x y z : S8x4096x64.Idx → EReal) (ix3 h t e) = a₁₆
  generalize (val_main_v230 (F := Ideal) x y : S8x4096x64.Idx → EReal) (ix3 h t e) = b₁
  generalize (val_main_v237 (F := Ideal) x y : S8x4096x64.Idx → EReal) (ix3 h t e) = b₄
  generalize (val_main_v243 (F := Ideal) x y : S8x4096x64.Idx → EReal) (ix3 h t e) = b₁₆
  exact congrArg (fun s : EReal => s + a₁₆ * b₁₆) (congrArg (fun s : EReal => s + a₄ * b₄) (zero_add (a₁ * b₁)))

theorem den_at : (val_main_v258 (F := Ideal) x y : S8x4096.Idx → EReal) (ix2 h t)
    = (val_main_v77 (F := Ideal) x y : S8x4096.Idx → EReal) (ix2 h t) * Ideal.exp ((val_main_v74 (F := Ideal) x y : S8x4096.Idx → EReal) (ix2 h t) - (val_main_v226 (F := Ideal) x y : S8x4096.Idx → EReal) (ix2 h t))
      + (val_main_v149 (F := Ideal) x y : S8x4096.Idx → EReal) (ix2 h t) * Ideal.exp ((val_main_v146 (F := Ideal) x y : S8x4096.Idx → EReal) (ix2 h t) - (val_main_v226 (F := Ideal) x y : S8x4096.Idx → EReal) (ix2 h t))
      + (val_main_v221 (F := Ideal) x y : S8x4096.Idx → EReal) (ix2 h t) * Ideal.exp ((val_main_v218 (F := Ideal) x y : S8x4096.Idx → EReal) (ix2 h t) - (val_main_v226 (F := Ideal) x y : S8x4096.Idx → EReal) (ix2 h t)) := by
  have z0 : (val_main_v249 (F := Ideal) : S8x4096.Idx → EReal) (ix2 h t) = 0 := by
    pointwise [val_main_v249, val_main_cst_45]
  rw [val_main_v258_apply, val_main_v254_apply, val_main_v250_apply, val_main_v257_apply, val_main_v253_apply, val_main_v248_apply, val_main_v256_apply, val_main_v252_apply, val_main_v247_apply, val_main_v255_apply, val_main_v251_apply, val_main_v246_apply, z0]
  generalize (val_main_v77 (F := Ideal) x y : S8x4096.Idx → EReal) (ix2 h t) = a₁
  generalize (val_main_v149 (F := Ideal) x y : S8x4096.Idx → EReal) (ix2 h t) = a₄
  generalize (val_main_v221 (F := Ideal) x y : S8x4096.Idx → EReal) (ix2 h t) = a₁₆
  generalize (val_main_v74 (F := Ideal) x y : S8x4096.Idx → EReal) (ix2 h t) = b₁
  generalize (val_main_v146 (F := Ideal) x y : S8x4096.Idx → EReal) (ix2 h t) = b₄
  generalize (val_main_v218 (F := Ideal) x y : S8x4096.Idx → EReal) (ix2 h t) = b₁₆
  generalize (val_main_v226 (F := Ideal) x y : S8x4096.Idx → EReal) (ix2 h t) = b
  exact congrArg (fun s : EReal => s + a₁₆ * Ideal.exp (b₁₆ - b)) (congrArg (fun s : EReal => s + a₄ * Ideal.exp (b₄ - b)) (zero_add (a₁ * Ideal.exp (b₁ - b))))

/-- The two sums of one row, against the one maximum. -/
theorem sums : ∃ μ : EReal, μ = peak [16, 4, 1] t.val (rs q k h t.val) ∧ (val_main_v226 (F := Ideal) (arr q) (arr k) : S8x4096.Idx → EReal) (ix2 h t) = μ
    ∧ (val_main_v258 (F := Ideal) (arr q) (arr k) : S8x4096.Idx → EReal) (ix2 h t)
      = (tot [16, 4, 1] t.val fun t' => Ideal.exp (rs q k h t.val t' - μ))
    ∧ ∀ e, (val_main_v245 (F := Ideal) (arr q) (arr k) (arr v) : S8x4096x64.Idx → EReal) (ix3 h t e)
      = tot [16, 4, 1] t.val fun t' => Ideal.exp (rs q k h t.val t' - μ) * hrow v h t' e := by
  obtain ⟨μ₁, p1, m1, d1, n1⟩ := D1.rows q k v h t
  obtain ⟨μ₄, p4, m4, d4, n4⟩ := D4.rows q k v h t
  obtain ⟨μ₁₆, p16, m16, d16, n16⟩ := D16.rows q k v h t
  have hm := top_at h t (arr q) (arr k)
  rw [m1, m4, m16] at hm
  obtain ⟨μ, hμ⟩ : ∃ μ, μ = max μ₁ (max μ₄ μ₁₆) := ⟨_, rfl⟩
  rw [← hμ] at hm
  have l1 : μ₁ ≤ μ := hμ ▸ le_max_left _ _
  have l4 : μ₄ ≤ μ := hμ ▸ (le_max_left _ _).trans (le_max_right _ _)
  have l16 : μ₁₆ ≤ μ := hμ ▸ (le_max_right _ _).trans (le_max_right _ _)
  have hp : μ = peak [16, 4, 1] t.val (rs q k h t.val) := by
    rw [hμ, p1, p4, p16]
    refine eq_of_forall_ge_iff fun c => ?_
    simp only [peak_cons, max_le_iff]
    have : peak [] t.val (rs q k h t.val) ≤ c := bot_le
    exact ⟨fun ⟨a, b, d⟩ => ⟨⟨⟨this, a⟩, b⟩, d⟩, fun ⟨⟨⟨_, a⟩, b⟩, d⟩ => ⟨a, b, d⟩⟩
  refine ⟨μ, hp, hm, ?_, fun e => ?_⟩
  · rw [den_at, d1, d4, d16, m1, m4, m16, hm, mul_comm, moved' _ _ _ _ _ p1.ge l1, mul_comm, moved' _ _ _ _ _ p4.ge l4, mul_comm, moved' _ _ _ _ _ p16.ge l16, tot_three]
  · rw [num_at, n1, n4, n16, m1, m4, m16, hm, mul_comm, moved _ _ _ _ _ (fun t' => hrow v h t' e) p1.ge l1, mul_comm, moved _ _ _ _ _ (fun t' => hrow v h t' e) p4.ge l4, mul_comm, moved _ _ _ _ _ (fun t' => hrow v h t' e) p16.ge l16, tot_three]

/-- The logarithm of a row's sum. -/
theorem log_at : (val_main_v263 (F := Ideal) (arr q) (arr k) : S8x4096.Idx → EReal) (ix2 h t)
    = peak [16, 4, 1] t.val (rs q k h t.val) + Ideal.log (tot [16, 4, 1] t.val fun t' => Ideal.exp (rs q k h t.val t' - peak [16, 4, 1] t.val (rs q k h t.val))) := by
  obtain ⟨μ, hp, hμ, hd, -⟩ := sums q k k h t
  have e : (val_main_v263 (F := Ideal) (arr q) (arr k) : S8x4096.Idx → EReal) (ix2 h t)
      = (val_main_v226 (F := Ideal) (arr q) (arr k) : S8x4096.Idx → EReal) (ix2 h t) + Ideal.log ((val_main_v258 (F := Ideal) (arr q) (arr k) : S8x4096.Idx → EReal) (ix2 h t)) := by
    pointwise [val_main_v263, val_main_v262]
  rw [e, hμ, hd, hp]

/-- A row's mean of the values. -/
theorem mean_at (e : Fin 64) : (val_main_v261 (F := Ideal) (arr q) (arr k) (arr v) : S8x4096x64.Idx → EReal) (ix3 h t e)
    = Ideal.div (tot [16, 4, 1] t.val (fun t' => Ideal.exp (rs q k h t.val t' - peak [16, 4, 1] t.val (rs q k h t.val)) * hrow v h t' e))
      (tot [16, 4, 1] t.val fun t' => Ideal.exp (rs q k h t.val t' - peak [16, 4, 1] t.val (rs q k h t.val))) := by
  obtain ⟨μ, hp, -, hd, hn⟩ := sums q k v h t
  have e' : (val_main_v261 (F := Ideal) (arr q) (arr k) (arr v) : S8x4096x64.Idx → EReal) (ix3 h t e)
      = Ideal.div ((val_main_v245 (F := Ideal) (arr q) (arr k) (arr v) : S8x4096x64.Idx → EReal) (ix3 h t e)) ((val_main_v258 (F := Ideal) (arr q) (arr k) : S8x4096.Idx → EReal) (ix2 h t)) := by
    pointwise [val_main_v261, val_main_v260, val_main_v259]
  rw [e', hn, hd, hp]

/-- The first result: the mean of the values, 64 lanes to a head. -/
theorem ref_out : (val_main_v265 (F := Ideal) (arr q) (arr k) (arr v) : S4096x512.Idx → EReal)
    = arr fun r x => out (cols q (x.val / 128)) (cols k (x.val / 128)) (cols v (x.val / 128)) r.val (lane x) := by
  refine ext_ix fun r x => ?_
  have e' : (val_main_v265 (F := Ideal) (arr q) (arr k) (arr v) : S4096x512.Idx → EReal) (ix2 r x)
      = (val_main_v261 (F := Ideal) (arr q) (arr k) (arr v) : S8x4096x64.Idx → EReal) (ix3 ⟨x.val / 64, by omega⟩ r ⟨x.val % 64, Nat.mod_lt _ (by norm_num)⟩) := by
    pointwise [val_main_v265, val_main_v264]
  have hh : (⟨x.val / 64 % 2, Nat.mod_lt _ (by norm_num)⟩ : Fin 2) = hd (lane x) := by
    unfold hd lane
    refine Fin.ext ?_
    dsimp only
    split <;> simp only [Fin.val_zero, Fin.val_one] <;> omega
  have hv : ∀ t' : ℕ, hrow v ⟨x.val / 64, by omega⟩ t' ⟨x.val % 64, Nat.mod_lt _ (by norm_num)⟩ = cols v (x.val / 128) t' (lane x) := fun t' => by
    rw [← cols_hrow v ⟨x.val / 64, by omega⟩ t' ⟨x.val % 64, Nat.mod_lt _ (by norm_num)⟩ (lane x) (by unfold lane; dsimp only; omega)]
    simp only [Nat.div_div_eq_div_mul]
  have hs : ∀ t' : ℕ, rs q k ⟨x.val / 64, by omega⟩ r.val t' = sc (cols q (x.val / 128)) (cols k (x.val / 128)) (hd (lane x)) r.val t' := fun t' => by
    rw [rs_eq, ← hh]; simp only [Nat.div_div_eq_div_mul]
  rw [e', mean_at, show rs q k ⟨x.val / 64, by omega⟩ r.val = _ from funext hs]
  simp only [hv]
  rfl

/-- The second and third results: the logarithm of each row's sum, 128 lanes to a pair of heads. -/
theorem ref_lse0 : (val_main_v269 (F := Ideal) (arr q) (arr k) : S4096x512.Idx → EReal)
    = arr fun r x => lse (cols q (x.val / 128)) (cols k (x.val / 128)) 0 r.val := by
  refine ext_ix fun r x => ?_
  have e' : (val_main_v269 (F := Ideal) (arr q) (arr k) : S4096x512.Idx → EReal) (ix2 r x)
      = (val_main_v263 (F := Ideal) (arr q) (arr k) : S8x4096.Idx → EReal) (ix2 ⟨2 * (x.val / 128), by omega⟩ r) := by
    pointwise [val_main_v269, val_main_v268, val_main_v267, val_main_v266]
  have hs : ∀ t' : ℕ, rs q k ⟨2 * (x.val / 128), by omega⟩ r.val t' = sc (cols q (x.val / 128)) (cols k (x.val / 128)) 0 r.val t' := fun t' => by
    rw [rs_eq]
    have e1 : 2 * (x.val / 128) / 2 = x.val / 128 := by omega
    have e2 : (⟨2 * (x.val / 128) % 2, Nat.mod_lt _ (by norm_num)⟩ : Fin 2) = 0 := Fin.ext (by show 2 * (x.val / 128) % 2 = 0; omega)
    dsimp only
    rw [e1, e2]
  rw [e', log_at, show rs q k ⟨2 * (x.val / 128), by omega⟩ r.val = _ from funext hs]
  rfl

theorem ref_lse1 : (val_main_v273 (F := Ideal) (arr q) (arr k) : S4096x512.Idx → EReal)
    = arr fun r x => lse (cols q (x.val / 128)) (cols k (x.val / 128)) 1 r.val := by
  refine ext_ix fun r x => ?_
  have e' : (val_main_v273 (F := Ideal) (arr q) (arr k) : S4096x512.Idx → EReal) (ix2 r x)
      = (val_main_v263 (F := Ideal) (arr q) (arr k) : S8x4096.Idx → EReal) (ix2 ⟨1 + 2 * (x.val / 128), by omega⟩ r) := by
    pointwise [val_main_v273, val_main_v272, val_main_v271, val_main_v270]
  have hs : ∀ t' : ℕ, rs q k ⟨1 + 2 * (x.val / 128), by omega⟩ r.val t' = sc (cols q (x.val / 128)) (cols k (x.val / 128)) 1 r.val t' := fun t' => by
    rw [rs_eq]
    have e1 : (1 + 2 * (x.val / 128)) / 2 = x.val / 128 := by omega
    have e2 : (⟨(1 + 2 * (x.val / 128)) % 2, Nat.mod_lt _ (by norm_num)⟩ : Fin 2) = 1 := Fin.ext (by show (1 + 2 * (x.val / 128)) % 2 = 1; omega)
    dsimp only
    rw [e1, e2]
  rw [e', log_at, show rs q k ⟨1 + 2 * (x.val / 128), by omega⟩ r.val = _ from funext hs]
  rfl

end Step.Att
-- ==== Proof.AttnClaim.lean ====
/- The claims about the attention's forward pass. -/
module

public import proofs.«01_k».proof.Proof.AttnRefOut
public import proofs.«01_k».proof.Proof.Gen.AttnRefIdeal.Run
public import proofs.«01_k».proof.Defs

@[expose] public section

noncomputable section

namespace Step.Att

open Idealize.ShloMosaic Idealize.ShloMosaic.TcCoe Idealize.SL.Sem Step

/-- Any array by its rows and columns. -/
theorem eq_arr (x : Cert.AttnIdeal.S4096x512.Idx → EReal) : x = arr fun r c => x (ix2 r c) := funext fun j => by rw [eq_ix2 j]; rfl

theorem holds (m : (ℓ : Loc Cert.AttnIdeal.nD Cert.AttnIdeal.τ Cert.AttnIdeal.sig) → Buf (Elt Ideal) ℓ) (c : Dev Cert.AttnIdeal.nD) :
    ∃ q k v, Holds q k v m c := ⟨_, _, _, eq_arr _, eq_arr _, eq_arr _⟩

theorem frame_ref : Cert.quiescent_AttnRefIdeal (hAttnRefIdeal := Cert.AttnRefIdeal.Gen.facts) := fun m ρ _ =>
  (θ_run (Cert.AttnRefIdeal.defs (F := Ideal)) _ _).mono
    (fun r h => ⟨fun c => (h c).2.2.2, sem_eq_zero_of_no_sems (by decide) r.2⟩) (Cert.AttnRefIdeal.Value.run m ρ)

/-- The mask's constant is named in the idealized kernel. -/
theorem preserves : Cert.preserves_Attn_AttnIdeal := IdealRules.named_const.statement Cert.AttnIdeal.κ "mask" .f32 0xF149F2CA#32 ⊥ rfl

theorem algebraic : Cert.algebraic_AttnIdeal_AttnRefIdeal (hAttnIdeal := Cert.AttnIdeal.Gen.facts)
    (hAttnRefIdeal := Cert.AttnRefIdeal.Gen.facts) := by
  intro m ρ m' ρ' _ hag
  choose q k v H using holds m
  refine ⟨fun c => arr fun r x => out (cols (q c) (x.val / 128)) (cols (k c) (x.val / 128)) (cols (v c) (x.val / 128)) r.val (lane x),
    fun c => arr fun r x => lse (cols (q c) (x.val / 128)) (cols (k c) (x.val / 128)) 0 r.val,
    fun c => arr fun r x => lse (cols (q c) (x.val / 128)) (cols (k c) (x.val / 128)) 1 r.val,
    (θ_run _ _ _).mono (fun r h c => ?_) (Cert.AttnIdeal.Hand.run_main m ρ), (θ_run _ _ _).mono (fun r h c => ?_) (Cert.AttnRefIdeal.Value.run m' ρ')⟩
  · obtain ⟨after, hl, ha⟩ := Pipeline.RDat.FramePost.exists_exact h.1 c
    refine ⟨(ha 3).trans (final3 after (H c) (hl 3)), (ha 4).trans (final4 after (H c) (hl 4)), (ha 5).trans (final5 after (H c) (hl 5)),
      ((h.1 c).2 Cert.AttnIdeal.main_arg0 (Pipeline.mem_restRefs_of Cert.AttnIdeal.main_arg0 (by decide) (by decide))).trans (Cert.AttnIdeal.Gen.V_main_arg0 m c),
      ((h.1 c).2 Cert.AttnIdeal.main_arg1 (Pipeline.mem_restRefs_of Cert.AttnIdeal.main_arg1 (by decide) (by decide))).trans (Cert.AttnIdeal.Gen.V_main_arg1 m c),
      ((h.1 c).2 Cert.AttnIdeal.main_arg2 (Pipeline.mem_restRefs_of Cert.AttnIdeal.main_arg2 (by decide) (by decide))).trans (Cert.AttnIdeal.Gen.V_main_arg2 m c)⟩
  · obtain ⟨a0, a1, a2⟩ := hag c
    obtain ⟨r0, r1, r2, kept⟩ := h c
    have b0 := a0.trans (H c).q
    have b1 := a1.trans (H c).k
    have b2 := a2.trans (H c).v
    refine ⟨(r0.trans (Cert.AttnRefIdeal.Read.val_main_v265_eq _)).trans (Eq.trans ?_ (ref_out (q c) (k c) (v c))),
      (r1.trans (Cert.AttnRefIdeal.Read.val_main_v269_eq _)).trans (Eq.trans ?_ (ref_lse0 (q c) (k c))),
      (r2.trans (Cert.AttnRefIdeal.Read.val_main_v273_eq _)).trans (Eq.trans ?_ (ref_lse1 (q c) (k c))), kept⟩
    · exact congr (congr (congrArg _ b0) b1) b2
    · exact congr (congrArg _ b0) b1
    · exact congr (congrArg _ b0) b1

end Step.Att

end
-- ==== Proof.lean ====
module

public import proofs.«01_k».proof.Defs
public import proofs.«01_k».proof.Proof.Gen.Ple
public import proofs.«01_k».proof.Proof.Gen.Ple.Frame
public import proofs.«01_k».proof.Proof.Gen.PleIdeal
public import proofs.«01_k».proof.Proof.Gen.PleIdeal.Frame
public import proofs.«01_k».proof.Proof.Gen.PleRefIdeal
public import proofs.«01_k».proof.Proof.PleClaim
public import proofs.«01_k».proof.Proof.Gen.Mlp
public import proofs.«01_k».proof.Proof.Gen.Mlp.Frame
public import proofs.«01_k».proof.Proof.Gen.MlpIdeal
public import proofs.«01_k».proof.Proof.Gen.MlpIdeal.Frame
public import proofs.«01_k».proof.Proof.Gen.MlpRefIdeal
public import proofs.«01_k».proof.Proof.MlpClaim
public import proofs.«01_k».proof.Proof.Gen.Wdown
public import proofs.«01_k».proof.Proof.Gen.Wdown.Frame
public import proofs.«01_k».proof.Proof.Gen.WdownIdeal
public import proofs.«01_k».proof.Proof.Gen.WdownIdeal.Frame
public import proofs.«01_k».proof.Proof.Gen.WdownRefIdeal
public import proofs.«01_k».proof.Proof.WdownClaim
public import proofs.«01_k».proof.Proof.Gen.Win
public import proofs.«01_k».proof.Proof.Gen.Win.Frame
public import proofs.«01_k».proof.Proof.Gen.WinIdeal
public import proofs.«01_k».proof.Proof.Gen.WinIdeal.Frame
public import proofs.«01_k».proof.Proof.Gen.WinRefIdeal
public import proofs.«01_k».proof.Proof.WinClaim
public import proofs.«01_k».proof.Proof.Gen.Inp
public import proofs.«01_k».proof.Proof.Gen.Inp.Frame
public import proofs.«01_k».proof.Proof.Gen.Inp.Value
public import proofs.«01_k».proof.Proof.Gen.InpIdeal
public import proofs.«01_k».proof.Proof.Gen.InpIdeal.Frame
public import proofs.«01_k».proof.Proof.Gen.InpIdeal.Value
public import proofs.«01_k».proof.Proof.Gen.InpRefIdeal
public import proofs.«01_k».proof.Proof.Gen.InpRefIdeal.Run
public import proofs.«01_k».proof.Proof.Gen.InpRefIdeal.Read
public import proofs.«01_k».proof.Proof.InpClaim
public import proofs.«01_k».proof.Proof.Gen.Win.Value
public import proofs.«01_k».proof.Proof.Gen.WinIdeal.Value
public import proofs.«01_k».proof.Proof.Gen.WinRefIdeal.Run
public import proofs.«01_k».proof.Proof.Gen.WinRefIdeal.Read
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Frame
public import proofs.«01_k».proof.Proof.Gen.Attn.Points
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Frame
public import proofs.«01_k».proof.Proof.Gen.AttnIdeal.Points
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Outp
public import proofs.«01_k».proof.Proof.Gen.Outp.Frame
public import proofs.«01_k».proof.Proof.Gen.OutpIdeal
public import proofs.«01_k».proof.Proof.Gen.OutpIdeal.Frame
public import proofs.«01_k».proof.Proof.Gen.OutpRefIdeal
public import proofs.«01_k».proof.Proof.OutpClaim
public import proofs.«01_k».proof.Proof.Gen.Mlpf
public import proofs.«01_k».proof.Proof.Gen.Mlpf.Frame
public import proofs.«01_k».proof.Proof.Gen.MlpfIdeal
public import proofs.«01_k».proof.Proof.Gen.MlpfIdeal.Frame
public import proofs.«01_k».proof.Proof.Gen.MlpfRefIdeal
public import proofs.«01_k».proof.Proof.MlpfClaim
public import proofs.«01_k».proof.Proof.AttnRunP
public import proofs.«01_k».proof.Proof.AttnClaim
public import proofs.«01_k».proof.Proof.Gen.Pre_finite
public import proofs.«01_k».proof.Proof.Gen.Pre_finite_mlp
public import proofs.«01_k».proof.Proof.Gen.Pre_finite_inp

@[expose] public section

noncomputable section

namespace Cert.Proof

open Idealize.ShloMosaic Idealize.SL.Sem

theorem claim : Cert.Claim := ⟨Cert.Ple.Gen.facts, Cert.PleIdeal.Gen.facts, Cert.PleRefIdeal.Gen.facts,
  Cert.Mlp.Gen.facts, Cert.MlpIdeal.Gen.facts, Cert.MlpRefIdeal.Gen.facts,
  Cert.Wdown.Gen.facts, Cert.WdownIdeal.Gen.facts, Cert.WdownRefIdeal.Gen.facts, Cert.Win.Gen.facts, Cert.WinIdeal.Gen.facts, Cert.WinRefIdeal.Gen.facts,
  Cert.Inp.Gen.facts, Cert.InpIdeal.Gen.facts, Cert.InpRefIdeal.Gen.facts,
  Cert.Attn.Gen.facts, Cert.AttnIdeal.Gen.facts, Cert.AttnRefIdeal.Gen.facts,
  Cert.Outp.Gen.facts, Cert.OutpIdeal.Gen.facts, Cert.OutpRefIdeal.Gen.facts, Cert.Mlpf.Gen.facts, Cert.MlpfIdeal.Gen.facts, Cert.MlpfRefIdeal.Gen.facts,
  Cert.Pre_finite.Gen.facts, Cert.Pre_finite_mlp.Gen.facts, Cert.Pre_finite_inp.Gen.facts,
  fun m ρ _ => Cert.Ple.Gen.frame m ρ, fun m ρ _ => Cert.PleIdeal.Gen.frame m ρ, fun m ρ _ => Cert.PleIdeal.Gen.frame m ρ,
  Step.PleRow.frame_ref, fun m ρ _ => Step.PleRow.frame_ref m ρ trivial,
  fun m ρ _ => Cert.Mlp.Gen.frame m ρ, fun m ρ _ => Cert.MlpIdeal.Gen.frame m ρ, fun m ρ _ => Cert.MlpIdeal.Gen.frame m ρ,
  Step.MlpRow.frame_ref, fun m ρ _ => Step.MlpRow.frame_ref m ρ trivial,
  fun m ρ _ => Cert.Wdown.Gen.frame m ρ, fun m ρ _ => Cert.WdownIdeal.Gen.frame m ρ, Step.Wdown.frame_ref,
  fun m ρ _ => Cert.Win.Gen.frame m ρ, fun m ρ _ => Cert.WinIdeal.Gen.frame m ρ, Step.Win.frame_ref,
  fun m ρ _ => Cert.Inp.Gen.frame m ρ, fun m ρ _ => Cert.InpIdeal.Gen.frame m ρ, fun m ρ _ => Cert.InpIdeal.Gen.frame m ρ,
  Step.Inp.frame_ref, fun m ρ _ => Step.Inp.frame_ref m ρ trivial,
  fun m ρ _ => Cert.Attn.Hand.frame m ρ, fun m ρ _ => Cert.AttnIdeal.Hand.frame m ρ, Step.Att.frame_ref,
  fun m ρ _ => Cert.Outp.Gen.frame m ρ, fun m ρ _ => Cert.OutpIdeal.Gen.frame m ρ, Step.Outp.frame_ref,
  fun m ρ _ => Cert.Mlpf.Gen.frame m ρ, fun m ρ _ => Cert.MlpfIdeal.Gen.frame m ρ, Step.Mlpf.frame_ref,
  trivial, Step.PleRow.algebraic, trivial, Step.MlpRow.algebraic, trivial, Step.Wdown.algebraic, trivial, Step.Win.algebraic, trivial, Step.Inp.algebraic,
  Step.Att.preserves, Step.Att.algebraic, trivial, Step.Outp.algebraic, trivial, Step.Mlpf.algebraic⟩

end Cert.Proof

end
